-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_packed [hPre_packed : Cert.Pre_packed.Facts] (m : (ℓ : Loc Cert.KernelIdeal.nD Cert.KernelIdeal.τ Cert.KernelIdeal.sig) → Buf (Elt Ideal) ℓ) : Prop :=
  ∀ c : Dev Cert.KernelIdeal.nD,
    (Cert.Pre_packed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_packed [hPre_packed : Cert.Pre_packed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_packed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_packed [hKernelIdeal : Cert.KernelIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_packed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_packed [hReferenceIdeal : Cert.ReferenceIdeal.Facts] [hPre_packed : Cert.Pre_packed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_packed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.BufferStatement Cert.KernelIdeal.S1568x2x128 Cert.KernelIdeal.S1568x1x128
  ∧ IdealRules.named_const.Statement Cert.KernelIdeal.κ "log2_e" .f32 0x3FB8AA3B#32 (((Real.log 2)⁻¹ : ℝ) : EReal)
  ∧ IdealRules.named_const.Statement Cert.KernelIdeal.κ "neg_inf" .f32 0xFF61B1E6#32 ⊥
  ∧ IdealRules.bf16_pair.PackStatement Cert.KernelIdeal.S8x128
  ∧ IdealRules.bf16_pair.Statement Cert.KernelIdeal.S8x2x128 Cert.KernelIdeal.S8x1x128
  ∧ IdealRules.bf16_pair.Statement Cert.KernelIdeal.S64x2x128 Cert.KernelIdeal.S64x1x128
  ∧ IdealRules.bf16_pair.Statement Cert.KernelIdeal.S128x128 Cert.KernelIdeal.S64x128
  ∧ IdealRules.named_const.Statement Cert.KernelIdeal.κ "neg_ln_2" .f32 0xBF317218#32 ((-(Real.log 2) : ℝ) : EReal)

def algebraic_KernelIdeal_ReferenceIdeal_pre_packed [hKernelIdeal : Cert.KernelIdeal.Facts] [hReferenceIdeal : Cert.ReferenceIdeal.Facts] [hPre_packed : Cert.Pre_packed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_packed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_packed : Cert.Pre_packed.Facts),
    quiescent_Kernel (hKernel := hKernel)
    ∧ quiescent_KernelIdeal (hKernelIdeal := hKernelIdeal)
    ∧ quiescent_KernelIdeal_pre_packed (hKernelIdeal := hKernelIdeal) (hPre_packed := hPre_packed)
    ∧ quiescent_ReferenceIdeal (hReferenceIdeal := hReferenceIdeal)
    ∧ quiescent_ReferenceIdeal_pre_packed (hReferenceIdeal := hReferenceIdeal) (hPre_packed := hPre_packed)
    ∧ preserves_Kernel_KernelIdeal
    ∧ algebraic_KernelIdeal_ReferenceIdeal_pre_packed (hKernelIdeal := hKernelIdeal) (hReferenceIdeal := hReferenceIdeal) (hPre_packed := hPre_packed)
-- ==== Pre_packed.lean ====
abbrev S3x640x24x128 : Shape := ⟨4, ![3, 640, 24, 128]⟩
abbrev S3x24 : Shape := ⟨2, ![3, 24]⟩
abbrev S3x640x8x128 : Shape := ⟨4, ![3, 640, 8, 128]⟩
abbrev S3x8 : Shape := ⟨2, ![3, 8]⟩
abbrev S3x640 : Shape := ⟨2, ![3, 640]⟩
abbrev S3x639 : Shape := ⟨2, ![3, 639]⟩

class Facts : Prop where
  slices_S3x640_S3x639_0_0 : S3x640.Slices ![0, 0] S3x639
  slices_S3x640_S3x639_0_1 : S3x640.Slices ![0, 1] S3x639

variable [Facts]

def fn {F : FTy → Type} [FloatOps F] (main_arg0 : FVec F S3x640x24x128 .fp8e4m3) (main_arg1 : FVec F S3x24 .f32) (main_arg2 : FVec F S3x640x8x128 .fp8e4m3) (main_arg3 : FVec F S3x8 .f32) (main_arg4 : FVec F S3x640x8x128 .fp8e4m3) (main_arg5 : FVec F S3x8 .f32) (main_arg6 : IVec S3x640 32) : IVec S3x639 1 :=
  let main_v0 : IVec S3x639 32 := (extractStridedSlice S3x639 ![0, 0] · slices_S3x640_S3x639_0_0) main_arg6
  let main_v1 : IVec S3x639 32 := (extractStridedSlice S3x639 ![0, 1] · slices_S3x640_S3x639_0_1) main_arg6
  let main_v2 : IVec S3x639 1 := cmpi .sle main_v0 main_v1
  main_v2
-- ==== Kernel.lean ====
abbrev S3x640x24x128 : Shape := ⟨4, ![3, 640, 24, 128]⟩
abbrev S3x24 : Shape := ⟨2, ![3, 24]⟩
abbrev S3x640x8x128 : Shape := ⟨4, ![3, 640, 8, 128]⟩
abbrev S3x8 : Shape := ⟨2, ![3, 8]⟩
abbrev S3x640 : Shape := ⟨2, ![3, 640]⟩
abbrev S3x640x3072 : Shape := ⟨3, ![3, 640, 3072]⟩
abbrev S3x24x640 : Shape := ⟨3, ![3, 24, 640]⟩
abbrev S5x8x128x384 : Shape := ⟨4, ![5, 8, 128, 384]⟩
abbrev S5x8x128x128 : Shape := ⟨4, ![5, 8, 128, 128]⟩
abbrev S128x128 : Shape := ⟨2, ![128, 128]⟩
abbrev S5x128x128 : Shape := ⟨3, ![5, 128, 128]⟩
abbrev S3x8x128 : Shape := ⟨3, ![3, 8, 128]⟩
abbrev S3104x128 : Shape := ⟨2, ![3104, 128]⟩
abbrev S3x128x8x128 : Shape := ⟨4, ![3, 128, 8, 128]⟩
abbrev S1568x128 : Shape := ⟨2, ![1568, 128]⟩
abbrev S8x128x384 : Shape := ⟨3, ![8, 128, 384]⟩
abbrev S8x128 : Shape := ⟨2, ![8, 128]⟩
abbrev S24x128 : Shape := ⟨2, ![24, 128]⟩
abbrev S15x128 : Shape := ⟨2, ![15, 128]⟩
abbrev S1x128 : Shape := ⟨2, ![1, 128]⟩
abbrev S1x1 : Shape := ⟨2, ![1, 1]⟩
abbrev S1x8x128 : Shape := ⟨3, ![1, 8, 128]⟩
abbrev S1x128x1x128 : Shape := ⟨4, ![1, 128, 1, 128]⟩
abbrev S1x1x128x128 : Shape := ⟨4, ![1, 1, 128, 128]⟩
abbrev S1x32x1x128 : Shape := ⟨4, ![1, 32, 1, 128]⟩
abbrev S32x128 : Shape := ⟨2, ![32, 128]⟩
abbrev S4x8x128 : Shape := ⟨3, ![4, 8, 128]⟩
abbrev S8x4x128 : Shape := ⟨3, ![8, 4, 128]⟩
abbrev S1x1x32x128 : Shape := ⟨4, ![1, 1, 32, 128]⟩
abbrev S1x128x128 : Shape := ⟨3, ![1, 128, 128]⟩
abbrev S1x1x128x384 : Shape := ⟨4, ![1, 1, 128, 384]⟩
abbrev S128x384 : Shape := ⟨2, ![128, 384]⟩
abbrev S1x1x8x128 : Shape := ⟨4, ![1, 1, 8, 128]⟩
abbrev S64x128 : Shape := ⟨2, ![64, 128]⟩
abbrev S1x128x384 : Shape := ⟨3, ![1, 128, 384]⟩
abbrev S1x24x128 : Shape := ⟨3, ![1, 24, 128]⟩
abbrev S1 : Shape := ⟨1, ![1]⟩
abbrev S1x1x1 : Shape := ⟨3, ![1, 1, 1]⟩

abbrev nBuf : Space → Nat
  | .hbm => 9
  | .vmem => 22
  | .smem => 4
  | _ => 0

abbrev bufTy : (tb : Table) → Fin (tcTables nBuf tb) → BufTy
  | .hbm, ⟨0, _⟩ => ⟨S3x640x24x128, .fp8e4m3⟩
  | .hbm, ⟨1, _⟩ => ⟨S3x24, .f32⟩
  | .hbm, ⟨2, _⟩ => ⟨S3x640x8x128, .fp8e4m3⟩
  | .hbm, ⟨3, _⟩ => ⟨S3x8, .f32⟩
  | .hbm, ⟨4, _⟩ => ⟨S3x640x8x128, .fp8e4m3⟩
  | .hbm, ⟨5, _⟩ => ⟨S3x8, .f32⟩
  | .hbm, ⟨6, _⟩ => ⟨S3x640, .i32⟩
  | .hbm, ⟨7, _⟩ => ⟨S3x640x3072, .bf16⟩
  | .hbm, ⟨8, _⟩ => ⟨S3x24x640, .f32⟩
  | .local _ .vmem, ⟨0, _⟩ => ⟨S3x640x24x128, .fp8e4m3⟩
  | .local _ .vmem, ⟨1, _⟩ => ⟨S3x640x8x128, .fp8e4m3⟩
  | .local _ .vmem, ⟨2, _⟩ => ⟨S3x640x8x128, .fp8e4m3⟩
  | .local _ .vmem, ⟨3, _⟩ => ⟨S3x640, .i32⟩
  | .local _ .vmem, ⟨4, _⟩ => ⟨S3x640x3072, .bf16⟩
  | .local _ .vmem, ⟨5, _⟩ => ⟨S3x24x640, .f32⟩
  | .local _ .vmem, ⟨6, _⟩ => ⟨S5x8x128x384, .fp8e4m3⟩
  | .local _ .vmem, ⟨7, _⟩ => ⟨S5x8x128x128, .fp8e4m3⟩
  | .local _ .vmem, ⟨8, _⟩ => ⟨S5x8x128x128, .bf16⟩
  | .local _ .vmem, ⟨9, _⟩ => ⟨S128x128, .i32⟩
  | .local _ .vmem, ⟨10, _⟩ => ⟨S5x128x128, .i32⟩
  | .local _ .vmem, ⟨11, _⟩ => ⟨S3x8x128, .f32⟩
  | .local _ .vmem, ⟨12, _⟩ => ⟨S128x128, .f32⟩
  | .local _ .vmem, ⟨13, _⟩ => ⟨S3104x128, .f32⟩
  | .local _ .vmem, ⟨14, _⟩ => ⟨S3x128x8x128, .f32⟩
  | .local _ .vmem, ⟨15, _⟩ => ⟨S1568x128, .i32⟩
  | .local _ .vmem, ⟨16, _⟩ => ⟨S8x128x384, .f32⟩
  | .local _ .vmem, ⟨17, _⟩ => ⟨S3x8x128, .f32⟩
  | .local _ .vmem, ⟨18, _⟩ => ⟨S3x8x128, .f32⟩
  | .local _ .vmem, ⟨19, _⟩ => ⟨S8x128, .f32⟩
  | .local _ .vmem, ⟨20, _⟩ => ⟨S24x128, .f32⟩
  | .local _ .vmem, ⟨21, _⟩ => ⟨S15x128, .i32⟩
  | .local _ .smem, ⟨0, _⟩ => ⟨S3x640, .i32⟩
  | .local _ .smem, ⟨1, _⟩ => ⟨S3x24, .f32⟩
  | .local _ .smem, ⟨2, _⟩ => ⟨S3x8, .f32⟩
  | .local _ .smem, ⟨3, _⟩ => ⟨S3x8, .f32⟩
  | _, _ => ⟨S3x640x24x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_scratch13 : Ref sig .tc := ⟨.vmem, 19, rfl⟩
abbrev cc0_scratch14 : Ref sig .tc := ⟨.vmem, 20, rfl⟩
abbrev cc0_scratch15 : Ref sig .tc := ⟨.vmem, 21, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c3_i32 : BitVec 32 := 3#32
  let v5 : BitVec 32 := Scalar.addi c0_i32 c3_i32
  let c1_i32 : BitVec 32 := 1#32
  ⟨c0_i32, v5, c1_i32⟩
@[reducible] def k0_t2_loop : Scf.Loop 32 :=
  let c0_i32_11 : BitVec 32 := 0#32
  let c5_i32 : BitVec 32 := 5#32
  let v15 : BitVec 32 := Scalar.addi c0_i32_11 c5_i32
  let c1_i32_12 : BitVec 32 := 1#32
  ⟨c0_i32_11, v15, c1_i32_12⟩
def k0_mult1 (k0_t2 : Fin k0_t2_loop.trips) : BitVec 32 :=
  let c0_i32_11 : BitVec 32 := 0#32
  let c1_i32_12 : BitVec 32 := 1#32
  let arg27 : BitVec 32 := Scf.iv c0_i32_11 c1_i32_12 k0_t2
  let c128_i32 : BitVec 32 := 128#32
  let v16 : BitVec 32 := Scalar.muli arg27 c128_i32
  v16
def k0_off1 (k0_t1 : Fin k0_t1_loop.trips) (k0_t2 : Fin k0_t2_loop.trips) : Fin 2 → Nat :=
  let c0_i32 : BitVec 32 := 0#32
  let c1_i32 : BitVec 32 := 1#32
  let arg26 : BitVec 32 := Scf.iv c0_i32 c1_i32 k0_t1
  let v18 : Index := Scalar.indexCast arg26
  let c0_i32_11 : BitVec 32 := 0#32
  let c1_i32_12 : BitVec 32 := 1#32
  let arg27 : BitVec 32 := Scf.iv c0_i32_11 c1_i32_12 k0_t2
  let c128_i32 : BitVec 32 := 128#32
  let v16 : BitVec 32 := Scalar.muli arg27 c128_i32
  let v17 : BitVec 32 := v16
  let v19 : Index := Scalar.indexCast v17
  ![v18.toNat, v19.toNat]
def k0_off2 (k0_t1 : Fin k0_t1_loop.trips) (k0_t2 : Fin k0_t2_loop.trips) : Fin 2 → Nat :=
  let c0_i32 : BitVec 32 := 0#32
  let c1_i32 : BitVec 32 := 1#32
  let arg26 : BitVec 32 := Scf.iv c0_i32 c1_i32 k0_t1
  let c5_i32_14 : BitVec 32 := 5#32
  let v21 : BitVec 32 := Scalar.muli arg26 c5_i32_14
  let c0_i32_11 : BitVec 32 := 0#32
  let c1_i32_12 : BitVec 32 := 1#32
  let arg27 : BitVec 32 := Scf.iv c0_i32_11 c1_i32_12 k0_t2
  let v22 : BitVec 32 := Scalar.addi v21 arg27
  let v23 : Index := Scalar.indexCast v22
  let c0_15 : Index := 0#32
  ![v23.toNat, 0]
@[reducible] def k0_t3_loop : Scf.Loop 32 :=
  let c0_i32_2 : BitVec 32 := 0#32
  let c3_i32_3 : BitVec 32 := 3#32
  let v6 : BitVec 32 := Scalar.addi c0_i32_2 c3_i32_3
  let c1_i32_4 : BitVec 32 := 1#32
  ⟨c0_i32_2, v6, c1_i32_4⟩
@[reducible] def k0_t4_loop : Scf.Loop 32 :=
  let c0_i32_11 : BitVec 32 := 0#32
  let c3_i32_12 : BitVec 32 := 3#32
  let v15 : BitVec 32 := Scalar.addi c0_i32_11 c3_i32_12
  let c1_i32_13 : BitVec 32 := 1#32
  ⟨c0_i32_11, v15, c1_i32_13⟩
@[reducible] def k0_t5_loop : Scf.Loop 32 :=
  let c0_i32_23 : BitVec 32 := 0#32
  let c8_i32 : BitVec 32 := 8#32
  let v19 : BitVec 32 := Scalar.addi c0_i32_23 c8_i32
  let c1_i32_24 : BitVec 32 := 1#32
  ⟨c0_i32_23, v19, c1_i32_24⟩
def k0_off3 (k0_t3 : Fin k0_t3_loop.trips) (k0_t4 : Fin k0_t4_loop.trips) (k0_t5 : Fin k0_t5_loop.trips) : Fin 2 → Nat :=
  let c0_i32_2 : BitVec 32 := 0#32
  let c1_i32_4 : BitVec 32 := 1#32
  let arg26 : BitVec 32 := Scf.iv c0_i32_2 c1_i32_4 k0_t3
  let v27 : Index := Scalar.indexCast arg26
  let c0_i32_23 : BitVec 32 := 0#32
  let c1_i32_24 : BitVec 32 := 1#32
  let arg28 : BitVec 32 := Scf.iv c0_i32_23 c1_i32_24 k0_t5
  let c3_i32_28 : BitVec 32 := 3#32
  let v25 : BitVec 32 := Scalar.muli arg28 c3_i32_28
  let c0_i32_11 : BitVec 32 := 0#32
  let c1_i32_13 : BitVec 32 := 1#32
  let arg27 : BitVec 32 := Scf.iv c0_i32_11 c1_i32_13 k0_t4
  let v26 : BitVec 32 := Scalar.addi v25 arg27
  let v28 : Index := Scalar.indexCast v26
  ![v27.toNat, v28.toNat]
def k0_off4 (k0_t3 : Fin k0_t3_loop.trips) (k0_t5 : Fin k0_t5_loop.trips) : Fin 2 → Nat :=
  let c0_i32_2 : BitVec 32 := 0#32
  let c1_i32_4 : BitVec 32 := 1#32
  let arg26 : BitVec 32 := Scf.iv c0_i32_2 c1_i32_4 k0_t3
  let v30 : Index := Scalar.indexCast arg26
  let c0_i32_23 : BitVec 32 := 0#32
  let c1_i32_24 : BitVec 32 := 1#32
  let arg28 : BitVec 32 := Scf.iv c0_i32_23 c1_i32_24 k0_t5
  let v31 : Index := Scalar.indexCast arg28
  ![v30.toNat, v31.toNat]
def k0_off5 (k0_t4 : Fin k0_t4_loop.trips) : Fin 3 → Nat :=
  let c0_i32_11 : BitVec 32 := 0#32
  let c1_i32_13 : BitVec 32 := 1#32
  let arg27 : BitVec 32 := Scf.iv c0_i32_11 c1_i32_13 k0_t4
  let v21 : Index := Scalar.indexCast arg27
  let c0_26 : Index := 0#32
  let c0_27 : Index := 0#32
  ![v21.toNat, 0, 0]
@[reducible] def k0_t6_loop : Scf.Loop 32 :=
  let c0_i32_15 : BitVec 32 := 0#32
  let c5_i32 : BitVec 32 := 5#32
  let v16 : BitVec 32 := Scalar.addi c0_i32_15 c5_i32
  let c1_i32_16 : BitVec 32 := 1#32
  ⟨c0_i32_15, v16, c1_i32_16⟩
def k0_mult2 (k0_t6 : Fin k0_t6_loop.trips) : BitVec 32 :=
  let c0_i32_15 : BitVec 32 := 0#32
  let c1_i32_16 : BitVec 32 := 1#32
  let arg27 : BitVec 32 := Scf.iv c0_i32_15 c1_i32_16 k0_t6
  let c128_i32 : BitVec 32 := 128#32
  let v18 : BitVec 32 := Scalar.muli arg27 c128_i32
  v18
@[reducible] def k0_t7_loop : Scf.Loop 32 :=
  let c0_i32_22 : BitVec 32 := 0#32
  let c8_i32 : BitVec 32 := 8#32
  let v20 : BitVec 32 := Scalar.addi c0_i32_22 c8_i32
  let c1_i32_23 : BitVec 32 := 1#32
  ⟨c0_i32_22, v20, c1_i32_23⟩
@[reducible] def k0_t8_loop : Scf.Loop 32 :=
  let c0_i32_37 : BitVec 32 := 0#32
  let c3_i32_38 : BitVec 32 := 3#32
  let v34 : BitVec 32 := Scalar.addi c0_i32_37 c3_i32_38
  let c1_i32_39 : BitVec 32 := 1#32
  ⟨c0_i32_37, v34, c1_i32_39⟩
def k0_mult3 (k0_t8 : Fin k0_t8_loop.trips) : BitVec 32 :=
  let c0_i32_37 : BitVec 32 := 0#32
  let c1_i32_39 : BitVec 32 := 1#32
  let arg29 : BitVec 32 := Scf.iv c0_i32_37 c1_i32_39 k0_t8
  let c128_i32_41 : BitVec 32 := 128#32
  let v35 : BitVec 32 := Scalar.muli arg29 c128_i32_41
  v35
def k0_off6 (k0_t3 : Fin k0_t3_loop.trips) (k0_t6 : Fin k0_t6_loop.trips) (k0_t7 : Fin k0_t7_loop.trips) (k0_t8 : Fin k0_t8_loop.trips) : Fin 4 → Nat :=
  let c0_i32_2 : BitVec 32 := 0#32
  let c1_i32_4 : BitVec 32 := 1#32
  let arg26 : BitVec 32 := Scf.iv c0_i32_2 c1_i32_4 k0_t3
  let v39 : Index := Scalar.indexCast arg26
  let c0_i32_15 : BitVec 32 := 0#32
  let c1_i32_16 : BitVec 32 := 1#32
  let arg27 : BitVec 32 := Scf.iv c0_i32_15 c1_i32_16 k0_t6
  let c128_i32 : BitVec 32 := 128#32
  let v18 : BitVec 32 := Scalar.muli arg27 c128_i32
  let v19 : BitVec 32 := v18
  let v40 : Index := Scalar.indexCast v19
  let c0_i32_22 : BitVec 32 := 0#32
  let c1_i32_23 : BitVec 32 := 1#32
  let arg28 : BitVec 32 := Scf.iv c0_i32_22 c1_i32_23 k0_t7
  let c3_i32_42 : BitVec 32 := 3#32
  let v37 : BitVec 32 := Scalar.muli arg28 c3_i32_42
  let c0_i32_37 : BitVec 32 := 0#32
  let c1_i32_39 : BitVec 32 := 1#32
  let arg29 : BitVec 32 := Scf.iv c0_i32_37 c1_i32_39 k0_t8
  let v38 : BitVec 32 := Scalar.addi v37 arg29
  let v41 : Index := Scalar.indexCast v38
  let c0_43 : Index := 0#32
  ![v39.toNat, v40.toNat, v41.toNat, 0]
def k0_off7 (k0_t6 : Fin k0_t6_loop.trips) (k0_t7 : Fin k0_t7_loop.trips) (k0_t8 : Fin k0_t8_loop.trips) : Fin 4 → Nat :=
  let c0_i32_15 : BitVec 32 := 0#32
  let c1_i32_16 : BitVec 32 := 1#32
  let arg27 : BitVec 32 := Scf.iv c0_i32_15 c1_i32_16 k0_t6
  let v45 : Index := Scalar.indexCast arg27
  let c0_i32_22 : BitVec 32 := 0#32
  let c1_i32_23 : BitVec 32 := 1#32
  let arg28 : BitVec 32 := Scf.iv c0_i32_22 c1_i32_23 k0_t7
  let v46 : Index := Scalar.indexCast arg28
  let c0_44 : Index := 0#32
  let c0_i32_37 : BitVec 32 := 0#32
  let c1_i32_39 : BitVec 32 := 1#32
  let arg29 : BitVec 32 := Scf.iv c0_i32_37 c1_i32_39 k0_t8
  let c128_i32_41 : BitVec 32 := 128#32
  let v35 : BitVec 32 := Scalar.muli arg29 c128_i32_41
  let v36 : BitVec 32 := v35
  let v47 : Index := Scalar.indexCast v36
  ![v45.toNat, v46.toNat, 0, v47.toNat]
@[reducible] def k0_t9_loop : Scf.Loop 32 :=
  let c0_i32_25 : BitVec 32 := 0#32
  let c8_i32_26 : BitVec 32 := 8#32
  let v21 : BitVec 32 := Scalar.addi c0_i32_25 c8_i32_26
  let c1_i32_27 : BitVec 32 := 1#32
  ⟨c0_i32_25, v21, c1_i32_27⟩
def k0_off8 (k0_t3 : Fin k0_t3_loop.trips) (k0_t6 : Fin k0_t6_loop.trips) (k0_t9 : Fin k0_t9_loop.trips) : Fin 4 → Nat :=
  let c0_i32_2 : BitVec 32 := 0#32
  let c1_i32_4 : BitVec 32 := 1#32
  let arg26 : BitVec 32 := Scf.iv c0_i32_2 c1_i32_4 k0_t3
  let v34 : Index := Scalar.indexCast arg26
  let c0_i32_15 : BitVec 32 := 0#32
  let c1_i32_16 : BitVec 32 := 1#32
  let arg27 : BitVec 32 := Scf.iv c0_i32_15 c1_i32_16 k0_t6
  let c128_i32 : BitVec 32 := 128#32
  let v18 : BitVec 32 := Scalar.muli arg27 c128_i32
  let v19 : BitVec 32 := v18
  let v35 : Index := Scalar.indexCast v19
  let c0_i32_25 : BitVec 32 := 0#32
  let c1_i32_27 : BitVec 32 := 1#32
  let arg28 : BitVec 32 := Scf.iv c0_i32_25 c1_i32_27 k0_t9
  let v36 : Index := Scalar.indexCast arg28
  let c0_37 : Index := 0#32
  ![v34.toNat, v35.toNat, v36.toNat, 0]
def k0_off9 (k0_t6 : Fin k0_t6_loop.trips) (k0_t9 : Fin k0_t9_loop.trips) : Fin 4 → Nat :=
  let c0_i32_15 : BitVec 32 := 0#32
  let c1_i32_16 : BitVec 32 := 1#32
  let arg27 : BitVec 32 := Scf.iv c0_i32_15 c1_i32_16 k0_t6
  let v41 : Index := Scalar.indexCast arg27
  let c0_i32_25 : BitVec 32 := 0#32
  let c1_i32_27 : BitVec 32 := 1#32
  let arg28 : BitVec 32 := Scf.iv c0_i32_25 c1_i32_27 k0_t9
  let v42 : Index := Scalar.indexCast arg28
  let c0_38 : Index := 0#32
  let c0_39 : Index := 0#32
  ![v41.toNat, v42.toNat, 0, 0]
@[reducible] def k0_t10_loop : Scf.Loop 32 :=
  let c0_i32_29 : BitVec 32 := 0#32
  let c8_i32_30 : BitVec 32 := 8#32
  let v22 : BitVec 32 := Scalar.addi c0_i32_29 c8_i32_30
  let c1_i32_31 : BitVec 32 := 1#32
  ⟨c0_i32_29, v22, c1_i32_31⟩
@[reducible] def k0_t11_loop : Scf.Loop 32 :=
  let c0_i32_37 : BitVec 32 := 0#32
  let c4_i32 : BitVec 32 := 4#32
  let v34 : BitVec 32 := Scalar.addi c0_i32_37 c4_i32
  let c1_i32_38 : BitVec 32 := 1#32
  ⟨c0_i32_37, v34, c1_i32_38⟩
def k0_mult4 (k0_t6 : Fin k0_t6_loop.trips) (k0_t11 : Fin k0_t11_loop.trips) : BitVec 32 :=
  let c0_i32_15 : BitVec 32 := 0#32
  let c1_i32_16 : BitVec 32 := 1#32
  let arg27 : BitVec 32 := Scf.iv c0_i32_15 c1_i32_16 k0_t6
  let c128_i32_40 : BitVec 32 := 128#32
  let v35 : BitVec 32 := Scalar.muli arg27 c128_i32_40
  let c0_i32_37 : BitVec 32 := 0#32
  let c1_i32_38 : BitVec 32 := 1#32
  let arg29 : BitVec 32 := Scf.iv c0_i32_37 c1_i32_38 k0_t11
  let c32_i32 : BitVec 32 := 32#32
  let v36 : BitVec 32 := Scalar.muli arg29 c32_i32
  let v37 : BitVec 32 := Scalar.addi v35 v36
  v37
def k0_off10 (k0_t3 : Fin k0_t3_loop.trips) (k0_t6 : Fin k0_t6_loop.trips) (k0_t10 : Fin k0_t10_loop.trips) (k0_t11 : Fin k0_t11_loop.trips) : Fin 4 → Nat :=
  let c0_i32_2 : BitVec 32 := 0#32
  let c1_i32_4 : BitVec 32 := 1#32
  let arg26 : BitVec 32 := Scf.iv c0_i32_2 c1_i32_4 k0_t3
  let v39 : Index := Scalar.indexCast arg26
  let c0_i32_15 : BitVec 32 := 0#32
  let c1_i32_16 : BitVec 32 := 1#32
  let arg27 : BitVec 32 := Scf.iv c0_i32_15 c1_i32_16 k0_t6
  let c128_i32_40 : BitVec 32 := 128#32
  let v35 : BitVec 32 := Scalar.muli arg27 c128_i32_40
  let c0_i32_37 : BitVec 32 := 0#32
  let c1_i32_38 : BitVec 32 := 1#32
  let arg29 : BitVec 32 := Scf.iv c0_i32_37 c1_i32_38 k0_t11
  let c32_i32 : BitVec 32 := 32#32
  let v36 : BitVec 32 := Scalar.muli arg29 c32_i32
  let v37 : BitVec 32 := Scalar.addi v35 v36
  let v38 : BitVec 32 := v37
  let v40 : Index := Scalar.indexCast v38
  let c0_i32_29 : BitVec 32 := 0#32
  let c1_i32_31 : BitVec 32 := 1#32
  let arg28 : BitVec 32 := Scf.iv c0_i32_29 c1_i32_31 k0_t10
  let v41 : Index := Scalar.indexCast arg28
  let c0_41 : Index := 0#32
  ![v39.toNat, v40.toNat, v41.toNat, 0]
def k0_mult5 (k0_t11 : Fin k0_t11_loop.trips) : BitVec 32 :=
  let c0_i32_37 : BitVec 32 := 0#32
  let c1_i32_38 : BitVec 32 := 1#32
  let arg29 : BitVec 32 := Scf.iv c0_i32_37 c1_i32_38 k0_t11
  let c32_i32_42 : BitVec 32 := 32#32
  let v47 : BitVec 32 := Scalar.muli arg29 c32_i32_42
  v47
def k0_off11 (k0_t6 : Fin k0_t6_loop.trips) (k0_t10 : Fin k0_t10_loop.trips) (k0_t11 : Fin k0_t11_loop.trips) : Fin 4 → Nat :=
  let c0_i32_15 : BitVec 32 := 0#32
  let c1_i32_16 : BitVec 32 := 1#32
  let arg27 : BitVec 32 := Scf.iv c0_i32_15 c1_i32_16 k0_t6
  let v49 : Index := Scalar.indexCast arg27
  let c0_i32_29 : BitVec 32 := 0#32
  let c1_i32_31 : BitVec 32 := 1#32
  let arg28 : BitVec 32 := Scf.iv c0_i32_29 c1_i32_31 k0_t10
  let v50 : Index := Scalar.indexCast arg28
  let c0_i32_37 : BitVec 32 := 0#32
  let c1_i32_38 : BitVec 32 := 1#32
  let arg29 : BitVec 32 := Scf.iv c0_i32_37 c1_i32_38 k0_t11
  let c32_i32_42 : BitVec 32 := 32#32
  let v47 : BitVec 32 := Scalar.muli arg29 c32_i32_42
  let v48 : BitVec 32 := v47
  let v51 : Index := Scalar.indexCast v48
  let c0_43 : Index := 0#32
  ![v49.toNat, v50.toNat, v51.toNat, 0]
def k0_off12 (k0_t3 : Fin k0_t3_loop.trips) (k0_t6 : Fin k0_t6_loop.trips) : Fin 2 → Nat :=
  let c0_i32_2 : BitVec 32 := 0#32
  let c1_i32_4 : BitVec 32 := 1#32
  let arg26 : BitVec 32 := Scf.iv c0_i32_2 c1_i32_4 k0_t3
  let c5_i32_33 : BitVec 32 := 5#32
  let v23 : BitVec 32 := Scalar.muli arg26 c5_i32_33
  let c0_i32_15 : BitVec 32 := 0#32
  let c1_i32_16 : BitVec 32 := 1#32
  let arg27 : BitVec 32 := Scf.iv c0_i32_15 c1_i32_16 k0_t6
  let v24 : BitVec 32 := Scalar.addi v23 arg27
  let v25 : Index := Scalar.indexCast v24
  let c0_34 : Index := 0#32
  ![v25.toNat, 0]
def k0_off13 (k0_t6 : Fin k0_t6_loop.trips) : Fin 3 → Nat :=
  let c0_i32_15 : BitVec 32 := 0#32
  let c1_i32_16 : BitVec 32 := 1#32
  let arg27 : BitVec 32 := Scf.iv c0_i32_15 c1_i32_16 k0_t6
  let v30 : Index := Scalar.indexCast arg27
  let c0_35 : Index := 0#32
  let c0_36 : Index := 0#32
  ![v30.toNat, 0, 0]
@[reducible] def k0_t12_loop : Scf.Loop 32 :=
  let c0_i32_18 : BitVec 32 := 0#32
  let c5_i32_19 : BitVec 32 := 5#32
  let v17 : BitVec 32 := Scalar.addi c0_i32_18 c5_i32_19
  let c1_i32_20 : BitVec 32 := 1#32
  ⟨c0_i32_18, v17, c1_i32_20⟩
def k0_off14 (k0_t3 : Fin k0_t3_loop.trips) (k0_t12 : Fin k0_t12_loop.trips) : Fin 2 → Nat :=
  let c0_i32_2 : BitVec 32 := 0#32
  let c1_i32_4 : BitVec 32 := 1#32
  let arg26 : BitVec 32 := Scf.iv c0_i32_2 c1_i32_4 k0_t3
  let v19 : Index := Scalar.indexCast arg26
  let c0_i32_18 : BitVec 32 := 0#32
  let c1_i32_20 : BitVec 32 := 1#32
  let arg27 : BitVec 32 := Scf.iv c0_i32_18 c1_i32_20 k0_t12
  let c128_i32 : BitVec 32 := 128#32
  let v18 : BitVec 32 := Scalar.muli arg27 c128_i32
  let v20 : Index := Scalar.indexCast v18
  ![v19.toNat, v20.toNat]
def k0_off15 (k0_t3 : Fin k0_t3_loop.trips) (arg28 : BitVec 32) : Fin 2 → Nat :=
  let c0_i32_2 : BitVec 32 := 0#32
  let c1_i32_4 : BitVec 32 := 1#32
  let arg26 : BitVec 32 := Scf.iv c0_i32_2 c1_i32_4 k0_t3
  let v56 : Index := Scalar.indexCast arg26
  let c128_i32_52 : BitVec 32 := 128#32
  let v53 : BitVec 32 := Scalar.muli arg28 c128_i32_52
  let c1_i32_53 : BitVec 32 := 1#32
  let v54 : BitVec 32 := Scalar.subi v53 c1_i32_53
  let c0_i32_54 : BitVec 32 := 0#32
  let v55 : BitVec 32 := Scalar.maxsi v54 c0_i32_54
  let v57 : Index := Scalar.indexCast v55
  ![v56.toNat, v57.toNat]

def k0_chk1 (k0_t3 : Fin k0_t3_loop.trips) (arg28 : BitVec 32) : Prop :=
  (∀ a, (k0_off15 k0_t3 arg28) a + S1x1.size a ≤ S3x640.size a)
theorem k0_off15_inb : ∀ (k0_t3 : Fin k0_t3_loop.trips) (arg28 : BitVec 32) (k0_hw1 : k0_chk1 k0_t3 arg28), ∀ a, (k0_off15 k0_t3 arg28) a + S1x1.size a ≤ S3x640.size a := fun k0_t3 arg28 k0_hw1 => k0_hw1

@[reducible] def k0_t13_loop (k0_t12 : Fin k0_t12_loop.trips) (v22 : BitVec 32) : Scf.Loop 32 :=
  let c0_i32_36 : BitVec 32 := 0#32
  let c0_i32_18 : BitVec 32 := 0#32
  let c1_i32_20 : BitVec 32 := 1#32
  let arg27 : BitVec 32 := Scf.iv c0_i32_18 c1_i32_20 k0_t12
  let c1_i32_34 : BitVec 32 := 1#32
  let v35 : BitVec 32 := Scalar.addi arg27 c1_i32_34
  let v36 : BitVec 32 := Scalar.subi v35 v22
  let v37 : BitVec 32 := Scalar.subi v36 c0_i32_36
  let c1_i32_37 : BitVec 32 := 1#32
  let v39 : BitVec 32 := Scalar.divsi v37 c1_i32_37
  let v40 : BitVec 32 := Scalar.muli v39 c1_i32_37
  let v41 : BitVec 32 := Scalar.addi c0_i32_36 v40
  let c1_i32_38 : BitVec 32 := 1#32
  ⟨c0_i32_36, v41, c1_i32_38⟩

@[reducible] def k0_t14_loop : Scf.Loop 32 :=
  let c0_i32_52 : BitVec 32 := 0#32
  let c8_i32_53 : BitVec 32 := 8#32
  let v53 : BitVec 32 := Scalar.addi c0_i32_52 c8_i32_53
  let c1_i32_54 : BitVec 32 := 1#32
  ⟨c0_i32_52, v53, c1_i32_54⟩
def k0_off16 (k0_t12 : Fin k0_t12_loop.trips) (v22 : BitVec 32) (k0_t13 : Fin (k0_t13_loop k0_t12 v22).trips) (k0_t14 : Fin k0_t14_loop.trips) : Fin 4 → Nat :=
  let c0_i32_18 : BitVec 32 := 0#32
  let c1_i32_20 : BitVec 32 := 1#32
  let arg27 : BitVec 32 := Scf.iv c0_i32_18 c1_i32_20 k0_t12
  let c0_i32_36 : BitVec 32 := 0#32
  let c1_i32_38 : BitVec 32 := 1#32
  let arg28 : BitVec 32 := Scf.iv c0_i32_36 c1_i32_38 k0_t13
  let v52 : BitVec 32 := Scalar.subi arg27 arg28
  let v82 : Index := Scalar.indexCast v52
  let c0_i32_52 : BitVec 32 := 0#32
  let c1_i32_54 : BitVec 32 := 1#32
  let arg29 : BitVec 32 := Scf.iv c0_i32_52 c1_i32_54 k0_t14
  let v83 : Index := Scalar.indexCast arg29
  let c0_76 : Index := 0#32
  let c0_77 : Index := 0#32
  ![v82.toNat, v83.toNat, 0, 0]
def k0_off17 (k0_t12 : Fin k0_t12_loop.trips) (k0_t14 : Fin k0_t14_loop.trips) : Fin 4 → Nat :=
  let c0_i32_18 : BitVec 32 := 0#32
  let c1_i32_20 : BitVec 32 := 1#32
  let arg27 : BitVec 32 := Scf.iv c0_i32_18 c1_i32_20 k0_t12
  let v86 : Index := Scalar.indexCast arg27
  let c0_i32_52 : BitVec 32 := 0#32
  let c1_i32_54 : BitVec 32 := 1#32
  let arg29 : BitVec 32 := Scf.iv c0_i32_52 c1_i32_54 k0_t14
  let v87 : Index := Scalar.indexCast arg29
  let c0_78 : Index := 0#32
  let c0_79 : Index := 0#32
  ![v86.toNat, v87.toNat, 0, 0]
def k0_off18 (k0_t14 : Fin k0_t14_loop.trips) (c0_i32_81 : BitVec 32) : Fin 2 → Nat :=
  let c0_i32_52 : BitVec 32 := 0#32
  let c1_i32_54 : BitVec 32 := 1#32
  let arg29 : BitVec 32 := Scf.iv c0_i32_52 c1_i32_54 k0_t14
  let v92 : BitVec 32 := Scalar.addi c0_i32_81 arg29
  let c129_i32 : BitVec 32 := 129#32
  let v93 : BitVec 32 := Scalar.muli v92 c129_i32
  let v94 : Index := Scalar.indexCast v93
  let c0_82 : Index := 0#32
  ![v94.toNat, 0]
def k0_off19 (k0_t3 : Fin k0_t3_loop.trips) (k0_t12 : Fin k0_t12_loop.trips) : Fin 2 → Nat :=
  let c0_i32_2 : BitVec 32 := 0#32
  let c1_i32_4 : BitVec 32 := 1#32
  let arg26 : BitVec 32 := Scf.iv c0_i32_2 c1_i32_4 k0_t3
  let c5_i32_56 : BitVec 32 := 5#32
  let v54 : BitVec 32 := Scalar.muli arg26 c5_i32_56
  let c0_i32_18 : BitVec 32 := 0#32
  let c1_i32_20 : BitVec 32 := 1#32
  let arg27 : BitVec 32 := Scf.iv c0_i32_18 c1_i32_20 k0_t12
  let v55 : BitVec 32 := Scalar.addi v54 arg27
  let v56 : Index := Scalar.indexCast v55
  let c0_57 : Index := 0#32
  ![v56.toNat, 0]
def k0_off20 (k0_t12 : Fin k0_t12_loop.trips) (v22 : BitVec 32) (k0_t13 : Fin (k0_t13_loop k0_t12 v22).trips) : Fin 3 → Nat :=
  let c0_i32_18 : BitVec 32 := 0#32
  let c1_i32_20 : BitVec 32 := 1#32
  let arg27 : BitVec 32 := Scf.iv c0_i32_18 c1_i32_20 k0_t12
  let c0_i32_36 : BitVec 32 := 0#32
  let c1_i32_38 : BitVec 32 := 1#32
  let arg28 : BitVec 32 := Scf.iv c0_i32_36 c1_i32_38 k0_t13
  let v52 : BitVec 32 := Scalar.subi arg27 arg28
  let v66 : Index := Scalar.indexCast v52
  let c0_60 : Index := 0#32
  let c0_61 : Index := 0#32
  ![v66.toNat, 0, 0]
@[reducible] def k0_t15_loop : Scf.Loop 32 :=
  let c0_i32_67 : BitVec 32 := 0#32
  let c3_i32_68 : BitVec 32 := 3#32
  let v79 : BitVec 32 := Scalar.addi c0_i32_67 c3_i32_68
  let c1_i32_69 : BitVec 32 := 1#32
  ⟨c0_i32_67, v79, c1_i32_69⟩
def k0_off21 (k0_t15 : Fin k0_t15_loop.trips) : Fin 3 → Nat :=
  let c0_i32_67 : BitVec 32 := 0#32
  let c1_i32_69 : BitVec 32 := 1#32
  let arg29 : BitVec 32 := Scf.iv c0_i32_67 c1_i32_69 k0_t15
  let v82 : Index := Scalar.indexCast arg29
  let c0_76 : Index := 0#32
  let c0_77 : Index := 0#32
  ![v82.toNat, 0, 0]
@[reducible] def k0_t16_loop : Scf.Loop 32 :=
  let c0_i32_84 : BitVec 32 := 0#32
  let c4_i32 : BitVec 32 := 4#32
  let v92 : BitVec 32 := Scalar.addi c0_i32_84 c4_i32
  let c1_i32_85 : BitVec 32 := 1#32
  ⟨c0_i32_84, v92, c1_i32_85⟩
@[reducible] def k0_t17_loop : Scf.Loop 32 :=
  let c0_i32_97 : BitVec 32 := 0#32
  let c4_i32_98 : BitVec 32 := 4#32
  let v108 : BitVec 32 := Scalar.addi c0_i32_97 c4_i32_98
  let c1_i32_99 : BitVec 32 := 1#32
  ⟨c0_i32_97, v108, c1_i32_99⟩
@[reducible] def k0_t18_loop : Scf.Loop 32 :=
  let c0_i32_114 : BitVec 32 := 0#32
  let c8_i32_115 : BitVec 32 := 8#32
  let v135 : BitVec 32 := Scalar.addi c0_i32_114 c8_i32_115
  let c1_i32_116 : BitVec 32 := 1#32
  ⟨c0_i32_114, v135, c1_i32_116⟩
def k0_off22 (k0_t15 : Fin k0_t15_loop.trips) (k0_t16 : Fin k0_t16_loop.trips) (k0_t17 : Fin k0_t17_loop.trips) (k0_t18 : Fin k0_t18_loop.trips) : Fin 2 → Nat :=
  let c0_i32_67 : BitVec 32 := 0#32
  let c1_i32_69 : BitVec 32 := 1#32
  let arg29 : BitVec 32 := Scf.iv c0_i32_67 c1_i32_69 k0_t15
  let c8_i32_118 : BitVec 32 := 8#32
  let v137 : BitVec 32 := Scalar.muli arg29 c8_i32_118
  let c129_i32 : BitVec 32 := 129#32
  let v138 : BitVec 32 := Scalar.muli v137 c129_i32
  let c3_i32_94 : BitVec 32 := 3#32
  let c0_i32_84 : BitVec 32 := 0#32
  let c1_i32_85 : BitVec 32 := 1#32
  let arg31 : BitVec 32 := Scf.iv c0_i32_84 c1_i32_85 k0_t16
  let v105 : BitVec 32 := Scalar.subi c3_i32_94 arg31
  let c32_i32 : BitVec 32 := 32#32
  let v139 : BitVec 32 := Scalar.muli v105 c32_i32
  let v140 : BitVec 32 := Scalar.addi v138 v139
  let c0_i32_114 : BitVec 32 := 0#32
  let c1_i32_116 : BitVec 32 := 1#32
  let arg38 : BitVec 32 := Scf.iv c0_i32_114 c1_i32_116 k0_t18
  let c4_i32_119 : BitVec 32 := 4#32
  let v141 : BitVec 32 := Scalar.muli arg38 c4_i32_119
  let v142 : BitVec 32 := Scalar.addi v140 v141
  let c0_i32_97 : BitVec 32 := 0#32
  let c1_i32_99 : BitVec 32 := 1#32
  let arg35 : BitVec 32 := Scf.iv c0_i32_97 c1_i32_99 k0_t17
  let v143 : BitVec 32 := Scalar.addi v142 arg35
  let v144 : Index := Scalar.indexCast v143
  let c0_120 : Index := 0#32
  ![v144.toNat, 0]
def k0_off23 (k0_t16 : Fin k0_t16_loop.trips) (k0_t17 : Fin k0_t17_loop.trips) (k0_t18 : Fin k0_t18_loop.trips) : Fin 2 → Nat :=
  let c3_i32_94 : BitVec 32 := 3#32
  let c0_i32_84 : BitVec 32 := 0#32
  let c1_i32_85 : BitVec 32 := 1#32
  let arg31 : BitVec 32 := Scf.iv c0_i32_84 c1_i32_85 k0_t16
  let v105 : BitVec 32 := Scalar.subi c3_i32_94 arg31
  let c32_i32_121 : BitVec 32 := 32#32
  let v147 : BitVec 32 := Scalar.muli v105 c32_i32_121
  let c0_i32_97 : BitVec 32 := 0#32
  let c1_i32_99 : BitVec 32 := 1#32
  let arg35 : BitVec 32 := Scf.iv c0_i32_97 c1_i32_99 k0_t17
  let c8_i32_122 : BitVec 32 := 8#32
  let v148 : BitVec 32 := Scalar.muli arg35 c8_i32_122
  let v149 : BitVec 32 := Scalar.addi v147 v148
  let c0_i32_114 : BitVec 32 := 0#32
  let c1_i32_116 : BitVec 32 := 1#32
  let arg38 : BitVec 32 := Scf.iv c0_i32_114 c1_i32_116 k0_t18
  let v150 : BitVec 32 := Scalar.addi v149 arg38
  let v151 : Index := Scalar.indexCast v150
  let c0_123 : Index := 0#32
  ![v151.toNat, 0]
def k0_off24 (k0_t15 : Fin k0_t15_loop.trips) (k0_t16 : Fin k0_t16_loop.trips) (k0_t17 : Fin k0_t17_loop.trips) (k0_t18 : Fin k0_t18_loop.trips) : Fin 4 → Nat :=
  let c0_i32_67 : BitVec 32 := 0#32
  let c1_i32_69 : BitVec 32 := 1#32
  let arg29 : BitVec 32 := Scf.iv c0_i32_67 c1_i32_69 k0_t15
  let v161 : Index := Scalar.indexCast arg29
  let c3_i32_94 : BitVec 32 := 3#32
  let c0_i32_84 : BitVec 32 := 0#32
  let c1_i32_85 : BitVec 32 := 1#32
  let arg31 : BitVec 32 := Scf.iv c0_i32_84 c1_i32_85 k0_t16
  let v105 : BitVec 32 := Scalar.subi c3_i32_94 arg31
  let c32_i32_124 : BitVec 32 := 32#32
  let v157 : BitVec 32 := Scalar.muli v105 c32_i32_124
  let c0_i32_97 : BitVec 32 := 0#32
  let c1_i32_99 : BitVec 32 := 1#32
  let arg35 : BitVec 32 := Scf.iv c0_i32_97 c1_i32_99 k0_t17
  let c8_i32_125 : BitVec 32 := 8#32
  let v158 : BitVec 32 := Scalar.muli arg35 c8_i32_125
  let v159 : BitVec 32 := Scalar.addi v157 v158
  let c0_i32_114 : BitVec 32 := 0#32
  let c1_i32_116 : BitVec 32 := 1#32
  let arg38 : BitVec 32 := Scf.iv c0_i32_114 c1_i32_116 k0_t18
  let v160 : BitVec 32 := Scalar.addi v159 arg38
  let v162 : Index := Scalar.indexCast v160
  let c0_126 : Index := 0#32
  let c0_127 : Index := 0#32
  ![v161.toNat, v162.toNat, 0, 0]
@[reducible] def k0_t19_loop : Scf.Loop 32 :=
  let c0_i32_111 : BitVec 32 := 0#32
  let c16_i32 : BitVec 32 := 16#32
  let v134 : BitVec 32 := Scalar.addi c0_i32_111 c16_i32
  let c1_i32_112 : BitVec 32 := 1#32
  ⟨c0_i32_111, v134, c1_i32_112⟩
def k0_off25 (k0_t15 : Fin k0_t15_loop.trips) (k0_t16 : Fin k0_t16_loop.trips) (k0_t19 : Fin k0_t19_loop.trips) : Fin 4 → Nat :=
  let c0_i32_67 : BitVec 32 := 0#32
  let c1_i32_69 : BitVec 32 := 1#32
  let arg29 : BitVec 32 := Scf.iv c0_i32_67 c1_i32_69 k0_t15
  let v138 : Index := Scalar.indexCast arg29
  let c2_i32 : BitVec 32 := 2#32
  let c3_i32_94 : BitVec 32 := 3#32
  let c0_i32_84 : BitVec 32 := 0#32
  let c1_i32_85 : BitVec 32 := 1#32
  let arg31 : BitVec 32 := Scf.iv c0_i32_84 c1_i32_85 k0_t16
  let v105 : BitVec 32 := Scalar.subi c3_i32_94 arg31
  let c16_i32_114 : BitVec 32 := 16#32
  let v135 : BitVec 32 := Scalar.muli v105 c16_i32_114
  let c0_i32_111 : BitVec 32 := 0#32
  let c1_i32_112 : BitVec 32 := 1#32
  let arg35 : BitVec 32 := Scf.iv c0_i32_111 c1_i32_112 k0_t19
  let v136 : BitVec 32 := Scalar.addi v135 arg35
  let v137 : BitVec 32 := Scalar.muli c2_i32 v136
  let v139 : Index := Scalar.indexCast v137
  let c0_115 : Index := 0#32
  let c0_116 : Index := 0#32
  ![v138.toNat, v139.toNat, 0, 0]
def k0_off26 (k0_t15 : Fin k0_t15_loop.trips) (k0_t16 : Fin k0_t16_loop.trips) (k0_t19 : Fin k0_t19_loop.trips) : Fin 4 → Nat :=
  let c0_i32_67 : BitVec 32 := 0#32
  let c1_i32_69 : BitVec 32 := 1#32
  let arg29 : BitVec 32 := Scf.iv c0_i32_67 c1_i32_69 k0_t15
  let v145 : Index := Scalar.indexCast arg29
  let c2_i32_117 : BitVec 32 := 2#32
  let c3_i32_94 : BitVec 32 := 3#32
  let c0_i32_84 : BitVec 32 := 0#32
  let c1_i32_85 : BitVec 32 := 1#32
  let arg31 : BitVec 32 := Scf.iv c0_i32_84 c1_i32_85 k0_t16
  let v105 : BitVec 32 := Scalar.subi c3_i32_94 arg31
  let c16_i32_114 : BitVec 32 := 16#32
  let v135 : BitVec 32 := Scalar.muli v105 c16_i32_114
  let c0_i32_111 : BitVec 32 := 0#32
  let c1_i32_112 : BitVec 32 := 1#32
  let arg35 : BitVec 32 := Scf.iv c0_i32_111 c1_i32_112 k0_t19
  let v136 : BitVec 32 := Scalar.addi v135 arg35
  let v143 : BitVec 32 := Scalar.muli c2_i32_117 v136
  let c1_i32_118 : BitVec 32 := 1#32
  let v144 : BitVec 32 := Scalar.addi v143 c1_i32_118
  let v146 : Index := Scalar.indexCast v144
  let c0_119 : Index := 0#32
  let c0_120 : Index := 0#32
  ![v145.toNat, v146.toNat, 0, 0]
def k0_off27 (k0_t15 : Fin k0_t15_loop.trips) (k0_t16 : Fin k0_t16_loop.trips) (k0_t19 : Fin k0_t19_loop.trips) : Fin 2 → Nat :=
  let c0_i32_67 : BitVec 32 := 0#32
  let c1_i32_69 : BitVec 32 := 1#32
  let arg29 : BitVec 32 := Scf.iv c0_i32_67 c1_i32_69 k0_t15
  let c8_i32_121 : BitVec 32 := 8#32
  let v151 : BitVec 32 := Scalar.muli arg29 c8_i32_121
  let c65_i32 : BitVec 32 := 65#32
  let v152 : BitVec 32 := Scalar.muli v151 c65_i32
  let c3_i32_94 : BitVec 32 := 3#32
  let c0_i32_84 : BitVec 32 := 0#32
  let c1_i32_85 : BitVec 32 := 1#32
  let arg31 : BitVec 32 := Scf.iv c0_i32_84 c1_i32_85 k0_t16
  let v105 : BitVec 32 := Scalar.subi c3_i32_94 arg31
  let c16_i32_114 : BitVec 32 := 16#32
  let v135 : BitVec 32 := Scalar.muli v105 c16_i32_114
  let c0_i32_111 : BitVec 32 := 0#32
  let c1_i32_112 : BitVec 32 := 1#32
  let arg35 : BitVec 32 := Scf.iv c0_i32_111 c1_i32_112 k0_t19
  let v136 : BitVec 32 := Scalar.addi v135 arg35
  let v153 : BitVec 32 := Scalar.addi v152 v136
  let v154 : Index := Scalar.indexCast v153
  let c0_122 : Index := 0#32
  ![v154.toNat, 0]
@[reducible] def k0_t20_loop : Scf.Loop 32 :=
  let c0_i32_72 : BitVec 32 := 0#32
  let c8_i32_73 : BitVec 32 := 8#32
  let v81 : BitVec 32 := Scalar.addi c0_i32_72 c8_i32_73
  let c1_i32_74 : BitVec 32 := 1#32
  ⟨c0_i32_72, v81, c1_i32_74⟩
def k0_off28 (k0_t20 : Fin k0_t20_loop.trips) (c0_i32_76 : BitVec 32) : Fin 2 → Nat :=
  let c0_i32_72 : BitVec 32 := 0#32
  let c1_i32_74 : BitVec 32 := 1#32
  let arg29 : BitVec 32 := Scf.iv c0_i32_72 c1_i32_74 k0_t20
  let v82 : BitVec 32 := Scalar.addi c0_i32_76 arg29
  let c65_i32 : BitVec 32 := 65#32
  let v83 : BitVec 32 := Scalar.muli v82 c65_i32
  let v84 : Index := Scalar.indexCast v83
  let c0_77 : Index := 0#32
  ![v84.toNat, 0]
def k0_off29 (k0_t20 : Fin k0_t20_loop.trips) : Fin 3 → Nat :=
  let c0_i32_72 : BitVec 32 := 0#32
  let c1_i32_74 : BitVec 32 := 1#32
  let arg29 : BitVec 32 := Scf.iv c0_i32_72 c1_i32_74 k0_t20
  let v97 : Index := Scalar.indexCast arg29
  let c0_83 : Index := 0#32
  let c0_84 : Index := 0#32
  ![v97.toNat, 0, 0]
def k0_off30 (k0_t12 : Fin k0_t12_loop.trips) (v22 : BitVec 32) (k0_t13 : Fin (k0_t13_loop k0_t12 v22).trips) (k0_t20 : Fin k0_t20_loop.trips) : Fin 4 → Nat :=
  let c0_i32_18 : BitVec 32 := 0#32
  let c1_i32_20 : BitVec 32 := 1#32
  let arg27 : BitVec 32 := Scf.iv c0_i32_18 c1_i32_20 k0_t12
  let c0_i32_36 : BitVec 32 := 0#32
  let c1_i32_38 : BitVec 32 := 1#32
  let arg28 : BitVec 32 := Scf.iv c0_i32_36 c1_i32_38 k0_t13
  let v52 : BitVec 32 := Scalar.subi arg27 arg28
  let v100 : Index := Scalar.indexCast v52
  let c0_i32_72 : BitVec 32 := 0#32
  let c1_i32_74 : BitVec 32 := 1#32
  let arg29 : BitVec 32 := Scf.iv c0_i32_72 c1_i32_74 k0_t20
  let v101 : Index := Scalar.indexCast arg29
  let c0_85 : Index := 0#32
  let c0_86 : Index := 0#32
  ![v100.toNat, v101.toNat, 0, 0]
@[reducible] def k0_t21_loop (k0_t12 : Fin k0_t12_loop.trips) (v22 : BitVec 32) : Scf.Loop 32 :=
  let c0_i32_36 : BitVec 32 := 0#32
  let c0_i32_18 : BitVec 32 := 0#32
  let c1_i32_20 : BitVec 32 := 1#32
  let arg27 : BitVec 32 := Scf.iv c0_i32_18 c1_i32_20 k0_t12
  let c1_i32_34 : BitVec 32 := 1#32
  let v35 : BitVec 32 := Scalar.addi arg27 c1_i32_34
  let v36 : BitVec 32 := Scalar.subi v35 v22
  let v37 : BitVec 32 := Scalar.subi v36 c0_i32_36
  let c1_i32_37 : BitVec 32 := 1#32
  let v39 : BitVec 32 := Scalar.divsi v37 c1_i32_37
  let v40 : BitVec 32 := Scalar.muli v39 c1_i32_37
  let v41 : BitVec 32 := Scalar.addi c0_i32_36 v40
  let v38 : BitVec 32 := Scalar.addi c0_i32_36 v37
  let c1_i32_39 : BitVec 32 := 1#32
  ⟨v41, v38, c1_i32_39⟩
@[reducible] def k0_t22_loop : Scf.Loop 32 :=
  let c0_i32_52 : BitVec 32 := 0#32
  let c8_i32_53 : BitVec 32 := 8#32
  let v53 : BitVec 32 := Scalar.addi c0_i32_52 c8_i32_53
  let c1_i32_54 : BitVec 32 := 1#32
  ⟨c0_i32_52, v53, c1_i32_54⟩
def k0_off31 (k0_t12 : Fin k0_t12_loop.trips) (v22 : BitVec 32) (k0_t21 : Fin (k0_t21_loop k0_t12 v22).trips) (k0_t22 : Fin k0_t22_loop.trips) : Fin 4 → Nat :=
  let c0_i32_18 : BitVec 32 := 0#32
  let c1_i32_20 : BitVec 32 := 1#32
  let arg27 : BitVec 32 := Scf.iv c0_i32_18 c1_i32_20 k0_t12
  let c0_i32_36 : BitVec 32 := 0#32
  let c1_i32_34 : BitVec 32 := 1#32
  let v35 : BitVec 32 := Scalar.addi arg27 c1_i32_34
  let v36 : BitVec 32 := Scalar.subi v35 v22
  let v37 : BitVec 32 := Scalar.subi v36 c0_i32_36
  let c1_i32_37 : BitVec 32 := 1#32
  let v39 : BitVec 32 := Scalar.divsi v37 c1_i32_37
  let v40 : BitVec 32 := Scalar.muli v39 c1_i32_37
  let v41 : BitVec 32 := Scalar.addi c0_i32_36 v40
  let c1_i32_39 : BitVec 32 := 1#32
  let arg28 : BitVec 32 := Scf.iv v41 c1_i32_39 k0_t21
  let v52 : BitVec 32 := Scalar.subi arg27 arg28
  let v82 : Index := Scalar.indexCast v52
  let c0_i32_52 : BitVec 32 := 0#32
  let c1_i32_54 : BitVec 32 := 1#32
  let arg29 : BitVec 32 := Scf.iv c0_i32_52 c1_i32_54 k0_t22
  let v83 : Index := Scalar.indexCast arg29
  let c0_76 : Index := 0#32
  let c0_77 : Index := 0#32
  ![v82.toNat, v83.toNat, 0, 0]
def k0_off32 (k0_t12 : Fin k0_t12_loop.trips) (k0_t22 : Fin k0_t22_loop.trips) : Fin 4 → Nat :=
  let c0_i32_18 : BitVec 32 := 0#32
  let c1_i32_20 : BitVec 32 := 1#32
  let arg27 : BitVec 32 := Scf.iv c0_i32_18 c1_i32_20 k0_t12
  let v86 : Index := Scalar.indexCast arg27
  let c0_i32_52 : BitVec 32 := 0#32
  let c1_i32_54 : BitVec 32 := 1#32
  let arg29 : BitVec 32 := Scf.iv c0_i32_52 c1_i32_54 k0_t22
  let v87 : Index := Scalar.indexCast arg29
  let c0_78 : Index := 0#32
  let c0_79 : Index := 0#32
  ![v86.toNat, v87.toNat, 0, 0]
def k0_off33 (k0_t22 : Fin k0_t22_loop.trips) (c0_i32_81 : BitVec 32) : Fin 2 → Nat :=
  let c0_i32_52 : BitVec 32 := 0#32
  let c1_i32_54 : BitVec 32 := 1#32
  let arg29 : BitVec 32 := Scf.iv c0_i32_52 c1_i32_54 k0_t22
  let v92 : BitVec 32 := Scalar.addi c0_i32_81 arg29
  let c129_i32 : BitVec 32 := 129#32
  let v93 : BitVec 32 := Scalar.muli v92 c129_i32
  let v94 : Index := Scalar.indexCast v93
  let c0_82 : Index := 0#32
  ![v94.toNat, 0]
def k0_off34 (k0_t3 : Fin k0_t3_loop.trips) (k0_t12 : Fin k0_t12_loop.trips) : Fin 2 → Nat :=
  let c0_i32_2 : BitVec 32 := 0#32
  let c1_i32_4 : BitVec 32 := 1#32
  let arg26 : BitVec 32 := Scf.iv c0_i32_2 c1_i32_4 k0_t3
  let c5_i32_56 : BitVec 32 := 5#32
  let v54 : BitVec 32 := Scalar.muli arg26 c5_i32_56
  let c0_i32_18 : BitVec 32 := 0#32
  let c1_i32_20 : BitVec 32 := 1#32
  let arg27 : BitVec 32 := Scf.iv c0_i32_18 c1_i32_20 k0_t12
  let v55 : BitVec 32 := Scalar.addi v54 arg27
  let v56 : Index := Scalar.indexCast v55
  let c0_57 : Index := 0#32
  ![v56.toNat, 0]
def k0_off35 (k0_t12 : Fin k0_t12_loop.trips) (v22 : BitVec 32) (k0_t21 : Fin (k0_t21_loop k0_t12 v22).trips) : Fin 3 → Nat :=
  let c0_i32_18 : BitVec 32 := 0#32
  let c1_i32_20 : BitVec 32 := 1#32
  let arg27 : BitVec 32 := Scf.iv c0_i32_18 c1_i32_20 k0_t12
  let c0_i32_36 : BitVec 32 := 0#32
  let c1_i32_34 : BitVec 32 := 1#32
  let v35 : BitVec 32 := Scalar.addi arg27 c1_i32_34
  let v36 : BitVec 32 := Scalar.subi v35 v22
  let v37 : BitVec 32 := Scalar.subi v36 c0_i32_36
  let c1_i32_37 : BitVec 32 := 1#32
  let v39 : BitVec 32 := Scalar.divsi v37 c1_i32_37
  let v40 : BitVec 32 := Scalar.muli v39 c1_i32_37
  let v41 : BitVec 32 := Scalar.addi c0_i32_36 v40
  let c1_i32_39 : BitVec 32 := 1#32
  let arg28 : BitVec 32 := Scf.iv v41 c1_i32_39 k0_t21
  let v52 : BitVec 32 := Scalar.subi arg27 arg28
  let v66 : Index := Scalar.indexCast v52
  let c0_60 : Index := 0#32
  let c0_61 : Index := 0#32
  ![v66.toNat, 0, 0]
@[reducible] def k0_t23_loop : Scf.Loop 32 :=
  let c0_i32_67 : BitVec 32 := 0#32
  let c3_i32_68 : BitVec 32 := 3#32
  let v79 : BitVec 32 := Scalar.addi c0_i32_67 c3_i32_68
  let c1_i32_69 : BitVec 32 := 1#32
  ⟨c0_i32_67, v79, c1_i32_69⟩
def k0_off36 (k0_t23 : Fin k0_t23_loop.trips) : Fin 3 → Nat :=
  let c0_i32_67 : BitVec 32 := 0#32
  let c1_i32_69 : BitVec 32 := 1#32
  let arg29 : BitVec 32 := Scf.iv c0_i32_67 c1_i32_69 k0_t23
  let v82 : Index := Scalar.indexCast arg29
  let c0_76 : Index := 0#32
  let c0_77 : Index := 0#32
  ![v82.toNat, 0, 0]
@[reducible] def k0_t24_loop : Scf.Loop 32 :=
  let c0_i32_84 : BitVec 32 := 0#32
  let c4_i32 : BitVec 32 := 4#32
  let v92 : BitVec 32 := Scalar.addi c0_i32_84 c4_i32
  let c1_i32_85 : BitVec 32 := 1#32
  ⟨c0_i32_84, v92, c1_i32_85⟩
@[reducible] def k0_t25_loop : Scf.Loop 32 :=
  let c0_i32_97 : BitVec 32 := 0#32
  let c4_i32_98 : BitVec 32 := 4#32
  let v108 : BitVec 32 := Scalar.addi c0_i32_97 c4_i32_98
  let c1_i32_99 : BitVec 32 := 1#32
  ⟨c0_i32_97, v108, c1_i32_99⟩
@[reducible] def k0_t26_loop : Scf.Loop 32 :=
  let c0_i32_114 : BitVec 32 := 0#32
  let c8_i32_115 : BitVec 32 := 8#32
  let v135 : BitVec 32 := Scalar.addi c0_i32_114 c8_i32_115
  let c1_i32_116 : BitVec 32 := 1#32
  ⟨c0_i32_114, v135, c1_i32_116⟩
def k0_off37 (k0_t23 : Fin k0_t23_loop.trips) (k0_t24 : Fin k0_t24_loop.trips) (k0_t25 : Fin k0_t25_loop.trips) (k0_t26 : Fin k0_t26_loop.trips) : Fin 2 → Nat :=
  let c0_i32_67 : BitVec 32 := 0#32
  let c1_i32_69 : BitVec 32 := 1#32
  let arg29 : BitVec 32 := Scf.iv c0_i32_67 c1_i32_69 k0_t23
  let c8_i32_118 : BitVec 32 := 8#32
  let v137 : BitVec 32 := Scalar.muli arg29 c8_i32_118
  let c129_i32 : BitVec 32 := 129#32
  let v138 : BitVec 32 := Scalar.muli v137 c129_i32
  let c3_i32_94 : BitVec 32 := 3#32
  let c0_i32_84 : BitVec 32 := 0#32
  let c1_i32_85 : BitVec 32 := 1#32
  let arg31 : BitVec 32 := Scf.iv c0_i32_84 c1_i32_85 k0_t24
  let v105 : BitVec 32 := Scalar.subi c3_i32_94 arg31
  let c32_i32 : BitVec 32 := 32#32
  let v139 : BitVec 32 := Scalar.muli v105 c32_i32
  let v140 : BitVec 32 := Scalar.addi v138 v139
  let c0_i32_114 : BitVec 32 := 0#32
  let c1_i32_116 : BitVec 32 := 1#32
  let arg38 : BitVec 32 := Scf.iv c0_i32_114 c1_i32_116 k0_t26
  let c4_i32_119 : BitVec 32 := 4#32
  let v141 : BitVec 32 := Scalar.muli arg38 c4_i32_119
  let v142 : BitVec 32 := Scalar.addi v140 v141
  let c0_i32_97 : BitVec 32 := 0#32
  let c1_i32_99 : BitVec 32 := 1#32
  let arg35 : BitVec 32 := Scf.iv c0_i32_97 c1_i32_99 k0_t25
  let v143 : BitVec 32 := Scalar.addi v142 arg35
  let v144 : Index := Scalar.indexCast v143
  let c0_120 : Index := 0#32
  ![v144.toNat, 0]
def k0_off38 (k0_t24 : Fin k0_t24_loop.trips) (k0_t25 : Fin k0_t25_loop.trips) (k0_t26 : Fin k0_t26_loop.trips) : Fin 2 → Nat :=
  let c3_i32_94 : BitVec 32 := 3#32
  let c0_i32_84 : BitVec 32 := 0#32
  let c1_i32_85 : BitVec 32 := 1#32
  let arg31 : BitVec 32 := Scf.iv c0_i32_84 c1_i32_85 k0_t24
  let v105 : BitVec 32 := Scalar.subi c3_i32_94 arg31
  let c32_i32_121 : BitVec 32 := 32#32
  let v147 : BitVec 32 := Scalar.muli v105 c32_i32_121
  let c0_i32_97 : BitVec 32 := 0#32
  let c1_i32_99 : BitVec 32 := 1#32
  let arg35 : BitVec 32 := Scf.iv c0_i32_97 c1_i32_99 k0_t25
  let c8_i32_122 : BitVec 32 := 8#32
  let v148 : BitVec 32 := Scalar.muli arg35 c8_i32_122
  let v149 : BitVec 32 := Scalar.addi v147 v148
  let c0_i32_114 : BitVec 32 := 0#32
  let c1_i32_116 : BitVec 32 := 1#32
  let arg38 : BitVec 32 := Scf.iv c0_i32_114 c1_i32_116 k0_t26
  let v150 : BitVec 32 := Scalar.addi v149 arg38
  let v151 : Index := Scalar.indexCast v150
  let c0_123 : Index := 0#32
  ![v151.toNat, 0]
def k0_off39 (k0_t23 : Fin k0_t23_loop.trips) (k0_t24 : Fin k0_t24_loop.trips) (k0_t25 : Fin k0_t25_loop.trips) (k0_t26 : Fin k0_t26_loop.trips) : Fin 4 → Nat :=
  let c0_i32_67 : BitVec 32 := 0#32
  let c1_i32_69 : BitVec 32 := 1#32
  let arg29 : BitVec 32 := Scf.iv c0_i32_67 c1_i32_69 k0_t23
  let v161 : Index := Scalar.indexCast arg29
  let c3_i32_94 : BitVec 32 := 3#32
  let c0_i32_84 : BitVec 32 := 0#32
  let c1_i32_85 : BitVec 32 := 1#32
  let arg31 : BitVec 32 := Scf.iv c0_i32_84 c1_i32_85 k0_t24
  let v105 : BitVec 32 := Scalar.subi c3_i32_94 arg31
  let c32_i32_124 : BitVec 32 := 32#32
  let v157 : BitVec 32 := Scalar.muli v105 c32_i32_124
  let c0_i32_97 : BitVec 32 := 0#32
  let c1_i32_99 : BitVec 32 := 1#32
  let arg35 : BitVec 32 := Scf.iv c0_i32_97 c1_i32_99 k0_t25
  let c8_i32_125 : BitVec 32 := 8#32
  let v158 : BitVec 32 := Scalar.muli arg35 c8_i32_125
  let v159 : BitVec 32 := Scalar.addi v157 v158
  let c0_i32_114 : BitVec 32 := 0#32
  let c1_i32_116 : BitVec 32 := 1#32
  let arg38 : BitVec 32 := Scf.iv c0_i32_114 c1_i32_116 k0_t26
  let v160 : BitVec 32 := Scalar.addi v159 arg38
  let v162 : Index := Scalar.indexCast v160
  let c0_126 : Index := 0#32
  let c0_127 : Index := 0#32
  ![v161.toNat, v162.toNat, 0, 0]
@[reducible] def k0_t27_loop : Scf.Loop 32 :=
  let c0_i32_111 : BitVec 32 := 0#32
  let c16_i32 : BitVec 32 := 16#32
  let v134 : BitVec 32 := Scalar.addi c0_i32_111 c16_i32
  let c1_i32_112 : BitVec 32 := 1#32
  ⟨c0_i32_111, v134, c1_i32_112⟩
def k0_off40 (k0_t23 : Fin k0_t23_loop.trips) (k0_t24 : Fin k0_t24_loop.trips) (k0_t27 : Fin k0_t27_loop.trips) : Fin 4 → Nat :=
  let c0_i32_67 : BitVec 32 := 0#32
  let c1_i32_69 : BitVec 32 := 1#32
  let arg29 : BitVec 32 := Scf.iv c0_i32_67 c1_i32_69 k0_t23
  let v138 : Index := Scalar.indexCast arg29
  let c2_i32 : BitVec 32 := 2#32
  let c3_i32_94 : BitVec 32 := 3#32
  let c0_i32_84 : BitVec 32 := 0#32
  let c1_i32_85 : BitVec 32 := 1#32
  let arg31 : BitVec 32 := Scf.iv c0_i32_84 c1_i32_85 k0_t24
  let v105 : BitVec 32 := Scalar.subi c3_i32_94 arg31
  let c16_i32_114 : BitVec 32 := 16#32
  let v135 : BitVec 32 := Scalar.muli v105 c16_i32_114
  let c0_i32_111 : BitVec 32 := 0#32
  let c1_i32_112 : BitVec 32 := 1#32
  let arg35 : BitVec 32 := Scf.iv c0_i32_111 c1_i32_112 k0_t27
  let v136 : BitVec 32 := Scalar.addi v135 arg35
  let v137 : BitVec 32 := Scalar.muli c2_i32 v136
  let v139 : Index := Scalar.indexCast v137
  let c0_115 : Index := 0#32
  let c0_116 : Index := 0#32
  ![v138.toNat, v139.toNat, 0, 0]
def k0_off41 (k0_t23 : Fin k0_t23_loop.trips) (k0_t24 : Fin k0_t24_loop.trips) (k0_t27 : Fin k0_t27_loop.trips) : Fin 4 → Nat :=
  let c0_i32_67 : BitVec 32 := 0#32
  let c1_i32_69 : BitVec 32 := 1#32
  let arg29 : BitVec 32 := Scf.iv c0_i32_67 c1_i32_69 k0_t23
  let v145 : Index := Scalar.indexCast arg29
  let c2_i32_117 : BitVec 32 := 2#32
  let c3_i32_94 : BitVec 32 := 3#32
  let c0_i32_84 : BitVec 32 := 0#32
  let c1_i32_85 : BitVec 32 := 1#32
  let arg31 : BitVec 32 := Scf.iv c0_i32_84 c1_i32_85 k0_t24
  let v105 : BitVec 32 := Scalar.subi c3_i32_94 arg31
  let c16_i32_114 : BitVec 32 := 16#32
  let v135 : BitVec 32 := Scalar.muli v105 c16_i32_114
  let c0_i32_111 : BitVec 32 := 0#32
  let c1_i32_112 : BitVec 32 := 1#32
  let arg35 : BitVec 32 := Scf.iv c0_i32_111 c1_i32_112 k0_t27
  let v136 : BitVec 32 := Scalar.addi v135 arg35
  let v143 : BitVec 32 := Scalar.muli c2_i32_117 v136
  let c1_i32_118 : BitVec 32 := 1#32
  let v144 : BitVec 32 := Scalar.addi v143 c1_i32_118
  let v146 : Index := Scalar.indexCast v144
  let c0_119 : Index := 0#32
  let c0_120 : Index := 0#32
  ![v145.toNat, v146.toNat, 0, 0]
def k0_off42 (k0_t23 : Fin k0_t23_loop.trips) (k0_t24 : Fin k0_t24_loop.trips) (k0_t27 : Fin k0_t27_loop.trips) : Fin 2 → Nat :=
  let c0_i32_67 : BitVec 32 := 0#32
  let c1_i32_69 : BitVec 32 := 1#32
  let arg29 : BitVec 32 := Scf.iv c0_i32_67 c1_i32_69 k0_t23
  let c8_i32_121 : BitVec 32 := 8#32
  let v151 : BitVec 32 := Scalar.muli arg29 c8_i32_121
  let c65_i32 : BitVec 32 := 65#32
  let v152 : BitVec 32 := Scalar.muli v151 c65_i32
  let c3_i32_94 : BitVec 32 := 3#32
  let c0_i32_84 : BitVec 32 := 0#32
  let c1_i32_85 : BitVec 32 := 1#32
  let arg31 : BitVec 32 := Scf.iv c0_i32_84 c1_i32_85 k0_t24
  let v105 : BitVec 32 := Scalar.subi c3_i32_94 arg31
  let c16_i32_114 : BitVec 32 := 16#32
  let v135 : BitVec 32 := Scalar.muli v105 c16_i32_114
  let c0_i32_111 : BitVec 32 := 0#32
  let c1_i32_112 : BitVec 32 := 1#32
  let arg35 : BitVec 32 := Scf.iv c0_i32_111 c1_i32_112 k0_t27
  let v136 : BitVec 32 := Scalar.addi v135 arg35
  let v153 : BitVec 32 := Scalar.addi v152 v136
  let v154 : Index := Scalar.indexCast v153
  let c0_122 : Index := 0#32
  ![v154.toNat, 0]
@[reducible] def k0_t28_loop : Scf.Loop 32 :=
  let c0_i32_72 : BitVec 32 := 0#32
  let c8_i32_73 : BitVec 32 := 8#32
  let v81 : BitVec 32 := Scalar.addi c0_i32_72 c8_i32_73
  let c1_i32_74 : BitVec 32 := 1#32
  ⟨c0_i32_72, v81, c1_i32_74⟩
def k0_off43 (k0_t28 : Fin k0_t28_loop.trips) (c0_i32_76 : BitVec 32) : Fin 2 → Nat :=
  let c0_i32_72 : BitVec 32 := 0#32
  let c1_i32_74 : BitVec 32 := 1#32
  let arg29 : BitVec 32 := Scf.iv c0_i32_72 c1_i32_74 k0_t28
  let v82 : BitVec 32 := Scalar.addi c0_i32_76 arg29
  let c65_i32 : BitVec 32 := 65#32
  let v83 : BitVec 32 := Scalar.muli v82 c65_i32
  let v84 : Index := Scalar.indexCast v83
  let c0_77 : Index := 0#32
  ![v84.toNat, 0]
def k0_off44 (k0_t28 : Fin k0_t28_loop.trips) : Fin 3 → Nat :=
  let c0_i32_72 : BitVec 32 := 0#32
  let c1_i32_74 : BitVec 32 := 1#32
  let arg29 : BitVec 32 := Scf.iv c0_i32_72 c1_i32_74 k0_t28
  let v97 : Index := Scalar.indexCast arg29
  let c0_83 : Index := 0#32
  let c0_84 : Index := 0#32
  ![v97.toNat, 0, 0]
def k0_off45 (k0_t12 : Fin k0_t12_loop.trips) (v22 : BitVec 32) (k0_t21 : Fin (k0_t21_loop k0_t12 v22).trips) (k0_t28 : Fin k0_t28_loop.trips) : Fin 4 → Nat :=
  let c0_i32_18 : BitVec 32 := 0#32
  let c1_i32_20 : BitVec 32 := 1#32
  let arg27 : BitVec 32 := Scf.iv c0_i32_18 c1_i32_20 k0_t12
  let c0_i32_36 : BitVec 32 := 0#32
  let c1_i32_34 : BitVec 32 := 1#32
  let v35 : BitVec 32 := Scalar.addi arg27 c1_i32_34
  let v36 : BitVec 32 := Scalar.subi v35 v22
  let v37 : BitVec 32 := Scalar.subi v36 c0_i32_36
  let c1_i32_37 : BitVec 32 := 1#32
  let v39 : BitVec 32 := Scalar.divsi v37 c1_i32_37
  let v40 : BitVec 32 := Scalar.muli v39 c1_i32_37
  let v41 : BitVec 32 := Scalar.addi c0_i32_36 v40
  let c1_i32_39 : BitVec 32 := 1#32
  let arg28 : BitVec 32 := Scf.iv v41 c1_i32_39 k0_t21
  let v52 : BitVec 32 := Scalar.subi arg27 arg28
  let v100 : Index := Scalar.indexCast v52
  let c0_i32_72 : BitVec 32 := 0#32
  let c1_i32_74 : BitVec 32 := 1#32
  let arg29 : BitVec 32 := Scf.iv c0_i32_72 c1_i32_74 k0_t28
  let v101 : Index := Scalar.indexCast arg29
  let c0_85 : Index := 0#32
  let c0_86 : Index := 0#32
  ![v100.toNat, v101.toNat, 0, 0]

def k0_chk2 (k0_t12 : Fin k0_t12_loop.trips) (v22 : BitVec 32) : Prop :=
  ((k0_t13_loop k0_t12 v22).OK) ∧
  (∀ (k0_t13 : Fin (k0_t13_loop k0_t12 v22).trips) (k0_t14 : Fin k0_t14_loop.trips), ∀ a, (k0_off16 k0_t12 v22 k0_t13 k0_t14) a + S1x1x128x128.size a ≤ S5x8x128x128.size a) ∧
  (∀ k0_t13 : Fin (k0_t13_loop k0_t12 v22).trips, ∀ a, (k0_off20 k0_t12 v22 k0_t13) a + S1x128x128.size a ≤ S5x128x128.size a) ∧
  (∀ (k0_t13 : Fin (k0_t13_loop k0_t12 v22).trips) (k0_t20 : Fin k0_t20_loop.trips), ∀ a, (k0_off30 k0_t12 v22 k0_t13 k0_t20) a + S1x1x128x128.size a ≤ S5x8x128x128.size a) ∧
  ((k0_t21_loop k0_t12 v22).OK) ∧
  (∀ (k0_t21 : Fin (k0_t21_loop k0_t12 v22).trips) (k0_t22 : Fin k0_t22_loop.trips), ∀ a, (k0_off31 k0_t12 v22 k0_t21 k0_t22) a + S1x1x128x128.size a ≤ S5x8x128x128.size a) ∧
  (∀ k0_t21 : Fin (k0_t21_loop k0_t12 v22).trips, ∀ a, (k0_off35 k0_t12 v22 k0_t21) a + S1x128x128.size a ≤ S5x128x128.size a) ∧
  (∀ (k0_t21 : Fin (k0_t21_loop k0_t12 v22).trips) (k0_t28 : Fin k0_t28_loop.trips), ∀ a, (k0_off45 k0_t12 v22 k0_t21 k0_t28) a + S1x1x128x128.size a ≤ S5x8x128x128.size a)
theorem k0_t13_ok : ∀ (k0_t12 : Fin k0_t12_loop.trips) (v22 : BitVec 32) (k0_hw2 : k0_chk2 k0_t12 v22), (k0_t13_loop k0_t12 v22).OK := fun k0_t12 v22 k0_hw2 => k0_hw2.1
theorem k0_off16_inb : ∀ (k0_t12 : Fin k0_t12_loop.trips) (v22 : BitVec 32) (k0_hw2 : k0_chk2 k0_t12 v22) (k0_t13 : Fin (k0_t13_loop k0_t12 v22).trips) (k0_t14 : Fin k0_t14_loop.trips), ∀ a, (k0_off16 k0_t12 v22 k0_t13 k0_t14) a + S1x1x128x128.size a ≤ S5x8x128x128.size a := fun k0_t12 v22 k0_hw2 k0_t13 k0_t14 => k0_hw2.2.1 k0_t13 k0_t14
theorem k0_off20_inb : ∀ (k0_t12 : Fin k0_t12_loop.trips) (v22 : BitVec 32) (k0_hw2 : k0_chk2 k0_t12 v22) (k0_t13 : Fin (k0_t13_loop k0_t12 v22).trips), ∀ a, (k0_off20 k0_t12 v22 k0_t13) a + S1x128x128.size a ≤ S5x128x128.size a := fun k0_t12 v22 k0_hw2 k0_t13 => k0_hw2.2.2.1 k0_t13
theorem k0_off30_inb : ∀ (k0_t12 : Fin k0_t12_loop.trips) (v22 : BitVec 32) (k0_hw2 : k0_chk2 k0_t12 v22) (k0_t13 : Fin (k0_t13_loop k0_t12 v22).trips) (k0_t20 : Fin k0_t20_loop.trips), ∀ a, (k0_off30 k0_t12 v22 k0_t13 k0_t20) a + S1x1x128x128.size a ≤ S5x8x128x128.size a := fun k0_t12 v22 k0_hw2 k0_t13 k0_t20 => k0_hw2.2.2.2.1 k0_t13 k0_t20
theorem k0_t21_ok : ∀ (k0_t12 : Fin k0_t12_loop.trips) (v22 : BitVec 32) (k0_hw2 : k0_chk2 k0_t12 v22), (k0_t21_loop k0_t12 v22).OK := fun k0_t12 v22 k0_hw2 => k0_hw2.2.2.2.2.1
theorem k0_off31_inb : ∀ (k0_t12 : Fin k0_t12_loop.trips) (v22 : BitVec 32) (k0_hw2 : k0_chk2 k0_t12 v22) (k0_t21 : Fin (k0_t21_loop k0_t12 v22).trips) (k0_t22 : Fin k0_t22_loop.trips), ∀ a, (k0_off31 k0_t12 v22 k0_t21 k0_t22) a + S1x1x128x128.size a ≤ S5x8x128x128.size a := fun k0_t12 v22 k0_hw2 k0_t21 k0_t22 => k0_hw2.2.2.2.2.2.1 k0_t21 k0_t22
theorem k0_off35_inb : ∀ (k0_t12 : Fin k0_t12_loop.trips) (v22 : BitVec 32) (k0_hw2 : k0_chk2 k0_t12 v22) (k0_t21 : Fin (k0_t21_loop k0_t12 v22).trips), ∀ a, (k0_off35 k0_t12 v22 k0_t21) a + S1x128x128.size a ≤ S5x128x128.size a := fun k0_t12 v22 k0_hw2 k0_t21 => k0_hw2.2.2.2.2.2.2.1 k0_t21
theorem k0_off45_inb : ∀ (k0_t12 : Fin k0_t12_loop.trips) (v22 : BitVec 32) (k0_hw2 : k0_chk2 k0_t12 v22) (k0_t21 : Fin (k0_t21_loop k0_t12 v22).trips) (k0_t28 : Fin k0_t28_loop.trips), ∀ a, (k0_off45 k0_t12 v22 k0_t21 k0_t28) a + S1x1x128x128.size a ≤ S5x8x128x128.size a := fun k0_t12 v22 k0_hw2 k0_t21 k0_t28 => k0_hw2.2.2.2.2.2.2.2 k0_t21 k0_t28

def k0_mult6 (k0_t12 : Fin k0_t12_loop.trips) : BitVec 32 :=
  let c0_i32_18 : BitVec 32 := 0#32
  let c1_i32_20 : BitVec 32 := 1#32
  let arg27 : BitVec 32 := Scf.iv c0_i32_18 c1_i32_20 k0_t12
  let c128_i32_40 : BitVec 32 := 128#32
  let v42 : BitVec 32 := Scalar.muli arg27 c128_i32_40
  v42
@[reducible] def k0_t29_loop : Scf.Loop 32 :=
  let c0_i32_41 : BitVec 32 := 0#32
  let c8_i32 : BitVec 32 := 8#32
  let v44 : BitVec 32 := Scalar.addi c0_i32_41 c8_i32
  let c1_i32_42 : BitVec 32 := 1#32
  ⟨c0_i32_41, v44, c1_i32_42⟩
@[reducible] def k0_t30_loop : Scf.Loop 32 :=
  let c0_i32_51 : BitVec 32 := 0#32
  let c3_i32_52 : BitVec 32 := 3#32
  let v52 : BitVec 32 := Scalar.addi c0_i32_51 c3_i32_52
  let c1_i32_53 : BitVec 32 := 1#32
  ⟨c0_i32_51, v52, c1_i32_53⟩
def k0_mult7 (k0_t30 : Fin k0_t30_loop.trips) : BitVec 32 :=
  let c0_i32_51 : BitVec 32 := 0#32
  let c1_i32_53 : BitVec 32 := 1#32
  let arg29 : BitVec 32 := Scf.iv c0_i32_51 c1_i32_53 k0_t30
  let c128_i32_55 : BitVec 32 := 128#32
  let v53 : BitVec 32 := Scalar.muli arg29 c128_i32_55
  v53
def k0_off46 (k0_t29 : Fin k0_t29_loop.trips) (k0_t30 : Fin k0_t30_loop.trips) : Fin 3 → Nat :=
  let c0_i32_41 : BitVec 32 := 0#32
  let c1_i32_42 : BitVec 32 := 1#32
  let arg28 : BitVec 32 := Scf.iv c0_i32_41 c1_i32_42 k0_t29
  let v55 : Index := Scalar.indexCast arg28
  let c0_56 : Index := 0#32
  let c0_i32_51 : BitVec 32 := 0#32
  let c1_i32_53 : BitVec 32 := 1#32
  let arg29 : BitVec 32 := Scf.iv c0_i32_51 c1_i32_53 k0_t30
  let c128_i32_55 : BitVec 32 := 128#32
  let v53 : BitVec 32 := Scalar.muli arg29 c128_i32_55
  let v54 : BitVec 32 := v53
  let v56 : Index := Scalar.indexCast v54
  ![v55.toNat, 0, v56.toNat]
def k0_off47 (k0_t3 : Fin k0_t3_loop.trips) (k0_t29 : Fin k0_t29_loop.trips) : Fin 2 → Nat :=
  let c0_i32_2 : BitVec 32 := 0#32
  let c1_i32_4 : BitVec 32 := 1#32
  let arg26 : BitVec 32 := Scf.iv c0_i32_2 c1_i32_4 k0_t3
  let v59 : Index := Scalar.indexCast arg26
  let c0_i32_41 : BitVec 32 := 0#32
  let c1_i32_42 : BitVec 32 := 1#32
  let arg28 : BitVec 32 := Scf.iv c0_i32_41 c1_i32_42 k0_t29
  let v60 : Index := Scalar.indexCast arg28
  ![v59.toNat, v60.toNat]
def k0_mult8 (k0_t29 : Fin k0_t29_loop.trips) (k0_t30 : Fin k0_t30_loop.trips) : BitVec 32 :=
  let c0_i32_41 : BitVec 32 := 0#32
  let c1_i32_42 : BitVec 32 := 1#32
  let arg28 : BitVec 32 := Scf.iv c0_i32_41 c1_i32_42 k0_t29
  let c3_i32_57 : BitVec 32 := 3#32
  let v66 : BitVec 32 := Scalar.muli arg28 c3_i32_57
  let c0_i32_51 : BitVec 32 := 0#32
  let c1_i32_53 : BitVec 32 := 1#32
  let arg29 : BitVec 32 := Scf.iv c0_i32_51 c1_i32_53 k0_t30
  let v67 : BitVec 32 := Scalar.addi v66 arg29
  let c128_i32_58 : BitVec 32 := 128#32
  let v68 : BitVec 32 := Scalar.muli v67 c128_i32_58
  v68
def k0_off48 (k0_t3 : Fin k0_t3_loop.trips) (k0_t12 : Fin k0_t12_loop.trips) (k0_t29 : Fin k0_t29_loop.trips) (k0_t30 : Fin k0_t30_loop.trips) : Fin 3 → Nat :=
  let c0_i32_2 : BitVec 32 := 0#32
  let c1_i32_4 : BitVec 32 := 1#32
  let arg26 : BitVec 32 := Scf.iv c0_i32_2 c1_i32_4 k0_t3
  let v70 : Index := Scalar.indexCast arg26
  let c0_i32_18 : BitVec 32 := 0#32
  let c1_i32_20 : BitVec 32 := 1#32
  let arg27 : BitVec 32 := Scf.iv c0_i32_18 c1_i32_20 k0_t12
  let c128_i32_40 : BitVec 32 := 128#32
  let v42 : BitVec 32 := Scalar.muli arg27 c128_i32_40
  let v43 : BitVec 32 := v42
  let v71 : Index := Scalar.indexCast v43
  let c0_i32_41 : BitVec 32 := 0#32
  let c1_i32_42 : BitVec 32 := 1#32
  let arg28 : BitVec 32 := Scf.iv c0_i32_41 c1_i32_42 k0_t29
  let c3_i32_57 : BitVec 32 := 3#32
  let v66 : BitVec 32 := Scalar.muli arg28 c3_i32_57
  let c0_i32_51 : BitVec 32 := 0#32
  let c1_i32_53 : BitVec 32 := 1#32
  let arg29 : BitVec 32 := Scf.iv c0_i32_51 c1_i32_53 k0_t30
  let v67 : BitVec 32 := Scalar.addi v66 arg29
  let c128_i32_58 : BitVec 32 := 128#32
  let v68 : BitVec 32 := Scalar.muli v67 c128_i32_58
  let v69 : BitVec 32 := v68
  let v72 : Index := Scalar.indexCast v69
  ![v70.toNat, v71.toNat, v72.toNat]
@[reducible] def k0_t31_loop : Scf.Loop 32 :=
  let c0_i32_44 : BitVec 32 := 0#32
  let c3_i32_45 : BitVec 32 := 3#32
  let v45 : BitVec 32 := Scalar.addi c0_i32_44 c3_i32_45
  let c1_i32_46 : BitVec 32 := 1#32
  ⟨c0_i32_44, v45, c1_i32_46⟩
def k0_off49 (k0_t31 : Fin k0_t31_loop.trips) : Fin 3 → Nat :=
  let c0_i32_44 : BitVec 32 := 0#32
  let c1_i32_46 : BitVec 32 := 1#32
  let arg28 : BitVec 32 := Scf.iv c0_i32_44 c1_i32_46 k0_t31
  let v52 : Index := Scalar.indexCast arg28
  let c0_51 : Index := 0#32
  let c0_52 : Index := 0#32
  ![v52.toNat, 0, 0]
def k0_off50 (k0_t31 : Fin k0_t31_loop.trips) : Fin 2 → Nat :=
  let c0_i32_44 : BitVec 32 := 0#32
  let c1_i32_46 : BitVec 32 := 1#32
  let arg28 : BitVec 32 := Scf.iv c0_i32_44 c1_i32_46 k0_t31
  let v57 : Index := Scalar.indexCast arg28
  let c0_54 : Index := 0#32
  ![v57.toNat, 0]
def k0_off51 (k0_t3 : Fin k0_t3_loop.trips) (k0_t12 : Fin k0_t12_loop.trips) : Fin 3 → Nat :=
  let c0_i32_2 : BitVec 32 := 0#32
  let c1_i32_4 : BitVec 32 := 1#32
  let arg26 : BitVec 32 := Scf.iv c0_i32_2 c1_i32_4 k0_t3
  let v47 : Index := Scalar.indexCast arg26
  let c0_50 : Index := 0#32
  let c0_i32_18 : BitVec 32 := 0#32
  let c1_i32_20 : BitVec 32 := 1#32
  let arg27 : BitVec 32 := Scf.iv c0_i32_18 c1_i32_20 k0_t12
  let c128_i32_40 : BitVec 32 := 128#32
  let v42 : BitVec 32 := Scalar.muli arg27 c128_i32_40
  let v43 : BitVec 32 := v42
  let v48 : Index := Scalar.indexCast v43
  ![v47.toNat, 0, v48.toNat]
@[reducible] def k0_t32_loop : Scf.Loop 32 :=
  let c0_i32_11 : BitVec 32 := 0#32
  let c3_i32_12 : BitVec 32 := 3#32
  let v15 : BitVec 32 := Scalar.addi c0_i32_11 c3_i32_12
  let c1_i32_13 : BitVec 32 := 1#32
  ⟨c0_i32_11, v15, c1_i32_13⟩
@[reducible] def k0_t33_loop : Scf.Loop 32 :=
  let c0_i32_15 : BitVec 32 := 0#32
  let c3_i32_16 : BitVec 32 := 3#32
  let v16 : BitVec 32 := Scalar.addi c0_i32_15 c3_i32_16
  let c1_i32_17 : BitVec 32 := 1#32
  ⟨c0_i32_15, v16, c1_i32_17⟩
@[reducible] def k0_t34_loop : Scf.Loop 32 :=
  let c0_i32_27 : BitVec 32 := 0#32
  let c8_i32 : BitVec 32 := 8#32
  let v20 : BitVec 32 := Scalar.addi c0_i32_27 c8_i32
  let c1_i32_28 : BitVec 32 := 1#32
  ⟨c0_i32_27, v20, c1_i32_28⟩
def k0_off52 (k0_t32 : Fin k0_t32_loop.trips) (k0_t33 : Fin k0_t33_loop.trips) (k0_t34 : Fin k0_t34_loop.trips) : Fin 2 → Nat :=
  let c0_i32_11 : BitVec 32 := 0#32
  let c1_i32_13 : BitVec 32 := 1#32
  let arg26 : BitVec 32 := Scf.iv c0_i32_11 c1_i32_13 k0_t32
  let v28 : Index := Scalar.indexCast arg26
  let c0_i32_27 : BitVec 32 := 0#32
  let c1_i32_28 : BitVec 32 := 1#32
  let arg28 : BitVec 32 := Scf.iv c0_i32_27 c1_i32_28 k0_t34
  let c3_i32_32 : BitVec 32 := 3#32
  let v26 : BitVec 32 := Scalar.muli arg28 c3_i32_32
  let c0_i32_15 : BitVec 32 := 0#32
  let c1_i32_17 : BitVec 32 := 1#32
  let arg27 : BitVec 32 := Scf.iv c0_i32_15 c1_i32_17 k0_t33
  let v27 : BitVec 32 := Scalar.addi v26 arg27
  let v29 : Index := Scalar.indexCast v27
  ![v28.toNat, v29.toNat]
def k0_off53 (k0_t32 : Fin k0_t32_loop.trips) (k0_t34 : Fin k0_t34_loop.trips) : Fin 2 → Nat :=
  let c0_i32_11 : BitVec 32 := 0#32
  let c1_i32_13 : BitVec 32 := 1#32
  let arg26 : BitVec 32 := Scf.iv c0_i32_11 c1_i32_13 k0_t32
  let v31 : Index := Scalar.indexCast arg26
  let c0_i32_27 : BitVec 32 := 0#32
  let c1_i32_28 : BitVec 32 := 1#32
  let arg28 : BitVec 32 := Scf.iv c0_i32_27 c1_i32_28 k0_t34
  let v32 : Index := Scalar.indexCast arg28
  ![v31.toNat, v32.toNat]
def k0_off54 (k0_t33 : Fin k0_t33_loop.trips) : Fin 3 → Nat :=
  let c0_i32_15 : BitVec 32 := 0#32
  let c1_i32_17 : BitVec 32 := 1#32
  let arg27 : BitVec 32 := Scf.iv c0_i32_15 c1_i32_17 k0_t33
  let v22 : Index := Scalar.indexCast arg27
  let c0_30 : Index := 0#32
  let c0_31 : Index := 0#32
  ![v22.toNat, 0, 0]
@[reducible] def k0_t35_loop : Scf.Loop 32 :=
  let c0_i32_19 : BitVec 32 := 0#32
  let c5_i32 : BitVec 32 := 5#32
  let v17 : BitVec 32 := Scalar.addi c0_i32_19 c5_i32
  let c1_i32_20 : BitVec 32 := 1#32
  ⟨c0_i32_19, v17, c1_i32_20⟩
def k0_mult9 (k0_t35 : Fin k0_t35_loop.trips) : BitVec 32 :=
  let c0_i32_19 : BitVec 32 := 0#32
  let c1_i32_20 : BitVec 32 := 1#32
  let arg27 : BitVec 32 := Scf.iv c0_i32_19 c1_i32_20 k0_t35
  let c128_i32 : BitVec 32 := 128#32
  let v19 : BitVec 32 := Scalar.muli arg27 c128_i32
  v19
@[reducible] def k0_t36_loop : Scf.Loop 32 :=
  let c0_i32_26 : BitVec 32 := 0#32
  let c8_i32 : BitVec 32 := 8#32
  let v21 : BitVec 32 := Scalar.addi c0_i32_26 c8_i32
  let c1_i32_27 : BitVec 32 := 1#32
  ⟨c0_i32_26, v21, c1_i32_27⟩
@[reducible] def k0_t37_loop : Scf.Loop 32 :=
  let c0_i32_41 : BitVec 32 := 0#32
  let c3_i32_42 : BitVec 32 := 3#32
  let v35 : BitVec 32 := Scalar.addi c0_i32_41 c3_i32_42
  let c1_i32_43 : BitVec 32 := 1#32
  ⟨c0_i32_41, v35, c1_i32_43⟩
def k0_mult10 (k0_t37 : Fin k0_t37_loop.trips) : BitVec 32 :=
  let c0_i32_41 : BitVec 32 := 0#32
  let c1_i32_43 : BitVec 32 := 1#32
  let arg29 : BitVec 32 := Scf.iv c0_i32_41 c1_i32_43 k0_t37
  let c128_i32_45 : BitVec 32 := 128#32
  let v36 : BitVec 32 := Scalar.muli arg29 c128_i32_45
  v36
def k0_off55 (k0_t32 : Fin k0_t32_loop.trips) (k0_t35 : Fin k0_t35_loop.trips) (k0_t36 : Fin k0_t36_loop.trips) (k0_t37 : Fin k0_t37_loop.trips) : Fin 4 → Nat :=
  let c0_i32_11 : BitVec 32 := 0#32
  let c1_i32_13 : BitVec 32 := 1#32
  let arg26 : BitVec 32 := Scf.iv c0_i32_11 c1_i32_13 k0_t32
  let v40 : Index := Scalar.indexCast arg26
  let c0_i32_19 : BitVec 32 := 0#32
  let c1_i32_20 : BitVec 32 := 1#32
  let arg27 : BitVec 32 := Scf.iv c0_i32_19 c1_i32_20 k0_t35
  let c128_i32 : BitVec 32 := 128#32
  let v19 : BitVec 32 := Scalar.muli arg27 c128_i32
  let v20 : BitVec 32 := v19
  let v41 : Index := Scalar.indexCast v20
  let c0_i32_26 : BitVec 32 := 0#32
  let c1_i32_27 : BitVec 32 := 1#32
  let arg28 : BitVec 32 := Scf.iv c0_i32_26 c1_i32_27 k0_t36
  let c3_i32_46 : BitVec 32 := 3#32
  let v38 : BitVec 32 := Scalar.muli arg28 c3_i32_46
  let c0_i32_41 : BitVec 32 := 0#32
  let c1_i32_43 : BitVec 32 := 1#32
  let arg29 : BitVec 32 := Scf.iv c0_i32_41 c1_i32_43 k0_t37
  let v39 : BitVec 32 := Scalar.addi v38 arg29
  let v42 : Index := Scalar.indexCast v39
  let c0_47 : Index := 0#32
  ![v40.toNat, v41.toNat, v42.toNat, 0]
def k0_off56 (k0_t35 : Fin k0_t35_loop.trips) (k0_t36 : Fin k0_t36_loop.trips) (k0_t37 : Fin k0_t37_loop.trips) : Fin 4 → Nat :=
  let c0_i32_19 : BitVec 32 := 0#32
  let c1_i32_20 : BitVec 32 := 1#32
  let arg27 : BitVec 32 := Scf.iv c0_i32_19 c1_i32_20 k0_t35
  let v46 : Index := Scalar.indexCast arg27
  let c0_i32_26 : BitVec 32 := 0#32
  let c1_i32_27 : BitVec 32 := 1#32
  let arg28 : BitVec 32 := Scf.iv c0_i32_26 c1_i32_27 k0_t36
  let v47 : Index := Scalar.indexCast arg28
  let c0_48 : Index := 0#32
  let c0_i32_41 : BitVec 32 := 0#32
  let c1_i32_43 : BitVec 32 := 1#32
  let arg29 : BitVec 32 := Scf.iv c0_i32_41 c1_i32_43 k0_t37
  let c128_i32_45 : BitVec 32 := 128#32
  let v36 : BitVec 32 := Scalar.muli arg29 c128_i32_45
  let v37 : BitVec 32 := v36
  let v48 : Index := Scalar.indexCast v37
  ![v46.toNat, v47.toNat, 0, v48.toNat]
@[reducible] def k0_t38_loop : Scf.Loop 32 :=
  let c0_i32_29 : BitVec 32 := 0#32
  let c8_i32_30 : BitVec 32 := 8#32
  let v22 : BitVec 32 := Scalar.addi c0_i32_29 c8_i32_30
  let c1_i32_31 : BitVec 32 := 1#32
  ⟨c0_i32_29, v22, c1_i32_31⟩
def k0_off57 (k0_t32 : Fin k0_t32_loop.trips) (k0_t35 : Fin k0_t35_loop.trips) (k0_t38 : Fin k0_t38_loop.trips) : Fin 4 → Nat :=
  let c0_i32_11 : BitVec 32 := 0#32
  let c1_i32_13 : BitVec 32 := 1#32
  let arg26 : BitVec 32 := Scf.iv c0_i32_11 c1_i32_13 k0_t32
  let v35 : Index := Scalar.indexCast arg26
  let c0_i32_19 : BitVec 32 := 0#32
  let c1_i32_20 : BitVec 32 := 1#32
  let arg27 : BitVec 32 := Scf.iv c0_i32_19 c1_i32_20 k0_t35
  let c128_i32 : BitVec 32 := 128#32
  let v19 : BitVec 32 := Scalar.muli arg27 c128_i32
  let v20 : BitVec 32 := v19
  let v36 : Index := Scalar.indexCast v20
  let c0_i32_29 : BitVec 32 := 0#32
  let c1_i32_31 : BitVec 32 := 1#32
  let arg28 : BitVec 32 := Scf.iv c0_i32_29 c1_i32_31 k0_t38
  let v37 : Index := Scalar.indexCast arg28
  let c0_41 : Index := 0#32
  ![v35.toNat, v36.toNat, v37.toNat, 0]
def k0_off58 (k0_t35 : Fin k0_t35_loop.trips) (k0_t38 : Fin k0_t38_loop.trips) : Fin 4 → Nat :=
  let c0_i32_19 : BitVec 32 := 0#32
  let c1_i32_20 : BitVec 32 := 1#32
  let arg27 : BitVec 32 := Scf.iv c0_i32_19 c1_i32_20 k0_t35
  let v42 : Index := Scalar.indexCast arg27
  let c0_i32_29 : BitVec 32 := 0#32
  let c1_i32_31 : BitVec 32 := 1#32
  let arg28 : BitVec 32 := Scf.iv c0_i32_29 c1_i32_31 k0_t38
  let v43 : Index := Scalar.indexCast arg28
  let c0_42 : Index := 0#32
  let c0_43 : Index := 0#32
  ![v42.toNat, v43.toNat, 0, 0]
@[reducible] def k0_t39_loop : Scf.Loop 32 :=
  let c0_i32_33 : BitVec 32 := 0#32
  let c8_i32_34 : BitVec 32 := 8#32
  let v23 : BitVec 32 := Scalar.addi c0_i32_33 c8_i32_34
  let c1_i32_35 : BitVec 32 := 1#32
  ⟨c0_i32_33, v23, c1_i32_35⟩
@[reducible] def k0_t40_loop : Scf.Loop 32 :=
  let c0_i32_41 : BitVec 32 := 0#32
  let c4_i32 : BitVec 32 := 4#32
  let v35 : BitVec 32 := Scalar.addi c0_i32_41 c4_i32
  let c1_i32_42 : BitVec 32 := 1#32
  ⟨c0_i32_41, v35, c1_i32_42⟩
def k0_mult11 (k0_t35 : Fin k0_t35_loop.trips) (k0_t40 : Fin k0_t40_loop.trips) : BitVec 32 :=
  let c0_i32_19 : BitVec 32 := 0#32
  let c1_i32_20 : BitVec 32 := 1#32
  let arg27 : BitVec 32 := Scf.iv c0_i32_19 c1_i32_20 k0_t35
  let c128_i32_44 : BitVec 32 := 128#32
  let v36 : BitVec 32 := Scalar.muli arg27 c128_i32_44
  let c0_i32_41 : BitVec 32 := 0#32
  let c1_i32_42 : BitVec 32 := 1#32
  let arg29 : BitVec 32 := Scf.iv c0_i32_41 c1_i32_42 k0_t40
  let c32_i32 : BitVec 32 := 32#32
  let v37 : BitVec 32 := Scalar.muli arg29 c32_i32
  let v38 : BitVec 32 := Scalar.addi v36 v37
  v38
def k0_off59 (k0_t32 : Fin k0_t32_loop.trips) (k0_t35 : Fin k0_t35_loop.trips) (k0_t39 : Fin k0_t39_loop.trips) (k0_t40 : Fin k0_t40_loop.trips) : Fin 4 → Nat :=
  let c0_i32_11 : BitVec 32 := 0#32
  let c1_i32_13 : BitVec 32 := 1#32
  let arg26 : BitVec 32 := Scf.iv c0_i32_11 c1_i32_13 k0_t32
  let v40 : Index := Scalar.indexCast arg26
  let c0_i32_19 : BitVec 32 := 0#32
  let c1_i32_20 : BitVec 32 := 1#32
  let arg27 : BitVec 32 := Scf.iv c0_i32_19 c1_i32_20 k0_t35
  let c128_i32_44 : BitVec 32 := 128#32
  let v36 : BitVec 32 := Scalar.muli arg27 c128_i32_44
  let c0_i32_41 : BitVec 32 := 0#32
  let c1_i32_42 : BitVec 32 := 1#32
  let arg29 : BitVec 32 := Scf.iv c0_i32_41 c1_i32_42 k0_t40
  let c32_i32 : BitVec 32 := 32#32
  let v37 : BitVec 32 := Scalar.muli arg29 c32_i32
  let v38 : BitVec 32 := Scalar.addi v36 v37
  let v39 : BitVec 32 := v38
  let v41 : Index := Scalar.indexCast v39
  let c0_i32_33 : BitVec 32 := 0#32
  let c1_i32_35 : BitVec 32 := 1#32
  let arg28 : BitVec 32 := Scf.iv c0_i32_33 c1_i32_35 k0_t39
  let v42 : Index := Scalar.indexCast arg28
  let c0_45 : Index := 0#32
  ![v40.toNat, v41.toNat, v42.toNat, 0]
def k0_mult12 (k0_t40 : Fin k0_t40_loop.trips) : BitVec 32 :=
  let c0_i32_41 : BitVec 32 := 0#32
  let c1_i32_42 : BitVec 32 := 1#32
  let arg29 : BitVec 32 := Scf.iv c0_i32_41 c1_i32_42 k0_t40
  let c32_i32_46 : BitVec 32 := 32#32
  let v48 : BitVec 32 := Scalar.muli arg29 c32_i32_46
  v48
def k0_off60 (k0_t35 : Fin k0_t35_loop.trips) (k0_t39 : Fin k0_t39_loop.trips) (k0_t40 : Fin k0_t40_loop.trips) : Fin 4 → Nat :=
  let c0_i32_19 : BitVec 32 := 0#32
  let c1_i32_20 : BitVec 32 := 1#32
  let arg27 : BitVec 32 := Scf.iv c0_i32_19 c1_i32_20 k0_t35
  let v50 : Index := Scalar.indexCast arg27
  let c0_i32_33 : BitVec 32 := 0#32
  let c1_i32_35 : BitVec 32 := 1#32
  let arg28 : BitVec 32 := Scf.iv c0_i32_33 c1_i32_35 k0_t39
  let v51 : Index := Scalar.indexCast arg28
  let c0_i32_41 : BitVec 32 := 0#32
  let c1_i32_42 : BitVec 32 := 1#32
  let arg29 : BitVec 32 := Scf.iv c0_i32_41 c1_i32_42 k0_t40
  let c32_i32_46 : BitVec 32 := 32#32
  let v48 : BitVec 32 := Scalar.muli arg29 c32_i32_46
  let v49 : BitVec 32 := v48
  let v52 : Index := Scalar.indexCast v49
  let c0_47 : Index := 0#32
  ![v50.toNat, v51.toNat, v52.toNat, 0]
def k0_off61 (k0_t32 : Fin k0_t32_loop.trips) (k0_t35 : Fin k0_t35_loop.trips) : Fin 2 → Nat :=
  let c0_i32_11 : BitVec 32 := 0#32
  let c1_i32_13 : BitVec 32 := 1#32
  let arg26 : BitVec 32 := Scf.iv c0_i32_11 c1_i32_13 k0_t32
  let c5_i32_37 : BitVec 32 := 5#32
  let v24 : BitVec 32 := Scalar.muli arg26 c5_i32_37
  let c0_i32_19 : BitVec 32 := 0#32
  let c1_i32_20 : BitVec 32 := 1#32
  let arg27 : BitVec 32 := Scf.iv c0_i32_19 c1_i32_20 k0_t35
  let v25 : BitVec 32 := Scalar.addi v24 arg27
  let v26 : Index := Scalar.indexCast v25
  let c0_38 : Index := 0#32
  ![v26.toNat, 0]
def k0_off62 (k0_t35 : Fin k0_t35_loop.trips) : Fin 3 → Nat :=
  let c0_i32_19 : BitVec 32 := 0#32
  let c1_i32_20 : BitVec 32 := 1#32
  let arg27 : BitVec 32 := Scf.iv c0_i32_19 c1_i32_20 k0_t35
  let v31 : Index := Scalar.indexCast arg27
  let c0_39 : Index := 0#32
  let c0_40 : Index := 0#32
  ![v31.toNat, 0, 0]
@[reducible] def k0_t41_loop : Scf.Loop 32 :=
  let c0_i32_22 : BitVec 32 := 0#32
  let c5_i32_23 : BitVec 32 := 5#32
  let v18 : BitVec 32 := Scalar.addi c0_i32_22 c5_i32_23
  let c1_i32_24 : BitVec 32 := 1#32
  ⟨c0_i32_22, v18, c1_i32_24⟩
def k0_off63 (k0_t32 : Fin k0_t32_loop.trips) (k0_t41 : Fin k0_t41_loop.trips) : Fin 2 → Nat :=
  let c0_i32_11 : BitVec 32 := 0#32
  let c1_i32_13 : BitVec 32 := 1#32
  let arg26 : BitVec 32 := Scf.iv c0_i32_11 c1_i32_13 k0_t32
  let v20 : Index := Scalar.indexCast arg26
  let c0_i32_22 : BitVec 32 := 0#32
  let c1_i32_24 : BitVec 32 := 1#32
  let arg27 : BitVec 32 := Scf.iv c0_i32_22 c1_i32_24 k0_t41
  let c128_i32 : BitVec 32 := 128#32
  let v19 : BitVec 32 := Scalar.muli arg27 c128_i32
  let v21 : Index := Scalar.indexCast v19
  ![v20.toNat, v21.toNat]
def k0_cond1 (v12 : BitVec 1) : BitVec 1 :=
  let v13 : BitVec 32 := Scalar.extui v12
  let c0_i32_10 : BitVec 32 := 0#32
  let v14 : BitVec 1 := Scalar.cmpi .ne v13 c0_i32_10
  v14

def k0_off64 (k0_t32 : Fin k0_t32_loop.trips) (arg28 : BitVec 32) : Fin 2 → Nat :=
  let c0_i32_11 : BitVec 32 := 0#32
  let c1_i32_13 : BitVec 32 := 1#32
  let arg26 : BitVec 32 := Scf.iv c0_i32_11 c1_i32_13 k0_t32
  let v57 : Index := Scalar.indexCast arg26
  let c128_i32_56 : BitVec 32 := 128#32
  let v54 : BitVec 32 := Scalar.muli arg28 c128_i32_56
  let c1_i32_57 : BitVec 32 := 1#32
  let v55 : BitVec 32 := Scalar.subi v54 c1_i32_57
  let c0_i32_58 : BitVec 32 := 0#32
  let v56 : BitVec 32 := Scalar.maxsi v55 c0_i32_58
  let v58 : Index := Scalar.indexCast v56
  ![v57.toNat, v58.toNat]

def k0_chk3 (v12 : BitVec 1) (k0_t32 : Fin k0_t32_loop.trips) (arg28 : BitVec 32) : Prop :=
  (∀ (k0_h1 : k0_cond1 v12 = 1#1), ∀ a, (k0_off64 k0_t32 arg28) a + S1x1.size a ≤ S3x640.size a)
theorem k0_off64_inb : ∀ (v12 : BitVec 1) (k0_t32 : Fin k0_t32_loop.trips) (arg28 : BitVec 32) (k0_hw3 : k0_chk3 v12 k0_t32 arg28), ∀ (k0_h1 : k0_cond1 v12 = 1#1), ∀ a, (k0_off64 k0_t32 arg28) a + S1x1.size a ≤ S3x640.size a := fun v12 k0_t32 arg28 k0_hw3 k0_h1 => k0_hw3 k0_h1

@[reducible] def k0_t42_loop (k0_t41 : Fin k0_t41_loop.trips) (v23 : BitVec 32) : Scf.Loop 32 :=
  let c0_i32_40 : BitVec 32 := 0#32
  let c0_i32_22 : BitVec 32 := 0#32
  let c1_i32_24 : BitVec 32 := 1#32
  let arg27 : BitVec 32 := Scf.iv c0_i32_22 c1_i32_24 k0_t41
  let c1_i32_38 : BitVec 32 := 1#32
  let v36 : BitVec 32 := Scalar.addi arg27 c1_i32_38
  let v37 : BitVec 32 := Scalar.subi v36 v23
  let v38 : BitVec 32 := Scalar.subi v37 c0_i32_40
  let c1_i32_41 : BitVec 32 := 1#32
  let v40 : BitVec 32 := Scalar.divsi v38 c1_i32_41
  let v41 : BitVec 32 := Scalar.muli v40 c1_i32_41
  let v42 : BitVec 32 := Scalar.addi c0_i32_40 v41
  let c1_i32_42 : BitVec 32 := 1#32
  ⟨c0_i32_40, v42, c1_i32_42⟩

@[reducible] def k0_t43_loop : Scf.Loop 32 :=
  let c0_i32_56 : BitVec 32 := 0#32
  let c8_i32_57 : BitVec 32 := 8#32
  let v54 : BitVec 32 := Scalar.addi c0_i32_56 c8_i32_57
  let c1_i32_58 : BitVec 32 := 1#32
  ⟨c0_i32_56, v54, c1_i32_58⟩
def k0_off65 (k0_t41 : Fin k0_t41_loop.trips) (v23 : BitVec 32) (k0_t42 : Fin (k0_t42_loop k0_t41 v23).trips) (k0_t43 : Fin k0_t43_loop.trips) : Fin 4 → Nat :=
  let c0_i32_22 : BitVec 32 := 0#32
  let c1_i32_24 : BitVec 32 := 1#32
  let arg27 : BitVec 32 := Scf.iv c0_i32_22 c1_i32_24 k0_t41
  let c0_i32_40 : BitVec 32 := 0#32
  let c1_i32_42 : BitVec 32 := 1#32
  let arg28 : BitVec 32 := Scf.iv c0_i32_40 c1_i32_42 k0_t42
  let v53 : BitVec 32 := Scalar.subi arg27 arg28
  let v82 : Index := Scalar.indexCast v53
  let c0_i32_56 : BitVec 32 := 0#32
  let c1_i32_58 : BitVec 32 := 1#32
  let arg29 : BitVec 32 := Scf.iv c0_i32_56 c1_i32_58 k0_t43
  let v83 : Index := Scalar.indexCast arg29
  let c0_79 : Index := 0#32
  let c0_80 : Index := 0#32
  ![v82.toNat, v83.toNat, 0, 0]
def k0_off66 (k0_t41 : Fin k0_t41_loop.trips) (k0_t43 : Fin k0_t43_loop.trips) : Fin 4 → Nat :=
  let c0_i32_22 : BitVec 32 := 0#32
  let c1_i32_24 : BitVec 32 := 1#32
  let arg27 : BitVec 32 := Scf.iv c0_i32_22 c1_i32_24 k0_t41
  let v86 : Index := Scalar.indexCast arg27
  let c0_i32_56 : BitVec 32 := 0#32
  let c1_i32_58 : BitVec 32 := 1#32
  let arg29 : BitVec 32 := Scf.iv c0_i32_56 c1_i32_58 k0_t43
  let v87 : Index := Scalar.indexCast arg29
  let c0_81 : Index := 0#32
  let c0_82 : Index := 0#32
  ![v86.toNat, v87.toNat, 0, 0]
def k0_off67 (k0_t43 : Fin k0_t43_loop.trips) (c0_i32_84 : BitVec 32) : Fin 2 → Nat :=
  let c0_i32_56 : BitVec 32 := 0#32
  let c1_i32_58 : BitVec 32 := 1#32
  let arg29 : BitVec 32 := Scf.iv c0_i32_56 c1_i32_58 k0_t43
  let v92 : BitVec 32 := Scalar.addi c0_i32_84 arg29
  let c129_i32 : BitVec 32 := 129#32
  let v93 : BitVec 32 := Scalar.muli v92 c129_i32
  let v94 : Index := Scalar.indexCast v93
  let c0_85 : Index := 0#32
  ![v94.toNat, 0]
def k0_off68 (k0_t32 : Fin k0_t32_loop.trips) (k0_t41 : Fin k0_t41_loop.trips) : Fin 2 → Nat :=
  let c0_i32_11 : BitVec 32 := 0#32
  let c1_i32_13 : BitVec 32 := 1#32
  let arg26 : BitVec 32 := Scf.iv c0_i32_11 c1_i32_13 k0_t32
  let c5_i32_60 : BitVec 32 := 5#32
  let v55 : BitVec 32 := Scalar.muli arg26 c5_i32_60
  let c0_i32_22 : BitVec 32 := 0#32
  let c1_i32_24 : BitVec 32 := 1#32
  let arg27 : BitVec 32 := Scf.iv c0_i32_22 c1_i32_24 k0_t41
  let v56 : BitVec 32 := Scalar.addi v55 arg27
  let v57 : Index := Scalar.indexCast v56
  let c0_61 : Index := 0#32
  ![v57.toNat, 0]
def k0_off69 (k0_t41 : Fin k0_t41_loop.trips) (v23 : BitVec 32) (k0_t42 : Fin (k0_t42_loop k0_t41 v23).trips) : Fin 3 → Nat :=
  let c0_i32_22 : BitVec 32 := 0#32
  let c1_i32_24 : BitVec 32 := 1#32
  let arg27 : BitVec 32 := Scf.iv c0_i32_22 c1_i32_24 k0_t41
  let c0_i32_40 : BitVec 32 := 0#32
  let c1_i32_42 : BitVec 32 := 1#32
  let arg28 : BitVec 32 := Scf.iv c0_i32_40 c1_i32_42 k0_t42
  let v53 : BitVec 32 := Scalar.subi arg27 arg28
  let v67 : Index := Scalar.indexCast v53
  let c0_64 : Index := 0#32
  let c0_65 : Index := 0#32
  ![v67.toNat, 0, 0]
@[reducible] def k0_t44_loop : Scf.Loop 32 :=
  let c0_i32_71 : BitVec 32 := 0#32
  let c4_i32 : BitVec 32 := 4#32
  let v80 : BitVec 32 := Scalar.addi c0_i32_71 c4_i32
  let c1_i32_72 : BitVec 32 := 1#32
  ⟨c0_i32_71, v80, c1_i32_72⟩
@[reducible] def k0_t45_loop : Scf.Loop 32 :=
  let c0_i32_79 : BitVec 32 := 0#32
  let c4_i32_80 : BitVec 32 := 4#32
  let v82 : BitVec 32 := Scalar.addi c0_i32_79 c4_i32_80
  let c1_i32_81 : BitVec 32 := 1#32
  ⟨c0_i32_79, v82, c1_i32_81⟩
@[reducible] def k0_t46_loop : Scf.Loop 32 :=
  let c0_i32_83 : BitVec 32 := 0#32
  let c4_i32_84 : BitVec 32 := 4#32
  let v83 : BitVec 32 := Scalar.addi c0_i32_83 c4_i32_84
  let c1_i32_85 : BitVec 32 := 1#32
  ⟨c0_i32_83, v83, c1_i32_85⟩
@[reducible] def k0_t47_loop : Scf.Loop 32 :=
  let c0_i32_90 : BitVec 32 := 0#32
  let c3_i32_91 : BitVec 32 := 3#32
  let v87 : BitVec 32 := Scalar.addi c0_i32_90 c3_i32_91
  let c1_i32_92 : BitVec 32 := 1#32
  ⟨c0_i32_90, v87, c1_i32_92⟩
def k0_off70 (k0_t47 : Fin k0_t47_loop.trips) : Fin 3 → Nat :=
  let c0_i32_90 : BitVec 32 := 0#32
  let c1_i32_92 : BitVec 32 := 1#32
  let arg32 : BitVec 32 := Scf.iv c0_i32_90 c1_i32_92 k0_t47
  let v88 : Index := Scalar.indexCast arg32
  let c0_94 : Index := 0#32
  let c0_95 : Index := 0#32
  ![v88.toNat, 0, 0]
def k0_off71 (k0_t44 : Fin k0_t44_loop.trips) (k0_t45 : Fin k0_t45_loop.trips) (k0_t46 : Fin k0_t46_loop.trips) (k0_t47 : Fin k0_t47_loop.trips) (c1_i32_100 : BitVec 32) : Fin 2 → Nat :=
  let c0_i32_90 : BitVec 32 := 0#32
  let c1_i32_92 : BitVec 32 := 1#32
  let arg32 : BitVec 32 := Scf.iv c0_i32_90 c1_i32_92 k0_t47
  let c8_i32_101 : BitVec 32 := 8#32
  let v99 : BitVec 32 := Scalar.muli arg32 c8_i32_101
  let c129_i32 : BitVec 32 := 129#32
  let v100 : BitVec 32 := Scalar.muli v99 c129_i32
  let c3_i32_87 : BitVec 32 := 3#32
  let c0_i32_71 : BitVec 32 := 0#32
  let c1_i32_72 : BitVec 32 := 1#32
  let arg29 : BitVec 32 := Scf.iv c0_i32_71 c1_i32_72 k0_t44
  let v84 : BitVec 32 := Scalar.subi c3_i32_87 arg29
  let c32_i32 : BitVec 32 := 32#32
  let v101 : BitVec 32 := Scalar.muli v84 c32_i32
  let v102 : BitVec 32 := Scalar.addi v100 v101
  let c2_i32 : BitVec 32 := 2#32
  let c3_i32_89 : BitVec 32 := 3#32
  let c0_i32_83 : BitVec 32 := 0#32
  let c1_i32_85 : BitVec 32 := 1#32
  let arg31 : BitVec 32 := Scf.iv c0_i32_83 c1_i32_85 k0_t46
  let v86 : BitVec 32 := Scalar.subi c3_i32_89 arg31
  let v97 : BitVec 32 := Scalar.muli c2_i32 v86
  let v98 : BitVec 32 := Scalar.addi v97 c1_i32_100
  let c4_i32_102 : BitVec 32 := 4#32
  let v103 : BitVec 32 := Scalar.muli v98 c4_i32_102
  let v104 : BitVec 32 := Scalar.addi v102 v103
  let c3_i32_88 : BitVec 32 := 3#32
  let c0_i32_79 : BitVec 32 := 0#32
  let c1_i32_81 : BitVec 32 := 1#32
  let arg30 : BitVec 32 := Scf.iv c0_i32_79 c1_i32_81 k0_t45
  let v85 : BitVec 32 := Scalar.subi c3_i32_88 arg30
  let v105 : BitVec 32 := Scalar.addi v104 v85
  let v106 : Index := Scalar.indexCast v105
  let c0_103 : Index := 0#32
  ![v106.toNat, 0]
def k0_off72 (k0_t44 : Fin k0_t44_loop.trips) (k0_t45 : Fin k0_t45_loop.trips) (k0_t46 : Fin k0_t46_loop.trips) (c1_i32_100 : BitVec 32) : Fin 2 → Nat :=
  let c3_i32_87 : BitVec 32 := 3#32
  let c0_i32_71 : BitVec 32 := 0#32
  let c1_i32_72 : BitVec 32 := 1#32
  let arg29 : BitVec 32 := Scf.iv c0_i32_71 c1_i32_72 k0_t44
  let v84 : BitVec 32 := Scalar.subi c3_i32_87 arg29
  let c32_i32_104 : BitVec 32 := 32#32
  let v109 : BitVec 32 := Scalar.muli v84 c32_i32_104
  let c3_i32_88 : BitVec 32 := 3#32
  let c0_i32_79 : BitVec 32 := 0#32
  let c1_i32_81 : BitVec 32 := 1#32
  let arg30 : BitVec 32 := Scf.iv c0_i32_79 c1_i32_81 k0_t45
  let v85 : BitVec 32 := Scalar.subi c3_i32_88 arg30
  let c8_i32_105 : BitVec 32 := 8#32
  let v110 : BitVec 32 := Scalar.muli v85 c8_i32_105
  let v111 : BitVec 32 := Scalar.addi v109 v110
  let c2_i32 : BitVec 32 := 2#32
  let c3_i32_89 : BitVec 32 := 3#32
  let c0_i32_83 : BitVec 32 := 0#32
  let c1_i32_85 : BitVec 32 := 1#32
  let arg31 : BitVec 32 := Scf.iv c0_i32_83 c1_i32_85 k0_t46
  let v86 : BitVec 32 := Scalar.subi c3_i32_89 arg31
  let v97 : BitVec 32 := Scalar.muli c2_i32 v86
  let v98 : BitVec 32 := Scalar.addi v97 c1_i32_100
  let v112 : BitVec 32 := Scalar.addi v111 v98
  let v113 : Index := Scalar.indexCast v112
  let c0_106 : Index := 0#32
  ![v113.toNat, 0]
def k0_off73 (k0_t44 : Fin k0_t44_loop.trips) (k0_t45 : Fin k0_t45_loop.trips) (k0_t46 : Fin k0_t46_loop.trips) (k0_t47 : Fin k0_t47_loop.trips) : Fin 2 → Nat :=
  let c0_i32_90 : BitVec 32 := 0#32
  let c1_i32_92 : BitVec 32 := 1#32
  let arg32 : BitVec 32 := Scf.iv c0_i32_90 c1_i32_92 k0_t47
  let c8_i32_134 : BitVec 32 := 8#32
  let v198 : BitVec 32 := Scalar.muli arg32 c8_i32_134
  let c65_i32 : BitVec 32 := 65#32
  let v199 : BitVec 32 := Scalar.muli v198 c65_i32
  let c3_i32_87 : BitVec 32 := 3#32
  let c0_i32_71 : BitVec 32 := 0#32
  let c1_i32_72 : BitVec 32 := 1#32
  let arg29 : BitVec 32 := Scf.iv c0_i32_71 c1_i32_72 k0_t44
  let v84 : BitVec 32 := Scalar.subi c3_i32_87 arg29
  let c16_i32 : BitVec 32 := 16#32
  let v193 : BitVec 32 := Scalar.muli v84 c16_i32
  let c3_i32_88 : BitVec 32 := 3#32
  let c0_i32_79 : BitVec 32 := 0#32
  let c1_i32_81 : BitVec 32 := 1#32
  let arg30 : BitVec 32 := Scf.iv c0_i32_79 c1_i32_81 k0_t45
  let v85 : BitVec 32 := Scalar.subi c3_i32_88 arg30
  let c4_i32_133 : BitVec 32 := 4#32
  let v194 : BitVec 32 := Scalar.muli v85 c4_i32_133
  let v195 : BitVec 32 := Scalar.addi v193 v194
  let c3_i32_89 : BitVec 32 := 3#32
  let c0_i32_83 : BitVec 32 := 0#32
  let c1_i32_85 : BitVec 32 := 1#32
  let arg31 : BitVec 32 := Scf.iv c0_i32_83 c1_i32_85 k0_t46
  let v86 : BitVec 32 := Scalar.subi c3_i32_89 arg31
  let v196 : BitVec 32 := Scalar.addi v195 v86
  let v200 : BitVec 32 := Scalar.addi v199 v196
  let v201 : Index := Scalar.indexCast v200
  let c0_135 : Index := 0#32
  ![v201.toNat, 0]
@[reducible] def k0_t48_loop : Scf.Loop 32 :=
  let c0_i32_75 : BitVec 32 := 0#32
  let c8_i32_76 : BitVec 32 := 8#32
  let v81 : BitVec 32 := Scalar.addi c0_i32_75 c8_i32_76
  let c1_i32_77 : BitVec 32 := 1#32
  ⟨c0_i32_75, v81, c1_i32_77⟩
def k0_off74 (k0_t48 : Fin k0_t48_loop.trips) (c0_i32_79 : BitVec 32) : Fin 2 → Nat :=
  let c0_i32_75 : BitVec 32 := 0#32
  let c1_i32_77 : BitVec 32 := 1#32
  let arg29 : BitVec 32 := Scf.iv c0_i32_75 c1_i32_77 k0_t48
  let v82 : BitVec 32 := Scalar.addi c0_i32_79 arg29
  let c65_i32 : BitVec 32 := 65#32
  let v83 : BitVec 32 := Scalar.muli v82 c65_i32
  let v84 : Index := Scalar.indexCast v83
  let c0_80 : Index := 0#32
  ![v84.toNat, 0]
def k0_off75 (k0_t48 : Fin k0_t48_loop.trips) : Fin 3 → Nat :=
  let c0_i32_75 : BitVec 32 := 0#32
  let c1_i32_77 : BitVec 32 := 1#32
  let arg29 : BitVec 32 := Scf.iv c0_i32_75 c1_i32_77 k0_t48
  let v97 : Index := Scalar.indexCast arg29
  let c0_86 : Index := 0#32
  let c0_87 : Index := 0#32
  ![v97.toNat, 0, 0]
def k0_off76 (k0_t41 : Fin k0_t41_loop.trips) (v23 : BitVec 32) (k0_t42 : Fin (k0_t42_loop k0_t41 v23).trips) (k0_t48 : Fin k0_t48_loop.trips) : Fin 4 → Nat :=
  let c0_i32_22 : BitVec 32 := 0#32
  let c1_i32_24 : BitVec 32 := 1#32
  let arg27 : BitVec 32 := Scf.iv c0_i32_22 c1_i32_24 k0_t41
  let c0_i32_40 : BitVec 32 := 0#32
  let c1_i32_42 : BitVec 32 := 1#32
  let arg28 : BitVec 32 := Scf.iv c0_i32_40 c1_i32_42 k0_t42
  let v53 : BitVec 32 := Scalar.subi arg27 arg28
  let v100 : Index := Scalar.indexCast v53
  let c0_i32_75 : BitVec 32 := 0#32
  let c1_i32_77 : BitVec 32 := 1#32
  let arg29 : BitVec 32 := Scf.iv c0_i32_75 c1_i32_77 k0_t48
  let v101 : Index := Scalar.indexCast arg29
  let c0_88 : Index := 0#32
  let c0_89 : Index := 0#32
  ![v100.toNat, v101.toNat, 0, 0]
@[reducible] def k0_t49_loop (k0_t41 : Fin k0_t41_loop.trips) (v23 : BitVec 32) : Scf.Loop 32 :=
  let c0_i32_40 : BitVec 32 := 0#32
  let c0_i32_22 : BitVec 32 := 0#32
  let c1_i32_24 : BitVec 32 := 1#32
  let arg27 : BitVec 32 := Scf.iv c0_i32_22 c1_i32_24 k0_t41
  let c1_i32_38 : BitVec 32 := 1#32
  let v36 : BitVec 32 := Scalar.addi arg27 c1_i32_38
  let v37 : BitVec 32 := Scalar.subi v36 v23
  let v38 : BitVec 32 := Scalar.subi v37 c0_i32_40
  let c1_i32_41 : BitVec 32 := 1#32
  let v40 : BitVec 32 := Scalar.divsi v38 c1_i32_41
  let v41 : BitVec 32 := Scalar.muli v40 c1_i32_41
  let v42 : BitVec 32 := Scalar.addi c0_i32_40 v41
  let v39 : BitVec 32 := Scalar.addi c0_i32_40 v38
  let c1_i32_43 : BitVec 32 := 1#32
  ⟨v42, v39, c1_i32_43⟩
@[reducible] def k0_t50_loop : Scf.Loop 32 :=
  let c0_i32_56 : BitVec 32 := 0#32
  let c8_i32_57 : BitVec 32 := 8#32
  let v54 : BitVec 32 := Scalar.addi c0_i32_56 c8_i32_57
  let c1_i32_58 : BitVec 32 := 1#32
  ⟨c0_i32_56, v54, c1_i32_58⟩
def k0_off77 (k0_t41 : Fin k0_t41_loop.trips) (v23 : BitVec 32) (k0_t49 : Fin (k0_t49_loop k0_t41 v23).trips) (k0_t50 : Fin k0_t50_loop.trips) : Fin 4 → Nat :=
  let c0_i32_22 : BitVec 32 := 0#32
  let c1_i32_24 : BitVec 32 := 1#32
  let arg27 : BitVec 32 := Scf.iv c0_i32_22 c1_i32_24 k0_t41
  let c0_i32_40 : BitVec 32 := 0#32
  let c1_i32_38 : BitVec 32 := 1#32
  let v36 : BitVec 32 := Scalar.addi arg27 c1_i32_38
  let v37 : BitVec 32 := Scalar.subi v36 v23
  let v38 : BitVec 32 := Scalar.subi v37 c0_i32_40
  let c1_i32_41 : BitVec 32 := 1#32
  let v40 : BitVec 32 := Scalar.divsi v38 c1_i32_41
  let v41 : BitVec 32 := Scalar.muli v40 c1_i32_41
  let v42 : BitVec 32 := Scalar.addi c0_i32_40 v41
  let c1_i32_43 : BitVec 32 := 1#32
  let arg28 : BitVec 32 := Scf.iv v42 c1_i32_43 k0_t49
  let v53 : BitVec 32 := Scalar.subi arg27 arg28
  let v82 : Index := Scalar.indexCast v53
  let c0_i32_56 : BitVec 32 := 0#32
  let c1_i32_58 : BitVec 32 := 1#32
  let arg29 : BitVec 32 := Scf.iv c0_i32_56 c1_i32_58 k0_t50
  let v83 : Index := Scalar.indexCast arg29
  let c0_79 : Index := 0#32
  let c0_80 : Index := 0#32
  ![v82.toNat, v83.toNat, 0, 0]
def k0_off78 (k0_t41 : Fin k0_t41_loop.trips) (k0_t50 : Fin k0_t50_loop.trips) : Fin 4 → Nat :=
  let c0_i32_22 : BitVec 32 := 0#32
  let c1_i32_24 : BitVec 32 := 1#32
  let arg27 : BitVec 32 := Scf.iv c0_i32_22 c1_i32_24 k0_t41
  let v86 : Index := Scalar.indexCast arg27
  let c0_i32_56 : BitVec 32 := 0#32
  let c1_i32_58 : BitVec 32 := 1#32
  let arg29 : BitVec 32 := Scf.iv c0_i32_56 c1_i32_58 k0_t50
  let v87 : Index := Scalar.indexCast arg29
  let c0_81 : Index := 0#32
  let c0_82 : Index := 0#32
  ![v86.toNat, v87.toNat, 0, 0]
def k0_off79 (k0_t50 : Fin k0_t50_loop.trips) (c0_i32_84 : BitVec 32) : Fin 2 → Nat :=
  let c0_i32_56 : BitVec 32 := 0#32
  let c1_i32_58 : BitVec 32 := 1#32
  let arg29 : BitVec 32 := Scf.iv c0_i32_56 c1_i32_58 k0_t50
  let v92 : BitVec 32 := Scalar.addi c0_i32_84 arg29
  let c129_i32 : BitVec 32 := 129#32
  let v93 : BitVec 32 := Scalar.muli v92 c129_i32
  let v94 : Index := Scalar.indexCast v93
  let c0_85 : Index := 0#32
  ![v94.toNat, 0]
def k0_off80 (k0_t32 : Fin k0_t32_loop.trips) (k0_t41 : Fin k0_t41_loop.trips) : Fin 2 → Nat :=
  let c0_i32_11 : BitVec 32 := 0#32
  let c1_i32_13 : BitVec 32 := 1#32
  let arg26 : BitVec 32 := Scf.iv c0_i32_11 c1_i32_13 k0_t32
  let c5_i32_60 : BitVec 32 := 5#32
  let v55 : BitVec 32 := Scalar.muli arg26 c5_i32_60
  let c0_i32_22 : BitVec 32 := 0#32
  let c1_i32_24 : BitVec 32 := 1#32
  let arg27 : BitVec 32 := Scf.iv c0_i32_22 c1_i32_24 k0_t41
  let v56 : BitVec 32 := Scalar.addi v55 arg27
  let v57 : Index := Scalar.indexCast v56
  let c0_61 : Index := 0#32
  ![v57.toNat, 0]
def k0_off81 (k0_t41 : Fin k0_t41_loop.trips) (v23 : BitVec 32) (k0_t49 : Fin (k0_t49_loop k0_t41 v23).trips) : Fin 3 → Nat :=
  let c0_i32_22 : BitVec 32 := 0#32
  let c1_i32_24 : BitVec 32 := 1#32
  let arg27 : BitVec 32 := Scf.iv c0_i32_22 c1_i32_24 k0_t41
  let c0_i32_40 : BitVec 32 := 0#32
  let c1_i32_38 : BitVec 32 := 1#32
  let v36 : BitVec 32 := Scalar.addi arg27 c1_i32_38
  let v37 : BitVec 32 := Scalar.subi v36 v23
  let v38 : BitVec 32 := Scalar.subi v37 c0_i32_40
  let c1_i32_41 : BitVec 32 := 1#32
  let v40 : BitVec 32 := Scalar.divsi v38 c1_i32_41
  let v41 : BitVec 32 := Scalar.muli v40 c1_i32_41
  let v42 : BitVec 32 := Scalar.addi c0_i32_40 v41
  let c1_i32_43 : BitVec 32 := 1#32
  let arg28 : BitVec 32 := Scf.iv v42 c1_i32_43 k0_t49
  let v53 : BitVec 32 := Scalar.subi arg27 arg28
  let v67 : Index := Scalar.indexCast v53
  let c0_64 : Index := 0#32
  let c0_65 : Index := 0#32
  ![v67.toNat, 0, 0]
@[reducible] def k0_t51_loop : Scf.Loop 32 :=
  let c0_i32_71 : BitVec 32 := 0#32
  let c4_i32 : BitVec 32 := 4#32
  let v80 : BitVec 32 := Scalar.addi c0_i32_71 c4_i32
  let c1_i32_72 : BitVec 32 := 1#32
  ⟨c0_i32_71, v80, c1_i32_72⟩
@[reducible] def k0_t52_loop : Scf.Loop 32 :=
  let c0_i32_79 : BitVec 32 := 0#32
  let c4_i32_80 : BitVec 32 := 4#32
  let v82 : BitVec 32 := Scalar.addi c0_i32_79 c4_i32_80
  let c1_i32_81 : BitVec 32 := 1#32
  ⟨c0_i32_79, v82, c1_i32_81⟩
@[reducible] def k0_t53_loop : Scf.Loop 32 :=
  let c0_i32_83 : BitVec 32 := 0#32
  let c4_i32_84 : BitVec 32 := 4#32
  let v83 : BitVec 32 := Scalar.addi c0_i32_83 c4_i32_84
  let c1_i32_85 : BitVec 32 := 1#32
  ⟨c0_i32_83, v83, c1_i32_85⟩
@[reducible] def k0_t54_loop : Scf.Loop 32 :=
  let c0_i32_90 : BitVec 32 := 0#32
  let c3_i32_91 : BitVec 32 := 3#32
  let v87 : BitVec 32 := Scalar.addi c0_i32_90 c3_i32_91
  let c1_i32_92 : BitVec 32 := 1#32
  ⟨c0_i32_90, v87, c1_i32_92⟩
def k0_off82 (k0_t54 : Fin k0_t54_loop.trips) : Fin 3 → Nat :=
  let c0_i32_90 : BitVec 32 := 0#32
  let c1_i32_92 : BitVec 32 := 1#32
  let arg32 : BitVec 32 := Scf.iv c0_i32_90 c1_i32_92 k0_t54
  let v88 : Index := Scalar.indexCast arg32
  let c0_94 : Index := 0#32
  let c0_95 : Index := 0#32
  ![v88.toNat, 0, 0]
def k0_off83 (k0_t51 : Fin k0_t51_loop.trips) (k0_t52 : Fin k0_t52_loop.trips) (k0_t53 : Fin k0_t53_loop.trips) (k0_t54 : Fin k0_t54_loop.trips) (c1_i32_100 : BitVec 32) : Fin 2 → Nat :=
  let c0_i32_90 : BitVec 32 := 0#32
  let c1_i32_92 : BitVec 32 := 1#32
  let arg32 : BitVec 32 := Scf.iv c0_i32_90 c1_i32_92 k0_t54
  let c8_i32_101 : BitVec 32 := 8#32
  let v99 : BitVec 32 := Scalar.muli arg32 c8_i32_101
  let c129_i32 : BitVec 32 := 129#32
  let v100 : BitVec 32 := Scalar.muli v99 c129_i32
  let c3_i32_87 : BitVec 32 := 3#32
  let c0_i32_71 : BitVec 32 := 0#32
  let c1_i32_72 : BitVec 32 := 1#32
  let arg29 : BitVec 32 := Scf.iv c0_i32_71 c1_i32_72 k0_t51
  let v84 : BitVec 32 := Scalar.subi c3_i32_87 arg29
  let c32_i32 : BitVec 32 := 32#32
  let v101 : BitVec 32 := Scalar.muli v84 c32_i32
  let v102 : BitVec 32 := Scalar.addi v100 v101
  let c2_i32 : BitVec 32 := 2#32
  let c3_i32_89 : BitVec 32 := 3#32
  let c0_i32_83 : BitVec 32 := 0#32
  let c1_i32_85 : BitVec 32 := 1#32
  let arg31 : BitVec 32 := Scf.iv c0_i32_83 c1_i32_85 k0_t53
  let v86 : BitVec 32 := Scalar.subi c3_i32_89 arg31
  let v97 : BitVec 32 := Scalar.muli c2_i32 v86
  let v98 : BitVec 32 := Scalar.addi v97 c1_i32_100
  let c4_i32_102 : BitVec 32 := 4#32
  let v103 : BitVec 32 := Scalar.muli v98 c4_i32_102
  let v104 : BitVec 32 := Scalar.addi v102 v103
  let c3_i32_88 : BitVec 32 := 3#32
  let c0_i32_79 : BitVec 32 := 0#32
  let c1_i32_81 : BitVec 32 := 1#32
  let arg30 : BitVec 32 := Scf.iv c0_i32_79 c1_i32_81 k0_t52
  let v85 : BitVec 32 := Scalar.subi c3_i32_88 arg30
  let v105 : BitVec 32 := Scalar.addi v104 v85
  let v106 : Index := Scalar.indexCast v105
  let c0_103 : Index := 0#32
  ![v106.toNat, 0]
def k0_off84 (k0_t51 : Fin k0_t51_loop.trips) (k0_t52 : Fin k0_t52_loop.trips) (k0_t53 : Fin k0_t53_loop.trips) (c1_i32_100 : BitVec 32) : Fin 2 → Nat :=
  let c3_i32_87 : BitVec 32 := 3#32
  let c0_i32_71 : BitVec 32 := 0#32
  let c1_i32_72 : BitVec 32 := 1#32
  let arg29 : BitVec 32 := Scf.iv c0_i32_71 c1_i32_72 k0_t51
  let v84 : BitVec 32 := Scalar.subi c3_i32_87 arg29
  let c32_i32_104 : BitVec 32 := 32#32
  let v109 : BitVec 32 := Scalar.muli v84 c32_i32_104
  let c3_i32_88 : BitVec 32 := 3#32
  let c0_i32_79 : BitVec 32 := 0#32
  let c1_i32_81 : BitVec 32 := 1#32
  let arg30 : BitVec 32 := Scf.iv c0_i32_79 c1_i32_81 k0_t52
  let v85 : BitVec 32 := Scalar.subi c3_i32_88 arg30
  let c8_i32_105 : BitVec 32 := 8#32
  let v110 : BitVec 32 := Scalar.muli v85 c8_i32_105
  let v111 : BitVec 32 := Scalar.addi v109 v110
  let c2_i32 : BitVec 32 := 2#32
  let c3_i32_89 : BitVec 32 := 3#32
  let c0_i32_83 : BitVec 32 := 0#32
  let c1_i32_85 : BitVec 32 := 1#32
  let arg31 : BitVec 32 := Scf.iv c0_i32_83 c1_i32_85 k0_t53
  let v86 : BitVec 32 := Scalar.subi c3_i32_89 arg31
  let v97 : BitVec 32 := Scalar.muli c2_i32 v86
  let v98 : BitVec 32 := Scalar.addi v97 c1_i32_100
  let v112 : BitVec 32 := Scalar.addi v111 v98
  let v113 : Index := Scalar.indexCast v112
  let c0_106 : Index := 0#32
  ![v113.toNat, 0]
def k0_off85 (k0_t51 : Fin k0_t51_loop.trips) (k0_t52 : Fin k0_t52_loop.trips) (k0_t53 : Fin k0_t53_loop.trips) (k0_t54 : Fin k0_t54_loop.trips) : Fin 2 → Nat :=
  let c0_i32_90 : BitVec 32 := 0#32
  let c1_i32_92 : BitVec 32 := 1#32
  let arg32 : BitVec 32 := Scf.iv c0_i32_90 c1_i32_92 k0_t54
  let c8_i32_134 : BitVec 32 := 8#32
  let v198 : BitVec 32 := Scalar.muli arg32 c8_i32_134
  let c65_i32 : BitVec 32 := 65#32
  let v199 : BitVec 32 := Scalar.muli v198 c65_i32
  let c3_i32_87 : BitVec 32 := 3#32
  let c0_i32_71 : BitVec 32 := 0#32
  let c1_i32_72 : BitVec 32 := 1#32
  let arg29 : BitVec 32 := Scf.iv c0_i32_71 c1_i32_72 k0_t51
  let v84 : BitVec 32 := Scalar.subi c3_i32_87 arg29
  let c16_i32 : BitVec 32 := 16#32
  let v193 : BitVec 32 := Scalar.muli v84 c16_i32
  let c3_i32_88 : BitVec 32 := 3#32
  let c0_i32_79 : BitVec 32 := 0#32
  let c1_i32_81 : BitVec 32 := 1#32
  let arg30 : BitVec 32 := Scf.iv c0_i32_79 c1_i32_81 k0_t52
  let v85 : BitVec 32 := Scalar.subi c3_i32_88 arg30
  let c4_i32_133 : BitVec 32 := 4#32
  let v194 : BitVec 32 := Scalar.muli v85 c4_i32_133
  let v195 : BitVec 32 := Scalar.addi v193 v194
  let c3_i32_89 : BitVec 32 := 3#32
  let c0_i32_83 : BitVec 32 := 0#32
  let c1_i32_85 : BitVec 32 := 1#32
  let arg31 : BitVec 32 := Scf.iv c0_i32_83 c1_i32_85 k0_t53
  let v86 : BitVec 32 := Scalar.subi c3_i32_89 arg31
  let v196 : BitVec 32 := Scalar.addi v195 v86
  let v200 : BitVec 32 := Scalar.addi v199 v196
  let v201 : Index := Scalar.indexCast v200
  let c0_135 : Index := 0#32
  ![v201.toNat, 0]
@[reducible] def k0_t55_loop : Scf.Loop 32 :=
  let c0_i32_75 : BitVec 32 := 0#32
  let c8_i32_76 : BitVec 32 := 8#32
  let v81 : BitVec 32 := Scalar.addi c0_i32_75 c8_i32_76
  let c1_i32_77 : BitVec 32 := 1#32
  ⟨c0_i32_75, v81, c1_i32_77⟩
def k0_off86 (k0_t55 : Fin k0_t55_loop.trips) (c0_i32_79 : BitVec 32) : Fin 2 → Nat :=
  let c0_i32_75 : BitVec 32 := 0#32
  let c1_i32_77 : BitVec 32 := 1#32
  let arg29 : BitVec 32 := Scf.iv c0_i32_75 c1_i32_77 k0_t55
  let v82 : BitVec 32 := Scalar.addi c0_i32_79 arg29
  let c65_i32 : BitVec 32 := 65#32
  let v83 : BitVec 32 := Scalar.muli v82 c65_i32
  let v84 : Index := Scalar.indexCast v83
  let c0_80 : Index := 0#32
  ![v84.toNat, 0]
def k0_off87 (k0_t55 : Fin k0_t55_loop.trips) : Fin 3 → Nat :=
  let c0_i32_75 : BitVec 32 := 0#32
  let c1_i32_77 : BitVec 32 := 1#32
  let arg29 : BitVec 32 := Scf.iv c0_i32_75 c1_i32_77 k0_t55
  let v97 : Index := Scalar.indexCast arg29
  let c0_86 : Index := 0#32
  let c0_87 : Index := 0#32
  ![v97.toNat, 0, 0]
def k0_off88 (k0_t41 : Fin k0_t41_loop.trips) (v23 : BitVec 32) (k0_t49 : Fin (k0_t49_loop k0_t41 v23).trips) (k0_t55 : Fin k0_t55_loop.trips) : Fin 4 → Nat :=
  let c0_i32_22 : BitVec 32 := 0#32
  let c1_i32_24 : BitVec 32 := 1#32
  let arg27 : BitVec 32 := Scf.iv c0_i32_22 c1_i32_24 k0_t41
  let c0_i32_40 : BitVec 32 := 0#32
  let c1_i32_38 : BitVec 32 := 1#32
  let v36 : BitVec 32 := Scalar.addi arg27 c1_i32_38
  let v37 : BitVec 32 := Scalar.subi v36 v23
  let v38 : BitVec 32 := Scalar.subi v37 c0_i32_40
  let c1_i32_41 : BitVec 32 := 1#32
  let v40 : BitVec 32 := Scalar.divsi v38 c1_i32_41
  let v41 : BitVec 32 := Scalar.muli v40 c1_i32_41
  let v42 : BitVec 32 := Scalar.addi c0_i32_40 v41
  let c1_i32_43 : BitVec 32 := 1#32
  let arg28 : BitVec 32 := Scf.iv v42 c1_i32_43 k0_t49
  let v53 : BitVec 32 := Scalar.subi arg27 arg28
  let v100 : Index := Scalar.indexCast v53
  let c0_i32_75 : BitVec 32 := 0#32
  let c1_i32_77 : BitVec 32 := 1#32
  let arg29 : BitVec 32 := Scf.iv c0_i32_75 c1_i32_77 k0_t55
  let v101 : Index := Scalar.indexCast arg29
  let c0_88 : Index := 0#32
  let c0_89 : Index := 0#32
  ![v100.toNat, v101.toNat, 0, 0]

def k0_chk4 (v12 : BitVec 1) (k0_t41 : Fin k0_t41_loop.trips) (v23 : BitVec 32) : Prop :=
  (∀ (k0_h1 : k0_cond1 v12 = 1#1), (k0_t42_loop k0_t41 v23).OK) ∧
  (∀ (k0_t42 : Fin (k0_t42_loop k0_t41 v23).trips) (k0_t43 : Fin k0_t43_loop.trips), ∀ (k0_h1 : k0_cond1 v12 = 1#1), ∀ a, (k0_off65 k0_t41 v23 k0_t42 k0_t43) a + S1x1x128x128.size a ≤ S5x8x128x128.size a) ∧
  (∀ k0_t42 : Fin (k0_t42_loop k0_t41 v23).trips, ∀ (k0_h1 : k0_cond1 v12 = 1#1), ∀ a, (k0_off69 k0_t41 v23 k0_t42) a + S1x128x128.size a ≤ S5x128x128.size a) ∧
  (∀ (k0_t42 : Fin (k0_t42_loop k0_t41 v23).trips) (k0_t48 : Fin k0_t48_loop.trips), ∀ (k0_h1 : k0_cond1 v12 = 1#1), ∀ a, (k0_off76 k0_t41 v23 k0_t42 k0_t48) a + S1x1x128x128.size a ≤ S5x8x128x128.size a) ∧
  (∀ (k0_h1 : k0_cond1 v12 = 1#1), (k0_t49_loop k0_t41 v23).OK) ∧
  (∀ (k0_t49 : Fin (k0_t49_loop k0_t41 v23).trips) (k0_t50 : Fin k0_t50_loop.trips), ∀ (k0_h1 : k0_cond1 v12 = 1#1), ∀ a, (k0_off77 k0_t41 v23 k0_t49 k0_t50) a + S1x1x128x128.size a ≤ S5x8x128x128.size a) ∧
  (∀ k0_t49 : Fin (k0_t49_loop k0_t41 v23).trips, ∀ (k0_h1 : k0_cond1 v12 = 1#1), ∀ a, (k0_off81 k0_t41 v23 k0_t49) a + S1x128x128.size a ≤ S5x128x128.size a) ∧
  (∀ (k0_t49 : Fin (k0_t49_loop k0_t41 v23).trips) (k0_t55 : Fin k0_t55_loop.trips), ∀ (k0_h1 : k0_cond1 v12 = 1#1), ∀ a, (k0_off88 k0_t41 v23 k0_t49 k0_t55) a + S1x1x128x128.size a ≤ S5x8x128x128.size a)
theorem k0_t42_ok : ∀ (v12 : BitVec 1) (k0_t41 : Fin k0_t41_loop.trips) (v23 : BitVec 32) (k0_hw4 : k0_chk4 v12 k0_t41 v23), ∀ (k0_h1 : k0_cond1 v12 = 1#1), (k0_t42_loop k0_t41 v23).OK := fun v12 k0_t41 v23 k0_hw4 k0_h1 => k0_hw4.1 k0_h1
theorem k0_off65_inb : ∀ (v12 : BitVec 1) (k0_t41 : Fin k0_t41_loop.trips) (v23 : BitVec 32) (k0_hw4 : k0_chk4 v12 k0_t41 v23) (k0_t42 : Fin (k0_t42_loop k0_t41 v23).trips) (k0_t43 : Fin k0_t43_loop.trips), ∀ (k0_h1 : k0_cond1 v12 = 1#1), ∀ a, (k0_off65 k0_t41 v23 k0_t42 k0_t43) a + S1x1x128x128.size a ≤ S5x8x128x128.size a := fun v12 k0_t41 v23 k0_hw4 k0_t42 k0_t43 k0_h1 => k0_hw4.2.1 k0_t42 k0_t43 k0_h1
theorem k0_off69_inb : ∀ (v12 : BitVec 1) (k0_t41 : Fin k0_t41_loop.trips) (v23 : BitVec 32) (k0_hw4 : k0_chk4 v12 k0_t41 v23) (k0_t42 : Fin (k0_t42_loop k0_t41 v23).trips), ∀ (k0_h1 : k0_cond1 v12 = 1#1), ∀ a, (k0_off69 k0_t41 v23 k0_t42) a + S1x128x128.size a ≤ S5x128x128.size a := fun v12 k0_t41 v23 k0_hw4 k0_t42 k0_h1 => k0_hw4.2.2.1 k0_t42 k0_h1
theorem k0_off76_inb : ∀ (v12 : BitVec 1) (k0_t41 : Fin k0_t41_loop.trips) (v23 : BitVec 32) (k0_hw4 : k0_chk4 v12 k0_t41 v23) (k0_t42 : Fin (k0_t42_loop k0_t41 v23).trips) (k0_t48 : Fin k0_t48_loop.trips), ∀ (k0_h1 : k0_cond1 v12 = 1#1), ∀ a, (k0_off76 k0_t41 v23 k0_t42 k0_t48) a + S1x1x128x128.size a ≤ S5x8x128x128.size a := fun v12 k0_t41 v23 k0_hw4 k0_t42 k0_t48 k0_h1 => k0_hw4.2.2.2.1 k0_t42 k0_t48 k0_h1
theorem k0_t49_ok : ∀ (v12 : BitVec 1) (k0_t41 : Fin k0_t41_loop.trips) (v23 : BitVec 32) (k0_hw4 : k0_chk4 v12 k0_t41 v23), ∀ (k0_h1 : k0_cond1 v12 = 1#1), (k0_t49_loop k0_t41 v23).OK := fun v12 k0_t41 v23 k0_hw4 k0_h1 => k0_hw4.2.2.2.2.1 k0_h1
theorem k0_off77_inb : ∀ (v12 : BitVec 1) (k0_t41 : Fin k0_t41_loop.trips) (v23 : BitVec 32) (k0_hw4 : k0_chk4 v12 k0_t41 v23) (k0_t49 : Fin (k0_t49_loop k0_t41 v23).trips) (k0_t50 : Fin k0_t50_loop.trips), ∀ (k0_h1 : k0_cond1 v12 = 1#1), ∀ a, (k0_off77 k0_t41 v23 k0_t49 k0_t50) a + S1x1x128x128.size a ≤ S5x8x128x128.size a := fun v12 k0_t41 v23 k0_hw4 k0_t49 k0_t50 k0_h1 => k0_hw4.2.2.2.2.2.1 k0_t49 k0_t50 k0_h1
theorem k0_off81_inb : ∀ (v12 : BitVec 1) (k0_t41 : Fin k0_t41_loop.trips) (v23 : BitVec 32) (k0_hw4 : k0_chk4 v12 k0_t41 v23) (k0_t49 : Fin (k0_t49_loop k0_t41 v23).trips), ∀ (k0_h1 : k0_cond1 v12 = 1#1), ∀ a, (k0_off81 k0_t41 v23 k0_t49) a + S1x128x128.size a ≤ S5x128x128.size a := fun v12 k0_t41 v23 k0_hw4 k0_t49 k0_h1 => k0_hw4.2.2.2.2.2.2.1 k0_t49 k0_h1
theorem k0_off88_inb : ∀ (v12 : BitVec 1) (k0_t41 : Fin k0_t41_loop.trips) (v23 : BitVec 32) (k0_hw4 : k0_chk4 v12 k0_t41 v23) (k0_t49 : Fin (k0_t49_loop k0_t41 v23).trips) (k0_t55 : Fin k0_t55_loop.trips), ∀ (k0_h1 : k0_cond1 v12 = 1#1), ∀ a, (k0_off88 k0_t41 v23 k0_t49 k0_t55) a + S1x1x128x128.size a ≤ S5x8x128x128.size a := fun v12 k0_t41 v23 k0_hw4 k0_t49 k0_t55 k0_h1 => k0_hw4.2.2.2.2.2.2.2 k0_t49 k0_t55 k0_h1

def k0_mult13 (k0_t41 : Fin k0_t41_loop.trips) : BitVec 32 :=
  let c0_i32_22 : BitVec 32 := 0#32
  let c1_i32_24 : BitVec 32 := 1#32
  let arg27 : BitVec 32 := Scf.iv c0_i32_22 c1_i32_24 k0_t41
  let c128_i32_44 : BitVec 32 := 128#32
  let v43 : BitVec 32 := Scalar.muli arg27 c128_i32_44
  v43
@[reducible] def k0_t56_loop : Scf.Loop 32 :=
  let c0_i32_45 : BitVec 32 := 0#32
  let c8_i32 : BitVec 32 := 8#32
  let v45 : BitVec 32 := Scalar.addi c0_i32_45 c8_i32
  let c1_i32_46 : BitVec 32 := 1#32
  ⟨c0_i32_45, v45, c1_i32_46⟩
@[reducible] def k0_t57_loop : Scf.Loop 32 :=
  let c0_i32_55 : BitVec 32 := 0#32
  let c3_i32_56 : BitVec 32 := 3#32
  let v53 : BitVec 32 := Scalar.addi c0_i32_55 c3_i32_56
  let c1_i32_57 : BitVec 32 := 1#32
  ⟨c0_i32_55, v53, c1_i32_57⟩
def k0_mult14 (k0_t57 : Fin k0_t57_loop.trips) : BitVec 32 :=
  let c0_i32_55 : BitVec 32 := 0#32
  let c1_i32_57 : BitVec 32 := 1#32
  let arg29 : BitVec 32 := Scf.iv c0_i32_55 c1_i32_57 k0_t57
  let c128_i32_59 : BitVec 32 := 128#32
  let v54 : BitVec 32 := Scalar.muli arg29 c128_i32_59
  v54
def k0_off89 (k0_t56 : Fin k0_t56_loop.trips) (k0_t57 : Fin k0_t57_loop.trips) : Fin 3 → Nat :=
  let c0_i32_45 : BitVec 32 := 0#32
  let c1_i32_46 : BitVec 32 := 1#32
  let arg28 : BitVec 32 := Scf.iv c0_i32_45 c1_i32_46 k0_t56
  let v56 : Index := Scalar.indexCast arg28
  let c0_60 : Index := 0#32
  let c0_i32_55 : BitVec 32 := 0#32
  let c1_i32_57 : BitVec 32 := 1#32
  let arg29 : BitVec 32 := Scf.iv c0_i32_55 c1_i32_57 k0_t57
  let c128_i32_59 : BitVec 32 := 128#32
  let v54 : BitVec 32 := Scalar.muli arg29 c128_i32_59
  let v55 : BitVec 32 := v54
  let v57 : Index := Scalar.indexCast v55
  ![v56.toNat, 0, v57.toNat]
def k0_off90 (k0_t32 : Fin k0_t32_loop.trips) (k0_t56 : Fin k0_t56_loop.trips) : Fin 2 → Nat :=
  let c0_i32_11 : BitVec 32 := 0#32
  let c1_i32_13 : BitVec 32 := 1#32
  let arg26 : BitVec 32 := Scf.iv c0_i32_11 c1_i32_13 k0_t32
  let v60 : Index := Scalar.indexCast arg26
  let c0_i32_45 : BitVec 32 := 0#32
  let c1_i32_46 : BitVec 32 := 1#32
  let arg28 : BitVec 32 := Scf.iv c0_i32_45 c1_i32_46 k0_t56
  let v61 : Index := Scalar.indexCast arg28
  ![v60.toNat, v61.toNat]
def k0_mult15 (k0_t56 : Fin k0_t56_loop.trips) (k0_t57 : Fin k0_t57_loop.trips) : BitVec 32 :=
  let c0_i32_45 : BitVec 32 := 0#32
  let c1_i32_46 : BitVec 32 := 1#32
  let arg28 : BitVec 32 := Scf.iv c0_i32_45 c1_i32_46 k0_t56
  let c3_i32_61 : BitVec 32 := 3#32
  let v67 : BitVec 32 := Scalar.muli arg28 c3_i32_61
  let c0_i32_55 : BitVec 32 := 0#32
  let c1_i32_57 : BitVec 32 := 1#32
  let arg29 : BitVec 32 := Scf.iv c0_i32_55 c1_i32_57 k0_t57
  let v68 : BitVec 32 := Scalar.addi v67 arg29
  let c128_i32_62 : BitVec 32 := 128#32
  let v69 : BitVec 32 := Scalar.muli v68 c128_i32_62
  v69
def k0_off91 (k0_t32 : Fin k0_t32_loop.trips) (k0_t41 : Fin k0_t41_loop.trips) (k0_t56 : Fin k0_t56_loop.trips) (k0_t57 : Fin k0_t57_loop.trips) : Fin 3 → Nat :=
  let c0_i32_11 : BitVec 32 := 0#32
  let c1_i32_13 : BitVec 32 := 1#32
  let arg26 : BitVec 32 := Scf.iv c0_i32_11 c1_i32_13 k0_t32
  let v71 : Index := Scalar.indexCast arg26
  let c0_i32_22 : BitVec 32 := 0#32
  let c1_i32_24 : BitVec 32 := 1#32
  let arg27 : BitVec 32 := Scf.iv c0_i32_22 c1_i32_24 k0_t41
  let c128_i32_44 : BitVec 32 := 128#32
  let v43 : BitVec 32 := Scalar.muli arg27 c128_i32_44
  let v44 : BitVec 32 := v43
  let v72 : Index := Scalar.indexCast v44
  let c0_i32_45 : BitVec 32 := 0#32
  let c1_i32_46 : BitVec 32 := 1#32
  let arg28 : BitVec 32 := Scf.iv c0_i32_45 c1_i32_46 k0_t56
  let c3_i32_61 : BitVec 32 := 3#32
  let v67 : BitVec 32 := Scalar.muli arg28 c3_i32_61
  let c0_i32_55 : BitVec 32 := 0#32
  let c1_i32_57 : BitVec 32 := 1#32
  let arg29 : BitVec 32 := Scf.iv c0_i32_55 c1_i32_57 k0_t57
  let v68 : BitVec 32 := Scalar.addi v67 arg29
  let c128_i32_62 : BitVec 32 := 128#32
  let v69 : BitVec 32 := Scalar.muli v68 c128_i32_62
  let v70 : BitVec 32 := v69
  let v73 : Index := Scalar.indexCast v70
  ![v71.toNat, v72.toNat, v73.toNat]
@[reducible] def k0_t58_loop : Scf.Loop 32 :=
  let c0_i32_48 : BitVec 32 := 0#32
  let c3_i32_49 : BitVec 32 := 3#32
  let v46 : BitVec 32 := Scalar.addi c0_i32_48 c3_i32_49
  let c1_i32_50 : BitVec 32 := 1#32
  ⟨c0_i32_48, v46, c1_i32_50⟩
def k0_off92 (k0_t58 : Fin k0_t58_loop.trips) : Fin 3 → Nat :=
  let c0_i32_48 : BitVec 32 := 0#32
  let c1_i32_50 : BitVec 32 := 1#32
  let arg28 : BitVec 32 := Scf.iv c0_i32_48 c1_i32_50 k0_t58
  let v53 : Index := Scalar.indexCast arg28
  let c0_55 : Index := 0#32
  let c0_56 : Index := 0#32
  ![v53.toNat, 0, 0]
def k0_off93 (k0_t58 : Fin k0_t58_loop.trips) : Fin 2 → Nat :=
  let c0_i32_48 : BitVec 32 := 0#32
  let c1_i32_50 : BitVec 32 := 1#32
  let arg28 : BitVec 32 := Scf.iv c0_i32_48 c1_i32_50 k0_t58
  let v58 : Index := Scalar.indexCast arg28
  let c0_58 : Index := 0#32
  ![v58.toNat, 0]
def k0_off94 (k0_t32 : Fin k0_t32_loop.trips) (k0_t41 : Fin k0_t41_loop.trips) : Fin 3 → Nat :=
  let c0_i32_11 : BitVec 32 := 0#32
  let c1_i32_13 : BitVec 32 := 1#32
  let arg26 : BitVec 32 := Scf.iv c0_i32_11 c1_i32_13 k0_t32
  let v48 : Index := Scalar.indexCast arg26
  let c0_54 : Index := 0#32
  let c0_i32_22 : BitVec 32 := 0#32
  let c1_i32_24 : BitVec 32 := 1#32
  let arg27 : BitVec 32 := Scf.iv c0_i32_22 c1_i32_24 k0_t41
  let c128_i32_44 : BitVec 32 := 128#32
  let v43 : BitVec 32 := Scalar.muli arg27 c128_i32_44
  let v44 : BitVec 32 := v43
  let v49 : Index := Scalar.indexCast v44
  ![v48.toNat, 0, v49.toNat]
abbrev stage0_0 : Fin 1 → Memref sig .tc .smem S3x640 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S3x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S3x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S3x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x24x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640x8x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x640x8x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x640 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x640x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x24x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== KernelIdeal.lean ====
abbrev S3x640x24x128 : Shape := ⟨4, ![3, 640, 24, 128]⟩
abbrev S3x24 : Shape := ⟨2, ![3, 24]⟩
abbrev S3x640x8x128 : Shape := ⟨4, ![3, 640, 8, 128]⟩
abbrev S3x8 : Shape := ⟨2, ![3, 8]⟩
abbrev S3x640 : Shape := ⟨2, ![3, 640]⟩
abbrev S3x640x3072 : Shape := ⟨3, ![3, 640, 3072]⟩
abbrev S3x24x640 : Shape := ⟨3, ![3, 24, 640]⟩
abbrev S5x8x128x384 : Shape := ⟨4, ![5, 8, 128, 384]⟩
abbrev S5x8x128x128 : Shape := ⟨4, ![5, 8, 128, 128]⟩
abbrev S128x128 : Shape := ⟨2, ![128, 128]⟩
abbrev S5x128x128 : Shape := ⟨3, ![5, 128, 128]⟩
abbrev S3x8x128 : Shape := ⟨3, ![3, 8, 128]⟩
abbrev S3104x128 : Shape := ⟨2, ![3104, 128]⟩
abbrev S3x128x8x128 : Shape := ⟨4, ![3, 128, 8, 128]⟩
abbrev S1568x128 : Shape := ⟨2, ![1568, 128]⟩
abbrev S1568x2x128 : Shape := ⟨3, ![1568, 2, 128]⟩
abbrev S1568x1x128 : Shape := ⟨3, ![1568, 1, 128]⟩
abbrev S8x128x384 : Shape := ⟨3, ![8, 128, 384]⟩
abbrev S8x128 : Shape := ⟨2, ![8, 128]⟩
abbrev S24x128 : Shape := ⟨2, ![24, 128]⟩
abbrev S15x128 : Shape := ⟨2, ![15, 128]⟩
abbrev S1x128 : Shape := ⟨2, ![1, 128]⟩
abbrev S1x1 : Shape := ⟨2, ![1, 1]⟩
abbrev S1x8x128 : Shape := ⟨3, ![1, 8, 128]⟩
abbrev S1x128x1x128 : Shape := ⟨4, ![1, 128, 1, 128]⟩
abbrev S1x1x128x128 : Shape := ⟨4, ![1, 1, 128, 128]⟩
abbrev S1x32x1x128 : Shape := ⟨4, ![1, 32, 1, 128]⟩
abbrev S32x128 : Shape := ⟨2, ![32, 128]⟩
abbrev S4x8x128 : Shape := ⟨3, ![4, 8, 128]⟩
abbrev S8x4x128 : Shape := ⟨3, ![8, 4, 128]⟩
abbrev S1x1x32x128 : Shape := ⟨4, ![1, 1, 32, 128]⟩
abbrev S1x128x128 : Shape := ⟨3, ![1, 128, 128]⟩
abbrev S1x1x128x384 : Shape := ⟨4, ![1, 1, 128, 384]⟩
abbrev S128x384 : Shape := ⟨2, ![128, 384]⟩
abbrev S1x1x8x128 : Shape := ⟨4, ![1, 1, 8, 128]⟩
abbrev S8x2x128 : Shape := ⟨3, ![8, 2, 128]⟩
abbrev S8x1x128 : Shape := ⟨3, ![8, 1, 128]⟩
abbrev S64x128 : Shape := ⟨2, ![64, 128]⟩
abbrev S64x2x128 : Shape := ⟨3, ![64, 2, 128]⟩
abbrev S64x1x128 : Shape := ⟨3, ![64, 1, 128]⟩
abbrev S1x128x384 : Shape := ⟨3, ![1, 128, 384]⟩
abbrev S1x24x128 : Shape := ⟨3, ![1, 24, 128]⟩
abbrev S1 : Shape := ⟨1, ![1]⟩
abbrev S1x1x1 : Shape := ⟨3, ![1, 1, 1]⟩

abbrev nBuf : Space → Nat
  | .hbm => 9
  | .vmem => 22
  | .smem => 4
  | _ => 0

abbrev bufTy : (tb : Table) → Fin (tcTables nBuf tb) → BufTy
  | .hbm, ⟨0, _⟩ => ⟨S3x640x24x128, .fp8e4m3⟩
  | .hbm, ⟨1, _⟩ => ⟨S3x24, .f32⟩
  | .hbm, ⟨2, _⟩ => ⟨S3x640x8x128, .fp8e4m3⟩
  | .hbm, ⟨3, _⟩ => ⟨S3x8, .f32⟩
  | .hbm, ⟨4, _⟩ => ⟨S3x640x8x128, .fp8e4m3⟩
  | .hbm, ⟨5, _⟩ => ⟨S3x8, .f32⟩
  | .hbm, ⟨6, _⟩ => ⟨S3x640, .i32⟩
  | .hbm, ⟨7, _⟩ => ⟨S3x640x3072, .bf16⟩
  | .hbm, ⟨8, _⟩ => ⟨S3x24x640, .f32⟩
  | .local _ .vmem, ⟨0, _⟩ => ⟨S3x640x24x128, .fp8e4m3⟩
  | .local _ .vmem, ⟨1, _⟩ => ⟨S3x640x8x128, .fp8e4m3⟩
  | .local _ .vmem, ⟨2, _⟩ => ⟨S3x640x8x128, .fp8e4m3⟩
  | .local _ .vmem, ⟨3, _⟩ => ⟨S3x640, .i32⟩
  | .local _ .vmem, ⟨4, _⟩ => ⟨S3x640x3072, .bf16⟩
  | .local _ .vmem, ⟨5, _⟩ => ⟨S3x24x640, .f32⟩
  | .local _ .vmem, ⟨6, _⟩ => ⟨S5x8x128x384, .fp8e4m3⟩
  | .local _ .vmem, ⟨7, _⟩ => ⟨S5x8x128x128, .fp8e4m3⟩
  | .local _ .vmem, ⟨8, _⟩ => ⟨S5x8x128x128, .bf16⟩
  | .local _ .vmem, ⟨9, _⟩ => ⟨S128x128, .i32⟩
  | .local _ .vmem, ⟨10, _⟩ => ⟨S5x128x128, .i32⟩
  | .local _ .vmem, ⟨11, _⟩ => ⟨S3x8x128, .f32⟩
  | .local _ .vmem, ⟨12, _⟩ => ⟨S128x128, .f32⟩
  | .local _ .vmem, ⟨13, _⟩ => ⟨S3104x128, .f32⟩
  | .local _ .vmem, ⟨14, _⟩ => ⟨S3x128x8x128, .f32⟩
  | .local _ .vmem, ⟨15, _⟩ => ⟨S1568x2x128, .bf16⟩
  | .local _ .vmem, ⟨16, _⟩ => ⟨S8x128x384, .f32⟩
  | .local _ .vmem, ⟨17, _⟩ => ⟨S3x8x128, .f32⟩
  | .local _ .vmem, ⟨18, _⟩ => ⟨S3x8x128, .f32⟩
  | .local _ .vmem, ⟨19, _⟩ => ⟨S8x128, .f32⟩
  | .local _ .vmem, ⟨20, _⟩ => ⟨S24x128, .f32⟩
  | .local _ .vmem, ⟨21, _⟩ => ⟨S15x128, .i32⟩
  | .local _ .smem, ⟨0, _⟩ => ⟨S3x640, .i32⟩
  | .local _ .smem, ⟨1, _⟩ => ⟨S3x24, .f32⟩
  | .local _ .smem, ⟨2, _⟩ => ⟨S3x8, .f32⟩
  | .local _ .smem, ⟨3, _⟩ => ⟨S3x8, .f32⟩
  | _, _ => ⟨S3x640x24x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg4_0 : Ref sig .tc := ⟨.vmem, 0, rfl⟩
abbrev cc0_stg5_0 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg8_0 : Ref sig .tc := ⟨.vmem, 4, rfl⟩
abbrev cc0_stg9_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_scratch13 : Ref sig .tc := ⟨.vmem, 19, rfl⟩
abbrev cc0_scratch14 : Ref sig .tc := ⟨.vmem, 20, rfl⟩
abbrev cc0_scratch15 : Ref sig .tc := ⟨.vmem, 21, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "log2_e" => some (((Real.log 2)⁻¹ : ℝ) : EReal)
  | "neg_inf" => some ⊥
  | "neg_ln_2" => some ((-(Real.log 2) : ℝ) : EReal)
  | _ => none

abbrev grid0 : Pipeline.Grid := .none

@[reducible] def k0_t1_loop : Scf.Loop 32 :=
  let c0_i32 : BitVec 32 := 0#32
  let c3_i32 : BitVec 32 := 3#32
  let v5 : BitVec 32 := Scalar.addi c0_i32 c3_i32
  let c1_i32 : BitVec 32 := 1#32
  ⟨c0_i32, v5, c1_i32⟩
@[reducible] def k0_t2_loop : Scf.Loop 32 :=
  let c0_i32_11 : BitVec 32 := 0#32
  let c5_i32 : BitVec 32 := 5#32
  let v15 : BitVec 32 := Scalar.addi c0_i32_11 c5_i32
  let c1_i32_12 : BitVec 32 := 1#32
  ⟨c0_i32_11, v15, c1_i32_12⟩
def k0_mult1 (k0_t2 : Fin k0_t2_loop.trips) : BitVec 32 :=
  let c0_i32_11 : BitVec 32 := 0#32
  let c1_i32_12 : BitVec 32 := 1#32
  let arg27 : BitVec 32 := Scf.iv c0_i32_11 c1_i32_12 k0_t2
  let c128_i32 : BitVec 32 := 128#32
  let v16 : BitVec 32 := Scalar.muli arg27 c128_i32
  v16
def k0_off1 (k0_t1 : Fin k0_t1_loop.trips) (k0_t2 : Fin k0_t2_loop.trips) : Fin 2 → Nat :=
  let c0_i32 : BitVec 32 := 0#32
  let c1_i32 : BitVec 32 := 1#32
  let arg26 : BitVec 32 := Scf.iv c0_i32 c1_i32 k0_t1
  let v18 : Index := Scalar.indexCast arg26
  let c0_i32_11 : BitVec 32 := 0#32
  let c1_i32_12 : BitVec 32 := 1#32
  let arg27 : BitVec 32 := Scf.iv c0_i32_11 c1_i32_12 k0_t2
  let c128_i32 : BitVec 32 := 128#32
  let v16 : BitVec 32 := Scalar.muli arg27 c128_i32
  let v17 : BitVec 32 := v16
  let v19 : Index := Scalar.indexCast v17
  ![v18.toNat, v19.toNat]
def k0_off2 (k0_t1 : Fin k0_t1_loop.trips) (k0_t2 : Fin k0_t2_loop.trips) : Fin 2 → Nat :=
  let c0_i32 : BitVec 32 := 0#32
  let c1_i32 : BitVec 32 := 1#32
  let arg26 : BitVec 32 := Scf.iv c0_i32 c1_i32 k0_t1
  let c5_i32_14 : BitVec 32 := 5#32
  let v21 : BitVec 32 := Scalar.muli arg26 c5_i32_14
  let c0_i32_11 : BitVec 32 := 0#32
  let c1_i32_12 : BitVec 32 := 1#32
  let arg27 : BitVec 32 := Scf.iv c0_i32_11 c1_i32_12 k0_t2
  let v22 : BitVec 32 := Scalar.addi v21 arg27
  let v23 : Index := Scalar.indexCast v22
  let c0_15 : Index := 0#32
  ![v23.toNat, 0]
@[reducible] def k0_t3_loop : Scf.Loop 32 :=
  let c0_i32_2 : BitVec 32 := 0#32
  let c3_i32_3 : BitVec 32 := 3#32
  let v6 : BitVec 32 := Scalar.addi c0_i32_2 c3_i32_3
  let c1_i32_4 : BitVec 32 := 1#32
  ⟨c0_i32_2, v6, c1_i32_4⟩
@[reducible] def k0_t4_loop : Scf.Loop 32 :=
  let c0_i32_11 : BitVec 32 := 0#32
  let c3_i32_12 : BitVec 32 := 3#32
  let v15 : BitVec 32 := Scalar.addi c0_i32_11 c3_i32_12
  let c1_i32_13 : BitVec 32 := 1#32
  ⟨c0_i32_11, v15, c1_i32_13⟩
@[reducible] def k0_t5_loop : Scf.Loop 32 :=
  let c0_i32_23 : BitVec 32 := 0#32
  let c8_i32 : BitVec 32 := 8#32
  let v19 : BitVec 32 := Scalar.addi c0_i32_23 c8_i32
  let c1_i32_24 : BitVec 32 := 1#32
  ⟨c0_i32_23, v19, c1_i32_24⟩
def k0_off3 (k0_t3 : Fin k0_t3_loop.trips) (k0_t4 : Fin k0_t4_loop.trips) (k0_t5 : Fin k0_t5_loop.trips) : Fin 2 → Nat :=
  let c0_i32_2 : BitVec 32 := 0#32
  let c1_i32_4 : BitVec 32 := 1#32
  let arg26 : BitVec 32 := Scf.iv c0_i32_2 c1_i32_4 k0_t3
  let v27 : Index := Scalar.indexCast arg26
  let c0_i32_23 : BitVec 32 := 0#32
  let c1_i32_24 : BitVec 32 := 1#32
  let arg28 : BitVec 32 := Scf.iv c0_i32_23 c1_i32_24 k0_t5
  let c3_i32_28 : BitVec 32 := 3#32
  let v25 : BitVec 32 := Scalar.muli arg28 c3_i32_28
  let c0_i32_11 : BitVec 32 := 0#32
  let c1_i32_13 : BitVec 32 := 1#32
  let arg27 : BitVec 32 := Scf.iv c0_i32_11 c1_i32_13 k0_t4
  let v26 : BitVec 32 := Scalar.addi v25 arg27
  let v28 : Index := Scalar.indexCast v26
  ![v27.toNat, v28.toNat]
def k0_off4 (k0_t3 : Fin k0_t3_loop.trips) (k0_t5 : Fin k0_t5_loop.trips) : Fin 2 → Nat :=
  let c0_i32_2 : BitVec 32 := 0#32
  let c1_i32_4 : BitVec 32 := 1#32
  let arg26 : BitVec 32 := Scf.iv c0_i32_2 c1_i32_4 k0_t3
  let v30 : Index := Scalar.indexCast arg26
  let c0_i32_23 : BitVec 32 := 0#32
  let c1_i32_24 : BitVec 32 := 1#32
  let arg28 : BitVec 32 := Scf.iv c0_i32_23 c1_i32_24 k0_t5
  let v31 : Index := Scalar.indexCast arg28
  ![v30.toNat, v31.toNat]
def k0_off5 (k0_t4 : Fin k0_t4_loop.trips) : Fin 3 → Nat :=
  let c0_i32_11 : BitVec 32 := 0#32
  let c1_i32_13 : BitVec 32 := 1#32
  let arg27 : BitVec 32 := Scf.iv c0_i32_11 c1_i32_13 k0_t4
  let v21 : Index := Scalar.indexCast arg27
  let c0_26 : Index := 0#32
  let c0_27 : Index := 0#32
  ![v21.toNat, 0, 0]
@[reducible] def k0_t6_loop : Scf.Loop 32 :=
  let c0_i32_15 : BitVec 32 := 0#32
  let c5_i32 : BitVec 32 := 5#32
  let v16 : BitVec 32 := Scalar.addi c0_i32_15 c5_i32
  let c1_i32_16 : BitVec 32 := 1#32
  ⟨c0_i32_15, v16, c1_i32_16⟩
def k0_mult2 (k0_t6 : Fin k0_t6_loop.trips) : BitVec 32 :=
  let c0_i32_15 : BitVec 32 := 0#32
  let c1_i32_16 : BitVec 32 := 1#32
  let arg27 : BitVec 32 := Scf.iv c0_i32_15 c1_i32_16 k0_t6
  let c128_i32 : BitVec 32 := 128#32
  let v18 : BitVec 32 := Scalar.muli arg27 c128_i32
  v18
@[reducible] def k0_t7_loop : Scf.Loop 32 :=
  let c0_i32_22 : BitVec 32 := 0#32
  let c8_i32 : BitVec 32 := 8#32
  let v20 : BitVec 32 := Scalar.addi c0_i32_22 c8_i32
  let c1_i32_23 : BitVec 32 := 1#32
  ⟨c0_i32_22, v20, c1_i32_23⟩
@[reducible] def k0_t8_loop : Scf.Loop 32 :=
  let c0_i32_37 : BitVec 32 := 0#32
  let c3_i32_38 : BitVec 32 := 3#32
  let v34 : BitVec 32 := Scalar.addi c0_i32_37 c3_i32_38
  let c1_i32_39 : BitVec 32 := 1#32
  ⟨c0_i32_37, v34, c1_i32_39⟩
def k0_mult3 (k0_t8 : Fin k0_t8_loop.trips) : BitVec 32 :=
  let c0_i32_37 : BitVec 32 := 0#32
  let c1_i32_39 : BitVec 32 := 1#32
  let arg29 : BitVec 32 := Scf.iv c0_i32_37 c1_i32_39 k0_t8
  let c128_i32_41 : BitVec 32 := 128#32
  let v35 : BitVec 32 := Scalar.muli arg29 c128_i32_41
  v35
def k0_off6 (k0_t3 : Fin k0_t3_loop.trips) (k0_t6 : Fin k0_t6_loop.trips) (k0_t7 : Fin k0_t7_loop.trips) (k0_t8 : Fin k0_t8_loop.trips) : Fin 4 → Nat :=
  let c0_i32_2 : BitVec 32 := 0#32
  let c1_i32_4 : BitVec 32 := 1#32
  let arg26 : BitVec 32 := Scf.iv c0_i32_2 c1_i32_4 k0_t3
  let v39 : Index := Scalar.indexCast arg26
  let c0_i32_15 : BitVec 32 := 0#32
  let c1_i32_16 : BitVec 32 := 1#32
  let arg27 : BitVec 32 := Scf.iv c0_i32_15 c1_i32_16 k0_t6
  let c128_i32 : BitVec 32 := 128#32
  let v18 : BitVec 32 := Scalar.muli arg27 c128_i32
  let v19 : BitVec 32 := v18
  let v40 : Index := Scalar.indexCast v19
  let c0_i32_22 : BitVec 32 := 0#32
  let c1_i32_23 : BitVec 32 := 1#32
  let arg28 : BitVec 32 := Scf.iv c0_i32_22 c1_i32_23 k0_t7
  let c3_i32_42 : BitVec 32 := 3#32
  let v37 : BitVec 32 := Scalar.muli arg28 c3_i32_42
  let c0_i32_37 : BitVec 32 := 0#32
  let c1_i32_39 : BitVec 32 := 1#32
  let arg29 : BitVec 32 := Scf.iv c0_i32_37 c1_i32_39 k0_t8
  let v38 : BitVec 32 := Scalar.addi v37 arg29
  let v41 : Index := Scalar.indexCast v38
  let c0_43 : Index := 0#32
  ![v39.toNat, v40.toNat, v41.toNat, 0]
def k0_off7 (k0_t6 : Fin k0_t6_loop.trips) (k0_t7 : Fin k0_t7_loop.trips) (k0_t8 : Fin k0_t8_loop.trips) : Fin 4 → Nat :=
  let c0_i32_15 : BitVec 32 := 0#32
  let c1_i32_16 : BitVec 32 := 1#32
  let arg27 : BitVec 32 := Scf.iv c0_i32_15 c1_i32_16 k0_t6
  let v45 : Index := Scalar.indexCast arg27
  let c0_i32_22 : BitVec 32 := 0#32
  let c1_i32_23 : BitVec 32 := 1#32
  let arg28 : BitVec 32 := Scf.iv c0_i32_22 c1_i32_23 k0_t7
  let v46 : Index := Scalar.indexCast arg28
  let c0_44 : Index := 0#32
  let c0_i32_37 : BitVec 32 := 0#32
  let c1_i32_39 : BitVec 32 := 1#32
  let arg29 : BitVec 32 := Scf.iv c0_i32_37 c1_i32_39 k0_t8
  let c128_i32_41 : BitVec 32 := 128#32
  let v35 : BitVec 32 := Scalar.muli arg29 c128_i32_41
  let v36 : BitVec 32 := v35
  let v47 : Index := Scalar.indexCast v36
  ![v45.toNat, v46.toNat, 0, v47.toNat]
@[reducible] def k0_t9_loop : Scf.Loop 32 :=
  let c0_i32_25 : BitVec 32 := 0#32
  let c8_i32_26 : BitVec 32 := 8#32
  let v21 : BitVec 32 := Scalar.addi c0_i32_25 c8_i32_26
  let c1_i32_27 : BitVec 32 := 1#32
  ⟨c0_i32_25, v21, c1_i32_27⟩
def k0_off8 (k0_t3 : Fin k0_t3_loop.trips) (k0_t6 : Fin k0_t6_loop.trips) (k0_t9 : Fin k0_t9_loop.trips) : Fin 4 → Nat :=
  let c0_i32_2 : BitVec 32 := 0#32
  let c1_i32_4 : BitVec 32 := 1#32
  let arg26 : BitVec 32 := Scf.iv c0_i32_2 c1_i32_4 k0_t3
  let v34 : Index := Scalar.indexCast arg26
  let c0_i32_15 : BitVec 32 := 0#32
  let c1_i32_16 : BitVec 32 := 1#32
  let arg27 : BitVec 32 := Scf.iv c0_i32_15 c1_i32_16 k0_t6
  let c128_i32 : BitVec 32 := 128#32
  let v18 : BitVec 32 := Scalar.muli arg27 c128_i32
  let v19 : BitVec 32 := v18
  let v35 : Index := Scalar.indexCast v19
  let c0_i32_25 : BitVec 32 := 0#32
  let c1_i32_27 : BitVec 32 := 1#32
  let arg28 : BitVec 32 := Scf.iv c0_i32_25 c1_i32_27 k0_t9
  let v36 : Index := Scalar.indexCast arg28
  let c0_37 : Index := 0#32
  ![v34.toNat, v35.toNat, v36.toNat, 0]
def k0_off9 (k0_t6 : Fin k0_t6_loop.trips) (k0_t9 : Fin k0_t9_loop.trips) : Fin 4 → Nat :=
  let c0_i32_15 : BitVec 32 := 0#32
  let c1_i32_16 : BitVec 32 := 1#32
  let arg27 : BitVec 32 := Scf.iv c0_i32_15 c1_i32_16 k0_t6
  let v41 : Index := Scalar.indexCast arg27
  let c0_i32_25 : BitVec 32 := 0#32
  let c1_i32_27 : BitVec 32 := 1#32
  let arg28 : BitVec 32 := Scf.iv c0_i32_25 c1_i32_27 k0_t9
  let v42 : Index := Scalar.indexCast arg28
  let c0_38 : Index := 0#32
  let c0_39 : Index := 0#32
  ![v41.toNat, v42.toNat, 0, 0]
@[reducible] def k0_t10_loop : Scf.Loop 32 :=
  let c0_i32_29 : BitVec 32 := 0#32
  let c8_i32_30 : BitVec 32 := 8#32
  let v22 : BitVec 32 := Scalar.addi c0_i32_29 c8_i32_30
  let c1_i32_31 : BitVec 32 := 1#32
  ⟨c0_i32_29, v22, c1_i32_31⟩
@[reducible] def k0_t11_loop : Scf.Loop 32 :=
  let c0_i32_37 : BitVec 32 := 0#32
  let c4_i32 : BitVec 32 := 4#32
  let v34 : BitVec 32 := Scalar.addi c0_i32_37 c4_i32
  let c1_i32_38 : BitVec 32 := 1#32
  ⟨c0_i32_37, v34, c1_i32_38⟩
def k0_mult4 (k0_t6 : Fin k0_t6_loop.trips) (k0_t11 : Fin k0_t11_loop.trips) : BitVec 32 :=
  let c0_i32_15 : BitVec 32 := 0#32
  let c1_i32_16 : BitVec 32 := 1#32
  let arg27 : BitVec 32 := Scf.iv c0_i32_15 c1_i32_16 k0_t6
  let c128_i32_40 : BitVec 32 := 128#32
  let v35 : BitVec 32 := Scalar.muli arg27 c128_i32_40
  let c0_i32_37 : BitVec 32 := 0#32
  let c1_i32_38 : BitVec 32 := 1#32
  let arg29 : BitVec 32 := Scf.iv c0_i32_37 c1_i32_38 k0_t11
  let c32_i32 : BitVec 32 := 32#32
  let v36 : BitVec 32 := Scalar.muli arg29 c32_i32
  let v37 : BitVec 32 := Scalar.addi v35 v36
  v37
def k0_off10 (k0_t3 : Fin k0_t3_loop.trips) (k0_t6 : Fin k0_t6_loop.trips) (k0_t10 : Fin k0_t10_loop.trips) (k0_t11 : Fin k0_t11_loop.trips) : Fin 4 → Nat :=
  let c0_i32_2 : BitVec 32 := 0#32
  let c1_i32_4 : BitVec 32 := 1#32
  let arg26 : BitVec 32 := Scf.iv c0_i32_2 c1_i32_4 k0_t3
  let v39 : Index := Scalar.indexCast arg26
  let c0_i32_15 : BitVec 32 := 0#32
  let c1_i32_16 : BitVec 32 := 1#32
  let arg27 : BitVec 32 := Scf.iv c0_i32_15 c1_i32_16 k0_t6
  let c128_i32_40 : BitVec 32 := 128#32
  let v35 : BitVec 32 := Scalar.muli arg27 c128_i32_40
  let c0_i32_37 : BitVec 32 := 0#32
  let c1_i32_38 : BitVec 32 := 1#32
  let arg29 : BitVec 32 := Scf.iv c0_i32_37 c1_i32_38 k0_t11
  let c32_i32 : BitVec 32 := 32#32
  let v36 : BitVec 32 := Scalar.muli arg29 c32_i32
  let v37 : BitVec 32 := Scalar.addi v35 v36
  let v38 : BitVec 32 := v37
  let v40 : Index := Scalar.indexCast v38
  let c0_i32_29 : BitVec 32 := 0#32
  let c1_i32_31 : BitVec 32 := 1#32
  let arg28 : BitVec 32 := Scf.iv c0_i32_29 c1_i32_31 k0_t10
  let v41 : Index := Scalar.indexCast arg28
  let c0_41 : Index := 0#32
  ![v39.toNat, v40.toNat, v41.toNat, 0]
def k0_mult5 (k0_t11 : Fin k0_t11_loop.trips) : BitVec 32 :=
  let c0_i32_37 : BitVec 32 := 0#32
  let c1_i32_38 : BitVec 32 := 1#32
  let arg29 : BitVec 32 := Scf.iv c0_i32_37 c1_i32_38 k0_t11
  let c32_i32_42 : BitVec 32 := 32#32
  let v47 : BitVec 32 := Scalar.muli arg29 c32_i32_42
  v47
def k0_off11 (k0_t6 : Fin k0_t6_loop.trips) (k0_t10 : Fin k0_t10_loop.trips) (k0_t11 : Fin k0_t11_loop.trips) : Fin 4 → Nat :=
  let c0_i32_15 : BitVec 32 := 0#32
  let c1_i32_16 : BitVec 32 := 1#32
  let arg27 : BitVec 32 := Scf.iv c0_i32_15 c1_i32_16 k0_t6
  let v49 : Index := Scalar.indexCast arg27
  let c0_i32_29 : BitVec 32 := 0#32
  let c1_i32_31 : BitVec 32 := 1#32
  let arg28 : BitVec 32 := Scf.iv c0_i32_29 c1_i32_31 k0_t10
  let v50 : Index := Scalar.indexCast arg28
  let c0_i32_37 : BitVec 32 := 0#32
  let c1_i32_38 : BitVec 32 := 1#32
  let arg29 : BitVec 32 := Scf.iv c0_i32_37 c1_i32_38 k0_t11
  let c32_i32_42 : BitVec 32 := 32#32
  let v47 : BitVec 32 := Scalar.muli arg29 c32_i32_42
  let v48 : BitVec 32 := v47
  let v51 : Index := Scalar.indexCast v48
  let c0_43 : Index := 0#32
  ![v49.toNat, v50.toNat, v51.toNat, 0]
def k0_off12 (k0_t3 : Fin k0_t3_loop.trips) (k0_t6 : Fin k0_t6_loop.trips) : Fin 2 → Nat :=
  let c0_i32_2 : BitVec 32 := 0#32
  let c1_i32_4 : BitVec 32 := 1#32
  let arg26 : BitVec 32 := Scf.iv c0_i32_2 c1_i32_4 k0_t3
  let c5_i32_33 : BitVec 32 := 5#32
  let v23 : BitVec 32 := Scalar.muli arg26 c5_i32_33
  let c0_i32_15 : BitVec 32 := 0#32
  let c1_i32_16 : BitVec 32 := 1#32
  let arg27 : BitVec 32 := Scf.iv c0_i32_15 c1_i32_16 k0_t6
  let v24 : BitVec 32 := Scalar.addi v23 arg27
  let v25 : Index := Scalar.indexCast v24
  let c0_34 : Index := 0#32
  ![v25.toNat, 0]
def k0_off13 (k0_t6 : Fin k0_t6_loop.trips) : Fin 3 → Nat :=
  let c0_i32_15 : BitVec 32 := 0#32
  let c1_i32_16 : BitVec 32 := 1#32
  let arg27 : BitVec 32 := Scf.iv c0_i32_15 c1_i32_16 k0_t6
  let v30 : Index := Scalar.indexCast arg27
  let c0_35 : Index := 0#32
  let c0_36 : Index := 0#32
  ![v30.toNat, 0, 0]
@[reducible] def k0_t12_loop : Scf.Loop 32 :=
  let c0_i32_18 : BitVec 32 := 0#32
  let c5_i32_19 : BitVec 32 := 5#32
  let v17 : BitVec 32 := Scalar.addi c0_i32_18 c5_i32_19
  let c1_i32_20 : BitVec 32 := 1#32
  ⟨c0_i32_18, v17, c1_i32_20⟩
def k0_off14 (k0_t3 : Fin k0_t3_loop.trips) (k0_t12 : Fin k0_t12_loop.trips) : Fin 2 → Nat :=
  let c0_i32_2 : BitVec 32 := 0#32
  let c1_i32_4 : BitVec 32 := 1#32
  let arg26 : BitVec 32 := Scf.iv c0_i32_2 c1_i32_4 k0_t3
  let v19 : Index := Scalar.indexCast arg26
  let c0_i32_18 : BitVec 32 := 0#32
  let c1_i32_20 : BitVec 32 := 1#32
  let arg27 : BitVec 32 := Scf.iv c0_i32_18 c1_i32_20 k0_t12
  let c128_i32 : BitVec 32 := 128#32
  let v18 : BitVec 32 := Scalar.muli arg27 c128_i32
  let v20 : Index := Scalar.indexCast v18
  ![v19.toNat, v20.toNat]
def k0_off15 (k0_t3 : Fin k0_t3_loop.trips) (arg28 : BitVec 32) : Fin 2 → Nat :=
  let c0_i32_2 : BitVec 32 := 0#32
  let c1_i32_4 : BitVec 32 := 1#32
  let arg26 : BitVec 32 := Scf.iv c0_i32_2 c1_i32_4 k0_t3
  let v56 : Index := Scalar.indexCast arg26
  let c128_i32_52 : BitVec 32 := 128#32
  let v53 : BitVec 32 := Scalar.muli arg28 c128_i32_52
  let c1_i32_53 : BitVec 32 := 1#32
  let v54 : BitVec 32 := Scalar.subi v53 c1_i32_53
  let c0_i32_54 : BitVec 32 := 0#32
  let v55 : BitVec 32 := Scalar.maxsi v54 c0_i32_54
  let v57 : Index := Scalar.indexCast v55
  ![v56.toNat, v57.toNat]

def k0_chk1 (k0_t3 : Fin k0_t3_loop.trips) (arg28 : BitVec 32) : Prop :=
  (∀ a, (k0_off15 k0_t3 arg28) a + S1x1.size a ≤ S3x640.size a)
theorem k0_off15_inb : ∀ (k0_t3 : Fin k0_t3_loop.trips) (arg28 : BitVec 32) (k0_hw1 : k0_chk1 k0_t3 arg28), ∀ a, (k0_off15 k0_t3 arg28) a + S1x1.size a ≤ S3x640.size a := fun k0_t3 arg28 k0_hw1 => k0_hw1

@[reducible] def k0_t13_loop (k0_t12 : Fin k0_t12_loop.trips) (v22 : BitVec 32) : Scf.Loop 32 :=
  let c0_i32_36 : BitVec 32 := 0#32
  let c0_i32_18 : BitVec 32 := 0#32
  let c1_i32_20 : BitVec 32 := 1#32
  let arg27 : BitVec 32 := Scf.iv c0_i32_18 c1_i32_20 k0_t12
  let c1_i32_34 : BitVec 32 := 1#32
  let v35 : BitVec 32 := Scalar.addi arg27 c1_i32_34
  let v36 : BitVec 32 := Scalar.subi v35 v22
  let v37 : BitVec 32 := Scalar.subi v36 c0_i32_36
  let c1_i32_37 : BitVec 32 := 1#32
  let v39 : BitVec 32 := Scalar.divsi v37 c1_i32_37
  let v40 : BitVec 32 := Scalar.muli v39 c1_i32_37
  let v41 : BitVec 32 := Scalar.addi c0_i32_36 v40
  let c1_i32_38 : BitVec 32 := 1#32
  ⟨c0_i32_36, v41, c1_i32_38⟩

@[reducible] def k0_t14_loop : Scf.Loop 32 :=
  let c0_i32_52 : BitVec 32 := 0#32
  let c8_i32_53 : BitVec 32 := 8#32
  let v53 : BitVec 32 := Scalar.addi c0_i32_52 c8_i32_53
  let c1_i32_54 : BitVec 32 := 1#32
  ⟨c0_i32_52, v53, c1_i32_54⟩
def k0_off16 (k0_t12 : Fin k0_t12_loop.trips) (v22 : BitVec 32) (k0_t13 : Fin (k0_t13_loop k0_t12 v22).trips) (k0_t14 : Fin k0_t14_loop.trips) : Fin 4 → Nat :=
  let c0_i32_18 : BitVec 32 := 0#32
  let c1_i32_20 : BitVec 32 := 1#32
  let arg27 : BitVec 32 := Scf.iv c0_i32_18 c1_i32_20 k0_t12
  let c0_i32_36 : BitVec 32 := 0#32
  let c1_i32_38 : BitVec 32 := 1#32
  let arg28 : BitVec 32 := Scf.iv c0_i32_36 c1_i32_38 k0_t13
  let v52 : BitVec 32 := Scalar.subi arg27 arg28
  let v82 : Index := Scalar.indexCast v52
  let c0_i32_52 : BitVec 32 := 0#32
  let c1_i32_54 : BitVec 32 := 1#32
  let arg29 : BitVec 32 := Scf.iv c0_i32_52 c1_i32_54 k0_t14
  let v83 : Index := Scalar.indexCast arg29
  let c0_76 : Index := 0#32
  let c0_77 : Index := 0#32
  ![v82.toNat, v83.toNat, 0, 0]
def k0_off17 (k0_t12 : Fin k0_t12_loop.trips) (k0_t14 : Fin k0_t14_loop.trips) : Fin 4 → Nat :=
  let c0_i32_18 : BitVec 32 := 0#32
  let c1_i32_20 : BitVec 32 := 1#32
  let arg27 : BitVec 32 := Scf.iv c0_i32_18 c1_i32_20 k0_t12
  let v86 : Index := Scalar.indexCast arg27
  let c0_i32_52 : BitVec 32 := 0#32
  let c1_i32_54 : BitVec 32 := 1#32
  let arg29 : BitVec 32 := Scf.iv c0_i32_52 c1_i32_54 k0_t14
  let v87 : Index := Scalar.indexCast arg29
  let c0_78 : Index := 0#32
  let c0_79 : Index := 0#32
  ![v86.toNat, v87.toNat, 0, 0]
def k0_off18 (k0_t14 : Fin k0_t14_loop.trips) (c0_i32_81 : BitVec 32) : Fin 2 → Nat :=
  let c0_i32_52 : BitVec 32 := 0#32
  let c1_i32_54 : BitVec 32 := 1#32
  let arg29 : BitVec 32 := Scf.iv c0_i32_52 c1_i32_54 k0_t14
  let v92 : BitVec 32 := Scalar.addi c0_i32_81 arg29
  let c129_i32 : BitVec 32 := 129#32
  let v93 : BitVec 32 := Scalar.muli v92 c129_i32
  let v94 : Index := Scalar.indexCast v93
  let c0_82 : Index := 0#32
  ![v94.toNat, 0]
def k0_off19 (k0_t3 : Fin k0_t3_loop.trips) (k0_t12 : Fin k0_t12_loop.trips) : Fin 2 → Nat :=
  let c0_i32_2 : BitVec 32 := 0#32
  let c1_i32_4 : BitVec 32 := 1#32
  let arg26 : BitVec 32 := Scf.iv c0_i32_2 c1_i32_4 k0_t3
  let c5_i32_56 : BitVec 32 := 5#32
  let v54 : BitVec 32 := Scalar.muli arg26 c5_i32_56
  let c0_i32_18 : BitVec 32 := 0#32
  let c1_i32_20 : BitVec 32 := 1#32
  let arg27 : BitVec 32 := Scf.iv c0_i32_18 c1_i32_20 k0_t12
  let v55 : BitVec 32 := Scalar.addi v54 arg27
  let v56 : Index := Scalar.indexCast v55
  let c0_57 : Index := 0#32
  ![v56.toNat, 0]
def k0_off20 (k0_t12 : Fin k0_t12_loop.trips) (v22 : BitVec 32) (k0_t13 : Fin (k0_t13_loop k0_t12 v22).trips) : Fin 3 → Nat :=
  let c0_i32_18 : BitVec 32 := 0#32
  let c1_i32_20 : BitVec 32 := 1#32
  let arg27 : BitVec 32 := Scf.iv c0_i32_18 c1_i32_20 k0_t12
  let c0_i32_36 : BitVec 32 := 0#32
  let c1_i32_38 : BitVec 32 := 1#32
  let arg28 : BitVec 32 := Scf.iv c0_i32_36 c1_i32_38 k0_t13
  let v52 : BitVec 32 := Scalar.subi arg27 arg28
  let v66 : Index := Scalar.indexCast v52
  let c0_60 : Index := 0#32
  let c0_61 : Index := 0#32
  ![v66.toNat, 0, 0]
@[reducible] def k0_t15_loop : Scf.Loop 32 :=
  let c0_i32_67 : BitVec 32 := 0#32
  let c3_i32_68 : BitVec 32 := 3#32
  let v79 : BitVec 32 := Scalar.addi c0_i32_67 c3_i32_68
  let c1_i32_69 : BitVec 32 := 1#32
  ⟨c0_i32_67, v79, c1_i32_69⟩
def k0_off21 (k0_t15 : Fin k0_t15_loop.trips) : Fin 3 → Nat :=
  let c0_i32_67 : BitVec 32 := 0#32
  let c1_i32_69 : BitVec 32 := 1#32
  let arg29 : BitVec 32 := Scf.iv c0_i32_67 c1_i32_69 k0_t15
  let v82 : Index := Scalar.indexCast arg29
  let c0_76 : Index := 0#32
  let c0_77 : Index := 0#32
  ![v82.toNat, 0, 0]
@[reducible] def k0_t16_loop : Scf.Loop 32 :=
  let c0_i32_84 : BitVec 32 := 0#32
  let c4_i32 : BitVec 32 := 4#32
  let v92 : BitVec 32 := Scalar.addi c0_i32_84 c4_i32
  let c1_i32_85 : BitVec 32 := 1#32
  ⟨c0_i32_84, v92, c1_i32_85⟩
@[reducible] def k0_t17_loop : Scf.Loop 32 :=
  let c0_i32_97 : BitVec 32 := 0#32
  let c4_i32_98 : BitVec 32 := 4#32
  let v108 : BitVec 32 := Scalar.addi c0_i32_97 c4_i32_98
  let c1_i32_99 : BitVec 32 := 1#32
  ⟨c0_i32_97, v108, c1_i32_99⟩
@[reducible] def k0_t18_loop : Scf.Loop 32 :=
  let c0_i32_114 : BitVec 32 := 0#32
  let c8_i32_115 : BitVec 32 := 8#32
  let v135 : BitVec 32 := Scalar.addi c0_i32_114 c8_i32_115
  let c1_i32_116 : BitVec 32 := 1#32
  ⟨c0_i32_114, v135, c1_i32_116⟩
def k0_off22 (k0_t15 : Fin k0_t15_loop.trips) (k0_t16 : Fin k0_t16_loop.trips) (k0_t17 : Fin k0_t17_loop.trips) (k0_t18 : Fin k0_t18_loop.trips) : Fin 2 → Nat :=
  let c0_i32_67 : BitVec 32 := 0#32
  let c1_i32_69 : BitVec 32 := 1#32
  let arg29 : BitVec 32 := Scf.iv c0_i32_67 c1_i32_69 k0_t15
  let c8_i32_118 : BitVec 32 := 8#32
  let v137 : BitVec 32 := Scalar.muli arg29 c8_i32_118
  let c129_i32 : BitVec 32 := 129#32
  let v138 : BitVec 32 := Scalar.muli v137 c129_i32
  let c3_i32_94 : BitVec 32 := 3#32
  let c0_i32_84 : BitVec 32 := 0#32
  let c1_i32_85 : BitVec 32 := 1#32
  let arg31 : BitVec 32 := Scf.iv c0_i32_84 c1_i32_85 k0_t16
  let v105 : BitVec 32 := Scalar.subi c3_i32_94 arg31
  let c32_i32 : BitVec 32 := 32#32
  let v139 : BitVec 32 := Scalar.muli v105 c32_i32
  let v140 : BitVec 32 := Scalar.addi v138 v139
  let c0_i32_114 : BitVec 32 := 0#32
  let c1_i32_116 : BitVec 32 := 1#32
  let arg38 : BitVec 32 := Scf.iv c0_i32_114 c1_i32_116 k0_t18
  let c4_i32_119 : BitVec 32 := 4#32
  let v141 : BitVec 32 := Scalar.muli arg38 c4_i32_119
  let v142 : BitVec 32 := Scalar.addi v140 v141
  let c0_i32_97 : BitVec 32 := 0#32
  let c1_i32_99 : BitVec 32 := 1#32
  let arg35 : BitVec 32 := Scf.iv c0_i32_97 c1_i32_99 k0_t17
  let v143 : BitVec 32 := Scalar.addi v142 arg35
  let v144 : Index := Scalar.indexCast v143
  let c0_120 : Index := 0#32
  ![v144.toNat, 0]
def k0_off23 (k0_t16 : Fin k0_t16_loop.trips) (k0_t17 : Fin k0_t17_loop.trips) (k0_t18 : Fin k0_t18_loop.trips) : Fin 2 → Nat :=
  let c3_i32_94 : BitVec 32 := 3#32
  let c0_i32_84 : BitVec 32 := 0#32
  let c1_i32_85 : BitVec 32 := 1#32
  let arg31 : BitVec 32 := Scf.iv c0_i32_84 c1_i32_85 k0_t16
  let v105 : BitVec 32 := Scalar.subi c3_i32_94 arg31
  let c32_i32_121 : BitVec 32 := 32#32
  let v147 : BitVec 32 := Scalar.muli v105 c32_i32_121
  let c0_i32_97 : BitVec 32 := 0#32
  let c1_i32_99 : BitVec 32 := 1#32
  let arg35 : BitVec 32 := Scf.iv c0_i32_97 c1_i32_99 k0_t17
  let c8_i32_122 : BitVec 32 := 8#32
  let v148 : BitVec 32 := Scalar.muli arg35 c8_i32_122
  let v149 : BitVec 32 := Scalar.addi v147 v148
  let c0_i32_114 : BitVec 32 := 0#32
  let c1_i32_116 : BitVec 32 := 1#32
  let arg38 : BitVec 32 := Scf.iv c0_i32_114 c1_i32_116 k0_t18
  let v150 : BitVec 32 := Scalar.addi v149 arg38
  let v151 : Index := Scalar.indexCast v150
  let c0_123 : Index := 0#32
  ![v151.toNat, 0]
def k0_off24 (k0_t15 : Fin k0_t15_loop.trips) (k0_t16 : Fin k0_t16_loop.trips) (k0_t17 : Fin k0_t17_loop.trips) (k0_t18 : Fin k0_t18_loop.trips) : Fin 4 → Nat :=
  let c0_i32_67 : BitVec 32 := 0#32
  let c1_i32_69 : BitVec 32 := 1#32
  let arg29 : BitVec 32 := Scf.iv c0_i32_67 c1_i32_69 k0_t15
  let v161 : Index := Scalar.indexCast arg29
  let c3_i32_94 : BitVec 32 := 3#32
  let c0_i32_84 : BitVec 32 := 0#32
  let c1_i32_85 : BitVec 32 := 1#32
  let arg31 : BitVec 32 := Scf.iv c0_i32_84 c1_i32_85 k0_t16
  let v105 : BitVec 32 := Scalar.subi c3_i32_94 arg31
  let c32_i32_124 : BitVec 32 := 32#32
  let v157 : BitVec 32 := Scalar.muli v105 c32_i32_124
  let c0_i32_97 : BitVec 32 := 0#32
  let c1_i32_99 : BitVec 32 := 1#32
  let arg35 : BitVec 32 := Scf.iv c0_i32_97 c1_i32_99 k0_t17
  let c8_i32_125 : BitVec 32 := 8#32
  let v158 : BitVec 32 := Scalar.muli arg35 c8_i32_125
  let v159 : BitVec 32 := Scalar.addi v157 v158
  let c0_i32_114 : BitVec 32 := 0#32
  let c1_i32_116 : BitVec 32 := 1#32
  let arg38 : BitVec 32 := Scf.iv c0_i32_114 c1_i32_116 k0_t18
  let v160 : BitVec 32 := Scalar.addi v159 arg38
  let v162 : Index := Scalar.indexCast v160
  let c0_126 : Index := 0#32
  let c0_127 : Index := 0#32
  ![v161.toNat, v162.toNat, 0, 0]
@[reducible] def k0_t19_loop : Scf.Loop 32 :=
  let c0_i32_111 : BitVec 32 := 0#32
  let c16_i32 : BitVec 32 := 16#32
  let v134 : BitVec 32 := Scalar.addi c0_i32_111 c16_i32
  let c1_i32_112 : BitVec 32 := 1#32
  ⟨c0_i32_111, v134, c1_i32_112⟩
def k0_off25 (k0_t15 : Fin k0_t15_loop.trips) (k0_t16 : Fin k0_t16_loop.trips) (k0_t19 : Fin k0_t19_loop.trips) : Fin 4 → Nat :=
  let c0_i32_67 : BitVec 32 := 0#32
  let c1_i32_69 : BitVec 32 := 1#32
  let arg29 : BitVec 32 := Scf.iv c0_i32_67 c1_i32_69 k0_t15
  let v138 : Index := Scalar.indexCast arg29
  let c2_i32 : BitVec 32 := 2#32
  let c3_i32_94 : BitVec 32 := 3#32
  let c0_i32_84 : BitVec 32 := 0#32
  let c1_i32_85 : BitVec 32 := 1#32
  let arg31 : BitVec 32 := Scf.iv c0_i32_84 c1_i32_85 k0_t16
  let v105 : BitVec 32 := Scalar.subi c3_i32_94 arg31
  let c16_i32_114 : BitVec 32 := 16#32
  let v135 : BitVec 32 := Scalar.muli v105 c16_i32_114
  let c0_i32_111 : BitVec 32 := 0#32
  let c1_i32_112 : BitVec 32 := 1#32
  let arg35 : BitVec 32 := Scf.iv c0_i32_111 c1_i32_112 k0_t19
  let v136 : BitVec 32 := Scalar.addi v135 arg35
  let v137 : BitVec 32 := Scalar.muli c2_i32 v136
  let v139 : Index := Scalar.indexCast v137
  let c0_115 : Index := 0#32
  let c0_116 : Index := 0#32
  ![v138.toNat, v139.toNat, 0, 0]
def k0_off26 (k0_t15 : Fin k0_t15_loop.trips) (k0_t16 : Fin k0_t16_loop.trips) (k0_t19 : Fin k0_t19_loop.trips) : Fin 4 → Nat :=
  let c0_i32_67 : BitVec 32 := 0#32
  let c1_i32_69 : BitVec 32 := 1#32
  let arg29 : BitVec 32 := Scf.iv c0_i32_67 c1_i32_69 k0_t15
  let v145 : Index := Scalar.indexCast arg29
  let c2_i32_117 : BitVec 32 := 2#32
  let c3_i32_94 : BitVec 32 := 3#32
  let c0_i32_84 : BitVec 32 := 0#32
  let c1_i32_85 : BitVec 32 := 1#32
  let arg31 : BitVec 32 := Scf.iv c0_i32_84 c1_i32_85 k0_t16
  let v105 : BitVec 32 := Scalar.subi c3_i32_94 arg31
  let c16_i32_114 : BitVec 32 := 16#32
  let v135 : BitVec 32 := Scalar.muli v105 c16_i32_114
  let c0_i32_111 : BitVec 32 := 0#32
  let c1_i32_112 : BitVec 32 := 1#32
  let arg35 : BitVec 32 := Scf.iv c0_i32_111 c1_i32_112 k0_t19
  let v136 : BitVec 32 := Scalar.addi v135 arg35
  let v143 : BitVec 32 := Scalar.muli c2_i32_117 v136
  let c1_i32_118 : BitVec 32 := 1#32
  let v144 : BitVec 32 := Scalar.addi v143 c1_i32_118
  let v146 : Index := Scalar.indexCast v144
  let c0_119 : Index := 0#32
  let c0_120 : Index := 0#32
  ![v145.toNat, v146.toNat, 0, 0]
def k0_off27 (k0_t15 : Fin k0_t15_loop.trips) (k0_t16 : Fin k0_t16_loop.trips) (k0_t19 : Fin k0_t19_loop.trips) : Fin 3 → Nat :=
  let c0_i32_67 : BitVec 32 := 0#32
  let c1_i32_69 : BitVec 32 := 1#32
  let arg29 : BitVec 32 := Scf.iv c0_i32_67 c1_i32_69 k0_t15
  let c8_i32_121 : BitVec 32 := 8#32
  let v151 : BitVec 32 := Scalar.muli arg29 c8_i32_121
  let c65_i32 : BitVec 32 := 65#32
  let v152 : BitVec 32 := Scalar.muli v151 c65_i32
  let c3_i32_94 : BitVec 32 := 3#32
  let c0_i32_84 : BitVec 32 := 0#32
  let c1_i32_85 : BitVec 32 := 1#32
  let arg31 : BitVec 32 := Scf.iv c0_i32_84 c1_i32_85 k0_t16
  let v105 : BitVec 32 := Scalar.subi c3_i32_94 arg31
  let c16_i32_114 : BitVec 32 := 16#32
  let v135 : BitVec 32 := Scalar.muli v105 c16_i32_114
  let c0_i32_111 : BitVec 32 := 0#32
  let c1_i32_112 : BitVec 32 := 1#32
  let arg35 : BitVec 32 := Scf.iv c0_i32_111 c1_i32_112 k0_t19
  let v136 : BitVec 32 := Scalar.addi v135 arg35
  let v153 : BitVec 32 := Scalar.addi v152 v136
  let v154 : Index := Scalar.indexCast v153
  let c0_122 : Index := 0#32
  ![v154.toNat, 0, 0]
@[reducible] def k0_t20_loop : Scf.Loop 32 :=
  let c0_i32_72 : BitVec 32 := 0#32
  let c8_i32_73 : BitVec 32 := 8#32
  let v81 : BitVec 32 := Scalar.addi c0_i32_72 c8_i32_73
  let c1_i32_74 : BitVec 32 := 1#32
  ⟨c0_i32_72, v81, c1_i32_74⟩
def k0_off28 (k0_t20 : Fin k0_t20_loop.trips) (c0_i32_76 : BitVec 32) : Fin 3 → Nat :=
  let c0_i32_72 : BitVec 32 := 0#32
  let c1_i32_74 : BitVec 32 := 1#32
  let arg29 : BitVec 32 := Scf.iv c0_i32_72 c1_i32_74 k0_t20
  let v82 : BitVec 32 := Scalar.addi c0_i32_76 arg29
  let c65_i32 : BitVec 32 := 65#32
  let v83 : BitVec 32 := Scalar.muli v82 c65_i32
  let v84 : Index := Scalar.indexCast v83
  let c0_77 : Index := 0#32
  ![v84.toNat, 0, 0]
def k0_off29 (k0_t20 : Fin k0_t20_loop.trips) : Fin 3 → Nat :=
  let c0_i32_72 : BitVec 32 := 0#32
  let c1_i32_74 : BitVec 32 := 1#32
  let arg29 : BitVec 32 := Scf.iv c0_i32_72 c1_i32_74 k0_t20
  let v97 : Index := Scalar.indexCast arg29
  let c0_83 : Index := 0#32
  let c0_84 : Index := 0#32
  ![v97.toNat, 0, 0]
def k0_off30 (k0_t12 : Fin k0_t12_loop.trips) (v22 : BitVec 32) (k0_t13 : Fin (k0_t13_loop k0_t12 v22).trips) (k0_t20 : Fin k0_t20_loop.trips) : Fin 4 → Nat :=
  let c0_i32_18 : BitVec 32 := 0#32
  let c1_i32_20 : BitVec 32 := 1#32
  let arg27 : BitVec 32 := Scf.iv c0_i32_18 c1_i32_20 k0_t12
  let c0_i32_36 : BitVec 32 := 0#32
  let c1_i32_38 : BitVec 32 := 1#32
  let arg28 : BitVec 32 := Scf.iv c0_i32_36 c1_i32_38 k0_t13
  let v52 : BitVec 32 := Scalar.subi arg27 arg28
  let v100 : Index := Scalar.indexCast v52
  let c0_i32_72 : BitVec 32 := 0#32
  let c1_i32_74 : BitVec 32 := 1#32
  let arg29 : BitVec 32 := Scf.iv c0_i32_72 c1_i32_74 k0_t20
  let v101 : Index := Scalar.indexCast arg29
  let c0_85 : Index := 0#32
  let c0_86 : Index := 0#32
  ![v100.toNat, v101.toNat, 0, 0]
@[reducible] def k0_t21_loop (k0_t12 : Fin k0_t12_loop.trips) (v22 : BitVec 32) : Scf.Loop 32 :=
  let c0_i32_36 : BitVec 32 := 0#32
  let c0_i32_18 : BitVec 32 := 0#32
  let c1_i32_20 : BitVec 32 := 1#32
  let arg27 : BitVec 32 := Scf.iv c0_i32_18 c1_i32_20 k0_t12
  let c1_i32_34 : BitVec 32 := 1#32
  let v35 : BitVec 32 := Scalar.addi arg27 c1_i32_34
  let v36 : BitVec 32 := Scalar.subi v35 v22
  let v37 : BitVec 32 := Scalar.subi v36 c0_i32_36
  let c1_i32_37 : BitVec 32 := 1#32
  let v39 : BitVec 32 := Scalar.divsi v37 c1_i32_37
  let v40 : BitVec 32 := Scalar.muli v39 c1_i32_37
  let v41 : BitVec 32 := Scalar.addi c0_i32_36 v40
  let v38 : BitVec 32 := Scalar.addi c0_i32_36 v37
  let c1_i32_39 : BitVec 32 := 1#32
  ⟨v41, v38, c1_i32_39⟩
@[reducible] def k0_t22_loop : Scf.Loop 32 :=
  let c0_i32_52 : BitVec 32 := 0#32
  let c8_i32_53 : BitVec 32 := 8#32
  let v53 : BitVec 32 := Scalar.addi c0_i32_52 c8_i32_53
  let c1_i32_54 : BitVec 32 := 1#32
  ⟨c0_i32_52, v53, c1_i32_54⟩
def k0_off31 (k0_t12 : Fin k0_t12_loop.trips) (v22 : BitVec 32) (k0_t21 : Fin (k0_t21_loop k0_t12 v22).trips) (k0_t22 : Fin k0_t22_loop.trips) : Fin 4 → Nat :=
  let c0_i32_18 : BitVec 32 := 0#32
  let c1_i32_20 : BitVec 32 := 1#32
  let arg27 : BitVec 32 := Scf.iv c0_i32_18 c1_i32_20 k0_t12
  let c0_i32_36 : BitVec 32 := 0#32
  let c1_i32_34 : BitVec 32 := 1#32
  let v35 : BitVec 32 := Scalar.addi arg27 c1_i32_34
  let v36 : BitVec 32 := Scalar.subi v35 v22
  let v37 : BitVec 32 := Scalar.subi v36 c0_i32_36
  let c1_i32_37 : BitVec 32 := 1#32
  let v39 : BitVec 32 := Scalar.divsi v37 c1_i32_37
  let v40 : BitVec 32 := Scalar.muli v39 c1_i32_37
  let v41 : BitVec 32 := Scalar.addi c0_i32_36 v40
  let c1_i32_39 : BitVec 32 := 1#32
  let arg28 : BitVec 32 := Scf.iv v41 c1_i32_39 k0_t21
  let v52 : BitVec 32 := Scalar.subi arg27 arg28
  let v82 : Index := Scalar.indexCast v52
  let c0_i32_52 : BitVec 32 := 0#32
  let c1_i32_54 : BitVec 32 := 1#32
  let arg29 : BitVec 32 := Scf.iv c0_i32_52 c1_i32_54 k0_t22
  let v83 : Index := Scalar.indexCast arg29
  let c0_76 : Index := 0#32
  let c0_77 : Index := 0#32
  ![v82.toNat, v83.toNat, 0, 0]
def k0_off32 (k0_t12 : Fin k0_t12_loop.trips) (k0_t22 : Fin k0_t22_loop.trips) : Fin 4 → Nat :=
  let c0_i32_18 : BitVec 32 := 0#32
  let c1_i32_20 : BitVec 32 := 1#32
  let arg27 : BitVec 32 := Scf.iv c0_i32_18 c1_i32_20 k0_t12
  let v86 : Index := Scalar.indexCast arg27
  let c0_i32_52 : BitVec 32 := 0#32
  let c1_i32_54 : BitVec 32 := 1#32
  let arg29 : BitVec 32 := Scf.iv c0_i32_52 c1_i32_54 k0_t22
  let v87 : Index := Scalar.indexCast arg29
  let c0_78 : Index := 0#32
  let c0_79 : Index := 0#32
  ![v86.toNat, v87.toNat, 0, 0]
def k0_off33 (k0_t22 : Fin k0_t22_loop.trips) (c0_i32_81 : BitVec 32) : Fin 2 → Nat :=
  let c0_i32_52 : BitVec 32 := 0#32
  let c1_i32_54 : BitVec 32 := 1#32
  let arg29 : BitVec 32 := Scf.iv c0_i32_52 c1_i32_54 k0_t22
  let v92 : BitVec 32 := Scalar.addi c0_i32_81 arg29
  let c129_i32 : BitVec 32 := 129#32
  let v93 : BitVec 32 := Scalar.muli v92 c129_i32
  let v94 : Index := Scalar.indexCast v93
  let c0_82 : Index := 0#32
  ![v94.toNat, 0]
def k0_off34 (k0_t3 : Fin k0_t3_loop.trips) (k0_t12 : Fin k0_t12_loop.trips) : Fin 2 → Nat :=
  let c0_i32_2 : BitVec 32 := 0#32
  let c1_i32_4 : BitVec 32 := 1#32
  let arg26 : BitVec 32 := Scf.iv c0_i32_2 c1_i32_4 k0_t3
  let c5_i32_56 : BitVec 32 := 5#32
  let v54 : BitVec 32 := Scalar.muli arg26 c5_i32_56
  let c0_i32_18 : BitVec 32 := 0#32
  let c1_i32_20 : BitVec 32 := 1#32
  let arg27 : BitVec 32 := Scf.iv c0_i32_18 c1_i32_20 k0_t12
  let v55 : BitVec 32 := Scalar.addi v54 arg27
  let v56 : Index := Scalar.indexCast v55
  let c0_57 : Index := 0#32
  ![v56.toNat, 0]
def k0_off35 (k0_t12 : Fin k0_t12_loop.trips) (v22 : BitVec 32) (k0_t21 : Fin (k0_t21_loop k0_t12 v22).trips) : Fin 3 → Nat :=
  let c0_i32_18 : BitVec 32 := 0#32
  let c1_i32_20 : BitVec 32 := 1#32
  let arg27 : BitVec 32 := Scf.iv c0_i32_18 c1_i32_20 k0_t12
  let c0_i32_36 : BitVec 32 := 0#32
  let c1_i32_34 : BitVec 32 := 1#32
  let v35 : BitVec 32 := Scalar.addi arg27 c1_i32_34
  let v36 : BitVec 32 := Scalar.subi v35 v22
  let v37 : BitVec 32 := Scalar.subi v36 c0_i32_36
  let c1_i32_37 : BitVec 32 := 1#32
  let v39 : BitVec 32 := Scalar.divsi v37 c1_i32_37
  let v40 : BitVec 32 := Scalar.muli v39 c1_i32_37
  let v41 : BitVec 32 := Scalar.addi c0_i32_36 v40
  let c1_i32_39 : BitVec 32 := 1#32
  let arg28 : BitVec 32 := Scf.iv v41 c1_i32_39 k0_t21
  let v52 : BitVec 32 := Scalar.subi arg27 arg28
  let v66 : Index := Scalar.indexCast v52
  let c0_60 : Index := 0#32
  let c0_61 : Index := 0#32
  ![v66.toNat, 0, 0]
@[reducible] def k0_t23_loop : Scf.Loop 32 :=
  let c0_i32_67 : BitVec 32 := 0#32
  let c3_i32_68 : BitVec 32 := 3#32
  let v79 : BitVec 32 := Scalar.addi c0_i32_67 c3_i32_68
  let c1_i32_69 : BitVec 32 := 1#32
  ⟨c0_i32_67, v79, c1_i32_69⟩
def k0_off36 (k0_t23 : Fin k0_t23_loop.trips) : Fin 3 → Nat :=
  let c0_i32_67 : BitVec 32 := 0#32
  let c1_i32_69 : BitVec 32 := 1#32
  let arg29 : BitVec 32 := Scf.iv c0_i32_67 c1_i32_69 k0_t23
  let v82 : Index := Scalar.indexCast arg29
  let c0_76 : Index := 0#32
  let c0_77 : Index := 0#32
  ![v82.toNat, 0, 0]
@[reducible] def k0_t24_loop : Scf.Loop 32 :=
  let c0_i32_84 : BitVec 32 := 0#32
  let c4_i32 : BitVec 32 := 4#32
  let v92 : BitVec 32 := Scalar.addi c0_i32_84 c4_i32
  let c1_i32_85 : BitVec 32 := 1#32
  ⟨c0_i32_84, v92, c1_i32_85⟩
@[reducible] def k0_t25_loop : Scf.Loop 32 :=
  let c0_i32_97 : BitVec 32 := 0#32
  let c4_i32_98 : BitVec 32 := 4#32
  let v108 : BitVec 32 := Scalar.addi c0_i32_97 c4_i32_98
  let c1_i32_99 : BitVec 32 := 1#32
  ⟨c0_i32_97, v108, c1_i32_99⟩
@[reducible] def k0_t26_loop : Scf.Loop 32 :=
  let c0_i32_114 : BitVec 32 := 0#32
  let c8_i32_115 : BitVec 32 := 8#32
  let v135 : BitVec 32 := Scalar.addi c0_i32_114 c8_i32_115
  let c1_i32_116 : BitVec 32 := 1#32
  ⟨c0_i32_114, v135, c1_i32_116⟩
def k0_off37 (k0_t23 : Fin k0_t23_loop.trips) (k0_t24 : Fin k0_t24_loop.trips) (k0_t25 : Fin k0_t25_loop.trips) (k0_t26 : Fin k0_t26_loop.trips) : Fin 2 → Nat :=
  let c0_i32_67 : BitVec 32 := 0#32
  let c1_i32_69 : BitVec 32 := 1#32
  let arg29 : BitVec 32 := Scf.iv c0_i32_67 c1_i32_69 k0_t23
  let c8_i32_118 : BitVec 32 := 8#32
  let v137 : BitVec 32 := Scalar.muli arg29 c8_i32_118
  let c129_i32 : BitVec 32 := 129#32
  let v138 : BitVec 32 := Scalar.muli v137 c129_i32
  let c3_i32_94 : BitVec 32 := 3#32
  let c0_i32_84 : BitVec 32 := 0#32
  let c1_i32_85 : BitVec 32 := 1#32
  let arg31 : BitVec 32 := Scf.iv c0_i32_84 c1_i32_85 k0_t24
  let v105 : BitVec 32 := Scalar.subi c3_i32_94 arg31
  let c32_i32 : BitVec 32 := 32#32
  let v139 : BitVec 32 := Scalar.muli v105 c32_i32
  let v140 : BitVec 32 := Scalar.addi v138 v139
  let c0_i32_114 : BitVec 32 := 0#32
  let c1_i32_116 : BitVec 32 := 1#32
  let arg38 : BitVec 32 := Scf.iv c0_i32_114 c1_i32_116 k0_t26
  let c4_i32_119 : BitVec 32 := 4#32
  let v141 : BitVec 32 := Scalar.muli arg38 c4_i32_119
  let v142 : BitVec 32 := Scalar.addi v140 v141
  let c0_i32_97 : BitVec 32 := 0#32
  let c1_i32_99 : BitVec 32 := 1#32
  let arg35 : BitVec 32 := Scf.iv c0_i32_97 c1_i32_99 k0_t25
  let v143 : BitVec 32 := Scalar.addi v142 arg35
  let v144 : Index := Scalar.indexCast v143
  let c0_120 : Index := 0#32
  ![v144.toNat, 0]
def k0_off38 (k0_t24 : Fin k0_t24_loop.trips) (k0_t25 : Fin k0_t25_loop.trips) (k0_t26 : Fin k0_t26_loop.trips) : Fin 2 → Nat :=
  let c3_i32_94 : BitVec 32 := 3#32
  let c0_i32_84 : BitVec 32 := 0#32
  let c1_i32_85 : BitVec 32 := 1#32
  let arg31 : BitVec 32 := Scf.iv c0_i32_84 c1_i32_85 k0_t24
  let v105 : BitVec 32 := Scalar.subi c3_i32_94 arg31
  let c32_i32_121 : BitVec 32 := 32#32
  let v147 : BitVec 32 := Scalar.muli v105 c32_i32_121
  let c0_i32_97 : BitVec 32 := 0#32
  let c1_i32_99 : BitVec 32 := 1#32
  let arg35 : BitVec 32 := Scf.iv c0_i32_97 c1_i32_99 k0_t25
  let c8_i32_122 : BitVec 32 := 8#32
  let v148 : BitVec 32 := Scalar.muli arg35 c8_i32_122
  let v149 : BitVec 32 := Scalar.addi v147 v148
  let c0_i32_114 : BitVec 32 := 0#32
  let c1_i32_116 : BitVec 32 := 1#32
  let arg38 : BitVec 32 := Scf.iv c0_i32_114 c1_i32_116 k0_t26
  let v150 : BitVec 32 := Scalar.addi v149 arg38
  let v151 : Index := Scalar.indexCast v150
  let c0_123 : Index := 0#32
  ![v151.toNat, 0]
def k0_off39 (k0_t23 : Fin k0_t23_loop.trips) (k0_t24 : Fin k0_t24_loop.trips) (k0_t25 : Fin k0_t25_loop.trips) (k0_t26 : Fin k0_t26_loop.trips) : Fin 4 → Nat :=
  let c0_i32_67 : BitVec 32 := 0#32
  let c1_i32_69 : BitVec 32 := 1#32
  let arg29 : BitVec 32 := Scf.iv c0_i32_67 c1_i32_69 k0_t23
  let v161 : Index := Scalar.indexCast arg29
  let c3_i32_94 : BitVec 32 := 3#32
  let c0_i32_84 : BitVec 32 := 0#32
  let c1_i32_85 : BitVec 32 := 1#32
  let arg31 : BitVec 32 := Scf.iv c0_i32_84 c1_i32_85 k0_t24
  let v105 : BitVec 32 := Scalar.subi c3_i32_94 arg31
  let c32_i32_124 : BitVec 32 := 32#32
  let v157 : BitVec 32 := Scalar.muli v105 c32_i32_124
  let c0_i32_97 : BitVec 32 := 0#32
  let c1_i32_99 : BitVec 32 := 1#32
  let arg35 : BitVec 32 := Scf.iv c0_i32_97 c1_i32_99 k0_t25
  let c8_i32_125 : BitVec 32 := 8#32
  let v158 : BitVec 32 := Scalar.muli arg35 c8_i32_125
  let v159 : BitVec 32 := Scalar.addi v157 v158
  let c0_i32_114 : BitVec 32 := 0#32
  let c1_i32_116 : BitVec 32 := 1#32
  let arg38 : BitVec 32 := Scf.iv c0_i32_114 c1_i32_116 k0_t26
  let v160 : BitVec 32 := Scalar.addi v159 arg38
  let v162 : Index := Scalar.indexCast v160
  let c0_126 : Index := 0#32
  let c0_127 : Index := 0#32
  ![v161.toNat, v162.toNat, 0, 0]
@[reducible] def k0_t27_loop : Scf.Loop 32 :=
  let c0_i32_111 : BitVec 32 := 0#32
  let c16_i32 : BitVec 32 := 16#32
  let v134 : BitVec 32 := Scalar.addi c0_i32_111 c16_i32
  let c1_i32_112 : BitVec 32 := 1#32
  ⟨c0_i32_111, v134, c1_i32_112⟩
def k0_off40 (k0_t23 : Fin k0_t23_loop.trips) (k0_t24 : Fin k0_t24_loop.trips) (k0_t27 : Fin k0_t27_loop.trips) : Fin 4 → Nat :=
  let c0_i32_67 : BitVec 32 := 0#32
  let c1_i32_69 : BitVec 32 := 1#32
  let arg29 : BitVec 32 := Scf.iv c0_i32_67 c1_i32_69 k0_t23
  let v138 : Index := Scalar.indexCast arg29
  let c2_i32 : BitVec 32 := 2#32
  let c3_i32_94 : BitVec 32 := 3#32
  let c0_i32_84 : BitVec 32 := 0#32
  let c1_i32_85 : BitVec 32 := 1#32
  let arg31 : BitVec 32 := Scf.iv c0_i32_84 c1_i32_85 k0_t24
  let v105 : BitVec 32 := Scalar.subi c3_i32_94 arg31
  let c16_i32_114 : BitVec 32 := 16#32
  let v135 : BitVec 32 := Scalar.muli v105 c16_i32_114
  let c0_i32_111 : BitVec 32 := 0#32
  let c1_i32_112 : BitVec 32 := 1#32
  let arg35 : BitVec 32 := Scf.iv c0_i32_111 c1_i32_112 k0_t27
  let v136 : BitVec 32 := Scalar.addi v135 arg35
  let v137 : BitVec 32 := Scalar.muli c2_i32 v136
  let v139 : Index := Scalar.indexCast v137
  let c0_115 : Index := 0#32
  let c0_116 : Index := 0#32
  ![v138.toNat, v139.toNat, 0, 0]
def k0_off41 (k0_t23 : Fin k0_t23_loop.trips) (k0_t24 : Fin k0_t24_loop.trips) (k0_t27 : Fin k0_t27_loop.trips) : Fin 4 → Nat :=
  let c0_i32_67 : BitVec 32 := 0#32
  let c1_i32_69 : BitVec 32 := 1#32
  let arg29 : BitVec 32 := Scf.iv c0_i32_67 c1_i32_69 k0_t23
  let v145 : Index := Scalar.indexCast arg29
  let c2_i32_117 : BitVec 32 := 2#32
  let c3_i32_94 : BitVec 32 := 3#32
  let c0_i32_84 : BitVec 32 := 0#32
  let c1_i32_85 : BitVec 32 := 1#32
  let arg31 : BitVec 32 := Scf.iv c0_i32_84 c1_i32_85 k0_t24
  let v105 : BitVec 32 := Scalar.subi c3_i32_94 arg31
  let c16_i32_114 : BitVec 32 := 16#32
  let v135 : BitVec 32 := Scalar.muli v105 c16_i32_114
  let c0_i32_111 : BitVec 32 := 0#32
  let c1_i32_112 : BitVec 32 := 1#32
  let arg35 : BitVec 32 := Scf.iv c0_i32_111 c1_i32_112 k0_t27
  let v136 : BitVec 32 := Scalar.addi v135 arg35
  let v143 : BitVec 32 := Scalar.muli c2_i32_117 v136
  let c1_i32_118 : BitVec 32 := 1#32
  let v144 : BitVec 32 := Scalar.addi v143 c1_i32_118
  let v146 : Index := Scalar.indexCast v144
  let c0_119 : Index := 0#32
  let c0_120 : Index := 0#32
  ![v145.toNat, v146.toNat, 0, 0]
def k0_off42 (k0_t23 : Fin k0_t23_loop.trips) (k0_t24 : Fin k0_t24_loop.trips) (k0_t27 : Fin k0_t27_loop.trips) : Fin 3 → Nat :=
  let c0_i32_67 : BitVec 32 := 0#32
  let c1_i32_69 : BitVec 32 := 1#32
  let arg29 : BitVec 32 := Scf.iv c0_i32_67 c1_i32_69 k0_t23
  let c8_i32_121 : BitVec 32 := 8#32
  let v151 : BitVec 32 := Scalar.muli arg29 c8_i32_121
  let c65_i32 : BitVec 32 := 65#32
  let v152 : BitVec 32 := Scalar.muli v151 c65_i32
  let c3_i32_94 : BitVec 32 := 3#32
  let c0_i32_84 : BitVec 32 := 0#32
  let c1_i32_85 : BitVec 32 := 1#32
  let arg31 : BitVec 32 := Scf.iv c0_i32_84 c1_i32_85 k0_t24
  let v105 : BitVec 32 := Scalar.subi c3_i32_94 arg31
  let c16_i32_114 : BitVec 32 := 16#32
  let v135 : BitVec 32 := Scalar.muli v105 c16_i32_114
  let c0_i32_111 : BitVec 32 := 0#32
  let c1_i32_112 : BitVec 32 := 1#32
  let arg35 : BitVec 32 := Scf.iv c0_i32_111 c1_i32_112 k0_t27
  let v136 : BitVec 32 := Scalar.addi v135 arg35
  let v153 : BitVec 32 := Scalar.addi v152 v136
  let v154 : Index := Scalar.indexCast v153
  let c0_122 : Index := 0#32
  ![v154.toNat, 0, 0]
@[reducible] def k0_t28_loop : Scf.Loop 32 :=
  let c0_i32_72 : BitVec 32 := 0#32
  let c8_i32_73 : BitVec 32 := 8#32
  let v81 : BitVec 32 := Scalar.addi c0_i32_72 c8_i32_73
  let c1_i32_74 : BitVec 32 := 1#32
  ⟨c0_i32_72, v81, c1_i32_74⟩
def k0_off43 (k0_t28 : Fin k0_t28_loop.trips) (c0_i32_76 : BitVec 32) : Fin 3 → Nat :=
  let c0_i32_72 : BitVec 32 := 0#32
  let c1_i32_74 : BitVec 32 := 1#32
  let arg29 : BitVec 32 := Scf.iv c0_i32_72 c1_i32_74 k0_t28
  let v82 : BitVec 32 := Scalar.addi c0_i32_76 arg29
  let c65_i32 : BitVec 32 := 65#32
  let v83 : BitVec 32 := Scalar.muli v82 c65_i32
  let v84 : Index := Scalar.indexCast v83
  let c0_77 : Index := 0#32
  ![v84.toNat, 0, 0]
def k0_off44 (k0_t28 : Fin k0_t28_loop.trips) : Fin 3 → Nat :=
  let c0_i32_72 : BitVec 32 := 0#32
  let c1_i32_74 : BitVec 32 := 1#32
  let arg29 : BitVec 32 := Scf.iv c0_i32_72 c1_i32_74 k0_t28
  let v97 : Index := Scalar.indexCast arg29
  let c0_83 : Index := 0#32
  let c0_84 : Index := 0#32
  ![v97.toNat, 0, 0]
def k0_off45 (k0_t12 : Fin k0_t12_loop.trips) (v22 : BitVec 32) (k0_t21 : Fin (k0_t21_loop k0_t12 v22).trips) (k0_t28 : Fin k0_t28_loop.trips) : Fin 4 → Nat :=
  let c0_i32_18 : BitVec 32 := 0#32
  let c1_i32_20 : BitVec 32 := 1#32
  let arg27 : BitVec 32 := Scf.iv c0_i32_18 c1_i32_20 k0_t12
  let c0_i32_36 : BitVec 32 := 0#32
  let c1_i32_34 : BitVec 32 := 1#32
  let v35 : BitVec 32 := Scalar.addi arg27 c1_i32_34
  let v36 : BitVec 32 := Scalar.subi v35 v22
  let v37 : BitVec 32 := Scalar.subi v36 c0_i32_36
  let c1_i32_37 : BitVec 32 := 1#32
  let v39 : BitVec 32 := Scalar.divsi v37 c1_i32_37
  let v40 : BitVec 32 := Scalar.muli v39 c1_i32_37
  let v41 : BitVec 32 := Scalar.addi c0_i32_36 v40
  let c1_i32_39 : BitVec 32 := 1#32
  let arg28 : BitVec 32 := Scf.iv v41 c1_i32_39 k0_t21
  let v52 : BitVec 32 := Scalar.subi arg27 arg28
  let v100 : Index := Scalar.indexCast v52
  let c0_i32_72 : BitVec 32 := 0#32
  let c1_i32_74 : BitVec 32 := 1#32
  let arg29 : BitVec 32 := Scf.iv c0_i32_72 c1_i32_74 k0_t28
  let v101 : Index := Scalar.indexCast arg29
  let c0_85 : Index := 0#32
  let c0_86 : Index := 0#32
  ![v100.toNat, v101.toNat, 0, 0]

def k0_chk2 (k0_t12 : Fin k0_t12_loop.trips) (v22 : BitVec 32) : Prop :=
  ((k0_t13_loop k0_t12 v22).OK) ∧
  (∀ (k0_t13 : Fin (k0_t13_loop k0_t12 v22).trips) (k0_t14 : Fin k0_t14_loop.trips), ∀ a, (k0_off16 k0_t12 v22 k0_t13 k0_t14) a + S1x1x128x128.size a ≤ S5x8x128x128.size a) ∧
  (∀ k0_t13 : Fin (k0_t13_loop k0_t12 v22).trips, ∀ a, (k0_off20 k0_t12 v22 k0_t13) a + S1x128x128.size a ≤ S5x128x128.size a) ∧
  (∀ (k0_t13 : Fin (k0_t13_loop k0_t12 v22).trips) (k0_t20 : Fin k0_t20_loop.trips), ∀ a, (k0_off30 k0_t12 v22 k0_t13 k0_t20) a + S1x1x128x128.size a ≤ S5x8x128x128.size a) ∧
  ((k0_t21_loop k0_t12 v22).OK) ∧
  (∀ (k0_t21 : Fin (k0_t21_loop k0_t12 v22).trips) (k0_t22 : Fin k0_t22_loop.trips), ∀ a, (k0_off31 k0_t12 v22 k0_t21 k0_t22) a + S1x1x128x128.size a ≤ S5x8x128x128.size a) ∧
  (∀ k0_t21 : Fin (k0_t21_loop k0_t12 v22).trips, ∀ a, (k0_off35 k0_t12 v22 k0_t21) a + S1x128x128.size a ≤ S5x128x128.size a) ∧
  (∀ (k0_t21 : Fin (k0_t21_loop k0_t12 v22).trips) (k0_t28 : Fin k0_t28_loop.trips), ∀ a, (k0_off45 k0_t12 v22 k0_t21 k0_t28) a + S1x1x128x128.size a ≤ S5x8x128x128.size a)
theorem k0_t13_ok : ∀ (k0_t12 : Fin k0_t12_loop.trips) (v22 : BitVec 32) (k0_hw2 : k0_chk2 k0_t12 v22), (k0_t13_loop k0_t12 v22).OK := fun k0_t12 v22 k0_hw2 => k0_hw2.1
theorem k0_off16_inb : ∀ (k0_t12 : Fin k0_t12_loop.trips) (v22 : BitVec 32) (k0_hw2 : k0_chk2 k0_t12 v22) (k0_t13 : Fin (k0_t13_loop k0_t12 v22).trips) (k0_t14 : Fin k0_t14_loop.trips), ∀ a, (k0_off16 k0_t12 v22 k0_t13 k0_t14) a + S1x1x128x128.size a ≤ S5x8x128x128.size a := fun k0_t12 v22 k0_hw2 k0_t13 k0_t14 => k0_hw2.2.1 k0_t13 k0_t14
theorem k0_off20_inb : ∀ (k0_t12 : Fin k0_t12_loop.trips) (v22 : BitVec 32) (k0_hw2 : k0_chk2 k0_t12 v22) (k0_t13 : Fin (k0_t13_loop k0_t12 v22).trips), ∀ a, (k0_off20 k0_t12 v22 k0_t13) a + S1x128x128.size a ≤ S5x128x128.size a := fun k0_t12 v22 k0_hw2 k0_t13 => k0_hw2.2.2.1 k0_t13
theorem k0_off30_inb : ∀ (k0_t12 : Fin k0_t12_loop.trips) (v22 : BitVec 32) (k0_hw2 : k0_chk2 k0_t12 v22) (k0_t13 : Fin (k0_t13_loop k0_t12 v22).trips) (k0_t20 : Fin k0_t20_loop.trips), ∀ a, (k0_off30 k0_t12 v22 k0_t13 k0_t20) a + S1x1x128x128.size a ≤ S5x8x128x128.size a := fun k0_t12 v22 k0_hw2 k0_t13 k0_t20 => k0_hw2.2.2.2.1 k0_t13 k0_t20
theorem k0_t21_ok : ∀ (k0_t12 : Fin k0_t12_loop.trips) (v22 : BitVec 32) (k0_hw2 : k0_chk2 k0_t12 v22), (k0_t21_loop k0_t12 v22).OK := fun k0_t12 v22 k0_hw2 => k0_hw2.2.2.2.2.1
theorem k0_off31_inb : ∀ (k0_t12 : Fin k0_t12_loop.trips) (v22 : BitVec 32) (k0_hw2 : k0_chk2 k0_t12 v22) (k0_t21 : Fin (k0_t21_loop k0_t12 v22).trips) (k0_t22 : Fin k0_t22_loop.trips), ∀ a, (k0_off31 k0_t12 v22 k0_t21 k0_t22) a + S1x1x128x128.size a ≤ S5x8x128x128.size a := fun k0_t12 v22 k0_hw2 k0_t21 k0_t22 => k0_hw2.2.2.2.2.2.1 k0_t21 k0_t22
theorem k0_off35_inb : ∀ (k0_t12 : Fin k0_t12_loop.trips) (v22 : BitVec 32) (k0_hw2 : k0_chk2 k0_t12 v22) (k0_t21 : Fin (k0_t21_loop k0_t12 v22).trips), ∀ a, (k0_off35 k0_t12 v22 k0_t21) a + S1x128x128.size a ≤ S5x128x128.size a := fun k0_t12 v22 k0_hw2 k0_t21 => k0_hw2.2.2.2.2.2.2.1 k0_t21
theorem k0_off45_inb : ∀ (k0_t12 : Fin k0_t12_loop.trips) (v22 : BitVec 32) (k0_hw2 : k0_chk2 k0_t12 v22) (k0_t21 : Fin (k0_t21_loop k0_t12 v22).trips) (k0_t28 : Fin k0_t28_loop.trips), ∀ a, (k0_off45 k0_t12 v22 k0_t21 k0_t28) a + S1x1x128x128.size a ≤ S5x8x128x128.size a := fun k0_t12 v22 k0_hw2 k0_t21 k0_t28 => k0_hw2.2.2.2.2.2.2.2 k0_t21 k0_t28

def k0_mult6 (k0_t12 : Fin k0_t12_loop.trips) : BitVec 32 :=
  let c0_i32_18 : BitVec 32 := 0#32
  let c1_i32_20 : BitVec 32 := 1#32
  let arg27 : BitVec 32 := Scf.iv c0_i32_18 c1_i32_20 k0_t12
  let c128_i32_40 : BitVec 32 := 128#32
  let v42 : BitVec 32 := Scalar.muli arg27 c128_i32_40
  v42
@[reducible] def k0_t29_loop : Scf.Loop 32 :=
  let c0_i32_41 : BitVec 32 := 0#32
  let c8_i32 : BitVec 32 := 8#32
  let v44 : BitVec 32 := Scalar.addi c0_i32_41 c8_i32
  let c1_i32_42 : BitVec 32 := 1#32
  ⟨c0_i32_41, v44, c1_i32_42⟩
@[reducible] def k0_t30_loop : Scf.Loop 32 :=
  let c0_i32_51 : BitVec 32 := 0#32
  let c3_i32_52 : BitVec 32 := 3#32
  let v52 : BitVec 32 := Scalar.addi c0_i32_51 c3_i32_52
  let c1_i32_53 : BitVec 32 := 1#32
  ⟨c0_i32_51, v52, c1_i32_53⟩
def k0_mult7 (k0_t30 : Fin k0_t30_loop.trips) : BitVec 32 :=
  let c0_i32_51 : BitVec 32 := 0#32
  let c1_i32_53 : BitVec 32 := 1#32
  let arg29 : BitVec 32 := Scf.iv c0_i32_51 c1_i32_53 k0_t30
  let c128_i32_55 : BitVec 32 := 128#32
  let v53 : BitVec 32 := Scalar.muli arg29 c128_i32_55
  v53
def k0_off46 (k0_t29 : Fin k0_t29_loop.trips) (k0_t30 : Fin k0_t30_loop.trips) : Fin 3 → Nat :=
  let c0_i32_41 : BitVec 32 := 0#32
  let c1_i32_42 : BitVec 32 := 1#32
  let arg28 : BitVec 32 := Scf.iv c0_i32_41 c1_i32_42 k0_t29
  let v55 : Index := Scalar.indexCast arg28
  let c0_56 : Index := 0#32
  let c0_i32_51 : BitVec 32 := 0#32
  let c1_i32_53 : BitVec 32 := 1#32
  let arg29 : BitVec 32 := Scf.iv c0_i32_51 c1_i32_53 k0_t30
  let c128_i32_55 : BitVec 32 := 128#32
  let v53 : BitVec 32 := Scalar.muli arg29 c128_i32_55
  let v54 : BitVec 32 := v53
  let v56 : Index := Scalar.indexCast v54
  ![v55.toNat, 0, v56.toNat]
def k0_off47 (k0_t3 : Fin k0_t3_loop.trips) (k0_t29 : Fin k0_t29_loop.trips) : Fin 2 → Nat :=
  let c0_i32_2 : BitVec 32 := 0#32
  let c1_i32_4 : BitVec 32 := 1#32
  let arg26 : BitVec 32 := Scf.iv c0_i32_2 c1_i32_4 k0_t3
  let v59 : Index := Scalar.indexCast arg26
  let c0_i32_41 : BitVec 32 := 0#32
  let c1_i32_42 : BitVec 32 := 1#32
  let arg28 : BitVec 32 := Scf.iv c0_i32_41 c1_i32_42 k0_t29
  let v60 : Index := Scalar.indexCast arg28
  ![v59.toNat, v60.toNat]
def k0_mult8 (k0_t29 : Fin k0_t29_loop.trips) (k0_t30 : Fin k0_t30_loop.trips) : BitVec 32 :=
  let c0_i32_41 : BitVec 32 := 0#32
  let c1_i32_42 : BitVec 32 := 1#32
  let arg28 : BitVec 32 := Scf.iv c0_i32_41 c1_i32_42 k0_t29
  let c3_i32_57 : BitVec 32 := 3#32
  let v66 : BitVec 32 := Scalar.muli arg28 c3_i32_57
  let c0_i32_51 : BitVec 32 := 0#32
  let c1_i32_53 : BitVec 32 := 1#32
  let arg29 : BitVec 32 := Scf.iv c0_i32_51 c1_i32_53 k0_t30
  let v67 : BitVec 32 := Scalar.addi v66 arg29
  let c128_i32_58 : BitVec 32 := 128#32
  let v68 : BitVec 32 := Scalar.muli v67 c128_i32_58
  v68
def k0_off48 (k0_t3 : Fin k0_t3_loop.trips) (k0_t12 : Fin k0_t12_loop.trips) (k0_t29 : Fin k0_t29_loop.trips) (k0_t30 : Fin k0_t30_loop.trips) : Fin 3 → Nat :=
  let c0_i32_2 : BitVec 32 := 0#32
  let c1_i32_4 : BitVec 32 := 1#32
  let arg26 : BitVec 32 := Scf.iv c0_i32_2 c1_i32_4 k0_t3
  let v70 : Index := Scalar.indexCast arg26
  let c0_i32_18 : BitVec 32 := 0#32
  let c1_i32_20 : BitVec 32 := 1#32
  let arg27 : BitVec 32 := Scf.iv c0_i32_18 c1_i32_20 k0_t12
  let c128_i32_40 : BitVec 32 := 128#32
  let v42 : BitVec 32 := Scalar.muli arg27 c128_i32_40
  let v43 : BitVec 32 := v42
  let v71 : Index := Scalar.indexCast v43
  let c0_i32_41 : BitVec 32 := 0#32
  let c1_i32_42 : BitVec 32 := 1#32
  let arg28 : BitVec 32 := Scf.iv c0_i32_41 c1_i32_42 k0_t29
  let c3_i32_57 : BitVec 32 := 3#32
  let v66 : BitVec 32 := Scalar.muli arg28 c3_i32_57
  let c0_i32_51 : BitVec 32 := 0#32
  let c1_i32_53 : BitVec 32 := 1#32
  let arg29 : BitVec 32 := Scf.iv c0_i32_51 c1_i32_53 k0_t30
  let v67 : BitVec 32 := Scalar.addi v66 arg29
  let c128_i32_58 : BitVec 32 := 128#32
  let v68 : BitVec 32 := Scalar.muli v67 c128_i32_58
  let v69 : BitVec 32 := v68
  let v72 : Index := Scalar.indexCast v69
  ![v70.toNat, v71.toNat, v72.toNat]
@[reducible] def k0_t31_loop : Scf.Loop 32 :=
  let c0_i32_44 : BitVec 32 := 0#32
  let c3_i32_45 : BitVec 32 := 3#32
  let v45 : BitVec 32 := Scalar.addi c0_i32_44 c3_i32_45
  let c1_i32_46 : BitVec 32 := 1#32
  ⟨c0_i32_44, v45, c1_i32_46⟩
def k0_off49 (k0_t31 : Fin k0_t31_loop.trips) : Fin 3 → Nat :=
  let c0_i32_44 : BitVec 32 := 0#32
  let c1_i32_46 : BitVec 32 := 1#32
  let arg28 : BitVec 32 := Scf.iv c0_i32_44 c1_i32_46 k0_t31
  let v52 : Index := Scalar.indexCast arg28
  let c0_51 : Index := 0#32
  let c0_52 : Index := 0#32
  ![v52.toNat, 0, 0]
def k0_off50 (k0_t31 : Fin k0_t31_loop.trips) : Fin 2 → Nat :=
  let c0_i32_44 : BitVec 32 := 0#32
  let c1_i32_46 : BitVec 32 := 1#32
  let arg28 : BitVec 32 := Scf.iv c0_i32_44 c1_i32_46 k0_t31
  let v57 : Index := Scalar.indexCast arg28
  let c0_54 : Index := 0#32
  ![v57.toNat, 0]
def k0_off51 (k0_t3 : Fin k0_t3_loop.trips) (k0_t12 : Fin k0_t12_loop.trips) : Fin 3 → Nat :=
  let c0_i32_2 : BitVec 32 := 0#32
  let c1_i32_4 : BitVec 32 := 1#32
  let arg26 : BitVec 32 := Scf.iv c0_i32_2 c1_i32_4 k0_t3
  let v47 : Index := Scalar.indexCast arg26
  let c0_50 : Index := 0#32
  let c0_i32_18 : BitVec 32 := 0#32
  let c1_i32_20 : BitVec 32 := 1#32
  let arg27 : BitVec 32 := Scf.iv c0_i32_18 c1_i32_20 k0_t12
  let c128_i32_40 : BitVec 32 := 128#32
  let v42 : BitVec 32 := Scalar.muli arg27 c128_i32_40
  let v43 : BitVec 32 := v42
  let v48 : Index := Scalar.indexCast v43
  ![v47.toNat, 0, v48.toNat]
@[reducible] def k0_t32_loop : Scf.Loop 32 :=
  let c0_i32_11 : BitVec 32 := 0#32
  let c3_i32_12 : BitVec 32 := 3#32
  let v15 : BitVec 32 := Scalar.addi c0_i32_11 c3_i32_12
  let c1_i32_13 : BitVec 32 := 1#32
  ⟨c0_i32_11, v15, c1_i32_13⟩
@[reducible] def k0_t33_loop : Scf.Loop 32 :=
  let c0_i32_15 : BitVec 32 := 0#32
  let c3_i32_16 : BitVec 32 := 3#32
  let v16 : BitVec 32 := Scalar.addi c0_i32_15 c3_i32_16
  let c1_i32_17 : BitVec 32 := 1#32
  ⟨c0_i32_15, v16, c1_i32_17⟩
@[reducible] def k0_t34_loop : Scf.Loop 32 :=
  let c0_i32_27 : BitVec 32 := 0#32
  let c8_i32 : BitVec 32 := 8#32
  let v20 : BitVec 32 := Scalar.addi c0_i32_27 c8_i32
  let c1_i32_28 : BitVec 32 := 1#32
  ⟨c0_i32_27, v20, c1_i32_28⟩
def k0_off52 (k0_t32 : Fin k0_t32_loop.trips) (k0_t33 : Fin k0_t33_loop.trips) (k0_t34 : Fin k0_t34_loop.trips) : Fin 2 → Nat :=
  let c0_i32_11 : BitVec 32 := 0#32
  let c1_i32_13 : BitVec 32 := 1#32
  let arg26 : BitVec 32 := Scf.iv c0_i32_11 c1_i32_13 k0_t32
  let v28 : Index := Scalar.indexCast arg26
  let c0_i32_27 : BitVec 32 := 0#32
  let c1_i32_28 : BitVec 32 := 1#32
  let arg28 : BitVec 32 := Scf.iv c0_i32_27 c1_i32_28 k0_t34
  let c3_i32_32 : BitVec 32 := 3#32
  let v26 : BitVec 32 := Scalar.muli arg28 c3_i32_32
  let c0_i32_15 : BitVec 32 := 0#32
  let c1_i32_17 : BitVec 32 := 1#32
  let arg27 : BitVec 32 := Scf.iv c0_i32_15 c1_i32_17 k0_t33
  let v27 : BitVec 32 := Scalar.addi v26 arg27
  let v29 : Index := Scalar.indexCast v27
  ![v28.toNat, v29.toNat]
def k0_off53 (k0_t32 : Fin k0_t32_loop.trips) (k0_t34 : Fin k0_t34_loop.trips) : Fin 2 → Nat :=
  let c0_i32_11 : BitVec 32 := 0#32
  let c1_i32_13 : BitVec 32 := 1#32
  let arg26 : BitVec 32 := Scf.iv c0_i32_11 c1_i32_13 k0_t32
  let v31 : Index := Scalar.indexCast arg26
  let c0_i32_27 : BitVec 32 := 0#32
  let c1_i32_28 : BitVec 32 := 1#32
  let arg28 : BitVec 32 := Scf.iv c0_i32_27 c1_i32_28 k0_t34
  let v32 : Index := Scalar.indexCast arg28
  ![v31.toNat, v32.toNat]
def k0_off54 (k0_t33 : Fin k0_t33_loop.trips) : Fin 3 → Nat :=
  let c0_i32_15 : BitVec 32 := 0#32
  let c1_i32_17 : BitVec 32 := 1#32
  let arg27 : BitVec 32 := Scf.iv c0_i32_15 c1_i32_17 k0_t33
  let v22 : Index := Scalar.indexCast arg27
  let c0_30 : Index := 0#32
  let c0_31 : Index := 0#32
  ![v22.toNat, 0, 0]
@[reducible] def k0_t35_loop : Scf.Loop 32 :=
  let c0_i32_19 : BitVec 32 := 0#32
  let c5_i32 : BitVec 32 := 5#32
  let v17 : BitVec 32 := Scalar.addi c0_i32_19 c5_i32
  let c1_i32_20 : BitVec 32 := 1#32
  ⟨c0_i32_19, v17, c1_i32_20⟩
def k0_mult9 (k0_t35 : Fin k0_t35_loop.trips) : BitVec 32 :=
  let c0_i32_19 : BitVec 32 := 0#32
  let c1_i32_20 : BitVec 32 := 1#32
  let arg27 : BitVec 32 := Scf.iv c0_i32_19 c1_i32_20 k0_t35
  let c128_i32 : BitVec 32 := 128#32
  let v19 : BitVec 32 := Scalar.muli arg27 c128_i32
  v19
@[reducible] def k0_t36_loop : Scf.Loop 32 :=
  let c0_i32_26 : BitVec 32 := 0#32
  let c8_i32 : BitVec 32 := 8#32
  let v21 : BitVec 32 := Scalar.addi c0_i32_26 c8_i32
  let c1_i32_27 : BitVec 32 := 1#32
  ⟨c0_i32_26, v21, c1_i32_27⟩
@[reducible] def k0_t37_loop : Scf.Loop 32 :=
  let c0_i32_41 : BitVec 32 := 0#32
  let c3_i32_42 : BitVec 32 := 3#32
  let v35 : BitVec 32 := Scalar.addi c0_i32_41 c3_i32_42
  let c1_i32_43 : BitVec 32 := 1#32
  ⟨c0_i32_41, v35, c1_i32_43⟩
def k0_mult10 (k0_t37 : Fin k0_t37_loop.trips) : BitVec 32 :=
  let c0_i32_41 : BitVec 32 := 0#32
  let c1_i32_43 : BitVec 32 := 1#32
  let arg29 : BitVec 32 := Scf.iv c0_i32_41 c1_i32_43 k0_t37
  let c128_i32_45 : BitVec 32 := 128#32
  let v36 : BitVec 32 := Scalar.muli arg29 c128_i32_45
  v36
def k0_off55 (k0_t32 : Fin k0_t32_loop.trips) (k0_t35 : Fin k0_t35_loop.trips) (k0_t36 : Fin k0_t36_loop.trips) (k0_t37 : Fin k0_t37_loop.trips) : Fin 4 → Nat :=
  let c0_i32_11 : BitVec 32 := 0#32
  let c1_i32_13 : BitVec 32 := 1#32
  let arg26 : BitVec 32 := Scf.iv c0_i32_11 c1_i32_13 k0_t32
  let v40 : Index := Scalar.indexCast arg26
  let c0_i32_19 : BitVec 32 := 0#32
  let c1_i32_20 : BitVec 32 := 1#32
  let arg27 : BitVec 32 := Scf.iv c0_i32_19 c1_i32_20 k0_t35
  let c128_i32 : BitVec 32 := 128#32
  let v19 : BitVec 32 := Scalar.muli arg27 c128_i32
  let v20 : BitVec 32 := v19
  let v41 : Index := Scalar.indexCast v20
  let c0_i32_26 : BitVec 32 := 0#32
  let c1_i32_27 : BitVec 32 := 1#32
  let arg28 : BitVec 32 := Scf.iv c0_i32_26 c1_i32_27 k0_t36
  let c3_i32_46 : BitVec 32 := 3#32
  let v38 : BitVec 32 := Scalar.muli arg28 c3_i32_46
  let c0_i32_41 : BitVec 32 := 0#32
  let c1_i32_43 : BitVec 32 := 1#32
  let arg29 : BitVec 32 := Scf.iv c0_i32_41 c1_i32_43 k0_t37
  let v39 : BitVec 32 := Scalar.addi v38 arg29
  let v42 : Index := Scalar.indexCast v39
  let c0_47 : Index := 0#32
  ![v40.toNat, v41.toNat, v42.toNat, 0]
def k0_off56 (k0_t35 : Fin k0_t35_loop.trips) (k0_t36 : Fin k0_t36_loop.trips) (k0_t37 : Fin k0_t37_loop.trips) : Fin 4 → Nat :=
  let c0_i32_19 : BitVec 32 := 0#32
  let c1_i32_20 : BitVec 32 := 1#32
  let arg27 : BitVec 32 := Scf.iv c0_i32_19 c1_i32_20 k0_t35
  let v46 : Index := Scalar.indexCast arg27
  let c0_i32_26 : BitVec 32 := 0#32
  let c1_i32_27 : BitVec 32 := 1#32
  let arg28 : BitVec 32 := Scf.iv c0_i32_26 c1_i32_27 k0_t36
  let v47 : Index := Scalar.indexCast arg28
  let c0_48 : Index := 0#32
  let c0_i32_41 : BitVec 32 := 0#32
  let c1_i32_43 : BitVec 32 := 1#32
  let arg29 : BitVec 32 := Scf.iv c0_i32_41 c1_i32_43 k0_t37
  let c128_i32_45 : BitVec 32 := 128#32
  let v36 : BitVec 32 := Scalar.muli arg29 c128_i32_45
  let v37 : BitVec 32 := v36
  let v48 : Index := Scalar.indexCast v37
  ![v46.toNat, v47.toNat, 0, v48.toNat]
@[reducible] def k0_t38_loop : Scf.Loop 32 :=
  let c0_i32_29 : BitVec 32 := 0#32
  let c8_i32_30 : BitVec 32 := 8#32
  let v22 : BitVec 32 := Scalar.addi c0_i32_29 c8_i32_30
  let c1_i32_31 : BitVec 32 := 1#32
  ⟨c0_i32_29, v22, c1_i32_31⟩
def k0_off57 (k0_t32 : Fin k0_t32_loop.trips) (k0_t35 : Fin k0_t35_loop.trips) (k0_t38 : Fin k0_t38_loop.trips) : Fin 4 → Nat :=
  let c0_i32_11 : BitVec 32 := 0#32
  let c1_i32_13 : BitVec 32 := 1#32
  let arg26 : BitVec 32 := Scf.iv c0_i32_11 c1_i32_13 k0_t32
  let v35 : Index := Scalar.indexCast arg26
  let c0_i32_19 : BitVec 32 := 0#32
  let c1_i32_20 : BitVec 32 := 1#32
  let arg27 : BitVec 32 := Scf.iv c0_i32_19 c1_i32_20 k0_t35
  let c128_i32 : BitVec 32 := 128#32
  let v19 : BitVec 32 := Scalar.muli arg27 c128_i32
  let v20 : BitVec 32 := v19
  let v36 : Index := Scalar.indexCast v20
  let c0_i32_29 : BitVec 32 := 0#32
  let c1_i32_31 : BitVec 32 := 1#32
  let arg28 : BitVec 32 := Scf.iv c0_i32_29 c1_i32_31 k0_t38
  let v37 : Index := Scalar.indexCast arg28
  let c0_41 : Index := 0#32
  ![v35.toNat, v36.toNat, v37.toNat, 0]
def k0_off58 (k0_t35 : Fin k0_t35_loop.trips) (k0_t38 : Fin k0_t38_loop.trips) : Fin 4 → Nat :=
  let c0_i32_19 : BitVec 32 := 0#32
  let c1_i32_20 : BitVec 32 := 1#32
  let arg27 : BitVec 32 := Scf.iv c0_i32_19 c1_i32_20 k0_t35
  let v42 : Index := Scalar.indexCast arg27
  let c0_i32_29 : BitVec 32 := 0#32
  let c1_i32_31 : BitVec 32 := 1#32
  let arg28 : BitVec 32 := Scf.iv c0_i32_29 c1_i32_31 k0_t38
  let v43 : Index := Scalar.indexCast arg28
  let c0_42 : Index := 0#32
  let c0_43 : Index := 0#32
  ![v42.toNat, v43.toNat, 0, 0]
@[reducible] def k0_t39_loop : Scf.Loop 32 :=
  let c0_i32_33 : BitVec 32 := 0#32
  let c8_i32_34 : BitVec 32 := 8#32
  let v23 : BitVec 32 := Scalar.addi c0_i32_33 c8_i32_34
  let c1_i32_35 : BitVec 32 := 1#32
  ⟨c0_i32_33, v23, c1_i32_35⟩
@[reducible] def k0_t40_loop : Scf.Loop 32 :=
  let c0_i32_41 : BitVec 32 := 0#32
  let c4_i32 : BitVec 32 := 4#32
  let v35 : BitVec 32 := Scalar.addi c0_i32_41 c4_i32
  let c1_i32_42 : BitVec 32 := 1#32
  ⟨c0_i32_41, v35, c1_i32_42⟩
def k0_mult11 (k0_t35 : Fin k0_t35_loop.trips) (k0_t40 : Fin k0_t40_loop.trips) : BitVec 32 :=
  let c0_i32_19 : BitVec 32 := 0#32
  let c1_i32_20 : BitVec 32 := 1#32
  let arg27 : BitVec 32 := Scf.iv c0_i32_19 c1_i32_20 k0_t35
  let c128_i32_44 : BitVec 32 := 128#32
  let v36 : BitVec 32 := Scalar.muli arg27 c128_i32_44
  let c0_i32_41 : BitVec 32 := 0#32
  let c1_i32_42 : BitVec 32 := 1#32
  let arg29 : BitVec 32 := Scf.iv c0_i32_41 c1_i32_42 k0_t40
  let c32_i32 : BitVec 32 := 32#32
  let v37 : BitVec 32 := Scalar.muli arg29 c32_i32
  let v38 : BitVec 32 := Scalar.addi v36 v37
  v38
def k0_off59 (k0_t32 : Fin k0_t32_loop.trips) (k0_t35 : Fin k0_t35_loop.trips) (k0_t39 : Fin k0_t39_loop.trips) (k0_t40 : Fin k0_t40_loop.trips) : Fin 4 → Nat :=
  let c0_i32_11 : BitVec 32 := 0#32
  let c1_i32_13 : BitVec 32 := 1#32
  let arg26 : BitVec 32 := Scf.iv c0_i32_11 c1_i32_13 k0_t32
  let v40 : Index := Scalar.indexCast arg26
  let c0_i32_19 : BitVec 32 := 0#32
  let c1_i32_20 : BitVec 32 := 1#32
  let arg27 : BitVec 32 := Scf.iv c0_i32_19 c1_i32_20 k0_t35
  let c128_i32_44 : BitVec 32 := 128#32
  let v36 : BitVec 32 := Scalar.muli arg27 c128_i32_44
  let c0_i32_41 : BitVec 32 := 0#32
  let c1_i32_42 : BitVec 32 := 1#32
  let arg29 : BitVec 32 := Scf.iv c0_i32_41 c1_i32_42 k0_t40
  let c32_i32 : BitVec 32 := 32#32
  let v37 : BitVec 32 := Scalar.muli arg29 c32_i32
  let v38 : BitVec 32 := Scalar.addi v36 v37
  let v39 : BitVec 32 := v38
  let v41 : Index := Scalar.indexCast v39
  let c0_i32_33 : BitVec 32 := 0#32
  let c1_i32_35 : BitVec 32 := 1#32
  let arg28 : BitVec 32 := Scf.iv c0_i32_33 c1_i32_35 k0_t39
  let v42 : Index := Scalar.indexCast arg28
  let c0_45 : Index := 0#32
  ![v40.toNat, v41.toNat, v42.toNat, 0]
def k0_mult12 (k0_t40 : Fin k0_t40_loop.trips) : BitVec 32 :=
  let c0_i32_41 : BitVec 32 := 0#32
  let c1_i32_42 : BitVec 32 := 1#32
  let arg29 : BitVec 32 := Scf.iv c0_i32_41 c1_i32_42 k0_t40
  let c32_i32_46 : BitVec 32 := 32#32
  let v48 : BitVec 32 := Scalar.muli arg29 c32_i32_46
  v48
def k0_off60 (k0_t35 : Fin k0_t35_loop.trips) (k0_t39 : Fin k0_t39_loop.trips) (k0_t40 : Fin k0_t40_loop.trips) : Fin 4 → Nat :=
  let c0_i32_19 : BitVec 32 := 0#32
  let c1_i32_20 : BitVec 32 := 1#32
  let arg27 : BitVec 32 := Scf.iv c0_i32_19 c1_i32_20 k0_t35
  let v50 : Index := Scalar.indexCast arg27
  let c0_i32_33 : BitVec 32 := 0#32
  let c1_i32_35 : BitVec 32 := 1#32
  let arg28 : BitVec 32 := Scf.iv c0_i32_33 c1_i32_35 k0_t39
  let v51 : Index := Scalar.indexCast arg28
  let c0_i32_41 : BitVec 32 := 0#32
  let c1_i32_42 : BitVec 32 := 1#32
  let arg29 : BitVec 32 := Scf.iv c0_i32_41 c1_i32_42 k0_t40
  let c32_i32_46 : BitVec 32 := 32#32
  let v48 : BitVec 32 := Scalar.muli arg29 c32_i32_46
  let v49 : BitVec 32 := v48
  let v52 : Index := Scalar.indexCast v49
  let c0_47 : Index := 0#32
  ![v50.toNat, v51.toNat, v52.toNat, 0]
def k0_off61 (k0_t32 : Fin k0_t32_loop.trips) (k0_t35 : Fin k0_t35_loop.trips) : Fin 2 → Nat :=
  let c0_i32_11 : BitVec 32 := 0#32
  let c1_i32_13 : BitVec 32 := 1#32
  let arg26 : BitVec 32 := Scf.iv c0_i32_11 c1_i32_13 k0_t32
  let c5_i32_37 : BitVec 32 := 5#32
  let v24 : BitVec 32 := Scalar.muli arg26 c5_i32_37
  let c0_i32_19 : BitVec 32 := 0#32
  let c1_i32_20 : BitVec 32 := 1#32
  let arg27 : BitVec 32 := Scf.iv c0_i32_19 c1_i32_20 k0_t35
  let v25 : BitVec 32 := Scalar.addi v24 arg27
  let v26 : Index := Scalar.indexCast v25
  let c0_38 : Index := 0#32
  ![v26.toNat, 0]
def k0_off62 (k0_t35 : Fin k0_t35_loop.trips) : Fin 3 → Nat :=
  let c0_i32_19 : BitVec 32 := 0#32
  let c1_i32_20 : BitVec 32 := 1#32
  let arg27 : BitVec 32 := Scf.iv c0_i32_19 c1_i32_20 k0_t35
  let v31 : Index := Scalar.indexCast arg27
  let c0_39 : Index := 0#32
  let c0_40 : Index := 0#32
  ![v31.toNat, 0, 0]
@[reducible] def k0_t41_loop : Scf.Loop 32 :=
  let c0_i32_22 : BitVec 32 := 0#32
  let c5_i32_23 : BitVec 32 := 5#32
  let v18 : BitVec 32 := Scalar.addi c0_i32_22 c5_i32_23
  let c1_i32_24 : BitVec 32 := 1#32
  ⟨c0_i32_22, v18, c1_i32_24⟩
def k0_off63 (k0_t32 : Fin k0_t32_loop.trips) (k0_t41 : Fin k0_t41_loop.trips) : Fin 2 → Nat :=
  let c0_i32_11 : BitVec 32 := 0#32
  let c1_i32_13 : BitVec 32 := 1#32
  let arg26 : BitVec 32 := Scf.iv c0_i32_11 c1_i32_13 k0_t32
  let v20 : Index := Scalar.indexCast arg26
  let c0_i32_22 : BitVec 32 := 0#32
  let c1_i32_24 : BitVec 32 := 1#32
  let arg27 : BitVec 32 := Scf.iv c0_i32_22 c1_i32_24 k0_t41
  let c128_i32 : BitVec 32 := 128#32
  let v19 : BitVec 32 := Scalar.muli arg27 c128_i32
  let v21 : Index := Scalar.indexCast v19
  ![v20.toNat, v21.toNat]
def k0_cond1 (v12 : BitVec 1) : BitVec 1 :=
  let v13 : BitVec 32 := Scalar.extui v12
  let c0_i32_10 : BitVec 32 := 0#32
  let v14 : BitVec 1 := Scalar.cmpi .ne v13 c0_i32_10
  v14

def k0_off64 (k0_t32 : Fin k0_t32_loop.trips) (arg28 : BitVec 32) : Fin 2 → Nat :=
  let c0_i32_11 : BitVec 32 := 0#32
  let c1_i32_13 : BitVec 32 := 1#32
  let arg26 : BitVec 32 := Scf.iv c0_i32_11 c1_i32_13 k0_t32
  let v57 : Index := Scalar.indexCast arg26
  let c128_i32_56 : BitVec 32 := 128#32
  let v54 : BitVec 32 := Scalar.muli arg28 c128_i32_56
  let c1_i32_57 : BitVec 32 := 1#32
  let v55 : BitVec 32 := Scalar.subi v54 c1_i32_57
  let c0_i32_58 : BitVec 32 := 0#32
  let v56 : BitVec 32 := Scalar.maxsi v55 c0_i32_58
  let v58 : Index := Scalar.indexCast v56
  ![v57.toNat, v58.toNat]

def k0_chk3 (v12 : BitVec 1) (k0_t32 : Fin k0_t32_loop.trips) (arg28 : BitVec 32) : Prop :=
  (∀ (k0_h1 : k0_cond1 v12 = 1#1), ∀ a, (k0_off64 k0_t32 arg28) a + S1x1.size a ≤ S3x640.size a)
theorem k0_off64_inb : ∀ (v12 : BitVec 1) (k0_t32 : Fin k0_t32_loop.trips) (arg28 : BitVec 32) (k0_hw3 : k0_chk3 v12 k0_t32 arg28), ∀ (k0_h1 : k0_cond1 v12 = 1#1), ∀ a, (k0_off64 k0_t32 arg28) a + S1x1.size a ≤ S3x640.size a := fun v12 k0_t32 arg28 k0_hw3 k0_h1 => k0_hw3 k0_h1

@[reducible] def k0_t42_loop (k0_t41 : Fin k0_t41_loop.trips) (v23 : BitVec 32) : Scf.Loop 32 :=
  let c0_i32_40 : BitVec 32 := 0#32
  let c0_i32_22 : BitVec 32 := 0#32
  let c1_i32_24 : BitVec 32 := 1#32
  let arg27 : BitVec 32 := Scf.iv c0_i32_22 c1_i32_24 k0_t41
  let c1_i32_38 : BitVec 32 := 1#32
  let v36 : BitVec 32 := Scalar.addi arg27 c1_i32_38
  let v37 : BitVec 32 := Scalar.subi v36 v23
  let v38 : BitVec 32 := Scalar.subi v37 c0_i32_40
  let c1_i32_41 : BitVec 32 := 1#32
  let v40 : BitVec 32 := Scalar.divsi v38 c1_i32_41
  let v41 : BitVec 32 := Scalar.muli v40 c1_i32_41
  let v42 : BitVec 32 := Scalar.addi c0_i32_40 v41
  let c1_i32_42 : BitVec 32 := 1#32
  ⟨c0_i32_40, v42, c1_i32_42⟩

@[reducible] def k0_t43_loop : Scf.Loop 32 :=
  let c0_i32_56 : BitVec 32 := 0#32
  let c8_i32_57 : BitVec 32 := 8#32
  let v54 : BitVec 32 := Scalar.addi c0_i32_56 c8_i32_57
  let c1_i32_58 : BitVec 32 := 1#32
  ⟨c0_i32_56, v54, c1_i32_58⟩
def k0_off65 (k0_t41 : Fin k0_t41_loop.trips) (v23 : BitVec 32) (k0_t42 : Fin (k0_t42_loop k0_t41 v23).trips) (k0_t43 : Fin k0_t43_loop.trips) : Fin 4 → Nat :=
  let c0_i32_22 : BitVec 32 := 0#32
  let c1_i32_24 : BitVec 32 := 1#32
  let arg27 : BitVec 32 := Scf.iv c0_i32_22 c1_i32_24 k0_t41
  let c0_i32_40 : BitVec 32 := 0#32
  let c1_i32_42 : BitVec 32 := 1#32
  let arg28 : BitVec 32 := Scf.iv c0_i32_40 c1_i32_42 k0_t42
  let v53 : BitVec 32 := Scalar.subi arg27 arg28
  let v82 : Index := Scalar.indexCast v53
  let c0_i32_56 : BitVec 32 := 0#32
  let c1_i32_58 : BitVec 32 := 1#32
  let arg29 : BitVec 32 := Scf.iv c0_i32_56 c1_i32_58 k0_t43
  let v83 : Index := Scalar.indexCast arg29
  let c0_79 : Index := 0#32
  let c0_80 : Index := 0#32
  ![v82.toNat, v83.toNat, 0, 0]
def k0_off66 (k0_t41 : Fin k0_t41_loop.trips) (k0_t43 : Fin k0_t43_loop.trips) : Fin 4 → Nat :=
  let c0_i32_22 : BitVec 32 := 0#32
  let c1_i32_24 : BitVec 32 := 1#32
  let arg27 : BitVec 32 := Scf.iv c0_i32_22 c1_i32_24 k0_t41
  let v86 : Index := Scalar.indexCast arg27
  let c0_i32_56 : BitVec 32 := 0#32
  let c1_i32_58 : BitVec 32 := 1#32
  let arg29 : BitVec 32 := Scf.iv c0_i32_56 c1_i32_58 k0_t43
  let v87 : Index := Scalar.indexCast arg29
  let c0_81 : Index := 0#32
  let c0_82 : Index := 0#32
  ![v86.toNat, v87.toNat, 0, 0]
def k0_off67 (k0_t43 : Fin k0_t43_loop.trips) (c0_i32_84 : BitVec 32) : Fin 2 → Nat :=
  let c0_i32_56 : BitVec 32 := 0#32
  let c1_i32_58 : BitVec 32 := 1#32
  let arg29 : BitVec 32 := Scf.iv c0_i32_56 c1_i32_58 k0_t43
  let v92 : BitVec 32 := Scalar.addi c0_i32_84 arg29
  let c129_i32 : BitVec 32 := 129#32
  let v93 : BitVec 32 := Scalar.muli v92 c129_i32
  let v94 : Index := Scalar.indexCast v93
  let c0_85 : Index := 0#32
  ![v94.toNat, 0]
def k0_off68 (k0_t32 : Fin k0_t32_loop.trips) (k0_t41 : Fin k0_t41_loop.trips) : Fin 2 → Nat :=
  let c0_i32_11 : BitVec 32 := 0#32
  let c1_i32_13 : BitVec 32 := 1#32
  let arg26 : BitVec 32 := Scf.iv c0_i32_11 c1_i32_13 k0_t32
  let c5_i32_60 : BitVec 32 := 5#32
  let v55 : BitVec 32 := Scalar.muli arg26 c5_i32_60
  let c0_i32_22 : BitVec 32 := 0#32
  let c1_i32_24 : BitVec 32 := 1#32
  let arg27 : BitVec 32 := Scf.iv c0_i32_22 c1_i32_24 k0_t41
  let v56 : BitVec 32 := Scalar.addi v55 arg27
  let v57 : Index := Scalar.indexCast v56
  let c0_61 : Index := 0#32
  ![v57.toNat, 0]
def k0_off69 (k0_t41 : Fin k0_t41_loop.trips) (v23 : BitVec 32) (k0_t42 : Fin (k0_t42_loop k0_t41 v23).trips) : Fin 3 → Nat :=
  let c0_i32_22 : BitVec 32 := 0#32
  let c1_i32_24 : BitVec 32 := 1#32
  let arg27 : BitVec 32 := Scf.iv c0_i32_22 c1_i32_24 k0_t41
  let c0_i32_40 : BitVec 32 := 0#32
  let c1_i32_42 : BitVec 32 := 1#32
  let arg28 : BitVec 32 := Scf.iv c0_i32_40 c1_i32_42 k0_t42
  let v53 : BitVec 32 := Scalar.subi arg27 arg28
  let v67 : Index := Scalar.indexCast v53
  let c0_64 : Index := 0#32
  let c0_65 : Index := 0#32
  ![v67.toNat, 0, 0]
@[reducible] def k0_t44_loop : Scf.Loop 32 :=
  let c0_i32_71 : BitVec 32 := 0#32
  let c4_i32 : BitVec 32 := 4#32
  let v80 : BitVec 32 := Scalar.addi c0_i32_71 c4_i32
  let c1_i32_72 : BitVec 32 := 1#32
  ⟨c0_i32_71, v80, c1_i32_72⟩
@[reducible] def k0_t45_loop : Scf.Loop 32 :=
  let c0_i32_79 : BitVec 32 := 0#32
  let c4_i32_80 : BitVec 32 := 4#32
  let v82 : BitVec 32 := Scalar.addi c0_i32_79 c4_i32_80
  let c1_i32_81 : BitVec 32 := 1#32
  ⟨c0_i32_79, v82, c1_i32_81⟩
@[reducible] def k0_t46_loop : Scf.Loop 32 :=
  let c0_i32_83 : BitVec 32 := 0#32
  let c4_i32_84 : BitVec 32 := 4#32
  let v83 : BitVec 32 := Scalar.addi c0_i32_83 c4_i32_84
  let c1_i32_85 : BitVec 32 := 1#32
  ⟨c0_i32_83, v83, c1_i32_85⟩
@[reducible] def k0_t47_loop : Scf.Loop 32 :=
  let c0_i32_90 : BitVec 32 := 0#32
  let c3_i32_91 : BitVec 32 := 3#32
  let v87 : BitVec 32 := Scalar.addi c0_i32_90 c3_i32_91
  let c1_i32_92 : BitVec 32 := 1#32
  ⟨c0_i32_90, v87, c1_i32_92⟩
def k0_off70 (k0_t47 : Fin k0_t47_loop.trips) : Fin 3 → Nat :=
  let c0_i32_90 : BitVec 32 := 0#32
  let c1_i32_92 : BitVec 32 := 1#32
  let arg32 : BitVec 32 := Scf.iv c0_i32_90 c1_i32_92 k0_t47
  let v88 : Index := Scalar.indexCast arg32
  let c0_94 : Index := 0#32
  let c0_95 : Index := 0#32
  ![v88.toNat, 0, 0]
def k0_off71 (k0_t44 : Fin k0_t44_loop.trips) (k0_t45 : Fin k0_t45_loop.trips) (k0_t46 : Fin k0_t46_loop.trips) (k0_t47 : Fin k0_t47_loop.trips) (c1_i32_100 : BitVec 32) : Fin 2 → Nat :=
  let c0_i32_90 : BitVec 32 := 0#32
  let c1_i32_92 : BitVec 32 := 1#32
  let arg32 : BitVec 32 := Scf.iv c0_i32_90 c1_i32_92 k0_t47
  let c8_i32_101 : BitVec 32 := 8#32
  let v99 : BitVec 32 := Scalar.muli arg32 c8_i32_101
  let c129_i32 : BitVec 32 := 129#32
  let v100 : BitVec 32 := Scalar.muli v99 c129_i32
  let c3_i32_87 : BitVec 32 := 3#32
  let c0_i32_71 : BitVec 32 := 0#32
  let c1_i32_72 : BitVec 32 := 1#32
  let arg29 : BitVec 32 := Scf.iv c0_i32_71 c1_i32_72 k0_t44
  let v84 : BitVec 32 := Scalar.subi c3_i32_87 arg29
  let c32_i32 : BitVec 32 := 32#32
  let v101 : BitVec 32 := Scalar.muli v84 c32_i32
  let v102 : BitVec 32 := Scalar.addi v100 v101
  let c2_i32 : BitVec 32 := 2#32
  let c3_i32_89 : BitVec 32 := 3#32
  let c0_i32_83 : BitVec 32 := 0#32
  let c1_i32_85 : BitVec 32 := 1#32
  let arg31 : BitVec 32 := Scf.iv c0_i32_83 c1_i32_85 k0_t46
  let v86 : BitVec 32 := Scalar.subi c3_i32_89 arg31
  let v97 : BitVec 32 := Scalar.muli c2_i32 v86
  let v98 : BitVec 32 := Scalar.addi v97 c1_i32_100
  let c4_i32_102 : BitVec 32 := 4#32
  let v103 : BitVec 32 := Scalar.muli v98 c4_i32_102
  let v104 : BitVec 32 := Scalar.addi v102 v103
  let c3_i32_88 : BitVec 32 := 3#32
  let c0_i32_79 : BitVec 32 := 0#32
  let c1_i32_81 : BitVec 32 := 1#32
  let arg30 : BitVec 32 := Scf.iv c0_i32_79 c1_i32_81 k0_t45
  let v85 : BitVec 32 := Scalar.subi c3_i32_88 arg30
  let v105 : BitVec 32 := Scalar.addi v104 v85
  let v106 : Index := Scalar.indexCast v105
  let c0_103 : Index := 0#32
  ![v106.toNat, 0]
def k0_off72 (k0_t44 : Fin k0_t44_loop.trips) (k0_t45 : Fin k0_t45_loop.trips) (k0_t46 : Fin k0_t46_loop.trips) (c1_i32_100 : BitVec 32) : Fin 2 → Nat :=
  let c3_i32_87 : BitVec 32 := 3#32
  let c0_i32_71 : BitVec 32 := 0#32
  let c1_i32_72 : BitVec 32 := 1#32
  let arg29 : BitVec 32 := Scf.iv c0_i32_71 c1_i32_72 k0_t44
  let v84 : BitVec 32 := Scalar.subi c3_i32_87 arg29
  let c32_i32_104 : BitVec 32 := 32#32
  let v109 : BitVec 32 := Scalar.muli v84 c32_i32_104
  let c3_i32_88 : BitVec 32 := 3#32
  let c0_i32_79 : BitVec 32 := 0#32
  let c1_i32_81 : BitVec 32 := 1#32
  let arg30 : BitVec 32 := Scf.iv c0_i32_79 c1_i32_81 k0_t45
  let v85 : BitVec 32 := Scalar.subi c3_i32_88 arg30
  let c8_i32_105 : BitVec 32 := 8#32
  let v110 : BitVec 32 := Scalar.muli v85 c8_i32_105
  let v111 : BitVec 32 := Scalar.addi v109 v110
  let c2_i32 : BitVec 32 := 2#32
  let c3_i32_89 : BitVec 32 := 3#32
  let c0_i32_83 : BitVec 32 := 0#32
  let c1_i32_85 : BitVec 32 := 1#32
  let arg31 : BitVec 32 := Scf.iv c0_i32_83 c1_i32_85 k0_t46
  let v86 : BitVec 32 := Scalar.subi c3_i32_89 arg31
  let v97 : BitVec 32 := Scalar.muli c2_i32 v86
  let v98 : BitVec 32 := Scalar.addi v97 c1_i32_100
  let v112 : BitVec 32 := Scalar.addi v111 v98
  let v113 : Index := Scalar.indexCast v112
  let c0_106 : Index := 0#32
  ![v113.toNat, 0]
def k0_off73 (k0_t44 : Fin k0_t44_loop.trips) (k0_t45 : Fin k0_t45_loop.trips) (k0_t46 : Fin k0_t46_loop.trips) (k0_t47 : Fin k0_t47_loop.trips) : Fin 3 → Nat :=
  let c0_i32_90 : BitVec 32 := 0#32
  let c1_i32_92 : BitVec 32 := 1#32
  let arg32 : BitVec 32 := Scf.iv c0_i32_90 c1_i32_92 k0_t47
  let c8_i32_134 : BitVec 32 := 8#32
  let v198 : BitVec 32 := Scalar.muli arg32 c8_i32_134
  let c65_i32 : BitVec 32 := 65#32
  let v199 : BitVec 32 := Scalar.muli v198 c65_i32
  let c3_i32_87 : BitVec 32 := 3#32
  let c0_i32_71 : BitVec 32 := 0#32
  let c1_i32_72 : BitVec 32 := 1#32
  let arg29 : BitVec 32 := Scf.iv c0_i32_71 c1_i32_72 k0_t44
  let v84 : BitVec 32 := Scalar.subi c3_i32_87 arg29
  let c16_i32 : BitVec 32 := 16#32
  let v193 : BitVec 32 := Scalar.muli v84 c16_i32
  let c3_i32_88 : BitVec 32 := 3#32
  let c0_i32_79 : BitVec 32 := 0#32
  let c1_i32_81 : BitVec 32 := 1#32
  let arg30 : BitVec 32 := Scf.iv c0_i32_79 c1_i32_81 k0_t45
  let v85 : BitVec 32 := Scalar.subi c3_i32_88 arg30
  let c4_i32_133 : BitVec 32 := 4#32
  let v194 : BitVec 32 := Scalar.muli v85 c4_i32_133
  let v195 : BitVec 32 := Scalar.addi v193 v194
  let c3_i32_89 : BitVec 32 := 3#32
  let c0_i32_83 : BitVec 32 := 0#32
  let c1_i32_85 : BitVec 32 := 1#32
  let arg31 : BitVec 32 := Scf.iv c0_i32_83 c1_i32_85 k0_t46
  let v86 : BitVec 32 := Scalar.subi c3_i32_89 arg31
  let v196 : BitVec 32 := Scalar.addi v195 v86
  let v200 : BitVec 32 := Scalar.addi v199 v196
  let v201 : Index := Scalar.indexCast v200
  let c0_135 : Index := 0#32
  ![v201.toNat, 0, 0]
@[reducible] def k0_t48_loop : Scf.Loop 32 :=
  let c0_i32_75 : BitVec 32 := 0#32
  let c8_i32_76 : BitVec 32 := 8#32
  let v81 : BitVec 32 := Scalar.addi c0_i32_75 c8_i32_76
  let c1_i32_77 : BitVec 32 := 1#32
  ⟨c0_i32_75, v81, c1_i32_77⟩
def k0_off74 (k0_t48 : Fin k0_t48_loop.trips) (c0_i32_79 : BitVec 32) : Fin 3 → Nat :=
  let c0_i32_75 : BitVec 32 := 0#32
  let c1_i32_77 : BitVec 32 := 1#32
  let arg29 : BitVec 32 := Scf.iv c0_i32_75 c1_i32_77 k0_t48
  let v82 : BitVec 32 := Scalar.addi c0_i32_79 arg29
  let c65_i32 : BitVec 32 := 65#32
  let v83 : BitVec 32 := Scalar.muli v82 c65_i32
  let v84 : Index := Scalar.indexCast v83
  let c0_80 : Index := 0#32
  ![v84.toNat, 0, 0]
def k0_off75 (k0_t48 : Fin k0_t48_loop.trips) : Fin 3 → Nat :=
  let c0_i32_75 : BitVec 32 := 0#32
  let c1_i32_77 : BitVec 32 := 1#32
  let arg29 : BitVec 32 := Scf.iv c0_i32_75 c1_i32_77 k0_t48
  let v97 : Index := Scalar.indexCast arg29
  let c0_86 : Index := 0#32
  let c0_87 : Index := 0#32
  ![v97.toNat, 0, 0]
def k0_off76 (k0_t41 : Fin k0_t41_loop.trips) (v23 : BitVec 32) (k0_t42 : Fin (k0_t42_loop k0_t41 v23).trips) (k0_t48 : Fin k0_t48_loop.trips) : Fin 4 → Nat :=
  let c0_i32_22 : BitVec 32 := 0#32
  let c1_i32_24 : BitVec 32 := 1#32
  let arg27 : BitVec 32 := Scf.iv c0_i32_22 c1_i32_24 k0_t41
  let c0_i32_40 : BitVec 32 := 0#32
  let c1_i32_42 : BitVec 32 := 1#32
  let arg28 : BitVec 32 := Scf.iv c0_i32_40 c1_i32_42 k0_t42
  let v53 : BitVec 32 := Scalar.subi arg27 arg28
  let v100 : Index := Scalar.indexCast v53
  let c0_i32_75 : BitVec 32 := 0#32
  let c1_i32_77 : BitVec 32 := 1#32
  let arg29 : BitVec 32 := Scf.iv c0_i32_75 c1_i32_77 k0_t48
  let v101 : Index := Scalar.indexCast arg29
  let c0_88 : Index := 0#32
  let c0_89 : Index := 0#32
  ![v100.toNat, v101.toNat, 0, 0]
@[reducible] def k0_t49_loop (k0_t41 : Fin k0_t41_loop.trips) (v23 : BitVec 32) : Scf.Loop 32 :=
  let c0_i32_40 : BitVec 32 := 0#32
  let c0_i32_22 : BitVec 32 := 0#32
  let c1_i32_24 : BitVec 32 := 1#32
  let arg27 : BitVec 32 := Scf.iv c0_i32_22 c1_i32_24 k0_t41
  let c1_i32_38 : BitVec 32 := 1#32
  let v36 : BitVec 32 := Scalar.addi arg27 c1_i32_38
  let v37 : BitVec 32 := Scalar.subi v36 v23
  let v38 : BitVec 32 := Scalar.subi v37 c0_i32_40
  let c1_i32_41 : BitVec 32 := 1#32
  let v40 : BitVec 32 := Scalar.divsi v38 c1_i32_41
  let v41 : BitVec 32 := Scalar.muli v40 c1_i32_41
  let v42 : BitVec 32 := Scalar.addi c0_i32_40 v41
  let v39 : BitVec 32 := Scalar.addi c0_i32_40 v38
  let c1_i32_43 : BitVec 32 := 1#32
  ⟨v42, v39, c1_i32_43⟩
@[reducible] def k0_t50_loop : Scf.Loop 32 :=
  let c0_i32_56 : BitVec 32 := 0#32
  let c8_i32_57 : BitVec 32 := 8#32
  let v54 : BitVec 32 := Scalar.addi c0_i32_56 c8_i32_57
  let c1_i32_58 : BitVec 32 := 1#32
  ⟨c0_i32_56, v54, c1_i32_58⟩
def k0_off77 (k0_t41 : Fin k0_t41_loop.trips) (v23 : BitVec 32) (k0_t49 : Fin (k0_t49_loop k0_t41 v23).trips) (k0_t50 : Fin k0_t50_loop.trips) : Fin 4 → Nat :=
  let c0_i32_22 : BitVec 32 := 0#32
  let c1_i32_24 : BitVec 32 := 1#32
  let arg27 : BitVec 32 := Scf.iv c0_i32_22 c1_i32_24 k0_t41
  let c0_i32_40 : BitVec 32 := 0#32
  let c1_i32_38 : BitVec 32 := 1#32
  let v36 : BitVec 32 := Scalar.addi arg27 c1_i32_38
  let v37 : BitVec 32 := Scalar.subi v36 v23
  let v38 : BitVec 32 := Scalar.subi v37 c0_i32_40
  let c1_i32_41 : BitVec 32 := 1#32
  let v40 : BitVec 32 := Scalar.divsi v38 c1_i32_41
  let v41 : BitVec 32 := Scalar.muli v40 c1_i32_41
  let v42 : BitVec 32 := Scalar.addi c0_i32_40 v41
  let c1_i32_43 : BitVec 32 := 1#32
  let arg28 : BitVec 32 := Scf.iv v42 c1_i32_43 k0_t49
  let v53 : BitVec 32 := Scalar.subi arg27 arg28
  let v82 : Index := Scalar.indexCast v53
  let c0_i32_56 : BitVec 32 := 0#32
  let c1_i32_58 : BitVec 32 := 1#32
  let arg29 : BitVec 32 := Scf.iv c0_i32_56 c1_i32_58 k0_t50
  let v83 : Index := Scalar.indexCast arg29
  let c0_79 : Index := 0#32
  let c0_80 : Index := 0#32
  ![v82.toNat, v83.toNat, 0, 0]
def k0_off78 (k0_t41 : Fin k0_t41_loop.trips) (k0_t50 : Fin k0_t50_loop.trips) : Fin 4 → Nat :=
  let c0_i32_22 : BitVec 32 := 0#32
  let c1_i32_24 : BitVec 32 := 1#32
  let arg27 : BitVec 32 := Scf.iv c0_i32_22 c1_i32_24 k0_t41
  let v86 : Index := Scalar.indexCast arg27
  let c0_i32_56 : BitVec 32 := 0#32
  let c1_i32_58 : BitVec 32 := 1#32
  let arg29 : BitVec 32 := Scf.iv c0_i32_56 c1_i32_58 k0_t50
  let v87 : Index := Scalar.indexCast arg29
  let c0_81 : Index := 0#32
  let c0_82 : Index := 0#32
  ![v86.toNat, v87.toNat, 0, 0]
def k0_off79 (k0_t50 : Fin k0_t50_loop.trips) (c0_i32_84 : BitVec 32) : Fin 2 → Nat :=
  let c0_i32_56 : BitVec 32 := 0#32
  let c1_i32_58 : BitVec 32 := 1#32
  let arg29 : BitVec 32 := Scf.iv c0_i32_56 c1_i32_58 k0_t50
  let v92 : BitVec 32 := Scalar.addi c0_i32_84 arg29
  let c129_i32 : BitVec 32 := 129#32
  let v93 : BitVec 32 := Scalar.muli v92 c129_i32
  let v94 : Index := Scalar.indexCast v93
  let c0_85 : Index := 0#32
  ![v94.toNat, 0]
def k0_off80 (k0_t32 : Fin k0_t32_loop.trips) (k0_t41 : Fin k0_t41_loop.trips) : Fin 2 → Nat :=
  let c0_i32_11 : BitVec 32 := 0#32
  let c1_i32_13 : BitVec 32 := 1#32
  let arg26 : BitVec 32 := Scf.iv c0_i32_11 c1_i32_13 k0_t32
  let c5_i32_60 : BitVec 32 := 5#32
  let v55 : BitVec 32 := Scalar.muli arg26 c5_i32_60
  let c0_i32_22 : BitVec 32 := 0#32
  let c1_i32_24 : BitVec 32 := 1#32
  let arg27 : BitVec 32 := Scf.iv c0_i32_22 c1_i32_24 k0_t41
  let v56 : BitVec 32 := Scalar.addi v55 arg27
  let v57 : Index := Scalar.indexCast v56
  let c0_61 : Index := 0#32
  ![v57.toNat, 0]
def k0_off81 (k0_t41 : Fin k0_t41_loop.trips) (v23 : BitVec 32) (k0_t49 : Fin (k0_t49_loop k0_t41 v23).trips) : Fin 3 → Nat :=
  let c0_i32_22 : BitVec 32 := 0#32
  let c1_i32_24 : BitVec 32 := 1#32
  let arg27 : BitVec 32 := Scf.iv c0_i32_22 c1_i32_24 k0_t41
  let c0_i32_40 : BitVec 32 := 0#32
  let c1_i32_38 : BitVec 32 := 1#32
  let v36 : BitVec 32 := Scalar.addi arg27 c1_i32_38
  let v37 : BitVec 32 := Scalar.subi v36 v23
  let v38 : BitVec 32 := Scalar.subi v37 c0_i32_40
  let c1_i32_41 : BitVec 32 := 1#32
  let v40 : BitVec 32 := Scalar.divsi v38 c1_i32_41
  let v41 : BitVec 32 := Scalar.muli v40 c1_i32_41
  let v42 : BitVec 32 := Scalar.addi c0_i32_40 v41
  let c1_i32_43 : BitVec 32 := 1#32
  let arg28 : BitVec 32 := Scf.iv v42 c1_i32_43 k0_t49
  let v53 : BitVec 32 := Scalar.subi arg27 arg28
  let v67 : Index := Scalar.indexCast v53
  let c0_64 : Index := 0#32
  let c0_65 : Index := 0#32
  ![v67.toNat, 0, 0]
@[reducible] def k0_t51_loop : Scf.Loop 32 :=
  let c0_i32_71 : BitVec 32 := 0#32
  let c4_i32 : BitVec 32 := 4#32
  let v80 : BitVec 32 := Scalar.addi c0_i32_71 c4_i32
  let c1_i32_72 : BitVec 32 := 1#32
  ⟨c0_i32_71, v80, c1_i32_72⟩
@[reducible] def k0_t52_loop : Scf.Loop 32 :=
  let c0_i32_79 : BitVec 32 := 0#32
  let c4_i32_80 : BitVec 32 := 4#32
  let v82 : BitVec 32 := Scalar.addi c0_i32_79 c4_i32_80
  let c1_i32_81 : BitVec 32 := 1#32
  ⟨c0_i32_79, v82, c1_i32_81⟩
@[reducible] def k0_t53_loop : Scf.Loop 32 :=
  let c0_i32_83 : BitVec 32 := 0#32
  let c4_i32_84 : BitVec 32 := 4#32
  let v83 : BitVec 32 := Scalar.addi c0_i32_83 c4_i32_84
  let c1_i32_85 : BitVec 32 := 1#32
  ⟨c0_i32_83, v83, c1_i32_85⟩
@[reducible] def k0_t54_loop : Scf.Loop 32 :=
  let c0_i32_90 : BitVec 32 := 0#32
  let c3_i32_91 : BitVec 32 := 3#32
  let v87 : BitVec 32 := Scalar.addi c0_i32_90 c3_i32_91
  let c1_i32_92 : BitVec 32 := 1#32
  ⟨c0_i32_90, v87, c1_i32_92⟩
def k0_off82 (k0_t54 : Fin k0_t54_loop.trips) : Fin 3 → Nat :=
  let c0_i32_90 : BitVec 32 := 0#32
  let c1_i32_92 : BitVec 32 := 1#32
  let arg32 : BitVec 32 := Scf.iv c0_i32_90 c1_i32_92 k0_t54
  let v88 : Index := Scalar.indexCast arg32
  let c0_94 : Index := 0#32
  let c0_95 : Index := 0#32
  ![v88.toNat, 0, 0]
def k0_off83 (k0_t51 : Fin k0_t51_loop.trips) (k0_t52 : Fin k0_t52_loop.trips) (k0_t53 : Fin k0_t53_loop.trips) (k0_t54 : Fin k0_t54_loop.trips) (c1_i32_100 : BitVec 32) : Fin 2 → Nat :=
  let c0_i32_90 : BitVec 32 := 0#32
  let c1_i32_92 : BitVec 32 := 1#32
  let arg32 : BitVec 32 := Scf.iv c0_i32_90 c1_i32_92 k0_t54
  let c8_i32_101 : BitVec 32 := 8#32
  let v99 : BitVec 32 := Scalar.muli arg32 c8_i32_101
  let c129_i32 : BitVec 32 := 129#32
  let v100 : BitVec 32 := Scalar.muli v99 c129_i32
  let c3_i32_87 : BitVec 32 := 3#32
  let c0_i32_71 : BitVec 32 := 0#32
  let c1_i32_72 : BitVec 32 := 1#32
  let arg29 : BitVec 32 := Scf.iv c0_i32_71 c1_i32_72 k0_t51
  let v84 : BitVec 32 := Scalar.subi c3_i32_87 arg29
  let c32_i32 : BitVec 32 := 32#32
  let v101 : BitVec 32 := Scalar.muli v84 c32_i32
  let v102 : BitVec 32 := Scalar.addi v100 v101
  let c2_i32 : BitVec 32 := 2#32
  let c3_i32_89 : BitVec 32 := 3#32
  let c0_i32_83 : BitVec 32 := 0#32
  let c1_i32_85 : BitVec 32 := 1#32
  let arg31 : BitVec 32 := Scf.iv c0_i32_83 c1_i32_85 k0_t53
  let v86 : BitVec 32 := Scalar.subi c3_i32_89 arg31
  let v97 : BitVec 32 := Scalar.muli c2_i32 v86
  let v98 : BitVec 32 := Scalar.addi v97 c1_i32_100
  let c4_i32_102 : BitVec 32 := 4#32
  let v103 : BitVec 32 := Scalar.muli v98 c4_i32_102
  let v104 : BitVec 32 := Scalar.addi v102 v103
  let c3_i32_88 : BitVec 32 := 3#32
  let c0_i32_79 : BitVec 32 := 0#32
  let c1_i32_81 : BitVec 32 := 1#32
  let arg30 : BitVec 32 := Scf.iv c0_i32_79 c1_i32_81 k0_t52
  let v85 : BitVec 32 := Scalar.subi c3_i32_88 arg30
  let v105 : BitVec 32 := Scalar.addi v104 v85
  let v106 : Index := Scalar.indexCast v105
  let c0_103 : Index := 0#32
  ![v106.toNat, 0]
def k0_off84 (k0_t51 : Fin k0_t51_loop.trips) (k0_t52 : Fin k0_t52_loop.trips) (k0_t53 : Fin k0_t53_loop.trips) (c1_i32_100 : BitVec 32) : Fin 2 → Nat :=
  let c3_i32_87 : BitVec 32 := 3#32
  let c0_i32_71 : BitVec 32 := 0#32
  let c1_i32_72 : BitVec 32 := 1#32
  let arg29 : BitVec 32 := Scf.iv c0_i32_71 c1_i32_72 k0_t51
  let v84 : BitVec 32 := Scalar.subi c3_i32_87 arg29
  let c32_i32_104 : BitVec 32 := 32#32
  let v109 : BitVec 32 := Scalar.muli v84 c32_i32_104
  let c3_i32_88 : BitVec 32 := 3#32
  let c0_i32_79 : BitVec 32 := 0#32
  let c1_i32_81 : BitVec 32 := 1#32
  let arg30 : BitVec 32 := Scf.iv c0_i32_79 c1_i32_81 k0_t52
  let v85 : BitVec 32 := Scalar.subi c3_i32_88 arg30
  let c8_i32_105 : BitVec 32 := 8#32
  let v110 : BitVec 32 := Scalar.muli v85 c8_i32_105
  let v111 : BitVec 32 := Scalar.addi v109 v110
  let c2_i32 : BitVec 32 := 2#32
  let c3_i32_89 : BitVec 32 := 3#32
  let c0_i32_83 : BitVec 32 := 0#32
  let c1_i32_85 : BitVec 32 := 1#32
  let arg31 : BitVec 32 := Scf.iv c0_i32_83 c1_i32_85 k0_t53
  let v86 : BitVec 32 := Scalar.subi c3_i32_89 arg31
  let v97 : BitVec 32 := Scalar.muli c2_i32 v86
  let v98 : BitVec 32 := Scalar.addi v97 c1_i32_100
  let v112 : BitVec 32 := Scalar.addi v111 v98
  let v113 : Index := Scalar.indexCast v112
  let c0_106 : Index := 0#32
  ![v113.toNat, 0]
def k0_off85 (k0_t51 : Fin k0_t51_loop.trips) (k0_t52 : Fin k0_t52_loop.trips) (k0_t53 : Fin k0_t53_loop.trips) (k0_t54 : Fin k0_t54_loop.trips) : Fin 3 → Nat :=
  let c0_i32_90 : BitVec 32 := 0#32
  let c1_i32_92 : BitVec 32 := 1#32
  let arg32 : BitVec 32 := Scf.iv c0_i32_90 c1_i32_92 k0_t54
  let c8_i32_134 : BitVec 32 := 8#32
  let v198 : BitVec 32 := Scalar.muli arg32 c8_i32_134
  let c65_i32 : BitVec 32 := 65#32
  let v199 : BitVec 32 := Scalar.muli v198 c65_i32
  let c3_i32_87 : BitVec 32 := 3#32
  let c0_i32_71 : BitVec 32 := 0#32
  let c1_i32_72 : BitVec 32 := 1#32
  let arg29 : BitVec 32 := Scf.iv c0_i32_71 c1_i32_72 k0_t51
  let v84 : BitVec 32 := Scalar.subi c3_i32_87 arg29
  let c16_i32 : BitVec 32 := 16#32
  let v193 : BitVec 32 := Scalar.muli v84 c16_i32
  let c3_i32_88 : BitVec 32 := 3#32
  let c0_i32_79 : BitVec 32 := 0#32
  let c1_i32_81 : BitVec 32 := 1#32
  let arg30 : BitVec 32 := Scf.iv c0_i32_79 c1_i32_81 k0_t52
  let v85 : BitVec 32 := Scalar.subi c3_i32_88 arg30
  let c4_i32_133 : BitVec 32 := 4#32
  let v194 : BitVec 32 := Scalar.muli v85 c4_i32_133
  let v195 : BitVec 32 := Scalar.addi v193 v194
  let c3_i32_89 : BitVec 32 := 3#32
  let c0_i32_83 : BitVec 32 := 0#32
  let c1_i32_85 : BitVec 32 := 1#32
  let arg31 : BitVec 32 := Scf.iv c0_i32_83 c1_i32_85 k0_t53
  let v86 : BitVec 32 := Scalar.subi c3_i32_89 arg31
  let v196 : BitVec 32 := Scalar.addi v195 v86
  let v200 : BitVec 32 := Scalar.addi v199 v196
  let v201 : Index := Scalar.indexCast v200
  let c0_135 : Index := 0#32
  ![v201.toNat, 0, 0]
@[reducible] def k0_t55_loop : Scf.Loop 32 :=
  let c0_i32_75 : BitVec 32 := 0#32
  let c8_i32_76 : BitVec 32 := 8#32
  let v81 : BitVec 32 := Scalar.addi c0_i32_75 c8_i32_76
  let c1_i32_77 : BitVec 32 := 1#32
  ⟨c0_i32_75, v81, c1_i32_77⟩
def k0_off86 (k0_t55 : Fin k0_t55_loop.trips) (c0_i32_79 : BitVec 32) : Fin 3 → Nat :=
  let c0_i32_75 : BitVec 32 := 0#32
  let c1_i32_77 : BitVec 32 := 1#32
  let arg29 : BitVec 32 := Scf.iv c0_i32_75 c1_i32_77 k0_t55
  let v82 : BitVec 32 := Scalar.addi c0_i32_79 arg29
  let c65_i32 : BitVec 32 := 65#32
  let v83 : BitVec 32 := Scalar.muli v82 c65_i32
  let v84 : Index := Scalar.indexCast v83
  let c0_80 : Index := 0#32
  ![v84.toNat, 0, 0]
def k0_off87 (k0_t55 : Fin k0_t55_loop.trips) : Fin 3 → Nat :=
  let c0_i32_75 : BitVec 32 := 0#32
  let c1_i32_77 : BitVec 32 := 1#32
  let arg29 : BitVec 32 := Scf.iv c0_i32_75 c1_i32_77 k0_t55
  let v97 : Index := Scalar.indexCast arg29
  let c0_86 : Index := 0#32
  let c0_87 : Index := 0#32
  ![v97.toNat, 0, 0]
def k0_off88 (k0_t41 : Fin k0_t41_loop.trips) (v23 : BitVec 32) (k0_t49 : Fin (k0_t49_loop k0_t41 v23).trips) (k0_t55 : Fin k0_t55_loop.trips) : Fin 4 → Nat :=
  let c0_i32_22 : BitVec 32 := 0#32
  let c1_i32_24 : BitVec 32 := 1#32
  let arg27 : BitVec 32 := Scf.iv c0_i32_22 c1_i32_24 k0_t41
  let c0_i32_40 : BitVec 32 := 0#32
  let c1_i32_38 : BitVec 32 := 1#32
  let v36 : BitVec 32 := Scalar.addi arg27 c1_i32_38
  let v37 : BitVec 32 := Scalar.subi v36 v23
  let v38 : BitVec 32 := Scalar.subi v37 c0_i32_40
  let c1_i32_41 : BitVec 32 := 1#32
  let v40 : BitVec 32 := Scalar.divsi v38 c1_i32_41
  let v41 : BitVec 32 := Scalar.muli v40 c1_i32_41
  let v42 : BitVec 32 := Scalar.addi c0_i32_40 v41
  let c1_i32_43 : BitVec 32 := 1#32
  let arg28 : BitVec 32 := Scf.iv v42 c1_i32_43 k0_t49
  let v53 : BitVec 32 := Scalar.subi arg27 arg28
  let v100 : Index := Scalar.indexCast v53
  let c0_i32_75 : BitVec 32 := 0#32
  let c1_i32_77 : BitVec 32 := 1#32
  let arg29 : BitVec 32 := Scf.iv c0_i32_75 c1_i32_77 k0_t55
  let v101 : Index := Scalar.indexCast arg29
  let c0_88 : Index := 0#32
  let c0_89 : Index := 0#32
  ![v100.toNat, v101.toNat, 0, 0]

def k0_chk4 (v12 : BitVec 1) (k0_t41 : Fin k0_t41_loop.trips) (v23 : BitVec 32) : Prop :=
  (∀ (k0_h1 : k0_cond1 v12 = 1#1), (k0_t42_loop k0_t41 v23).OK) ∧
  (∀ (k0_t42 : Fin (k0_t42_loop k0_t41 v23).trips) (k0_t43 : Fin k0_t43_loop.trips), ∀ (k0_h1 : k0_cond1 v12 = 1#1), ∀ a, (k0_off65 k0_t41 v23 k0_t42 k0_t43) a + S1x1x128x128.size a ≤ S5x8x128x128.size a) ∧
  (∀ k0_t42 : Fin (k0_t42_loop k0_t41 v23).trips, ∀ (k0_h1 : k0_cond1 v12 = 1#1), ∀ a, (k0_off69 k0_t41 v23 k0_t42) a + S1x128x128.size a ≤ S5x128x128.size a) ∧
  (∀ (k0_t42 : Fin (k0_t42_loop k0_t41 v23).trips) (k0_t48 : Fin k0_t48_loop.trips), ∀ (k0_h1 : k0_cond1 v12 = 1#1), ∀ a, (k0_off76 k0_t41 v23 k0_t42 k0_t48) a + S1x1x128x128.size a ≤ S5x8x128x128.size a) ∧
  (∀ (k0_h1 : k0_cond1 v12 = 1#1), (k0_t49_loop k0_t41 v23).OK) ∧
  (∀ (k0_t49 : Fin (k0_t49_loop k0_t41 v23).trips) (k0_t50 : Fin k0_t50_loop.trips), ∀ (k0_h1 : k0_cond1 v12 = 1#1), ∀ a, (k0_off77 k0_t41 v23 k0_t49 k0_t50) a + S1x1x128x128.size a ≤ S5x8x128x128.size a) ∧
  (∀ k0_t49 : Fin (k0_t49_loop k0_t41 v23).trips, ∀ (k0_h1 : k0_cond1 v12 = 1#1), ∀ a, (k0_off81 k0_t41 v23 k0_t49) a + S1x128x128.size a ≤ S5x128x128.size a) ∧
  (∀ (k0_t49 : Fin (k0_t49_loop k0_t41 v23).trips) (k0_t55 : Fin k0_t55_loop.trips), ∀ (k0_h1 : k0_cond1 v12 = 1#1), ∀ a, (k0_off88 k0_t41 v23 k0_t49 k0_t55) a + S1x1x128x128.size a ≤ S5x8x128x128.size a)
theorem k0_t42_ok : ∀ (v12 : BitVec 1) (k0_t41 : Fin k0_t41_loop.trips) (v23 : BitVec 32) (k0_hw4 : k0_chk4 v12 k0_t41 v23), ∀ (k0_h1 : k0_cond1 v12 = 1#1), (k0_t42_loop k0_t41 v23).OK := fun v12 k0_t41 v23 k0_hw4 k0_h1 => k0_hw4.1 k0_h1
theorem k0_off65_inb : ∀ (v12 : BitVec 1) (k0_t41 : Fin k0_t41_loop.trips) (v23 : BitVec 32) (k0_hw4 : k0_chk4 v12 k0_t41 v23) (k0_t42 : Fin (k0_t42_loop k0_t41 v23).trips) (k0_t43 : Fin k0_t43_loop.trips), ∀ (k0_h1 : k0_cond1 v12 = 1#1), ∀ a, (k0_off65 k0_t41 v23 k0_t42 k0_t43) a + S1x1x128x128.size a ≤ S5x8x128x128.size a := fun v12 k0_t41 v23 k0_hw4 k0_t42 k0_t43 k0_h1 => k0_hw4.2.1 k0_t42 k0_t43 k0_h1
theorem k0_off69_inb : ∀ (v12 : BitVec 1) (k0_t41 : Fin k0_t41_loop.trips) (v23 : BitVec 32) (k0_hw4 : k0_chk4 v12 k0_t41 v23) (k0_t42 : Fin (k0_t42_loop k0_t41 v23).trips), ∀ (k0_h1 : k0_cond1 v12 = 1#1), ∀ a, (k0_off69 k0_t41 v23 k0_t42) a + S1x128x128.size a ≤ S5x128x128.size a := fun v12 k0_t41 v23 k0_hw4 k0_t42 k0_h1 => k0_hw4.2.2.1 k0_t42 k0_h1
theorem k0_off76_inb : ∀ (v12 : BitVec 1) (k0_t41 : Fin k0_t41_loop.trips) (v23 : BitVec 32) (k0_hw4 : k0_chk4 v12 k0_t41 v23) (k0_t42 : Fin (k0_t42_loop k0_t41 v23).trips) (k0_t48 : Fin k0_t48_loop.trips), ∀ (k0_h1 : k0_cond1 v12 = 1#1), ∀ a, (k0_off76 k0_t41 v23 k0_t42 k0_t48) a + S1x1x128x128.size a ≤ S5x8x128x128.size a := fun v12 k0_t41 v23 k0_hw4 k0_t42 k0_t48 k0_h1 => k0_hw4.2.2.2.1 k0_t42 k0_t48 k0_h1
theorem k0_t49_ok : ∀ (v12 : BitVec 1) (k0_t41 : Fin k0_t41_loop.trips) (v23 : BitVec 32) (k0_hw4 : k0_chk4 v12 k0_t41 v23), ∀ (k0_h1 : k0_cond1 v12 = 1#1), (k0_t49_loop k0_t41 v23).OK := fun v12 k0_t41 v23 k0_hw4 k0_h1 => k0_hw4.2.2.2.2.1 k0_h1
theorem k0_off77_inb : ∀ (v12 : BitVec 1) (k0_t41 : Fin k0_t41_loop.trips) (v23 : BitVec 32) (k0_hw4 : k0_chk4 v12 k0_t41 v23) (k0_t49 : Fin (k0_t49_loop k0_t41 v23).trips) (k0_t50 : Fin k0_t50_loop.trips), ∀ (k0_h1 : k0_cond1 v12 = 1#1), ∀ a, (k0_off77 k0_t41 v23 k0_t49 k0_t50) a + S1x1x128x128.size a ≤ S5x8x128x128.size a := fun v12 k0_t41 v23 k0_hw4 k0_t49 k0_t50 k0_h1 => k0_hw4.2.2.2.2.2.1 k0_t49 k0_t50 k0_h1
theorem k0_off81_inb : ∀ (v12 : BitVec 1) (k0_t41 : Fin k0_t41_loop.trips) (v23 : BitVec 32) (k0_hw4 : k0_chk4 v12 k0_t41 v23) (k0_t49 : Fin (k0_t49_loop k0_t41 v23).trips), ∀ (k0_h1 : k0_cond1 v12 = 1#1), ∀ a, (k0_off81 k0_t41 v23 k0_t49) a + S1x128x128.size a ≤ S5x128x128.size a := fun v12 k0_t41 v23 k0_hw4 k0_t49 k0_h1 => k0_hw4.2.2.2.2.2.2.1 k0_t49 k0_h1
theorem k0_off88_inb : ∀ (v12 : BitVec 1) (k0_t41 : Fin k0_t41_loop.trips) (v23 : BitVec 32) (k0_hw4 : k0_chk4 v12 k0_t41 v23) (k0_t49 : Fin (k0_t49_loop k0_t41 v23).trips) (k0_t55 : Fin k0_t55_loop.trips), ∀ (k0_h1 : k0_cond1 v12 = 1#1), ∀ a, (k0_off88 k0_t41 v23 k0_t49 k0_t55) a + S1x1x128x128.size a ≤ S5x8x128x128.size a := fun v12 k0_t41 v23 k0_hw4 k0_t49 k0_t55 k0_h1 => k0_hw4.2.2.2.2.2.2.2 k0_t49 k0_t55 k0_h1

def k0_mult13 (k0_t41 : Fin k0_t41_loop.trips) : BitVec 32 :=
  let c0_i32_22 : BitVec 32 := 0#32
  let c1_i32_24 : BitVec 32 := 1#32
  let arg27 : BitVec 32 := Scf.iv c0_i32_22 c1_i32_24 k0_t41
  let c128_i32_44 : BitVec 32 := 128#32
  let v43 : BitVec 32 := Scalar.muli arg27 c128_i32_44
  v43
@[reducible] def k0_t56_loop : Scf.Loop 32 :=
  let c0_i32_45 : BitVec 32 := 0#32
  let c8_i32 : BitVec 32 := 8#32
  let v45 : BitVec 32 := Scalar.addi c0_i32_45 c8_i32
  let c1_i32_46 : BitVec 32 := 1#32
  ⟨c0_i32_45, v45, c1_i32_46⟩
@[reducible] def k0_t57_loop : Scf.Loop 32 :=
  let c0_i32_55 : BitVec 32 := 0#32
  let c3_i32_56 : BitVec 32 := 3#32
  let v53 : BitVec 32 := Scalar.addi c0_i32_55 c3_i32_56
  let c1_i32_57 : BitVec 32 := 1#32
  ⟨c0_i32_55, v53, c1_i32_57⟩
def k0_mult14 (k0_t57 : Fin k0_t57_loop.trips) : BitVec 32 :=
  let c0_i32_55 : BitVec 32 := 0#32
  let c1_i32_57 : BitVec 32 := 1#32
  let arg29 : BitVec 32 := Scf.iv c0_i32_55 c1_i32_57 k0_t57
  let c128_i32_59 : BitVec 32 := 128#32
  let v54 : BitVec 32 := Scalar.muli arg29 c128_i32_59
  v54
def k0_off89 (k0_t56 : Fin k0_t56_loop.trips) (k0_t57 : Fin k0_t57_loop.trips) : Fin 3 → Nat :=
  let c0_i32_45 : BitVec 32 := 0#32
  let c1_i32_46 : BitVec 32 := 1#32
  let arg28 : BitVec 32 := Scf.iv c0_i32_45 c1_i32_46 k0_t56
  let v56 : Index := Scalar.indexCast arg28
  let c0_60 : Index := 0#32
  let c0_i32_55 : BitVec 32 := 0#32
  let c1_i32_57 : BitVec 32 := 1#32
  let arg29 : BitVec 32 := Scf.iv c0_i32_55 c1_i32_57 k0_t57
  let c128_i32_59 : BitVec 32 := 128#32
  let v54 : BitVec 32 := Scalar.muli arg29 c128_i32_59
  let v55 : BitVec 32 := v54
  let v57 : Index := Scalar.indexCast v55
  ![v56.toNat, 0, v57.toNat]
def k0_off90 (k0_t32 : Fin k0_t32_loop.trips) (k0_t56 : Fin k0_t56_loop.trips) : Fin 2 → Nat :=
  let c0_i32_11 : BitVec 32 := 0#32
  let c1_i32_13 : BitVec 32 := 1#32
  let arg26 : BitVec 32 := Scf.iv c0_i32_11 c1_i32_13 k0_t32
  let v60 : Index := Scalar.indexCast arg26
  let c0_i32_45 : BitVec 32 := 0#32
  let c1_i32_46 : BitVec 32 := 1#32
  let arg28 : BitVec 32 := Scf.iv c0_i32_45 c1_i32_46 k0_t56
  let v61 : Index := Scalar.indexCast arg28
  ![v60.toNat, v61.toNat]
def k0_mult15 (k0_t56 : Fin k0_t56_loop.trips) (k0_t57 : Fin k0_t57_loop.trips) : BitVec 32 :=
  let c0_i32_45 : BitVec 32 := 0#32
  let c1_i32_46 : BitVec 32 := 1#32
  let arg28 : BitVec 32 := Scf.iv c0_i32_45 c1_i32_46 k0_t56
  let c3_i32_61 : BitVec 32 := 3#32
  let v67 : BitVec 32 := Scalar.muli arg28 c3_i32_61
  let c0_i32_55 : BitVec 32 := 0#32
  let c1_i32_57 : BitVec 32 := 1#32
  let arg29 : BitVec 32 := Scf.iv c0_i32_55 c1_i32_57 k0_t57
  let v68 : BitVec 32 := Scalar.addi v67 arg29
  let c128_i32_62 : BitVec 32 := 128#32
  let v69 : BitVec 32 := Scalar.muli v68 c128_i32_62
  v69
def k0_off91 (k0_t32 : Fin k0_t32_loop.trips) (k0_t41 : Fin k0_t41_loop.trips) (k0_t56 : Fin k0_t56_loop.trips) (k0_t57 : Fin k0_t57_loop.trips) : Fin 3 → Nat :=
  let c0_i32_11 : BitVec 32 := 0#32
  let c1_i32_13 : BitVec 32 := 1#32
  let arg26 : BitVec 32 := Scf.iv c0_i32_11 c1_i32_13 k0_t32
  let v71 : Index := Scalar.indexCast arg26
  let c0_i32_22 : BitVec 32 := 0#32
  let c1_i32_24 : BitVec 32 := 1#32
  let arg27 : BitVec 32 := Scf.iv c0_i32_22 c1_i32_24 k0_t41
  let c128_i32_44 : BitVec 32 := 128#32
  let v43 : BitVec 32 := Scalar.muli arg27 c128_i32_44
  let v44 : BitVec 32 := v43
  let v72 : Index := Scalar.indexCast v44
  let c0_i32_45 : BitVec 32 := 0#32
  let c1_i32_46 : BitVec 32 := 1#32
  let arg28 : BitVec 32 := Scf.iv c0_i32_45 c1_i32_46 k0_t56
  let c3_i32_61 : BitVec 32 := 3#32
  let v67 : BitVec 32 := Scalar.muli arg28 c3_i32_61
  let c0_i32_55 : BitVec 32 := 0#32
  let c1_i32_57 : BitVec 32 := 1#32
  let arg29 : BitVec 32 := Scf.iv c0_i32_55 c1_i32_57 k0_t57
  let v68 : BitVec 32 := Scalar.addi v67 arg29
  let c128_i32_62 : BitVec 32 := 128#32
  let v69 : BitVec 32 := Scalar.muli v68 c128_i32_62
  let v70 : BitVec 32 := v69
  let v73 : Index := Scalar.indexCast v70
  ![v71.toNat, v72.toNat, v73.toNat]
@[reducible] def k0_t58_loop : Scf.Loop 32 :=
  let c0_i32_48 : BitVec 32 := 0#32
  let c3_i32_49 : BitVec 32 := 3#32
  let v46 : BitVec 32 := Scalar.addi c0_i32_48 c3_i32_49
  let c1_i32_50 : BitVec 32 := 1#32
  ⟨c0_i32_48, v46, c1_i32_50⟩
def k0_off92 (k0_t58 : Fin k0_t58_loop.trips) : Fin 3 → Nat :=
  let c0_i32_48 : BitVec 32 := 0#32
  let c1_i32_50 : BitVec 32 := 1#32
  let arg28 : BitVec 32 := Scf.iv c0_i32_48 c1_i32_50 k0_t58
  let v53 : Index := Scalar.indexCast arg28
  let c0_55 : Index := 0#32
  let c0_56 : Index := 0#32
  ![v53.toNat, 0, 0]
def k0_off93 (k0_t58 : Fin k0_t58_loop.trips) : Fin 2 → Nat :=
  let c0_i32_48 : BitVec 32 := 0#32
  let c1_i32_50 : BitVec 32 := 1#32
  let arg28 : BitVec 32 := Scf.iv c0_i32_48 c1_i32_50 k0_t58
  let v58 : Index := Scalar.indexCast arg28
  let c0_58 : Index := 0#32
  ![v58.toNat, 0]
def k0_off94 (k0_t32 : Fin k0_t32_loop.trips) (k0_t41 : Fin k0_t41_loop.trips) : Fin 3 → Nat :=
  let c0_i32_11 : BitVec 32 := 0#32
  let c1_i32_13 : BitVec 32 := 1#32
  let arg26 : BitVec 32 := Scf.iv c0_i32_11 c1_i32_13 k0_t32
  let v48 : Index := Scalar.indexCast arg26
  let c0_54 : Index := 0#32
  let c0_i32_22 : BitVec 32 := 0#32
  let c1_i32_24 : BitVec 32 := 1#32
  let arg27 : BitVec 32 := Scf.iv c0_i32_22 c1_i32_24 k0_t41
  let c128_i32_44 : BitVec 32 := 128#32
  let v43 : BitVec 32 := Scalar.muli arg27 c128_i32_44
  let v44 : BitVec 32 := v43
  let v49 : Index := Scalar.indexCast v44
  ![v48.toNat, 0, v49.toNat]
abbrev stage0_0 : Fin 1 → Memref sig .tc .smem S3x640 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S3x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S3x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S3x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x24x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640x8x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x640x8x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x640 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x640x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x24x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S3x640x24x128 : Shape := ⟨4, ![3, 640, 24, 128]⟩
abbrev S3x24 : Shape := ⟨2, ![3, 24]⟩
abbrev S3x640x8x128 : Shape := ⟨4, ![3, 640, 8, 128]⟩
abbrev S3x8 : Shape := ⟨2, ![3, 8]⟩
abbrev S3x640 : Shape := ⟨2, ![3, 640]⟩
abbrev S3x8x3 : Shape := ⟨3, ![3, 8, 3]⟩
abbrev S3x8x1 : Shape := ⟨3, ![3, 8, 1]⟩
abbrev S_ : Shape := ⟨0, ![]⟩
abbrev S3x640x8x3x128 : Shape := ⟨5, ![3, 640, 8, 3, 128]⟩
abbrev S3x8x640x640x3 : Shape := ⟨5, ![3, 8, 640, 640, 3]⟩
abbrev S3x8x3x640x640 : Shape := ⟨5, ![3, 8, 3, 640, 640]⟩
abbrev S3x8x3x1x1 : Shape := ⟨5, ![3, 8, 3, 1, 1]⟩
abbrev S640 : Shape := ⟨1, ![640]⟩
abbrev S1x1x640 : Shape := ⟨3, ![1, 1, 640]⟩
abbrev S1x640x1 : Shape := ⟨3, ![1, 640, 1]⟩
abbrev S1x640x640 : Shape := ⟨3, ![1, 640, 640]⟩
abbrev S3x1x640 : Shape := ⟨3, ![3, 1, 640]⟩
abbrev S3x640x1 : Shape := ⟨3, ![3, 640, 1]⟩
abbrev S3x640x640 : Shape := ⟨3, ![3, 640, 640]⟩
abbrev S3x1x1x640x640 : Shape := ⟨5, ![3, 1, 1, 640, 640]⟩
abbrev S640x1 : Shape := ⟨2, ![640, 1]⟩
abbrev S1x640 : Shape := ⟨2, ![1, 640]⟩
abbrev S640x640 : Shape := ⟨2, ![640, 640]⟩
abbrev S3x8x128x3x640 : Shape := ⟨5, ![3, 8, 128, 3, 640]⟩
abbrev S3x1x8x1x1 : Shape := ⟨5, ![3, 1, 8, 1, 1]⟩
abbrev S3x640x3072 : Shape := ⟨3, ![3, 640, 3072]⟩
abbrev S3x8x3x640 : Shape := ⟨4, ![3, 8, 3, 640]⟩
abbrev S3x24x640 : Shape := ⟨3, ![3, 24, 640]⟩

abbrev nBuf : Space → Nat
  | .hbm => 74
  | .vmem => 6
  | .smem => 0
  | _ => 0

abbrev bufTy : (tb : Table) → Fin (tcTables nBuf tb) → BufTy
  | .hbm, ⟨0, _⟩ => ⟨S3x640x24x128, .fp8e4m3⟩
  | .hbm, ⟨1, _⟩ => ⟨S3x24, .f32⟩
  | .hbm, ⟨2, _⟩ => ⟨S3x640x8x128, .fp8e4m3⟩
  | .hbm, ⟨3, _⟩ => ⟨S3x8, .f32⟩
  | .hbm, ⟨4, _⟩ => ⟨S3x640x8x128, .fp8e4m3⟩
  | .hbm, ⟨5, _⟩ => ⟨S3x8, .f32⟩
  | .hbm, ⟨6, _⟩ => ⟨S3x640, .i32⟩
  | .hbm, ⟨7, _⟩ => ⟨S3x640x24x128, .f32⟩
  | .hbm, ⟨8, _⟩ => ⟨S3x640x8x128, .f32⟩
  | .hbm, ⟨9, _⟩ => ⟨S3x640x8x128, .bf16⟩
  | .hbm, ⟨10, _⟩ => ⟨S3x8x3, .f32⟩
  | .hbm, ⟨11, _⟩ => ⟨S3x8x1, .f32⟩
  | .hbm, ⟨12, _⟩ => ⟨S3x8x3, .f32⟩
  | .hbm, ⟨13, _⟩ => ⟨S3x8x3, .f32⟩
  | .hbm, ⟨14, _⟩ => ⟨S_, .f32⟩
  | .hbm, ⟨15, _⟩ => ⟨S3x8x3, .f32⟩
  | .hbm, ⟨16, _⟩ => ⟨S3x8x3, .f32⟩
  | .hbm, ⟨17, _⟩ => ⟨S3x640x8x3x128, .f32⟩
  | .hbm, ⟨18, _⟩ => ⟨S3x8x640x640x3, .f32⟩
  | .hbm, ⟨19, _⟩ => ⟨S3x8x3x640x640, .f32⟩
  | .hbm, ⟨20, _⟩ => ⟨S3x8x3x1x1, .f32⟩
  | .hbm, ⟨21, _⟩ => ⟨S3x8x3x640x640, .f32⟩
  | .hbm, ⟨22, _⟩ => ⟨S3x8x3x640x640, .f32⟩
  | .hbm, ⟨23, _⟩ => ⟨S640, .i32⟩
  | .hbm, ⟨24, _⟩ => ⟨S1x1x640, .i32⟩
  | .hbm, ⟨25, _⟩ => ⟨S1x640x1, .i32⟩
  | .hbm, ⟨26, _⟩ => ⟨S1x640x640, .i32⟩
  | .hbm, ⟨27, _⟩ => ⟨S1x640x640, .i32⟩
  | .hbm, ⟨28, _⟩ => ⟨S1x640x640, .i1⟩
  | .hbm, ⟨29, _⟩ => ⟨S3x1x640, .i32⟩
  | .hbm, ⟨30, _⟩ => ⟨S3x640x1, .i32⟩
  | .hbm, ⟨31, _⟩ => ⟨S3x640x640, .i32⟩
  | .hbm, ⟨32, _⟩ => ⟨S3x640x640, .i32⟩
  | .hbm, ⟨33, _⟩ => ⟨S3x640x640, .i1⟩
  | .hbm, ⟨34, _⟩ => ⟨S3x640x640, .i1⟩
  | .hbm, ⟨35, _⟩ => ⟨S3x640x640, .i1⟩
  | .hbm, ⟨36, _⟩ => ⟨S3x1x1x640x640, .i1⟩
  | .hbm, ⟨37, _⟩ => ⟨S3x8x3x640x640, .i1⟩
  | .hbm, ⟨38, _⟩ => ⟨S_, .f32⟩
  | .hbm, ⟨39, _⟩ => ⟨S3x8x3x640x640, .f32⟩
  | .hbm, ⟨40, _⟩ => ⟨S3x8x3x640x640, .f32⟩
  | .hbm, ⟨41, _⟩ => ⟨S3x8x3x640x640, .f32⟩
  | .hbm, ⟨42, _⟩ => ⟨S3x8x3x640x640, .f32⟩
  | .hbm, ⟨43, _⟩ => ⟨S3x8x3x640x640, .f32⟩
  | .hbm, ⟨44, _⟩ => ⟨S3x8x3x640x640, .f32⟩
  | .hbm, ⟨45, _⟩ => ⟨S3x8x3x640x640, .f32⟩
  | .hbm, ⟨46, _⟩ => ⟨S3x8x3x640x640, .f32⟩
  | .hbm, ⟨47, _⟩ => ⟨S_, .f32⟩
  | .hbm, ⟨48, _⟩ => ⟨S3x8x3x640x640, .f32⟩
  | .hbm, ⟨49, _⟩ => ⟨S3x8x3x640x640, .f32⟩
  | .hbm, ⟨50, _⟩ => ⟨S640x1, .i32⟩
  | .hbm, ⟨51, _⟩ => ⟨S1x640, .i32⟩
  | .hbm, ⟨52, _⟩ => ⟨S640x640, .i32⟩
  | .hbm, ⟨53, _⟩ => ⟨S640x640, .i32⟩
  | .hbm, ⟨54, _⟩ => ⟨S640x640, .i1⟩
  | .hbm, ⟨55, _⟩ => ⟨S640x640, .f32⟩
  | .hbm, ⟨56, _⟩ => ⟨S3x8x3x640x640, .f32⟩
  | .hbm, ⟨57, _⟩ => ⟨S3x8x3x640x640, .f32⟩
  | .hbm, ⟨58, _⟩ => ⟨S3x8x3x640x640, .f32⟩
  | .hbm, ⟨59, _⟩ => ⟨S3x8x3x640x640, .f32⟩
  | .hbm, ⟨60, _⟩ => ⟨S_, .f32⟩
  | .hbm, ⟨61, _⟩ => ⟨S3x8x3x640x640, .f32⟩
  | .hbm, ⟨62, _⟩ => ⟨S3x8x3x640x640, .f32⟩
  | .hbm, ⟨63, _⟩ => ⟨S3x8x3x640x640, .bf16⟩
  | .hbm, ⟨64, _⟩ => ⟨S3x8x128x3x640, .f32⟩
  | .hbm, ⟨65, _⟩ => ⟨S3x640x8x3x128, .f32⟩
  | .hbm, ⟨66, _⟩ => ⟨S3x1x8x1x1, .f32⟩
  | .hbm, ⟨67, _⟩ => ⟨S3x640x8x3x128, .f32⟩
  | .hbm, ⟨68, _⟩ => ⟨S3x640x8x3x128, .f32⟩
  | .hbm, ⟨69, _⟩ => ⟨S3x640x3072, .f32⟩
  | .hbm, ⟨70, _⟩ => ⟨S3x640x3072, .bf16⟩
  | .hbm, ⟨71, _⟩ => ⟨S_, .f32⟩
  | .hbm, ⟨72, _⟩ => ⟨S3x8x3x640, .f32⟩
  | .hbm, ⟨73, _⟩ => ⟨S3x24x640, .f32⟩
  | .local _ .vmem, ⟨0, _⟩ => ⟨S3x640x24x128, .fp8e4m3⟩
  | .local _ .vmem, ⟨1, _⟩ => ⟨S3x640x8x128, .fp8e4m3⟩
  | .local _ .vmem, ⟨2, _⟩ => ⟨S3x640x8x128, .fp8e4m3⟩
  | .local _ .vmem, ⟨3, _⟩ => ⟨S3x640x24x128, .f32⟩
  | .local _ .vmem, ⟨4, _⟩ => ⟨S3x640x8x128, .f32⟩
  | .local _ .vmem, ⟨5, _⟩ => ⟨S3x640x8x128, .bf16⟩
  | _, _ => ⟨S3x640x24x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_1 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_2 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_3 : Ref sig .tc := ⟨.hbm, 71, rfl⟩
abbrev main_v58 : Ref sig .tc := ⟨.hbm, 72, rfl⟩
abbrev main_v59 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x640x24x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x8x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x640x24x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x640x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x640x8x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Seq.lean ====
/-
  Sequential reasoning about a kernel body that only loads, stores, checks side conditions and calls
  loops: a predicate transformer `pwp` over the contents of the core's buffers, its rules for counted
  loops, and the theorem that it implies the separation-logic statement (`adequate`). `safe` is the
  version that forgets the contents.
-/
module

public import Idealize.ShloMosaic.Rules.Step
public import Idealize.ShloMosaic.Lib.Tactic

@[expose] public section

noncomputable section

namespace Cert.Seq

open Idealize.ShloMosaic Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Val : EltTy → Type} {Λ : Labels}

/-- The contents of every buffer thread `c` names. -/
abbrev St (Val : EltTy → Type) (c : Thread nD τ) : Type := (b : Ref sig c.2.kind) → Buf Val (c.loc b)

variable (c : Thread nD τ)

/-- A buffer of the core's own memory. -/
def InCore {κ : Kind} (b : Ref sig κ) : Prop := b.space = .vmem ∨ b.space = .smem

/-- What is known of the calls: when a call may be made, what it returns, and a bound on its depth. -/
structure Calls (Val : EltTy → Type) (Λ : Labels) (c : Thread nD τ) where
  /-- When the call may be made. -/
  pre : (ℓ : Λ.Label) → Λ.Args ℓ → St (sig := sig) Val c → Prop
  /-- What it may return. -/
  post : (ℓ : Λ.Label) → Λ.Args ℓ → St (sig := sig) Val c → Λ.Result ℓ → Prop
  /-- A bound on the depth of its calls. -/
  rank : (ℓ : Λ.Label) → Λ.Args ℓ → ℕ

variable {c} (C : Calls (sig := sig) Val Λ c)

/-- One effect, from contents `σ`, continued with `K`; calls only below rank `n`. -/
def effPre (n : ℕ) {β : Type} (e : TpuEff nD τ sig Val Λ c.2 β) (σ : St (sig := sig) Val c)
    (K : β → St (sig := sig) Val c → Prop) : Prop :=
  match e, K with
  | .load m r _, K => InCore m.view.ref ∧ K (m.view.readAt Val r (σ m.view.ref)) σ
  | .store m r w M _ _, K => InCore m.view.ref ∧
      K ⟨⟩ (Function.update σ m.view.ref ((m.access r).write Val (σ m.view.ref) w M))
  | .assume P _, K => ∃ h : P, K ⟨h⟩ σ
  | .call ℓ a, K => C.pre ℓ a σ ∧ C.rank ℓ a < n ∧ ∀ r, C.post ℓ a σ r → K r σ
  | _, _ => False

/-- The program, from contents `σ`, ends in `Q`. -/
def pwp (n : ℕ) {α : Type} : Prog (TpuEff nD τ sig Val Λ c.2) α → (α → St (sig := sig) Val c → Prop) →
    St (sig := sig) Val c → Prop
  | .ret a, Q, σ => Q a σ
  | .op e k, Q, σ => effPre C n e σ (fun x σ' => pwp n (k x) Q σ')

variable {C} {n : ℕ} {α β : Type}

theorem effPre_mono {γ : Type} {e : TpuEff nD τ sig Val Λ c.2 γ} {σ : St (sig := sig) Val c}
    {K K' : γ → St (sig := sig) Val c → Prop} (h : ∀ x s, K x s → K' x s) : effPre C n e σ K → effPre C n e σ K' := by
  cases e <;> simp only [effPre] <;> try exact id
  · exact fun h1 => ⟨h1.1, h _ _ h1.2⟩
  · exact fun h1 => ⟨h1.1, h _ _ h1.2⟩
  · exact fun ⟨h1, h2⟩ => ⟨h1, h _ _ h2⟩
  · exact fun h1 => ⟨h1.1, h1.2.1, fun r hr => h _ _ (h1.2.2 r hr)⟩

theorem pwp_mono {p : Prog (TpuEff nD τ sig Val Λ c.2) α} {Q Q' : α → St (sig := sig) Val c → Prop}
    (h : ∀ x s, Q x s → Q' x s) {σ : St (sig := sig) Val c} : pwp C n p Q σ → pwp C n p Q' σ := by
  induction p generalizing σ with
  | ret a => exact h _ _
  | op e k ih => exact effPre_mono fun x s => ih x

theorem pwp_bind {p : Prog (TpuEff nD τ sig Val Λ c.2) α} {k : α → Prog (TpuEff nD τ sig Val Λ c.2) β}
    {Q : β → St (sig := sig) Val c → Prop} {σ : St (sig := sig) Val c}
    (h : pwp C n p (fun a s => pwp C n (k a) Q s) σ) : pwp C n (p >>= k) Q σ := by
  induction p generalizing σ with
  | ret a => exact h
  | op e k' ih => exact effPre_mono (fun x s => ih x) h

/-- A list of trips, by an invariant over the trips gone through. -/
theorem pwp_forFrom {N : ℕ} {body : Fin N → α → Prog (TpuEff nD τ sig Val Λ c.2) α}
    {I : ℕ → α → St (sig := sig) Val c → Prop}
    (hstep : ∀ (k : Fin N) a s, I k.val a s → pwp C n (body k a) (I (k.val + 1)) s) :
    ∀ (l : List (Fin N)) (i : ℕ), l.map Fin.val = List.range' i l.length → ∀ a s, I i a s →
      pwp C n (Scf.forFrom body l a) (I (i + l.length)) s
  | [], i, _, a, s, h => h
  | k :: ks, i, hl, a, s, h => by
    simp only [List.map_cons, List.length_cons, List.range'_succ, List.cons.injEq] at hl
    refine pwp_bind (pwp_mono (fun a' s' h' => ?_) (hstep k a s (hl.1 ▸ h)))
    have := pwp_forFrom hstep ks (i + 1) hl.2 a' s' (hl.1 ▸ h')
    simpa [Nat.add_assoc, Nat.add_comm 1] using this

theorem pwp_for {w : ℕ} {l : Scf.Loop w} {hok} {init : α} {body : Fin l.trips → α → Prog (TpuEff nD τ sig Val Λ c.2) α}
    (I : ℕ → α → St (sig := sig) Val c → Prop) {Q : α → St (sig := sig) Val c → Prop} {σ : St (sig := sig) Val c}
    (h0 : I 0 init σ) (hstep : ∀ (k : Fin l.trips) a s, I k.val a s → pwp C n (body k a) (I (k.val + 1)) s)
    (hQ : ∀ a s, I l.trips a s → Q a s) :
    pwp C n (Scf.Loop.for l hok init body) Q σ := by
  unfold Scf.Loop.for
  rw [Scf.for_eq]
  refine pwp_mono hQ ?_
  have := pwp_forFrom (C := C) (n := n) hstep (List.finRange _) 0 (by simp [List.range_eq_range']) init σ h0
  simpa using this

/-! ### Forgetting the contents -/

/-- The program makes only admitted accesses and calls whatever the buffers hold, and returns a result in `Q`. -/
def safe (Wr : Ref sig (Proc.tc (τ := τ)).kind → Prop) (pre : (ℓ : Λ.Label) → Λ.Args ℓ → Prop) (post : (ℓ : Λ.Label) → Λ.Args ℓ → Λ.Result ℓ → Prop)
    (rank : (ℓ : Λ.Label) → Λ.Args ℓ → ℕ) (n : ℕ) {α : Type} : Prog (TpuEff nD τ sig Val Λ .tc) α → (α → Prop) → Prop
  | .ret a, Q => Q a
  | .op (.load m _ _) k, Q => InCore m.view.ref ∧ ∀ v, safe Wr pre post rank n (k v) Q
  | .op (.store m _ _ _ _ _) k, Q => InCore m.view.ref ∧ Wr m.view.ref ∧ safe Wr pre post rank n (k ⟨⟩) Q
  | .op (.assume P _) k, Q => ∃ h : P, safe Wr pre post rank n (k ⟨h⟩) Q
  | .op (.call ℓ a) k, Q => pre ℓ a ∧ rank ℓ a < n ∧ ∀ r, post ℓ a r → safe Wr pre post rank n (k r) Q
  | .op _ _, _ => False

section Safe
variable {Wr : Ref sig (Proc.tc (τ := τ)).kind → Prop} {pre : (ℓ : Λ.Label) → Λ.Args ℓ → Prop} {post : (ℓ : Λ.Label) → Λ.Args ℓ → Λ.Result ℓ → Prop}
  {rank : (ℓ : Λ.Label) → Λ.Args ℓ → ℕ}

theorem safe_bind {q : Prog (TpuEff nD τ sig Val Λ .tc) α} {k : α → Prog (TpuEff nD τ sig Val Λ .tc) β} {Q : β → Prop}
    (h : safe Wr pre post rank n q (fun a => safe Wr pre post rank n (k a) Q)) : safe Wr pre post rank n (q >>= k) Q := by
  induction q with
  | ret a => exact h
  | op e k' ih =>
    cases e <;> try exact h.elim
    · exact ⟨h.1, fun v => ih v (h.2 v)⟩
    · exact ⟨h.1, h.2.1, ih _ h.2.2⟩
    · exact ⟨h.1, ih _ h.2⟩
    · exact ⟨h.1, h.2.1, fun r hr => ih r (h.2.2 r hr)⟩

theorem safe_mono {q : Prog (TpuEff nD τ sig Val Λ .tc) α} {Q Q' : α → Prop} (hQ : ∀ a, Q a → Q' a)
    (h : safe Wr pre post rank n q Q) : safe Wr pre post rank n q Q' := by
  induction q with
  | ret a => exact hQ _ h
  | op e k' ih =>
    cases e <;> try exact h.elim
    · exact ⟨h.1, fun v => ih v (h.2 v)⟩
    · exact ⟨h.1, h.2.1, ih _ h.2.2⟩
    · exact ⟨h.1, ih _ h.2⟩
    · exact ⟨h.1, h.2.1, fun r hr => ih r (h.2.2 r hr)⟩

/-- A part that always ends, then the rest. -/
theorem safe_seq {q : Prog (TpuEff nD τ sig Val Λ .tc) α} {k : α → Prog (TpuEff nD τ sig Val Λ .tc) β} {Q : β → Prop}
    (h : safe Wr pre post rank n q (fun _ => True)) (hk : ∀ a, safe Wr pre post rank n (k a) Q) :
    safe Wr pre post rank n (q >>= k) Q :=
  safe_bind (safe_mono (fun a _ => hk a) h)

theorem safe_pure {a : α} {Q : α → Prop} (h : Q a) :
    safe (nD := nD) (sig := sig) (Val := Val) Wr pre post rank n (pure a : Prog (TpuEff nD τ sig Val Λ .tc) α) Q := h

theorem safe_ret {a : α} {Q : α → Prop} (h : Q a) :
    safe (nD := nD) (sig := sig) (Val := Val) Wr pre post rank n (.ret a : Prog (TpuEff nD τ sig Val Λ .tc) α) Q := h

theorem safe_load {cs : CoreSpace} {s : Shape} {e : EltTy} {m : Memref sig (Proc.tc (τ := τ)).kind cs s e} {r : LoadRect s} {h : m.view.LoadsAt r}
    {k : (r.shape.Idx → Val e) → Prog (TpuEff nD τ sig Val Λ .tc) β} {Q : β → Prop} (hm : InCore m.view.ref)
    (hk : ∀ v, safe Wr pre post rank n (k v) Q) :
    safe Wr pre post rank n (Prog.lift (.load m r h) >>= k) Q := ⟨hm, hk⟩

theorem safe_store {cs : CoreSpace} {s : Shape} {e : EltTy} {m : Memref sig (Proc.tc (τ := τ)).kind cs s e} {r : Rect s} {w : r.shape.Idx → Val e}
    {M : Finset r.shape.Idx} {h : (m.access r).Stores M} {hm' : M = Finset.univ ∨ ∀ a, r.stride a = 1}
    {k : PUnit → Prog (TpuEff nD τ sig Val Λ .tc) β} {Q : β → Prop} (hm : InCore m.view.ref) (hw : Wr m.view.ref)
    (hk : safe Wr pre post rank n (k ⟨⟩) Q) :
    safe Wr pre post rank n (Prog.lift (.store m r w M h hm') >>= k) Q := ⟨hm, hw, hk⟩

theorem safe_smem {s : Shape} {e : EltTy} {m : Memref sig (Proc.tc (τ := τ)).kind .smem s e} {r : Rect s} {h1 : r.shape.numel = 1}
    {hp : e.packing = 1} {k : Val e → Prog (TpuEff nD τ sig Val Λ .tc) β} {Q : β → Prop} (hm : InCore m.view.ref)
    (hk : ∀ v, safe Wr pre post rank n (k v) Q) :
    safe Wr pre post rank n (smemLoad m r h1 hp >>= k) Q := ⟨hm, fun _ => hk _⟩

theorem safe_assume {P : Prop} {d : Decidable P} {k : PLift P → Prog (TpuEff nD τ sig Val Λ .tc) β} {Q : β → Prop} (hP : P)
    (hk : safe Wr pre post rank n (k ⟨hP⟩) Q) :
    safe Wr pre post rank n (Prog.lift (.assume P d) >>= k) Q := ⟨hP, hk⟩

theorem safe_for {w : ℕ} {l : Scf.Loop w} {hok} {init : α} {body : Fin l.trips → α → Prog (TpuEff nD τ sig Val Λ .tc) α}
    (hstep : ∀ (k : Fin l.trips) a, safe Wr pre post rank n (body k a) (fun _ => True)) :
    safe Wr pre post rank n (Scf.Loop.for l hok init body) (fun _ => True) := by
  unfold Scf.Loop.for
  rw [Scf.for_eq]
  generalize List.finRange _ = L
  induction L generalizing init with
  | nil => exact trivial
  | cons k ks ih => exact safe_seq (hstep k init) fun a => ih (init := a)

theorem safe_dite {P : Prop} [Decidable P] {f : P → Prog (TpuEff nD τ sig Val Λ .tc) α} {g : ¬ P → Prog (TpuEff nD τ sig Val Λ .tc) α}
    {Q : α → Prop} (hf : ∀ h, safe Wr pre post rank n (f h) Q) (hg : ∀ h, safe Wr pre post rank n (g h) Q) :
    safe Wr pre post rank n (if h : P then f h else g h) Q := by
  by_cases h : P
  · rw [dif_pos h]; exact hf h
  · rw [dif_neg h]; exact hg h

/-- What is never written keeps its contents. -/
theorem safe_pwp {d : Dev nD} {C : Calls (sig := sig) Val Λ (d, Proc.tc (τ := τ))} {q : Prog (TpuEff nD τ sig Val Λ .tc) α} {Q : α → Prop}
    (hpre : ∀ ℓ a σ, pre ℓ a → C.pre ℓ a σ) (hpost : ∀ ℓ a σ r, C.post ℓ a σ r → post ℓ a r)
    (hrank : ∀ ℓ a, C.rank ℓ a = rank ℓ a)
    (h : safe Wr pre post rank n q Q) (σ : St (sig := sig) Val (d, Proc.tc (τ := τ))) :
    pwp C n q (fun a s => Q a ∧ ∀ b, ¬ Wr b → s b = σ b) σ := by
  induction q generalizing σ with
  | ret a => exact ⟨h, fun _ _ => rfl⟩
  | op e k' ih =>
    cases e <;> try exact h.elim
    · exact ⟨h.1, ih _ (h.2 _) _⟩
    · refine ⟨h.1, pwp_mono (fun a s hs => ⟨hs.1, fun b hb => (hs.2 b hb).trans ?_⟩) (ih _ h.2.2 _)⟩
      exact Function.update_of_ne (fun e => hb (by rw [e]; exact h.2.1)) _ _
    · exact ⟨h.1, ih _ h.2 _⟩
    · exact ⟨hpre _ _ _ h.1, (hrank _ _).symm ▸ h.2.1, fun r hr => ih r (h.2.2 r (hpost _ _ _ _ hr)) _⟩

end Safe

/-! ### Adequacy -/

section Adequacy

variable {Ix : Type} [DecidableEq Ix] {Name : Type} [DecidableEq Name] {U : Type} [URA U] {Lvl : Type} [Preorder Lvl]
local notation "𝕄" => MT nD τ sig Ix Val Name U Lvl

/-- The ownership `own σ` of contents gives out any core buffer and takes it back at new contents. -/
def Gives (own : St (sig := sig) Val c → sProp 𝕄) : Prop :=
  ∀ (b : Ref sig c.2.kind) (σ : St (sig := sig) Val c), InCore b →
    own σ ⊢ iprop((c.loc b ↦{fullShare} σ b) ∗ ∀ f, (c.loc b ↦{fullShare} f) -∗ own (Function.update σ b f))

variable {defs : Defs nD τ sig Val Λ} {C : Calls (sig := sig) Val Λ c} {E : Set Name}

theorem adequate (own : St (sig := sig) Val c → sProp 𝕄) (hown : Gives own)
    (hdefs : ∀ ℓ a σ, C.pre ℓ a σ →
      pwp C (C.rank ℓ a) (defs c.2 ℓ a) (fun r s => s = σ ∧ C.post ℓ a σ r) σ) :
    ∀ (n : ℕ) {α : Type} (q : Prog (TpuEff nD τ sig Val Λ c.2) α) (Q : α → St (sig := sig) Val c → Prop)
      (σ : St (sig := sig) Val c) (bd : Option Variants.nat.V) (Γ : PendingWaitsCtx sig Ix), (∀ u ∈ bd, n ≤ u) →
      pwp C n q Q σ →
      own σ ⊢ wp frame (wpE' defs Variants.nat c bd Γ) E q (fun a => iprop(∃ s, ⌜Q a s⌝ ∗ own s)) := by
  intro n
  induction n using Nat.strong_induction_on with
  | _ n IH =>
    intro α q Q σ bd Γ hbd h
    induction q generalizing σ with
    | ret a =>
      refine Entails.trans ?_ (le_wp_ret _ _ _ a _)
      iintro H
      iexists σ
      isplitr
      · ipureintro; exact h
      · iexact H
    | op e k ih =>
      cases e <;> try exact h.elim
      case load cs s e m r hl =>
        refine (hown _ σ h.1).trans ?_
        iintro ⟨H, Hk⟩
        iapply (wp_load Variants.nat c bd E (Finset.subset_univ _)) $$ H
        iintro H
        ihave Ho := Hk $$ %_ H
        have e1 : Function.update σ m.view.ref (σ m.view.ref) = σ := Function.update_eq_self _ _
        rw [e1]
        iapply (ih _ σ h.2)
        iexact Ho
      case store cs s e m r w M hx hm =>
        refine (hown _ σ h.1).trans ?_
        iintro ⟨H, Hk⟩
        iapply (wp_store Variants.nat c bd E (m := m) (r := r) (Finset.subset_univ _)) $$ H
        iintro H
        ihave Ho := Hk $$ %_ H
        iapply (ih _ _ h.2)
        iexact Ho
      case assume P d =>
        obtain ⟨hP, hk⟩ := h
        exact (ih _ σ hk).trans (wp_assume Variants.nat c bd E hP)
      case call ℓ a =>
        obtain ⟨hpre, hr, hk⟩ := h
        refine Entails.trans ?_ (wp_call Variants.nat c bd E (C.rank ℓ a)
          (fun u hu => Nat.lt_of_lt_of_le hr (hbd u hu)))
        refine (IH _ hr (defs c.2 ℓ a) _ σ (some (C.rank ℓ a)) (Γ.descend none)
          (fun u hu => (Option.some.inj hu).le) (hdefs ℓ a σ hpre)).trans (wp_mono _ _ _ fun r => ?_)
        iintro ⟨%s, ⟨%hs, Ho⟩⟩
        obtain ⟨rfl, hp⟩ := hs
        iapply (ih r s (hk r hp))
        iexact Ho

end Adequacy

end Cert.Seq

end
-- ==== Proof.SafeKernel.lean ====
/-
  The kernel body at the buffers the launch gives it (`B…`: each loop's region and each part at those buffers), and
  the proof that the body keeps inside its buffers and admits every check whatever the buffers hold.
-/
module

public import proofs.«01_k».proof.Proof.Gen.Kernel.Skeleton
public import proofs.«01_k».proof.Proof.Gen.Kernel.Points
public import proofs.«01_k».proof.Proof.Seq

@[expose] public section

set_option maxRecDepth 16384

noncomputable section

namespace Cert.Kernel.Hand

open Idealize.ShloMosaic Idealize.SL.Sem Cert.Seq Cert.Kernel.Gen

variable {F : FTy → Type} [BitOps F]

abbrev M0 : Memref sig .tc .smem S3x640 .i32 := Memref.whole cc0_stg0_0
abbrev W0 : M0.IsWhole := Memref.isWhole_whole _
abbrev M1 : Memref sig .tc .smem S3x24 .f32 := Memref.whole cc0_stg1_0
abbrev W1 : M1.IsWhole := Memref.isWhole_whole _
abbrev M2 : Memref sig .tc .smem S3x8 .f32 := Memref.whole cc0_stg2_0
abbrev W2 : M2.IsWhole := Memref.isWhole_whole _
abbrev M3 : Memref sig .tc .smem S3x8 .f32 := Memref.whole cc0_stg3_0
abbrev W3 : M3.IsWhole := Memref.isWhole_whole _
abbrev M4 : Memref sig .tc .vmem S3x640x24x128 .fp8e4m3 := Memref.whole cc0_stg4_0
abbrev W4 : M4.IsWhole := Memref.isWhole_whole _
abbrev M5 : Memref sig .tc .vmem S3x640x8x128 .fp8e4m3 := Memref.whole cc0_stg5_0
abbrev W5 : M5.IsWhole := Memref.isWhole_whole _
abbrev M6 : Memref sig .tc .vmem S3x640x8x128 .fp8e4m3 := Memref.whole cc0_stg6_0
abbrev W6 : M6.IsWhole := Memref.isWhole_whole _
abbrev M7 : Memref sig .tc .vmem S3x640 .i32 := Memref.whole cc0_stg7_0
abbrev W7 : M7.IsWhole := Memref.isWhole_whole _
abbrev M8 : Memref sig .tc .vmem S3x640x3072 .bf16 := Memref.whole cc0_stg8_0
abbrev W8 : M8.IsWhole := Memref.isWhole_whole _
abbrev M9 : Memref sig .tc .vmem S3x24x640 .f32 := Memref.whole cc0_stg9_0
abbrev W9 : M9.IsWhole := Memref.isWhole_whole _
abbrev M10 : Memref sig .tc .vmem S5x8x128x384 .fp8e4m3 := Memref.whole cc0_scratch0
abbrev W10 : M10.IsWhole := Memref.isWhole_whole _
abbrev M11 : Memref sig .tc .vmem S5x8x128x128 .fp8e4m3 := Memref.whole cc0_scratch1
abbrev W11 : M11.IsWhole := Memref.isWhole_whole _
abbrev M12 : Memref sig .tc .vmem S5x8x128x128 .bf16 := Memref.whole cc0_scratch2
abbrev W12 : M12.IsWhole := Memref.isWhole_whole _
abbrev M13 : Memref sig .tc .vmem S128x128 .i32 := Memref.whole cc0_scratch3
abbrev W13 : M13.IsWhole := Memref.isWhole_whole _
abbrev M14 : Memref sig .tc .vmem S5x128x128 .i32 := Memref.whole cc0_scratch4
abbrev W14 : M14.IsWhole := Memref.isWhole_whole _
abbrev M15 : Memref sig .tc .vmem S3x8x128 .f32 := Memref.whole cc0_scratch5
abbrev W15 : M15.IsWhole := Memref.isWhole_whole _
abbrev M16 : Memref sig .tc .vmem S128x128 .f32 := Memref.whole cc0_scratch6
abbrev W16 : M16.IsWhole := Memref.isWhole_whole _
abbrev M17 : Memref sig .tc .vmem S3104x128 .f32 := Memref.whole cc0_scratch7
abbrev W17 : M17.IsWhole := Memref.isWhole_whole _
abbrev M18 : Memref sig .tc .vmem S3x128x8x128 .f32 := Memref.whole cc0_scratch8
abbrev W18 : M18.IsWhole := Memref.isWhole_whole _
abbrev M19 : Memref sig .tc .vmem S1568x128 .i32 := Memref.whole cc0_scratch9
abbrev W19 : M19.IsWhole := Memref.isWhole_whole _
abbrev M20 : Memref sig .tc .vmem S8x128x384 .f32 := Memref.whole cc0_scratch10
abbrev W20 : M20.IsWhole := Memref.isWhole_whole _
abbrev M21 : Memref sig .tc .vmem S3x8x128 .f32 := Memref.whole cc0_scratch11
abbrev W21 : M21.IsWhole := Memref.isWhole_whole _
abbrev M22 : Memref sig .tc .vmem S3x8x128 .f32 := Memref.whole cc0_scratch12
abbrev W22 : M22.IsWhole := Memref.isWhole_whole _
abbrev M23 : Memref sig .tc .vmem S8x128 .f32 := Memref.whole cc0_scratch13
abbrev W23 : M23.IsWhole := Memref.isWhole_whole _
abbrev M24 : Memref sig .tc .vmem S24x128 .f32 := Memref.whole cc0_scratch14
abbrev W24 : M24.IsWhole := Memref.isWhole_whole _
abbrev M25 : Memref sig .tc .vmem S15x128 .i32 := Memref.whole cc0_scratch15
abbrev W25 : M25.IsWhole := Memref.isWhole_whole _

abbrev B2 := k0_t2_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B1 := k0_t1_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B5 := k0_t5_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B4 := k0_t4_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B8 := k0_t8_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B7 := k0_t7_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B9 := k0_t9_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B11 := k0_t11_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B10 := k0_t10_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B6 := k0_t6_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B31 := k0_t31_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B12 := k0_t12_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B3 := k0_t3_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B34 := k0_t34_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B33 := k0_t33_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B37 := k0_t37_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B36 := k0_t36_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B38 := k0_t38_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B40 := k0_t40_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B39 := k0_t39_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B35 := k0_t35_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B58 := k0_t58_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B41 := k0_t41_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B32 := k0_t32_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B14 := k0_t14_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B18 := k0_t18_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B17 := k0_t17_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B19 := k0_t19_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B16 := k0_t16_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B15 := k0_t15_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B20 := k0_t20_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B13 := k0_t13_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B22 := k0_t22_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B26 := k0_t26_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B25 := k0_t25_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B27 := k0_t27_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B24 := k0_t24_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B23 := k0_t23_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B28 := k0_t28_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B21 := k0_t21_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B30 := k0_t30_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B29 := k0_t29_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev P1 := k0_part1 (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev P2 := k0_part2 (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev P3 := k0_part3 (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev P4 := k0_part4 (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev P5 := k0_part5 (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev P6 := k0_part6 (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev P7 := k0_part7 (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B43 := k0_t43_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B47 := k0_t47_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B46 := k0_t46_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B45 := k0_t45_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B44 := k0_t44_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B48 := k0_t48_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B42 := k0_t42_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B50 := k0_t50_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B54 := k0_t54_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B53 := k0_t53_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B52 := k0_t52_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B51 := k0_t51_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B55 := k0_t55_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B49 := k0_t49_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B57 := k0_t57_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B56 := k0_t56_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev P8 := k0_part8 (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev Body := cc0_stick_breaking (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25

/-- The buffers the body may write: all but the staged inputs. -/
def Wr (b : Ref sig .tc) : Prop :=
  b ≠ cc0_stg0_0 ∧ b ≠ cc0_stg1_0 ∧ b ≠ cc0_stg2_0 ∧ b ≠ cc0_stg3_0 ∧ b ≠ cc0_stg4_0 ∧ b ≠ cc0_stg5_0 ∧ b ≠ cc0_stg6_0 ∧ b ≠ cc0_stg7_0

theorem wr8 : Wr M8.view.ref := by unfold Wr; decide +kernel
theorem wr9 : Wr M9.view.ref := by unfold Wr; decide +kernel
theorem wr10 : Wr M10.view.ref := by unfold Wr; decide +kernel
theorem wr11 : Wr M11.view.ref := by unfold Wr; decide +kernel
theorem wr12 : Wr M12.view.ref := by unfold Wr; decide +kernel
theorem wr13 : Wr M13.view.ref := by unfold Wr; decide +kernel
theorem wr14 : Wr M14.view.ref := by unfold Wr; decide +kernel
theorem wr15 : Wr M15.view.ref := by unfold Wr; decide +kernel
theorem wr16 : Wr M16.view.ref := by unfold Wr; decide +kernel
theorem wr17 : Wr M17.view.ref := by unfold Wr; decide +kernel
theorem wr18 : Wr M18.view.ref := by unfold Wr; decide +kernel
theorem wr19 : Wr M19.view.ref := by unfold Wr; decide +kernel
theorem wr20 : Wr M20.view.ref := by unfold Wr; decide +kernel
theorem wr21 : Wr M21.view.ref := by unfold Wr; decide +kernel
theorem wr22 : Wr M22.view.ref := by unfold Wr; decide +kernel
theorem wr23 : Wr M23.view.ref := by unfold Wr; decide +kernel
theorem wr24 : Wr M24.view.ref := by unfold Wr; decide +kernel
theorem wr25 : Wr M25.view.ref := by unfold Wr; decide +kernel

/-- When a loop-call may be made: the chunk tried is at most the tile. -/
def preS : (ℓ : (Λ₀ F).Label) → (Λ₀ F).Args ℓ → Prop
  | 0, _ => False
  | 1, ⟨_, T2, a0, _, _, x⟩ => InCore a0.view.ref ∧ x.toNat ≤ T2.val
  | 2, ⟨_, _, T2, _, a0, _, _, x⟩ => InCore a0.view.ref ∧ x.toNat ≤ T2.val

/-- What it returns: a chunk at most the tile. -/
def postS : (ℓ : (Λ₀ F).Label) → (Λ₀ F).Args ℓ → (Λ₀ F).Result ℓ → Prop
  | 0, _, _ => True
  | 1, ⟨_, T2, _, _, _, _⟩, r => BitVec.toNat r ≤ T2.val
  | 2, ⟨_, _, T2, _, _, _, _, _⟩, r => BitVec.toNat r ≤ T2.val

/-- Its depth. -/
def rankS : (ℓ : (Λ₀ F).Label) → (Λ₀ F).Args ℓ → ℕ
  | 0, _ => 0
  | 1, ⟨_, _, _, _, _, x⟩ => x.toNat
  | 2, ⟨_, _, _, _, _, _, _, x⟩ => x.toNat

/-- Admitted whatever the buffers hold. -/
abbrev S {α : Type} (n : ℕ) (q : Prog (TpuEff nD τ sig (Elt F) (Λ₀ F) .tc) α) (Q : α → Prop) : Prop :=
  safe (Val := Elt F) Wr preS postS rankS n q Q

theorem fin_of_le {x : BitVec 32} {N : ℕ} (k : Fin N) (h : x.toNat ≤ k.val) : ∃ n : Fin N, n ≤ k ∧ x = BitVec.ofNat 32 n.val :=
  ⟨⟨x.toNat, lt_of_le_of_lt h k.2⟩, h, by simp⟩

set_option maxHeartbeats 4000000 in
theorem chk1_of (a : Fin k0_t3_loop.trips) (b : Fin k0_t12_loop.trips) {x : BitVec 32} (h : x.toNat ≤ b.val) : k0_chk1 a x := by
  obtain ⟨n, -, e⟩ := fin_of_le b h
  clear h; subst e; clear b
  revert a n
  decide +kernel

set_option maxHeartbeats 4000000 in
theorem chk2_of (b : Fin k0_t12_loop.trips) {x : BitVec 32} (h : x.toNat ≤ b.val) : k0_chk2 b x := by
  obtain ⟨n, hn, e⟩ := fin_of_le b h
  clear h; subst e
  revert hn; revert n; revert b
  decide +kernel

set_option maxHeartbeats 4000000 in
theorem chk3_of (v : BitVec 1) (a : Fin k0_t32_loop.trips) (b : Fin k0_t41_loop.trips) {x : BitVec 32} (h : x.toNat ≤ b.val) : k0_chk3 v a x := by
  obtain ⟨n, -, e⟩ := fin_of_le b h
  clear h; subst e; clear b
  revert v a n
  decide +kernel

set_option maxHeartbeats 4000000 in
theorem chk4_of (v : BitVec 1) (b : Fin k0_t41_loop.trips) {x : BitVec 32} (h : x.toNat ≤ b.val) : k0_chk4 v b x := by
  obtain ⟨n, hn, e⟩ := fin_of_le b h
  clear h; subst e
  revert hn; revert v n; revert b
  decide +kernel

theorem iv_le (b : Fin k0_t12_loop.trips) : (Scf.iv (0#32) (1#32) b).toNat ≤ b.val := by
  revert b; decide +kernel
theorem iv_le' (b : Fin k0_t41_loop.trips) : (Scf.iv (0#32) (1#32) b).toNat ≤ b.val := by
  revert b; decide +kernel

theorem while_pos (x : BitVec 32) (y : BitVec 1) (hx : x.toNat ≤ 5) (h : Scalar.andi (Scalar.cmpi .sgt x 0#32) y = 1#1) :
    0 < x.toNat ∧ (Scalar.subi x 1#32).toNat = x.toNat - 1 := by
  obtain ⟨n, hn⟩ : ∃ n : Fin 6, x = BitVec.ofNat 32 n.val := ⟨⟨x.toNat, by omega⟩, by simp⟩
  subst hn; clear hx; revert n y; decide +kernel

theorem while1_safe (a : (Λ₀ F).Args 1) (h : preS (F := F) 1 a) :
    safe (Val := Elt F) (fun _ => False) preS postS rankS (rankS (F := F) 1 a) (defs₀ (F := F) .tc 1 a) (postS (F := F) 1 a) := by
  obtain ⟨t, b, a0, ha0, v, x⟩ := a
  obtain ⟨hc, hx⟩ := h
  unfold defs₀; rw [Defs.onTc_tc]
  show safe (Val := Elt F) (fun _ => False) preS postS rankS _ (cc0_while1 t b a0 ha0 v x) _
  rw [cc0_while1_eq_skeleton]; unfold cc0_while1_skel
  refine safe_assume (chk1_of t b hx) (safe_smem hc fun y => ?_)
  dsimp only
  split
  · rename_i hcond
    have hpos : 0 < x.toNat ∧ (Scalar.subi x 1#32).toNat = x.toNat - 1 := while_pos x _ (le_trans hx b.isLt.le) hcond
    refine ⟨⟨hc, ?_⟩, ?_, fun r hr => hr⟩
    · show (Scalar.subi x 1#32).toNat ≤ b.val
      omega
    · show (Scalar.subi x 1#32).toNat < x.toNat
      omega
  · exact hx

theorem while2_safe (a : (Λ₀ F).Args 2) (h : preS (F := F) 2 a) :
    safe (Val := Elt F) (fun _ => False) preS postS rankS (rankS (F := F) 2 a) (defs₀ (F := F) .tc 2 a) (postS (F := F) 2 a) := by
  obtain ⟨v12, t, b, h1, a0, ha0, v, x⟩ := a
  obtain ⟨hc, hx⟩ := h
  unfold defs₀; rw [Defs.onTc_tc]
  show safe (Val := Elt F) (fun _ => False) preS postS rankS _ (cc0_while2 v12 t b h1 a0 ha0 v x) _
  rw [cc0_while2_eq_skeleton]; unfold cc0_while2_skel
  refine safe_assume (chk3_of v12 t b hx) (safe_smem hc fun y => ?_)
  dsimp only
  split
  · rename_i hcond
    have hpos : 0 < x.toNat ∧ (Scalar.subi x 1#32).toNat = x.toNat - 1 := while_pos x _ (le_trans hx b.isLt.le) hcond
    refine ⟨⟨hc, ?_⟩, ?_, fun r hr => hr⟩
    · show (Scalar.subi x 1#32).toNat ≤ b.val
      omega
    · show (Scalar.subi x 1#32).toNat < x.toNat
      omega
  · exact hx

theorem safe_t14 (k0_t3 : Fin k0_t3_loop.trips) (arg26 : BitVec 32) (c0_i32_18 : BitVec 32) (c1_i32_20 : BitVec 32) (k0_t12 : Fin k0_t12_loop.trips) (v22 : BitVec 32) (k0_hw2 : k0_chk2 k0_t12 v22) (k0_t13 : Fin (k0_t13_loop k0_t12 v22).trips) (k) (a) : S (F := F) 10 (B14 k0_t3 arg26 c0_i32_18 c1_i32_20 k0_t12 v22 k0_hw2 k0_t13 k a) (fun _ => True) := by
  unfold B14 k0_t14_body
  refine safe_load (Or.inl rfl) fun _ => ?_
  refine safe_load (Or.inl rfl) fun _ => ?_
  refine safe_load (Or.inl rfl) fun _ => ?_
  refine safe_store (Or.inl rfl) wr17 ?_
  refine safe_load (Or.inl rfl) fun _ => ?_
  refine safe_store (Or.inl rfl) wr17 ?_
  refine safe_load (Or.inl rfl) fun _ => ?_
  refine safe_store (Or.inl rfl) wr17 ?_
  exact safe_pure trivial

theorem safe_t18 (k0_t3 : Fin k0_t3_loop.trips) (arg26 : BitVec 32) (c0_i32_18 : BitVec 32) (c1_i32_20 : BitVec 32) (k0_t12 : Fin k0_t12_loop.trips) (k0_t15 : Fin k0_t15_loop.trips) (v83 : Vec F S1x8x128 .f32) (k0_t16 : Fin k0_t16_loop.trips) (k0_t17 : Fin k0_t17_loop.trips) (k) (a) : S (F := F) 10 (B18 k0_t3 arg26 c0_i32_18 c1_i32_20 k0_t12 k0_t15 v83 k0_t16 k0_t17 k a) (fun _ => True) := by
  unfold B18 k0_t18_body
  refine safe_load (Or.inl rfl) fun _ => ?_
  refine safe_load (Or.inl rfl) fun _ => ?_
  refine safe_load (Or.inl rfl) fun _ => ?_
  refine safe_store (Or.inl rfl) wr18 ?_
  exact safe_pure trivial

theorem safe_t17 (k0_t3 : Fin k0_t3_loop.trips) (arg26 : BitVec 32) (c0_i32_18 : BitVec 32) (c1_i32_20 : BitVec 32) (k0_t12 : Fin k0_t12_loop.trips) (k0_t15 : Fin k0_t15_loop.trips) (v83 : Vec F S1x8x128 .f32) (k0_t16 : Fin k0_t16_loop.trips) (k) (a) : S (F := F) 10 (B17 k0_t3 arg26 c0_i32_18 c1_i32_20 k0_t12 k0_t15 v83 k0_t16 k a) (fun _ => True) := by
  unfold B17 k0_t17_body
  refine safe_seq (safe_for fun _ _ => safe_t18 ..) fun _ => ?_
  exact safe_pure trivial

theorem safe_t19 (k0_t3 : Fin k0_t3_loop.trips) (arg26 : BitVec 32) (c0_i32_18 : BitVec 32) (c1_i32_20 : BitVec 32) (k0_t12 : Fin k0_t12_loop.trips) (k0_t15 : Fin k0_t15_loop.trips) (k0_t16 : Fin k0_t16_loop.trips) (arg32 : FVec F S8x128 .f32) (v109_0 : FVec F S8x128 .f32) (k) (a) : S (F := F) 10 (B19 k0_t3 arg26 c0_i32_18 c1_i32_20 k0_t12 k0_t15 k0_t16 arg32 v109_0 k a) (fun _ => True) := by
  unfold B19 k0_t19_body
  refine safe_load (Or.inl rfl) fun _ => ?_
  refine safe_load (Or.inl rfl) fun _ => ?_
  refine safe_load (Or.inl rfl) fun _ => ?_
  refine safe_store (Or.inl rfl) wr19 ?_
  exact safe_pure trivial

theorem safe_t16 (k0_t3 : Fin k0_t3_loop.trips) (arg26 : BitVec 32) (c0_i32_18 : BitVec 32) (c1_i32_20 : BitVec 32) (k0_t12 : Fin k0_t12_loop.trips) (k0_t15 : Fin k0_t15_loop.trips) (v83 : Vec F S1x8x128 .f32) (k) (a) : S (F := F) 10 (B16 k0_t3 arg26 c0_i32_18 c1_i32_20 k0_t12 k0_t15 v83 k a) (fun _ => True) := by
  unfold B16 k0_t16_body
  refine safe_seq (safe_for fun _ _ => safe_t17 ..) fun _ => ?_
  refine safe_seq (safe_for fun _ _ => safe_t19 ..) fun _ => ?_
  exact safe_pure trivial

theorem safe_t15 (k0_t3 : Fin k0_t3_loop.trips) (arg26 : BitVec 32) (c0_i32_18 : BitVec 32) (c1_i32_20 : BitVec 32) (k0_t12 : Fin k0_t12_loop.trips) (k) (a) : S (F := F) 10 (B15 k0_t3 arg26 c0_i32_18 c1_i32_20 k0_t12 k a) (fun _ => True) := by
  unfold B15 k0_t15_body
  refine safe_load (Or.inl rfl) fun _ => ?_
  refine safe_load (Or.inl rfl) fun _ => ?_
  refine safe_load (Or.inl rfl) fun _ => ?_
  refine safe_load (Or.inl rfl) fun _ => ?_
  refine safe_seq (safe_for fun _ _ => safe_t16 ..) fun _ => ?_
  refine safe_load (Or.inl rfl) fun _ => ?_
  refine safe_store (Or.inl rfl) wr21 ?_
  refine safe_load (Or.inl rfl) fun _ => ?_
  refine safe_store (Or.inl rfl) wr22 ?_
  refine safe_load (Or.inl rfl) fun _ => ?_
  refine safe_store (Or.inl rfl) wr23 ?_
  exact safe_pure trivial

theorem safe_t20 (k0_t3 : Fin k0_t3_loop.trips) (arg26 : BitVec 32) (c0_i32_18 : BitVec 32) (c1_i32_20 : BitVec 32) (k0_t12 : Fin k0_t12_loop.trips) (v22 : BitVec 32) (k0_hw2 : k0_chk2 k0_t12 v22) (k0_t13 : Fin (k0_t13_loop k0_t12 v22).trips) (k) (a) : S (F := F) 10 (B20 k0_t3 arg26 c0_i32_18 c1_i32_20 k0_t12 v22 k0_hw2 k0_t13 k a) (fun _ => True) := by
  unfold B20 k0_t20_body
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  refine safe_store (Or.inl rfl) wr20 ?_
  exact safe_pure trivial

theorem safe_t13 (k0_t3 : Fin k0_t3_loop.trips) (arg26 : BitVec 32) (c0_i32_18 : BitVec 32) (c1_i32_20 : BitVec 32) (k0_t12 : Fin k0_t12_loop.trips) (v22 : BitVec 32) (k0_hw2 : k0_chk2 k0_t12 v22) (k) (a) : S (F := F) 10 (B13 k0_t3 arg26 c0_i32_18 c1_i32_20 k0_t12 v22 k0_hw2 k a) (fun _ => True) := by
  unfold B13 k0_t13_body
  refine safe_seq (safe_for fun _ _ => safe_t14 ..) fun _ => ?_
  refine safe_load (Or.inl rfl) fun _ => ?_
  refine safe_load (Or.inl rfl) fun _ => ?_
  refine safe_load (Or.inl rfl) fun _ => ?_
  refine safe_store (Or.inl rfl) wr16 ?_
  refine safe_seq (safe_for fun _ _ => safe_t15 ..) fun _ => ?_
  refine safe_seq (safe_for fun _ _ => safe_t20 ..) fun _ => ?_
  exact safe_pure trivial

theorem safe_t22 (k0_t3 : Fin k0_t3_loop.trips) (arg26 : BitVec 32) (c0_i32_18 : BitVec 32) (c1_i32_20 : BitVec 32) (k0_t12 : Fin k0_t12_loop.trips) (v22 : BitVec 32) (k0_hw2 : k0_chk2 k0_t12 v22) (k0_t21 : Fin (k0_t21_loop k0_t12 v22).trips) (k) (a) : S (F := F) 10 (B22 k0_t3 arg26 c0_i32_18 c1_i32_20 k0_t12 v22 k0_hw2 k0_t21 k a) (fun _ => True) := by
  unfold B22 k0_t22_body
  refine safe_load (Or.inl rfl) fun _ => ?_
  refine safe_load (Or.inl rfl) fun _ => ?_
  refine safe_load (Or.inl rfl) fun _ => ?_
  refine safe_store (Or.inl rfl) wr17 ?_
  refine safe_load (Or.inl rfl) fun _ => ?_
  refine safe_store (Or.inl rfl) wr17 ?_
  refine safe_load (Or.inl rfl) fun _ => ?_
  refine safe_store (Or.inl rfl) wr17 ?_
  exact safe_pure trivial

theorem safe_t26 (k0_t3 : Fin k0_t3_loop.trips) (arg26 : BitVec 32) (c0_i32_18 : BitVec 32) (c1_i32_20 : BitVec 32) (k0_t12 : Fin k0_t12_loop.trips) (k0_t23 : Fin k0_t23_loop.trips) (v83 : Vec F S1x8x128 .f32) (k0_t24 : Fin k0_t24_loop.trips) (k0_t25 : Fin k0_t25_loop.trips) (k) (a) : S (F := F) 10 (B26 k0_t3 arg26 c0_i32_18 c1_i32_20 k0_t12 k0_t23 v83 k0_t24 k0_t25 k a) (fun _ => True) := by
  unfold B26 k0_t26_body
  refine safe_load (Or.inl rfl) fun _ => ?_
  refine safe_load (Or.inl rfl) fun _ => ?_
  refine safe_load (Or.inl rfl) fun _ => ?_
  refine safe_store (Or.inl rfl) wr18 ?_
  exact safe_pure trivial

theorem safe_t25 (k0_t3 : Fin k0_t3_loop.trips) (arg26 : BitVec 32) (c0_i32_18 : BitVec 32) (c1_i32_20 : BitVec 32) (k0_t12 : Fin k0_t12_loop.trips) (k0_t23 : Fin k0_t23_loop.trips) (v83 : Vec F S1x8x128 .f32) (k0_t24 : Fin k0_t24_loop.trips) (k) (a) : S (F := F) 10 (B25 k0_t3 arg26 c0_i32_18 c1_i32_20 k0_t12 k0_t23 v83 k0_t24 k a) (fun _ => True) := by
  unfold B25 k0_t25_body
  refine safe_seq (safe_for fun _ _ => safe_t26 ..) fun _ => ?_
  exact safe_pure trivial

theorem safe_t27 (k0_t3 : Fin k0_t3_loop.trips) (arg26 : BitVec 32) (c0_i32_18 : BitVec 32) (c1_i32_20 : BitVec 32) (k0_t12 : Fin k0_t12_loop.trips) (k0_t23 : Fin k0_t23_loop.trips) (k0_t24 : Fin k0_t24_loop.trips) (arg32 : FVec F S8x128 .f32) (v109_0 : FVec F S8x128 .f32) (k) (a) : S (F := F) 10 (B27 k0_t3 arg26 c0_i32_18 c1_i32_20 k0_t12 k0_t23 k0_t24 arg32 v109_0 k a) (fun _ => True) := by
  unfold B27 k0_t27_body
  refine safe_load (Or.inl rfl) fun _ => ?_
  refine safe_load (Or.inl rfl) fun _ => ?_
  refine safe_load (Or.inl rfl) fun _ => ?_
  refine safe_store (Or.inl rfl) wr19 ?_
  exact safe_pure trivial

theorem safe_t24 (k0_t3 : Fin k0_t3_loop.trips) (arg26 : BitVec 32) (c0_i32_18 : BitVec 32) (c1_i32_20 : BitVec 32) (k0_t12 : Fin k0_t12_loop.trips) (k0_t23 : Fin k0_t23_loop.trips) (v83 : Vec F S1x8x128 .f32) (k) (a) : S (F := F) 10 (B24 k0_t3 arg26 c0_i32_18 c1_i32_20 k0_t12 k0_t23 v83 k a) (fun _ => True) := by
  unfold B24 k0_t24_body
  refine safe_seq (safe_for fun _ _ => safe_t25 ..) fun _ => ?_
  refine safe_seq (safe_for fun _ _ => safe_t27 ..) fun _ => ?_
  exact safe_pure trivial

theorem safe_t23 (k0_t3 : Fin k0_t3_loop.trips) (arg26 : BitVec 32) (c0_i32_18 : BitVec 32) (c1_i32_20 : BitVec 32) (k0_t12 : Fin k0_t12_loop.trips) (k) (a) : S (F := F) 10 (B23 k0_t3 arg26 c0_i32_18 c1_i32_20 k0_t12 k a) (fun _ => True) := by
  unfold B23 k0_t23_body
  refine safe_load (Or.inl rfl) fun _ => ?_
  refine safe_load (Or.inl rfl) fun _ => ?_
  refine safe_load (Or.inl rfl) fun _ => ?_
  refine safe_load (Or.inl rfl) fun _ => ?_
  refine safe_seq (safe_for fun _ _ => safe_t24 ..) fun _ => ?_
  refine safe_load (Or.inl rfl) fun _ => ?_
  refine safe_store (Or.inl rfl) wr21 ?_
  refine safe_load (Or.inl rfl) fun _ => ?_
  refine safe_store (Or.inl rfl) wr22 ?_
  refine safe_load (Or.inl rfl) fun _ => ?_
  refine safe_store (Or.inl rfl) wr23 ?_
  exact safe_pure trivial

theorem safe_t28 (k0_t3 : Fin k0_t3_loop.trips) (arg26 : BitVec 32) (c0_i32_18 : BitVec 32) (c1_i32_20 : BitVec 32) (k0_t12 : Fin k0_t12_loop.trips) (v22 : BitVec 32) (k0_hw2 : k0_chk2 k0_t12 v22) (k0_t21 : Fin (k0_t21_loop k0_t12 v22).trips) (k) (a) : S (F := F) 10 (B28 k0_t3 arg26 c0_i32_18 c1_i32_20 k0_t12 v22 k0_hw2 k0_t21 k a) (fun _ => True) := by
  unfold B28 k0_t28_body
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  refine safe_store (Or.inl rfl) wr20 ?_
  exact safe_pure trivial

theorem safe_t21 (k0_t3 : Fin k0_t3_loop.trips) (arg26 : BitVec 32) (c0_i32_18 : BitVec 32) (c1_i32_20 : BitVec 32) (k0_t12 : Fin k0_t12_loop.trips) (v22 : BitVec 32) (k0_hw2 : k0_chk2 k0_t12 v22) (k) (a) : S (F := F) 10 (B21 k0_t3 arg26 c0_i32_18 c1_i32_20 k0_t12 v22 k0_hw2 k a) (fun _ => True) := by
  unfold B21 k0_t21_body
  refine safe_seq (safe_for fun _ _ => safe_t22 ..) fun _ => ?_
  refine safe_load (Or.inl rfl) fun _ => ?_
  refine safe_load (Or.inl rfl) fun _ => ?_
  refine safe_load (Or.inl rfl) fun _ => ?_
  refine safe_store (Or.inl rfl) wr16 ?_
  refine safe_seq (safe_for fun _ _ => safe_t23 ..) fun _ => ?_
  refine safe_seq (safe_for fun _ _ => safe_t28 ..) fun _ => ?_
  exact safe_pure trivial

theorem safe_t30 (k0_t3 : Fin k0_t3_loop.trips) (arg26 : BitVec 32) (c0_i32_18 : BitVec 32) (c1_i32_20 : BitVec 32) (k0_t12 : Fin k0_t12_loop.trips) (k0_t29 : Fin k0_t29_loop.trips) (k) (a) : S (F := F) 10 (B30 k0_t3 arg26 c0_i32_18 c1_i32_20 k0_t12 k0_t29 k a) (fun _ => True) := by
  unfold B30 k0_t30_body
  refine safe_load (Or.inl rfl) fun _ => ?_
  refine safe_smem (Or.inr rfl) fun _ => ?_
  refine safe_load (Or.inl rfl) fun _ => ?_
  refine safe_store (Or.inl rfl) wr8 ?_
  exact safe_pure trivial

theorem safe_t29 (k0_t3 : Fin k0_t3_loop.trips) (arg26 : BitVec 32) (c0_i32_18 : BitVec 32) (c1_i32_20 : BitVec 32) (k0_t12 : Fin k0_t12_loop.trips) (k) (a) : S (F := F) 10 (B29 k0_t3 arg26 c0_i32_18 c1_i32_20 k0_t12 k a) (fun _ => True) := by
  unfold B29 k0_t29_body
  refine safe_seq (safe_for fun _ _ => safe_t30 ..) fun _ => ?_
  exact safe_pure trivial

theorem safe_p1 (k0_t3 : Fin k0_t3_loop.trips) (arg26 : BitVec 32)  (k0_t12 : Fin k0_t12_loop.trips) : S (F := F) 10 (P1 k0_t3 arg26 0#32 1#32 k0_t12) (fun _ => True) := by
  unfold P1; rw [k0_part1_eq_skeleton]; unfold k0_part1_skel
  refine safe_smem (Or.inr rfl) fun _ => ?_
  refine ⟨⟨Or.inr rfl, iv_le _⟩, lt_of_le_of_lt (iv_le _) (lt_of_lt_of_le k0_t12.2 (by decide)), fun r hr => ?_⟩
  refine safe_assume (chk2_of _ hr) ?_
  refine safe_load (Or.inl rfl) fun _ => ?_
  refine safe_store (Or.inl rfl) wr21 ?_
  refine safe_load (Or.inl rfl) fun _ => ?_
  refine safe_store (Or.inl rfl) wr22 ?_
  refine safe_load (Or.inl rfl) fun _ => ?_
  refine safe_store (Or.inl rfl) wr20 ?_
  refine safe_seq (safe_for fun _ _ => safe_t13 ..) fun _ => ?_
  refine safe_seq (safe_for fun _ _ => safe_t21 ..) fun _ => ?_
  refine safe_seq (safe_for fun _ _ => safe_t29 ..) fun _ => ?_
  exact safe_pure trivial

theorem safe_p2 (k0_t44 : Fin k0_t44_loop.trips) (k0_t45 : Fin k0_t45_loop.trips) (k0_t46 : Fin k0_t46_loop.trips) (v84 : BitVec 32) (v85 : BitVec 32) (v86 : BitVec 32) (c0_i32_90 : BitVec 32) (c1_i32_92 : BitVec 32) (k0_t47 : Fin k0_t47_loop.trips) : S (F := F) 10 (P2 k0_t44 k0_t45 k0_t46 v84 v85 v86 c0_i32_90 c1_i32_92 k0_t47) (fun _ => True) := by
  unfold P2; rw [k0_part2_eq_skeleton]; unfold k0_part2_skel
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  exact safe_pure trivial

theorem safe_p3 (k0_t44 : Fin k0_t44_loop.trips) (k0_t45 : Fin k0_t45_loop.trips) (k0_t46 : Fin k0_t46_loop.trips) (v84 : BitVec 32) (v85 : BitVec 32) (v86 : BitVec 32) (k0_t47 : Fin k0_t47_loop.trips) (arg32 : BitVec 32) (v90 : FVec F S8x128 .f32) (v93 : FVec F S8x128 .f32) (v96 : FVec F S8x128 .f32) (v116 : FVec F S8x128 .f32) (v118 : FVec F S8x128 .f32) (v122 : FVec F S8x128 .f32) (v124 : FVec F S8x128 .f32) (v126 : FVec F S8x128 .f32) : S (F := F) 10 (P3 k0_t44 k0_t45 k0_t46 v84 v85 v86 k0_t47 arg32 v90 v93 v96 v116 v118 v122 v124 v126) (fun _ => True) := by
  unfold P3; rw [k0_part3_eq_skeleton]; unfold k0_part3_skel
  refine safe_load (Or.inl rfl) fun _ => ?_
  refine safe_load (Or.inl rfl) fun _ => ?_
  exact safe_pure trivial

theorem safe_p4 (k0_t44 : Fin k0_t44_loop.trips) (k0_t45 : Fin k0_t45_loop.trips) (k0_t46 : Fin k0_t46_loop.trips) (v84 : BitVec 32) (v85 : BitVec 32) (v86 : BitVec 32) (k0_t47 : Fin k0_t47_loop.trips) (arg32 : BitVec 32) (v142 : FVec F S8x128 .f32) (v143 : FVec F S8x128 .f32) (v144 : FVec F S8x128 .f32) (v164 : FVec F S8x128 .f32) (v166 : FVec F S8x128 .f32) (v170 : FVec F S8x128 .f32) : S (F := F) 10 (P4 k0_t44 k0_t45 k0_t46 v84 v85 v86 k0_t47 arg32 v142 v143 v144 v164 v166 v170) (fun _ => True) := by
  unfold P4; rw [k0_part4_eq_skeleton]; unfold k0_part4_skel
  refine safe_load (Or.inl rfl) fun _ => ?_
  refine safe_store (Or.inl rfl) wr19 ?_
  refine safe_load (Or.inl rfl) fun _ => ?_
  refine safe_store (Or.inl rfl) wr21 ?_
  refine safe_load (Or.inl rfl) fun _ => ?_
  refine safe_store (Or.inl rfl) wr22 ?_
  exact safe_pure trivial

theorem safe_p5 (k0_t51 : Fin k0_t51_loop.trips) (k0_t52 : Fin k0_t52_loop.trips) (k0_t53 : Fin k0_t53_loop.trips) (v84 : BitVec 32) (v85 : BitVec 32) (v86 : BitVec 32) (c0_i32_90 : BitVec 32) (c1_i32_92 : BitVec 32) (k0_t54 : Fin k0_t54_loop.trips) : S (F := F) 10 (P5 k0_t51 k0_t52 k0_t53 v84 v85 v86 c0_i32_90 c1_i32_92 k0_t54) (fun _ => True) := by
  unfold P5; rw [k0_part5_eq_skeleton]; unfold k0_part5_skel
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  exact safe_pure trivial

theorem safe_p6 (k0_t51 : Fin k0_t51_loop.trips) (k0_t52 : Fin k0_t52_loop.trips) (k0_t53 : Fin k0_t53_loop.trips) (v84 : BitVec 32) (v85 : BitVec 32) (v86 : BitVec 32) (k0_t54 : Fin k0_t54_loop.trips) (arg32 : BitVec 32) (v90 : FVec F S8x128 .f32) (v93 : FVec F S8x128 .f32) (v96 : FVec F S8x128 .f32) (v116 : FVec F S8x128 .f32) (v118 : FVec F S8x128 .f32) (v122 : FVec F S8x128 .f32) (v124 : FVec F S8x128 .f32) (v126 : FVec F S8x128 .f32) : S (F := F) 10 (P6 k0_t51 k0_t52 k0_t53 v84 v85 v86 k0_t54 arg32 v90 v93 v96 v116 v118 v122 v124 v126) (fun _ => True) := by
  unfold P6; rw [k0_part6_eq_skeleton]; unfold k0_part6_skel
  refine safe_load (Or.inl rfl) fun _ => ?_
  refine safe_load (Or.inl rfl) fun _ => ?_
  exact safe_pure trivial

theorem safe_p7 (k0_t51 : Fin k0_t51_loop.trips) (k0_t52 : Fin k0_t52_loop.trips) (k0_t53 : Fin k0_t53_loop.trips) (v84 : BitVec 32) (v85 : BitVec 32) (v86 : BitVec 32) (k0_t54 : Fin k0_t54_loop.trips) (arg32 : BitVec 32) (v142 : FVec F S8x128 .f32) (v143 : FVec F S8x128 .f32) (v144 : FVec F S8x128 .f32) (v164 : FVec F S8x128 .f32) (v166 : FVec F S8x128 .f32) (v170 : FVec F S8x128 .f32) : S (F := F) 10 (P7 k0_t51 k0_t52 k0_t53 v84 v85 v86 k0_t54 arg32 v142 v143 v144 v164 v166 v170) (fun _ => True) := by
  unfold P7; rw [k0_part7_eq_skeleton]; unfold k0_part7_skel
  refine safe_load (Or.inl rfl) fun _ => ?_
  refine safe_store (Or.inl rfl) wr19 ?_
  refine safe_load (Or.inl rfl) fun _ => ?_
  refine safe_store (Or.inl rfl) wr21 ?_
  refine safe_load (Or.inl rfl) fun _ => ?_
  refine safe_store (Or.inl rfl) wr22 ?_
  exact safe_pure trivial

theorem safe_t43 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (v23 : BitVec 32) (k0_hw4 : k0_chk4 v12 k0_t41 v23) (k0_t42 : Fin (k0_t42_loop k0_t41 v23).trips) (k) (a) : S (F := F) 10 (B43 v12 k0_h1 k0_t32 arg26 c0_i32_22 c1_i32_24 k0_t41 v23 k0_hw4 k0_t42 k a) (fun _ => True) := by
  unfold B43 k0_t43_body
  refine safe_load (Or.inl rfl) fun _ => ?_
  refine safe_load (Or.inl rfl) fun _ => ?_
  refine safe_load (Or.inl rfl) fun _ => ?_
  refine safe_store (Or.inl rfl) wr17 ?_
  refine safe_load (Or.inl rfl) fun _ => ?_
  refine safe_store (Or.inl rfl) wr17 ?_
  refine safe_load (Or.inl rfl) fun _ => ?_
  refine safe_store (Or.inl rfl) wr17 ?_
  exact safe_pure trivial

theorem safe_t47 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k0_t44 : Fin k0_t44_loop.trips) (k0_t45 : Fin k0_t45_loop.trips) (k0_t46 : Fin k0_t46_loop.trips) (v84 : BitVec 32) (v85 : BitVec 32) (v86 : BitVec 32) (k) (a) : S (F := F) 10 (B47 v12 k0_h1 k0_t32 arg26 c0_i32_22 c1_i32_24 k0_t41 k0_t44 k0_t45 k0_t46 v84 v85 v86 k a) (fun _ => True) := by
  unfold B47 k0_t47_body
  refine safe_seq (safe_p2 ..) ?_
  rintro ⟨_, _, _, _, _, _, _, _, _⟩
  refine safe_seq (safe_p3 ..) ?_
  rintro ⟨_, _, _, _, _, _⟩
  refine safe_seq (safe_p4 ..) fun _ => ?_
  exact safe_pure trivial

theorem safe_t46 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k0_t44 : Fin k0_t44_loop.trips) (arg29 : BitVec 32) (k0_t45 : Fin k0_t45_loop.trips) (arg30 : BitVec 32) (k) (a) : S (F := F) 10 (B46 v12 k0_h1 k0_t32 arg26 c0_i32_22 c1_i32_24 k0_t41 k0_t44 arg29 k0_t45 arg30 k a) (fun _ => True) := by
  unfold B46 k0_t46_body
  refine safe_seq (safe_for fun _ _ => safe_t47 ..) fun _ => ?_
  exact safe_pure trivial

theorem safe_t45 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k0_t44 : Fin k0_t44_loop.trips) (arg29 : BitVec 32) (k) (a) : S (F := F) 10 (B45 v12 k0_h1 k0_t32 arg26 c0_i32_22 c1_i32_24 k0_t41 k0_t44 arg29 k a) (fun _ => True) := by
  unfold B45 k0_t45_body
  refine safe_seq (safe_for fun _ _ => safe_t46 ..) fun _ => ?_
  exact safe_pure trivial

theorem safe_t44 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k) (a) : S (F := F) 10 (B44 v12 k0_h1 k0_t32 arg26 c0_i32_22 c1_i32_24 k0_t41 k a) (fun _ => True) := by
  unfold B44 k0_t44_body
  refine safe_seq (safe_for fun _ _ => safe_t45 ..) fun _ => ?_
  exact safe_pure trivial

theorem safe_t48 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (v23 : BitVec 32) (k0_hw4 : k0_chk4 v12 k0_t41 v23) (k0_t42 : Fin (k0_t42_loop k0_t41 v23).trips) (k) (a) : S (F := F) 10 (B48 v12 k0_h1 k0_t32 arg26 c0_i32_22 c1_i32_24 k0_t41 v23 k0_hw4 k0_t42 k a) (fun _ => True) := by
  unfold B48 k0_t48_body
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  refine safe_store (Or.inl rfl) wr20 ?_
  exact safe_pure trivial

theorem safe_t42 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (v23 : BitVec 32) (k0_hw4 : k0_chk4 v12 k0_t41 v23) (k) (a) : S (F := F) 10 (B42 v12 k0_h1 k0_t32 arg26 c0_i32_22 c1_i32_24 k0_t41 v23 k0_hw4 k a) (fun _ => True) := by
  unfold B42 k0_t42_body
  refine safe_seq (safe_for fun _ _ => safe_t43 ..) fun _ => ?_
  refine safe_load (Or.inl rfl) fun _ => ?_
  refine safe_load (Or.inl rfl) fun _ => ?_
  refine safe_load (Or.inl rfl) fun _ => ?_
  refine safe_store (Or.inl rfl) wr16 ?_
  refine safe_seq (safe_for fun _ _ => safe_t44 ..) fun _ => ?_
  refine safe_seq (safe_for fun _ _ => safe_t48 ..) fun _ => ?_
  exact safe_pure trivial

theorem safe_t50 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (v23 : BitVec 32) (k0_hw4 : k0_chk4 v12 k0_t41 v23) (k0_t49 : Fin (k0_t49_loop k0_t41 v23).trips) (k) (a) : S (F := F) 10 (B50 v12 k0_h1 k0_t32 arg26 c0_i32_22 c1_i32_24 k0_t41 v23 k0_hw4 k0_t49 k a) (fun _ => True) := by
  unfold B50 k0_t50_body
  refine safe_load (Or.inl rfl) fun _ => ?_
  refine safe_load (Or.inl rfl) fun _ => ?_
  refine safe_load (Or.inl rfl) fun _ => ?_
  refine safe_store (Or.inl rfl) wr17 ?_
  refine safe_load (Or.inl rfl) fun _ => ?_
  refine safe_store (Or.inl rfl) wr17 ?_
  refine safe_load (Or.inl rfl) fun _ => ?_
  refine safe_store (Or.inl rfl) wr17 ?_
  exact safe_pure trivial

theorem safe_t54 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k0_t51 : Fin k0_t51_loop.trips) (k0_t52 : Fin k0_t52_loop.trips) (k0_t53 : Fin k0_t53_loop.trips) (v84 : BitVec 32) (v85 : BitVec 32) (v86 : BitVec 32) (k) (a) : S (F := F) 10 (B54 v12 k0_h1 k0_t32 arg26 c0_i32_22 c1_i32_24 k0_t41 k0_t51 k0_t52 k0_t53 v84 v85 v86 k a) (fun _ => True) := by
  unfold B54 k0_t54_body
  refine safe_seq (safe_p5 ..) ?_
  rintro ⟨_, _, _, _, _, _, _, _, _⟩
  refine safe_seq (safe_p6 ..) ?_
  rintro ⟨_, _, _, _, _, _⟩
  refine safe_seq (safe_p7 ..) fun _ => ?_
  exact safe_pure trivial

theorem safe_t53 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k0_t51 : Fin k0_t51_loop.trips) (arg29 : BitVec 32) (k0_t52 : Fin k0_t52_loop.trips) (arg30 : BitVec 32) (k) (a) : S (F := F) 10 (B53 v12 k0_h1 k0_t32 arg26 c0_i32_22 c1_i32_24 k0_t41 k0_t51 arg29 k0_t52 arg30 k a) (fun _ => True) := by
  unfold B53 k0_t53_body
  refine safe_seq (safe_for fun _ _ => safe_t54 ..) fun _ => ?_
  exact safe_pure trivial

theorem safe_t52 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k0_t51 : Fin k0_t51_loop.trips) (arg29 : BitVec 32) (k) (a) : S (F := F) 10 (B52 v12 k0_h1 k0_t32 arg26 c0_i32_22 c1_i32_24 k0_t41 k0_t51 arg29 k a) (fun _ => True) := by
  unfold B52 k0_t52_body
  refine safe_seq (safe_for fun _ _ => safe_t53 ..) fun _ => ?_
  exact safe_pure trivial

theorem safe_t51 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k) (a) : S (F := F) 10 (B51 v12 k0_h1 k0_t32 arg26 c0_i32_22 c1_i32_24 k0_t41 k a) (fun _ => True) := by
  unfold B51 k0_t51_body
  refine safe_seq (safe_for fun _ _ => safe_t52 ..) fun _ => ?_
  exact safe_pure trivial

theorem safe_t55 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (v23 : BitVec 32) (k0_hw4 : k0_chk4 v12 k0_t41 v23) (k0_t49 : Fin (k0_t49_loop k0_t41 v23).trips) (k) (a) : S (F := F) 10 (B55 v12 k0_h1 k0_t32 arg26 c0_i32_22 c1_i32_24 k0_t41 v23 k0_hw4 k0_t49 k a) (fun _ => True) := by
  unfold B55 k0_t55_body
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  refine safe_store (Or.inl rfl) wr20 ?_
  exact safe_pure trivial

theorem safe_t49 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (v23 : BitVec 32) (k0_hw4 : k0_chk4 v12 k0_t41 v23) (k) (a) : S (F := F) 10 (B49 v12 k0_h1 k0_t32 arg26 c0_i32_22 c1_i32_24 k0_t41 v23 k0_hw4 k a) (fun _ => True) := by
  unfold B49 k0_t49_body
  refine safe_seq (safe_for fun _ _ => safe_t50 ..) fun _ => ?_
  refine safe_load (Or.inl rfl) fun _ => ?_
  refine safe_load (Or.inl rfl) fun _ => ?_
  refine safe_load (Or.inl rfl) fun _ => ?_
  refine safe_store (Or.inl rfl) wr16 ?_
  refine safe_seq (safe_for fun _ _ => safe_t51 ..) fun _ => ?_
  refine safe_seq (safe_for fun _ _ => safe_t55 ..) fun _ => ?_
  exact safe_pure trivial

theorem safe_t57 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k0_t56 : Fin k0_t56_loop.trips) (k) (a) : S (F := F) 10 (B57 v12 k0_h1 k0_t32 arg26 c0_i32_22 c1_i32_24 k0_t41 k0_t56 k a) (fun _ => True) := by
  unfold B57 k0_t57_body
  refine safe_load (Or.inl rfl) fun _ => ?_
  refine safe_smem (Or.inr rfl) fun _ => ?_
  refine safe_load (Or.inl rfl) fun _ => ?_
  refine safe_store (Or.inl rfl) wr8 ?_
  exact safe_pure trivial

theorem safe_t56 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k) (a) : S (F := F) 10 (B56 v12 k0_h1 k0_t32 arg26 c0_i32_22 c1_i32_24 k0_t41 k a) (fun _ => True) := by
  unfold B56 k0_t56_body
  refine safe_seq (safe_for fun _ _ => safe_t57 ..) fun _ => ?_
  exact safe_pure trivial

theorem safe_p8 (v12 : BitVec 1) (k0_h1 : k0_cond1 v12 = 1#1) (k0_t32 : Fin k0_t32_loop.trips) (arg26 : BitVec 32)  (k0_t41 : Fin k0_t41_loop.trips) : S (F := F) 10 (P8 v12 k0_h1 k0_t32 arg26 0#32 1#32 k0_t41) (fun _ => True) := by
  unfold P8; rw [k0_part8_eq_skeleton]; unfold k0_part8_skel
  refine safe_smem (Or.inr rfl) fun _ => ?_
  refine ⟨⟨Or.inr rfl, iv_le' _⟩, lt_of_le_of_lt (iv_le' _) (lt_of_lt_of_le k0_t41.2 (by decide)), fun r hr => ?_⟩
  refine safe_assume (chk4_of _ _ hr) ?_
  refine safe_load (Or.inl rfl) fun _ => ?_
  refine safe_store (Or.inl rfl) wr21 ?_
  refine safe_load (Or.inl rfl) fun _ => ?_
  refine safe_store (Or.inl rfl) wr22 ?_
  refine safe_load (Or.inl rfl) fun _ => ?_
  refine safe_store (Or.inl rfl) wr20 ?_
  refine safe_seq (safe_for fun _ _ => safe_t42 ..) fun _ => ?_
  refine safe_seq (safe_for fun _ _ => safe_t49 ..) fun _ => ?_
  refine safe_seq (safe_for fun _ _ => safe_t56 ..) fun _ => ?_
  exact safe_pure trivial

theorem safe_t2 (k0_t1 : Fin k0_t1_loop.trips) (k) (a) : S (F := F) 10 (B2 k0_t1 k a) (fun _ => True) := by
  unfold B2 k0_t2_body
  refine safe_load (Or.inl rfl) fun _ => ?_
  refine safe_load (Or.inl rfl) fun _ => ?_
  refine safe_store (Or.inl rfl) wr25 ?_
  exact safe_pure trivial

theorem safe_t1  (k) (a) : S (F := F) 10 (B1  k a) (fun _ => True) := by
  unfold B1 k0_t1_body
  refine safe_seq (safe_for fun _ _ => safe_t2 ..) fun _ => ?_
  exact safe_pure trivial

theorem safe_t5 (k0_t3 : Fin k0_t3_loop.trips) (k0_t4 : Fin k0_t4_loop.trips) (k) (a) : S (F := F) 10 (B5 k0_t3 k0_t4 k a) (fun _ => True) := by
  unfold B5 k0_t5_body
  refine safe_smem (Or.inr rfl) fun _ => ?_
  refine safe_smem (Or.inr rfl) fun _ => ?_
  exact safe_pure trivial

theorem safe_t4 (k0_t3 : Fin k0_t3_loop.trips) (k) (a) : S (F := F) 10 (B4 k0_t3 k a) (fun _ => True) := by
  unfold B4 k0_t4_body
  refine safe_seq (safe_for fun _ _ => safe_t5 ..) fun _ => ?_
  refine safe_load (Or.inl rfl) fun _ => ?_
  refine safe_store (Or.inl rfl) wr15 ?_
  exact safe_pure trivial

theorem safe_t8 (k0_t3 : Fin k0_t3_loop.trips) (k0_t6 : Fin k0_t6_loop.trips) (k0_t7 : Fin k0_t7_loop.trips) (k) (a) : S (F := F) 10 (B8 k0_t3 k0_t6 k0_t7 k a) (fun _ => True) := by
  unfold B8 k0_t8_body
  refine safe_load (Or.inl rfl) fun _ => ?_
  refine safe_load (Or.inl rfl) fun _ => ?_
  refine safe_store (Or.inl rfl) wr10 ?_
  exact safe_pure trivial

theorem safe_t7 (k0_t3 : Fin k0_t3_loop.trips) (k0_t6 : Fin k0_t6_loop.trips) (k) (a) : S (F := F) 10 (B7 k0_t3 k0_t6 k a) (fun _ => True) := by
  unfold B7 k0_t7_body
  refine safe_seq (safe_for fun _ _ => safe_t8 ..) fun _ => ?_
  exact safe_pure trivial

theorem safe_t9 (k0_t3 : Fin k0_t3_loop.trips) (k0_t6 : Fin k0_t6_loop.trips) (k) (a) : S (F := F) 10 (B9 k0_t3 k0_t6 k a) (fun _ => True) := by
  unfold B9 k0_t9_body
  refine safe_load (Or.inl rfl) fun _ => ?_
  refine safe_load (Or.inl rfl) fun _ => ?_
  refine safe_store (Or.inl rfl) wr12 ?_
  exact safe_pure trivial

theorem safe_t11 (k0_t3 : Fin k0_t3_loop.trips) (k0_t6 : Fin k0_t6_loop.trips) (k0_t10 : Fin k0_t10_loop.trips) (k) (a) : S (F := F) 10 (B11 k0_t3 k0_t6 k0_t10 k a) (fun _ => True) := by
  unfold B11 k0_t11_body
  refine safe_load (Or.inl rfl) fun _ => ?_
  refine safe_load (Or.inl rfl) fun _ => ?_
  refine safe_store (Or.inl rfl) wr11 ?_
  exact safe_pure trivial

theorem safe_t10 (k0_t3 : Fin k0_t3_loop.trips) (k0_t6 : Fin k0_t6_loop.trips) (k) (a) : S (F := F) 10 (B10 k0_t3 k0_t6 k a) (fun _ => True) := by
  unfold B10 k0_t10_body
  refine safe_seq (safe_for fun _ _ => safe_t11 ..) fun _ => ?_
  exact safe_pure trivial

theorem safe_t6 (k0_t3 : Fin k0_t3_loop.trips) (k) (a) : S (F := F) 10 (B6 k0_t3 k a) (fun _ => True) := by
  unfold B6 k0_t6_body
  refine safe_seq (safe_for fun _ _ => safe_t7 ..) fun _ => ?_
  refine safe_seq (safe_for fun _ _ => safe_t9 ..) fun _ => ?_
  refine safe_seq (safe_for fun _ _ => safe_t10 ..) fun _ => ?_
  refine safe_load (Or.inl rfl) fun _ => ?_
  refine safe_load (Or.inl rfl) fun _ => ?_
  refine safe_store (Or.inl rfl) wr14 ?_
  exact safe_pure trivial

theorem safe_t31  (k) (a) : S (F := F) 10 (B31  k a) (fun _ => True) := by
  unfold B31 k0_t31_body
  refine safe_load (Or.inl rfl) fun _ => ?_
  refine safe_load (Or.inl rfl) fun _ => ?_
  refine safe_store (Or.inl rfl) wr24 ?_
  exact safe_pure trivial

theorem safe_t12 (k0_t3 : Fin k0_t3_loop.trips) (arg26 : BitVec 32) (k) (a) : S (F := F) 10 (B12 k0_t3 arg26 k a) (fun _ => True) := by
  unfold B12 k0_t12_body
  refine safe_seq (safe_p1 ..) ?_
  rintro ⟨_, _⟩
  refine safe_seq (safe_for fun _ _ => safe_t31 ..) fun _ => ?_
  refine safe_load (Or.inl rfl) fun _ => ?_
  refine safe_load (Or.inl rfl) fun _ => ?_
  refine safe_store (Or.inl rfl) wr9 ?_
  exact safe_pure trivial

theorem safe_t3  (k) (a) : S (F := F) 10 (B3  k a) (fun _ => True) := by
  unfold B3 k0_t3_body
  refine safe_seq (safe_for fun _ _ => safe_t4 ..) fun _ => ?_
  refine safe_seq (safe_for fun _ _ => safe_t6 ..) fun _ => ?_
  refine safe_seq (safe_for fun _ _ => safe_t12 ..) fun _ => ?_
  exact safe_pure trivial

theorem safe_t34 (k0_t32 : Fin k0_t32_loop.trips) (k0_t33 : Fin k0_t33_loop.trips) (k) (a) : S (F := F) 10 (B34 k0_t32 k0_t33 k a) (fun _ => True) := by
  unfold B34 k0_t34_body
  refine safe_smem (Or.inr rfl) fun _ => ?_
  refine safe_smem (Or.inr rfl) fun _ => ?_
  exact safe_pure trivial

theorem safe_t33 (k0_t32 : Fin k0_t32_loop.trips) (k) (a) : S (F := F) 10 (B33 k0_t32 k a) (fun _ => True) := by
  unfold B33 k0_t33_body
  refine safe_seq (safe_for fun _ _ => safe_t34 ..) fun _ => ?_
  refine safe_load (Or.inl rfl) fun _ => ?_
  refine safe_store (Or.inl rfl) wr15 ?_
  exact safe_pure trivial

theorem safe_t37 (k0_t32 : Fin k0_t32_loop.trips) (k0_t35 : Fin k0_t35_loop.trips) (k0_t36 : Fin k0_t36_loop.trips) (k) (a) : S (F := F) 10 (B37 k0_t32 k0_t35 k0_t36 k a) (fun _ => True) := by
  unfold B37 k0_t37_body
  refine safe_load (Or.inl rfl) fun _ => ?_
  refine safe_load (Or.inl rfl) fun _ => ?_
  refine safe_store (Or.inl rfl) wr10 ?_
  exact safe_pure trivial

theorem safe_t36 (k0_t32 : Fin k0_t32_loop.trips) (k0_t35 : Fin k0_t35_loop.trips) (k) (a) : S (F := F) 10 (B36 k0_t32 k0_t35 k a) (fun _ => True) := by
  unfold B36 k0_t36_body
  refine safe_seq (safe_for fun _ _ => safe_t37 ..) fun _ => ?_
  exact safe_pure trivial

theorem safe_t38 (k0_t32 : Fin k0_t32_loop.trips) (k0_t35 : Fin k0_t35_loop.trips) (k) (a) : S (F := F) 10 (B38 k0_t32 k0_t35 k a) (fun _ => True) := by
  unfold B38 k0_t38_body
  refine safe_load (Or.inl rfl) fun _ => ?_
  refine safe_load (Or.inl rfl) fun _ => ?_
  refine safe_store (Or.inl rfl) wr12 ?_
  exact safe_pure trivial

theorem safe_t40 (k0_t32 : Fin k0_t32_loop.trips) (k0_t35 : Fin k0_t35_loop.trips) (k0_t39 : Fin k0_t39_loop.trips) (k) (a) : S (F := F) 10 (B40 k0_t32 k0_t35 k0_t39 k a) (fun _ => True) := by
  unfold B40 k0_t40_body
  refine safe_load (Or.inl rfl) fun _ => ?_
  refine safe_load (Or.inl rfl) fun _ => ?_
  refine safe_store (Or.inl rfl) wr11 ?_
  exact safe_pure trivial

theorem safe_t39 (k0_t32 : Fin k0_t32_loop.trips) (k0_t35 : Fin k0_t35_loop.trips) (k) (a) : S (F := F) 10 (B39 k0_t32 k0_t35 k a) (fun _ => True) := by
  unfold B39 k0_t39_body
  refine safe_seq (safe_for fun _ _ => safe_t40 ..) fun _ => ?_
  exact safe_pure trivial

theorem safe_t35 (k0_t32 : Fin k0_t32_loop.trips) (k) (a) : S (F := F) 10 (B35 k0_t32 k a) (fun _ => True) := by
  unfold B35 k0_t35_body
  refine safe_seq (safe_for fun _ _ => safe_t36 ..) fun _ => ?_
  refine safe_seq (safe_for fun _ _ => safe_t38 ..) fun _ => ?_
  refine safe_seq (safe_for fun _ _ => safe_t39 ..) fun _ => ?_
  refine safe_load (Or.inl rfl) fun _ => ?_
  refine safe_load (Or.inl rfl) fun _ => ?_
  refine safe_store (Or.inl rfl) wr14 ?_
  exact safe_pure trivial

theorem safe_t58  (k) (a) : S (F := F) 10 (B58  k a) (fun _ => True) := by
  unfold B58 k0_t58_body
  refine safe_load (Or.inl rfl) fun _ => ?_
  refine safe_load (Or.inl rfl) fun _ => ?_
  refine safe_store (Or.inl rfl) wr24 ?_
  exact safe_pure trivial

theorem safe_t41 (v12 : BitVec 1) (k0_h1 : k0_cond1 v12 = 1#1) (k0_t32 : Fin k0_t32_loop.trips) (arg26 : BitVec 32) (k) (a) : S (F := F) 10 (B41 v12 k0_h1 k0_t32 arg26 k a) (fun _ => True) := by
  unfold B41 k0_t41_body
  refine safe_seq (safe_p8 ..) ?_
  rintro ⟨_, _⟩
  refine safe_seq (safe_for fun _ _ => safe_t58 ..) fun _ => ?_
  refine safe_load (Or.inl rfl) fun _ => ?_
  refine safe_load (Or.inl rfl) fun _ => ?_
  refine safe_store (Or.inl rfl) wr9 ?_
  exact safe_pure trivial

theorem safe_t32 (v12 : BitVec 1) (k0_h1 : k0_cond1 v12 = 1#1) (k) (a) : S (F := F) 10 (B32 v12 k0_h1 k a) (fun _ => True) := by
  unfold B32 k0_t32_body
  refine safe_seq (safe_for fun _ _ => safe_t33 ..) fun _ => ?_
  refine safe_seq (safe_for fun _ _ => safe_t35 ..) fun _ => ?_
  refine safe_seq (safe_for fun _ _ => safe_t41 ..) fun _ => ?_
  exact safe_pure trivial

theorem safe_body : S (F := F) 10 Body (fun _ => True) := by
  unfold Body; rw [cc0_stick_breaking_eq_skeleton]; unfold cc0_stick_breaking_skel
  refine safe_load (Or.inl rfl) fun _ => safe_store (Or.inl rfl) wr23 ?_
  refine safe_seq (safe_for fun _ _ => safe_t1 ..) fun _ => ?_
  refine safe_seq (safe_for fun _ _ => safe_t3 ..) fun _ => ?_
  refine safe_load (Or.inl rfl) fun _ => ?_
  refine safe_dite (fun _ => ?_) fun _ => safe_pure trivial
  exact safe_seq (safe_for fun _ _ => safe_t32 ..) fun _ => safe_pure trivial

end Cert.Kernel.Hand

end
-- ==== Proof.Own.lean ====
/-
  Ownership of a list of buffers at contents `σ`: it gives out any of them (`ownL_gives`), and buffers owned at some
  contents are owned at the contents of one `σ` (`ownX_pick`).
-/
module

public import proofs.«01_k».proof.Proof.Seq

@[expose] public section

noncomputable section

namespace Cert.Seq

open Idealize.ShloMosaic Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Val : EltTy → Type} {c : Thread nD τ}
variable {Ix : Type} [DecidableEq Ix] {Name : Type} [DecidableEq Name] {U : Type} [URA U] {Lvl : Type} [Preorder Lvl]
local notation "𝕄" => MT nD τ sig Ix Val Name U Lvl

/-- The buffers of `L` at the contents `σ`. -/
def ownL : List (Ref sig c.2.kind) → St (sig := sig) Val c → sProp 𝕄
  | [], _ => iprop(emp)
  | b :: bs, σ => iprop((c.loc b ↦{fullShare} σ b) ∗ ownL bs σ)

/-- The buffers of `L` at some contents. -/
def ownX : List (Ref sig c.2.kind) → sProp 𝕄
  | [] => iprop(emp)
  | b :: bs => iprop((∃ d : Buf Val (c.loc b), (c.loc b ↦{fullShare} d)) ∗ ownX bs)

theorem ownL_cons (b : Ref sig c.2.kind) (bs) (σ : St (sig := sig) Val c) :
    (ownL (b :: bs) σ : sProp 𝕄) = iprop((c.loc b ↦{fullShare} σ b) ∗ ownL bs σ) := rfl

theorem ownX_cons (b : Ref sig c.2.kind) (bs) :
    (ownX (Val := Val) (b :: bs) : sProp 𝕄) = iprop((∃ d : Buf Val (c.loc b), (c.loc b ↦{fullShare} d)) ∗ ownX bs) := rfl

theorem ownL_congr (L : List (Ref sig c.2.kind)) {σ σ' : St (sig := sig) Val c} (h : ∀ b ∈ L, σ b = σ' b) :
    (ownL L σ : sProp 𝕄) = ownL L σ' := by
  induction L with
  | nil => rfl
  | cons b bs ih =>
    unfold ownL
    rw [h b (List.mem_cons_self ..), ih fun b' hb => h b' (List.mem_cons_of_mem _ hb)]

theorem ownL_congr_ent (L : List (Ref sig c.2.kind)) {σ σ' : St (sig := sig) Val c} (h : ∀ b ∈ L, σ b = σ' b) :
    (ownL L σ : sProp 𝕄) ⊢ ownL L σ' := by
  rw [ownL_congr L h]

theorem ownL_update_not_mem (L : List (Ref sig c.2.kind)) {σ : St (sig := sig) Val c} {b} (f : Buf Val (c.loc b)) (h : b ∉ L) :
    (ownL L (Function.update σ b f) : sProp 𝕄) = ownL L σ :=
  ownL_congr L fun b' hb' => Function.update_of_ne (fun e => h (by rw [← e]; exact hb')) _ _

theorem ownL_gives (L : List (Ref sig c.2.kind)) (hL : L.Nodup) (b : Ref sig c.2.kind) (hb : b ∈ L) (σ : St (sig := sig) Val c) :
    (ownL L σ : sProp 𝕄) ⊢ iprop((c.loc b ↦{fullShare} σ b) ∗ ∀ f, (c.loc b ↦{fullShare} f) -∗ ownL L (Function.update σ b f)) := by
  induction L with
  | nil => cases hb
  | cons a l ih =>
    rw [List.nodup_cons] at hL
    by_cases e : b = a
    · subst e
      simp only [ownL_cons]
      iintro ⟨H, Hs⟩
      isplitl [H]; · iexact H
      iintro %f H
      rw [ownL_update_not_mem l f hL.1, Function.update_self]
      isplitl [H]; · iexact H
      iexact Hs
    · have hb' : b ∈ l := (List.mem_cons.mp hb).resolve_left e
      simp only [ownL_cons]
      iintro ⟨H, Hs⟩
      ihave ⟨Hb, Hk⟩ := (ih hL.2 hb') $$ Hs
      isplitl [Hb]; · iexact Hb
      iintro %f Hf
      ihave Hs := Hk $$ %f Hf
      rw [Function.update_of_ne (fun h => e h.symm)]
      isplitl [H]; · iexact H
      iexact Hs

theorem ownX_pick (L : List (Ref sig c.2.kind)) (hL : L.Nodup) (σ₀ : St (sig := sig) Val c) :
    (ownX L : sProp 𝕄) ⊢ iprop(∃ σ : St (sig := sig) Val c, ⌜∀ b, b ∉ L → σ b = σ₀ b⌝ ∗ ownL L σ) := by
  induction L with
  | nil =>
    unfold ownX ownL
    iintro H
    iexists σ₀
    isplitr
    · ipureintro; exact fun _ _ => rfl
    · iexact H
  | cons a l ih =>
    rw [List.nodup_cons] at hL
    rw [ownX_cons]
    iintro ⟨⟨%d, H⟩, Hs⟩
    ihave ⟨%σ, %hσ, Hs⟩ := (ih hL.2) $$ Hs
    iexists (Function.update σ a d)
    isplitr
    · ipureintro
      intro b hb
      rw [Function.update_of_ne (fun e => hb (by rw [e]; exact List.mem_cons_self ..))]
      exact hσ b fun h => hb (List.mem_cons_of_mem _ h)
    · rw [ownL_cons, ownL_update_not_mem l d hL.1, Function.update_self]
      isplitl [H]; · iexact H
      iexact Hs

theorem ownL_append (L L' : List (Ref sig c.2.kind)) (σ : St (sig := sig) Val c) :
    iprop(ownL L σ ∗ ownL L' σ) ⊢ (ownL (L ++ L') σ : sProp 𝕄) := by
  induction L with
  | nil => unfold ownL; iintro ⟨-, H⟩; iexact H
  | cons b bs ih =>
    rw [List.cons_append, ownL_cons, ownL_cons]
    iintro ⟨⟨H, Hs⟩, H'⟩
    isplitl [H]; · iexact H
    iapply ih
    isplitl [Hs]; · iexact Hs
    iexact H'

theorem ownL_unappend (L L' : List (Ref sig c.2.kind)) (σ : St (sig := sig) Val c) :
    (ownL (L ++ L') σ : sProp 𝕄) ⊢ iprop(ownL L σ ∗ ownL L' σ) := by
  induction L with
  | nil =>
    unfold ownL
    iintro H
    isplitr
    · iempintro
    · iexact H
  | cons b bs ih =>
    rw [List.cons_append, ownL_cons, ownL_cons]
    iintro ⟨H, Hs⟩
    ihave ⟨Hs, H'⟩ := ih $$ Hs
    isplitl [H Hs]
    · isplitl [H]; · iexact H
      iexact Hs
    · iexact H'

end Cert.Seq

end
-- ==== Proof.LaunchKernel.lean ====
/-
  The launch: the kernel body, proved on its buffers, gives the run of the program; the frame is read off it.
-/
module

public import proofs.«01_k».proof.Proof.Gen.Kernel.Launch
public import proofs.«01_k».proof.Proof.SafeKernel
public import proofs.«01_k».proof.Proof.Own
public import Idealize.ShloMosaic.Lib.Pipeline.FrameBody
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Seq

variable {F : FTy → Type} [BitOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_region (cfgs (F := F)) 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ (cfg0 (F := F)) c) (hA : dat.A 7 = V m c (Pipeline.arrRef spec0 7))
    (hafter : ∀ t, dat.after 7 t = iblk m c 7 t) (t : Fin (cfg0 (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ ((cfgs (F := F)) 0) c)
    (hA : ∀ c w, (rdat c).A w = V m c (Pipeline.arrRef spec0 w))
    (h : θ_run defs (onTc (τ := τ) (main (F := F))) (s₀ m ρ) (Pipeline.RDat.FramePost ((cfgs (F := F)) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 4 rfl).trans ((hA c 4).trans (V_main_arg0 m c)),
      (Pipeline.RDat.FramePost.arr_in h c 1 rfl).trans ((hA c 1).trans (V_main_arg1 m c)),
      (Pipeline.RDat.FramePost.arr_in h c 5 rfl).trans ((hA c 5).trans (V_main_arg2 m c)),
      (Pipeline.RDat.FramePost.arr_in h c 2 rfl).trans ((hA c 2).trans (V_main_arg3 m c)),
      (Pipeline.RDat.FramePost.arr_in h c 6 rfl).trans ((hA c 6).trans (V_main_arg4 m c)),
      (Pipeline.RDat.FramePost.arr_in h c 3 rfl).trans ((hA c 3).trans (V_main_arg5 m c)),
      (Pipeline.RDat.FramePost.arr_in h c 7 rfl).trans ((hA c 7).trans (V_main_arg6 m c))⟩) h

abbrev ms0_0 (t : Fin (cfg0 (F := F)).N) : Memref sig .tc .smem S3x640 .i32 := win0_0.stage ((cfg0 (F := F)).slots t 0)
abbrev ms0_1 (t : Fin (cfg0 (F := F)).N) : Memref sig .tc .smem S3x24 .f32 := win0_1.stage ((cfg0 (F := F)).slots t 1)
abbrev ms0_2 (t : Fin (cfg0 (F := F)).N) : Memref sig .tc .smem S3x8 .f32 := win0_2.stage ((cfg0 (F := F)).slots t 2)
abbrev ms0_3 (t : Fin (cfg0 (F := F)).N) : Memref sig .tc .smem S3x8 .f32 := win0_3.stage ((cfg0 (F := F)).slots t 3)
abbrev ms0_4 (t : Fin (cfg0 (F := F)).N) : Memref sig .tc .vmem S3x640x24x128 .fp8e4m3 := win0_4.stage ((cfg0 (F := F)).slots t 4)
abbrev ms0_5 (t : Fin (cfg0 (F := F)).N) : Memref sig .tc .vmem S3x640x8x128 .fp8e4m3 := win0_5.stage ((cfg0 (F := F)).slots t 5)
abbrev ms0_6 (t : Fin (cfg0 (F := F)).N) : Memref sig .tc .vmem S3x640x8x128 .fp8e4m3 := win0_6.stage ((cfg0 (F := F)).slots t 6)
abbrev ms0_7 (t : Fin (cfg0 (F := F)).N) : Memref sig .tc .vmem S3x640 .i32 := win0_7.stage ((cfg0 (F := F)).slots t 7)
abbrev ms0_8 (t : Fin (cfg0 (F := F)).N) : Memref sig .tc .vmem S3x640x3072 .bf16 := win0_8.stage ((cfg0 (F := F)).slots t 8)
abbrev ms0_9 (t : Fin (cfg0 (F := F)).N) : Memref sig .tc .vmem S3x24x640 .f32 := win0_9.stage ((cfg0 (F := F)).slots t 9)

/-- The invariant's scratch buffers, owned at some contents. -/
theorem PhiA0_eq (c : Dev nD) :
    (Pipeline.ΦA (spec0) c : sProp 𝕄) = iprop(iprop((∃ d, owns (c : Thread nD τ) (M10) fullShare d) ∗ (∃ d, owns (c : Thread nD τ) (M11) fullShare d) ∗ (∃ d, owns (c : Thread nD τ) (M12) fullShare d) ∗ (∃ d, owns (c : Thread nD τ) (M13) fullShare d) ∗ (∃ d, owns (c : Thread nD τ) (M14) fullShare d) ∗ (∃ d, owns (c : Thread nD τ) (M15) fullShare d) ∗ (∃ d, owns (c : Thread nD τ) (M16) fullShare d) ∗ (∃ d, owns (c : Thread nD τ) (M17) fullShare d) ∗ (∃ d, owns (c : Thread nD τ) (M18) fullShare d) ∗ (∃ d, owns (c : Thread nD τ) (M19) fullShare d) ∗ (∃ d, owns (c : Thread nD τ) (M20) fullShare d) ∗ (∃ d, owns (c : Thread nD τ) (M21) fullShare d) ∗ (∃ d, owns (c : Thread nD τ) (M22) fullShare d) ∗ (∃ d, owns (c : Thread nD τ) (M23) fullShare d) ∗ (∃ d, owns (c : Thread nD τ) (M24) fullShare d) ∗ (∃ d, owns (c : Thread nD τ) (M25) fullShare d)) ∗ (∃ r, prngReg c r)) := by
  unfold Pipeline.ΦA; rw [scopedRest0_eq]; simp only [M10, M11, M12, M13, M14, M15, M16, M17, M18, M19, M20, M21, M22, M23, M24, M25, owns_whole]; try rfl

/-- The output windows: the frame says nothing of what is left in them. -/
def forgets0 : Fin 10 → Bool := fun w => w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := (cfg0 (F := F))) ⟨8, h⟩ t
    | ⟨9, h⟩ => Pipeline.Dat.unnamed (cfg := (cfg0 (F := F))) ⟨9, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after 0 t = iblk m c 0 t := by first | (dsimp only [dats]; done) | rfl
theorem after0_1 (c : Dev nD) (t : Fin (cfg0 (F := F)).N) : (dats m 0 c).after 1 t = iblk m c 1 t := by first | (dsimp only [dats]; done) | rfl
theorem after0_2 (c : Dev nD) (t : Fin (cfg0 (F := F)).N) : (dats m 0 c).after 2 t = iblk m c 2 t := by first | (dsimp only [dats]; done) | rfl
theorem after0_3 (c : Dev nD) (t : Fin (cfg0 (F := F)).N) : (dats m 0 c).after 3 t = iblk m c 3 t := by first | (dsimp only [dats]; done) | rfl
theorem after0_4 (c : Dev nD) (t : Fin (cfg0 (F := F)).N) : (dats m 0 c).after 4 t = iblk m c 4 t := by first | (dsimp only [dats]; done) | rfl
theorem after0_5 (c : Dev nD) (t : Fin (cfg0 (F := F)).N) : (dats m 0 c).after 5 t = iblk m c 5 t := by first | (dsimp only [dats]; done) | rfl
theorem after0_6 (c : Dev nD) (t : Fin (cfg0 (F := F)).N) : (dats m 0 c).after 6 t = iblk m c 6 t := by first | (dsimp only [dats]; done) | rfl
theorem after0_7 (c : Dev nD) (t : Fin (cfg0 (F := F)).N) : (dats m 0 c).after 7 t = iblk m c 7 t := by first | (dsimp only [dats]; done) | rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d
theorem before0_5 (c : Dev nD) (t : Fin (cfg0 (F := F)).N) (d) : (dats m 0 c).before 5 t d = iblk m c 5 t :=
  before0_5_of m (dats m 0 c) (A_eq m c 5) (after0_5 m c) t d
theorem before0_6 (c : Dev nD) (t : Fin (cfg0 (F := F)).N) (d) : (dats m 0 c).before 6 t d = iblk m c 6 t :=
  before0_6_of m (dats m 0 c) (A_eq m c 6) (after0_6 m c) t d
theorem before0_7 (c : Dev nD) (t : Fin (cfg0 (F := F)).N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d))

/-! ## The body on its buffers -/

/-- The buffers the body writes. -/
def Lw : List (Ref sig .tc) := [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15, cc0_stg8_0, cc0_stg9_0]
/-- The staged inputs. -/
def Lr : List (Ref sig .tc) := [cc0_stg0_0, cc0_stg1_0, cc0_stg2_0, cc0_stg3_0, cc0_stg4_0, cc0_stg5_0, cc0_stg6_0, cc0_stg7_0]

theorem Lw_nodup : Lw.Nodup := by decide +kernel
theorem L_nodup : (Lw ++ Lr).Nodup := by decide +kernel
theorem mem_L (b : Ref sig .tc) (h : InCore b) : b ∈ Lw ++ Lr := by
  obtain ⟨sp, i, hn⟩ := b
  rcases h with h | h <;> (dsimp only at h; subst h; revert i; decide +kernel)
theorem Lr_not_Lw : ∀ b ∈ Lr, b ∉ Lw := by decide +kernel
theorem Lr_not_Wr (b : Ref sig .tc) (hb : b ∈ Lr) : ¬ Wr b := by
  simp only [Lr, List.mem_cons, List.not_mem_nil, or_false] at hb
  unfold Wr
  tauto

/-- All of the core's buffers, owned. -/
abbrev own (c : Dev nD) (σ : St (sig := sig) (Elt F) (c : Thread nD τ)) : sProp 𝕄 := ownL (c := (c : Thread nD τ)) (Lw ++ Lr) σ

theorem own_gives (c : Dev nD) : Gives (Val := Elt F) (own (F := F) c) := fun b σ h => ownL_gives _ L_nodup b (mem_L b h) σ

/-- The calls, for a state-independent statement. -/
def callsS (c : Dev nD) : Calls (sig := sig) (Elt F) (Λ₀ F) (c : Thread nD τ) where
  pre ℓ a _ := preS (F := F) ℓ a
  post ℓ a _ r := postS (F := F) ℓ a r
  rank ℓ a := rankS (F := F) ℓ a

theorem safe_defs (ℓ : (Λ₀ F).Label) (a : (Λ₀ F).Args ℓ) (h : preS (F := F) ℓ a) :
    safe (Val := Elt F) (fun _ => False) preS postS rankS (rankS (F := F) ℓ a) (defs₀ (F := F) .tc ℓ a) (postS (F := F) ℓ a) :=
  match ℓ, a, h with
  | 0, _, h => h.elim
  | 1, a, h => while1_safe a h
  | 2, a, h => while2_safe a h

theorem hdefsS (c : Dev nD) (ℓ : (Λ₀ F).Label) (a : (Λ₀ F).Args ℓ) (σ : St (sig := sig) (Elt F) (c : Thread nD τ))
    (h : (callsS c).pre ℓ a σ) :
    pwp (callsS (F := F) c) ((callsS (F := F) c).rank ℓ a) (defs₀ (F := F) (c : Thread nD τ).2 ℓ a)
      (fun r s => s = σ ∧ (callsS (F := F) c).post ℓ a σ r) σ :=
  pwp_mono (fun r s hs => ⟨funext fun b => hs.2 b (fun h => h), hs.1⟩)
    (safe_pwp (C := callsS (F := F) c) (fun _ _ _ h => h) (fun _ _ _ _ h => h) (fun _ _ => rfl) (safe_defs ℓ a h) σ)

/-- The buffers' contents with the staged inputs at the given ones. -/
def σin (c : Dev nD) (d0 : Buf (Elt F) ((c : Thread nD τ).loc cc0_stg0_0)) (d1 : Buf (Elt F) ((c : Thread nD τ).loc cc0_stg1_0)) (d2 : Buf (Elt F) ((c : Thread nD τ).loc cc0_stg2_0)) (d3 : Buf (Elt F) ((c : Thread nD τ).loc cc0_stg3_0)) (d4 : Buf (Elt F) ((c : Thread nD τ).loc cc0_stg4_0)) (d5 : Buf (Elt F) ((c : Thread nD τ).loc cc0_stg5_0)) (d6 : Buf (Elt F) ((c : Thread nD τ).loc cc0_stg6_0)) (d7 : Buf (Elt F) ((c : Thread nD τ).loc cc0_stg7_0)) : St (sig := sig) (Elt F) (c : Thread nD τ) :=
  (Function.update (Function.update (Function.update (Function.update (Function.update (Function.update (Function.update (Function.update (fun b => m ((c : Thread nD τ).loc b)) cc0_stg0_0 d0) cc0_stg1_0 d1) cc0_stg2_0 d2) cc0_stg3_0 d3) cc0_stg4_0 d4) cc0_stg5_0 d5) cc0_stg6_0 d6) cc0_stg7_0 d7)

theorem ne_0_1 : (cc0_stg0_0 : Ref sig .tc) ≠ cc0_stg1_0 := by decide +kernel
theorem ne_0_2 : (cc0_stg0_0 : Ref sig .tc) ≠ cc0_stg2_0 := by decide +kernel
theorem ne_0_3 : (cc0_stg0_0 : Ref sig .tc) ≠ cc0_stg3_0 := by decide +kernel
theorem ne_0_4 : (cc0_stg0_0 : Ref sig .tc) ≠ cc0_stg4_0 := by decide +kernel
theorem ne_0_5 : (cc0_stg0_0 : Ref sig .tc) ≠ cc0_stg5_0 := by decide +kernel
theorem ne_0_6 : (cc0_stg0_0 : Ref sig .tc) ≠ cc0_stg6_0 := by decide +kernel
theorem ne_0_7 : (cc0_stg0_0 : Ref sig .tc) ≠ cc0_stg7_0 := by decide +kernel
theorem ne_1_2 : (cc0_stg1_0 : Ref sig .tc) ≠ cc0_stg2_0 := by decide +kernel
theorem ne_1_3 : (cc0_stg1_0 : Ref sig .tc) ≠ cc0_stg3_0 := by decide +kernel
theorem ne_1_4 : (cc0_stg1_0 : Ref sig .tc) ≠ cc0_stg4_0 := by decide +kernel
theorem ne_1_5 : (cc0_stg1_0 : Ref sig .tc) ≠ cc0_stg5_0 := by decide +kernel
theorem ne_1_6 : (cc0_stg1_0 : Ref sig .tc) ≠ cc0_stg6_0 := by decide +kernel
theorem ne_1_7 : (cc0_stg1_0 : Ref sig .tc) ≠ cc0_stg7_0 := by decide +kernel
theorem ne_2_3 : (cc0_stg2_0 : Ref sig .tc) ≠ cc0_stg3_0 := by decide +kernel
theorem ne_2_4 : (cc0_stg2_0 : Ref sig .tc) ≠ cc0_stg4_0 := by decide +kernel
theorem ne_2_5 : (cc0_stg2_0 : Ref sig .tc) ≠ cc0_stg5_0 := by decide +kernel
theorem ne_2_6 : (cc0_stg2_0 : Ref sig .tc) ≠ cc0_stg6_0 := by decide +kernel
theorem ne_2_7 : (cc0_stg2_0 : Ref sig .tc) ≠ cc0_stg7_0 := by decide +kernel
theorem ne_3_4 : (cc0_stg3_0 : Ref sig .tc) ≠ cc0_stg4_0 := by decide +kernel
theorem ne_3_5 : (cc0_stg3_0 : Ref sig .tc) ≠ cc0_stg5_0 := by decide +kernel
theorem ne_3_6 : (cc0_stg3_0 : Ref sig .tc) ≠ cc0_stg6_0 := by decide +kernel
theorem ne_3_7 : (cc0_stg3_0 : Ref sig .tc) ≠ cc0_stg7_0 := by decide +kernel
theorem ne_4_5 : (cc0_stg4_0 : Ref sig .tc) ≠ cc0_stg5_0 := by decide +kernel
theorem ne_4_6 : (cc0_stg4_0 : Ref sig .tc) ≠ cc0_stg6_0 := by decide +kernel
theorem ne_4_7 : (cc0_stg4_0 : Ref sig .tc) ≠ cc0_stg7_0 := by decide +kernel
theorem ne_5_6 : (cc0_stg5_0 : Ref sig .tc) ≠ cc0_stg6_0 := by decide +kernel
theorem ne_5_7 : (cc0_stg5_0 : Ref sig .tc) ≠ cc0_stg7_0 := by decide +kernel
theorem ne_6_7 : (cc0_stg6_0 : Ref sig .tc) ≠ cc0_stg7_0 := by decide +kernel
theorem σin_0 (c : Dev nD) (d0 : Buf (Elt F) ((c : Thread nD τ).loc cc0_stg0_0)) (d1 : Buf (Elt F) ((c : Thread nD τ).loc cc0_stg1_0)) (d2 : Buf (Elt F) ((c : Thread nD τ).loc cc0_stg2_0)) (d3 : Buf (Elt F) ((c : Thread nD τ).loc cc0_stg3_0)) (d4 : Buf (Elt F) ((c : Thread nD τ).loc cc0_stg4_0)) (d5 : Buf (Elt F) ((c : Thread nD τ).loc cc0_stg5_0)) (d6 : Buf (Elt F) ((c : Thread nD τ).loc cc0_stg6_0)) (d7 : Buf (Elt F) ((c : Thread nD τ).loc cc0_stg7_0)) : σin m c d0 d1 d2 d3 d4 d5 d6 d7 cc0_stg0_0 = d0 := by
  unfold σin
  rw [Function.update_of_ne ne_0_7, Function.update_of_ne ne_0_6, Function.update_of_ne ne_0_5, Function.update_of_ne ne_0_4, Function.update_of_ne ne_0_3, Function.update_of_ne ne_0_2, Function.update_of_ne ne_0_1, Function.update_self]
theorem σin_1 (c : Dev nD) (d0 : Buf (Elt F) ((c : Thread nD τ).loc cc0_stg0_0)) (d1 : Buf (Elt F) ((c : Thread nD τ).loc cc0_stg1_0)) (d2 : Buf (Elt F) ((c : Thread nD τ).loc cc0_stg2_0)) (d3 : Buf (Elt F) ((c : Thread nD τ).loc cc0_stg3_0)) (d4 : Buf (Elt F) ((c : Thread nD τ).loc cc0_stg4_0)) (d5 : Buf (Elt F) ((c : Thread nD τ).loc cc0_stg5_0)) (d6 : Buf (Elt F) ((c : Thread nD τ).loc cc0_stg6_0)) (d7 : Buf (Elt F) ((c : Thread nD τ).loc cc0_stg7_0)) : σin m c d0 d1 d2 d3 d4 d5 d6 d7 cc0_stg1_0 = d1 := by
  unfold σin
  rw [Function.update_of_ne ne_1_7, Function.update_of_ne ne_1_6, Function.update_of_ne ne_1_5, Function.update_of_ne ne_1_4, Function.update_of_ne ne_1_3, Function.update_of_ne ne_1_2, Function.update_self]
theorem σin_2 (c : Dev nD) (d0 : Buf (Elt F) ((c : Thread nD τ).loc cc0_stg0_0)) (d1 : Buf (Elt F) ((c : Thread nD τ).loc cc0_stg1_0)) (d2 : Buf (Elt F) ((c : Thread nD τ).loc cc0_stg2_0)) (d3 : Buf (Elt F) ((c : Thread nD τ).loc cc0_stg3_0)) (d4 : Buf (Elt F) ((c : Thread nD τ).loc cc0_stg4_0)) (d5 : Buf (Elt F) ((c : Thread nD τ).loc cc0_stg5_0)) (d6 : Buf (Elt F) ((c : Thread nD τ).loc cc0_stg6_0)) (d7 : Buf (Elt F) ((c : Thread nD τ).loc cc0_stg7_0)) : σin m c d0 d1 d2 d3 d4 d5 d6 d7 cc0_stg2_0 = d2 := by
  unfold σin
  rw [Function.update_of_ne ne_2_7, Function.update_of_ne ne_2_6, Function.update_of_ne ne_2_5, Function.update_of_ne ne_2_4, Function.update_of_ne ne_2_3, Function.update_self]
theorem σin_3 (c : Dev nD) (d0 : Buf (Elt F) ((c : Thread nD τ).loc cc0_stg0_0)) (d1 : Buf (Elt F) ((c : Thread nD τ).loc cc0_stg1_0)) (d2 : Buf (Elt F) ((c : Thread nD τ).loc cc0_stg2_0)) (d3 : Buf (Elt F) ((c : Thread nD τ).loc cc0_stg3_0)) (d4 : Buf (Elt F) ((c : Thread nD τ).loc cc0_stg4_0)) (d5 : Buf (Elt F) ((c : Thread nD τ).loc cc0_stg5_0)) (d6 : Buf (Elt F) ((c : Thread nD τ).loc cc0_stg6_0)) (d7 : Buf (Elt F) ((c : Thread nD τ).loc cc0_stg7_0)) : σin m c d0 d1 d2 d3 d4 d5 d6 d7 cc0_stg3_0 = d3 := by
  unfold σin
  rw [Function.update_of_ne ne_3_7, Function.update_of_ne ne_3_6, Function.update_of_ne ne_3_5, Function.update_of_ne ne_3_4, Function.update_self]
theorem σin_4 (c : Dev nD) (d0 : Buf (Elt F) ((c : Thread nD τ).loc cc0_stg0_0)) (d1 : Buf (Elt F) ((c : Thread nD τ).loc cc0_stg1_0)) (d2 : Buf (Elt F) ((c : Thread nD τ).loc cc0_stg2_0)) (d3 : Buf (Elt F) ((c : Thread nD τ).loc cc0_stg3_0)) (d4 : Buf (Elt F) ((c : Thread nD τ).loc cc0_stg4_0)) (d5 : Buf (Elt F) ((c : Thread nD τ).loc cc0_stg5_0)) (d6 : Buf (Elt F) ((c : Thread nD τ).loc cc0_stg6_0)) (d7 : Buf (Elt F) ((c : Thread nD τ).loc cc0_stg7_0)) : σin m c d0 d1 d2 d3 d4 d5 d6 d7 cc0_stg4_0 = d4 := by
  unfold σin
  rw [Function.update_of_ne ne_4_7, Function.update_of_ne ne_4_6, Function.update_of_ne ne_4_5, Function.update_self]
theorem σin_5 (c : Dev nD) (d0 : Buf (Elt F) ((c : Thread nD τ).loc cc0_stg0_0)) (d1 : Buf (Elt F) ((c : Thread nD τ).loc cc0_stg1_0)) (d2 : Buf (Elt F) ((c : Thread nD τ).loc cc0_stg2_0)) (d3 : Buf (Elt F) ((c : Thread nD τ).loc cc0_stg3_0)) (d4 : Buf (Elt F) ((c : Thread nD τ).loc cc0_stg4_0)) (d5 : Buf (Elt F) ((c : Thread nD τ).loc cc0_stg5_0)) (d6 : Buf (Elt F) ((c : Thread nD τ).loc cc0_stg6_0)) (d7 : Buf (Elt F) ((c : Thread nD τ).loc cc0_stg7_0)) : σin m c d0 d1 d2 d3 d4 d5 d6 d7 cc0_stg5_0 = d5 := by
  unfold σin
  rw [Function.update_of_ne ne_5_7, Function.update_of_ne ne_5_6, Function.update_self]
theorem σin_6 (c : Dev nD) (d0 : Buf (Elt F) ((c : Thread nD τ).loc cc0_stg0_0)) (d1 : Buf (Elt F) ((c : Thread nD τ).loc cc0_stg1_0)) (d2 : Buf (Elt F) ((c : Thread nD τ).loc cc0_stg2_0)) (d3 : Buf (Elt F) ((c : Thread nD τ).loc cc0_stg3_0)) (d4 : Buf (Elt F) ((c : Thread nD τ).loc cc0_stg4_0)) (d5 : Buf (Elt F) ((c : Thread nD τ).loc cc0_stg5_0)) (d6 : Buf (Elt F) ((c : Thread nD τ).loc cc0_stg6_0)) (d7 : Buf (Elt F) ((c : Thread nD τ).loc cc0_stg7_0)) : σin m c d0 d1 d2 d3 d4 d5 d6 d7 cc0_stg6_0 = d6 := by
  unfold σin
  rw [Function.update_of_ne ne_6_7, Function.update_self]
theorem σin_7 (c : Dev nD) (d0 : Buf (Elt F) ((c : Thread nD τ).loc cc0_stg0_0)) (d1 : Buf (Elt F) ((c : Thread nD τ).loc cc0_stg1_0)) (d2 : Buf (Elt F) ((c : Thread nD τ).loc cc0_stg2_0)) (d3 : Buf (Elt F) ((c : Thread nD τ).loc cc0_stg3_0)) (d4 : Buf (Elt F) ((c : Thread nD τ).loc cc0_stg4_0)) (d5 : Buf (Elt F) ((c : Thread nD τ).loc cc0_stg5_0)) (d6 : Buf (Elt F) ((c : Thread nD τ).loc cc0_stg6_0)) (d7 : Buf (Elt F) ((c : Thread nD τ).loc cc0_stg7_0)) : σin m c d0 d1 d2 d3 d4 d5 d6 d7 cc0_stg7_0 = d7 := by
  unfold σin
  rw [Function.update_self]

/-- The contents the body starts from, up to what the written buffers hold. -/
abbrev σ₀ (c : Dev nD) (t : Fin (cfg0 (F := F)).N) : St (sig := sig) (Elt F) (c : Thread nD τ) := σin m c (iblk m c 0 t) (iblk m c 1 t) (iblk m c 2 t) (iblk m c 3 t) (iblk m c 4 t) (iblk m c 5 t) (iblk m c 6 t) (iblk m c 7 t)

theorem ow0 (c : Dev nD) (f : Buf (Elt F) ((c : Thread nD τ).loc cc0_stg0_0)) : (owns (c : Thread nD τ) (M0) fullShare f : sProp 𝕄) = ((c : Thread nD τ).loc cc0_stg0_0 ↦{fullShare} f) := owns_whole (c : Thread nD τ) cc0_stg0_0 fullShare f
theorem ow1 (c : Dev nD) (f : Buf (Elt F) ((c : Thread nD τ).loc cc0_stg1_0)) : (owns (c : Thread nD τ) (M1) fullShare f : sProp 𝕄) = ((c : Thread nD τ).loc cc0_stg1_0 ↦{fullShare} f) := owns_whole (c : Thread nD τ) cc0_stg1_0 fullShare f
theorem ow2 (c : Dev nD) (f : Buf (Elt F) ((c : Thread nD τ).loc cc0_stg2_0)) : (owns (c : Thread nD τ) (M2) fullShare f : sProp 𝕄) = ((c : Thread nD τ).loc cc0_stg2_0 ↦{fullShare} f) := owns_whole (c : Thread nD τ) cc0_stg2_0 fullShare f
theorem ow3 (c : Dev nD) (f : Buf (Elt F) ((c : Thread nD τ).loc cc0_stg3_0)) : (owns (c : Thread nD τ) (M3) fullShare f : sProp 𝕄) = ((c : Thread nD τ).loc cc0_stg3_0 ↦{fullShare} f) := owns_whole (c : Thread nD τ) cc0_stg3_0 fullShare f
theorem ow4 (c : Dev nD) (f : Buf (Elt F) ((c : Thread nD τ).loc cc0_stg4_0)) : (owns (c : Thread nD τ) (M4) fullShare f : sProp 𝕄) = ((c : Thread nD τ).loc cc0_stg4_0 ↦{fullShare} f) := owns_whole (c : Thread nD τ) cc0_stg4_0 fullShare f
theorem ow5 (c : Dev nD) (f : Buf (Elt F) ((c : Thread nD τ).loc cc0_stg5_0)) : (owns (c : Thread nD τ) (M5) fullShare f : sProp 𝕄) = ((c : Thread nD τ).loc cc0_stg5_0 ↦{fullShare} f) := owns_whole (c : Thread nD τ) cc0_stg5_0 fullShare f
theorem ow6 (c : Dev nD) (f : Buf (Elt F) ((c : Thread nD τ).loc cc0_stg6_0)) : (owns (c : Thread nD τ) (M6) fullShare f : sProp 𝕄) = ((c : Thread nD τ).loc cc0_stg6_0 ↦{fullShare} f) := owns_whole (c : Thread nD τ) cc0_stg6_0 fullShare f
theorem ow7 (c : Dev nD) (f : Buf (Elt F) ((c : Thread nD τ).loc cc0_stg7_0)) : (owns (c : Thread nD τ) (M7) fullShare f : sProp 𝕄) = ((c : Thread nD τ).loc cc0_stg7_0 ↦{fullShare} f) := owns_whole (c : Thread nD τ) cc0_stg7_0 fullShare f
theorem ow8 (c : Dev nD) (f : Buf (Elt F) ((c : Thread nD τ).loc cc0_stg8_0)) : (owns (c : Thread nD τ) (M8) fullShare f : sProp 𝕄) = ((c : Thread nD τ).loc cc0_stg8_0 ↦{fullShare} f) := owns_whole (c : Thread nD τ) cc0_stg8_0 fullShare f
theorem ow9 (c : Dev nD) (f : Buf (Elt F) ((c : Thread nD τ).loc cc0_stg9_0)) : (owns (c : Thread nD τ) (M9) fullShare f : sProp 𝕄) = ((c : Thread nD τ).loc cc0_stg9_0 ↦{fullShare} f) := owns_whole (c : Thread nD τ) cc0_stg9_0 fullShare f
theorem ow10 (c : Dev nD) (f : Buf (Elt F) ((c : Thread nD τ).loc cc0_scratch0)) : (owns (c : Thread nD τ) (M10) fullShare f : sProp 𝕄) = ((c : Thread nD τ).loc cc0_scratch0 ↦{fullShare} f) := owns_whole (c : Thread nD τ) cc0_scratch0 fullShare f
theorem ow11 (c : Dev nD) (f : Buf (Elt F) ((c : Thread nD τ).loc cc0_scratch1)) : (owns (c : Thread nD τ) (M11) fullShare f : sProp 𝕄) = ((c : Thread nD τ).loc cc0_scratch1 ↦{fullShare} f) := owns_whole (c : Thread nD τ) cc0_scratch1 fullShare f
theorem ow12 (c : Dev nD) (f : Buf (Elt F) ((c : Thread nD τ).loc cc0_scratch2)) : (owns (c : Thread nD τ) (M12) fullShare f : sProp 𝕄) = ((c : Thread nD τ).loc cc0_scratch2 ↦{fullShare} f) := owns_whole (c : Thread nD τ) cc0_scratch2 fullShare f
theorem ow13 (c : Dev nD) (f : Buf (Elt F) ((c : Thread nD τ).loc cc0_scratch3)) : (owns (c : Thread nD τ) (M13) fullShare f : sProp 𝕄) = ((c : Thread nD τ).loc cc0_scratch3 ↦{fullShare} f) := owns_whole (c : Thread nD τ) cc0_scratch3 fullShare f
theorem ow14 (c : Dev nD) (f : Buf (Elt F) ((c : Thread nD τ).loc cc0_scratch4)) : (owns (c : Thread nD τ) (M14) fullShare f : sProp 𝕄) = ((c : Thread nD τ).loc cc0_scratch4 ↦{fullShare} f) := owns_whole (c : Thread nD τ) cc0_scratch4 fullShare f
theorem ow15 (c : Dev nD) (f : Buf (Elt F) ((c : Thread nD τ).loc cc0_scratch5)) : (owns (c : Thread nD τ) (M15) fullShare f : sProp 𝕄) = ((c : Thread nD τ).loc cc0_scratch5 ↦{fullShare} f) := owns_whole (c : Thread nD τ) cc0_scratch5 fullShare f
theorem ow16 (c : Dev nD) (f : Buf (Elt F) ((c : Thread nD τ).loc cc0_scratch6)) : (owns (c : Thread nD τ) (M16) fullShare f : sProp 𝕄) = ((c : Thread nD τ).loc cc0_scratch6 ↦{fullShare} f) := owns_whole (c : Thread nD τ) cc0_scratch6 fullShare f
theorem ow17 (c : Dev nD) (f : Buf (Elt F) ((c : Thread nD τ).loc cc0_scratch7)) : (owns (c : Thread nD τ) (M17) fullShare f : sProp 𝕄) = ((c : Thread nD τ).loc cc0_scratch7 ↦{fullShare} f) := owns_whole (c : Thread nD τ) cc0_scratch7 fullShare f
theorem ow18 (c : Dev nD) (f : Buf (Elt F) ((c : Thread nD τ).loc cc0_scratch8)) : (owns (c : Thread nD τ) (M18) fullShare f : sProp 𝕄) = ((c : Thread nD τ).loc cc0_scratch8 ↦{fullShare} f) := owns_whole (c : Thread nD τ) cc0_scratch8 fullShare f
theorem ow19 (c : Dev nD) (f : Buf (Elt F) ((c : Thread nD τ).loc cc0_scratch9)) : (owns (c : Thread nD τ) (M19) fullShare f : sProp 𝕄) = ((c : Thread nD τ).loc cc0_scratch9 ↦{fullShare} f) := owns_whole (c : Thread nD τ) cc0_scratch9 fullShare f
theorem ow20 (c : Dev nD) (f : Buf (Elt F) ((c : Thread nD τ).loc cc0_scratch10)) : (owns (c : Thread nD τ) (M20) fullShare f : sProp 𝕄) = ((c : Thread nD τ).loc cc0_scratch10 ↦{fullShare} f) := owns_whole (c : Thread nD τ) cc0_scratch10 fullShare f
theorem ow21 (c : Dev nD) (f : Buf (Elt F) ((c : Thread nD τ).loc cc0_scratch11)) : (owns (c : Thread nD τ) (M21) fullShare f : sProp 𝕄) = ((c : Thread nD τ).loc cc0_scratch11 ↦{fullShare} f) := owns_whole (c : Thread nD τ) cc0_scratch11 fullShare f
theorem ow22 (c : Dev nD) (f : Buf (Elt F) ((c : Thread nD τ).loc cc0_scratch12)) : (owns (c : Thread nD τ) (M22) fullShare f : sProp 𝕄) = ((c : Thread nD τ).loc cc0_scratch12 ↦{fullShare} f) := owns_whole (c : Thread nD τ) cc0_scratch12 fullShare f
theorem ow23 (c : Dev nD) (f : Buf (Elt F) ((c : Thread nD τ).loc cc0_scratch13)) : (owns (c : Thread nD τ) (M23) fullShare f : sProp 𝕄) = ((c : Thread nD τ).loc cc0_scratch13 ↦{fullShare} f) := owns_whole (c : Thread nD τ) cc0_scratch13 fullShare f
theorem ow24 (c : Dev nD) (f : Buf (Elt F) ((c : Thread nD τ).loc cc0_scratch14)) : (owns (c : Thread nD τ) (M24) fullShare f : sProp 𝕄) = ((c : Thread nD τ).loc cc0_scratch14 ↦{fullShare} f) := owns_whole (c : Thread nD τ) cc0_scratch14 fullShare f
theorem ow25 (c : Dev nD) (f : Buf (Elt F) ((c : Thread nD τ).loc cc0_scratch15)) : (owns (c : Thread nD τ) (M25) fullShare f : sProp 𝕄) = ((c : Thread nD τ).loc cc0_scratch15 ↦{fullShare} f) := owns_whole (c : Thread nD τ) cc0_scratch15 fullShare f

theorem ownX_Lw (c : Dev nD) : (ownX (Val := Elt F) (c := (c : Thread nD τ)) Lw : sProp 𝕄) = iprop((∃ d : Buf (Elt F) ((c : Thread nD τ).loc cc0_scratch0), ((c : Thread nD τ).loc cc0_scratch0 ↦{fullShare} d)) ∗ (∃ d : Buf (Elt F) ((c : Thread nD τ).loc cc0_scratch1), ((c : Thread nD τ).loc cc0_scratch1 ↦{fullShare} d)) ∗ (∃ d : Buf (Elt F) ((c : Thread nD τ).loc cc0_scratch2), ((c : Thread nD τ).loc cc0_scratch2 ↦{fullShare} d)) ∗ (∃ d : Buf (Elt F) ((c : Thread nD τ).loc cc0_scratch3), ((c : Thread nD τ).loc cc0_scratch3 ↦{fullShare} d)) ∗ (∃ d : Buf (Elt F) ((c : Thread nD τ).loc cc0_scratch4), ((c : Thread nD τ).loc cc0_scratch4 ↦{fullShare} d)) ∗ (∃ d : Buf (Elt F) ((c : Thread nD τ).loc cc0_scratch5), ((c : Thread nD τ).loc cc0_scratch5 ↦{fullShare} d)) ∗ (∃ d : Buf (Elt F) ((c : Thread nD τ).loc cc0_scratch6), ((c : Thread nD τ).loc cc0_scratch6 ↦{fullShare} d)) ∗ (∃ d : Buf (Elt F) ((c : Thread nD τ).loc cc0_scratch7), ((c : Thread nD τ).loc cc0_scratch7 ↦{fullShare} d)) ∗ (∃ d : Buf (Elt F) ((c : Thread nD τ).loc cc0_scratch8), ((c : Thread nD τ).loc cc0_scratch8 ↦{fullShare} d)) ∗ (∃ d : Buf (Elt F) ((c : Thread nD τ).loc cc0_scratch9), ((c : Thread nD τ).loc cc0_scratch9 ↦{fullShare} d)) ∗ (∃ d : Buf (Elt F) ((c : Thread nD τ).loc cc0_scratch10), ((c : Thread nD τ).loc cc0_scratch10 ↦{fullShare} d)) ∗ (∃ d : Buf (Elt F) ((c : Thread nD τ).loc cc0_scratch11), ((c : Thread nD τ).loc cc0_scratch11 ↦{fullShare} d)) ∗ (∃ d : Buf (Elt F) ((c : Thread nD τ).loc cc0_scratch12), ((c : Thread nD τ).loc cc0_scratch12 ↦{fullShare} d)) ∗ (∃ d : Buf (Elt F) ((c : Thread nD τ).loc cc0_scratch13), ((c : Thread nD τ).loc cc0_scratch13 ↦{fullShare} d)) ∗ (∃ d : Buf (Elt F) ((c : Thread nD τ).loc cc0_scratch14), ((c : Thread nD τ).loc cc0_scratch14 ↦{fullShare} d)) ∗ (∃ d : Buf (Elt F) ((c : Thread nD τ).loc cc0_scratch15), ((c : Thread nD τ).loc cc0_scratch15 ↦{fullShare} d)) ∗ (∃ d : Buf (Elt F) ((c : Thread nD τ).loc cc0_stg8_0), ((c : Thread nD τ).loc cc0_stg8_0 ↦{fullShare} d)) ∗ (∃ d : Buf (Elt F) ((c : Thread nD τ).loc cc0_stg9_0), ((c : Thread nD τ).loc cc0_stg9_0 ↦{fullShare} d)) ∗ emp) := rfl

theorem ownL_Lw (c : Dev nD) (σ : St (sig := sig) (Elt F) (c : Thread nD τ)) : (ownL (c := (c : Thread nD τ)) Lw σ : sProp 𝕄) = iprop(((c : Thread nD τ).loc cc0_scratch0 ↦{fullShare} σ cc0_scratch0) ∗ ((c : Thread nD τ).loc cc0_scratch1 ↦{fullShare} σ cc0_scratch1) ∗ ((c : Thread nD τ).loc cc0_scratch2 ↦{fullShare} σ cc0_scratch2) ∗ ((c : Thread nD τ).loc cc0_scratch3 ↦{fullShare} σ cc0_scratch3) ∗ ((c : Thread nD τ).loc cc0_scratch4 ↦{fullShare} σ cc0_scratch4) ∗ ((c : Thread nD τ).loc cc0_scratch5 ↦{fullShare} σ cc0_scratch5) ∗ ((c : Thread nD τ).loc cc0_scratch6 ↦{fullShare} σ cc0_scratch6) ∗ ((c : Thread nD τ).loc cc0_scratch7 ↦{fullShare} σ cc0_scratch7) ∗ ((c : Thread nD τ).loc cc0_scratch8 ↦{fullShare} σ cc0_scratch8) ∗ ((c : Thread nD τ).loc cc0_scratch9 ↦{fullShare} σ cc0_scratch9) ∗ ((c : Thread nD τ).loc cc0_scratch10 ↦{fullShare} σ cc0_scratch10) ∗ ((c : Thread nD τ).loc cc0_scratch11 ↦{fullShare} σ cc0_scratch11) ∗ ((c : Thread nD τ).loc cc0_scratch12 ↦{fullShare} σ cc0_scratch12) ∗ ((c : Thread nD τ).loc cc0_scratch13 ↦{fullShare} σ cc0_scratch13) ∗ ((c : Thread nD τ).loc cc0_scratch14 ↦{fullShare} σ cc0_scratch14) ∗ ((c : Thread nD τ).loc cc0_scratch15 ↦{fullShare} σ cc0_scratch15) ∗ ((c : Thread nD τ).loc cc0_stg8_0 ↦{fullShare} σ cc0_stg8_0) ∗ ((c : Thread nD τ).loc cc0_stg9_0 ↦{fullShare} σ cc0_stg9_0) ∗ emp) := rfl

theorem ownX_of (c : Dev nD) : iprop(((∃ d, owns (c : Thread nD τ) M10 fullShare d) ∗ (∃ d, owns (c : Thread nD τ) M11 fullShare d) ∗ (∃ d, owns (c : Thread nD τ) M12 fullShare d) ∗ (∃ d, owns (c : Thread nD τ) M13 fullShare d) ∗ (∃ d, owns (c : Thread nD τ) M14 fullShare d) ∗ (∃ d, owns (c : Thread nD τ) M15 fullShare d) ∗ (∃ d, owns (c : Thread nD τ) M16 fullShare d) ∗ (∃ d, owns (c : Thread nD τ) M17 fullShare d) ∗ (∃ d, owns (c : Thread nD τ) M18 fullShare d) ∗ (∃ d, owns (c : Thread nD τ) M19 fullShare d) ∗ (∃ d, owns (c : Thread nD τ) M20 fullShare d) ∗ (∃ d, owns (c : Thread nD τ) M21 fullShare d) ∗ (∃ d, owns (c : Thread nD τ) M22 fullShare d) ∗ (∃ d, owns (c : Thread nD τ) M23 fullShare d) ∗ (∃ d, owns (c : Thread nD τ) M24 fullShare d) ∗ (∃ d, owns (c : Thread nD τ) M25 fullShare d)) ∗ (∃ d, owns (c : Thread nD τ) M8 fullShare d) ∗ (∃ d, owns (c : Thread nD τ) M9 fullShare d))
    ⊢ (ownX (Val := Elt F) (c := (c : Thread nD τ)) Lw : sProp 𝕄) := by
  rw [ownX_Lw]
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩, ⟨%d16, K8⟩, ⟨%d17, K9⟩⟩
  isplitl [H0]
  · iexists d0; rw [← ow10]; iexact H0
  isplitl [H1]
  · iexists d1; rw [← ow11]; iexact H1
  isplitl [H2]
  · iexists d2; rw [← ow12]; iexact H2
  isplitl [H3]
  · iexists d3; rw [← ow13]; iexact H3
  isplitl [H4]
  · iexists d4; rw [← ow14]; iexact H4
  isplitl [H5]
  · iexists d5; rw [← ow15]; iexact H5
  isplitl [H6]
  · iexists d6; rw [← ow16]; iexact H6
  isplitl [H7]
  · iexists d7; rw [← ow17]; iexact H7
  isplitl [H8]
  · iexists d8; rw [← ow18]; iexact H8
  isplitl [H9]
  · iexists d9; rw [← ow19]; iexact H9
  isplitl [H10]
  · iexists d10; rw [← ow20]; iexact H10
  isplitl [H11]
  · iexists d11; rw [← ow21]; iexact H11
  isplitl [H12]
  · iexists d12; rw [← ow22]; iexact H12
  isplitl [H13]
  · iexists d13; rw [← ow23]; iexact H13
  isplitl [H14]
  · iexists d14; rw [← ow24]; iexact H14
  isplitl [H15]
  · iexists d15; rw [← ow25]; iexact H15
  isplitl [K8]
  · iexists d16; rw [← ow8]; iexact K8
  isplitl [K9]
  · iexists d17; rw [← ow9]; iexact K9
  iempintro

theorem ownX_to (c : Dev nD) (σ : St (sig := sig) (Elt F) (c : Thread nD τ)) : (ownL (c := (c : Thread nD τ)) Lw σ : sProp 𝕄)
    ⊢ iprop(((∃ d, owns (c : Thread nD τ) M10 fullShare d) ∗ (∃ d, owns (c : Thread nD τ) M11 fullShare d) ∗ (∃ d, owns (c : Thread nD τ) M12 fullShare d) ∗ (∃ d, owns (c : Thread nD τ) M13 fullShare d) ∗ (∃ d, owns (c : Thread nD τ) M14 fullShare d) ∗ (∃ d, owns (c : Thread nD τ) M15 fullShare d) ∗ (∃ d, owns (c : Thread nD τ) M16 fullShare d) ∗ (∃ d, owns (c : Thread nD τ) M17 fullShare d) ∗ (∃ d, owns (c : Thread nD τ) M18 fullShare d) ∗ (∃ d, owns (c : Thread nD τ) M19 fullShare d) ∗ (∃ d, owns (c : Thread nD τ) M20 fullShare d) ∗ (∃ d, owns (c : Thread nD τ) M21 fullShare d) ∗ (∃ d, owns (c : Thread nD τ) M22 fullShare d) ∗ (∃ d, owns (c : Thread nD τ) M23 fullShare d) ∗ (∃ d, owns (c : Thread nD τ) M24 fullShare d) ∗ (∃ d, owns (c : Thread nD τ) M25 fullShare d)) ∗ owns (c : Thread nD τ) M8 fullShare (σ cc0_stg8_0) ∗ owns (c : Thread nD τ) M9 fullShare (σ cc0_stg9_0)) := by
  rw [ownL_Lw]
  iintro ⟨H0, H1, H2, H3, H4, H5, H6, H7, H8, H9, H10, H11, H12, H13, H14, H15, K8, K9, -⟩
  isplitl [H0 H1 H2 H3 H4 H5 H6 H7 H8 H9 H10 H11 H12 H13 H14 H15]
  · isplitl [H0]
    · iexists (σ cc0_scratch0); rw [ow10]; iexact H0
    isplitl [H1]
    · iexists (σ cc0_scratch1); rw [ow11]; iexact H1
    isplitl [H2]
    · iexists (σ cc0_scratch2); rw [ow12]; iexact H2
    isplitl [H3]
    · iexists (σ cc0_scratch3); rw [ow13]; iexact H3
    isplitl [H4]
    · iexists (σ cc0_scratch4); rw [ow14]; iexact H4
    isplitl [H5]
    · iexists (σ cc0_scratch5); rw [ow15]; iexact H5
    isplitl [H6]
    · iexists (σ cc0_scratch6); rw [ow16]; iexact H6
    isplitl [H7]
    · iexists (σ cc0_scratch7); rw [ow17]; iexact H7
    isplitl [H8]
    · iexists (σ cc0_scratch8); rw [ow18]; iexact H8
    isplitl [H9]
    · iexists (σ cc0_scratch9); rw [ow19]; iexact H9
    isplitl [H10]
    · iexists (σ cc0_scratch10); rw [ow20]; iexact H10
    isplitl [H11]
    · iexists (σ cc0_scratch11); rw [ow21]; iexact H11
    isplitl [H12]
    · iexists (σ cc0_scratch12); rw [ow22]; iexact H12
    isplitl [H13]
    · iexists (σ cc0_scratch13); rw [ow23]; iexact H13
    isplitl [H14]
    · iexists (σ cc0_scratch14); rw [ow24]; iexact H14
    iexists (σ cc0_scratch15); rw [ow25]; iexact H15
  isplitl [K8]
  · rw [ow8]; iexact K8
  rw [ow9]; iexact K9

theorem owI0 (c : Dev nD) (t : Fin (cfg0 (F := F)).N) : (owns (c : Thread nD τ) (ms0_0 t) fullShare (iblk m c 0 t) : sProp 𝕄) = ((c : Thread nD τ).loc cc0_stg0_0 ↦{fullShare} σ₀ m c t cc0_stg0_0) :=
  (owns_whole (c : Thread nD τ) cc0_stg0_0 fullShare _).trans (congrArg (fun f => ((c : Thread nD τ).loc cc0_stg0_0 ↦{fullShare} f : sProp 𝕄)) (σin_0 m c _ _ _ _ _ _ _ _).symm)
theorem owI1 (c : Dev nD) (t : Fin (cfg0 (F := F)).N) : (owns (c : Thread nD τ) (ms0_1 t) fullShare (iblk m c 1 t) : sProp 𝕄) = ((c : Thread nD τ).loc cc0_stg1_0 ↦{fullShare} σ₀ m c t cc0_stg1_0) :=
  (owns_whole (c : Thread nD τ) cc0_stg1_0 fullShare _).trans (congrArg (fun f => ((c : Thread nD τ).loc cc0_stg1_0 ↦{fullShare} f : sProp 𝕄)) (σin_1 m c _ _ _ _ _ _ _ _).symm)
theorem owI2 (c : Dev nD) (t : Fin (cfg0 (F := F)).N) : (owns (c : Thread nD τ) (ms0_2 t) fullShare (iblk m c 2 t) : sProp 𝕄) = ((c : Thread nD τ).loc cc0_stg2_0 ↦{fullShare} σ₀ m c t cc0_stg2_0) :=
  (owns_whole (c : Thread nD τ) cc0_stg2_0 fullShare _).trans (congrArg (fun f => ((c : Thread nD τ).loc cc0_stg2_0 ↦{fullShare} f : sProp 𝕄)) (σin_2 m c _ _ _ _ _ _ _ _).symm)
theorem owI3 (c : Dev nD) (t : Fin (cfg0 (F := F)).N) : (owns (c : Thread nD τ) (ms0_3 t) fullShare (iblk m c 3 t) : sProp 𝕄) = ((c : Thread nD τ).loc cc0_stg3_0 ↦{fullShare} σ₀ m c t cc0_stg3_0) :=
  (owns_whole (c : Thread nD τ) cc0_stg3_0 fullShare _).trans (congrArg (fun f => ((c : Thread nD τ).loc cc0_stg3_0 ↦{fullShare} f : sProp 𝕄)) (σin_3 m c _ _ _ _ _ _ _ _).symm)
theorem owI4 (c : Dev nD) (t : Fin (cfg0 (F := F)).N) : (owns (c : Thread nD τ) (ms0_4 t) fullShare (iblk m c 4 t) : sProp 𝕄) = ((c : Thread nD τ).loc cc0_stg4_0 ↦{fullShare} σ₀ m c t cc0_stg4_0) :=
  (owns_whole (c : Thread nD τ) cc0_stg4_0 fullShare _).trans (congrArg (fun f => ((c : Thread nD τ).loc cc0_stg4_0 ↦{fullShare} f : sProp 𝕄)) (σin_4 m c _ _ _ _ _ _ _ _).symm)
theorem owI5 (c : Dev nD) (t : Fin (cfg0 (F := F)).N) : (owns (c : Thread nD τ) (ms0_5 t) fullShare (iblk m c 5 t) : sProp 𝕄) = ((c : Thread nD τ).loc cc0_stg5_0 ↦{fullShare} σ₀ m c t cc0_stg5_0) :=
  (owns_whole (c : Thread nD τ) cc0_stg5_0 fullShare _).trans (congrArg (fun f => ((c : Thread nD τ).loc cc0_stg5_0 ↦{fullShare} f : sProp 𝕄)) (σin_5 m c _ _ _ _ _ _ _ _).symm)
theorem owI6 (c : Dev nD) (t : Fin (cfg0 (F := F)).N) : (owns (c : Thread nD τ) (ms0_6 t) fullShare (iblk m c 6 t) : sProp 𝕄) = ((c : Thread nD τ).loc cc0_stg6_0 ↦{fullShare} σ₀ m c t cc0_stg6_0) :=
  (owns_whole (c : Thread nD τ) cc0_stg6_0 fullShare _).trans (congrArg (fun f => ((c : Thread nD τ).loc cc0_stg6_0 ↦{fullShare} f : sProp 𝕄)) (σin_6 m c _ _ _ _ _ _ _ _).symm)
theorem owI7 (c : Dev nD) (t : Fin (cfg0 (F := F)).N) : (owns (c : Thread nD τ) (ms0_7 t) fullShare (iblk m c 7 t) : sProp 𝕄) = ((c : Thread nD τ).loc cc0_stg7_0 ↦{fullShare} σ₀ m c t cc0_stg7_0) :=
  (owns_whole (c : Thread nD τ) cc0_stg7_0 fullShare _).trans (congrArg (fun f => ((c : Thread nD τ).loc cc0_stg7_0 ↦{fullShare} f : sProp 𝕄)) (σin_7 m c _ _ _ _ _ _ _ _).symm)

theorem ownIn (c : Dev nD) (t : Fin (cfg0 (F := F)).N) : (ownL (c := (c : Thread nD τ)) Lr (σ₀ m c t) : sProp 𝕄)
    = iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ emp) := by
  rw [owI0, owI1, owI2, owI3, owI4, owI5, owI6, owI7]
  rfl

theorem ownIn_to (c : Dev nD) (t : Fin (cfg0 (F := F)).N) : (ownL (c := (c : Thread nD τ)) Lr (σ₀ m c t) : sProp 𝕄) ⊢ iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ emp) := by
  rw [ownIn]

theorem ownL_split (c : Dev nD) (L L' : List (Ref sig .tc)) (σ : St (sig := sig) (Elt F) (c : Thread nD τ)) :
    (ownL (c := (c : Thread nD τ)) (L ++ L') σ : sProp 𝕄) ⊢ iprop(ownL (c := (c : Thread nD τ)) L σ ∗ ownL (c := (c : Thread nD τ)) L' σ) :=
  ownL_unappend L L' σ

/-- The body, from its buffers at some contents with the inputs staged: the inputs are kept, and `Q` holds of the
    outputs. -/
theorem body_wp (c : Dev nD) (t : Fin (cfg0 (F := F)).N) (C : Calls (sig := sig) (Elt F) (Λ₀ F) (c : Thread nD τ))
    (hdefs : ∀ ℓ a σ, C.pre ℓ a σ → pwp C (C.rank ℓ a) (defs₀ (F := F) (c : Thread nD τ).2 ℓ a) (fun r s => s = σ ∧ C.post ℓ a σ r) σ)
    (n : ℕ) (Q : St (sig := sig) (Elt F) (c : Thread nD τ) → Prop)
    (h : ∀ σ : St (sig := sig) (Elt F) (c : Thread nD τ), (∀ b ∈ Lr, σ b = σ₀ m c t b) →
      pwp C n (Body (F := F)) (fun _ s => (∀ b ∈ Lr, s b = σ₀ m c t b) ∧ Q s) σ) :
    iprop(ownX (Val := Elt F) (c := (c : Thread nD τ)) Lw ∗ ownL (c := (c : Thread nD τ)) Lr (σ₀ m c t))
      ⊢ (wp frame (wpE (defs₀ (F := F)) Variants.nat (c : Thread nD τ) none) Set.univ (Body (F := F))
          (fun _ => iprop(∃ s : St (sig := sig) (Elt F) (c : Thread nD τ), ⌜Q s⌝ ∗ ownL (c := (c : Thread nD τ)) Lw s ∗ ownL (c := (c : Thread nD τ)) Lr (σ₀ m c t))) : sProp 𝕄) := by
  iintro ⟨HX, HL⟩
  ihave ⟨%σ, %hσ, HX⟩ := (ownX_pick (c := (c : Thread nD τ)) Lw Lw_nodup (σ₀ m c t)) $$ HX
  have hin : ∀ b ∈ Lr, σ b = σ₀ m c t b := fun b hb => hσ b (Lr_not_Lw b hb)
  ihave HL := (ownL_congr_ent (c := (c : Thread nD τ)) Lr (fun b hb => (hin b hb).symm)) $$ HL
  ihave H := (ownL_append (c := (c : Thread nD τ)) Lw Lr σ) $$ [HX HL]
  · isplitl [HX]
    · iexact HX
    · iexact HL
  iapply ((adequate (own (F := F) c) (own_gives c) hdefs n (Body (F := F)) _ σ none _ (fun _ hu => nomatch hu) (h σ hin)).trans
    (wp_mono _ _ _ fun r => ?_)) $$ H
  iintro ⟨%s, %hs, H⟩
  iexists s
  isplitr
  · ipureintro; exact hs.2
  ihave ⟨H, HL⟩ := (ownL_split c Lw Lr s) $$ H
  isplitl [H]
  · iexact H
  iapply (ownL_congr_ent (c := (c : Thread nD τ)) Lr hs.1)
  iexact HL

/-- The body keeps its inputs. -/
theorem body_keeps (c : Dev nD) (t : Fin (cfg0 (F := F)).N) (σ : St (sig := sig) (Elt F) (c : Thread nD τ)) (hin : ∀ b ∈ Lr, σ b = σ₀ m c t b) :
    pwp (callsS (F := F) c) 10 (Body (F := F)) (fun _ s => (∀ b ∈ Lr, s b = σ₀ m c t b) ∧ True) σ :=
  pwp_mono (fun _ s hs => ⟨fun b hb => (hs.2 b (Lr_not_Wr b hb)).trans (hin b hb), trivial⟩)
    (safe_pwp (C := callsS (F := F) c) (fun _ _ _ h => h) (fun _ _ _ _ h => h) (fun _ _ => rfl) (safe_body (F := F)) σ)

set_option maxHeartbeats 2400000 in
/-- The body at any point. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1, HS2, HS3, HS4, HS5, HS6, HS7, HS8, HS9, HS10, HS11, HS12, HS13, HS14, HS15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HX := (ownX_of c) $$ [HS0 HS1 HS2 HS3 HS4 HS5 HS6 HS7 HS8 HS9 HS10 HS11 HS12 HS13 HS14 HS15 H8 H9]
  · isplitl [HS0 HS1 HS2 HS3 HS4 HS5 HS6 HS7 HS8 HS9 HS10 HS11 HS12 HS13 HS14 HS15]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      iexact HS15
    isplitl [H8]; · iexists _; iexact H8
    iexists _; iexact H9
  ihave HL : (ownL (c := (c : Thread nD τ)) Lr (σ₀ m c t) : sProp 𝕄) $$ [H0 H1 H2 H3 H4 H5 H6 H7]
  · rw [ownIn]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iempintro
  ihave HW := (body_wp m c t (callsS c) (hdefsS c) 10 (fun _ => True) (body_keeps m c t)) $$ [HX HL]
  · isplitl [HX]
    · iexact HX
    · iexact HL
  iapply (wp_wand _ _ _) $$ HW
  iintro %_ ⟨%s, -, HW, HL⟩
  ihave ⟨HS, H8, H9⟩ := (ownX_to c s) $$ HW
  isplitl [HS Hg]
  · isplitl [HS]
    · iexact HS
    iexact Hg
  isplitl [Ho]; · iexact Ho
  ihave ⟨H0, H1, H2, H3, H4, H5, H6, H7, -⟩ := (ownIn_to m c t) $$ HL
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; iexact H8
  iexists _; iexact H9

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.nat () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost ((cfgs (F := F)) 0) (fun c => (dats m 0 c).toRForget forgets0) (V m)) r ∧ r.2.sem = fun _ => 0) :=
  Pipeline.θ_run_frame_forget_shared (Q' := _) (cfgs (F := F)) (dats m) (0 : Fin 1) launch₀0 defs₀ Variants.nat forgets0 m ρ main
    (hbody := fun c => (body_obligation m c).loose) (hq := fun _ _ _ => rfl)
    (howed := fun _ _ => rfl) (V := V m) (hmain := hmain m Variants.nat) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost ((cfgs (F := F)) 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- The argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Hand

end
-- ==== Proof.SafeKernelIdeal.lean ====
/-
  The kernel body at the buffers the launch gives it (`B…`: each loop's region and each part at those buffers), and
  the proof that the body keeps inside its buffers and admits every check whatever the buffers hold.
-/
module

public import proofs.«01_k».proof.Proof.Gen.KernelIdeal.Skeleton
public import proofs.«01_k».proof.Proof.Gen.KernelIdeal.Points
public import proofs.«01_k».proof.Proof.Seq

@[expose] public section

set_option maxRecDepth 16384

noncomputable section

namespace Cert.KernelIdeal.Hand

open Idealize.ShloMosaic Idealize.SL.Sem Cert.Seq Cert.KernelIdeal.Gen

variable {F : FTy → Type} [FloatOps F] [Named F]

abbrev M0 : Memref sig .tc .smem S3x640 .i32 := Memref.whole cc0_stg0_0
abbrev W0 : M0.IsWhole := Memref.isWhole_whole _
abbrev M1 : Memref sig .tc .smem S3x24 .f32 := Memref.whole cc0_stg1_0
abbrev W1 : M1.IsWhole := Memref.isWhole_whole _
abbrev M2 : Memref sig .tc .smem S3x8 .f32 := Memref.whole cc0_stg2_0
abbrev W2 : M2.IsWhole := Memref.isWhole_whole _
abbrev M3 : Memref sig .tc .smem S3x8 .f32 := Memref.whole cc0_stg3_0
abbrev W3 : M3.IsWhole := Memref.isWhole_whole _
abbrev M4 : Memref sig .tc .vmem S3x640x24x128 .fp8e4m3 := Memref.whole cc0_stg4_0
abbrev W4 : M4.IsWhole := Memref.isWhole_whole _
abbrev M5 : Memref sig .tc .vmem S3x640x8x128 .fp8e4m3 := Memref.whole cc0_stg5_0
abbrev W5 : M5.IsWhole := Memref.isWhole_whole _
abbrev M6 : Memref sig .tc .vmem S3x640x8x128 .fp8e4m3 := Memref.whole cc0_stg6_0
abbrev W6 : M6.IsWhole := Memref.isWhole_whole _
abbrev M7 : Memref sig .tc .vmem S3x640 .i32 := Memref.whole cc0_stg7_0
abbrev W7 : M7.IsWhole := Memref.isWhole_whole _
abbrev M8 : Memref sig .tc .vmem S3x640x3072 .bf16 := Memref.whole cc0_stg8_0
abbrev W8 : M8.IsWhole := Memref.isWhole_whole _
abbrev M9 : Memref sig .tc .vmem S3x24x640 .f32 := Memref.whole cc0_stg9_0
abbrev W9 : M9.IsWhole := Memref.isWhole_whole _
abbrev M10 : Memref sig .tc .vmem S5x8x128x384 .fp8e4m3 := Memref.whole cc0_scratch0
abbrev W10 : M10.IsWhole := Memref.isWhole_whole _
abbrev M11 : Memref sig .tc .vmem S5x8x128x128 .fp8e4m3 := Memref.whole cc0_scratch1
abbrev W11 : M11.IsWhole := Memref.isWhole_whole _
abbrev M12 : Memref sig .tc .vmem S5x8x128x128 .bf16 := Memref.whole cc0_scratch2
abbrev W12 : M12.IsWhole := Memref.isWhole_whole _
abbrev M13 : Memref sig .tc .vmem S128x128 .i32 := Memref.whole cc0_scratch3
abbrev W13 : M13.IsWhole := Memref.isWhole_whole _
abbrev M14 : Memref sig .tc .vmem S5x128x128 .i32 := Memref.whole cc0_scratch4
abbrev W14 : M14.IsWhole := Memref.isWhole_whole _
abbrev M15 : Memref sig .tc .vmem S3x8x128 .f32 := Memref.whole cc0_scratch5
abbrev W15 : M15.IsWhole := Memref.isWhole_whole _
abbrev M16 : Memref sig .tc .vmem S128x128 .f32 := Memref.whole cc0_scratch6
abbrev W16 : M16.IsWhole := Memref.isWhole_whole _
abbrev M17 : Memref sig .tc .vmem S3104x128 .f32 := Memref.whole cc0_scratch7
abbrev W17 : M17.IsWhole := Memref.isWhole_whole _
abbrev M18 : Memref sig .tc .vmem S3x128x8x128 .f32 := Memref.whole cc0_scratch8
abbrev W18 : M18.IsWhole := Memref.isWhole_whole _
abbrev M19 : Memref sig .tc .vmem S1568x2x128 .bf16 := Memref.whole cc0_scratch9
abbrev W19 : M19.IsWhole := Memref.isWhole_whole _
abbrev M20 : Memref sig .tc .vmem S8x128x384 .f32 := Memref.whole cc0_scratch10
abbrev W20 : M20.IsWhole := Memref.isWhole_whole _
abbrev M21 : Memref sig .tc .vmem S3x8x128 .f32 := Memref.whole cc0_scratch11
abbrev W21 : M21.IsWhole := Memref.isWhole_whole _
abbrev M22 : Memref sig .tc .vmem S3x8x128 .f32 := Memref.whole cc0_scratch12
abbrev W22 : M22.IsWhole := Memref.isWhole_whole _
abbrev M23 : Memref sig .tc .vmem S8x128 .f32 := Memref.whole cc0_scratch13
abbrev W23 : M23.IsWhole := Memref.isWhole_whole _
abbrev M24 : Memref sig .tc .vmem S24x128 .f32 := Memref.whole cc0_scratch14
abbrev W24 : M24.IsWhole := Memref.isWhole_whole _
abbrev M25 : Memref sig .tc .vmem S15x128 .i32 := Memref.whole cc0_scratch15
abbrev W25 : M25.IsWhole := Memref.isWhole_whole _

abbrev B2 := k0_t2_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B1 := k0_t1_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B5 := k0_t5_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B4 := k0_t4_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B8 := k0_t8_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B7 := k0_t7_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B9 := k0_t9_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B11 := k0_t11_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B10 := k0_t10_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B6 := k0_t6_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B31 := k0_t31_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B12 := k0_t12_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B3 := k0_t3_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B34 := k0_t34_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B33 := k0_t33_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B37 := k0_t37_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B36 := k0_t36_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B38 := k0_t38_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B40 := k0_t40_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B39 := k0_t39_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B35 := k0_t35_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B58 := k0_t58_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B41 := k0_t41_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B32 := k0_t32_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B14 := k0_t14_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B18 := k0_t18_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B17 := k0_t17_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B19 := k0_t19_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B16 := k0_t16_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B15 := k0_t15_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B20 := k0_t20_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B13 := k0_t13_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B22 := k0_t22_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B26 := k0_t26_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B25 := k0_t25_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B27 := k0_t27_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B24 := k0_t24_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B23 := k0_t23_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B28 := k0_t28_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B21 := k0_t21_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B30 := k0_t30_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B29 := k0_t29_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev P1 := k0_part1 (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev P2 := k0_part2 (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev P3 := k0_part3 (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev P4 := k0_part4 (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev P5 := k0_part5 (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev P6 := k0_part6 (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev P7 := k0_part7 (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B43 := k0_t43_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B47 := k0_t47_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B46 := k0_t46_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B45 := k0_t45_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B44 := k0_t44_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B48 := k0_t48_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B42 := k0_t42_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B50 := k0_t50_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B54 := k0_t54_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B53 := k0_t53_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B52 := k0_t52_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B51 := k0_t51_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B55 := k0_t55_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B49 := k0_t49_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B57 := k0_t57_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev B56 := k0_t56_body (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev P8 := k0_part8 (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25
abbrev Body := cc0_stick_breaking (F := F) M0 W0 M1 W1 M2 W2 M3 W3 M4 W4 M5 W5 M6 W6 M7 W7 M8 W8 M9 W9 M10 W10 M11 W11 M12 W12 M13 W13 M14 W14 M15 W15 M16 W16 M17 W17 M18 W18 M19 W19 M20 W20 M21 W21 M22 W22 M23 W23 M24 W24 M25 W25

/-- The buffers the body may write: all but the staged inputs. -/
def Wr (b : Ref sig .tc) : Prop :=
  b ≠ cc0_stg0_0 ∧ b ≠ cc0_stg1_0 ∧ b ≠ cc0_stg2_0 ∧ b ≠ cc0_stg3_0 ∧ b ≠ cc0_stg4_0 ∧ b ≠ cc0_stg5_0 ∧ b ≠ cc0_stg6_0 ∧ b ≠ cc0_stg7_0

theorem wr8 : Wr M8.view.ref := by unfold Wr; decide +kernel
theorem wr9 : Wr M9.view.ref := by unfold Wr; decide +kernel
theorem wr10 : Wr M10.view.ref := by unfold Wr; decide +kernel
theorem wr11 : Wr M11.view.ref := by unfold Wr; decide +kernel
theorem wr12 : Wr M12.view.ref := by unfold Wr; decide +kernel
theorem wr13 : Wr M13.view.ref := by unfold Wr; decide +kernel
theorem wr14 : Wr M14.view.ref := by unfold Wr; decide +kernel
theorem wr15 : Wr M15.view.ref := by unfold Wr; decide +kernel
theorem wr16 : Wr M16.view.ref := by unfold Wr; decide +kernel
theorem wr17 : Wr M17.view.ref := by unfold Wr; decide +kernel
theorem wr18 : Wr M18.view.ref := by unfold Wr; decide +kernel
theorem wr19 : Wr M19.view.ref := by unfold Wr; decide +kernel
theorem wr20 : Wr M20.view.ref := by unfold Wr; decide +kernel
theorem wr21 : Wr M21.view.ref := by unfold Wr; decide +kernel
theorem wr22 : Wr M22.view.ref := by unfold Wr; decide +kernel
theorem wr23 : Wr M23.view.ref := by unfold Wr; decide +kernel
theorem wr24 : Wr M24.view.ref := by unfold Wr; decide +kernel
theorem wr25 : Wr M25.view.ref := by unfold Wr; decide +kernel

/-- When a loop-call may be made: the chunk tried is at most the tile. -/
def preS : (ℓ : (Λ₀ F).Label) → (Λ₀ F).Args ℓ → Prop
  | 0, _ => False
  | 1, ⟨_, T2, a0, _, _, x⟩ => InCore a0.view.ref ∧ x.toNat ≤ T2.val
  | 2, ⟨_, _, T2, _, a0, _, _, x⟩ => InCore a0.view.ref ∧ x.toNat ≤ T2.val

/-- What it returns: a chunk at most the tile. -/
def postS : (ℓ : (Λ₀ F).Label) → (Λ₀ F).Args ℓ → (Λ₀ F).Result ℓ → Prop
  | 0, _, _ => True
  | 1, ⟨_, T2, _, _, _, _⟩, r => BitVec.toNat r ≤ T2.val
  | 2, ⟨_, _, T2, _, _, _, _, _⟩, r => BitVec.toNat r ≤ T2.val

/-- Its depth. -/
def rankS : (ℓ : (Λ₀ F).Label) → (Λ₀ F).Args ℓ → ℕ
  | 0, _ => 0
  | 1, ⟨_, _, _, _, _, x⟩ => x.toNat
  | 2, ⟨_, _, _, _, _, _, _, x⟩ => x.toNat

/-- Admitted whatever the buffers hold. -/
abbrev S {α : Type} (n : ℕ) (q : Prog (TpuEff nD τ sig (Elt F) (Λ₀ F) .tc) α) (Q : α → Prop) : Prop :=
  safe (Val := Elt F) Wr preS postS rankS n q Q

theorem fin_of_le {x : BitVec 32} {N : ℕ} (k : Fin N) (h : x.toNat ≤ k.val) : ∃ n : Fin N, n ≤ k ∧ x = BitVec.ofNat 32 n.val :=
  ⟨⟨x.toNat, lt_of_le_of_lt h k.2⟩, h, by simp⟩

set_option maxHeartbeats 4000000 in
theorem chk1_of (a : Fin k0_t3_loop.trips) (b : Fin k0_t12_loop.trips) {x : BitVec 32} (h : x.toNat ≤ b.val) : k0_chk1 a x := by
  obtain ⟨n, -, e⟩ := fin_of_le b h
  clear h; subst e; clear b
  revert a n
  decide +kernel

set_option maxHeartbeats 4000000 in
theorem chk2_of (b : Fin k0_t12_loop.trips) {x : BitVec 32} (h : x.toNat ≤ b.val) : k0_chk2 b x := by
  obtain ⟨n, hn, e⟩ := fin_of_le b h
  clear h; subst e
  revert hn; revert n; revert b
  decide +kernel

set_option maxHeartbeats 4000000 in
theorem chk3_of (v : BitVec 1) (a : Fin k0_t32_loop.trips) (b : Fin k0_t41_loop.trips) {x : BitVec 32} (h : x.toNat ≤ b.val) : k0_chk3 v a x := by
  obtain ⟨n, -, e⟩ := fin_of_le b h
  clear h; subst e; clear b
  revert v a n
  decide +kernel

set_option maxHeartbeats 4000000 in
theorem chk4_of (v : BitVec 1) (b : Fin k0_t41_loop.trips) {x : BitVec 32} (h : x.toNat ≤ b.val) : k0_chk4 v b x := by
  obtain ⟨n, hn, e⟩ := fin_of_le b h
  clear h; subst e
  revert hn; revert v n; revert b
  decide +kernel

theorem iv_le (b : Fin k0_t12_loop.trips) : (Scf.iv (0#32) (1#32) b).toNat ≤ b.val := by
  revert b; decide +kernel
theorem iv_le' (b : Fin k0_t41_loop.trips) : (Scf.iv (0#32) (1#32) b).toNat ≤ b.val := by
  revert b; decide +kernel

theorem while_pos (x : BitVec 32) (y : BitVec 1) (hx : x.toNat ≤ 5) (h : Scalar.andi (Scalar.cmpi .sgt x 0#32) y = 1#1) :
    0 < x.toNat ∧ (Scalar.subi x 1#32).toNat = x.toNat - 1 := by
  obtain ⟨n, hn⟩ : ∃ n : Fin 6, x = BitVec.ofNat 32 n.val := ⟨⟨x.toNat, by omega⟩, by simp⟩
  subst hn; clear hx; revert n y; decide +kernel

theorem while1_safe (a : (Λ₀ F).Args 1) (h : preS (F := F) 1 a) :
    safe (Val := Elt F) (fun _ => False) preS postS rankS (rankS (F := F) 1 a) (defs₀ (F := F) .tc 1 a) (postS (F := F) 1 a) := by
  obtain ⟨t, b, a0, ha0, v, x⟩ := a
  obtain ⟨hc, hx⟩ := h
  unfold defs₀; rw [Defs.onTc_tc]
  show safe (Val := Elt F) (fun _ => False) preS postS rankS _ (cc0_while1 t b a0 ha0 v x) _
  rw [cc0_while1_eq_skeleton]; unfold cc0_while1_skel
  refine safe_assume (chk1_of t b hx) (safe_smem hc fun y => ?_)
  dsimp only
  split
  · rename_i hcond
    have hpos : 0 < x.toNat ∧ (Scalar.subi x 1#32).toNat = x.toNat - 1 := while_pos x _ (le_trans hx b.isLt.le) hcond
    refine ⟨⟨hc, ?_⟩, ?_, fun r hr => hr⟩
    · show (Scalar.subi x 1#32).toNat ≤ b.val
      omega
    · show (Scalar.subi x 1#32).toNat < x.toNat
      omega
  · exact hx

theorem while2_safe (a : (Λ₀ F).Args 2) (h : preS (F := F) 2 a) :
    safe (Val := Elt F) (fun _ => False) preS postS rankS (rankS (F := F) 2 a) (defs₀ (F := F) .tc 2 a) (postS (F := F) 2 a) := by
  obtain ⟨v12, t, b, h1, a0, ha0, v, x⟩ := a
  obtain ⟨hc, hx⟩ := h
  unfold defs₀; rw [Defs.onTc_tc]
  show safe (Val := Elt F) (fun _ => False) preS postS rankS _ (cc0_while2 v12 t b h1 a0 ha0 v x) _
  rw [cc0_while2_eq_skeleton]; unfold cc0_while2_skel
  refine safe_assume (chk3_of v12 t b hx) (safe_smem hc fun y => ?_)
  dsimp only
  split
  · rename_i hcond
    have hpos : 0 < x.toNat ∧ (Scalar.subi x 1#32).toNat = x.toNat - 1 := while_pos x _ (le_trans hx b.isLt.le) hcond
    refine ⟨⟨hc, ?_⟩, ?_, fun r hr => hr⟩
    · show (Scalar.subi x 1#32).toNat ≤ b.val
      omega
    · show (Scalar.subi x 1#32).toNat < x.toNat
      omega
  · exact hx

theorem safe_t14 (k0_t3 : Fin k0_t3_loop.trips) (arg26 : BitVec 32) (c0_i32_18 : BitVec 32) (c1_i32_20 : BitVec 32) (k0_t12 : Fin k0_t12_loop.trips) (v22 : BitVec 32) (k0_hw2 : k0_chk2 k0_t12 v22) (k0_t13 : Fin (k0_t13_loop k0_t12 v22).trips) (k) (a) : S (F := F) 10 (B14 k0_t3 arg26 c0_i32_18 c1_i32_20 k0_t12 v22 k0_hw2 k0_t13 k a) (fun _ => True) := by
  unfold B14 k0_t14_body
  refine safe_load (Or.inl rfl) fun _ => ?_
  refine safe_load (Or.inl rfl) fun _ => ?_
  refine safe_load (Or.inl rfl) fun _ => ?_
  refine safe_store (Or.inl rfl) wr17 ?_
  refine safe_load (Or.inl rfl) fun _ => ?_
  refine safe_store (Or.inl rfl) wr17 ?_
  refine safe_load (Or.inl rfl) fun _ => ?_
  refine safe_store (Or.inl rfl) wr17 ?_
  exact safe_pure trivial

theorem safe_t18 (k0_t3 : Fin k0_t3_loop.trips) (arg26 : BitVec 32) (c0_i32_18 : BitVec 32) (c1_i32_20 : BitVec 32) (k0_t12 : Fin k0_t12_loop.trips) (k0_t15 : Fin k0_t15_loop.trips) (v83 : Vec F S1x8x128 .f32) (k0_t16 : Fin k0_t16_loop.trips) (k0_t17 : Fin k0_t17_loop.trips) (k) (a) : S (F := F) 10 (B18 k0_t3 arg26 c0_i32_18 c1_i32_20 k0_t12 k0_t15 v83 k0_t16 k0_t17 k a) (fun _ => True) := by
  unfold B18 k0_t18_body
  refine safe_load (Or.inl rfl) fun _ => ?_
  refine safe_load (Or.inl rfl) fun _ => ?_
  refine safe_load (Or.inl rfl) fun _ => ?_
  refine safe_store (Or.inl rfl) wr18 ?_
  exact safe_pure trivial

theorem safe_t17 (k0_t3 : Fin k0_t3_loop.trips) (arg26 : BitVec 32) (c0_i32_18 : BitVec 32) (c1_i32_20 : BitVec 32) (k0_t12 : Fin k0_t12_loop.trips) (k0_t15 : Fin k0_t15_loop.trips) (v83 : Vec F S1x8x128 .f32) (k0_t16 : Fin k0_t16_loop.trips) (k) (a) : S (F := F) 10 (B17 k0_t3 arg26 c0_i32_18 c1_i32_20 k0_t12 k0_t15 v83 k0_t16 k a) (fun _ => True) := by
  unfold B17 k0_t17_body
  refine safe_seq (safe_for fun _ _ => safe_t18 ..) fun _ => ?_
  exact safe_pure trivial

theorem safe_t19 (k0_t3 : Fin k0_t3_loop.trips) (arg26 : BitVec 32) (c0_i32_18 : BitVec 32) (c1_i32_20 : BitVec 32) (k0_t12 : Fin k0_t12_loop.trips) (k0_t15 : Fin k0_t15_loop.trips) (k0_t16 : Fin k0_t16_loop.trips) (arg32 : FVec F S8x128 .f32) (v109_0 : FVec F S8x128 .f32) (k) (a) : S (F := F) 10 (B19 k0_t3 arg26 c0_i32_18 c1_i32_20 k0_t12 k0_t15 k0_t16 arg32 v109_0 k a) (fun _ => True) := by
  unfold B19 k0_t19_body
  refine safe_load (Or.inl rfl) fun _ => ?_
  refine safe_load (Or.inl rfl) fun _ => ?_
  refine safe_load (Or.inl rfl) fun _ => ?_
  refine safe_store (Or.inl rfl) wr19 ?_
  exact safe_pure trivial

theorem safe_t16 (k0_t3 : Fin k0_t3_loop.trips) (arg26 : BitVec 32) (c0_i32_18 : BitVec 32) (c1_i32_20 : BitVec 32) (k0_t12 : Fin k0_t12_loop.trips) (k0_t15 : Fin k0_t15_loop.trips) (v83 : Vec F S1x8x128 .f32) (k) (a) : S (F := F) 10 (B16 k0_t3 arg26 c0_i32_18 c1_i32_20 k0_t12 k0_t15 v83 k a) (fun _ => True) := by
  unfold B16 k0_t16_body
  refine safe_seq (safe_for fun _ _ => safe_t17 ..) fun _ => ?_
  refine safe_seq (safe_for fun _ _ => safe_t19 ..) fun _ => ?_
  exact safe_pure trivial

theorem safe_t15 (k0_t3 : Fin k0_t3_loop.trips) (arg26 : BitVec 32) (c0_i32_18 : BitVec 32) (c1_i32_20 : BitVec 32) (k0_t12 : Fin k0_t12_loop.trips) (k) (a) : S (F := F) 10 (B15 k0_t3 arg26 c0_i32_18 c1_i32_20 k0_t12 k a) (fun _ => True) := by
  unfold B15 k0_t15_body
  refine safe_load (Or.inl rfl) fun _ => ?_
  refine safe_load (Or.inl rfl) fun _ => ?_
  refine safe_load (Or.inl rfl) fun _ => ?_
  refine safe_load (Or.inl rfl) fun _ => ?_
  refine safe_seq (safe_for fun _ _ => safe_t16 ..) fun _ => ?_
  refine safe_load (Or.inl rfl) fun _ => ?_
  refine safe_store (Or.inl rfl) wr21 ?_
  refine safe_load (Or.inl rfl) fun _ => ?_
  refine safe_store (Or.inl rfl) wr22 ?_
  refine safe_load (Or.inl rfl) fun _ => ?_
  refine safe_store (Or.inl rfl) wr23 ?_
  exact safe_pure trivial

theorem safe_t20 (k0_t3 : Fin k0_t3_loop.trips) (arg26 : BitVec 32) (c0_i32_18 : BitVec 32) (c1_i32_20 : BitVec 32) (k0_t12 : Fin k0_t12_loop.trips) (v22 : BitVec 32) (k0_hw2 : k0_chk2 k0_t12 v22) (k0_t13 : Fin (k0_t13_loop k0_t12 v22).trips) (k) (a) : S (F := F) 10 (B20 k0_t3 arg26 c0_i32_18 c1_i32_20 k0_t12 v22 k0_hw2 k0_t13 k a) (fun _ => True) := by
  unfold B20 k0_t20_body
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  refine safe_store (Or.inl rfl) wr20 ?_
  exact safe_pure trivial

theorem safe_t13 (k0_t3 : Fin k0_t3_loop.trips) (arg26 : BitVec 32) (c0_i32_18 : BitVec 32) (c1_i32_20 : BitVec 32) (k0_t12 : Fin k0_t12_loop.trips) (v22 : BitVec 32) (k0_hw2 : k0_chk2 k0_t12 v22) (k) (a) : S (F := F) 10 (B13 k0_t3 arg26 c0_i32_18 c1_i32_20 k0_t12 v22 k0_hw2 k a) (fun _ => True) := by
  unfold B13 k0_t13_body
  refine safe_seq (safe_for fun _ _ => safe_t14 ..) fun _ => ?_
  refine safe_load (Or.inl rfl) fun _ => ?_
  refine safe_load (Or.inl rfl) fun _ => ?_
  refine safe_load (Or.inl rfl) fun _ => ?_
  refine safe_store (Or.inl rfl) wr16 ?_
  refine safe_seq (safe_for fun _ _ => safe_t15 ..) fun _ => ?_
  refine safe_seq (safe_for fun _ _ => safe_t20 ..) fun _ => ?_
  exact safe_pure trivial

theorem safe_t22 (k0_t3 : Fin k0_t3_loop.trips) (arg26 : BitVec 32) (c0_i32_18 : BitVec 32) (c1_i32_20 : BitVec 32) (k0_t12 : Fin k0_t12_loop.trips) (v22 : BitVec 32) (k0_hw2 : k0_chk2 k0_t12 v22) (k0_t21 : Fin (k0_t21_loop k0_t12 v22).trips) (k) (a) : S (F := F) 10 (B22 k0_t3 arg26 c0_i32_18 c1_i32_20 k0_t12 v22 k0_hw2 k0_t21 k a) (fun _ => True) := by
  unfold B22 k0_t22_body
  refine safe_load (Or.inl rfl) fun _ => ?_
  refine safe_load (Or.inl rfl) fun _ => ?_
  refine safe_load (Or.inl rfl) fun _ => ?_
  refine safe_store (Or.inl rfl) wr17 ?_
  refine safe_load (Or.inl rfl) fun _ => ?_
  refine safe_store (Or.inl rfl) wr17 ?_
  refine safe_load (Or.inl rfl) fun _ => ?_
  refine safe_store (Or.inl rfl) wr17 ?_
  exact safe_pure trivial

theorem safe_t26 (k0_t3 : Fin k0_t3_loop.trips) (arg26 : BitVec 32) (c0_i32_18 : BitVec 32) (c1_i32_20 : BitVec 32) (k0_t12 : Fin k0_t12_loop.trips) (k0_t23 : Fin k0_t23_loop.trips) (v83 : Vec F S1x8x128 .f32) (k0_t24 : Fin k0_t24_loop.trips) (k0_t25 : Fin k0_t25_loop.trips) (k) (a) : S (F := F) 10 (B26 k0_t3 arg26 c0_i32_18 c1_i32_20 k0_t12 k0_t23 v83 k0_t24 k0_t25 k a) (fun _ => True) := by
  unfold B26 k0_t26_body
  refine safe_load (Or.inl rfl) fun _ => ?_
  refine safe_load (Or.inl rfl) fun _ => ?_
  refine safe_load (Or.inl rfl) fun _ => ?_
  refine safe_store (Or.inl rfl) wr18 ?_
  exact safe_pure trivial

theorem safe_t25 (k0_t3 : Fin k0_t3_loop.trips) (arg26 : BitVec 32) (c0_i32_18 : BitVec 32) (c1_i32_20 : BitVec 32) (k0_t12 : Fin k0_t12_loop.trips) (k0_t23 : Fin k0_t23_loop.trips) (v83 : Vec F S1x8x128 .f32) (k0_t24 : Fin k0_t24_loop.trips) (k) (a) : S (F := F) 10 (B25 k0_t3 arg26 c0_i32_18 c1_i32_20 k0_t12 k0_t23 v83 k0_t24 k a) (fun _ => True) := by
  unfold B25 k0_t25_body
  refine safe_seq (safe_for fun _ _ => safe_t26 ..) fun _ => ?_
  exact safe_pure trivial

theorem safe_t27 (k0_t3 : Fin k0_t3_loop.trips) (arg26 : BitVec 32) (c0_i32_18 : BitVec 32) (c1_i32_20 : BitVec 32) (k0_t12 : Fin k0_t12_loop.trips) (k0_t23 : Fin k0_t23_loop.trips) (k0_t24 : Fin k0_t24_loop.trips) (arg32 : FVec F S8x128 .f32) (v109_0 : FVec F S8x128 .f32) (k) (a) : S (F := F) 10 (B27 k0_t3 arg26 c0_i32_18 c1_i32_20 k0_t12 k0_t23 k0_t24 arg32 v109_0 k a) (fun _ => True) := by
  unfold B27 k0_t27_body
  refine safe_load (Or.inl rfl) fun _ => ?_
  refine safe_load (Or.inl rfl) fun _ => ?_
  refine safe_load (Or.inl rfl) fun _ => ?_
  refine safe_store (Or.inl rfl) wr19 ?_
  exact safe_pure trivial

theorem safe_t24 (k0_t3 : Fin k0_t3_loop.trips) (arg26 : BitVec 32) (c0_i32_18 : BitVec 32) (c1_i32_20 : BitVec 32) (k0_t12 : Fin k0_t12_loop.trips) (k0_t23 : Fin k0_t23_loop.trips) (v83 : Vec F S1x8x128 .f32) (k) (a) : S (F := F) 10 (B24 k0_t3 arg26 c0_i32_18 c1_i32_20 k0_t12 k0_t23 v83 k a) (fun _ => True) := by
  unfold B24 k0_t24_body
  refine safe_seq (safe_for fun _ _ => safe_t25 ..) fun _ => ?_
  refine safe_seq (safe_for fun _ _ => safe_t27 ..) fun _ => ?_
  exact safe_pure trivial

theorem safe_t23 (k0_t3 : Fin k0_t3_loop.trips) (arg26 : BitVec 32) (c0_i32_18 : BitVec 32) (c1_i32_20 : BitVec 32) (k0_t12 : Fin k0_t12_loop.trips) (k) (a) : S (F := F) 10 (B23 k0_t3 arg26 c0_i32_18 c1_i32_20 k0_t12 k a) (fun _ => True) := by
  unfold B23 k0_t23_body
  refine safe_load (Or.inl rfl) fun _ => ?_
  refine safe_load (Or.inl rfl) fun _ => ?_
  refine safe_load (Or.inl rfl) fun _ => ?_
  refine safe_load (Or.inl rfl) fun _ => ?_
  refine safe_seq (safe_for fun _ _ => safe_t24 ..) fun _ => ?_
  refine safe_load (Or.inl rfl) fun _ => ?_
  refine safe_store (Or.inl rfl) wr21 ?_
  refine safe_load (Or.inl rfl) fun _ => ?_
  refine safe_store (Or.inl rfl) wr22 ?_
  refine safe_load (Or.inl rfl) fun _ => ?_
  refine safe_store (Or.inl rfl) wr23 ?_
  exact safe_pure trivial

theorem safe_t28 (k0_t3 : Fin k0_t3_loop.trips) (arg26 : BitVec 32) (c0_i32_18 : BitVec 32) (c1_i32_20 : BitVec 32) (k0_t12 : Fin k0_t12_loop.trips) (v22 : BitVec 32) (k0_hw2 : k0_chk2 k0_t12 v22) (k0_t21 : Fin (k0_t21_loop k0_t12 v22).trips) (k) (a) : S (F := F) 10 (B28 k0_t3 arg26 c0_i32_18 c1_i32_20 k0_t12 v22 k0_hw2 k0_t21 k a) (fun _ => True) := by
  unfold B28 k0_t28_body
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  refine safe_store (Or.inl rfl) wr20 ?_
  exact safe_pure trivial

theorem safe_t21 (k0_t3 : Fin k0_t3_loop.trips) (arg26 : BitVec 32) (c0_i32_18 : BitVec 32) (c1_i32_20 : BitVec 32) (k0_t12 : Fin k0_t12_loop.trips) (v22 : BitVec 32) (k0_hw2 : k0_chk2 k0_t12 v22) (k) (a) : S (F := F) 10 (B21 k0_t3 arg26 c0_i32_18 c1_i32_20 k0_t12 v22 k0_hw2 k a) (fun _ => True) := by
  unfold B21 k0_t21_body
  refine safe_seq (safe_for fun _ _ => safe_t22 ..) fun _ => ?_
  refine safe_load (Or.inl rfl) fun _ => ?_
  refine safe_load (Or.inl rfl) fun _ => ?_
  refine safe_load (Or.inl rfl) fun _ => ?_
  refine safe_store (Or.inl rfl) wr16 ?_
  refine safe_seq (safe_for fun _ _ => safe_t23 ..) fun _ => ?_
  refine safe_seq (safe_for fun _ _ => safe_t28 ..) fun _ => ?_
  exact safe_pure trivial

theorem safe_t30 (k0_t3 : Fin k0_t3_loop.trips) (arg26 : BitVec 32) (c0_i32_18 : BitVec 32) (c1_i32_20 : BitVec 32) (k0_t12 : Fin k0_t12_loop.trips) (k0_t29 : Fin k0_t29_loop.trips) (k) (a) : S (F := F) 10 (B30 k0_t3 arg26 c0_i32_18 c1_i32_20 k0_t12 k0_t29 k a) (fun _ => True) := by
  unfold B30 k0_t30_body
  refine safe_load (Or.inl rfl) fun _ => ?_
  refine safe_smem (Or.inr rfl) fun _ => ?_
  refine safe_load (Or.inl rfl) fun _ => ?_
  refine safe_store (Or.inl rfl) wr8 ?_
  exact safe_pure trivial

theorem safe_t29 (k0_t3 : Fin k0_t3_loop.trips) (arg26 : BitVec 32) (c0_i32_18 : BitVec 32) (c1_i32_20 : BitVec 32) (k0_t12 : Fin k0_t12_loop.trips) (k) (a) : S (F := F) 10 (B29 k0_t3 arg26 c0_i32_18 c1_i32_20 k0_t12 k a) (fun _ => True) := by
  unfold B29 k0_t29_body
  refine safe_seq (safe_for fun _ _ => safe_t30 ..) fun _ => ?_
  exact safe_pure trivial

theorem safe_p1 (k0_t3 : Fin k0_t3_loop.trips) (arg26 : BitVec 32)  (k0_t12 : Fin k0_t12_loop.trips) : S (F := F) 10 (P1 k0_t3 arg26 0#32 1#32 k0_t12) (fun _ => True) := by
  unfold P1; rw [k0_part1_eq_skeleton]; unfold k0_part1_skel
  refine safe_smem (Or.inr rfl) fun _ => ?_
  refine ⟨⟨Or.inr rfl, iv_le _⟩, lt_of_le_of_lt (iv_le _) (lt_of_lt_of_le k0_t12.2 (by decide)), fun r hr => ?_⟩
  refine safe_assume (chk2_of _ hr) ?_
  refine safe_load (Or.inl rfl) fun _ => ?_
  refine safe_store (Or.inl rfl) wr21 ?_
  refine safe_load (Or.inl rfl) fun _ => ?_
  refine safe_store (Or.inl rfl) wr22 ?_
  refine safe_load (Or.inl rfl) fun _ => ?_
  refine safe_store (Or.inl rfl) wr20 ?_
  refine safe_seq (safe_for fun _ _ => safe_t13 ..) fun _ => ?_
  refine safe_seq (safe_for fun _ _ => safe_t21 ..) fun _ => ?_
  refine safe_seq (safe_for fun _ _ => safe_t29 ..) fun _ => ?_
  exact safe_pure trivial

theorem safe_p2 (k0_t44 : Fin k0_t44_loop.trips) (k0_t45 : Fin k0_t45_loop.trips) (k0_t46 : Fin k0_t46_loop.trips) (v84 : BitVec 32) (v85 : BitVec 32) (v86 : BitVec 32) (c0_i32_90 : BitVec 32) (c1_i32_92 : BitVec 32) (k0_t47 : Fin k0_t47_loop.trips) : S (F := F) 10 (P2 k0_t44 k0_t45 k0_t46 v84 v85 v86 c0_i32_90 c1_i32_92 k0_t47) (fun _ => True) := by
  unfold P2; rw [k0_part2_eq_skeleton]; unfold k0_part2_skel
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  exact safe_pure trivial

theorem safe_p3 (k0_t44 : Fin k0_t44_loop.trips) (k0_t45 : Fin k0_t45_loop.trips) (k0_t46 : Fin k0_t46_loop.trips) (v84 : BitVec 32) (v85 : BitVec 32) (v86 : BitVec 32) (k0_t47 : Fin k0_t47_loop.trips) (arg32 : BitVec 32) (v90 : FVec F S8x128 .f32) (v93 : FVec F S8x128 .f32) (v96 : FVec F S8x128 .f32) (v116 : FVec F S8x128 .f32) (v118 : FVec F S8x128 .f32) (v122 : FVec F S8x128 .f32) (v124 : FVec F S8x128 .f32) (v126 : FVec F S8x128 .f32) : S (F := F) 10 (P3 k0_t44 k0_t45 k0_t46 v84 v85 v86 k0_t47 arg32 v90 v93 v96 v116 v118 v122 v124 v126) (fun _ => True) := by
  unfold P3; rw [k0_part3_eq_skeleton]; unfold k0_part3_skel
  refine safe_load (Or.inl rfl) fun _ => ?_
  refine safe_load (Or.inl rfl) fun _ => ?_
  exact safe_pure trivial

theorem safe_p4 (k0_t44 : Fin k0_t44_loop.trips) (k0_t45 : Fin k0_t45_loop.trips) (k0_t46 : Fin k0_t46_loop.trips) (v84 : BitVec 32) (v85 : BitVec 32) (v86 : BitVec 32) (k0_t47 : Fin k0_t47_loop.trips) (arg32 : BitVec 32) (v142 : FVec F S8x128 .f32) (v143 : FVec F S8x128 .f32) (v144 : FVec F S8x128 .f32) (v164 : FVec F S8x128 .f32) (v166 : FVec F S8x128 .f32) (v170 : FVec F S8x128 .f32) : S (F := F) 10 (P4 k0_t44 k0_t45 k0_t46 v84 v85 v86 k0_t47 arg32 v142 v143 v144 v164 v166 v170) (fun _ => True) := by
  unfold P4; rw [k0_part4_eq_skeleton]; unfold k0_part4_skel
  refine safe_load (Or.inl rfl) fun _ => ?_
  refine safe_store (Or.inl rfl) wr19 ?_
  refine safe_load (Or.inl rfl) fun _ => ?_
  refine safe_store (Or.inl rfl) wr21 ?_
  exact safe_pure trivial

theorem safe_p5 (k0_t51 : Fin k0_t51_loop.trips) (k0_t52 : Fin k0_t52_loop.trips) (k0_t53 : Fin k0_t53_loop.trips) (v84 : BitVec 32) (v85 : BitVec 32) (v86 : BitVec 32) (c0_i32_90 : BitVec 32) (c1_i32_92 : BitVec 32) (k0_t54 : Fin k0_t54_loop.trips) : S (F := F) 10 (P5 k0_t51 k0_t52 k0_t53 v84 v85 v86 c0_i32_90 c1_i32_92 k0_t54) (fun _ => True) := by
  unfold P5; rw [k0_part5_eq_skeleton]; unfold k0_part5_skel
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  exact safe_pure trivial

theorem safe_p6 (k0_t51 : Fin k0_t51_loop.trips) (k0_t52 : Fin k0_t52_loop.trips) (k0_t53 : Fin k0_t53_loop.trips) (v84 : BitVec 32) (v85 : BitVec 32) (v86 : BitVec 32) (k0_t54 : Fin k0_t54_loop.trips) (arg32 : BitVec 32) (v90 : FVec F S8x128 .f32) (v93 : FVec F S8x128 .f32) (v96 : FVec F S8x128 .f32) (v116 : FVec F S8x128 .f32) (v118 : FVec F S8x128 .f32) (v122 : FVec F S8x128 .f32) (v124 : FVec F S8x128 .f32) (v126 : FVec F S8x128 .f32) : S (F := F) 10 (P6 k0_t51 k0_t52 k0_t53 v84 v85 v86 k0_t54 arg32 v90 v93 v96 v116 v118 v122 v124 v126) (fun _ => True) := by
  unfold P6; rw [k0_part6_eq_skeleton]; unfold k0_part6_skel
  refine safe_load (Or.inl rfl) fun _ => ?_
  refine safe_load (Or.inl rfl) fun _ => ?_
  exact safe_pure trivial

theorem safe_p7 (k0_t51 : Fin k0_t51_loop.trips) (k0_t52 : Fin k0_t52_loop.trips) (k0_t53 : Fin k0_t53_loop.trips) (v84 : BitVec 32) (v85 : BitVec 32) (v86 : BitVec 32) (k0_t54 : Fin k0_t54_loop.trips) (arg32 : BitVec 32) (v142 : FVec F S8x128 .f32) (v143 : FVec F S8x128 .f32) (v144 : FVec F S8x128 .f32) (v164 : FVec F S8x128 .f32) (v166 : FVec F S8x128 .f32) (v170 : FVec F S8x128 .f32) : S (F := F) 10 (P7 k0_t51 k0_t52 k0_t53 v84 v85 v86 k0_t54 arg32 v142 v143 v144 v164 v166 v170) (fun _ => True) := by
  unfold P7; rw [k0_part7_eq_skeleton]; unfold k0_part7_skel
  refine safe_load (Or.inl rfl) fun _ => ?_
  refine safe_store (Or.inl rfl) wr19 ?_
  refine safe_load (Or.inl rfl) fun _ => ?_
  refine safe_store (Or.inl rfl) wr21 ?_
  exact safe_pure trivial

theorem safe_t43 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (v23 : BitVec 32) (k0_hw4 : k0_chk4 v12 k0_t41 v23) (k0_t42 : Fin (k0_t42_loop k0_t41 v23).trips) (k) (a) : S (F := F) 10 (B43 v12 k0_h1 k0_t32 arg26 c0_i32_22 c1_i32_24 k0_t41 v23 k0_hw4 k0_t42 k a) (fun _ => True) := by
  unfold B43 k0_t43_body
  refine safe_load (Or.inl rfl) fun _ => ?_
  refine safe_load (Or.inl rfl) fun _ => ?_
  refine safe_load (Or.inl rfl) fun _ => ?_
  refine safe_store (Or.inl rfl) wr17 ?_
  refine safe_load (Or.inl rfl) fun _ => ?_
  refine safe_store (Or.inl rfl) wr17 ?_
  refine safe_load (Or.inl rfl) fun _ => ?_
  refine safe_store (Or.inl rfl) wr17 ?_
  exact safe_pure trivial

theorem safe_t47 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k0_t44 : Fin k0_t44_loop.trips) (k0_t45 : Fin k0_t45_loop.trips) (k0_t46 : Fin k0_t46_loop.trips) (v84 : BitVec 32) (v85 : BitVec 32) (v86 : BitVec 32) (k) (a) : S (F := F) 10 (B47 v12 k0_h1 k0_t32 arg26 c0_i32_22 c1_i32_24 k0_t41 k0_t44 k0_t45 k0_t46 v84 v85 v86 k a) (fun _ => True) := by
  unfold B47 k0_t47_body
  refine safe_seq (safe_p2 ..) ?_
  rintro ⟨_, _, _, _, _, _, _, _, _⟩
  refine safe_seq (safe_p3 ..) ?_
  rintro ⟨_, _, _, _, _, _⟩
  refine safe_seq (safe_p4 ..) fun _ => ?_
  refine safe_load (Or.inl rfl) fun _ => ?_
  refine safe_store (Or.inl rfl) wr22 ?_
  exact safe_pure trivial

theorem safe_t46 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k0_t44 : Fin k0_t44_loop.trips) (arg29 : BitVec 32) (k0_t45 : Fin k0_t45_loop.trips) (arg30 : BitVec 32) (k) (a) : S (F := F) 10 (B46 v12 k0_h1 k0_t32 arg26 c0_i32_22 c1_i32_24 k0_t41 k0_t44 arg29 k0_t45 arg30 k a) (fun _ => True) := by
  unfold B46 k0_t46_body
  refine safe_seq (safe_for fun _ _ => safe_t47 ..) fun _ => ?_
  exact safe_pure trivial

theorem safe_t45 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k0_t44 : Fin k0_t44_loop.trips) (arg29 : BitVec 32) (k) (a) : S (F := F) 10 (B45 v12 k0_h1 k0_t32 arg26 c0_i32_22 c1_i32_24 k0_t41 k0_t44 arg29 k a) (fun _ => True) := by
  unfold B45 k0_t45_body
  refine safe_seq (safe_for fun _ _ => safe_t46 ..) fun _ => ?_
  exact safe_pure trivial

theorem safe_t44 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k) (a) : S (F := F) 10 (B44 v12 k0_h1 k0_t32 arg26 c0_i32_22 c1_i32_24 k0_t41 k a) (fun _ => True) := by
  unfold B44 k0_t44_body
  refine safe_seq (safe_for fun _ _ => safe_t45 ..) fun _ => ?_
  exact safe_pure trivial

theorem safe_t48 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (v23 : BitVec 32) (k0_hw4 : k0_chk4 v12 k0_t41 v23) (k0_t42 : Fin (k0_t42_loop k0_t41 v23).trips) (k) (a) : S (F := F) 10 (B48 v12 k0_h1 k0_t32 arg26 c0_i32_22 c1_i32_24 k0_t41 v23 k0_hw4 k0_t42 k a) (fun _ => True) := by
  unfold B48 k0_t48_body
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  refine safe_store (Or.inl rfl) wr20 ?_
  exact safe_pure trivial

theorem safe_t42 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (v23 : BitVec 32) (k0_hw4 : k0_chk4 v12 k0_t41 v23) (k) (a) : S (F := F) 10 (B42 v12 k0_h1 k0_t32 arg26 c0_i32_22 c1_i32_24 k0_t41 v23 k0_hw4 k a) (fun _ => True) := by
  unfold B42 k0_t42_body
  refine safe_seq (safe_for fun _ _ => safe_t43 ..) fun _ => ?_
  refine safe_load (Or.inl rfl) fun _ => ?_
  refine safe_load (Or.inl rfl) fun _ => ?_
  refine safe_load (Or.inl rfl) fun _ => ?_
  refine safe_store (Or.inl rfl) wr16 ?_
  refine safe_seq (safe_for fun _ _ => safe_t44 ..) fun _ => ?_
  refine safe_seq (safe_for fun _ _ => safe_t48 ..) fun _ => ?_
  exact safe_pure trivial

theorem safe_t50 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (v23 : BitVec 32) (k0_hw4 : k0_chk4 v12 k0_t41 v23) (k0_t49 : Fin (k0_t49_loop k0_t41 v23).trips) (k) (a) : S (F := F) 10 (B50 v12 k0_h1 k0_t32 arg26 c0_i32_22 c1_i32_24 k0_t41 v23 k0_hw4 k0_t49 k a) (fun _ => True) := by
  unfold B50 k0_t50_body
  refine safe_load (Or.inl rfl) fun _ => ?_
  refine safe_load (Or.inl rfl) fun _ => ?_
  refine safe_load (Or.inl rfl) fun _ => ?_
  refine safe_store (Or.inl rfl) wr17 ?_
  refine safe_load (Or.inl rfl) fun _ => ?_
  refine safe_store (Or.inl rfl) wr17 ?_
  refine safe_load (Or.inl rfl) fun _ => ?_
  refine safe_store (Or.inl rfl) wr17 ?_
  exact safe_pure trivial

theorem safe_t54 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k0_t51 : Fin k0_t51_loop.trips) (k0_t52 : Fin k0_t52_loop.trips) (k0_t53 : Fin k0_t53_loop.trips) (v84 : BitVec 32) (v85 : BitVec 32) (v86 : BitVec 32) (k) (a) : S (F := F) 10 (B54 v12 k0_h1 k0_t32 arg26 c0_i32_22 c1_i32_24 k0_t41 k0_t51 k0_t52 k0_t53 v84 v85 v86 k a) (fun _ => True) := by
  unfold B54 k0_t54_body
  refine safe_seq (safe_p5 ..) ?_
  rintro ⟨_, _, _, _, _, _, _, _, _⟩
  refine safe_seq (safe_p6 ..) ?_
  rintro ⟨_, _, _, _, _, _⟩
  refine safe_seq (safe_p7 ..) fun _ => ?_
  refine safe_load (Or.inl rfl) fun _ => ?_
  refine safe_store (Or.inl rfl) wr22 ?_
  exact safe_pure trivial

theorem safe_t53 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k0_t51 : Fin k0_t51_loop.trips) (arg29 : BitVec 32) (k0_t52 : Fin k0_t52_loop.trips) (arg30 : BitVec 32) (k) (a) : S (F := F) 10 (B53 v12 k0_h1 k0_t32 arg26 c0_i32_22 c1_i32_24 k0_t41 k0_t51 arg29 k0_t52 arg30 k a) (fun _ => True) := by
  unfold B53 k0_t53_body
  refine safe_seq (safe_for fun _ _ => safe_t54 ..) fun _ => ?_
  exact safe_pure trivial

theorem safe_t52 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k0_t51 : Fin k0_t51_loop.trips) (arg29 : BitVec 32) (k) (a) : S (F := F) 10 (B52 v12 k0_h1 k0_t32 arg26 c0_i32_22 c1_i32_24 k0_t41 k0_t51 arg29 k a) (fun _ => True) := by
  unfold B52 k0_t52_body
  refine safe_seq (safe_for fun _ _ => safe_t53 ..) fun _ => ?_
  exact safe_pure trivial

theorem safe_t51 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k) (a) : S (F := F) 10 (B51 v12 k0_h1 k0_t32 arg26 c0_i32_22 c1_i32_24 k0_t41 k a) (fun _ => True) := by
  unfold B51 k0_t51_body
  refine safe_seq (safe_for fun _ _ => safe_t52 ..) fun _ => ?_
  exact safe_pure trivial

theorem safe_t55 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (v23 : BitVec 32) (k0_hw4 : k0_chk4 v12 k0_t41 v23) (k0_t49 : Fin (k0_t49_loop k0_t41 v23).trips) (k) (a) : S (F := F) 10 (B55 v12 k0_h1 k0_t32 arg26 c0_i32_22 c1_i32_24 k0_t41 v23 k0_hw4 k0_t49 k a) (fun _ => True) := by
  unfold B55 k0_t55_body
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  refine safe_load (Or.inl rfl) fun _ => ?_
  refine safe_store (Or.inl rfl) wr20 ?_
  exact safe_pure trivial

theorem safe_t49 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (v23 : BitVec 32) (k0_hw4 : k0_chk4 v12 k0_t41 v23) (k) (a) : S (F := F) 10 (B49 v12 k0_h1 k0_t32 arg26 c0_i32_22 c1_i32_24 k0_t41 v23 k0_hw4 k a) (fun _ => True) := by
  unfold B49 k0_t49_body
  refine safe_seq (safe_for fun _ _ => safe_t50 ..) fun _ => ?_
  refine safe_load (Or.inl rfl) fun _ => ?_
  refine safe_load (Or.inl rfl) fun _ => ?_
  refine safe_load (Or.inl rfl) fun _ => ?_
  refine safe_store (Or.inl rfl) wr16 ?_
  refine safe_seq (safe_for fun _ _ => safe_t51 ..) fun _ => ?_
  refine safe_seq (safe_for fun _ _ => safe_t55 ..) fun _ => ?_
  exact safe_pure trivial

theorem safe_t57 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k0_t56 : Fin k0_t56_loop.trips) (k) (a) : S (F := F) 10 (B57 v12 k0_h1 k0_t32 arg26 c0_i32_22 c1_i32_24 k0_t41 k0_t56 k a) (fun _ => True) := by
  unfold B57 k0_t57_body
  refine safe_load (Or.inl rfl) fun _ => ?_
  refine safe_smem (Or.inr rfl) fun _ => ?_
  refine safe_load (Or.inl rfl) fun _ => ?_
  refine safe_store (Or.inl rfl) wr8 ?_
  exact safe_pure trivial

theorem safe_t56 (v12 : BitVec 1) (k0_h1 : k0_cond1 v12 = 1#1) (k0_t32 : Fin k0_t32_loop.trips) (arg26 : BitVec 32) (c0_i32_22 : BitVec 32) (c1_i32_24 : BitVec 32) (k0_t41 : Fin k0_t41_loop.trips) (k) (a) : S (F := F) 10 (B56 v12 k0_h1 k0_t32 arg26 c0_i32_22 c1_i32_24 k0_t41 k a) (fun _ => True) := by
  unfold B56 k0_t56_body
  refine safe_seq (safe_for fun _ _ => safe_t57 ..) fun _ => ?_
  exact safe_pure trivial

theorem safe_p8 (v12 : BitVec 1) (k0_h1 : k0_cond1 v12 = 1#1) (k0_t32 : Fin k0_t32_loop.trips) (arg26 : BitVec 32)  (k0_t41 : Fin k0_t41_loop.trips) : S (F := F) 10 (P8 v12 k0_h1 k0_t32 arg26 0#32 1#32 k0_t41) (fun _ => True) := by
  unfold P8; rw [k0_part8_eq_skeleton]; unfold k0_part8_skel
  refine safe_smem (Or.inr rfl) fun _ => ?_
  refine ⟨⟨Or.inr rfl, iv_le' _⟩, lt_of_le_of_lt (iv_le' _) (lt_of_lt_of_le k0_t41.2 (by decide)), fun r hr => ?_⟩
  refine safe_assume (chk4_of _ _ hr) ?_
  refine safe_load (Or.inl rfl) fun _ => ?_
  refine safe_store (Or.inl rfl) wr21 ?_
  refine safe_load (Or.inl rfl) fun _ => ?_
  refine safe_store (Or.inl rfl) wr22 ?_
  refine safe_load (Or.inl rfl) fun _ => ?_
  refine safe_store (Or.inl rfl) wr20 ?_
  refine safe_seq (safe_for fun _ _ => safe_t42 ..) fun _ => ?_
  refine safe_seq (safe_for fun _ _ => safe_t49 ..) fun _ => ?_
  refine safe_seq (safe_for fun _ _ => safe_t56 ..) fun _ => ?_
  exact safe_pure trivial

theorem safe_t2 (k0_t1 : Fin k0_t1_loop.trips) (k) (a) : S (F := F) 10 (B2 k0_t1 k a) (fun _ => True) := by
  unfold B2 k0_t2_body
  refine safe_load (Or.inl rfl) fun _ => ?_
  refine safe_load (Or.inl rfl) fun _ => ?_
  refine safe_store (Or.inl rfl) wr25 ?_
  exact safe_pure trivial

theorem safe_t1  (k) (a) : S (F := F) 10 (B1  k a) (fun _ => True) := by
  unfold B1 k0_t1_body
  refine safe_seq (safe_for fun _ _ => safe_t2 ..) fun _ => ?_
  exact safe_pure trivial

theorem safe_t5 (k0_t3 : Fin k0_t3_loop.trips) (k0_t4 : Fin k0_t4_loop.trips) (k) (a) : S (F := F) 10 (B5 k0_t3 k0_t4 k a) (fun _ => True) := by
  unfold B5 k0_t5_body
  refine safe_smem (Or.inr rfl) fun _ => ?_
  refine safe_smem (Or.inr rfl) fun _ => ?_
  exact safe_pure trivial

theorem safe_t4 (k0_t3 : Fin k0_t3_loop.trips) (k) (a) : S (F := F) 10 (B4 k0_t3 k a) (fun _ => True) := by
  unfold B4 k0_t4_body
  refine safe_seq (safe_for fun _ _ => safe_t5 ..) fun _ => ?_
  refine safe_load (Or.inl rfl) fun _ => ?_
  refine safe_store (Or.inl rfl) wr15 ?_
  exact safe_pure trivial

theorem safe_t8 (k0_t3 : Fin k0_t3_loop.trips) (k0_t6 : Fin k0_t6_loop.trips) (k0_t7 : Fin k0_t7_loop.trips) (k) (a) : S (F := F) 10 (B8 k0_t3 k0_t6 k0_t7 k a) (fun _ => True) := by
  unfold B8 k0_t8_body
  refine safe_load (Or.inl rfl) fun _ => ?_
  refine safe_load (Or.inl rfl) fun _ => ?_
  refine safe_store (Or.inl rfl) wr10 ?_
  exact safe_pure trivial

theorem safe_t7 (k0_t3 : Fin k0_t3_loop.trips) (k0_t6 : Fin k0_t6_loop.trips) (k) (a) : S (F := F) 10 (B7 k0_t3 k0_t6 k a) (fun _ => True) := by
  unfold B7 k0_t7_body
  refine safe_seq (safe_for fun _ _ => safe_t8 ..) fun _ => ?_
  exact safe_pure trivial

theorem safe_t9 (k0_t3 : Fin k0_t3_loop.trips) (k0_t6 : Fin k0_t6_loop.trips) (k) (a) : S (F := F) 10 (B9 k0_t3 k0_t6 k a) (fun _ => True) := by
  unfold B9 k0_t9_body
  refine safe_load (Or.inl rfl) fun _ => ?_
  refine safe_load (Or.inl rfl) fun _ => ?_
  refine safe_store (Or.inl rfl) wr12 ?_
  exact safe_pure trivial

theorem safe_t11 (k0_t3 : Fin k0_t3_loop.trips) (k0_t6 : Fin k0_t6_loop.trips) (k0_t10 : Fin k0_t10_loop.trips) (k) (a) : S (F := F) 10 (B11 k0_t3 k0_t6 k0_t10 k a) (fun _ => True) := by
  unfold B11 k0_t11_body
  refine safe_load (Or.inl rfl) fun _ => ?_
  refine safe_load (Or.inl rfl) fun _ => ?_
  refine safe_store (Or.inl rfl) wr11 ?_
  exact safe_pure trivial

theorem safe_t10 (k0_t3 : Fin k0_t3_loop.trips) (k0_t6 : Fin k0_t6_loop.trips) (k) (a) : S (F := F) 10 (B10 k0_t3 k0_t6 k a) (fun _ => True) := by
  unfold B10 k0_t10_body
  refine safe_seq (safe_for fun _ _ => safe_t11 ..) fun _ => ?_
  exact safe_pure trivial

theorem safe_t6 (k0_t3 : Fin k0_t3_loop.trips) (k) (a) : S (F := F) 10 (B6 k0_t3 k a) (fun _ => True) := by
  unfold B6 k0_t6_body
  refine safe_seq (safe_for fun _ _ => safe_t7 ..) fun _ => ?_
  refine safe_seq (safe_for fun _ _ => safe_t9 ..) fun _ => ?_
  refine safe_seq (safe_for fun _ _ => safe_t10 ..) fun _ => ?_
  refine safe_load (Or.inl rfl) fun _ => ?_
  refine safe_load (Or.inl rfl) fun _ => ?_
  refine safe_store (Or.inl rfl) wr14 ?_
  exact safe_pure trivial

theorem safe_t31  (k) (a) : S (F := F) 10 (B31  k a) (fun _ => True) := by
  unfold B31 k0_t31_body
  refine safe_load (Or.inl rfl) fun _ => ?_
  refine safe_load (Or.inl rfl) fun _ => ?_
  refine safe_store (Or.inl rfl) wr24 ?_
  exact safe_pure trivial

theorem safe_t12 (k0_t3 : Fin k0_t3_loop.trips) (arg26 : BitVec 32) (k) (a) : S (F := F) 10 (B12 k0_t3 arg26 k a) (fun _ => True) := by
  unfold B12 k0_t12_body
  refine safe_seq (safe_p1 ..) ?_
  rintro ⟨_, _⟩
  refine safe_seq (safe_for fun _ _ => safe_t31 ..) fun _ => ?_
  refine safe_load (Or.inl rfl) fun _ => ?_
  refine safe_load (Or.inl rfl) fun _ => ?_
  refine safe_store (Or.inl rfl) wr9 ?_
  exact safe_pure trivial

theorem safe_t3  (k) (a) : S (F := F) 10 (B3  k a) (fun _ => True) := by
  unfold B3 k0_t3_body
  refine safe_seq (safe_for fun _ _ => safe_t4 ..) fun _ => ?_
  refine safe_seq (safe_for fun _ _ => safe_t6 ..) fun _ => ?_
  refine safe_seq (safe_for fun _ _ => safe_t12 ..) fun _ => ?_
  exact safe_pure trivial

theorem safe_t34 (k0_t32 : Fin k0_t32_loop.trips) (k0_t33 : Fin k0_t33_loop.trips) (k) (a) : S (F := F) 10 (B34 k0_t32 k0_t33 k a) (fun _ => True) := by
  unfold B34 k0_t34_body
  refine safe_smem (Or.inr rfl) fun _ => ?_
  refine safe_smem (Or.inr rfl) fun _ => ?_
  exact safe_pure trivial

theorem safe_t33 (k0_t32 : Fin k0_t32_loop.trips) (k) (a) : S (F := F) 10 (B33 k0_t32 k a) (fun _ => True) := by
  unfold B33 k0_t33_body
  refine safe_seq (safe_for fun _ _ => safe_t34 ..) fun _ => ?_
  refine safe_load (Or.inl rfl) fun _ => ?_
  refine safe_store (Or.inl rfl) wr15 ?_
  exact safe_pure trivial

theorem safe_t37 (k0_t32 : Fin k0_t32_loop.trips) (k0_t35 : Fin k0_t35_loop.trips) (k0_t36 : Fin k0_t36_loop.trips) (k) (a) : S (F := F) 10 (B37 k0_t32 k0_t35 k0_t36 k a) (fun _ => True) := by
  unfold B37 k0_t37_body
  refine safe_load (Or.inl rfl) fun _ => ?_
  refine safe_load (Or.inl rfl) fun _ => ?_
  refine safe_store (Or.inl rfl) wr10 ?_
  exact safe_pure trivial

theorem safe_t36 (k0_t32 : Fin k0_t32_loop.trips) (k0_t35 : Fin k0_t35_loop.trips) (k) (a) : S (F := F) 10 (B36 k0_t32 k0_t35 k a) (fun _ => True) := by
  unfold B36 k0_t36_body
  refine safe_seq (safe_for fun _ _ => safe_t37 ..) fun _ => ?_
  exact safe_pure trivial

theorem safe_t38 (k0_t32 : Fin k0_t32_loop.trips) (k0_t35 : Fin k0_t35_loop.trips) (k) (a) : S (F := F) 10 (B38 k0_t32 k0_t35 k a) (fun _ => True) := by
  unfold B38 k0_t38_body
  refine safe_load (Or.inl rfl) fun _ => ?_
  refine safe_load (Or.inl rfl) fun _ => ?_
  refine safe_store (Or.inl rfl) wr12 ?_
  exact safe_pure trivial

theorem safe_t40 (k0_t32 : Fin k0_t32_loop.trips) (k0_t35 : Fin k0_t35_loop.trips) (k0_t39 : Fin k0_t39_loop.trips) (k) (a) : S (F := F) 10 (B40 k0_t32 k0_t35 k0_t39 k a) (fun _ => True) := by
  unfold B40 k0_t40_body
  refine safe_load (Or.inl rfl) fun _ => ?_
  refine safe_load (Or.inl rfl) fun _ => ?_
  refine safe_store (Or.inl rfl) wr11 ?_
  exact safe_pure trivial

theorem safe_t39 (k0_t32 : Fin k0_t32_loop.trips) (k0_t35 : Fin k0_t35_loop.trips) (k) (a) : S (F := F) 10 (B39 k0_t32 k0_t35 k a) (fun _ => True) := by
  unfold B39 k0_t39_body
  refine safe_seq (safe_for fun _ _ => safe_t40 ..) fun _ => ?_
  exact safe_pure trivial

theorem safe_t35 (k0_t32 : Fin k0_t32_loop.trips) (k) (a) : S (F := F) 10 (B35 k0_t32 k a) (fun _ => True) := by
  unfold B35 k0_t35_body
  refine safe_seq (safe_for fun _ _ => safe_t36 ..) fun _ => ?_
  refine safe_seq (safe_for fun _ _ => safe_t38 ..) fun _ => ?_
  refine safe_seq (safe_for fun _ _ => safe_t39 ..) fun _ => ?_
  refine safe_load (Or.inl rfl) fun _ => ?_
  refine safe_load (Or.inl rfl) fun _ => ?_
  refine safe_store (Or.inl rfl) wr14 ?_
  exact safe_pure trivial

theorem safe_t58  (k) (a) : S (F := F) 10 (B58  k a) (fun _ => True) := by
  unfold B58 k0_t58_body
  refine safe_load (Or.inl rfl) fun _ => ?_
  refine safe_load (Or.inl rfl) fun _ => ?_
  refine safe_store (Or.inl rfl) wr24 ?_
  exact safe_pure trivial

theorem safe_t41 (v12 : BitVec 1) (k0_h1 : k0_cond1 v12 = 1#1) (k0_t32 : Fin k0_t32_loop.trips) (arg26 : BitVec 32) (k) (a) : S (F := F) 10 (B41 v12 k0_h1 k0_t32 arg26 k a) (fun _ => True) := by
  unfold B41 k0_t41_body
  refine safe_seq (safe_p8 ..) ?_
  rintro ⟨_, _⟩
  refine safe_seq (safe_for fun _ _ => safe_t58 ..) fun _ => ?_
  refine safe_load (Or.inl rfl) fun _ => ?_
  refine safe_load (Or.inl rfl) fun _ => ?_
  refine safe_store (Or.inl rfl) wr9 ?_
  exact safe_pure trivial

theorem safe_t32 (v12 : BitVec 1) (k0_h1 : k0_cond1 v12 = 1#1) (k) (a) : S (F := F) 10 (B32 v12 k0_h1 k a) (fun _ => True) := by
  unfold B32 k0_t32_body
  refine safe_seq (safe_for fun _ _ => safe_t33 ..) fun _ => ?_
  refine safe_seq (safe_for fun _ _ => safe_t35 ..) fun _ => ?_
  refine safe_seq (safe_for fun _ _ => safe_t41 ..) fun _ => ?_
  exact safe_pure trivial

theorem safe_body : S (F := F) 10 Body (fun _ => True) := by
  unfold Body; rw [cc0_stick_breaking_eq_skeleton]; unfold cc0_stick_breaking_skel
  refine safe_load (Or.inl rfl) fun _ => safe_store (Or.inl rfl) wr23 ?_
  refine safe_seq (safe_for fun _ _ => safe_t1 ..) fun _ => ?_
  refine safe_seq (safe_for fun _ _ => safe_t3 ..) fun _ => ?_
  refine safe_load (Or.inl rfl) fun _ => ?_
  refine safe_dite (fun _ => ?_) fun _ => safe_pure trivial
  exact safe_seq (safe_for fun _ _ => safe_t32 ..) fun _ => safe_pure trivial

end Cert.KernelIdeal.Hand

end
-- ==== Proof.LaunchKernelIdeal.lean ====
/-
  The launch: the kernel body, proved on its buffers, gives the run of the program; the frame is read off it.
-/
module

public import proofs.«01_k».proof.Proof.Gen.KernelIdeal.Launch
public import proofs.«01_k».proof.Proof.SafeKernelIdeal
public import proofs.«01_k».proof.Proof.Own
public import Idealize.ShloMosaic.Lib.Pipeline.FrameBody
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Seq

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_region (cfgs (F := F)) 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfg0 (F := F)) c) (hA : dat.A 4 = V m c (Pipeline.arrRef spec0 4))
    (hafter : ∀ t, dat.after 4 t = iblk m c 4 t) (t : Fin (cfg0 (F := F)).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ (cfg0 (F := F)) c) (hA : dat.A 5 = V m c (Pipeline.arrRef spec0 5))
    (hafter : ∀ t, dat.after 5 t = iblk m c 5 t) (t : Fin (cfg0 (F := F)).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ (cfg0 (F := F)) c) (hA : dat.A 6 = V m c (Pipeline.arrRef spec0 6))
    (hafter : ∀ t, dat.after 6 t = iblk m c 6 t) (t : Fin (cfg0 (F := F)).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ (cfg0 (F := F)) c) (hA : dat.A 7 = V m c (Pipeline.arrRef spec0 7))
    (hafter : ∀ t, dat.after 7 t = iblk m c 7 t) (t : Fin (cfg0 (F := F)).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ ((cfgs (F := F)) 0) c)
    (hA : ∀ c w, (rdat c).A w = V m c (Pipeline.arrRef spec0 w))
    (h : θ_run defs (onTc (τ := τ) (main (F := F))) (s₀ m ρ) (Pipeline.RDat.FramePost ((cfgs (F := F)) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 4 rfl).trans ((hA c 4).trans (V_main_arg0 m c)),
      (Pipeline.RDat.FramePost.arr_in h c 1 rfl).trans ((hA c 1).trans (V_main_arg1 m c)),
      (Pipeline.RDat.FramePost.arr_in h c 5 rfl).trans ((hA c 5).trans (V_main_arg2 m c)),
      (Pipeline.RDat.FramePost.arr_in h c 2 rfl).trans ((hA c 2).trans (V_main_arg3 m c)),
      (Pipeline.RDat.FramePost.arr_in h c 6 rfl).trans ((hA c 6).trans (V_main_arg4 m c)),
      (Pipeline.RDat.FramePost.arr_in h c 3 rfl).trans ((hA c 3).trans (V_main_arg5 m c)),
      (Pipeline.RDat.FramePost.arr_in h c 7 rfl).trans ((hA c 7).trans (V_main_arg6 m c))⟩) h

abbrev ms0_0 (t : Fin (cfg0 (F := F)).N) : Memref sig .tc .smem S3x640 .i32 := win0_0.stage ((cfg0 (F := F)).slots t 0)
abbrev ms0_1 (t : Fin (cfg0 (F := F)).N) : Memref sig .tc .smem S3x24 .f32 := win0_1.stage ((cfg0 (F := F)).slots t 1)
abbrev ms0_2 (t : Fin (cfg0 (F := F)).N) : Memref sig .tc .smem S3x8 .f32 := win0_2.stage ((cfg0 (F := F)).slots t 2)
abbrev ms0_3 (t : Fin (cfg0 (F := F)).N) : Memref sig .tc .smem S3x8 .f32 := win0_3.stage ((cfg0 (F := F)).slots t 3)
abbrev ms0_4 (t : Fin (cfg0 (F := F)).N) : Memref sig .tc .vmem S3x640x24x128 .fp8e4m3 := win0_4.stage ((cfg0 (F := F)).slots t 4)
abbrev ms0_5 (t : Fin (cfg0 (F := F)).N) : Memref sig .tc .vmem S3x640x8x128 .fp8e4m3 := win0_5.stage ((cfg0 (F := F)).slots t 5)
abbrev ms0_6 (t : Fin (cfg0 (F := F)).N) : Memref sig .tc .vmem S3x640x8x128 .fp8e4m3 := win0_6.stage ((cfg0 (F := F)).slots t 6)
abbrev ms0_7 (t : Fin (cfg0 (F := F)).N) : Memref sig .tc .vmem S3x640 .i32 := win0_7.stage ((cfg0 (F := F)).slots t 7)
abbrev ms0_8 (t : Fin (cfg0 (F := F)).N) : Memref sig .tc .vmem S3x640x3072 .bf16 := win0_8.stage ((cfg0 (F := F)).slots t 8)
abbrev ms0_9 (t : Fin (cfg0 (F := F)).N) : Memref sig .tc .vmem S3x24x640 .f32 := win0_9.stage ((cfg0 (F := F)).slots t 9)

/-- The invariant's scratch buffers, owned at some contents. -/
theorem PhiA0_eq (c : Dev nD) :
    (Pipeline.ΦA (spec0) c : sProp 𝕄) = iprop(iprop((∃ d, owns (c : Thread nD τ) (M10) fullShare d) ∗ (∃ d, owns (c : Thread nD τ) (M11) fullShare d) ∗ (∃ d, owns (c : Thread nD τ) (M12) fullShare d) ∗ (∃ d, owns (c : Thread nD τ) (M13) fullShare d) ∗ (∃ d, owns (c : Thread nD τ) (M14) fullShare d) ∗ (∃ d, owns (c : Thread nD τ) (M15) fullShare d) ∗ (∃ d, owns (c : Thread nD τ) (M16) fullShare d) ∗ (∃ d, owns (c : Thread nD τ) (M17) fullShare d) ∗ (∃ d, owns (c : Thread nD τ) (M18) fullShare d) ∗ (∃ d, owns (c : Thread nD τ) (M19) fullShare d) ∗ (∃ d, owns (c : Thread nD τ) (M20) fullShare d) ∗ (∃ d, owns (c : Thread nD τ) (M21) fullShare d) ∗ (∃ d, owns (c : Thread nD τ) (M22) fullShare d) ∗ (∃ d, owns (c : Thread nD τ) (M23) fullShare d) ∗ (∃ d, owns (c : Thread nD τ) (M24) fullShare d) ∗ (∃ d, owns (c : Thread nD τ) (M25) fullShare d)) ∗ (∃ r, prngReg c r)) := by
  unfold Pipeline.ΦA; rw [scopedRest0_eq]; simp only [M10, M11, M12, M13, M14, M15, M16, M17, M18, M19, M20, M21, M22, M23, M24, M25, owns_whole]; try rfl

/-- The output windows: the frame says nothing of what is left in them. -/
def forgets0 : Fin 10 → Bool := fun w => w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := (cfg0 (F := F))) ⟨8, h⟩ t
    | ⟨9, h⟩ => Pipeline.Dat.unnamed (cfg := (cfg0 (F := F))) ⟨9, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after 0 t = iblk m c 0 t := by first | (dsimp only [dats]; done) | rfl
theorem after0_1 (c : Dev nD) (t : Fin (cfg0 (F := F)).N) : (dats m 0 c).after 1 t = iblk m c 1 t := by first | (dsimp only [dats]; done) | rfl
theorem after0_2 (c : Dev nD) (t : Fin (cfg0 (F := F)).N) : (dats m 0 c).after 2 t = iblk m c 2 t := by first | (dsimp only [dats]; done) | rfl
theorem after0_3 (c : Dev nD) (t : Fin (cfg0 (F := F)).N) : (dats m 0 c).after 3 t = iblk m c 3 t := by first | (dsimp only [dats]; done) | rfl
theorem after0_4 (c : Dev nD) (t : Fin (cfg0 (F := F)).N) : (dats m 0 c).after 4 t = iblk m c 4 t := by first | (dsimp only [dats]; done) | rfl
theorem after0_5 (c : Dev nD) (t : Fin (cfg0 (F := F)).N) : (dats m 0 c).after 5 t = iblk m c 5 t := by first | (dsimp only [dats]; done) | rfl
theorem after0_6 (c : Dev nD) (t : Fin (cfg0 (F := F)).N) : (dats m 0 c).after 6 t = iblk m c 6 t := by first | (dsimp only [dats]; done) | rfl
theorem after0_7 (c : Dev nD) (t : Fin (cfg0 (F := F)).N) : (dats m 0 c).after 7 t = iblk m c 7 t := by first | (dsimp only [dats]; done) | rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d
theorem before0_4 (c : Dev nD) (t : Fin (cfg0 (F := F)).N) (d) : (dats m 0 c).before 4 t d = iblk m c 4 t :=
  before0_4_of m (dats m 0 c) (A_eq m c 4) (after0_4 m c) t d
theorem before0_5 (c : Dev nD) (t : Fin (cfg0 (F := F)).N) (d) : (dats m 0 c).before 5 t d = iblk m c 5 t :=
  before0_5_of m (dats m 0 c) (A_eq m c 5) (after0_5 m c) t d
theorem before0_6 (c : Dev nD) (t : Fin (cfg0 (F := F)).N) (d) : (dats m 0 c).before 6 t d = iblk m c 6 t :=
  before0_6_of m (dats m 0 c) (A_eq m c 6) (after0_6 m c) t d
theorem before0_7 (c : Dev nD) (t : Fin (cfg0 (F := F)).N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d))

/-! ## The body on its buffers -/

/-- The buffers the body writes. -/
def Lw : List (Ref sig .tc) := [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15, cc0_stg8_0, cc0_stg9_0]
/-- The staged inputs. -/
def Lr : List (Ref sig .tc) := [cc0_stg0_0, cc0_stg1_0, cc0_stg2_0, cc0_stg3_0, cc0_stg4_0, cc0_stg5_0, cc0_stg6_0, cc0_stg7_0]

theorem Lw_nodup : Lw.Nodup := by decide +kernel
theorem L_nodup : (Lw ++ Lr).Nodup := by decide +kernel
theorem mem_L (b : Ref sig .tc) (h : InCore b) : b ∈ Lw ++ Lr := by
  obtain ⟨sp, i, hn⟩ := b
  rcases h with h | h <;> (dsimp only at h; subst h; revert i; decide +kernel)
theorem Lr_not_Lw : ∀ b ∈ Lr, b ∉ Lw := by decide +kernel
theorem Lr_not_Wr (b : Ref sig .tc) (hb : b ∈ Lr) : ¬ Wr b := by
  simp only [Lr, List.mem_cons, List.not_mem_nil, or_false] at hb
  unfold Wr
  tauto

/-- All of the core's buffers, owned. -/
abbrev own (c : Dev nD) (σ : St (sig := sig) (Elt F) (c : Thread nD τ)) : sProp 𝕄 := ownL (c := (c : Thread nD τ)) (Lw ++ Lr) σ

theorem own_gives (c : Dev nD) : Gives (Val := Elt F) (own (F := F) c) := fun b σ h => ownL_gives _ L_nodup b (mem_L b h) σ

/-- The calls, for a state-independent statement. -/
def callsS (c : Dev nD) : Calls (sig := sig) (Elt F) (Λ₀ F) (c : Thread nD τ) where
  pre ℓ a _ := preS (F := F) ℓ a
  post ℓ a _ r := postS (F := F) ℓ a r
  rank ℓ a := rankS (F := F) ℓ a

theorem safe_defs (ℓ : (Λ₀ F).Label) (a : (Λ₀ F).Args ℓ) (h : preS (F := F) ℓ a) :
    safe (Val := Elt F) (fun _ => False) preS postS rankS (rankS (F := F) ℓ a) (defs₀ (F := F) .tc ℓ a) (postS (F := F) ℓ a) :=
  match ℓ, a, h with
  | 0, _, h => h.elim
  | 1, a, h => while1_safe a h
  | 2, a, h => while2_safe a h

theorem hdefsS (c : Dev nD) (ℓ : (Λ₀ F).Label) (a : (Λ₀ F).Args ℓ) (σ : St (sig := sig) (Elt F) (c : Thread nD τ))
    (h : (callsS c).pre ℓ a σ) :
    pwp (callsS (F := F) c) ((callsS (F := F) c).rank ℓ a) (defs₀ (F := F) (c : Thread nD τ).2 ℓ a)
      (fun r s => s = σ ∧ (callsS (F := F) c).post ℓ a σ r) σ :=
  pwp_mono (fun r s hs => ⟨funext fun b => hs.2 b (fun h => h), hs.1⟩)
    (safe_pwp (C := callsS (F := F) c) (fun _ _ _ h => h) (fun _ _ _ _ h => h) (fun _ _ => rfl) (safe_defs ℓ a h) σ)

/-- The buffers' contents with the staged inputs at the given ones. -/
def σin (c : Dev nD) (d0 : Buf (Elt F) ((c : Thread nD τ).loc cc0_stg0_0)) (d1 : Buf (Elt F) ((c : Thread nD τ).loc cc0_stg1_0)) (d2 : Buf (Elt F) ((c : Thread nD τ).loc cc0_stg2_0)) (d3 : Buf (Elt F) ((c : Thread nD τ).loc cc0_stg3_0)) (d4 : Buf (Elt F) ((c : Thread nD τ).loc cc0_stg4_0)) (d5 : Buf (Elt F) ((c : Thread nD τ).loc cc0_stg5_0)) (d6 : Buf (Elt F) ((c : Thread nD τ).loc cc0_stg6_0)) (d7 : Buf (Elt F) ((c : Thread nD τ).loc cc0_stg7_0)) : St (sig := sig) (Elt F) (c : Thread nD τ) :=
  (Function.update (Function.update (Function.update (Function.update (Function.update (Function.update (Function.update (Function.update (fun b => m ((c : Thread nD τ).loc b)) cc0_stg0_0 d0) cc0_stg1_0 d1) cc0_stg2_0 d2) cc0_stg3_0 d3) cc0_stg4_0 d4) cc0_stg5_0 d5) cc0_stg6_0 d6) cc0_stg7_0 d7)

theorem ne_0_1 : (cc0_stg0_0 : Ref sig .tc) ≠ cc0_stg1_0 := by decide +kernel
theorem ne_0_2 : (cc0_stg0_0 : Ref sig .tc) ≠ cc0_stg2_0 := by decide +kernel
theorem ne_0_3 : (cc0_stg0_0 : Ref sig .tc) ≠ cc0_stg3_0 := by decide +kernel
theorem ne_0_4 : (cc0_stg0_0 : Ref sig .tc) ≠ cc0_stg4_0 := by decide +kernel
theorem ne_0_5 : (cc0_stg0_0 : Ref sig .tc) ≠ cc0_stg5_0 := by decide +kernel
theorem ne_0_6 : (cc0_stg0_0 : Ref sig .tc) ≠ cc0_stg6_0 := by decide +kernel
theorem ne_0_7 : (cc0_stg0_0 : Ref sig .tc) ≠ cc0_stg7_0 := by decide +kernel
theorem ne_1_2 : (cc0_stg1_0 : Ref sig .tc) ≠ cc0_stg2_0 := by decide +kernel
theorem ne_1_3 : (cc0_stg1_0 : Ref sig .tc) ≠ cc0_stg3_0 := by decide +kernel
theorem ne_1_4 : (cc0_stg1_0 : Ref sig .tc) ≠ cc0_stg4_0 := by decide +kernel
theorem ne_1_5 : (cc0_stg1_0 : Ref sig .tc) ≠ cc0_stg5_0 := by decide +kernel
theorem ne_1_6 : (cc0_stg1_0 : Ref sig .tc) ≠ cc0_stg6_0 := by decide +kernel
theorem ne_1_7 : (cc0_stg1_0 : Ref sig .tc) ≠ cc0_stg7_0 := by decide +kernel
theorem ne_2_3 : (cc0_stg2_0 : Ref sig .tc) ≠ cc0_stg3_0 := by decide +kernel
theorem ne_2_4 : (cc0_stg2_0 : Ref sig .tc) ≠ cc0_stg4_0 := by decide +kernel
theorem ne_2_5 : (cc0_stg2_0 : Ref sig .tc) ≠ cc0_stg5_0 := by decide +kernel
theorem ne_2_6 : (cc0_stg2_0 : Ref sig .tc) ≠ cc0_stg6_0 := by decide +kernel
theorem ne_2_7 : (cc0_stg2_0 : Ref sig .tc) ≠ cc0_stg7_0 := by decide +kernel
theorem ne_3_4 : (cc0_stg3_0 : Ref sig .tc) ≠ cc0_stg4_0 := by decide +kernel
theorem ne_3_5 : (cc0_stg3_0 : Ref sig .tc) ≠ cc0_stg5_0 := by decide +kernel
theorem ne_3_6 : (cc0_stg3_0 : Ref sig .tc) ≠ cc0_stg6_0 := by decide +kernel
theorem ne_3_7 : (cc0_stg3_0 : Ref sig .tc) ≠ cc0_stg7_0 := by decide +kernel
theorem ne_4_5 : (cc0_stg4_0 : Ref sig .tc) ≠ cc0_stg5_0 := by decide +kernel
theorem ne_4_6 : (cc0_stg4_0 : Ref sig .tc) ≠ cc0_stg6_0 := by decide +kernel
theorem ne_4_7 : (cc0_stg4_0 : Ref sig .tc) ≠ cc0_stg7_0 := by decide +kernel
theorem ne_5_6 : (cc0_stg5_0 : Ref sig .tc) ≠ cc0_stg6_0 := by decide +kernel
theorem ne_5_7 : (cc0_stg5_0 : Ref sig .tc) ≠ cc0_stg7_0 := by decide +kernel
theorem ne_6_7 : (cc0_stg6_0 : Ref sig .tc) ≠ cc0_stg7_0 := by decide +kernel
theorem σin_0 (c : Dev nD) (d0 : Buf (Elt F) ((c : Thread nD τ).loc cc0_stg0_0)) (d1 : Buf (Elt F) ((c : Thread nD τ).loc cc0_stg1_0)) (d2 : Buf (Elt F) ((c : Thread nD τ).loc cc0_stg2_0)) (d3 : Buf (Elt F) ((c : Thread nD τ).loc cc0_stg3_0)) (d4 : Buf (Elt F) ((c : Thread nD τ).loc cc0_stg4_0)) (d5 : Buf (Elt F) ((c : Thread nD τ).loc cc0_stg5_0)) (d6 : Buf (Elt F) ((c : Thread nD τ).loc cc0_stg6_0)) (d7 : Buf (Elt F) ((c : Thread nD τ).loc cc0_stg7_0)) : σin m c d0 d1 d2 d3 d4 d5 d6 d7 cc0_stg0_0 = d0 := by
  unfold σin
  rw [Function.update_of_ne ne_0_7, Function.update_of_ne ne_0_6, Function.update_of_ne ne_0_5, Function.update_of_ne ne_0_4, Function.update_of_ne ne_0_3, Function.update_of_ne ne_0_2, Function.update_of_ne ne_0_1, Function.update_self]
theorem σin_1 (c : Dev nD) (d0 : Buf (Elt F) ((c : Thread nD τ).loc cc0_stg0_0)) (d1 : Buf (Elt F) ((c : Thread nD τ).loc cc0_stg1_0)) (d2 : Buf (Elt F) ((c : Thread nD τ).loc cc0_stg2_0)) (d3 : Buf (Elt F) ((c : Thread nD τ).loc cc0_stg3_0)) (d4 : Buf (Elt F) ((c : Thread nD τ).loc cc0_stg4_0)) (d5 : Buf (Elt F) ((c : Thread nD τ).loc cc0_stg5_0)) (d6 : Buf (Elt F) ((c : Thread nD τ).loc cc0_stg6_0)) (d7 : Buf (Elt F) ((c : Thread nD τ).loc cc0_stg7_0)) : σin m c d0 d1 d2 d3 d4 d5 d6 d7 cc0_stg1_0 = d1 := by
  unfold σin
  rw [Function.update_of_ne ne_1_7, Function.update_of_ne ne_1_6, Function.update_of_ne ne_1_5, Function.update_of_ne ne_1_4, Function.update_of_ne ne_1_3, Function.update_of_ne ne_1_2, Function.update_self]
theorem σin_2 (c : Dev nD) (d0 : Buf (Elt F) ((c : Thread nD τ).loc cc0_stg0_0)) (d1 : Buf (Elt F) ((c : Thread nD τ).loc cc0_stg1_0)) (d2 : Buf (Elt F) ((c : Thread nD τ).loc cc0_stg2_0)) (d3 : Buf (Elt F) ((c : Thread nD τ).loc cc0_stg3_0)) (d4 : Buf (Elt F) ((c : Thread nD τ).loc cc0_stg4_0)) (d5 : Buf (Elt F) ((c : Thread nD τ).loc cc0_stg5_0)) (d6 : Buf (Elt F) ((c : Thread nD τ).loc cc0_stg6_0)) (d7 : Buf (Elt F) ((c : Thread nD τ).loc cc0_stg7_0)) : σin m c d0 d1 d2 d3 d4 d5 d6 d7 cc0_stg2_0 = d2 := by
  unfold σin
  rw [Function.update_of_ne ne_2_7, Function.update_of_ne ne_2_6, Function.update_of_ne ne_2_5, Function.update_of_ne ne_2_4, Function.update_of_ne ne_2_3, Function.update_self]
theorem σin_3 (c : Dev nD) (d0 : Buf (Elt F) ((c : Thread nD τ).loc cc0_stg0_0)) (d1 : Buf (Elt F) ((c : Thread nD τ).loc cc0_stg1_0)) (d2 : Buf (Elt F) ((c : Thread nD τ).loc cc0_stg2_0)) (d3 : Buf (Elt F) ((c : Thread nD τ).loc cc0_stg3_0)) (d4 : Buf (Elt F) ((c : Thread nD τ).loc cc0_stg4_0)) (d5 : Buf (Elt F) ((c : Thread nD τ).loc cc0_stg5_0)) (d6 : Buf (Elt F) ((c : Thread nD τ).loc cc0_stg6_0)) (d7 : Buf (Elt F) ((c : Thread nD τ).loc cc0_stg7_0)) : σin m c d0 d1 d2 d3 d4 d5 d6 d7 cc0_stg3_0 = d3 := by
  unfold σin
  rw [Function.update_of_ne ne_3_7, Function.update_of_ne ne_3_6, Function.update_of_ne ne_3_5, Function.update_of_ne ne_3_4, Function.update_self]
theorem σin_4 (c : Dev nD) (d0 : Buf (Elt F) ((c : Thread nD τ).loc cc0_stg0_0)) (d1 : Buf (Elt F) ((c : Thread nD τ).loc cc0_stg1_0)) (d2 : Buf (Elt F) ((c : Thread nD τ).loc cc0_stg2_0)) (d3 : Buf (Elt F) ((c : Thread nD τ).loc cc0_stg3_0)) (d4 : Buf (Elt F) ((c : Thread nD τ).loc cc0_stg4_0)) (d5 : Buf (Elt F) ((c : Thread nD τ).loc cc0_stg5_0)) (d6 : Buf (Elt F) ((c : Thread nD τ).loc cc0_stg6_0)) (d7 : Buf (Elt F) ((c : Thread nD τ).loc cc0_stg7_0)) : σin m c d0 d1 d2 d3 d4 d5 d6 d7 cc0_stg4_0 = d4 := by
  unfold σin
  rw [Function.update_of_ne ne_4_7, Function.update_of_ne ne_4_6, Function.update_of_ne ne_4_5, Function.update_self]
theorem σin_5 (c : Dev nD) (d0 : Buf (Elt F) ((c : Thread nD τ).loc cc0_stg0_0)) (d1 : Buf (Elt F) ((c : Thread nD τ).loc cc0_stg1_0)) (d2 : Buf (Elt F) ((c : Thread nD τ).loc cc0_stg2_0)) (d3 : Buf (Elt F) ((c : Thread nD τ).loc cc0_stg3_0)) (d4 : Buf (Elt F) ((c : Thread nD τ).loc cc0_stg4_0)) (d5 : Buf (Elt F) ((c : Thread nD τ).loc cc0_stg5_0)) (d6 : Buf (Elt F) ((c : Thread nD τ).loc cc0_stg6_0)) (d7 : Buf (Elt F) ((c : Thread nD τ).loc cc0_stg7_0)) : σin m c d0 d1 d2 d3 d4 d5 d6 d7 cc0_stg5_0 = d5 := by
  unfold σin
  rw [Function.update_of_ne ne_5_7, Function.update_of_ne ne_5_6, Function.update_self]
theorem σin_6 (c : Dev nD) (d0 : Buf (Elt F) ((c : Thread nD τ).loc cc0_stg0_0)) (d1 : Buf (Elt F) ((c : Thread nD τ).loc cc0_stg1_0)) (d2 : Buf (Elt F) ((c : Thread nD τ).loc cc0_stg2_0)) (d3 : Buf (Elt F) ((c : Thread nD τ).loc cc0_stg3_0)) (d4 : Buf (Elt F) ((c : Thread nD τ).loc cc0_stg4_0)) (d5 : Buf (Elt F) ((c : Thread nD τ).loc cc0_stg5_0)) (d6 : Buf (Elt F) ((c : Thread nD τ).loc cc0_stg6_0)) (d7 : Buf (Elt F) ((c : Thread nD τ).loc cc0_stg7_0)) : σin m c d0 d1 d2 d3 d4 d5 d6 d7 cc0_stg6_0 = d6 := by
  unfold σin
  rw [Function.update_of_ne ne_6_7, Function.update_self]
theorem σin_7 (c : Dev nD) (d0 : Buf (Elt F) ((c : Thread nD τ).loc cc0_stg0_0)) (d1 : Buf (Elt F) ((c : Thread nD τ).loc cc0_stg1_0)) (d2 : Buf (Elt F) ((c : Thread nD τ).loc cc0_stg2_0)) (d3 : Buf (Elt F) ((c : Thread nD τ).loc cc0_stg3_0)) (d4 : Buf (Elt F) ((c : Thread nD τ).loc cc0_stg4_0)) (d5 : Buf (Elt F) ((c : Thread nD τ).loc cc0_stg5_0)) (d6 : Buf (Elt F) ((c : Thread nD τ).loc cc0_stg6_0)) (d7 : Buf (Elt F) ((c : Thread nD τ).loc cc0_stg7_0)) : σin m c d0 d1 d2 d3 d4 d5 d6 d7 cc0_stg7_0 = d7 := by
  unfold σin
  rw [Function.update_self]

/-- The contents the body starts from, up to what the written buffers hold. -/
abbrev σ₀ (c : Dev nD) (t : Fin (cfg0 (F := F)).N) : St (sig := sig) (Elt F) (c : Thread nD τ) := σin m c (iblk m c 0 t) (iblk m c 1 t) (iblk m c 2 t) (iblk m c 3 t) (iblk m c 4 t) (iblk m c 5 t) (iblk m c 6 t) (iblk m c 7 t)

theorem ow0 (c : Dev nD) (f : Buf (Elt F) ((c : Thread nD τ).loc cc0_stg0_0)) : (owns (c : Thread nD τ) (M0) fullShare f : sProp 𝕄) = ((c : Thread nD τ).loc cc0_stg0_0 ↦{fullShare} f) := owns_whole (c : Thread nD τ) cc0_stg0_0 fullShare f
theorem ow1 (c : Dev nD) (f : Buf (Elt F) ((c : Thread nD τ).loc cc0_stg1_0)) : (owns (c : Thread nD τ) (M1) fullShare f : sProp 𝕄) = ((c : Thread nD τ).loc cc0_stg1_0 ↦{fullShare} f) := owns_whole (c : Thread nD τ) cc0_stg1_0 fullShare f
theorem ow2 (c : Dev nD) (f : Buf (Elt F) ((c : Thread nD τ).loc cc0_stg2_0)) : (owns (c : Thread nD τ) (M2) fullShare f : sProp 𝕄) = ((c : Thread nD τ).loc cc0_stg2_0 ↦{fullShare} f) := owns_whole (c : Thread nD τ) cc0_stg2_0 fullShare f
theorem ow3 (c : Dev nD) (f : Buf (Elt F) ((c : Thread nD τ).loc cc0_stg3_0)) : (owns (c : Thread nD τ) (M3) fullShare f : sProp 𝕄) = ((c : Thread nD τ).loc cc0_stg3_0 ↦{fullShare} f) := owns_whole (c : Thread nD τ) cc0_stg3_0 fullShare f
theorem ow4 (c : Dev nD) (f : Buf (Elt F) ((c : Thread nD τ).loc cc0_stg4_0)) : (owns (c : Thread nD τ) (M4) fullShare f : sProp 𝕄) = ((c : Thread nD τ).loc cc0_stg4_0 ↦{fullShare} f) := owns_whole (c : Thread nD τ) cc0_stg4_0 fullShare f
theorem ow5 (c : Dev nD) (f : Buf (Elt F) ((c : Thread nD τ).loc cc0_stg5_0)) : (owns (c : Thread nD τ) (M5) fullShare f : sProp 𝕄) = ((c : Thread nD τ).loc cc0_stg5_0 ↦{fullShare} f) := owns_whole (c : Thread nD τ) cc0_stg5_0 fullShare f
theorem ow6 (c : Dev nD) (f : Buf (Elt F) ((c : Thread nD τ).loc cc0_stg6_0)) : (owns (c : Thread nD τ) (M6) fullShare f : sProp 𝕄) = ((c : Thread nD τ).loc cc0_stg6_0 ↦{fullShare} f) := owns_whole (c : Thread nD τ) cc0_stg6_0 fullShare f
theorem ow7 (c : Dev nD) (f : Buf (Elt F) ((c : Thread nD τ).loc cc0_stg7_0)) : (owns (c : Thread nD τ) (M7) fullShare f : sProp 𝕄) = ((c : Thread nD τ).loc cc0_stg7_0 ↦{fullShare} f) := owns_whole (c : Thread nD τ) cc0_stg7_0 fullShare f
theorem ow8 (c : Dev nD) (f : Buf (Elt F) ((c : Thread nD τ).loc cc0_stg8_0)) : (owns (c : Thread nD τ) (M8) fullShare f : sProp 𝕄) = ((c : Thread nD τ).loc cc0_stg8_0 ↦{fullShare} f) := owns_whole (c : Thread nD τ) cc0_stg8_0 fullShare f
theorem ow9 (c : Dev nD) (f : Buf (Elt F) ((c : Thread nD τ).loc cc0_stg9_0)) : (owns (c : Thread nD τ) (M9) fullShare f : sProp 𝕄) = ((c : Thread nD τ).loc cc0_stg9_0 ↦{fullShare} f) := owns_whole (c : Thread nD τ) cc0_stg9_0 fullShare f
theorem ow10 (c : Dev nD) (f : Buf (Elt F) ((c : Thread nD τ).loc cc0_scratch0)) : (owns (c : Thread nD τ) (M10) fullShare f : sProp 𝕄) = ((c : Thread nD τ).loc cc0_scratch0 ↦{fullShare} f) := owns_whole (c : Thread nD τ) cc0_scratch0 fullShare f
theorem ow11 (c : Dev nD) (f : Buf (Elt F) ((c : Thread nD τ).loc cc0_scratch1)) : (owns (c : Thread nD τ) (M11) fullShare f : sProp 𝕄) = ((c : Thread nD τ).loc cc0_scratch1 ↦{fullShare} f) := owns_whole (c : Thread nD τ) cc0_scratch1 fullShare f
theorem ow12 (c : Dev nD) (f : Buf (Elt F) ((c : Thread nD τ).loc cc0_scratch2)) : (owns (c : Thread nD τ) (M12) fullShare f : sProp 𝕄) = ((c : Thread nD τ).loc cc0_scratch2 ↦{fullShare} f) := owns_whole (c : Thread nD τ) cc0_scratch2 fullShare f
theorem ow13 (c : Dev nD) (f : Buf (Elt F) ((c : Thread nD τ).loc cc0_scratch3)) : (owns (c : Thread nD τ) (M13) fullShare f : sProp 𝕄) = ((c : Thread nD τ).loc cc0_scratch3 ↦{fullShare} f) := owns_whole (c : Thread nD τ) cc0_scratch3 fullShare f
theorem ow14 (c : Dev nD) (f : Buf (Elt F) ((c : Thread nD τ).loc cc0_scratch4)) : (owns (c : Thread nD τ) (M14) fullShare f : sProp 𝕄) = ((c : Thread nD τ).loc cc0_scratch4 ↦{fullShare} f) := owns_whole (c : Thread nD τ) cc0_scratch4 fullShare f
theorem ow15 (c : Dev nD) (f : Buf (Elt F) ((c : Thread nD τ).loc cc0_scratch5)) : (owns (c : Thread nD τ) (M15) fullShare f : sProp 𝕄) = ((c : Thread nD τ).loc cc0_scratch5 ↦{fullShare} f) := owns_whole (c : Thread nD τ) cc0_scratch5 fullShare f
theorem ow16 (c : Dev nD) (f : Buf (Elt F) ((c : Thread nD τ).loc cc0_scratch6)) : (owns (c : Thread nD τ) (M16) fullShare f : sProp 𝕄) = ((c : Thread nD τ).loc cc0_scratch6 ↦{fullShare} f) := owns_whole (c : Thread nD τ) cc0_scratch6 fullShare f
theorem ow17 (c : Dev nD) (f : Buf (Elt F) ((c : Thread nD τ).loc cc0_scratch7)) : (owns (c : Thread nD τ) (M17) fullShare f : sProp 𝕄) = ((c : Thread nD τ).loc cc0_scratch7 ↦{fullShare} f) := owns_whole (c : Thread nD τ) cc0_scratch7 fullShare f
theorem ow18 (c : Dev nD) (f : Buf (Elt F) ((c : Thread nD τ).loc cc0_scratch8)) : (owns (c : Thread nD τ) (M18) fullShare f : sProp 𝕄) = ((c : Thread nD τ).loc cc0_scratch8 ↦{fullShare} f) := owns_whole (c : Thread nD τ) cc0_scratch8 fullShare f
theorem ow19 (c : Dev nD) (f : Buf (Elt F) ((c : Thread nD τ).loc cc0_scratch9)) : (owns (c : Thread nD τ) (M19) fullShare f : sProp 𝕄) = ((c : Thread nD τ).loc cc0_scratch9 ↦{fullShare} f) := owns_whole (c : Thread nD τ) cc0_scratch9 fullShare f
theorem ow20 (c : Dev nD) (f : Buf (Elt F) ((c : Thread nD τ).loc cc0_scratch10)) : (owns (c : Thread nD τ) (M20) fullShare f : sProp 𝕄) = ((c : Thread nD τ).loc cc0_scratch10 ↦{fullShare} f) := owns_whole (c : Thread nD τ) cc0_scratch10 fullShare f
theorem ow21 (c : Dev nD) (f : Buf (Elt F) ((c : Thread nD τ).loc cc0_scratch11)) : (owns (c : Thread nD τ) (M21) fullShare f : sProp 𝕄) = ((c : Thread nD τ).loc cc0_scratch11 ↦{fullShare} f) := owns_whole (c : Thread nD τ) cc0_scratch11 fullShare f
theorem ow22 (c : Dev nD) (f : Buf (Elt F) ((c : Thread nD τ).loc cc0_scratch12)) : (owns (c : Thread nD τ) (M22) fullShare f : sProp 𝕄) = ((c : Thread nD τ).loc cc0_scratch12 ↦{fullShare} f) := owns_whole (c : Thread nD τ) cc0_scratch12 fullShare f
theorem ow23 (c : Dev nD) (f : Buf (Elt F) ((c : Thread nD τ).loc cc0_scratch13)) : (owns (c : Thread nD τ) (M23) fullShare f : sProp 𝕄) = ((c : Thread nD τ).loc cc0_scratch13 ↦{fullShare} f) := owns_whole (c : Thread nD τ) cc0_scratch13 fullShare f
theorem ow24 (c : Dev nD) (f : Buf (Elt F) ((c : Thread nD τ).loc cc0_scratch14)) : (owns (c : Thread nD τ) (M24) fullShare f : sProp 𝕄) = ((c : Thread nD τ).loc cc0_scratch14 ↦{fullShare} f) := owns_whole (c : Thread nD τ) cc0_scratch14 fullShare f
theorem ow25 (c : Dev nD) (f : Buf (Elt F) ((c : Thread nD τ).loc cc0_scratch15)) : (owns (c : Thread nD τ) (M25) fullShare f : sProp 𝕄) = ((c : Thread nD τ).loc cc0_scratch15 ↦{fullShare} f) := owns_whole (c : Thread nD τ) cc0_scratch15 fullShare f

theorem ownX_Lw (c : Dev nD) : (ownX (Val := Elt F) (c := (c : Thread nD τ)) Lw : sProp 𝕄) = iprop((∃ d : Buf (Elt F) ((c : Thread nD τ).loc cc0_scratch0), ((c : Thread nD τ).loc cc0_scratch0 ↦{fullShare} d)) ∗ (∃ d : Buf (Elt F) ((c : Thread nD τ).loc cc0_scratch1), ((c : Thread nD τ).loc cc0_scratch1 ↦{fullShare} d)) ∗ (∃ d : Buf (Elt F) ((c : Thread nD τ).loc cc0_scratch2), ((c : Thread nD τ).loc cc0_scratch2 ↦{fullShare} d)) ∗ (∃ d : Buf (Elt F) ((c : Thread nD τ).loc cc0_scratch3), ((c : Thread nD τ).loc cc0_scratch3 ↦{fullShare} d)) ∗ (∃ d : Buf (Elt F) ((c : Thread nD τ).loc cc0_scratch4), ((c : Thread nD τ).loc cc0_scratch4 ↦{fullShare} d)) ∗ (∃ d : Buf (Elt F) ((c : Thread nD τ).loc cc0_scratch5), ((c : Thread nD τ).loc cc0_scratch5 ↦{fullShare} d)) ∗ (∃ d : Buf (Elt F) ((c : Thread nD τ).loc cc0_scratch6), ((c : Thread nD τ).loc cc0_scratch6 ↦{fullShare} d)) ∗ (∃ d : Buf (Elt F) ((c : Thread nD τ).loc cc0_scratch7), ((c : Thread nD τ).loc cc0_scratch7 ↦{fullShare} d)) ∗ (∃ d : Buf (Elt F) ((c : Thread nD τ).loc cc0_scratch8), ((c : Thread nD τ).loc cc0_scratch8 ↦{fullShare} d)) ∗ (∃ d : Buf (Elt F) ((c : Thread nD τ).loc cc0_scratch9), ((c : Thread nD τ).loc cc0_scratch9 ↦{fullShare} d)) ∗ (∃ d : Buf (Elt F) ((c : Thread nD τ).loc cc0_scratch10), ((c : Thread nD τ).loc cc0_scratch10 ↦{fullShare} d)) ∗ (∃ d : Buf (Elt F) ((c : Thread nD τ).loc cc0_scratch11), ((c : Thread nD τ).loc cc0_scratch11 ↦{fullShare} d)) ∗ (∃ d : Buf (Elt F) ((c : Thread nD τ).loc cc0_scratch12), ((c : Thread nD τ).loc cc0_scratch12 ↦{fullShare} d)) ∗ (∃ d : Buf (Elt F) ((c : Thread nD τ).loc cc0_scratch13), ((c : Thread nD τ).loc cc0_scratch13 ↦{fullShare} d)) ∗ (∃ d : Buf (Elt F) ((c : Thread nD τ).loc cc0_scratch14), ((c : Thread nD τ).loc cc0_scratch14 ↦{fullShare} d)) ∗ (∃ d : Buf (Elt F) ((c : Thread nD τ).loc cc0_scratch15), ((c : Thread nD τ).loc cc0_scratch15 ↦{fullShare} d)) ∗ (∃ d : Buf (Elt F) ((c : Thread nD τ).loc cc0_stg8_0), ((c : Thread nD τ).loc cc0_stg8_0 ↦{fullShare} d)) ∗ (∃ d : Buf (Elt F) ((c : Thread nD τ).loc cc0_stg9_0), ((c : Thread nD τ).loc cc0_stg9_0 ↦{fullShare} d)) ∗ emp) := rfl

theorem ownL_Lw (c : Dev nD) (σ : St (sig := sig) (Elt F) (c : Thread nD τ)) : (ownL (c := (c : Thread nD τ)) Lw σ : sProp 𝕄) = iprop(((c : Thread nD τ).loc cc0_scratch0 ↦{fullShare} σ cc0_scratch0) ∗ ((c : Thread nD τ).loc cc0_scratch1 ↦{fullShare} σ cc0_scratch1) ∗ ((c : Thread nD τ).loc cc0_scratch2 ↦{fullShare} σ cc0_scratch2) ∗ ((c : Thread nD τ).loc cc0_scratch3 ↦{fullShare} σ cc0_scratch3) ∗ ((c : Thread nD τ).loc cc0_scratch4 ↦{fullShare} σ cc0_scratch4) ∗ ((c : Thread nD τ).loc cc0_scratch5 ↦{fullShare} σ cc0_scratch5) ∗ ((c : Thread nD τ).loc cc0_scratch6 ↦{fullShare} σ cc0_scratch6) ∗ ((c : Thread nD τ).loc cc0_scratch7 ↦{fullShare} σ cc0_scratch7) ∗ ((c : Thread nD τ).loc cc0_scratch8 ↦{fullShare} σ cc0_scratch8) ∗ ((c : Thread nD τ).loc cc0_scratch9 ↦{fullShare} σ cc0_scratch9) ∗ ((c : Thread nD τ).loc cc0_scratch10 ↦{fullShare} σ cc0_scratch10) ∗ ((c : Thread nD τ).loc cc0_scratch11 ↦{fullShare} σ cc0_scratch11) ∗ ((c : Thread nD τ).loc cc0_scratch12 ↦{fullShare} σ cc0_scratch12) ∗ ((c : Thread nD τ).loc cc0_scratch13 ↦{fullShare} σ cc0_scratch13) ∗ ((c : Thread nD τ).loc cc0_scratch14 ↦{fullShare} σ cc0_scratch14) ∗ ((c : Thread nD τ).loc cc0_scratch15 ↦{fullShare} σ cc0_scratch15) ∗ ((c : Thread nD τ).loc cc0_stg8_0 ↦{fullShare} σ cc0_stg8_0) ∗ ((c : Thread nD τ).loc cc0_stg9_0 ↦{fullShare} σ cc0_stg9_0) ∗ emp) := rfl

theorem ownX_of (c : Dev nD) : iprop(((∃ d, owns (c : Thread nD τ) M10 fullShare d) ∗ (∃ d, owns (c : Thread nD τ) M11 fullShare d) ∗ (∃ d, owns (c : Thread nD τ) M12 fullShare d) ∗ (∃ d, owns (c : Thread nD τ) M13 fullShare d) ∗ (∃ d, owns (c : Thread nD τ) M14 fullShare d) ∗ (∃ d, owns (c : Thread nD τ) M15 fullShare d) ∗ (∃ d, owns (c : Thread nD τ) M16 fullShare d) ∗ (∃ d, owns (c : Thread nD τ) M17 fullShare d) ∗ (∃ d, owns (c : Thread nD τ) M18 fullShare d) ∗ (∃ d, owns (c : Thread nD τ) M19 fullShare d) ∗ (∃ d, owns (c : Thread nD τ) M20 fullShare d) ∗ (∃ d, owns (c : Thread nD τ) M21 fullShare d) ∗ (∃ d, owns (c : Thread nD τ) M22 fullShare d) ∗ (∃ d, owns (c : Thread nD τ) M23 fullShare d) ∗ (∃ d, owns (c : Thread nD τ) M24 fullShare d) ∗ (∃ d, owns (c : Thread nD τ) M25 fullShare d)) ∗ (∃ d, owns (c : Thread nD τ) M8 fullShare d) ∗ (∃ d, owns (c : Thread nD τ) M9 fullShare d))
    ⊢ (ownX (Val := Elt F) (c := (c : Thread nD τ)) Lw : sProp 𝕄) := by
  rw [ownX_Lw]
  iintro ⟨⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩, ⟨%d16, K8⟩, ⟨%d17, K9⟩⟩
  isplitl [H0]
  · iexists d0; rw [← ow10]; iexact H0
  isplitl [H1]
  · iexists d1; rw [← ow11]; iexact H1
  isplitl [H2]
  · iexists d2; rw [← ow12]; iexact H2
  isplitl [H3]
  · iexists d3; rw [← ow13]; iexact H3
  isplitl [H4]
  · iexists d4; rw [← ow14]; iexact H4
  isplitl [H5]
  · iexists d5; rw [← ow15]; iexact H5
  isplitl [H6]
  · iexists d6; rw [← ow16]; iexact H6
  isplitl [H7]
  · iexists d7; rw [← ow17]; iexact H7
  isplitl [H8]
  · iexists d8; rw [← ow18]; iexact H8
  isplitl [H9]
  · iexists d9; rw [← ow19]; iexact H9
  isplitl [H10]
  · iexists d10; rw [← ow20]; iexact H10
  isplitl [H11]
  · iexists d11; rw [← ow21]; iexact H11
  isplitl [H12]
  · iexists d12; rw [← ow22]; iexact H12
  isplitl [H13]
  · iexists d13; rw [← ow23]; iexact H13
  isplitl [H14]
  · iexists d14; rw [← ow24]; iexact H14
  isplitl [H15]
  · iexists d15; rw [← ow25]; iexact H15
  isplitl [K8]
  · iexists d16; rw [← ow8]; iexact K8
  isplitl [K9]
  · iexists d17; rw [← ow9]; iexact K9
  iempintro

theorem ownX_to (c : Dev nD) (σ : St (sig := sig) (Elt F) (c : Thread nD τ)) : (ownL (c := (c : Thread nD τ)) Lw σ : sProp 𝕄)
    ⊢ iprop(((∃ d, owns (c : Thread nD τ) M10 fullShare d) ∗ (∃ d, owns (c : Thread nD τ) M11 fullShare d) ∗ (∃ d, owns (c : Thread nD τ) M12 fullShare d) ∗ (∃ d, owns (c : Thread nD τ) M13 fullShare d) ∗ (∃ d, owns (c : Thread nD τ) M14 fullShare d) ∗ (∃ d, owns (c : Thread nD τ) M15 fullShare d) ∗ (∃ d, owns (c : Thread nD τ) M16 fullShare d) ∗ (∃ d, owns (c : Thread nD τ) M17 fullShare d) ∗ (∃ d, owns (c : Thread nD τ) M18 fullShare d) ∗ (∃ d, owns (c : Thread nD τ) M19 fullShare d) ∗ (∃ d, owns (c : Thread nD τ) M20 fullShare d) ∗ (∃ d, owns (c : Thread nD τ) M21 fullShare d) ∗ (∃ d, owns (c : Thread nD τ) M22 fullShare d) ∗ (∃ d, owns (c : Thread nD τ) M23 fullShare d) ∗ (∃ d, owns (c : Thread nD τ) M24 fullShare d) ∗ (∃ d, owns (c : Thread nD τ) M25 fullShare d)) ∗ owns (c : Thread nD τ) M8 fullShare (σ cc0_stg8_0) ∗ owns (c : Thread nD τ) M9 fullShare (σ cc0_stg9_0)) := by
  rw [ownL_Lw]
  iintro ⟨H0, H1, H2, H3, H4, H5, H6, H7, H8, H9, H10, H11, H12, H13, H14, H15, K8, K9, -⟩
  isplitl [H0 H1 H2 H3 H4 H5 H6 H7 H8 H9 H10 H11 H12 H13 H14 H15]
  · isplitl [H0]
    · iexists (σ cc0_scratch0); rw [ow10]; iexact H0
    isplitl [H1]
    · iexists (σ cc0_scratch1); rw [ow11]; iexact H1
    isplitl [H2]
    · iexists (σ cc0_scratch2); rw [ow12]; iexact H2
    isplitl [H3]
    · iexists (σ cc0_scratch3); rw [ow13]; iexact H3
    isplitl [H4]
    · iexists (σ cc0_scratch4); rw [ow14]; iexact H4
    isplitl [H5]
    · iexists (σ cc0_scratch5); rw [ow15]; iexact H5
    isplitl [H6]
    · iexists (σ cc0_scratch6); rw [ow16]; iexact H6
    isplitl [H7]
    · iexists (σ cc0_scratch7); rw [ow17]; iexact H7
    isplitl [H8]
    · iexists (σ cc0_scratch8); rw [ow18]; iexact H8
    isplitl [H9]
    · iexists (σ cc0_scratch9); rw [ow19]; iexact H9
    isplitl [H10]
    · iexists (σ cc0_scratch10); rw [ow20]; iexact H10
    isplitl [H11]
    · iexists (σ cc0_scratch11); rw [ow21]; iexact H11
    isplitl [H12]
    · iexists (σ cc0_scratch12); rw [ow22]; iexact H12
    isplitl [H13]
    · iexists (σ cc0_scratch13); rw [ow23]; iexact H13
    isplitl [H14]
    · iexists (σ cc0_scratch14); rw [ow24]; iexact H14
    iexists (σ cc0_scratch15); rw [ow25]; iexact H15
  isplitl [K8]
  · rw [ow8]; iexact K8
  rw [ow9]; iexact K9

theorem owI0 (c : Dev nD) (t : Fin (cfg0 (F := F)).N) : (owns (c : Thread nD τ) (ms0_0 t) fullShare (iblk m c 0 t) : sProp 𝕄) = ((c : Thread nD τ).loc cc0_stg0_0 ↦{fullShare} σ₀ m c t cc0_stg0_0) :=
  (owns_whole (c : Thread nD τ) cc0_stg0_0 fullShare _).trans (congrArg (fun f => ((c : Thread nD τ).loc cc0_stg0_0 ↦{fullShare} f : sProp 𝕄)) (σin_0 m c _ _ _ _ _ _ _ _).symm)
theorem owI1 (c : Dev nD) (t : Fin (cfg0 (F := F)).N) : (owns (c : Thread nD τ) (ms0_1 t) fullShare (iblk m c 1 t) : sProp 𝕄) = ((c : Thread nD τ).loc cc0_stg1_0 ↦{fullShare} σ₀ m c t cc0_stg1_0) :=
  (owns_whole (c : Thread nD τ) cc0_stg1_0 fullShare _).trans (congrArg (fun f => ((c : Thread nD τ).loc cc0_stg1_0 ↦{fullShare} f : sProp 𝕄)) (σin_1 m c _ _ _ _ _ _ _ _).symm)
theorem owI2 (c : Dev nD) (t : Fin (cfg0 (F := F)).N) : (owns (c : Thread nD τ) (ms0_2 t) fullShare (iblk m c 2 t) : sProp 𝕄) = ((c : Thread nD τ).loc cc0_stg2_0 ↦{fullShare} σ₀ m c t cc0_stg2_0) :=
  (owns_whole (c : Thread nD τ) cc0_stg2_0 fullShare _).trans (congrArg (fun f => ((c : Thread nD τ).loc cc0_stg2_0 ↦{fullShare} f : sProp 𝕄)) (σin_2 m c _ _ _ _ _ _ _ _).symm)
theorem owI3 (c : Dev nD) (t : Fin (cfg0 (F := F)).N) : (owns (c : Thread nD τ) (ms0_3 t) fullShare (iblk m c 3 t) : sProp 𝕄) = ((c : Thread nD τ).loc cc0_stg3_0 ↦{fullShare} σ₀ m c t cc0_stg3_0) :=
  (owns_whole (c : Thread nD τ) cc0_stg3_0 fullShare _).trans (congrArg (fun f => ((c : Thread nD τ).loc cc0_stg3_0 ↦{fullShare} f : sProp 𝕄)) (σin_3 m c _ _ _ _ _ _ _ _).symm)
theorem owI4 (c : Dev nD) (t : Fin (cfg0 (F := F)).N) : (owns (c : Thread nD τ) (ms0_4 t) fullShare (iblk m c 4 t) : sProp 𝕄) = ((c : Thread nD τ).loc cc0_stg4_0 ↦{fullShare} σ₀ m c t cc0_stg4_0) :=
  (owns_whole (c : Thread nD τ) cc0_stg4_0 fullShare _).trans (congrArg (fun f => ((c : Thread nD τ).loc cc0_stg4_0 ↦{fullShare} f : sProp 𝕄)) (σin_4 m c _ _ _ _ _ _ _ _).symm)
theorem owI5 (c : Dev nD) (t : Fin (cfg0 (F := F)).N) : (owns (c : Thread nD τ) (ms0_5 t) fullShare (iblk m c 5 t) : sProp 𝕄) = ((c : Thread nD τ).loc cc0_stg5_0 ↦{fullShare} σ₀ m c t cc0_stg5_0) :=
  (owns_whole (c : Thread nD τ) cc0_stg5_0 fullShare _).trans (congrArg (fun f => ((c : Thread nD τ).loc cc0_stg5_0 ↦{fullShare} f : sProp 𝕄)) (σin_5 m c _ _ _ _ _ _ _ _).symm)
theorem owI6 (c : Dev nD) (t : Fin (cfg0 (F := F)).N) : (owns (c : Thread nD τ) (ms0_6 t) fullShare (iblk m c 6 t) : sProp 𝕄) = ((c : Thread nD τ).loc cc0_stg6_0 ↦{fullShare} σ₀ m c t cc0_stg6_0) :=
  (owns_whole (c : Thread nD τ) cc0_stg6_0 fullShare _).trans (congrArg (fun f => ((c : Thread nD τ).loc cc0_stg6_0 ↦{fullShare} f : sProp 𝕄)) (σin_6 m c _ _ _ _ _ _ _ _).symm)
theorem owI7 (c : Dev nD) (t : Fin (cfg0 (F := F)).N) : (owns (c : Thread nD τ) (ms0_7 t) fullShare (iblk m c 7 t) : sProp 𝕄) = ((c : Thread nD τ).loc cc0_stg7_0 ↦{fullShare} σ₀ m c t cc0_stg7_0) :=
  (owns_whole (c : Thread nD τ) cc0_stg7_0 fullShare _).trans (congrArg (fun f => ((c : Thread nD τ).loc cc0_stg7_0 ↦{fullShare} f : sProp 𝕄)) (σin_7 m c _ _ _ _ _ _ _ _).symm)

theorem ownIn (c : Dev nD) (t : Fin (cfg0 (F := F)).N) : (ownL (c := (c : Thread nD τ)) Lr (σ₀ m c t) : sProp 𝕄)
    = iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ emp) := by
  rw [owI0, owI1, owI2, owI3, owI4, owI5, owI6, owI7]
  rfl

theorem ownIn_to (c : Dev nD) (t : Fin (cfg0 (F := F)).N) : (ownL (c := (c : Thread nD τ)) Lr (σ₀ m c t) : sProp 𝕄) ⊢ iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ emp) := by
  rw [ownIn]

theorem ownL_split (c : Dev nD) (L L' : List (Ref sig .tc)) (σ : St (sig := sig) (Elt F) (c : Thread nD τ)) :
    (ownL (c := (c : Thread nD τ)) (L ++ L') σ : sProp 𝕄) ⊢ iprop(ownL (c := (c : Thread nD τ)) L σ ∗ ownL (c := (c : Thread nD τ)) L' σ) :=
  ownL_unappend L L' σ

/-- The body, from its buffers at some contents with the inputs staged: the inputs are kept, and `Q` holds of the
    outputs. -/
theorem body_wp (c : Dev nD) (t : Fin (cfg0 (F := F)).N) (C : Calls (sig := sig) (Elt F) (Λ₀ F) (c : Thread nD τ))
    (hdefs : ∀ ℓ a σ, C.pre ℓ a σ → pwp C (C.rank ℓ a) (defs₀ (F := F) (c : Thread nD τ).2 ℓ a) (fun r s => s = σ ∧ C.post ℓ a σ r) σ)
    (n : ℕ) (Q : St (sig := sig) (Elt F) (c : Thread nD τ) → Prop)
    (h : ∀ σ : St (sig := sig) (Elt F) (c : Thread nD τ), (∀ b ∈ Lr, σ b = σ₀ m c t b) →
      pwp C n (Body (F := F)) (fun _ s => (∀ b ∈ Lr, s b = σ₀ m c t b) ∧ Q s) σ) :
    iprop(ownX (Val := Elt F) (c := (c : Thread nD τ)) Lw ∗ ownL (c := (c : Thread nD τ)) Lr (σ₀ m c t))
      ⊢ (wp frame (wpE (defs₀ (F := F)) Variants.nat (c : Thread nD τ) none) Set.univ (Body (F := F))
          (fun _ => iprop(∃ s : St (sig := sig) (Elt F) (c : Thread nD τ), ⌜Q s⌝ ∗ ownL (c := (c : Thread nD τ)) Lw s ∗ ownL (c := (c : Thread nD τ)) Lr (σ₀ m c t))) : sProp 𝕄) := by
  iintro ⟨HX, HL⟩
  ihave ⟨%σ, %hσ, HX⟩ := (ownX_pick (c := (c : Thread nD τ)) Lw Lw_nodup (σ₀ m c t)) $$ HX
  have hin : ∀ b ∈ Lr, σ b = σ₀ m c t b := fun b hb => hσ b (Lr_not_Lw b hb)
  ihave HL := (ownL_congr_ent (c := (c : Thread nD τ)) Lr (fun b hb => (hin b hb).symm)) $$ HL
  ihave H := (ownL_append (c := (c : Thread nD τ)) Lw Lr σ) $$ [HX HL]
  · isplitl [HX]
    · iexact HX
    · iexact HL
  iapply ((adequate (own (F := F) c) (own_gives c) hdefs n (Body (F := F)) _ σ none _ (fun _ hu => nomatch hu) (h σ hin)).trans
    (wp_mono _ _ _ fun r => ?_)) $$ H
  iintro ⟨%s, %hs, H⟩
  iexists s
  isplitr
  · ipureintro; exact hs.2
  ihave ⟨H, HL⟩ := (ownL_split c Lw Lr s) $$ H
  isplitl [H]
  · iexact H
  iapply (ownL_congr_ent (c := (c : Thread nD τ)) Lr hs.1)
  iexact HL

/-- The body keeps its inputs. -/
theorem body_keeps (c : Dev nD) (t : Fin (cfg0 (F := F)).N) (σ : St (sig := sig) (Elt F) (c : Thread nD τ)) (hin : ∀ b ∈ Lr, σ b = σ₀ m c t b) :
    pwp (callsS (F := F) c) 10 (Body (F := F)) (fun _ s => (∀ b ∈ Lr, s b = σ₀ m c t b) ∧ True) σ :=
  pwp_mono (fun _ s hs => ⟨fun b hb => (hs.2 b (Lr_not_Wr b hb)).trans (hin b hb), trivial⟩)
    (safe_pwp (C := callsS (F := F) c) (fun _ _ _ h => h) (fun _ _ _ _ h => h) (fun _ _ => rfl) (safe_body (F := F)) σ)

set_option maxHeartbeats 2400000 in
/-- The body at any point. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1, HS2, HS3, HS4, HS5, HS6, HS7, HS8, HS9, HS10, HS11, HS12, HS13, HS14, HS15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HX := (ownX_of c) $$ [HS0 HS1 HS2 HS3 HS4 HS5 HS6 HS7 HS8 HS9 HS10 HS11 HS12 HS13 HS14 HS15 H8 H9]
  · isplitl [HS0 HS1 HS2 HS3 HS4 HS5 HS6 HS7 HS8 HS9 HS10 HS11 HS12 HS13 HS14 HS15]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      iexact HS15
    isplitl [H8]; · iexists _; iexact H8
    iexists _; iexact H9
  ihave HL : (ownL (c := (c : Thread nD τ)) Lr (σ₀ m c t) : sProp 𝕄) $$ [H0 H1 H2 H3 H4 H5 H6 H7]
  · rw [ownIn]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iempintro
  ihave HW := (body_wp m c t (callsS c) (hdefsS c) 10 (fun _ => True) (body_keeps m c t)) $$ [HX HL]
  · isplitl [HX]
    · iexact HX
    · iexact HL
  iapply (wp_wand _ _ _) $$ HW
  iintro %_ ⟨%s, -, HW, HL⟩
  ihave ⟨HS, H8, H9⟩ := (ownX_to c s) $$ HW
  isplitl [HS Hg]
  · isplitl [HS]
    · iexact HS
    iexact Hg
  isplitl [Ho]; · iexact Ho
  ihave ⟨H0, H1, H2, H3, H4, H5, H6, H7, -⟩ := (ownIn_to m c t) $$ HL
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; iexact H8
  iexists _; iexact H9

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.nat () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost ((cfgs (F := F)) 0) (fun c => (dats m 0 c).toRForget forgets0) (V m)) r ∧ r.2.sem = fun _ => 0) :=
  Pipeline.θ_run_frame_forget_shared (Q' := _) (cfgs (F := F)) (dats m) (0 : Fin 1) launch₀0 defs₀ Variants.nat forgets0 m ρ main
    (hbody := fun c => (body_obligation m c).loose) (hq := fun _ _ _ => rfl)
    (howed := fun _ _ => rfl) (V := V m) (hmain := hmain m Variants.nat) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost ((cfgs (F := F)) 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- The argument arrays end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Hand

end
-- ==== Proof.Val.lean ====
/-
  Reading and writing whole buffers element by element: what a load returns at an index and what a store leaves
  at an index, and buffers read at plain natural-number coordinates.
-/
module

public import proofs.«01_k».proof.Proof.SafeKernelIdeal
public import Idealize.ShloMosaic.Lib.Pointwise

@[expose] public section

set_option maxRecDepth 16384

noncomputable section

namespace Cert.Val

open Idealize.ShloMosaic Idealize.SL.Sem Cert.Seq

section Generic

variable {nD : Nat} {τ : Topo} {sig : RefSig} {Val : EltTy → Type} {Λ : Labels} {c : Thread nD τ}
  {C : Calls (sig := sig) Val Λ c} {n : ℕ} {α β : Type}

/-- What a buffer holds at an index. -/
def rd {cs : CoreSpace} {s : Shape} {e : EltTy} (m : Memref sig c.2.kind cs s e) (σ : St (sig := sig) Val c) (i : s.Idx) : Val e :=
  m.view.read Val (σ m.view.ref) i

/-- A load at coordinates `r`. -/
theorem pwp_load {cs : CoreSpace} {s : Shape} {e : EltTy} {m : Memref sig c.2.kind cs s e} {r : LoadRect s} {h : m.view.LoadsAt r}
    {k : (r.shape.Idx → Val e) → Prog (TpuEff nD τ sig Val Λ c.2) β} {Q : β → St (sig := sig) Val c → Prop}
    {σ : St (sig := sig) Val c} (hb : InCore m.view.ref)
    (hk : ∀ v : r.shape.Idx → Val e, (∀ x, v x = rd m σ (r.idx x)) → pwp C n (k v) Q σ) :
    pwp C n (Prog.lift (.load m r h) >>= k) Q σ := ⟨hb, hk _ fun _ => rfl⟩

/-- A scalar load. -/
theorem pwp_smem {s : Shape} {e : EltTy} {m : Memref sig c.2.kind .smem s e} {r : Rect s} {h1 : r.shape.numel = 1} {hp : e.packing = 1}
    {k : Val e → Prog (TpuEff nD τ sig Val Λ c.2) β} {Q : β → St (sig := sig) Val c → Prop}
    {σ : St (sig := sig) Val c} (hb : InCore m.view.ref)
    (hk : ∀ v : Val e, v = rd m σ (r.point h1) → pwp C n (k v) Q σ) :
    pwp C n (smemLoad m r h1 hp >>= k) Q σ := ⟨hb, hk _ rfl⟩

/-- A store: every other buffer is kept, and at an index of this one the new value stands inside the
    rectangle, the old one outside. -/
theorem pwp_store {cs : CoreSpace} {s : Shape} {e : EltTy} {m : Memref sig c.2.kind cs s e} {r : Rect s} {w : r.shape.Idx → Val e}
    {h : (m.access r).Stores Finset.univ} {hm : (Finset.univ : Finset r.shape.Idx) = Finset.univ ∨ ∀ a, r.stride a = 1}
    {k : PUnit → Prog (TpuEff nD τ sig Val Λ c.2) β} {Q : β → St (sig := sig) Val c → Prop}
    {σ : St (sig := sig) Val c} (hb : InCore m.view.ref)
    (hk : ∀ s' : St (sig := sig) Val c, (∀ b', b' ≠ m.view.ref → s' b' = σ b') →
      (∀ (i : s.Idx) (P : Val e → Prop), (∀ j, r.emb j = i → P (w j)) → (i ∉ r.set → P (rd m σ i)) → P (rd m s' i)) →
      pwp C n (k ⟨⟩) Q s') :
    pwp C n (Prog.lift (.store m r w Finset.univ h hm) >>= k) Q σ := by
  refine ⟨hb, hk _ (fun b' hb' => Function.update_of_ne hb' _ _) fun i P h1 h2 => ?_⟩
  have e1 : rd m (Function.update σ m.view.ref ((m.access r).write Val (σ m.view.ref) w Finset.univ)) i
      = m.view.read Val ((m.access r).write Val (σ m.view.ref) w Finset.univ) i := by
    unfold rd; rw [Function.update_self]
  rw [e1]
  by_cases hi : i ∈ r.set
  · obtain ⟨j, hj⟩ := r.exists_idx_of_mem hi
    have hj' : r.emb j = i := hj
    have := View.read_write_of_mem (v := m.access r) (Val := Val) (σ m.view.ref) w (M := Finset.univ) (x := j) (Finset.mem_univ _)
    have e2 : m.view.read Val ((m.access r).write Val (σ m.view.ref) w Finset.univ) (r.emb j) = w j := this
    rw [← hj', e2]; exact h1 j hj'
  · have hy : m.view.emb i ∉ (m.access r).setOn Finset.univ := by
      intro hm'
      apply hi
      obtain ⟨x, -, hx⟩ := Finset.mem_map.1 hm'
      have : r.emb x = i := m.view.emb.injective hx
      rw [← this]; exact r.idx_mem x
    have e2 : m.view.read Val ((m.access r).write Val (σ m.view.ref) w Finset.univ) i = rd m σ i := by
      unfold rd
      rw [View.read_apply, View.read_apply]
      congr 1
      exact View.write_of_not_mem (v := m.access r) (Val := Val) (σ m.view.ref) w Finset.univ hy
    rw [e2]; exact h2 hi

theorem pwp_pure {a : α} {Q : α → St (sig := sig) Val c → Prop} {σ : St (sig := sig) Val c} (h : Q a σ) :
    pwp C n (pure a : Prog (TpuEff nD τ sig Val Λ c.2) α) Q σ := h

theorem pwp_and {p : Prog (TpuEff nD τ sig Val Λ c.2) α} {Q Q' : α → St (sig := sig) Val c → Prop} {σ : St (sig := sig) Val c}
    (h : pwp C n p Q σ) (h' : pwp C n p Q' σ) : pwp C n p (fun a s => Q a s ∧ Q' a s) σ := by
  induction p generalizing σ with
  | ret a => exact ⟨h, h'⟩
  | op e k ih =>
    cases e <;> try exact h.elim
    · exact ⟨h.1, ih _ h.2 h'.2⟩
    · exact ⟨h.1, ih _ h.2 h'.2⟩
    · obtain ⟨hP, h⟩ := h; obtain ⟨hP', h'⟩ := h'; exact ⟨hP, ih _ h h'⟩
    · exact ⟨h.1, h.2.1, fun r hr => ih _ (h.2.2 r hr) (h'.2.2 r hr)⟩

/-- A loop and then the rest, by an invariant of the loop. -/
theorem pwp_for_bind {w : ℕ} {l : Scf.Loop w} {hok} {init : α} {body : Fin l.trips → α → Prog (TpuEff nD τ sig Val Λ c.2) α}
    {k : α → Prog (TpuEff nD τ sig Val Λ c.2) β}
    (I : ℕ → α → St (sig := sig) Val c → Prop) {Q : β → St (sig := sig) Val c → Prop} {σ : St (sig := sig) Val c}
    (h0 : I 0 init σ) (hstep : ∀ (k : Fin l.trips) a s, I k.val a s → pwp C n (body k a) (I (k.val + 1)) s)
    (hQ : ∀ a s, I l.trips a s → pwp C n (k a) Q s) :
    pwp C n (Scf.Loop.for l hok init body >>= k) Q σ :=
  pwp_bind (pwp_for I h0 hstep hQ)

/-- A part known to keep all buffers but those it may write, then the rest. -/
theorem pwp_seq {p : Prog (TpuEff nD τ sig Val Λ c.2) α} {k : α → Prog (TpuEff nD τ sig Val Λ c.2) β}
    {R : α → St (sig := sig) Val c → Prop} {Q : β → St (sig := sig) Val c → Prop} {σ : St (sig := sig) Val c}
    (h : pwp C n p R σ) (hk : ∀ a s, R a s → pwp C n (k a) Q s) : pwp C n (p >>= k) Q σ :=
  pwp_bind (pwp_mono hk h)

end Generic

/-! ### Natural-number coordinates -/

section Nat

variable {V : Type} [Inhabited V]

/-- A matrix at natural-number coordinates. -/
def nat2 {n0 n1 : ℕ} (f : (⟨2, ![n0, n1]⟩ : Shape).Idx → V) (a b : ℕ) : V :=
  if h : a < n0 ∧ b < n1 then f (ix2 ⟨a, h.1⟩ ⟨b, h.2⟩) else default

def nat4 {n0 n1 n2 n3 : ℕ} (f : (⟨4, ![n0, n1, n2, n3]⟩ : Shape).Idx → V) (a b c d : ℕ) : V :=
  if h : a < n0 ∧ b < n1 ∧ c < n2 ∧ d < n3 then f (ix4 ⟨a, h.1⟩ ⟨b, h.2.1⟩ ⟨c, h.2.2.1⟩ ⟨d, h.2.2.2⟩) else default

theorem nat2_eq {n0 n1 : ℕ} (f : (⟨2, ![n0, n1]⟩ : Shape).Idx → V) (i : (⟨2, ![n0, n1]⟩ : Shape).Idx) :
    f i = nat2 f (i 0).val (i 1).val := by
  rw [nat2, dif_pos ⟨(i 0).2, (i 1).2⟩]; congr 1; exact eq_ix2 i

theorem nat4_eq {n0 n1 n2 n3 : ℕ} (f : (⟨4, ![n0, n1, n2, n3]⟩ : Shape).Idx → V) (i : (⟨4, ![n0, n1, n2, n3]⟩ : Shape).Idx) :
    f i = nat4 f (i 0).val (i 1).val (i 2).val (i 3).val := by
  rw [nat4, dif_pos ⟨(i 0).2, (i 1).2, (i 2).2, (i 3).2⟩]; congr 1; exact eq_ix4 i

end Nat

end Cert.Val

end
-- ==== Proof.StageB.lean ====
/-
  What the second pass stages for a batch: the factor of a score, the queries transposed, the keys permuted and the
  segment ids broadcast.
-/
module

public import proofs.«01_k».proof.Proof.Val

@[expose] public section

set_option maxRecDepth 16384

noncomputable section

namespace Cert.KernelIdeal.Hand.PB

open Idealize.ShloMosaic Idealize.ShloMosaic.TcCoe Idealize.SL.Sem Cert.Seq Cert.Val Cert.KernelIdeal.Gen

/-- The contents of the core's buffers. -/
abbrev SS (d : Dev nD) := St (sig := sig) (Elt Ideal) (d : Thread nD τ)

/-- What a buffer of the core holds. -/
abbrev R {d : Dev nD} {cs : CoreSpace} {s : Shape} {e : EltTy} (m : Memref sig .tc cs s e) (σ : SS d) : s.Idx → Elt Ideal e := rd (c := (d : Thread nD τ)) m σ

/-- Only the listed buffers changed. -/
def Keep {d : Dev nD} (L : List (Ref sig .tc)) (σ s : SS d) : Prop := ∀ b, b ∉ L → s b = σ b

theorem Keep.refl {d : Dev nD} (L : List (Ref sig .tc)) (σ : SS d) : Keep L σ σ := fun _ _ => rfl

theorem Keep.trans {d : Dev nD} {L : List (Ref sig .tc)} {σ s s' : SS d} (h : Keep L σ s) (h' : Keep L s s') : Keep L σ s' :=
  fun b hb => (h' b hb).trans (h b hb)

theorem Keep.mono {d : Dev nD} {L L' : List (Ref sig .tc)} {σ s : SS d} (h : Keep L σ s) (hL : ∀ b, b ∈ L → b ∈ L') : Keep L' σ s :=
  fun b hb => h b fun h' => hb (hL b h')

theorem Keep.rd {d : Dev nD} {L : List (Ref sig .tc)} {σ s : SS d} (h : Keep L σ s) {cs : CoreSpace} {sh : Shape} {e : EltTy}
    (m : Memref sig .tc cs sh e) (hm : m.view.ref ∉ L) : R m s = R m σ := by
  funext i; unfold R Cert.Val.rd; rw [h _ hm]

theorem Keep.step {d : Dev nD} {L : List (Ref sig .tc)} {σ s s' : SS d} (h : Keep L σ s) {b : Ref sig .tc} (hb : b ∈ L)
    (h' : ∀ b', b' ≠ b → s' b' = s b') : Keep L σ s' :=
  fun b' hb' => (h' b' (fun e => hb' (e ▸ hb))).trans (h b' hb')

/-- The arguments at natural-number coordinates. -/
structure Inp where
  segS : ℕ → ℕ → BitVec 32
  qs : ℕ → ℕ → EReal
  ks : ℕ → ℕ → EReal
  q : ℕ → ℕ → ℕ → ℕ → EReal
  k : ℕ → ℕ → ℕ → ℕ → EReal
  seg : ℕ → ℕ → BitVec 32
  vs : ℕ → ℕ → EReal
  v : ℕ → ℕ → ℕ → ℕ → EReal

/-- The argument buffers hold the arguments. -/
structure Ins {d : Dev nD} (I : Inp) (σ : SS d) : Prop where
  h0 : ∀ i, R M0 σ i = I.segS (i 0).val (i 1).val
  h1 : ∀ i, R M1 σ i = I.qs (i 0).val (i 1).val
  h2 : ∀ i, R M2 σ i = I.ks (i 0).val (i 1).val
  h4 : ∀ i, R M4 σ i = I.q (i 0).val (i 1).val (i 2).val (i 3).val
  h5 : ∀ i, R M5 σ i = I.k (i 0).val (i 1).val (i 2).val (i 3).val
  h7 : ∀ i, R M7 σ i = I.seg (i 0).val (i 1).val
  h3 : ∀ i, R M3 σ i = I.vs (i 0).val (i 1).val
  h6 : ∀ i, R M6 σ i = I.v (i 0).val (i 1).val (i 2).val (i 3).val

theorem Ins.keep {d : Dev nD} {I : Inp} {σ s : SS d} {L : List (Ref sig .tc)} (h : Ins I σ) (hk : Keep L σ s)
    (hL : ∀ b ∈ [M0.view.ref, M1.view.ref, M2.view.ref, M4.view.ref, M5.view.ref, M7.view.ref, M3.view.ref, M6.view.ref], b ∉ L) : Ins I s := by
  simp only [List.mem_cons, List.not_mem_nil, or_false, forall_eq_or_imp, forall_eq] at hL
  obtain ⟨l0, l1, l2, l4, l5, l7, l3, l6⟩ := hL
  refine ⟨?_, ?_, ?_, ?_, ?_, ?_, ?_, ?_⟩
  · rw [hk.rd M0 l0]; exact h.h0
  · rw [hk.rd M1 l1]; exact h.h1
  · rw [hk.rd M2 l2]; exact h.h2
  · rw [hk.rd M4 l4]; exact h.h4
  · rw [hk.rd M5 l5]; exact h.h5
  · rw [hk.rd M7 l7]; exact h.h7
  · rw [hk.rd M3 l3]; exact h.h3
  · rw [hk.rd M6 l6]; exact h.h6

/-- The kernel's constants. -/
def cD : EReal := Ideal.ofBits .f32 0x3DB504F3#32
def cL : EReal := Named.named (F := Ideal) (φ := .f32) κ "log2_e" 0x3FB8AA3B#32

theorem off52_eq (a : Fin k0_t32_loop.trips) (b : Fin k0_t33_loop.trips) (c : Fin k0_t34_loop.trips) :
    k0_off52 a b c = ![a.val, c.val * 3 + b.val] := by revert a b c; decide +kernel
theorem off53_eq (a : Fin k0_t32_loop.trips) (c : Fin k0_t34_loop.trips) :
    k0_off53 a c = ![a.val, c.val] := by revert a c; decide +kernel
theorem off54_eq (b : Fin k0_t33_loop.trips) : k0_off54 b = ![b.val, 0, 0] := by revert b; decide +kernel

theorem iv_ofNat (k : ℕ) : Scf.iv (0#32) (1#32) k = BitVec.ofNat 32 k := by
  simp [Scf.iv]

theorem pay14_eq (k : Fin k0_t34_loop.trips) (acc : FVec Ideal S8x128 .f32) (v w : EReal) (j : S8x128.Idx) :
    k0_pay14 (F := Ideal) k acc v w j = if (j 0).val = k.val then v * w * cD * cL else acc j := by
  pointwise [k0_pay14]
  rw [iv_ofNat]
  have : (BitVec.ofNat 32 (j 0).val = BitVec.ofNat 32 k.val) ↔ (j 0).val = k.val := by
    have h1 : (j 0).val < 8 := (j 0).2
    have h2 : k.val < 8 := k.2
    constructor
    · intro h
      have := congrArg BitVec.toNat h
      simp at this; omega
    · intro h; rw [h]
  by_cases h : (j 0).val = k.val
  · rw [if_pos h, h]; simp [IntOp.cmpi, Scalar.select]; rfl
  · rw [if_neg h]; simp [IntOp.cmpi, Scalar.select, beq_eq_false_iff_ne.2 (fun e => h (this.1 e))]

theorem pay15_eq (v : FVec Ideal S8x128 .f32) (j : S1x8x128.Idx) : k0_pay15 (F := Ideal) v j = v (ix2 (j 1) (j 2)) := by
  pointwise [k0_pay15]

theorem pay16_eq (v : Vec Ideal S1x128x1x128 .fp8e4m3) (j : S1x1x128x128.Idx) :
    k0_pay16 (F := Ideal) v j = v (ix4 0 (j 3) 0 (j 2)) := by
  pointwise [k0_pay16]

theorem pay17_eq (v : Vec Ideal S1x128x1x128 .fp8e4m3) (j : S1x1x128x128.Idx) :
    k0_pay17 (F := Ideal) v j = v (ix4 0 (j 3) 0 (j 2)) := by
  pointwise [k0_pay17]

theorem sl_lt (a : ℕ) (h : a < 32) : a % 4 * 8 + a / 4 < 32 := by omega

theorem pay18_eq (v : Vec Ideal S1x32x1x128 .fp8e4m3) (j : S1x1x32x128.Idx) :
    k0_pay18 (F := Ideal) v j = v (ix4 0 ⟨(j 2).val % 4 * 8 + (j 2).val / 4, sl_lt _ (j 2).2⟩ 0 (j 3)) := by
  pointwise [k0_pay18]

theorem pay19_eq (v : Vec Ideal S1x128 .i32) (j : S1x128x128.Idx) :
    k0_pay19 (F := Ideal) v j = v (ix2 0 (j 1)) := by
  pointwise [k0_pay19]

/-- A unit rectangle holds the points within its bounds. -/
theorem mem_unit {s : Shape} {off size : Fin s.rank → ℕ} (inb) (i : s.Idx) (h : ∀ a, off a ≤ (i a).val ∧ (i a).val < off a + size a) :
    i ∈ (Rect.unit off size inb : Rect s).set := by
  refine (LoadRect.mem_set _).2 fun a => ⟨(i a).val - off a, ?_, ?_⟩
  · have := h a; show (i a).val - off a < size a; omega
  · have := h a; show (i a).val = off a + 1 * ((i a).val - off a); omega

variable {d : Dev nD} {C : Calls (sig := sig) (Elt Ideal) (Λ₀ Ideal) (d : Thread nD τ)} {n : ℕ}

theorem ld {β : Type} {cs : CoreSpace} {s : Shape} {e : EltTy} {m : Memref sig .tc cs s e} {r : LoadRect s} {h : m.view.LoadsAt r}
    {k : (r.shape.Idx → Elt Ideal e) → Prog (TpuEff nD τ sig (Elt Ideal) (Λ₀ Ideal) .tc) β} {Q : β → SS d → Prop} {σ : SS d} (hb : InCore m.view.ref)
    (hk : ∀ v : r.shape.Idx → Elt Ideal e, (∀ x, v x = R m σ (r.idx x)) → pwp C n (k v) Q σ) :
    pwp C n (Prog.lift (.load m r h) >>= k) Q σ := pwp_load hb hk

theorem sl {β : Type} {s : Shape} {e : EltTy} {m : Memref sig .tc .smem s e} {r : Rect s} {h1 : r.shape.numel = 1} {hp : e.packing = 1}
    {k : Elt Ideal e → Prog (TpuEff nD τ sig (Elt Ideal) (Λ₀ Ideal) .tc) β} {Q : β → SS d → Prop} {σ : SS d} (hb : InCore m.view.ref)
    (hk : ∀ v : Elt Ideal e, v = R m σ (r.point h1) → pwp C n (k v) Q σ) :
    pwp C n (smemLoad m r h1 hp >>= k) Q σ := pwp_smem hb hk

/-- A store that makes a predicate hold at more indices. -/
theorem pwp_put {β : Type} {cs : CoreSpace} {s : Shape} {e : EltTy} {m : Memref sig .tc cs s e} {r : Rect s} {w : r.shape.Idx → Elt Ideal e}
    {h : (m.access r).Stores Finset.univ} {hm : (Finset.univ : Finset r.shape.Idx) = Finset.univ ∨ ∀ a, r.stride a = 1}
    {k : PUnit → Prog (TpuEff nD τ sig (Elt Ideal) (Λ₀ Ideal) .tc) β} {Q : β → SS d → Prop}
    {σ : SS d} (P : s.Idx → Elt Ideal e → Prop) (D D' : s.Idx → Prop) (hb : InCore m.view.ref)
    (hold : ∀ i, D i → P i (R m σ i)) (hnew : ∀ j, P (r.emb j) (w j)) (hcov : ∀ i, D' i → ¬ D i → i ∈ r.set)
    (hk : ∀ s' : SS d, (∀ b', b' ≠ m.view.ref → s' b' = σ b') → (∀ i, D' i → P i (R m s' i)) → pwp C n (k ⟨⟩) Q s') :
    pwp C n (Prog.lift (.store m r w Finset.univ h hm) >>= k) Q σ :=
  pwp_store hb fun s' hs hw => hk s' hs fun i hi => hw i (P i) (fun j hj => hj ▸ hnew j)
    fun hn => hold i (by by_contra hc; exact hn (hcov i hi hc))

/-- The factor of a score at group `g` and repeat `r`. -/
def Fv (I : Inp) (b g r : ℕ) : EReal := I.qs b (g * 3 + r) * I.ks b g * cD * cL

/-- The position within a block of 128 keys that the permutation puts at `p`. -/
def perm (p : ℕ) : ℕ := p / 32 * 32 + (p % 32 % 4 * 8 + p % 32 / 4)

def P15 (I : Inp) (b : ℕ) (i : S3x8x128.Idx) (v : EReal) : Prop := v = Fv I b (i 1).val (i 0).val
def P10 (I : Inp) (b : ℕ) (i : S5x8x128x384.Idx) (v : EReal) : Prop :=
  v = I.q b ((i 0).val * 128 + (i 3).val % 128) ((i 1).val * 3 + (i 3).val / 128) (i 2).val
def P11 (I : Inp) (b : ℕ) (i : S5x8x128x128.Idx) (v : EReal) : Prop :=
  v = I.k b ((i 0).val * 128 + perm (i 2).val) (i 1).val (i 3).val
def P12 (I : Inp) (b : ℕ) (i : S5x8x128x128.Idx) (v : EReal) : Prop :=
  v = I.v b ((i 0).val * 128 + (i 3).val) (i 1).val (i 2).val
def P14 (I : Inp) (b : ℕ) (i : S5x128x128.Idx) (v : BitVec 32) : Prop := v = I.seg b ((i 0).val * 128 + (i 1).val)

theorem run_t34 (I : Inp) (b : Fin k0_t32_loop.trips) (r : Fin k0_t33_loop.trips) (k : Fin k0_t34_loop.trips) (a : FVec Ideal S8x128 .f32) (σ : SS d)
    (hI : Ins I σ) (h : ∀ i : S8x128.Idx, (i 0).val < k.val → a i = Fv I b (i 0).val r) :
    pwp C n (B34 (F := Ideal) b r k a) (fun (a' : FVec Ideal S8x128 .f32) s => s = σ ∧ ∀ i : S8x128.Idx, (i 0).val < k.val + 1 → a' i = Fv I b (i 0).val r) σ := by
  unfold B34 k0_t34_body
  refine sl (Or.inr rfl) fun v hv => ?_
  refine sl (Or.inr rfl) fun w hw => ?_
  refine pwp_pure ⟨rfl, fun i hi => ?_⟩
  rw [pay14_eq]
  split
  · next e =>
    rw [hv, hw, hI.h1, hI.h2, Fv]
    simp [Rect.point, Rect.emb_apply, off52_eq, off53_eq, e, Shape.Idx.first]
  · exact h i (by omega)

theorem run_t33 (I : Inp) (b : Fin k0_t32_loop.trips) (σ₀ : SS d) (hI : Ins I σ₀) (k : Fin k0_t33_loop.trips) (a) (σ : SS d)
    (hs : Keep [M15.view.ref] σ₀ σ ∧ ∀ i : S3x8x128.Idx, (i 0).val < k.val → P15 I b i (R M15 σ i)) :
    pwp C n (B33 (F := Ideal) b k a) (fun _ s => Keep [M15.view.ref] σ₀ s ∧
      ∀ i : S3x8x128.Idx, (i 0).val < k.val + 1 → P15 I b i (R M15 s i)) σ := by
  unfold B33 k0_t33_body
  have hI' : Ins I σ := hI.keep hs.1 (by decide +kernel)
  refine pwp_for_bind (fun g (a : FVec Ideal S8x128 .f32) s => s = σ ∧ ∀ i : S8x128.Idx, (i 0).val < g → a i = Fv I b (i 0).val k) ⟨rfl, fun _ h => absurd h (Nat.not_lt_zero _)⟩
    (fun g a s hs' => ?_) fun a s hs' => ?_
  · obtain ⟨rfl, hs'⟩ := hs'; exact run_t34 I b k g a s hI' hs'
  obtain ⟨rfl, ha⟩ := hs'
  refine ld (Or.inl rfl) fun v hv => ?_
  refine pwp_put (P15 I b) (fun i => (i 0).val < k.val) (fun i => (i 0).val < k.val + 1) (Or.inl rfl) hs.2 (fun j => ?_) (fun i h1 h2 => mem_unit _ _ ?_) fun s' hk' hw => ?_
  · have h0 : (j 0).val = 0 := by have : (j 0).val < 1 := (j 0).2; omega
    unfold P15
    rw [pay15_eq, ha _ (show _ < 8 from (j 1).2)]
    simp [Rect.emb_apply, off54_eq, h0]
  · have h1' := (i 1).2; have h2' := (i 2).2
    rw [off54_eq]; simp [Fin.forall_fin_succ, S1x8x128, S3x8x128] at *; omega
  · exact pwp_pure ⟨hs.1.step (by simp) hk', hw⟩

theorem off55_eq (a : Fin k0_t32_loop.trips) (t : Fin k0_t35_loop.trips) (g : Fin k0_t36_loop.trips) (r : Fin k0_t37_loop.trips) :
    k0_off55 a t g r = ![a.val, t.val * 128, g.val * 3 + r.val, 0] := by revert a t g r; decide +kernel
theorem off56_eq (t : Fin k0_t35_loop.trips) (g : Fin k0_t36_loop.trips) (r : Fin k0_t37_loop.trips) :
    k0_off56 t g r = ![t.val, g.val, 0, r.val * 128] := by revert t g r; decide +kernel
theorem off57_eq (a : Fin k0_t32_loop.trips) (t : Fin k0_t35_loop.trips) (g : Fin k0_t38_loop.trips) :
    k0_off57 a t g = ![a.val, t.val * 128, g.val, 0] := by revert a t g; decide +kernel
theorem off58_eq (t : Fin k0_t35_loop.trips) (g : Fin k0_t38_loop.trips) :
    k0_off58 t g = ![t.val, g.val, 0, 0] := by revert t g; decide +kernel
theorem off59_eq (a : Fin k0_t32_loop.trips) (t : Fin k0_t35_loop.trips) (g : Fin k0_t39_loop.trips) (r : Fin k0_t40_loop.trips) :
    k0_off59 a t g r = ![a.val, t.val * 128 + r.val * 32, g.val, 0] := by revert a t g r; decide +kernel
theorem off60_eq (t : Fin k0_t35_loop.trips) (g : Fin k0_t39_loop.trips) (r : Fin k0_t40_loop.trips) :
    k0_off60 t g r = ![t.val, g.val, r.val * 32, 0] := by revert t g r; decide +kernel
theorem off61_eq (a : Fin k0_t32_loop.trips) (t : Fin k0_t35_loop.trips) : k0_off61 a t = ![a.val * 5 + t.val, 0] := by revert a t; decide +kernel
theorem off62_eq (t : Fin k0_t35_loop.trips) : k0_off62 t = ![t.val, 0, 0] := by revert t; decide +kernel

/-- The indices of a buffer of five tiles that tile `t` fills up to group `g`, and there up to `x` in steps of `u` along `a`. -/
theorem run_t37 (I : Inp) (b : Fin k0_t32_loop.trips) (t : Fin k0_t35_loop.trips) (g : Fin k0_t36_loop.trips) (σ₀ : SS d) (hI : Ins I σ₀) (k : Fin k0_t37_loop.trips) (a) (σ : SS d)
    (hs : Keep [M10.view.ref] σ₀ σ ∧ ∀ i : S5x8x128x384.Idx, ((i 0).val < t.val ∨ (i 0).val = t.val ∧ ((i 1).val < g.val ∨ (i 1).val = g.val ∧ (i 3).val < k.val * 128)) → P10 I b i (R M10 σ i)) :
    pwp C n (B37 (F := Ideal) b t g k a) (fun _ s => Keep [M10.view.ref] σ₀ s ∧
      ∀ i : S5x8x128x384.Idx, ((i 0).val < t.val ∨ (i 0).val = t.val ∧ ((i 1).val < g.val ∨ (i 1).val = g.val ∧ (i 3).val < (k.val + 1) * 128)) → P10 I b i (R M10 s i)) σ := by
  unfold B37 k0_t37_body
  have hI' : Ins I σ := hI.keep hs.1 (by decide +kernel)
  refine ld (Or.inl rfl) fun v hv => ?_
  refine ld (Or.inl rfl) fun _ _ => ?_
  refine pwp_put (P10 I b) _ (fun i => (i 0).val < t.val ∨ (i 0).val = t.val ∧ ((i 1).val < g.val ∨ (i 1).val = g.val ∧ (i 3).val < (k.val + 1) * 128)) (Or.inl rfl) hs.2 (fun j => ?_) (fun i h1 h2 => mem_unit _ _ ?_) fun s' hk' hw => ?_
  · have h0 : (j 0).val = 0 := by have : (j 0).val < 1 := (j 0).2; omega
    have h1 : (j 1).val = 0 := by have : (j 1).val < 1 := (j 1).2; omega
    have h3 : (j 3).val < 128 := (j 3).2
    unfold P10
    rw [pay16_eq, hv, hI'.h4]
    simp [LoadRect.idx_apply, Rect.emb_apply, off55_eq, off56_eq, h0, h1]
    rw [show (k.val * 128 + (j 3).val) / 128 = k.val by omega, Nat.mod_eq_of_lt h3]
  · have := (i 2).2
    rw [off56_eq]; simp [Fin.forall_fin_succ, S1x1x128x128, S5x8x128x384] at *; omega
  · exact pwp_pure ⟨hs.1.step (by simp) hk', hw⟩

theorem run_t40 (I : Inp) (b : Fin k0_t32_loop.trips) (t : Fin k0_t35_loop.trips) (g : Fin k0_t39_loop.trips) (σ₀ : SS d) (hI : Ins I σ₀) (k : Fin k0_t40_loop.trips) (a) (σ : SS d)
    (hs : Keep [M11.view.ref] σ₀ σ ∧ ∀ i : S5x8x128x128.Idx, ((i 0).val < t.val ∨ (i 0).val = t.val ∧ ((i 1).val < g.val ∨ (i 1).val = g.val ∧ (i 2).val < k.val * 32)) → P11 I b i (R M11 σ i)) :
    pwp C n (B40 (F := Ideal) b t g k a) (fun _ s => Keep [M11.view.ref] σ₀ s ∧
      ∀ i : S5x8x128x128.Idx, ((i 0).val < t.val ∨ (i 0).val = t.val ∧ ((i 1).val < g.val ∨ (i 1).val = g.val ∧ (i 2).val < (k.val + 1) * 32)) → P11 I b i (R M11 s i)) σ := by
  unfold B40 k0_t40_body
  have hI' : Ins I σ := hI.keep hs.1 (by decide +kernel)
  refine ld (Or.inl rfl) fun v hv => ?_
  refine ld (Or.inl rfl) fun _ _ => ?_
  refine pwp_put (P11 I b) _ (fun i => (i 0).val < t.val ∨ (i 0).val = t.val ∧ ((i 1).val < g.val ∨ (i 1).val = g.val ∧ (i 2).val < (k.val + 1) * 32)) (Or.inl rfl) hs.2 (fun j => ?_) (fun i h1 h2 => mem_unit _ _ ?_) fun s' hk' hw => ?_
  · have h0 : (j 0).val = 0 := by have : (j 0).val < 1 := (j 0).2; omega
    have h1 : (j 1).val = 0 := by have : (j 1).val < 1 := (j 1).2; omega
    have h2 : (j 2).val < 32 := (j 2).2
    unfold P11
    rw [pay18_eq, hv, hI'.h5]
    simp [LoadRect.idx_apply, Rect.emb_apply, off59_eq, off60_eq, h0, h1, perm]
    congr 1; omega
  · have := (i 3).2
    rw [off60_eq]; simp [Fin.forall_fin_succ, S1x1x32x128, S5x8x128x128] at *; omega
  · exact pwp_pure ⟨hs.1.step (by simp) hk', hw⟩

theorem run_t36 (I : Inp) (b : Fin k0_t32_loop.trips) (t : Fin k0_t35_loop.trips) (σ₀ : SS d) (hI : Ins I σ₀) (g : Fin k0_t36_loop.trips) (a) (σ : SS d)
    (hs : Keep [M10.view.ref] σ₀ σ ∧ ∀ i : S5x8x128x384.Idx, ((i 0).val < t.val ∨ (i 0).val = t.val ∧ (i 1).val < g.val) → P10 I b i (R M10 σ i)) :
    pwp C n (B36 (F := Ideal) b t g a) (fun _ s => Keep [M10.view.ref] σ₀ s ∧
      ∀ i : S5x8x128x384.Idx, ((i 0).val < t.val ∨ (i 0).val = t.val ∧ (i 1).val < g.val + 1) → P10 I b i (R M10 s i)) σ := by
  unfold B36 k0_t36_body
  refine pwp_for_bind (fun k _ s => Keep [M10.view.ref] σ₀ s ∧ ∀ i : S5x8x128x384.Idx, ((i 0).val < t.val ∨ (i 0).val = t.val ∧ ((i 1).val < g.val ∨ (i 1).val = g.val ∧ (i 3).val < k * 128)) → P10 I b i (R M10 s i))
    ⟨hs.1, fun i hi => hs.2 i (by omega)⟩ (fun k a s hs' => run_t37 I b t g σ₀ hI k a s hs') fun a s hs' => ?_
  exact pwp_pure ⟨hs'.1, fun i hi => hs'.2 i (by have : (i 3).val < 384 := (i 3).2; have : k0_t37_loop.trips = 3 := by decide +kernel
                                                 omega)⟩

theorem run_t39 (I : Inp) (b : Fin k0_t32_loop.trips) (t : Fin k0_t35_loop.trips) (σ₀ : SS d) (hI : Ins I σ₀) (g : Fin k0_t39_loop.trips) (a) (σ : SS d)
    (hs : Keep [M11.view.ref] σ₀ σ ∧ ∀ i : S5x8x128x128.Idx, ((i 0).val < t.val ∨ (i 0).val = t.val ∧ (i 1).val < g.val) → P11 I b i (R M11 σ i)) :
    pwp C n (B39 (F := Ideal) b t g a) (fun _ s => Keep [M11.view.ref] σ₀ s ∧
      ∀ i : S5x8x128x128.Idx, ((i 0).val < t.val ∨ (i 0).val = t.val ∧ (i 1).val < g.val + 1) → P11 I b i (R M11 s i)) σ := by
  unfold B39 k0_t39_body
  refine pwp_for_bind (fun k _ s => Keep [M11.view.ref] σ₀ s ∧ ∀ i : S5x8x128x128.Idx, ((i 0).val < t.val ∨ (i 0).val = t.val ∧ ((i 1).val < g.val ∨ (i 1).val = g.val ∧ (i 2).val < k * 32)) → P11 I b i (R M11 s i))
    ⟨hs.1, fun i hi => hs.2 i (by omega)⟩ (fun k a s hs' => run_t40 I b t g σ₀ hI k a s hs') fun a s hs' => ?_
  exact pwp_pure ⟨hs'.1, fun i hi => hs'.2 i (by have : (i 2).val < 128 := (i 2).2; have : k0_t40_loop.trips = 4 := by decide +kernel
                                                 omega)⟩

theorem run_t38 (I : Inp) (b : Fin k0_t32_loop.trips) (t : Fin k0_t35_loop.trips) (σ₀ : SS d) (hI : Ins I σ₀) (g : Fin k0_t38_loop.trips) (a) (σ : SS d)
    (hs : Keep [M12.view.ref] σ₀ σ ∧ ∀ i : S5x8x128x128.Idx, ((i 0).val < t.val ∨ (i 0).val = t.val ∧ (i 1).val < g.val) → P12 I b i (R M12 σ i)) :
    pwp C n (B38 (F := Ideal) b t g a) (fun _ s => Keep [M12.view.ref] σ₀ s ∧
      ∀ i : S5x8x128x128.Idx, ((i 0).val < t.val ∨ (i 0).val = t.val ∧ (i 1).val < g.val + 1) → P12 I b i (R M12 s i)) σ := by
  unfold B38 k0_t38_body
  have hI' : Ins I σ := hI.keep hs.1 (by decide +kernel)
  refine ld (Or.inl rfl) fun v hv => ?_
  refine ld (Or.inl rfl) fun _ _ => ?_
  refine pwp_put (P12 I b) _ (fun i => (i 0).val < t.val ∨ (i 0).val = t.val ∧ (i 1).val < g.val + 1) (Or.inl rfl) hs.2 (fun j => ?_) (fun i h1 h2 => mem_unit _ _ ?_) fun s' hk' hw => ?_
  · have h0 : (j 0).val = 0 := by have : (j 0).val < 1 := (j 0).2; omega
    have h1 : (j 1).val = 0 := by have : (j 1).val < 1 := (j 1).2; omega
    unfold P12
    rw [pay17_eq, hv, hI'.h6]
    simp [LoadRect.idx_apply, Rect.emb_apply, off57_eq, off58_eq, h0, h1]
  · have := (i 2).2; have := (i 3).2
    rw [off58_eq]; simp [Fin.forall_fin_succ, S1x1x128x128, S5x8x128x128] at *; omega
  · exact pwp_pure ⟨hs.1.step (by simp) hk', hw⟩

/-- What the staging of the tiles changes. -/
def LS : List (Ref sig .tc) := [M10.view.ref, M11.view.ref, M12.view.ref, M14.view.ref]

/-- The segment ids of the queries, a row of 128 at each tile. -/
def F25 (I : Inp) (σ : SS d) : Prop := ∀ i : S15x128.Idx, R M25 σ i = I.seg ((i 0).val / 5) ((i 0).val % 5 * 128 + (i 1).val)

/-- The tiles below `t` are staged. -/
structure Staged (I : Inp) (b t : ℕ) (σ : SS d) : Prop where
  q : ∀ i : S5x8x128x384.Idx, (i 0).val < t → P10 I b i (R M10 σ i)
  k : ∀ i : S5x8x128x128.Idx, (i 0).val < t → P11 I b i (R M11 σ i)
  s : ∀ i : S5x128x128.Idx, (i 0).val < t → P14 I b i (R M14 σ i)
  v : ∀ i : S5x8x128x128.Idx, (i 0).val < t → P12 I b i (R M12 σ i)

theorem Staged.keep {I : Inp} {b t : ℕ} {σ s : SS d} {L : List (Ref sig .tc)} (h : Staged I b t σ) (hk : Keep L σ s)
    (h10 : M10.view.ref ∉ L) (h11 : M11.view.ref ∉ L) (h14 : M14.view.ref ∉ L) (h12 : M12.view.ref ∉ L) : Staged I b t s :=
  ⟨by rw [hk.rd M10 h10]; exact h.q, by rw [hk.rd M11 h11]; exact h.k, by rw [hk.rd M14 h14]; exact h.s, by rw [hk.rd M12 h12]; exact h.v⟩

theorem run_t35 (I : Inp) (b : Fin k0_t32_loop.trips) (σ₀ : SS d) (hI : Ins I σ₀) (h25 : F25 I σ₀) (t : Fin k0_t35_loop.trips) (a) (σ : SS d)
    (hs : Keep LS σ₀ σ ∧ Staged I b t σ) :
    pwp C n (B35 (F := Ideal) b t a) (fun _ s => Keep LS σ₀ s ∧ Staged I b (t.val + 1) s) σ := by
  unfold B35 k0_t35_body
  have hI' : Ins I σ := hI.keep hs.1 (by decide +kernel)
  have e1 : k0_t36_loop.trips = 8 := by decide +kernel
  have e2 : k0_t39_loop.trips = 8 := by decide +kernel
  refine pwp_for_bind (fun g _ s => Keep [M10.view.ref] σ s ∧ ∀ i : S5x8x128x384.Idx, ((i 0).val < t.val ∨ (i 0).val = t.val ∧ (i 1).val < g) → P10 I b i (R M10 s i))
    ⟨.refl _ _, fun i hi => hs.2.q i (by omega)⟩ (fun g a s hs' => run_t36 I b t σ hI' g a s hs') fun _ s1 h1 => ?_
  have k1 : Keep LS σ₀ s1 := hs.1.trans (h1.1.mono (by decide +kernel))
  refine pwp_for_bind (fun g _ s => Keep [M12.view.ref] s1 s ∧ ∀ i : S5x8x128x128.Idx, ((i 0).val < t.val ∨ (i 0).val = t.val ∧ (i 1).val < g) → P12 I b i (R M12 s i))
    ⟨.refl _ _, fun i hi => by rw [h1.1.rd M12 (by decide +kernel)]; exact hs.2.v i (by omega)⟩ (fun g a s hs' => run_t38 I b t s1 (hI.keep k1 (by decide +kernel)) g a s hs') fun _ s2 h2' => ?_
  have h2 := h2'.1
  have e3 : k0_t38_loop.trips = 8 := by decide +kernel
  have k2 : Keep LS σ₀ s2 := k1.trans (h2.mono (by decide +kernel))
  have hS2 : Staged I b t s2 := ⟨fun i hi => by rw [h2.rd M10 (by decide +kernel)]; exact h1.2 i (Or.inl hi),
    by rw [h2.rd M11 (by decide +kernel), h1.1.rd M11 (by decide +kernel)]; exact hs.2.k,
    by rw [h2.rd M14 (by decide +kernel), h1.1.rd M14 (by decide +kernel)]; exact hs.2.s, fun i hi => h2'.2 i (Or.inl hi)⟩
  refine pwp_for_bind (fun g _ s => Keep [M11.view.ref] s2 s ∧ ∀ i : S5x8x128x128.Idx, ((i 0).val < t.val ∨ (i 0).val = t.val ∧ (i 1).val < g) → P11 I b i (R M11 s i))
    ⟨.refl _ _, fun i hi => hS2.k i (by omega)⟩ (fun g a s hs' => run_t39 I b t s2 (hI.keep k2 (by decide +kernel)) g a s hs') fun _ s3 h3 => ?_
  have k3 : Keep LS σ₀ s3 := k2.trans (h3.1.mono (by decide +kernel))
  refine ld (Or.inl rfl) fun v hv => ?_
  refine ld (Or.inl rfl) fun _ _ => ?_
  refine pwp_put (P14 I b) (fun i => (i 0).val < t.val) (fun i => (i 0).val < t.val + 1) (Or.inl rfl) ?_ (fun j => ?_) (fun i h1 h2 => mem_unit _ _ ?_) fun s' hk' hw => ?_
  · rw [h3.1.rd M14 (by decide +kernel)]; exact hS2.s
  · have h0 : (j 0).val = 0 := by have : (j 0).val < 1 := (j 0).2; omega
    have hb : b.val < 3 := b.2
    have ht : t.val < 5 := t.2
    unfold P14
    rw [pay19_eq, hv, k3.rd M25 (by decide +kernel), h25]
    simp [LoadRect.idx_apply, Rect.emb_apply, off61_eq, off62_eq, h0]
    rw [show (b.val * 5 + t.val) / 5 = b.val by omega, Nat.mod_eq_of_lt ht]
  · have := (i 1).2; have := (i 2).2
    rw [off62_eq]; simp [Fin.forall_fin_succ, S1x128x128, S5x128x128] at *; omega
  · have k4 : Keep [M14.view.ref] s3 s' := (Keep.refl _ _).step (by simp) hk'
    refine pwp_pure ⟨k3.trans (k4.mono (by decide +kernel)), fun i hi => ?_, fun i hi => ?_, hw, fun i hi => ?_⟩
    · rw [k4.rd M10 (by decide +kernel), h3.1.rd M10 (by decide +kernel), h2.rd M10 (by decide +kernel)]
      exact h1.2 i (by have : (i 1).val < 8 := (i 1).2; omega)
    · rw [k4.rd M11 (by decide +kernel)]
      exact h3.2 i (by have : (i 1).val < 8 := (i 1).2; omega)
    · rw [k4.rd M12 (by decide +kernel), h3.1.rd M12 (by decide +kernel)]
      exact h2'.2 i (by have : (i 1).val < 8 := (i 1).2; omega)

end Cert.KernelIdeal.Hand.PB

end
-- ==== Proof.LogPass.lean ====
/-
  The second pass over a chunk of keys: the products, the bias of the mask, and the sum of the logarithms.
-/
module

public import proofs.«01_k».proof.Proof.StageB

@[expose] public section

set_option maxRecDepth 16384

noncomputable section

namespace Cert.KernelIdeal.Hand.PB

open Idealize.ShloMosaic Idealize.ShloMosaic.TcCoe Idealize.SL.Sem Cert.Seq Cert.Val Cert.KernelIdeal.Gen

/-! ### The terms -/

def cNI : EReal := Named.named (F := Ideal) (φ := .f32) κ "neg_inf" 0xFF61B1E6#32
def cNL : EReal := Named.named (F := Ideal) (φ := .f32) κ "neg_ln_2" 0xBF317218#32

/-- The base-two logarithm of `1 + m`, as the kernel computes it. -/
def l21p (m : EReal) : EReal :=
  if 1 + m - 1 = 0 then m * cL else Ideal.log (1 + m) * cL * (m * Ideal.div 1 (1 + m - 1))

/-- The softplus to base two, as the kernel computes it. -/
def soft (s : EReal) : EReal :=
  max s 0 + l21p (FloatOps.exp2 (F := Ideal) (φ := .f32) (0 - FloatOps.absf (F := Ideal) (φ := .f32) s))

/-- The product of a key and a query. -/
def zd (I : Inp) (b t g r lane c p : ℕ) : EReal :=
  ∑ x : Fin 128, I.k b (c * 128 + p) g x.val * I.q b (t * 128 + lane) (g * 3 + r) x.val

/-- A key counts at a query when it is of the same document and strictly before. -/
def vis (I : Inp) (b t lane c p : ℕ) : Prop :=
  I.seg b (c * 128 + p) = I.seg b (t * 128 + lane) ∧ c * 128 + p < t * 128 + lane

open Classical in
/-- The bias of the mask. -/
def bi (I : Inp) (b t lane c p : ℕ) : EReal := if vis I b t lane c p then 0 else cNI

/-- The score of a key at a query, in units of the base-two logarithm. -/
def sc (I : Inp) (b t g r lane c p : ℕ) : EReal := zd I b t g r lane c p * Fv I b g r + bi I b t lane c p

/-- What a key adds to the sum of the logarithms. -/
def tm (I : Inp) (b t g r lane c p : ℕ) : EReal := soft (sc I b t g r lane c p)

/-! ### The payloads -/

theorem softA (v89 : Vec Ideal S1x8x128 .f32) (v107 : FVec Ideal S8x128 .f32) (v114 : Vec Ideal S1x128 .f32) (j : S8x128.Idx) :
    k0_pay76 (F := Ideal) (k0_pay72 v89 v107 v114) (k0_pay73 v89 v107 v114) (k0_pay74 v89 v107 v114) (k0_pay75 v89 v107 v114) j
      = soft (v107 j * v89 (ix3 0 (j 0) (j 1)) + v114 (ix2 0 (j 1))) := by
  pointwise [k0_pay76, k0_pay75, k0_pay74, k0_pay73, k0_pay72, k0_pay71, k0_pay68]
  rfl

theorem softB (v89 : Vec Ideal S1x8x128 .f32) (v107 : FVec Ideal S8x128 .f32) (v114 : Vec Ideal S1x128 .f32) (j : S8x128.Idx) :
    k0_pay83 (F := Ideal) (k0_pay81 (k0_pay68 v89) v107 v114) (k0_pay82 (k0_pay68 v89) v107 v114) j
      = soft (v107 j * v89 (ix3 0 (j 0) (j 1)) + v114 (ix2 0 (j 1))) := by
  pointwise [k0_pay83, k0_pay82, k0_pay81, k0_pay80, k0_pay68]
  rfl

theorem pay110_eq (v : Vec Ideal S1x1x128x128 .fp8e4m3) (w : Vec Ideal S1x1x128x384 .fp8e4m3) (j : S128x128.Idx) :
    k0_pay110 (F := Ideal) v w j = ∑ x : Fin 128, v (ix4 0 0 (j 0) x) * w (ix4 0 0 x ⟨0 * 128 + (j 1).val, by have : (j 1).val < 128 := (j 1).2; omega⟩) := by
  pointwise [k0_pay110, k0_pay109]
theorem pay111_eq (v : Vec Ideal S1x1x128x128 .fp8e4m3) (w : Vec Ideal S1x1x128x384 .fp8e4m3) (j : S128x128.Idx) :
    k0_pay111 (F := Ideal) v w j = ∑ x : Fin 128, v (ix4 0 0 (j 0) x) * w (ix4 0 0 x ⟨1 * 128 + (j 1).val, by have : (j 1).val < 128 := (j 1).2; omega⟩) := by
  pointwise [k0_pay111, k0_pay109]
theorem pay112_eq (v : Vec Ideal S1x1x128x128 .fp8e4m3) (w : Vec Ideal S1x1x128x384 .fp8e4m3) (j : S128x128.Idx) :
    k0_pay112 (F := Ideal) v w j = ∑ x : Fin 128, v (ix4 0 0 (j 0) x) * w (ix4 0 0 x ⟨2 * 128 + (j 1).val, by have : (j 1).val < 128 := (j 1).2; omega⟩) := by
  pointwise [k0_pay112, k0_pay109]

/-- Comparing the positions of key and query as words compares them as numbers. -/
theorem slt_pos (a c : Fin 5) (x y : Fin 128) :
    IntOp.cmpi CmpIPredicate.slt (IntOp.addi (Scalar.muli (BitVec.ofNat 32 c.val) 128#32) (BitVec.ofNat 32 x.val))
      (IntOp.addi (Scalar.muli (BitVec.ofNat 32 a.val) 128#32) (BitVec.ofNat 32 y.val)) =
      BitVec.ofBool (decide (c.val * 128 + x.val < a.val * 128 + y.val)) := by
  have key : ∀ (u v : Fin 640), BitVec.slt (BitVec.ofNat 32 u.val) (BitVec.ofNat 32 v.val) = decide (u.val < v.val) := by
    intro u v
    have hu := u.2; have hv := v.2
    have e1 : (BitVec.ofNat 32 u.val).toInt = u.val := by
      rw [BitVec.toInt_eq_toNat_of_lt] <;> simp <;> omega
    have e2 : (BitVec.ofNat 32 v.val).toInt = v.val := by
      rw [BitVec.toInt_eq_toNat_of_lt] <;> simp <;> omega
    rw [BitVec.slt, e1, e2]; simp
  have hc := c.2; have ha := a.2; have hx := x.2; have hy := y.2
  have e : ∀ (c : Fin 5) (x : Fin 128), IntOp.addi (Scalar.muli (BitVec.ofNat 32 c.val) 128#32) (BitVec.ofNat 32 x.val) = BitVec.ofNat 32 (c.val * 128 + x.val) := by
    intro c x
    show BitVec.ofNat 32 c.val * 128#32 + BitVec.ofNat 32 x.val = _
    rw [show (128#32) = BitVec.ofNat 32 128 from rfl, ← BitVec.ofNat_mul, ← BitVec.ofNat_add]
  rw [e c x, e a y]
  show BitVec.ofBool (BitVec.slt _ _) = _
  rw [key ⟨c.val * 128 + x.val, by omega⟩ ⟨a.val * 128 + y.val, by omega⟩]

theorem sub_iv (a k : Fin 5) (h : k.val ≤ a.val) : Scalar.subi (Scf.iv 0#32 1#32 a.val) (Scf.iv 0#32 1#32 k.val) = BitVec.ofNat 32 (a.val - k.val) := by
  revert h; revert a k; decide +kernel

theorem andi_ofBool (a b : Bool) : IntOp.andi (BitVec.ofBool a) (BitVec.ofBool b) = BitVec.ofBool (a && b) := by
  revert a b; decide

theorem pay113_eq (a : Fin k0_t41_loop.trips) (v23 : BitVec 32) (k : Fin (k0_t42_loop a v23).trips) (hk : k.val ≤ a.val) (v : Vec Ideal S1x128 .i32) (w : Vec Ideal S1x128x128 .i32) (j : S128x128.Idx) :
    k0_pay113 (F := Ideal) 0#32 1#32 a v23 k v w j =
      if w (ix3 0 (j 0) (j 1)) = v (ix2 0 (j 1)) ∧ (a.val - k.val) * 128 + (j 0).val < a.val * 128 + (j 1).val then 0 else cNI := by
  have ha : a.val < 5 := a.2
  pointwise [k0_pay113]
  rw [sub_iv ⟨a.val, ha⟩ ⟨k.val, by omega⟩ hk, iv_ofNat,
    slt_pos ⟨a.val, ha⟩ ⟨a.val - k.val, by omega⟩ (j 0) (j 1)]
  rw [show IntOp.cmpi CmpIPredicate.eq (w (ix3 0 (j 0) (j 1))) (v (ix2 0 (j 1))) = BitVec.ofBool (w (ix3 0 (j 0) (j 1)) == v (ix2 0 (j 1))) from rfl, andi_ofBool]
  by_cases h1 : w (ix3 0 (j 0) (j 1)) = v (ix2 0 (j 1)) <;>
    by_cases h2 : (a.val - k.val) * 128 + (j 0).val < a.val * 128 + (j 1).val
  · rw [if_pos ⟨h1, h2⟩]; simp [h1, h2, Scalar.select]
  · rw [if_neg (fun h => h2 h.2)]; simp [h2, Scalar.select]; rfl
  · rw [if_neg (fun h => h1 h.1)]; simp [beq_eq_false_iff_ne.2 h1, Scalar.select]; rfl
  · rw [if_neg (fun h => h1 h.1)]; simp [beq_eq_false_iff_ne.2 h1, Scalar.select]; rfl

theorem pay114_eq (v : FVec Ideal S8x128 .f32) (j : S1x8x128.Idx) : k0_pay114 (F := Ideal) v j = v (ix2 (j 1) (j 2)) := by
  pointwise [k0_pay114]
theorem pay70_eq (v : Vec Ideal S1x8x128 .f32) (j : S8x128.Idx) : k0_pay70 (F := Ideal) v j = v (ix3 0 (j 0) (j 1)) := by
  pointwise [k0_pay70]
theorem pay107_eq (j : S3x8x128.Idx) : k0_pay107 (F := Ideal) j = 0 := by
  pointwise [k0_pay107]
theorem pay20_eq (v : Vec Ideal S1x8x128 .f32) (j : S8x128.Idx) : k0_pay20 (F := Ideal) v j = v (ix3 0 (j 0) (j 1)) * cNL := by
  pointwise [k0_pay20]
  rfl
theorem pay21_eq (v : Vec Ideal S24x128 .f32) (j : S1x24x128.Idx) : k0_pay21 (F := Ideal) v j = v (ix2 (j 1) (j 2)) := by
  pointwise [k0_pay21]

/-! ### The offsets -/

theorem trips42 (a : Fin k0_t41_loop.trips) (v23 : BitVec 32) (h : v23.toNat ≤ a.val) : (k0_t42_loop a v23).trips = a.val + 1 - v23.toNat := by
  obtain ⟨n, hn, e⟩ := fin_of_le a h
  clear h; subst e
  revert hn; revert n; revert a
  decide +kernel

theorem off65_eq (a : Fin k0_t41_loop.trips) (v23 : BitVec 32) (k : Fin (k0_t42_loop a v23).trips) (hk : k.val ≤ a.val) (g : Fin k0_t43_loop.trips) :
    k0_off65 a v23 k g = ![a.val - k.val, g.val, 0, 0] := by
  have key : ∀ (a : Fin k0_t41_loop.trips) (k : Fin 5) (g : Fin k0_t43_loop.trips), k.val ≤ a.val →
      (![(Scalar.indexCast (Scalar.subi (Scf.iv 0#32 1#32 a) (Scf.iv 0#32 1#32 k)) : Index).toNat, (Scalar.indexCast (Scf.iv 0#32 1#32 g) : Index).toNat, 0, 0] : Fin 4 → ℕ) = ![a.val - k.val, g.val, 0, 0] := by
    decide +kernel
  have ha : a.val < 5 := a.2
  exact key a ⟨k.val, by omega⟩ g hk
theorem off69_eq (a : Fin k0_t41_loop.trips) (v23 : BitVec 32) (k : Fin (k0_t42_loop a v23).trips) (hk : k.val ≤ a.val) :
    k0_off69 a v23 k = ![a.val - k.val, 0, 0] := by
  have key : ∀ (a : Fin k0_t41_loop.trips) (k : Fin 5), k.val ≤ a.val →
      (![(Scalar.indexCast (Scalar.subi (Scf.iv 0#32 1#32 a) (Scf.iv 0#32 1#32 k)) : Index).toNat, 0, 0] : Fin 3 → ℕ) = ![a.val - k.val, 0, 0] := by
    decide +kernel
  have ha : a.val < 5 := a.2
  exact key a ⟨k.val, by omega⟩ hk
theorem off66_eq (a : Fin k0_t41_loop.trips) (g : Fin k0_t43_loop.trips) : k0_off66 a g = ![a.val, g.val, 0, 0] := by revert a g; decide +kernel
theorem off67_eq0 (g : Fin k0_t43_loop.trips) : k0_off67 g 0#32 = ![(0 + g.val) * 129, 0] := by revert g; decide +kernel
theorem off67_eq1 (g : Fin k0_t43_loop.trips) : k0_off67 g 8#32 = ![(8 + g.val) * 129, 0] := by revert g; decide +kernel
theorem off67_eq2 (g : Fin k0_t43_loop.trips) : k0_off67 g 16#32 = ![(16 + g.val) * 129, 0] := by revert g; decide +kernel
theorem off68_eq (b : Fin k0_t32_loop.trips) (a : Fin k0_t41_loop.trips) : k0_off68 b a = ![b.val * 5 + a.val, 0] := by revert b a; decide +kernel
theorem off70_eq (r : Fin k0_t47_loop.trips) : k0_off70 r = ![r.val, 0, 0] := by revert r; decide +kernel
theorem off71_eq1 (x : Fin k0_t44_loop.trips) (y : Fin k0_t45_loop.trips) (z : Fin k0_t46_loop.trips) (r : Fin k0_t47_loop.trips) :
    k0_off71 x y z r 1#32 = ![r.val * 1032 + (3 - x.val) * 32 + (2 * (3 - z.val) + 1) * 4 + (3 - y.val), 0] := by revert x y z r; decide +kernel
theorem off71_eq0 (x : Fin k0_t44_loop.trips) (y : Fin k0_t45_loop.trips) (z : Fin k0_t46_loop.trips) (r : Fin k0_t47_loop.trips) :
    k0_off71 x y z r 0#32 = ![r.val * 1032 + (3 - x.val) * 32 + (2 * (3 - z.val) + 0) * 4 + (3 - y.val), 0] := by revert x y z r; decide +kernel
theorem off72_eq1 (x : Fin k0_t44_loop.trips) (y : Fin k0_t45_loop.trips) (z : Fin k0_t46_loop.trips) :
    k0_off72 x y z 1#32 = ![(3 - x.val) * 32 + (3 - y.val) * 8 + (2 * (3 - z.val) + 1), 0] := by revert x y z; decide +kernel
theorem off72_eq0 (x : Fin k0_t44_loop.trips) (y : Fin k0_t45_loop.trips) (z : Fin k0_t46_loop.trips) :
    k0_off72 x y z 0#32 = ![(3 - x.val) * 32 + (3 - y.val) * 8 + (2 * (3 - z.val) + 0), 0] := by revert x y z; decide +kernel

end Cert.KernelIdeal.Hand.PB

end
-- ==== Proof.OutPass.lean ====
/-
  Facts of the softplus, the weight of a key, and the payloads of the weighted sums.
-/
module

public import proofs.«01_k».proof.Proof.LogPass

@[expose] public section

set_option maxRecDepth 16384

noncomputable section

namespace Cert.KernelIdeal.Hand.PB

open Idealize.ShloMosaic Idealize.ShloMosaic.TcCoe Idealize.SL.Sem Cert.Seq Cert.Val Cert.KernelIdeal.Gen

/-! ### The softplus -/

theorem cNI_eq : cNI = ⊥ := by rfl

theorem soft_bot : soft ⊥ = 0 := by
  have h : l21p 0 = 0 := by unfold l21p; simp
  unfold soft
  rw [show FloatOps.absf (F := Ideal) (φ := .f32) (⊥ : EReal) = (⊤ : EReal) from by
    show max (⊥ : EReal) (-⊥) = ⊤
    simp]
  rw [show ((0 : EReal) - ⊤) = ⊥ from by simp]
  rw [show FloatOps.exp2 (F := Ideal) (φ := .f32) (⊥ : EReal) = (0 : EReal) from rfl, h]
  simp

theorem max_coe (a b : ℝ) : max (a : EReal) (b : EReal) = ((max a b : ℝ) : EReal) := (EReal.coe_strictMono.monotone.map_max).symm

theorem cL_eq : cL = (((Real.log 2)⁻¹ : ℝ) : EReal) := by rfl

theorem l21p_coe (m : ℝ) (hm : 0 ≤ m) : l21p (m : EReal) = ((Real.log (1 + m) / Real.log 2 : ℝ) : EReal) := by
  have e : (1 : EReal) + (m : EReal) - 1 = (m : EReal) := by
    rw [show (1 : EReal) = ((1 : ℝ) : EReal) from rfl, ← EReal.coe_add, ← EReal.coe_sub]; congr 1; ring
  unfold l21p
  rw [e]
  by_cases h : m = 0
  · subst h; simp
  · have h' : (m : EReal) ≠ 0 := by simpa using h
    rw [if_neg h', cL_eq, show (1 : EReal) = ((1 : ℝ) : EReal) from rfl, ← EReal.coe_add, Ideal.log_coe, if_neg (by linarith)]
    unfold Ideal.div
    rw [if_neg h', ← EReal.coe_inv, ← EReal.coe_mul, ← EReal.coe_mul, ← EReal.coe_mul, ← EReal.coe_mul]
    congr 1
    field_simp

/-- A softplus to base two where the power of two is finite. -/
theorem soft_coe (s : EReal) (w : ℝ) (h : FloatOps.exp2 (F := Ideal) (φ := .f32) s = ((w : ℝ) : EReal)) :
    0 ≤ w ∧ soft s = ((Real.log (1 + w) / Real.log 2 : ℝ) : EReal) := by
  change Ideal.exp2 s = _ at h
  induction s using EReal.rec with
  | bot =>
    have : w = 0 := by
      rw [show Ideal.exp2 ⊥ = ((0 : ℝ) : EReal) from rfl] at h
      exact (EReal.coe_injective h).symm
    subst this
    exact ⟨le_refl _, by rw [soft_bot]; simp⟩
  | top =>
    rw [show Ideal.exp2 ⊤ = ⊤ from rfl] at h
    exact absurd h.symm (EReal.coe_ne_top _)
  | coe r =>
    rw [Ideal.exp2_coe] at h
    have hw : w = (2 : ℝ) ^ r := (EReal.coe_injective h).symm
    have hl : (0 : ℝ) < Real.log 2 := Real.log_pos (by norm_num)
    have hw0 : 0 < w := by rw [hw]; positivity
    refine ⟨hw0.le, ?_⟩
    unfold soft
    have ea : FloatOps.absf (F := Ideal) (φ := .f32) (r : EReal) = ((|r| : ℝ) : EReal) := by
      show max (r : EReal) (-(r : EReal)) = _
      rw [← EReal.coe_neg, max_coe]; rfl
    have ee : FloatOps.exp2 (F := Ideal) (φ := .f32) (0 - FloatOps.absf (F := Ideal) (φ := .f32) (r : EReal)) = (((2 : ℝ) ^ (-|r|) : ℝ) : EReal) := by
      rw [ea, zero_sub, ← EReal.coe_neg]; rfl
    rw [ee, l21p_coe _ (by positivity), show (0 : EReal) = ((0 : ℝ) : EReal) from rfl, max_coe, ← EReal.coe_add]
    congr 1
    rcases le_total 0 r with hr | hr
    · rw [max_eq_left hr, abs_of_nonneg hr, hw]
      have : (1 : ℝ) + 2 ^ r = 2 ^ r * (1 + 2 ^ (-r)) := by
        rw [mul_add, mul_one, ← Real.rpow_add (by norm_num)]; simp; ring
      rw [this, Real.log_mul (by positivity) (by positivity), Real.log_rpow (by norm_num)]
      field_simp
    · rw [max_eq_right hr, abs_of_nonpos hr, hw]; simp

theorem exp2_nonneg (s : EReal) : (0 : EReal) ≤ FloatOps.exp2 (F := Ideal) (φ := .f32) s := by
  change 0 ≤ Ideal.exp2 s
  induction s using EReal.rec with
  | bot => exact le_refl _
  | top => exact le_top
  | coe r =>
    rw [Ideal.exp2_coe]
    exact EReal.coe_nonneg.2 (Real.rpow_nonneg (by norm_num) r)

theorem soft_nonneg (s : EReal) : 0 ≤ soft s := by
  have hl : (0 : ℝ) < Real.log 2 := Real.log_pos (by norm_num)
  induction s using EReal.rec with
  | bot => rw [soft_bot]
  | top =>
    unfold soft
    rw [show FloatOps.absf (F := Ideal) (φ := .f32) (⊤ : EReal) = (⊤ : EReal) from by
      show max (⊤ : EReal) (-⊤) = ⊤
      simp, show ((0 : EReal) - ⊤) = ⊥ from by simp, show FloatOps.exp2 (F := Ideal) (φ := .f32) (⊥ : EReal) = ((0 : ℝ) : EReal) from rfl, l21p_coe _ (le_refl _)]
    simp
  | coe r =>
    obtain ⟨hw, e⟩ := soft_coe (r : EReal) _ (show FloatOps.exp2 (F := Ideal) (φ := .f32) (r : EReal) = (((2 : ℝ) ^ r : ℝ) : EReal) from Ideal.exp2_coe r)
    rw [e]
    exact EReal.coe_nonneg.2 (div_nonneg (Real.log_nonneg (by linarith)) hl.le)

theorem tm_zero (I : Inp) (b t g r lane c p : ℕ) (h : ¬ vis I b t lane c p) : tm I b t g r lane c p = 0 := by
  unfold tm sc bi
  rw [if_neg h, cNI_eq, EReal.add_bot, soft_bot]

theorem tm_nonneg (I : Inp) (b t g r lane c p : ℕ) : 0 ≤ tm I b t g r lane c p := soft_nonneg _

/-! ### The weight of a key -/

/-- The sum over the keys of a chunk. -/
def ch (I : Inp) (b t g r lane c : ℕ) : EReal := ∑ p ∈ Finset.range 128, tm I b t g r lane c p

/-- The sum over the chunks of the tile that come after `c`. -/
def bc (I : Inp) (b t g r lane c : ℕ) : EReal := ∑ m ∈ Finset.range (t - c), ch I b t g r lane (t - m)

theorem bc_sub (I : Inp) (b t g r lane k : ℕ) (hk : k ≤ t) :
    bc I b t g r lane (t - k) = ∑ m ∈ Finset.range k, ch I b t g r lane (t - m) := by
  unfold bc; rw [show t - (t - k) = k by omega]

theorem ch_nonneg (I : Inp) (b t g r lane c : ℕ) : 0 ≤ ch I b t g r lane c :=
  Finset.sum_nonneg fun p _ => tm_nonneg I b t g r lane c p
theorem bc_nonneg (I : Inp) (b t g r lane c : ℕ) : 0 ≤ bc I b t g r lane c :=
  Finset.sum_nonneg fun m _ => ch_nonneg I b t g r lane (t - m)

/-- The sum of the terms after a key of the chunk, the last `X` keys, and after its chunk. -/
def lft (I : Inp) (b t g r lane c X : ℕ) : EReal :=
  bc I b t g r lane c + ∑ w ∈ Finset.range X, tm I b t g r lane c (127 - w)

theorem lft_nonneg (I : Inp) (b t g r lane c X : ℕ) : 0 ≤ lft I b t g r lane c X :=
  add_nonneg (bc_nonneg _ _ _ _ _ _ _) (Finset.sum_nonneg fun w _ => tm_nonneg _ _ _ _ _ _ _ _)

theorem lft_succ (I : Inp) (b t g r lane c X : ℕ) :
    lft I b t g r lane c (X + 1) = lft I b t g r lane c X + tm I b t g r lane c (127 - X) := by
  unfold lft; rw [Finset.sum_range_succ, add_assoc]

theorem neg_sub_of_nonneg {x y : EReal} (hx : 0 ≤ x) (hy : 0 ≤ y) : -x - y = -(x + y) := by
  have h : ∀ {z : EReal}, 0 ≤ z → z ≠ ⊥ := fun h e => by rw [e] at h; exact absurd h (by simp)
  rw [EReal.neg_add (Or.inl (h hx)) (Or.inr (h hy))]

theorem lft_step (I : Inp) (b t g r lane c X : ℕ) :
    -lft I b t g r lane c X - tm I b t g r lane c (127 - X) = -lft I b t g r lane c (X + 1) := by
  rw [lft_succ, neg_sub_of_nonneg (lft_nonneg _ _ _ _ _ _ _ _) (tm_nonneg _ _ _ _ _ _ _ _)]

/-- The weight of key `p` of chunk `c`. -/
def av (I : Inp) (b t g r lane c p : ℕ) : EReal :=
  FloatOps.exp2 (F := Ideal) (φ := .f32) (sc I b t g r lane c p - tm I b t g r lane c p + -lft I b t g r lane c (127 - p))

theorem av_zero (I : Inp) (b t g r lane c p : ℕ) (h : ¬ vis I b t lane c p) : av I b t g r lane c p = 0 := by
  unfold av
  have e : sc I b t g r lane c p = ⊥ := by
    unfold sc bi
    rw [if_neg h, cNI_eq, EReal.add_bot]
  rw [tm_zero I b t g r lane c p h, e, sub_zero, EReal.bot_add]
  rfl

/-- What the keys of a chunk add to a column of the weighted sum. -/
def oc (I : Inp) (b t g r lane x c : ℕ) : EReal :=
  ∑ p : Fin 128, I.v b (c * 128 + p.val) g x * av I b t g r lane c p.val

theorem oc_zero_of (I : Inp) (b t g r lane x c : ℕ) (h : ∀ p, p < 128 → ¬ vis I b t lane c p) : oc I b t g r lane x c = 0 :=
  Finset.sum_eq_zero fun p _ => by rw [av_zero I b t g r lane c p.val (h p.val p.2), mul_zero]

/-- The weight of key `2 * pair + parity` stands at the buffer's row, 65 rows to a head and repeat. -/
def P19 (I : Inp) (b t c : ℕ) (i : S1568x2x128.Idx) (v : EReal) : Prop :=
  v = av I b t ((i 0).val / 65 % 8) ((i 0).val / 65 / 8) (i 2).val c (2 * ((i 0).val % 65) + (i 1).val)

/-! ### The payloads -/

theorem acc_eq (a b c : Vec Ideal S64x2x128 .bf16) (o : EReal) (w : Fin 128 → EReal) (l : Fin 384) (A : ℕ → ℕ → EReal)
    (ha : ∀ (p : Fin 64) (e : Fin 2) (l : Fin 128), a (ix3 p e l) = A (2 * p.val + e.val) (0 * 128 + l.val))
    (hb : ∀ (p : Fin 64) (e : Fin 2) (l : Fin 128), b (ix3 p e l) = A (2 * p.val + e.val) (1 * 128 + l.val))
    (hc : ∀ (p : Fin 64) (e : Fin 2) (l : Fin 128), c (ix3 p e l) = A (2 * p.val + e.val) (2 * 128 + l.val)) :
    (o + ∑ x : Fin 128, w x *
          if h : l.val < 128 then
            if x.val % 2 = 0 then a (ix3 ⟨x.val / 2, by omega⟩ 0 ⟨l.val, by omega⟩) else a (ix3 ⟨x.val / 2, by omega⟩ 1 ⟨l.val, by omega⟩)
          else
            if h : l.val - 128 < 128 then
              if x.val % 2 = 0 then b (ix3 ⟨x.val / 2, by omega⟩ 0 ⟨l.val - 128, by omega⟩) else b (ix3 ⟨x.val / 2, by omega⟩ 1 ⟨l.val - 128, by omega⟩)
            else
              if x.val % 2 = 0 then c (ix3 ⟨x.val / 2, by omega⟩ 0 ⟨l.val - 128 - 128, by omega⟩)
              else c (ix3 ⟨x.val / 2, by omega⟩ 1 ⟨l.val - 128 - 128, by omega⟩)) =
    o + ∑ x : Fin 128, w x * A x.val l.val := by
  congr 1
  refine Finset.sum_congr rfl fun x _ => ?_
  congr 1
  split_ifs <;> simp only [ha, hb, hc] <;> congr 1 <;> simp <;> omega

theorem pay115_eq (a b c : Vec Ideal S64x2x128 .bf16) (o : Vec Ideal S1x128x384 .f32) (w : Vec Ideal S1x1x128x128 .bf16) (A : ℕ → ℕ → EReal)
    (ha : ∀ (p : Fin 64) (e : Fin 2) (l : Fin 128), a (ix3 p e l) = A (2 * p.val + e.val) (0 * 128 + l.val))
    (hb : ∀ (p : Fin 64) (e : Fin 2) (l : Fin 128), b (ix3 p e l) = A (2 * p.val + e.val) (1 * 128 + l.val))
    (hc : ∀ (p : Fin 64) (e : Fin 2) (l : Fin 128), c (ix3 p e l) = A (2 * p.val + e.val) (2 * 128 + l.val)) (j : S1x128x384.Idx) :
    k0_pay115 (F := Ideal) a b c o w j = o j + ∑ x : Fin 128, w (ix4 0 0 (j 1) x) * A x.val (j 2).val := by
  pointwise [k0_pay115]
  exact acc_eq a b c (o j) (fun x => w (ix4 0 0 (j 1) x)) (j 2) A ha hb hc

/-- The same at one column, where only that column's weights are known. -/
theorem acc_col (a b c : Vec Ideal S64x2x128 .bf16) (o : EReal) (w : Fin 128 → EReal) (l : Fin 384) (A : ℕ → EReal)
    (ha : ∀ (p : Fin 64) (e : Fin 2) (m : Fin 128), l.val / 128 = 0 → m.val = l.val % 128 → a (ix3 p e m) = A (2 * p.val + e.val))
    (hb : ∀ (p : Fin 64) (e : Fin 2) (m : Fin 128), l.val / 128 = 1 → m.val = l.val % 128 → b (ix3 p e m) = A (2 * p.val + e.val))
    (hc : ∀ (p : Fin 64) (e : Fin 2) (m : Fin 128), l.val / 128 = 2 → m.val = l.val % 128 → c (ix3 p e m) = A (2 * p.val + e.val)) :
    (o + ∑ x : Fin 128, w x *
          if h : l.val < 128 then
            if x.val % 2 = 0 then a (ix3 ⟨x.val / 2, by omega⟩ 0 ⟨l.val, by omega⟩) else a (ix3 ⟨x.val / 2, by omega⟩ 1 ⟨l.val, by omega⟩)
          else
            if h : l.val - 128 < 128 then
              if x.val % 2 = 0 then b (ix3 ⟨x.val / 2, by omega⟩ 0 ⟨l.val - 128, by omega⟩) else b (ix3 ⟨x.val / 2, by omega⟩ 1 ⟨l.val - 128, by omega⟩)
            else
              if x.val % 2 = 0 then c (ix3 ⟨x.val / 2, by omega⟩ 0 ⟨l.val - 128 - 128, by omega⟩)
              else c (ix3 ⟨x.val / 2, by omega⟩ 1 ⟨l.val - 128 - 128, by omega⟩)) =
    o + ∑ x : Fin 128, w x * A x.val := by
  have hl := l.2
  congr 1
  refine Finset.sum_congr rfl fun x _ => ?_
  congr 1
  split_ifs <;>
    first
    | (rw [ha _ _ _ (by omega) (by simp; omega)]; congr 1; simp; omega)
    | (rw [hb _ _ _ (by omega) (by simp; omega)]; congr 1; simp; omega)
    | (rw [hc _ _ _ (by omega) (by simp; omega)]; congr 1; simp; omega)

theorem pay45_col (a b c : Vec Ideal S64x2x128 .bf16) (o : Vec Ideal S1x128x384 .f32) (w : Vec Ideal S1x1x128x128 .bf16) (A : ℕ → EReal) (j : S1x128x384.Idx)
    (ha : ∀ (p : Fin 64) (e : Fin 2) (m : Fin 128), (j 2).val / 128 = 0 → m.val = (j 2).val % 128 → a (ix3 p e m) = A (2 * p.val + e.val))
    (hb : ∀ (p : Fin 64) (e : Fin 2) (m : Fin 128), (j 2).val / 128 = 1 → m.val = (j 2).val % 128 → b (ix3 p e m) = A (2 * p.val + e.val))
    (hc : ∀ (p : Fin 64) (e : Fin 2) (m : Fin 128), (j 2).val / 128 = 2 → m.val = (j 2).val % 128 → c (ix3 p e m) = A (2 * p.val + e.val)) :
    k0_pay45 (F := Ideal) a b c o w j = o j + ∑ x : Fin 128, w (ix4 0 0 (j 1) x) * A x.val := by
  pointwise [k0_pay45]
  exact acc_col a b c (o j) (fun x => w (ix4 0 0 (j 1) x)) (j 2) A ha hb hc

theorem pay80_eq (v89 : Vec Ideal S1x8x128 .f32) (v155 : FVec Ideal S8x128 .f32) (v162 : Vec Ideal S1x128 .f32) (j : S8x128.Idx) :
    k0_pay80 (F := Ideal) (k0_pay68 v89) v155 v162 j = v155 j * v89 (ix3 0 (j 0) (j 1)) + v162 (ix2 0 (j 1)) := by
  pointwise [k0_pay80, k0_pay68]
theorem pay77_eq (v92 : Vec Ideal S1x8x128 .f32) (v89 : Vec Ideal S1x8x128 .f32) (v107 : FVec Ideal S8x128 .f32) (v114 : Vec Ideal S1x128 .f32) (j : S8x128.Idx) :
    k0_pay77 (F := Ideal) (k0_pay69 v92) (k0_pay71 v89 v107 v114) (k0_pay72 v89 v107 v114) (k0_pay73 v89 v107 v114) (k0_pay74 v89 v107 v114) (k0_pay75 v89 v107 v114) j
      = FloatOps.exp2 (F := Ideal) (φ := .f32) ((v107 j * v89 (ix3 0 (j 0) (j 1)) + v114 (ix2 0 (j 1)))
        - soft (v107 j * v89 (ix3 0 (j 0) (j 1)) + v114 (ix2 0 (j 1))) + v92 (ix3 0 (j 0) (j 1))) := by
  rw [← softA]
  pointwise [k0_pay77, k0_pay69, k0_pay71, k0_pay68]
theorem pay78_eq (v92 : Vec Ideal S1x8x128 .f32) (v89 : Vec Ideal S1x8x128 .f32) (v107 : FVec Ideal S8x128 .f32) (v114 : Vec Ideal S1x128 .f32) (j : S8x128.Idx) :
    k0_pay78 (F := Ideal) (k0_pay69 v92) (k0_pay72 v89 v107 v114) (k0_pay73 v89 v107 v114) (k0_pay74 v89 v107 v114) (k0_pay75 v89 v107 v114) j
      = v92 (ix3 0 (j 0) (j 1)) - soft (v107 j * v89 (ix3 0 (j 0) (j 1)) + v114 (ix2 0 (j 1))) := by
  rw [← softA]
  pointwise [k0_pay78, k0_pay69]
theorem pay85_eq (v142 v143 v164 v166 v170 : FVec Ideal S8x128 .f32) (j : S8x2x128.Idx) :
    k0_pay85 (F := Ideal) v142 v143 v164 v166 v170 j = if (j 1).val = 0 then FloatOps.exp2 (F := Ideal) (φ := .f32) (v164 (ix2 (j 0) (j 2)) - k0_pay83 (F := Ideal) v166 v170 (ix2 (j 0) (j 2)) + v143 (ix2 (j 0) (j 2))) else v142 (ix2 (j 0) (j 2)) := by
  pointwise [k0_pay85]
  have : (j 1).val < 2 := (j 1).2
  rw [Nat.mod_eq_of_lt this]
theorem pay123_eq (o : Vec Ideal S1x128x128 .f32) (s : EReal) (j : S1x128x128.Idx) :
    k0_pay123 (F := Ideal) o s j = o (ix3 0 (j 2) (j 1)) * s := by
  pointwise [k0_pay123]
theorem pay67_eq (o : Vec Ideal S1x128x128 .f32) (s : EReal) (j : S1x128x128.Idx) :
    k0_pay67 (F := Ideal) o s j = o (ix3 0 (j 2) (j 1)) * s := by
  pointwise [k0_pay67]
theorem pay106_eq (j : S3x8x128.Idx) : k0_pay106 (F := Ideal) j = 0 := by
  pointwise [k0_pay106]
theorem pay108_eq (j : S8x128x384.Idx) : k0_pay108 (F := Ideal) j = 0 := by
  pointwise [k0_pay108]
theorem pay24_eq (j : S8x128x384.Idx) : k0_pay24 (F := Ideal) j = 0 := by
  pointwise [k0_pay24]
theorem pay22_eq (j : S3x8x128.Idx) : k0_pay22 (F := Ideal) j = Ideal.ofBits .f32 0x3F800000#32 := by
  pointwise [k0_pay22]
theorem pay69_eq (v : Vec Ideal S1x8x128 .f32) (j : S8x128.Idx) : k0_pay69 (F := Ideal) v j = v (ix3 0 (j 0) (j 1)) := by
  pointwise [k0_pay69]
theorem pay86_eq (v143 v166 v170 : FVec Ideal S8x128 .f32) (j : S1x8x128.Idx) :
    k0_pay86 (F := Ideal) v143 v166 v170 j = v143 (ix2 (j 1) (j 2)) - k0_pay83 (F := Ideal) v166 v170 (ix2 (j 1) (j 2)) := by
  pointwise [k0_pay86]
theorem pay41_eq (l p : FVec Ideal S8x128 .f32) (a b : Vec Ideal S1x1x8x128 .f32) (j : S8x2x128.Idx) :
    k0_pay41 (F := Ideal) l p a b j = (if (j 1).val = 0 then a (ix4 0 0 (j 0) (j 2)) else b (ix4 0 0 (j 0) (j 2))) * k0_pay38 (F := Ideal) l p (ix2 (j 0) (j 2)) := by
  pointwise [k0_pay41]
  have : (j 1).val < 2 := (j 1).2
  rw [Nat.mod_eq_of_lt this, ite_mul]
theorem pay35_eq (v83 : Vec Ideal S1x8x128 .f32) (a : FVec Ideal S8x128 .f32) (v145 : Vec Ideal S8x128 .f32) (v152 : Vec Ideal S1x128 .f32) (j : S1x1x8x128.Idx) :
    k0_pay35 (F := Ideal) v83 a v145 v152 j = FloatOps.exp2 (F := Ideal) (φ := .f32) (v145 (ix2 (j 2) (j 3)) * v83 (ix3 0 (j 2) (j 3)) + v152 (ix2 0 (j 3))) * a (ix2 (j 2) (j 3)) := by
  pointwise [k0_pay35, k0_pay34]
theorem pay38_eq (l p : FVec Ideal S8x128 .f32) (j : S8x128.Idx) :
    k0_pay38 (F := Ideal) l p j = l j * Ideal.div (Ideal.ofBits .f32 0x3F800000#32) (p j) := by
  pointwise [k0_pay38]
theorem pay42_eq (v : FVec Ideal S8x128 .f32) (j : S1x8x128.Idx) : k0_pay42 (F := Ideal) v j = v (ix2 (j 1) (j 2)) := by
  pointwise [k0_pay42]
theorem pay30_eq (v : Vec Ideal S1x8x128 .f32) (j : S8x128.Idx) : k0_pay30 (F := Ideal) v j = v (ix3 0 (j 0) (j 1)) := by
  pointwise [k0_pay30]
theorem off73_eq (x : Fin k0_t44_loop.trips) (y : Fin k0_t45_loop.trips) (z : Fin k0_t46_loop.trips) (r : Fin k0_t47_loop.trips) :
    k0_off73 x y z r = ![r.val * 520 + (63 - (x.val * 16 + y.val * 4 + z.val)), 0, 0] := by revert x y z r; decide +kernel
theorem off74_eq0 (g : Fin k0_t48_loop.trips) : k0_off74 g 0#32 = ![(0 + g.val) * 65, 0, 0] := by revert g; decide +kernel
theorem off74_eq1 (g : Fin k0_t48_loop.trips) : k0_off74 g 8#32 = ![(8 + g.val) * 65, 0, 0] := by revert g; decide +kernel
theorem off74_eq2 (g : Fin k0_t48_loop.trips) : k0_off74 g 16#32 = ![(16 + g.val) * 65, 0, 0] := by revert g; decide +kernel
theorem off28_eq0 (g : Fin k0_t20_loop.trips) : k0_off28 g 0#32 = ![(0 + g.val) * 65, 0, 0] := by revert g; decide +kernel
theorem off28_eq1 (g : Fin k0_t20_loop.trips) : k0_off28 g 8#32 = ![(8 + g.val) * 65, 0, 0] := by revert g; decide +kernel
theorem off28_eq2 (g : Fin k0_t20_loop.trips) : k0_off28 g 16#32 = ![(16 + g.val) * 65, 0, 0] := by revert g; decide +kernel
theorem off75_eq (g : Fin k0_t48_loop.trips) : k0_off75 g = ![g.val, 0, 0] := by revert g; decide +kernel
theorem off29_eq (g : Fin k0_t20_loop.trips) : k0_off29 g = ![g.val, 0, 0] := by revert g; decide +kernel
theorem off89_eq (g : Fin k0_t56_loop.trips) (r : Fin k0_t57_loop.trips) : k0_off89 g r = ![g.val, 0, r.val * 128] := by revert g r; decide +kernel
theorem off46_eq (g : Fin k0_t29_loop.trips) (r : Fin k0_t30_loop.trips) : k0_off46 g r = ![g.val, 0, r.val * 128] := by revert g r; decide +kernel
theorem off90_eq (b : Fin k0_t32_loop.trips) (g : Fin k0_t56_loop.trips) : k0_off90 b g = ![b.val, g.val] := by revert b g; decide +kernel
theorem off47_eq (b : Fin k0_t3_loop.trips) (g : Fin k0_t29_loop.trips) : k0_off47 b g = ![b.val, g.val] := by revert b g; decide +kernel
theorem off91_eq (b : Fin k0_t32_loop.trips) (t : Fin k0_t41_loop.trips) (g : Fin k0_t56_loop.trips) (r : Fin k0_t57_loop.trips) :
    k0_off91 b t g r = ![b.val, t.val * 128, (g.val * 3 + r.val) * 128] := by revert b t g r; decide +kernel
theorem off48_eq (b : Fin k0_t3_loop.trips) (t : Fin k0_t12_loop.trips) (g : Fin k0_t29_loop.trips) (r : Fin k0_t30_loop.trips) :
    k0_off48 b t g r = ![b.val, t.val * 128, (g.val * 3 + r.val) * 128] := by revert b t g r; decide +kernel
theorem off76_eq (a : Fin k0_t41_loop.trips) (v23 : BitVec 32) (k : Fin (k0_t42_loop a v23).trips) (hk : k.val ≤ a.val) (g : Fin k0_t48_loop.trips) :
    k0_off76 a v23 k g = ![a.val - k.val, g.val, 0, 0] := by
  have key : ∀ (a : Fin k0_t41_loop.trips) (k : Fin 5) (g : Fin k0_t48_loop.trips), k.val ≤ a.val →
      (![(Scalar.indexCast (Scalar.subi (Scf.iv 0#32 1#32 a) (Scf.iv 0#32 1#32 k)) : Index).toNat, (Scalar.indexCast (Scf.iv 0#32 1#32 g) : Index).toNat, 0, 0] : Fin 4 → ℕ) = ![a.val - k.val, g.val, 0, 0] := by
    decide +kernel
  have ha : a.val < 5 := a.2
  exact key a ⟨k.val, by omega⟩ g hk
theorem off30_eq (a : Fin k0_t12_loop.trips) (v23 : BitVec 32) (k : Fin (k0_t13_loop a v23).trips) (hk : k.val ≤ a.val) (g : Fin k0_t20_loop.trips) :
    k0_off30 a v23 k g = ![a.val - k.val, g.val, 0, 0] := by
  have key : ∀ (a : Fin k0_t12_loop.trips) (k : Fin 5) (g : Fin k0_t20_loop.trips), k.val ≤ a.val →
      (![(Scalar.indexCast (Scalar.subi (Scf.iv 0#32 1#32 a) (Scf.iv 0#32 1#32 k)) : Index).toNat, (Scalar.indexCast (Scf.iv 0#32 1#32 g) : Index).toNat, 0, 0] : Fin 4 → ℕ) = ![a.val - k.val, g.val, 0, 0] := by
    decide +kernel
  have ha : a.val < 5 := a.2
  exact key a ⟨k.val, by omega⟩ g hk
theorem off24_eq (r : Fin k0_t15_loop.trips) (x : Fin k0_t16_loop.trips) (y : Fin k0_t17_loop.trips) (z : Fin k0_t18_loop.trips) :
    k0_off24 r x y z = ![r.val, (3 - x.val) * 32 + y.val * 8 + z.val, 0, 0] := by revert r x y z; decide +kernel
theorem off25_eq (r : Fin k0_t15_loop.trips) (x : Fin k0_t16_loop.trips) (k : Fin k0_t19_loop.trips) :
    k0_off25 r x k = ![r.val, (3 - x.val) * 32 + 2 * k.val, 0, 0] := by revert r x k; decide +kernel
theorem off26_eq (r : Fin k0_t15_loop.trips) (x : Fin k0_t16_loop.trips) (k : Fin k0_t19_loop.trips) :
    k0_off26 r x k = ![r.val, (3 - x.val) * 32 + 2 * k.val + 1, 0, 0] := by revert r x k; decide +kernel
theorem off27_eq (r : Fin k0_t15_loop.trips) (x : Fin k0_t16_loop.trips) (k : Fin k0_t19_loop.trips) :
    k0_off27 r x k = ![r.val * 520 + (3 - x.val) * 16 + k.val, 0, 0] := by revert r x k; decide +kernel

end Cert.KernelIdeal.Hand.PB

end
-- ==== Proof.LogRun.lean ====
/-
  The second pass over a chunk of keys, run: what its loops leave in the buffers.
-/
module

public import proofs.«01_k».proof.Proof.OutPass

@[expose] public section

set_option maxRecDepth 16384

noncomputable section

namespace Cert.KernelIdeal.Hand.PB

open Idealize.ShloMosaic Idealize.ShloMosaic.TcCoe Idealize.SL.Sem Cert.Seq Cert.Val Cert.KernelIdeal.Gen

variable {d : Dev nD} {C : Calls (sig := sig) (Elt Ideal) (Λ₀ Ideal) (d : Thread nD τ)} {n : ℕ}

/-- The products of chunk `c` stand at the buffer's rows, 129 rows to a head and repeat. -/
def P17 (I : Inp) (b t c : ℕ) (i : S3104x128.Idx) (v : EReal) : Prop :=
  v = zd I b t ((i 0).val / 129 % 8) ((i 0).val / 129 / 8) (i 1).val c (perm ((i 0).val % 129))

/-- The rows filled for the groups below `g`, and at `g` for the repeats below `e`. -/
def D17 (g e : ℕ) (i : S3104x128.Idx) : Prop :=
  (i 0).val % 129 < 128 ∧ (i 0).val / 129 < 24 ∧ ((i 0).val / 129 % 8 < g ∨ (i 0).val / 129 % 8 = g ∧ (i 0).val / 129 / 8 < e)

theorem sum17 (I : Inp) (b t c g e : ℕ) (v : Vec Ideal S1x1x128x128 .fp8e4m3) (w : Vec Ideal S1x1x128x384 .fp8e4m3)
    (hv : ∀ p x : Fin 128, v (ix4 0 0 p x) = I.k b (c * 128 + perm p.val) g x.val)
    (hw : ∀ (x : Fin 128) (y : Fin 384), w (ix4 0 0 x y) = I.q b (t * 128 + y.val % 128) (g * 3 + y.val / 128) x.val)
    (p : Fin 128) (l : ℕ) (hl : l < 128) (hb : e * 128 + l < 384) :
    (∑ x : Fin 128, v (ix4 0 0 p x) * w (ix4 0 0 x ⟨e * 128 + l, hb⟩)) = zd I b t g e l c (perm p.val) := by
  unfold zd
  refine Finset.sum_congr rfl fun x _ => ?_
  rw [hv, hw]
  show _ * I.q b (t * 128 + (e * 128 + l) % 128) (g * 3 + (e * 128 + l) / 128) x.val = _
  rw [show (e * 128 + l) % 128 = l by omega, show (e * 128 + l) / 128 = e by omega]

theorem put17 {β : Type} (I : Inp) (b t c g e : ℕ) (hg : g < 8) (he : e < 3) {off : Fin 2 → ℕ} {inb} {w : S128x128.Idx → EReal}
    (hoff : off = ![(e * 8 + g) * 129, 0])
    (hw : ∀ j : S128x128.Idx, w j = zd I b t g e (j 1).val c (perm (j 0).val))
    {h : (M17.access (Rect.unit (s := S3104x128) off S128x128.size inb)).Stores Finset.univ}
    {hm : (Finset.univ : Finset (Rect.unit (s := S3104x128) off S128x128.size inb).shape.Idx) = Finset.univ ∨ ∀ a, (Rect.unit (s := S3104x128) off S128x128.size inb).stride a = 1}
    {k : PUnit → Prog (TpuEff nD τ sig (Elt Ideal) (Λ₀ Ideal) .tc) β} {Q : β → SS d → Prop} {σ σ₀ : SS d}
    (hK : Keep [M17.view.ref] σ₀ σ) (hold : ∀ i, D17 g e i → P17 I b t c i (R M17 σ i))
    (hk : ∀ s' : SS d, Keep [M17.view.ref] σ₀ s' → (∀ i, D17 g (e + 1) i → P17 I b t c i (R M17 s' i)) → pwp C n (k ⟨⟩) Q s') :
    pwp C n (Prog.lift (.store M17 (Rect.unit (s := S3104x128) off S128x128.size inb) w Finset.univ h hm) >>= k) Q σ := by
  subst hoff
  refine pwp_put (P17 I b t c) (D17 g e) (D17 g (e + 1)) (Or.inl rfl) hold (fun j => ?_) (fun i h1 h2 => mem_unit _ _ ?_) fun s' hs hD => hk s' (hK.step (by simp) hs) hD
  · have h0 : (j 0).val < 128 := (j 0).2
    show _ = _
    rw [hw]
    have e0 : (((Rect.unit (s := S3104x128) ![(e * 8 + g) * 129, 0] S128x128.size inb).emb j 0).val) = (e * 8 + g) * 129 + (j 0).val := by
      simp [Rect.emb_apply]
    have e1 : (((Rect.unit (s := S3104x128) ![(e * 8 + g) * 129, 0] S128x128.size inb).emb j 1).val) = (j 1).val := by
      simp [Rect.emb_apply]
    rw [e0, e1, show ((e * 8 + g) * 129 + (j 0).val) / 129 = e * 8 + g by omega, show ((e * 8 + g) * 129 + (j 0).val) % 129 = (j 0).val by omega,
      show (e * 8 + g) % 8 = g by omega, show (e * 8 + g) / 8 = e by omega]
  · have hi := (i 1).2
    unfold D17 at h1 h2
    simp [Fin.forall_fin_succ, S128x128, S3104x128] at *; omega

theorem run_t43 (I : Inp) (b : ℕ) (v12 : BitVec 1) (h1 : k0_cond1 v12 = 1#1) (bb : Fin k0_t32_loop.trips) (a26 : BitVec 32) (t : Fin k0_t41_loop.trips) (v23 : BitVec 32)
    (hw4 : k0_chk4 v12 t v23) (k : Fin (k0_t42_loop t v23).trips) (hk : k.val ≤ t.val) (σ₀ : SS d) (hS : Staged I b 5 σ₀) (g : Fin k0_t43_loop.trips) (a) (σ : SS d)
    (hs : Keep [M17.view.ref] σ₀ σ ∧ ∀ i, D17 g.val 0 i → P17 I b t.val (t.val - k.val) i (R M17 σ i)) :
    pwp C n (B43 (F := Ideal) v12 h1 bb a26 0#32 1#32 t v23 hw4 k g a) (fun _ s => Keep [M17.view.ref] σ₀ s ∧
      ∀ i, D17 (g.val + 1) 0 i → P17 I b t.val (t.val - k.val) i (R M17 s i)) σ := by
  unfold B43 k0_t43_body
  have hS' : Staged I b 5 σ := hS.keep hs.1 (by decide +kernel) (by decide +kernel) (by decide +kernel) (by decide +kernel)
  have ht : t.val < 5 := t.2
  have hg : g.val < 8 := g.2
  refine ld (Or.inl rfl) fun v hv => ?_
  refine ld (Or.inl rfl) fun w hw => ?_
  have hv' : ∀ p x : Fin 128, v (ix4 0 0 p x) = I.k b ((t.val - k.val) * 128 + perm p.val) g.val x.val := by
    intro p x
    rw [hv, hS'.k _ (by simp [LoadRect.idx_apply, off65_eq _ _ _ hk]; omega)]
    simp [LoadRect.idx_apply, off65_eq _ _ _ hk, ix4]
  have hw' : ∀ (x : Fin 128) (y : Fin 384), w (ix4 0 0 x y) = I.q b (t.val * 128 + y.val % 128) (g.val * 3 + y.val / 128) x.val := by
    intro x y
    rw [hw, hS'.q _ (by simp [LoadRect.idx_apply, off66_eq, ix4]; exact ht)]
    simp [LoadRect.idx_apply, off66_eq, ix4]
  refine ld (Or.inl rfl) fun _ _ => ?_
  refine put17 I b t.val (t.val - k.val) g.val 0 hg (by omega) (off67_eq0 g) (fun j => (pay110_eq v w j).trans (sum17 I b _ _ _ 0 v w hv' hw' (j 0) _ (j 1).2 _)) hs.1 hs.2 fun s1 k1 d1 => ?_
  refine ld (Or.inl rfl) fun _ _ => ?_
  refine put17 I b t.val (t.val - k.val) g.val 1 hg (by omega) (off67_eq1 g) (fun j => (pay111_eq v w j).trans (sum17 I b _ _ _ 1 v w hv' hw' (j 0) _ (j 1).2 _)) k1 d1 fun s2 k2 d2 => ?_
  refine ld (Or.inl rfl) fun _ _ => ?_
  refine put17 I b t.val (t.val - k.val) g.val 2 hg (by omega) (off67_eq2 g) (fun j => (pay112_eq v w j).trans (sum17 I b _ _ _ 2 v w hv' hw' (j 0) _ (j 1).2 _)) k2 d2 fun s3 k3 d3 => ?_
  refine pwp_pure ⟨k3, fun i hi => d3 i ?_⟩
  unfold D17 at *; omega

/-- The bias of chunk `c` stands at its key and query. -/
def F16 (I : Inp) (b t c : ℕ) (σ : SS d) : Prop := ∀ i : S128x128.Idx, R M16 σ i = bi I b t (i 1).val c (i 0).val
def F17 (I : Inp) (b t c : ℕ) (σ : SS d) : Prop := ∀ i : S3104x128.Idx, (i 0).val % 129 < 128 → (i 0).val / 129 < 24 → P17 I b t c i (R M17 σ i)
def F15 (I : Inp) (b : ℕ) (σ : SS d) : Prop := ∀ i : S3x8x128.Idx, R M15 σ i = Fv I b (i 1).val (i 0).val

/-- What the log chain changes. -/
def LL : List (Ref sig .tc) := [M19.view.ref, M21.view.ref, M22.view.ref]

/-- The sums of the logarithms, `X` keys of the chunk in for the repeats below `r` and `Y` for the others. -/
def F22 (I : Inp) (b t c : ℕ) (base : S3x8x128.Idx → EReal) (r X Y : ℕ) (σ : SS d) : Prop :=
  ∀ i : S3x8x128.Idx, R M22 σ i = base i + ∑ x ∈ Finset.range (if (i 0).val < r then X else Y), tm I b t (i 1).val (i 0).val (i 2).val c (127 - x)

/-- The sums after a key, negated. -/
def F21 (I : Inp) (b t c : ℕ) (r X Y : ℕ) (σ : SS d) : Prop :=
  ∀ i : S3x8x128.Idx, R M21 σ i = -lft I b t (i 1).val (i 0).val (i 2).val c (if (i 0).val < r then X else Y)

/-- The weights of the keys done. -/
def D19 (r X Y : ℕ) (i : S1568x2x128.Idx) : Prop :=
  (i 0).val / 65 < 24 ∧ (i 0).val % 65 < 64 ∧ 128 ≤ 2 * ((i 0).val % 65) + (i 1).val + (if (i 0).val / 65 / 8 < r then X else Y)
def F19 (I : Inp) (b t c : ℕ) (r X Y : ℕ) (σ : SS d) : Prop :=
  ∀ i : S1568x2x128.Idx, D19 r X Y i → P19 I b t c i (R M19 σ i)

set_option maxHeartbeats 1600000 in
/-- A row of products times the factor plus the bias is a score. -/
theorem sc_eq (I : Inp) (b t c : ℕ) (σ : SS d) (h15 : F15 I b σ) (h16 : F16 I b t c σ) (h17 : F17 I b t c σ)
    (x y z r e : ℕ) (hx : x < 4) (hy : y < 4) (hz : z < 4) (hr : r < 3) (he : e < 2)
    {off17 : Fin 2 → ℕ} {off16 : Fin 2 → ℕ} {off15 : Fin 3 → ℕ} {inb17 inb16 inb15}
    (ho17 : off17 = ![r * 1032 + (3 - x) * 32 + (2 * (3 - z) + e) * 4 + (3 - y), 0])
    (ho16 : off16 = ![(3 - x) * 32 + (3 - y) * 8 + (2 * (3 - z) + e), 0]) (ho15 : off15 = ![r, 0, 0])
    (v89 : Vec Ideal S1x8x128 .f32) (v107 : FVec Ideal S8x128 .f32) (v114 : Vec Ideal S1x128 .f32)
    (h89 : ∀ j, v89 j = R M15 σ ((Rect.unit (s := S3x8x128) off15 S1x8x128.size inb15).toLoadRect.idx j))
    (h107 : ∀ j, v107 j = R M17 σ ((⟨off17, S8x128.size, ![129, 1], inb17⟩ : LoadRect S3104x128).idx j))
    (h114 : ∀ j, v114 j = R M16 σ ((Rect.unit (s := S128x128) off16 S1x128.size inb16).toLoadRect.idx j)) (j : S8x128.Idx) :
    v107 j * v89 (ix3 0 (j 0) (j 1)) + v114 (ix2 0 (j 1)) = sc I b t (j 0).val r (j 1).val c (127 - (x * 32 + y * 8 + z * 2 + (1 - e))) := by
  subst ho17 ho16 ho15
  have hj : (j 0).val < 8 := (j 0).2
  have e0 : ((⟨![r * 1032 + (3 - x) * 32 + (2 * (3 - z) + e) * 4 + (3 - y), 0], S8x128.size, ![129, 1], inb17⟩ : LoadRect S3104x128).idx j 0).val
      = r * 1032 + (3 - x) * 32 + (2 * (3 - z) + e) * 4 + (3 - y) + 129 * (j 0).val := by simp [LoadRect.idx_apply]
  have e1 : ((⟨![r * 1032 + (3 - x) * 32 + (2 * (3 - z) + e) * 4 + (3 - y), 0], S8x128.size, ![129, 1], inb17⟩ : LoadRect S3104x128).idx j 1).val
      = (j 1).val := by simp [LoadRect.idx_apply]
  have m : (r * 1032 + (3 - x) * 32 + (2 * (3 - z) + e) * 4 + (3 - y) + 129 * (j 0).val) % 129 = (3 - x) * 32 + (2 * (3 - z) + e) * 4 + (3 - y) := by omega
  have q : (r * 1032 + (3 - x) * 32 + (2 * (3 - z) + e) * 4 + (3 - y) + 129 * (j 0).val) / 129 = r * 8 + (j 0).val := by omega
  have pm : perm ((3 - x) * 32 + (2 * (3 - z) + e) * 4 + (3 - y)) = 127 - (x * 32 + y * 8 + z * 2 + (1 - e)) := by unfold perm; omega
  have pb : (3 - x) * 32 + (3 - y) * 8 + (2 * (3 - z) + e) = 127 - (x * 32 + y * 8 + z * 2 + (1 - e)) := by omega
  have z17 := h17 ((⟨![r * 1032 + (3 - x) * 32 + (2 * (3 - z) + e) * 4 + (3 - y), 0], S8x128.size, ![129, 1], inb17⟩ : LoadRect S3104x128).idx j)
    (by rw [e0, m]; omega) (by rw [e0, q]; omega)
  unfold P17 at z17
  rw [h107, z17, e0, e1, m, q, pm, show (r * 8 + (j 0).val) % 8 = (j 0).val by omega, show (r * 8 + (j 0).val) / 8 = r by omega]
  rw [h89, h15, h114, h16]
  simp [LoadRect.idx_apply, ix3, ix2, pb, sc]

/-- The weights of two keys, from the sum after them. -/
theorem av_hi (I : Inp) (b t g r lane c X : ℕ) (hX : X < 127) (s l : EReal) (hs : s = sc I b t g r lane c (127 - X)) (hl : l = -lft I b t g r lane c X) :
    FloatOps.exp2 (F := Ideal) (φ := .f32) (s - soft s + l) = av I b t g r lane c (127 - X) := by
  subst hs hl; unfold av tm; rw [show 127 - (127 - X) = X by omega]
theorem av_lo (I : Inp) (b t g r lane c X : ℕ) (hX : X < 127) (s s' l : EReal) (hs : s = sc I b t g r lane c (127 - X)) (hs' : s' = sc I b t g r lane c (127 - (X + 1)))
    (hl : l = -lft I b t g r lane c X) :
    FloatOps.exp2 (F := Ideal) (φ := .f32) (s' - soft s' + (l - soft s)) = av I b t g r lane c (127 - (X + 1)) := by
  subst hs hs' hl
  have := lft_step I b t g r lane c X
  unfold tm at this
  rw [this]; unfold av tm; rw [show 127 - (127 - (X + 1)) = X + 1 by omega]
theorem lft_two (I : Inp) (b t g r lane c X : ℕ) (s s' l : EReal) (hs : s = sc I b t g r lane c (127 - X)) (hs' : s' = sc I b t g r lane c (127 - (X + 1)))
    (hl : l = -lft I b t g r lane c X) : l - soft s - soft s' = -lft I b t g r lane c (X + 2) := by
  subst hs hs' hl
  have e1 := lft_step I b t g r lane c X
  have e2 := lft_step I b t g r lane c (X + 1)
  unfold tm at e1 e2
  rw [e1, e2]

set_option maxHeartbeats 1000000 in
theorem run_t47 (I : Inp) (b : ℕ) (t c : ℕ) (base : S3x8x128.Idx → EReal) (v12 : BitVec 1) (h1 : k0_cond1 v12 = 1#1) (bb : Fin k0_t32_loop.trips) (a26 : BitVec 32) (tt : Fin k0_t41_loop.trips)
    (x : Fin k0_t44_loop.trips) (y : Fin k0_t45_loop.trips) (z : Fin k0_t46_loop.trips) (u1 u2 u3 : BitVec 32)
    (σ₀ : SS d) (h15 : F15 I b σ₀) (h16 : F16 I b t c σ₀) (h17 : F17 I b t c σ₀) (r : Fin k0_t47_loop.trips) (a) (σ : SS d)
    (hs : Keep LL σ₀ σ ∧ F22 I b t c base r.val (x.val * 32 + y.val * 8 + z.val * 2 + 2) (x.val * 32 + y.val * 8 + z.val * 2) σ ∧
      F21 I b t c r.val (x.val * 32 + y.val * 8 + z.val * 2 + 2) (x.val * 32 + y.val * 8 + z.val * 2) σ ∧
      F19 I b t c r.val (x.val * 32 + y.val * 8 + z.val * 2 + 2) (x.val * 32 + y.val * 8 + z.val * 2) σ) :
    pwp C n (B47 (F := Ideal) v12 h1 bb a26 0#32 1#32 tt x y z u1 u2 u3 r a) (fun _ s => Keep LL σ₀ s ∧
      F22 I b t c base (r.val + 1) (x.val * 32 + y.val * 8 + z.val * 2 + 2) (x.val * 32 + y.val * 8 + z.val * 2) s ∧
      F21 I b t c (r.val + 1) (x.val * 32 + y.val * 8 + z.val * 2 + 2) (x.val * 32 + y.val * 8 + z.val * 2) s ∧
      F19 I b t c (r.val + 1) (x.val * 32 + y.val * 8 + z.val * 2 + 2) (x.val * 32 + y.val * 8 + z.val * 2) s) σ := by
  have hx : x.val < 4 := x.2
  have hy : y.val < 4 := y.2
  have hz : z.val < 4 := z.2
  have hr : r.val < 3 := r.2
  have e15 : F15 I b σ := by unfold F15; rw [hs.1.rd M15 (by decide +kernel)]; exact h15
  have e16 : F16 I b t c σ := by unfold F16; rw [hs.1.rd M16 (by decide +kernel)]; exact h16
  have e17 : F17 I b t c σ := by unfold F17; rw [hs.1.rd M17 (by decide +kernel)]; exact h17
  unfold B47 k0_t47_body
  refine pwp_seq (R := fun o s => s = σ ∧ ∃ (v89 v92 v95 : Vec Ideal S1x8x128 .f32) (v107 : FVec Ideal S8x128 .f32) (v114 : Vec Ideal S1x128 .f32),
      (∀ j, v89 j = R M15 σ ((Rect.unit (s := S3x8x128) (k0_off70 r) S1x8x128.size (k0_off70_inb r)).toLoadRect.idx j)) ∧
      (∀ j, v92 j = R M21 σ ((Rect.unit (s := S3x8x128) (k0_off70 r) S1x8x128.size (k0_off70_inb r)).toLoadRect.idx j)) ∧
      (∀ j, v95 j = R M22 σ ((Rect.unit (s := S3x8x128) (k0_off70 r) S1x8x128.size (k0_off70_inb r)).toLoadRect.idx j)) ∧
      (∀ j : S8x128.Idx, v107 j * v89 (ix3 0 (j 0) (j 1)) + v114 (ix2 0 (j 1)) = sc I b t (j 0).val r.val (j 1).val c (127 - (x.val * 32 + y.val * 8 + z.val * 2 + (1 - 1)))) ∧
      o = ⟨Scf.iv 0#32 1#32 r, k0_pay68 v89, k0_pay69 v92, k0_pay70 v95, k0_pay71 v89 v107 v114, k0_pay72 v89 v107 v114, k0_pay73 v89 v107 v114, k0_pay74 v89 v107 v114, k0_pay75 v89 v107 v114⟩) ?_ ?_
  · rw [k0_part2_eq_skeleton]; unfold k0_part2_skel
    refine ld (Or.inl rfl) fun v89 h89 => ?_
    refine ld (Or.inl rfl) fun v92 h92 => ?_
    refine ld (Or.inl rfl) fun v95 h95 => ?_
    refine ld (Or.inl rfl) fun v107 h107 => ?_
    refine ld (Or.inl rfl) fun v114 h114 => ?_
    exact pwp_pure ⟨rfl, v89, v92, v95, v107, v114, h89, h92, h95, sc_eq I b t c σ e15 e16 e17 x y z r 1 hx hy hz hr (by omega) (off71_eq1 x y z r) (off72_eq1 x y z) (off70_eq r) v89 v107 v114 h89 h107 h114, rfl⟩
  rintro _ _ ⟨rfl, v89, v92, v95, v107, v114, h89, h92, h95, hA, rfl⟩
  dsimp only
  rename_i σ'
  refine pwp_seq (R := fun o s => s = σ' ∧ ∃ (v155 : FVec Ideal S8x128 .f32) (v162 : Vec Ideal S1x128 .f32),
      (∀ j : S8x128.Idx, v155 j * v89 (ix3 0 (j 0) (j 1)) + v162 (ix2 0 (j 1)) = sc I b t (j 0).val r.val (j 1).val c (127 - (x.val * 32 + y.val * 8 + z.val * 2 + (1 - 0)))) ∧
      o.1 = k0_pay77 (k0_pay69 v92) (k0_pay71 v89 v107 v114) (k0_pay72 v89 v107 v114) (k0_pay73 v89 v107 v114) (k0_pay74 v89 v107 v114) (k0_pay75 v89 v107 v114) ∧
      o.2.1 = k0_pay78 (k0_pay69 v92) (k0_pay72 v89 v107 v114) (k0_pay73 v89 v107 v114) (k0_pay74 v89 v107 v114) (k0_pay75 v89 v107 v114) ∧
      o.2.2.2.1 = k0_pay80 (k0_pay68 v89) v155 v162 ∧
      o.2.2.1 = k0_pay79 (k0_pay70 v95) (k0_pay72 v89 v107 v114) (k0_pay73 v89 v107 v114) (k0_pay74 v89 v107 v114) (k0_pay75 v89 v107 v114) ∧
      o.2.2.2.2.1 = k0_pay81 (k0_pay68 v89) v155 v162 ∧ o.2.2.2.2.2 = k0_pay82 (k0_pay68 v89) v155 v162) ?_ ?_
  · rw [k0_part3_eq_skeleton]; unfold k0_part3_skel
    refine ld (Or.inl rfl) fun v155 h155 => ?_
    refine ld (Or.inl rfl) fun v162 h162 => ?_
    exact pwp_pure ⟨rfl, v155, v162, sc_eq I b t c σ' e15 e16 e17 x y z r 0 hx hy hz hr (by omega) (off71_eq0 x y z r) (off72_eq0 x y z) (off70_eq r) v89 v155 v162 h89 h155 h162, rfl, rfl, rfl, rfl, rfl, rfl⟩
  rintro ⟨v142, v143, v144, v164, v166, v170⟩ _ ⟨rfl, v155, v162, hB, h142, h143, h164, h144, h166, h170⟩
  dsimp only at h142 h143 h164 h144 h166 h170 ⊢
  rename_i σ
  have l21 : ∀ (g : Fin 8) (l : Fin 128), v92 (ix3 0 g l) = -lft I b t g.val r.val l.val c (x.val * 32 + y.val * 8 + z.val * 2) := fun g l => by
    rw [h92, hs.2.2.1]
    simp [LoadRect.idx_apply, off70_eq, ix3]
  have eX : x.val * 32 + y.val * 8 + z.val * 2 + (1 - 1) = x.val * 32 + y.val * 8 + z.val * 2 := by omega
  have eX' : x.val * 32 + y.val * 8 + z.val * 2 + (1 - 0) = x.val * 32 + y.val * 8 + z.val * 2 + 1 := by omega
  rw [eX] at hA
  rw [eX'] at hB
  have hX : x.val * 32 + y.val * 8 + z.val * 2 < 127 := by omega
  have r142 : ∀ j : S8x128.Idx, v142 j = av I b t (j 0).val r.val (j 1).val c (127 - (x.val * 32 + y.val * 8 + z.val * 2)) := fun j => by
    rw [h142, pay77_eq]; exact av_hi I b t _ _ _ c _ hX _ _ (hA j) (l21 (j 0) (j 1))
  have r190 : ∀ j : S8x128.Idx, FloatOps.exp2 (F := Ideal) (φ := .f32) (v164 j - k0_pay83 (F := Ideal) v166 v170 j + v143 j) = av I b t (j 0).val r.val (j 1).val c (127 - (x.val * 32 + y.val * 8 + z.val * 2 + 1)) := fun j => by
    rw [h164, h166, h170, softB, h143, pay78_eq, pay80_eq]; exact av_lo I b t _ _ _ c _ hX _ _ _ (hA j) (hB j) (l21 (j 0) (j 1))
  have r191 : ∀ j : S8x128.Idx, v143 j - k0_pay83 (F := Ideal) v166 v170 j = -lft I b t (j 0).val r.val (j 1).val c (x.val * 32 + y.val * 8 + z.val * 2 + 2) := fun j => by
    rw [h166, h170, softB, h143, pay78_eq]; exact lft_two I b t _ _ _ c _ _ _ _ (hA j) (hB j) (l21 (j 0) (j 1))
  refine pwp_seq (R := fun o s => Keep [M19.view.ref, M21.view.ref] σ s ∧
      F21 I b t c (r.val + 1) (x.val * 32 + y.val * 8 + z.val * 2 + 2) (x.val * 32 + y.val * 8 + z.val * 2) s ∧
      F19 I b t c (r.val + 1) (x.val * 32 + y.val * 8 + z.val * 2 + 2) (x.val * 32 + y.val * 8 + z.val * 2) s ∧ o = k0_pay84 v144 v166 v170) ?_ ?_
  · rw [k0_part4_eq_skeleton]; unfold k0_part4_skel
    refine ld (Or.inl rfl) fun _ _ => ?_
    refine pwp_put (P19 I b t c) (D19 r.val (x.val * 32 + y.val * 8 + z.val * 2 + 2) (x.val * 32 + y.val * 8 + z.val * 2)) (D19 (r.val + 1) (x.val * 32 + y.val * 8 + z.val * 2 + 2) (x.val * 32 + y.val * 8 + z.val * 2))
      (Or.inl rfl) hs.2.2.2 (fun j => ?_) (fun i h1 h2 => (LoadRect.mem_set _).2 ?_) fun s1 k1 d19 => ?_
    · have hj0 : (j 0).val < 8 := (j 0).2
      have hj1 : (j 1).val < 2 := (j 1).2
      show _ = av I b t ((k0_off73 x y z r 0 + 65 * (j 0).val) / 65 % 8) ((k0_off73 x y z r 0 + 65 * (j 0).val) / 65 / 8) (k0_off73 x y z r 2 + 1 * (j 2).val) c
        (2 * ((k0_off73 x y z r 0 + 65 * (j 0).val) % 65) + (k0_off73 x y z r 1 + 1 * (j 1).val))
      have f0 : k0_off73 x y z r 0 = r.val * 520 + (63 - (x.val * 16 + y.val * 4 + z.val)) := by rw [off73_eq]; rfl
      have f1 : k0_off73 x y z r 1 = 0 := by rw [off73_eq]; rfl
      have f2 : k0_off73 x y z r 2 = 0 := by rw [off73_eq]; rfl
      rw [f0, f1, f2]
      have q1 : (r.val * 520 + (63 - (x.val * 16 + y.val * 4 + z.val)) + 65 * (j 0).val) / 65 = r.val * 8 + (j 0).val := by omega
      have q2 : (r.val * 520 + (63 - (x.val * 16 + y.val * 4 + z.val)) + 65 * (j 0).val) % 65 = 63 - (x.val * 16 + y.val * 4 + z.val) := by omega
      rw [q1, q2, show (r.val * 8 + (j 0).val) % 8 = (j 0).val by omega, show (r.val * 8 + (j 0).val) / 8 = r.val by omega]
      rw [pay85_eq, r190, r142]
      by_cases hz0 : (j 1).val = 0
      · rw [if_pos hz0, hz0]
        rw [show 127 - (x.val * 32 + y.val * 8 + z.val * 2 + 1) = 2 * (63 - (x.val * 16 + y.val * 4 + z.val)) + (0 + 1 * 0) by omega]
        simp [ix2]
      · rw [if_neg hz0, show (j 1).val = 1 by omega]
        rw [show 127 - (x.val * 32 + y.val * 8 + z.val * 2) = 2 * (63 - (x.val * 16 + y.val * 4 + z.val)) + (0 + 1 * 1) by omega]
        simp [ix2]
    · have hi1 : (i 1).val < 2 := (i 1).2
      have hi2 : (i 2).val < 128 := (i 2).2
      obtain ⟨d1, d2, d3⟩ := h1
      have hn : ¬ 128 ≤ 2 * ((i 0).val % 65) + (i 1).val + (if (i 0).val / 65 / 8 < r.val then x.val * 32 + y.val * 8 + z.val * 2 + 2 else x.val * 32 + y.val * 8 + z.val * 2) := fun h => h2 ⟨d1, d2, h⟩
      have hr' : (i 0).val / 65 / 8 = r.val := by split_ifs at d3 hn <;> omega
      rw [if_pos (by omega)] at d3
      rw [if_neg (by omega)] at hn
      refine Fin.forall_fin_succ.2 ⟨⟨(i 0).val / 65 % 8, ?_, ?_⟩, Fin.forall_fin_succ.2 ⟨⟨(i 1).val, hi1, ?_⟩, Fin.forall_fin_succ.2 ⟨⟨(i 2).val, hi2, ?_⟩, fun a => a.elim0⟩⟩⟩
      · show (i 0).val / 65 % 8 < 8; omega
      · show (i 0).val = k0_off73 x y z r 0 + 65 * ((i 0).val / 65 % 8)
        rw [off73_eq]; simp; omega
      · show (i 1).val = k0_off73 x y z r 1 + 1 * (i 1).val
        rw [off73_eq]; simp
      · show (i 2).val = k0_off73 x y z r 2 + 1 * (i 2).val
        rw [off73_eq]; simp
    refine ld (Or.inl rfl) fun _ _ => ?_
    have K1 : Keep [M19.view.ref] σ s1 := (Keep.refl _ _).step (by simp) k1
    refine pwp_put (fun i v => v = -lft I b t (i 1).val (i 0).val (i 2).val c (if (i 0).val < r.val + 1 then x.val * 32 + y.val * 8 + z.val * 2 + 2 else x.val * 32 + y.val * 8 + z.val * 2))
      (fun i => (i 0).val ≠ r.val) (fun i => True) (Or.inl rfl) (fun i hi => ?_) (fun j => ?_) (fun i _ h2 => mem_unit _ _ ?_) fun s2 k2 d21 => ?_
    · rw [K1.rd M21 (by decide +kernel), hs.2.2.1 i]
      have : ((i 0).val < r.val) = ((i 0).val < r.val + 1) := by apply propext; omega
      simp only [this]
    · have h0 : (j 0).val = 0 := by have : (j 0).val < 1 := (j 0).2; omega
      have e0 : (((Rect.unit (s := S3x8x128) (k0_off70 r) S1x8x128.size (k0_off70_inb r)).emb j 0).val) = r.val := by simp [Rect.emb_apply, off70_eq, h0]
      have e1 : (((Rect.unit (s := S3x8x128) (k0_off70 r) S1x8x128.size (k0_off70_inb r)).emb j 1).val) = (j 1).val := by simp [Rect.emb_apply, off70_eq]
      have e2 : (((Rect.unit (s := S3x8x128) (k0_off70 r) S1x8x128.size (k0_off70_inb r)).emb j 2).val) = (j 2).val := by simp [Rect.emb_apply, off70_eq]
      rw [pay86_eq, r191, e0, e1, e2, if_pos (by omega)]
      rfl
    · have h1' := (i 1).2; have h2' := (i 2).2
      rw [off70_eq]; simp [Fin.forall_fin_succ, S1x8x128, S3x8x128] at *; omega
    have K12 : Keep [M21.view.ref] s1 s2 := (Keep.refl _ _).step (by simp) k2
    refine pwp_pure ⟨(K1.mono (by decide +kernel)).step (by simp) k2, fun i => d21 i trivial, fun i hi => ?_, rfl⟩
    rw [K12.rd M19 (by decide +kernel)]; exact d19 i hi
  rintro _ s1 ⟨k1, p21, p19, rfl⟩
  refine ld (Or.inl rfl) fun _ _ => ?_
  have k1' : Keep LL σ₀ s1 := hs.1.trans (k1.mono (by decide +kernel))
  refine pwp_put (fun i v => v = base i + ∑ w ∈ Finset.range (if (i 0).val < r.val + 1 then x.val * 32 + y.val * 8 + z.val * 2 + 2 else x.val * 32 + y.val * 8 + z.val * 2), tm I b t (i 1).val (i 0).val (i 2).val c (127 - w))
    (fun i => (i 0).val ≠ r.val) (fun i => True) (Or.inl rfl) (fun i hi => ?_) (fun j => ?_) (fun i _ h2 => mem_unit _ _ ?_) fun s' hk' hw => ?_
  · rw [k1.rd M22 (by decide +kernel), hs.2.1 i]
    have : ((i 0).val < r.val) = ((i 0).val < r.val + 1) := by apply propext; omega
    simp only [this]
  · have h0 : (j 0).val = 0 := by have : (j 0).val < 1 := (j 0).2; omega
    have e0 : (((Rect.unit (s := S3x8x128) (k0_off70 r) S1x8x128.size (k0_off70_inb r)).emb j 0).val) = r.val := by simp [Rect.emb_apply, off70_eq, h0]
    have e1 : (((Rect.unit (s := S3x8x128) (k0_off70 r) S1x8x128.size (k0_off70_inb r)).emb j 1).val) = (j 1).val := by simp [Rect.emb_apply, off70_eq]
    have e2 : (((Rect.unit (s := S3x8x128) (k0_off70 r) S1x8x128.size (k0_off70_inb r)).emb j 2).val) = (j 2).val := by simp [Rect.emb_apply, off70_eq]
    have e3 : (Rect.unit (s := S3x8x128) (k0_off70 r) S1x8x128.size (k0_off70_inb r)).toLoadRect.idx (ix3 0 (j 1) (j 2)) = (Rect.unit (s := S3x8x128) (k0_off70 r) S1x8x128.size (k0_off70_inb r)).emb j := by
      have hj : j = ix3 0 (j 1) (j 2) := by
        rw [eq_ix3 j]; congr 1; exact Fin.ext h0
      exact congrArg _ hj.symm
    rw [pay114_eq, h166, h170, h144]
    show k0_pay70 (F := Ideal) v95 _ + k0_pay76 (F := Ideal) _ _ _ _ _ + k0_pay83 (F := Ideal) _ _ _ = _
    rw [softA, softB, hA, hB, pay70_eq, h95]
    show R M22 σ ((Rect.unit (s := S3x8x128) (k0_off70 r) S1x8x128.size (k0_off70_inb r)).toLoadRect.idx (ix3 0 (j 1) (j 2))) + _ + _ = _
    rw [e3, hs.2.1, e0, e1, e2, if_neg (by omega), if_pos (by omega), Finset.sum_range_succ, Finset.sum_range_succ]
    simp only [add_assoc]
    rfl
  · have h1' := (i 1).2; have h2' := (i 2).2
    rw [off70_eq]; simp [Fin.forall_fin_succ, S1x8x128, S3x8x128] at *; omega
  · have K : Keep [M22.view.ref] s1 s' := (Keep.refl _ _).step (by simp) hk'
    refine pwp_pure ⟨k1'.step (by decide +kernel) hk', fun i => hw i trivial, ?_, ?_⟩
    · unfold F21; rw [K.rd M21 (by decide +kernel)]; exact p21
    · unfold F19; rw [K.rd M19 (by decide +kernel)]; exact p19

end Cert.KernelIdeal.Hand.PB

end
-- ==== Proof.LogTile.lean ====
/-
  The second pass over a tile of queries and over a batch: the chunks that can count, the sums written out.
-/
module

public import proofs.«01_k».proof.Proof.LogRun

@[expose] public section

set_option maxRecDepth 16384

noncomputable section

namespace Cert.KernelIdeal.Hand.PB

open Idealize.ShloMosaic Idealize.ShloMosaic.TcCoe Idealize.SL.Sem Cert.Seq Cert.Val Cert.KernelIdeal.Gen

/-! ### The search for the first chunk -/

/-- The loop returns a chunk at most the tile, and unless it is the first the segment ends before it. -/
def postV (I : Inp) : (ℓ : (Λ₀ Ideal).Label) → (Λ₀ Ideal).Args ℓ → (Λ₀ Ideal).Result ℓ → Prop
  | 0, _, _ => True
  | 1, ⟨b, T2, _, _, v, _⟩, r => BitVec.toNat r ≤ T2.val ∧ (BitVec.toNat r = 0 ∨ I.segS b.val (BitVec.toNat r * 128 - 1) ≠ v)
  | 2, ⟨_, b, T2, _, _, _, v, _⟩, r => BitVec.toNat r ≤ T2.val ∧ (BitVec.toNat r = 0 ∨ I.segS b.val (BitVec.toNat r * 128 - 1) ≠ v)

/-- It reads the segment ids. -/
def preV {d : Dev nD} (I : Inp) : (ℓ : (Λ₀ Ideal).Label) → (Λ₀ Ideal).Args ℓ → SS d → Prop
  | 0, _, _ => False
  | 1, ⟨_, T2, a0, _, _, x⟩, σ => (InCore a0.view.ref ∧ x.toNat ≤ T2.val) ∧ ∀ i, R a0 σ i = I.segS (i 0).val (i 1).val
  | 2, ⟨_, _, T2, _, a0, _, _, x⟩, σ => (InCore a0.view.ref ∧ x.toNat ≤ T2.val) ∧ ∀ i, R a0 σ i = I.segS (i 0).val (i 1).val

def callsV (d : Dev nD) (I : Inp) : Calls (sig := sig) (Elt Ideal) (Λ₀ Ideal) (d : Thread nD τ) where
  pre ℓ a σ := preV I ℓ a σ
  post ℓ a _ r := postV I ℓ a r
  rank ℓ a := rankS (F := Ideal) ℓ a

theorem off64_eq (b : Fin k0_t32_loop.trips) (n : Fin 5) : k0_off64 b (BitVec.ofNat 32 n.val) = ![b.val, n.val * 128 - 1] := by
  revert b n; decide +kernel
theorem off15_eq (b : Fin k0_t3_loop.trips) (n : Fin 5) : k0_off15 b (BitVec.ofNat 32 n.val) = ![b.val, n.val * 128 - 1] := by
  revert b n; decide +kernel

theorem off64_at (b : Fin k0_t32_loop.trips) (x : BitVec 32) (h : x.toNat < 5) : k0_off64 b x = ![b.val, x.toNat * 128 - 1] := by
  have := off64_eq b ⟨x.toNat, h⟩
  simpa using this
theorem off15_at (b : Fin k0_t3_loop.trips) (x : BitVec 32) (h : x.toNat < 5) : k0_off15 b x = ![b.val, x.toNat * 128 - 1] := by
  have := off15_eq b ⟨x.toNat, h⟩
  simpa using this

theorem stop_of (x : BitVec 32) (v w : BitVec 32) (hx : x.toNat ≤ 4) (h : ¬ Scalar.andi (Scalar.cmpi .sgt x 0#32) (Scalar.cmpi .eq w v) = 1#1) :
    x.toNat = 0 ∨ w ≠ v := by
  by_cases hw : w = v
  · left
    subst hw
    obtain ⟨n, rfl⟩ : ∃ n : Fin 5, x = BitVec.ofNat 32 n.val := ⟨⟨x.toNat, by omega⟩, by simp⟩
    have e : Scalar.cmpi .eq w w = 1#1 := by
      show BitVec.ofBool (w == w) = _
      simp
    rw [e] at h
    revert h; revert n; decide +kernel
  · exact Or.inr hw

variable {d : Dev nD}

theorem while2_run (I : Inp) (a : (Λ₀ Ideal).Args 2) (σ : SS d) (h : preV I 2 a σ) :
    pwp (callsV d I) (rankS (F := Ideal) 2 a) (defs₀ (F := Ideal) .tc 2 a) (fun r s => s = σ ∧ postV I 2 a r) σ := by
  obtain ⟨v12, t, b, h1, a0, ha0, v, x⟩ := a
  obtain ⟨⟨hc, hx⟩, hI⟩ := h
  unfold defs₀; rw [Defs.onTc_tc]
  show pwp (callsV d I) _ (cc0_while2 v12 t b h1 a0 ha0 v x) _ σ
  rw [cc0_while2_eq_skeleton]; unfold cc0_while2_skel
  have hb : b.val < 5 := b.2
  have hx' : x.toNat ≤ b.val := hx
  refine ⟨chk3_of v12 t b hx, ?_⟩
  refine sl (h1 := numel1_S1x1) (hp := rfl) hc fun y hy => ?_
  dsimp only
  have ey : y = I.segS t.val (x.toNat * 128 - 1) := by
    rw [hy, hI]
    simp [Rect.point, Rect.emb_apply, off64_at _ _ (show x.toNat < 5 by omega), Shape.Idx.first]
  split
  · rename_i hcond
    have hpos : 0 < x.toNat ∧ (Scalar.subi x 1#32).toNat = x.toNat - 1 := while_pos x _ (le_trans hx b.isLt.le) hcond
    refine ⟨⟨⟨hc, ?_⟩, hI⟩, ?_, fun r hr => ⟨rfl, hr⟩⟩
    · show (Scalar.subi x 1#32).toNat ≤ b.val
      omega
    · show (Scalar.subi x 1#32).toNat < x.toNat
      omega
  · rename_i hcond
    refine ⟨rfl, hx, ?_⟩
    have := stop_of x v y (by omega) hcond
    rw [ey] at this
    exact this

theorem while1_run (I : Inp) (a : (Λ₀ Ideal).Args 1) (σ : SS d) (h : preV I 1 a σ) :
    pwp (callsV d I) (rankS (F := Ideal) 1 a) (defs₀ (F := Ideal) .tc 1 a) (fun r s => s = σ ∧ postV I 1 a r) σ := by
  obtain ⟨t, b, a0, ha0, v, x⟩ := a
  obtain ⟨⟨hc, hx⟩, hI⟩ := h
  unfold defs₀; rw [Defs.onTc_tc]
  show pwp (callsV d I) _ (cc0_while1 t b a0 ha0 v x) _ σ
  rw [cc0_while1_eq_skeleton]; unfold cc0_while1_skel
  have hb : b.val < 5 := b.2
  have hx' : x.toNat ≤ b.val := hx
  refine ⟨chk1_of t b hx, ?_⟩
  refine sl (h1 := numel1_S1x1) (hp := rfl) hc fun y hy => ?_
  dsimp only
  have ey : y = I.segS t.val (x.toNat * 128 - 1) := by
    rw [hy, hI]
    simp [Rect.point, Rect.emb_apply, off15_at _ _ (show x.toNat < 5 by omega), Shape.Idx.first]
  split
  · rename_i hcond
    have hpos : 0 < x.toNat ∧ (Scalar.subi x 1#32).toNat = x.toNat - 1 := while_pos x _ (le_trans hx b.isLt.le) hcond
    refine ⟨⟨⟨hc, ?_⟩, hI⟩, ?_, fun r hr => ⟨rfl, hr⟩⟩
    · show (Scalar.subi x 1#32).toNat ≤ b.val
      omega
    · show (Scalar.subi x 1#32).toNat < x.toNat
      omega
  · rename_i hcond
    refine ⟨rfl, hx, ?_⟩
    have := stop_of x v y (by omega) hcond
    rw [ey] at this
    exact this

theorem hdefsV (I : Inp) (ℓ : (Λ₀ Ideal).Label) (a : (Λ₀ Ideal).Args ℓ) (σ : SS d) (h : (callsV d I).pre ℓ a σ) :
    pwp (callsV d I) ((callsV d I).rank ℓ a) (defs₀ (F := Ideal) (d : Thread nD τ).2 ℓ a) (fun r s => s = σ ∧ (callsV d I).post ℓ a σ r) σ :=
  match ℓ, a, h with
  | 0, _, h => h.elim
  | 1, a, h => while1_run I a σ h
  | 2, a, h => while2_run I a σ h

variable {C : Calls (sig := sig) (Elt Ideal) (Λ₀ Ideal) (d : Thread nD τ)} {n : ℕ}

/-! ### The loops over the keys of a chunk -/

/-- The sums of the logarithms with `X` keys of the chunk in. -/
def G22 (I : Inp) (b t c : ℕ) (base : S3x8x128.Idx → EReal) (X : ℕ) (σ : SS d) : Prop :=
  ∀ i : S3x8x128.Idx, R M22 σ i = base i + ∑ x ∈ Finset.range X, tm I b t (i 1).val (i 0).val (i 2).val c (127 - x)

theorem F21.start {I : Inp} {b t c X Y : ℕ} {σ : SS d} (h : F21 I b t c 0 X X σ) : F21 I b t c 0 Y X σ := fun i => by
  have := h i; simpa using this
theorem F21.fin {I : Inp} {b t c X Y : ℕ} {σ : SS d} (h : F21 I b t c 3 X Y σ) : F21 I b t c 0 X X σ := fun i => by
  have := h i
  have h0 : (i 0).val < 3 := (i 0).2
  rw [if_pos h0] at this; simpa using this
theorem F19.start {I : Inp} {b t c X Y : ℕ} {σ : SS d} (h : F19 I b t c 0 X X σ) : F19 I b t c 0 Y X σ := fun i hi => h i (by
  unfold D19 at hi ⊢; simpa using hi)
theorem F19.fin {I : Inp} {b t c X Y : ℕ} {σ : SS d} (h : F19 I b t c 3 X Y σ) : F19 I b t c 0 X X σ := fun i hi => h i (by
  unfold D19 at hi ⊢; rw [if_pos (by omega)]; simpa using hi)

/-- The sums, their negatives and the weights with `X` keys of the chunk in. -/
def GG (I : Inp) (b t c : ℕ) (base : S3x8x128.Idx → EReal) (X : ℕ) (σ : SS d) : Prop :=
  G22 I b t c base X σ ∧ F21 I b t c 0 X X σ ∧ F19 I b t c 0 X X σ

section Chain
variable (I : Inp) (b t c : ℕ) (base : S3x8x128.Idx → EReal) (v12 : BitVec 1) (h1 : k0_cond1 v12 = 1#1) (bb : Fin k0_t32_loop.trips) (a26 : BitVec 32) (tt : Fin k0_t41_loop.trips)
  (σ₀ : SS d) (h15 : F15 I b σ₀) (h16 : F16 I b t c σ₀) (h17 : F17 I b t c σ₀)
include h15 h16 h17

theorem run_t46 (x : Fin k0_t44_loop.trips) (y : Fin k0_t45_loop.trips) (u1 u2 : BitVec 32) (z : Fin k0_t46_loop.trips) (a) (σ : SS d)
    (hs : Keep LL σ₀ σ ∧ GG I b t c base (x.val * 32 + y.val * 8 + z.val * 2) σ) :
    pwp C n (B46 (F := Ideal) v12 h1 bb a26 0#32 1#32 tt x u1 y u2 z a) (fun _ s => Keep LL σ₀ s ∧ GG I b t c base (x.val * 32 + y.val * 8 + (z.val + 1) * 2) s) σ := by
  unfold B46 k0_t46_body
  refine pwp_for_bind (fun r _ s => Keep LL σ₀ s ∧ F22 I b t c base r (x.val * 32 + y.val * 8 + z.val * 2 + 2) (x.val * 32 + y.val * 8 + z.val * 2) s ∧
      F21 I b t c r (x.val * 32 + y.val * 8 + z.val * 2 + 2) (x.val * 32 + y.val * 8 + z.val * 2) s ∧ F19 I b t c r (x.val * 32 + y.val * 8 + z.val * 2 + 2) (x.val * 32 + y.val * 8 + z.val * 2) s)
    ⟨hs.1, fun i => by rw [if_neg (by omega)]; exact hs.2.1 i, hs.2.2.1.start, hs.2.2.2.start⟩ (fun r a s hs' => run_t47 I b t c base v12 h1 bb a26 tt x y z _ _ _ σ₀ h15 h16 h17 r a s hs') fun _ s hs' => ?_
  have e3 : k0_t47_loop.trips = 3 := by decide +kernel
  rw [e3] at hs'
  rw [show x.val * 32 + y.val * 8 + (z.val + 1) * 2 = x.val * 32 + y.val * 8 + z.val * 2 + 2 by ring]
  refine pwp_pure ⟨hs'.1, fun i => ?_, hs'.2.2.1.fin, hs'.2.2.2.fin⟩
  have e := hs'.2.1 i
  have h0 : (i 0).val < 3 := (i 0).2
  rw [if_pos h0] at e
  exact e

theorem run_t45 (x : Fin k0_t44_loop.trips) (u1 : BitVec 32) (y : Fin k0_t45_loop.trips) (a) (σ : SS d)
    (hs : Keep LL σ₀ σ ∧ GG I b t c base (x.val * 32 + y.val * 8) σ) :
    pwp C n (B45 (F := Ideal) v12 h1 bb a26 0#32 1#32 tt x u1 y a) (fun _ s => Keep LL σ₀ s ∧ GG I b t c base (x.val * 32 + (y.val + 1) * 8) s) σ := by
  unfold B45 k0_t45_body
  refine pwp_for_bind (fun z _ s => Keep LL σ₀ s ∧ GG I b t c base (x.val * 32 + y.val * 8 + z * 2) s)
    hs (fun z a s hs' => run_t46 I b t c base v12 h1 bb a26 tt σ₀ h15 h16 h17 x y _ _ z a s hs') fun _ s hs' => ?_
  refine pwp_pure ⟨hs'.1, ?_⟩
  have e : k0_t46_loop.trips = 4 := by decide +kernel
  rw [show x.val * 32 + (y.val + 1) * 8 = x.val * 32 + y.val * 8 + k0_t46_loop.trips * 2 by omega]; exact hs'.2

theorem run_t44 (x : Fin k0_t44_loop.trips) (a) (σ : SS d)
    (hs : Keep LL σ₀ σ ∧ GG I b t c base (x.val * 32) σ) :
    pwp C n (B44 (F := Ideal) v12 h1 bb a26 0#32 1#32 tt x a) (fun _ s => Keep LL σ₀ s ∧ GG I b t c base ((x.val + 1) * 32) s) σ := by
  unfold B44 k0_t44_body
  refine pwp_for_bind (fun y _ s => Keep LL σ₀ s ∧ GG I b t c base (x.val * 32 + y * 8) s)
    hs (fun y a s hs' => run_t45 I b t c base v12 h1 bb a26 tt σ₀ h15 h16 h17 x _ y a s hs') fun _ s hs' => ?_
  refine pwp_pure ⟨hs'.1, ?_⟩
  have e : k0_t45_loop.trips = 4 := by decide +kernel
  rw [show (x.val + 1) * 32 = x.val * 32 + k0_t45_loop.trips * 8 by omega]; exact hs'.2

end Chain

/-! ### A chunk -/

/-- What a chunk changes. -/
def LC : List (Ref sig .tc) := [M16.view.ref, M17.view.ref, M18.view.ref, M19.view.ref, M20.view.ref, M21.view.ref, M22.view.ref, M23.view.ref]

theorem ch_eq (I : Inp) (b t g r lane c : ℕ) : ∑ x ∈ Finset.range 128, tm I b t g r lane c (127 - x) = ch I b t g r lane c :=
  Finset.sum_range_reflect (fun p => tm I b t g r lane c p) 128

/-- The sums of the logarithms after `k` chunks, from the tile's own backwards. -/
def H22 (I : Inp) (b t k : ℕ) (σ : SS d) : Prop :=
  ∀ i : S3x8x128.Idx, R M22 σ i = ∑ m ∈ Finset.range k, ch I b t (i 1).val (i 0).val (i 2).val (t - m)

def H21 (I : Inp) (b t k : ℕ) (σ : SS d) : Prop :=
  ∀ i : S3x8x128.Idx, R M21 σ i = -∑ m ∈ Finset.range k, ch I b t (i 1).val (i 0).val (i 2).val (t - m)

/-- The weighted sum after `k` chunks. -/
def ocs (I : Inp) (b t g r lane x k : ℕ) : EReal := ∑ m ∈ Finset.range k, oc I b t g r lane x (t - m)

def H20 (I : Inp) (b t k : ℕ) (σ : SS d) : Prop :=
  ∀ i : S8x128x384.Idx, R M20 σ i = ocs I b t (i 0).val ((i 2).val / 128) ((i 2).val % 128) (i 1).val k

/-- The weights of a head, read. -/
theorem ld19 (I : Inp) (b t c g e : ℕ) (hg : g < 8) (he : e < 3) (σ : SS d) (h19 : F19 I b t c 0 128 128 σ) {off : Fin 3 → ℕ} {inb}
    (hoff : off = ![(e * 8 + g) * 65, 0, 0]) (v : Vec Ideal S64x2x128 .bf16)
    (hv : ∀ j, v j = R M19 σ ((Rect.unit (s := S1568x2x128) off S64x2x128.size inb).toLoadRect.idx j)) (p : Fin 64) (q : Fin 2) (l : Fin 128) :
    v (ix3 p q l) = (fun k l => av I b t g (l / 128) (l % 128) c k) (2 * p.val + q.val) (e * 128 + l.val) := by
  subst hoff
  have hp := p.2
  have hl := l.2
  have e0 : ((Rect.unit (s := S1568x2x128) ![(e * 8 + g) * 65, 0, 0] S64x2x128.size inb).toLoadRect.idx (ix3 p q l) 0).val = (e * 8 + g) * 65 + p.val := by simp [LoadRect.idx_apply, ix3]
  have e1 : ((Rect.unit (s := S1568x2x128) ![(e * 8 + g) * 65, 0, 0] S64x2x128.size inb).toLoadRect.idx (ix3 p q l) 1).val = q.val := by simp [LoadRect.idx_apply, ix3]
  have e2 : ((Rect.unit (s := S1568x2x128) ![(e * 8 + g) * 65, 0, 0] S64x2x128.size inb).toLoadRect.idx (ix3 p q l) 2).val = l.val := by simp [LoadRect.idx_apply, ix3]
  have q1 : ((e * 8 + g) * 65 + p.val) / 65 = e * 8 + g := by omega
  have q2 : ((e * 8 + g) * 65 + p.val) % 65 = p.val := by omega
  have z := h19 ((Rect.unit (s := S1568x2x128) ![(e * 8 + g) * 65, 0, 0] S64x2x128.size inb).toLoadRect.idx (ix3 p q l))
    (by unfold D19; rw [e0, q1, q2]; refine ⟨by omega, hp, ?_⟩; simp)
  unfold P19 at z
  rw [e0, e1, e2, q1, q2, show (e * 8 + g) % 8 = g by omega, show (e * 8 + g) / 8 = e by omega] at z
  rw [hv, z]
  show _ = av I b t g ((e * 128 + l.val) / 128) ((e * 128 + l.val) % 128) c (2 * p.val + q.val)
  rw [show (e * 128 + l.val) / 128 = e by omega, show (e * 128 + l.val) % 128 = l.val by omega]

theorem cov20 (g : ℕ) (i : S8x128x384.Idx) (h : (i 0).val = g) : ∀ a, (![g, 0, 0] : Fin 3 → ℕ) a ≤ (i a).val ∧ (i a).val < (![g, 0, 0] : Fin 3 → ℕ) a + S1x128x384.size a := by
  have h1' := (i 1).2; have h2' := (i 2).2
  simp [Fin.forall_fin_succ, S1x128x384, S8x128x384] at *; omega

theorem run_t48 (I : Inp) (v12 : BitVec 1) (h1 : k0_cond1 v12 = 1#1) (bb : Fin k0_t32_loop.trips) (a26 : BitVec 32) (t : Fin k0_t41_loop.trips) (v23 : BitVec 32)
    (hw4 : k0_chk4 v12 t v23) (k : Fin (k0_t42_loop t v23).trips) (hk : k.val ≤ t.val) (σ₀ : SS d) (hS : Staged I bb.val 5 σ₀)
    (h19 : F19 I bb.val t.val (t.val - k.val) 0 128 128 σ₀) (g : Fin k0_t48_loop.trips) (a) (σ : SS d)
    (hs : Keep [M20.view.ref] σ₀ σ ∧ ∀ i : S8x128x384.Idx, R M20 σ i = ocs I bb.val t.val (i 0).val ((i 2).val / 128) ((i 2).val % 128) (i 1).val (if (i 0).val < g.val then k.val + 1 else k.val)) :
    pwp C n (B48 (F := Ideal) v12 h1 bb a26 0#32 1#32 t v23 hw4 k g a) (fun _ s => Keep [M20.view.ref] σ₀ s ∧
      ∀ i : S8x128x384.Idx, R M20 s i = ocs I bb.val t.val (i 0).val ((i 2).val / 128) ((i 2).val % 128) (i 1).val (if (i 0).val < g.val + 1 then k.val + 1 else k.val)) σ := by
  have ht : t.val < 5 := t.2
  have hg : g.val < 8 := g.2
  have h19' : F19 I bb.val t.val (t.val - k.val) 0 128 128 σ := by unfold F19; rw [hs.1.rd M19 (by decide +kernel)]; exact h19
  have hS' : Staged I bb.val 5 σ := hS.keep hs.1 (by decide +kernel) (by decide +kernel) (by decide +kernel) (by decide +kernel)
  unfold B48 k0_t48_body
  refine ld (Or.inl rfl) fun va ha => ?_
  refine ld (Or.inl rfl) fun vb hb => ?_
  refine ld (Or.inl rfl) fun vc hc => ?_
  refine ld (Or.inl rfl) fun o ho => ?_
  refine ld (Or.inl rfl) fun w hw => ?_
  refine ld (Or.inl rfl) fun _ _ => ?_
  have ew : ∀ (y x : Fin 128), w (ix4 0 0 y x) = I.v bb.val ((t.val - k.val) * 128 + x.val) g.val y.val := by
    intro y x
    rw [hw, hS'.v _ (by simp [LoadRect.idx_apply, off76_eq _ _ _ hk]; omega)]
    simp [P12, LoadRect.idx_apply, off76_eq _ _ _ hk, ix4]
  refine pwp_put (fun i v => v = ocs I bb.val t.val (i 0).val ((i 2).val / 128) ((i 2).val % 128) (i 1).val (if (i 0).val < g.val + 1 then k.val + 1 else k.val))
    (fun i => (i 0).val ≠ g.val) (fun _ => True) (Or.inl rfl) (fun i hi => ?_) (fun j => ?_) (fun i _ h2 => mem_unit _ _ ?_) fun s1 k1 hw1 => pwp_pure ⟨hs.1.step (by simp) k1, fun i => hw1 i trivial⟩
  · rw [hs.2 i]
    have : ((i 0).val < g.val) = ((i 0).val < g.val + 1) := by apply propext; omega
    simp only [this]
  · have h0 : (j 0).val = 0 := by have : (j 0).val < 1 := (j 0).2; omega
    have e0 : (((Rect.unit (s := S8x128x384) (k0_off75 g) S1x128x384.size (k0_off75_inb g)).emb j 0).val) = g.val := by simp [Rect.emb_apply, off75_eq, h0]
    have e1 : (((Rect.unit (s := S8x128x384) (k0_off75 g) S1x128x384.size (k0_off75_inb g)).emb j 1).val) = (j 1).val := by simp [Rect.emb_apply, off75_eq]
    have e2 : (((Rect.unit (s := S8x128x384) (k0_off75 g) S1x128x384.size (k0_off75_inb g)).emb j 2).val) = (j 2).val := by simp [Rect.emb_apply, off75_eq]
    rw [pay115_eq va vb vc o w (fun k' l => av I bb.val t.val g.val (l / 128) (l % 128) (t.val - k.val) k')
      (ld19 I bb.val t.val _ g.val 0 hg (by omega) σ h19' (off74_eq0 g) va ha) (ld19 I bb.val t.val _ g.val 1 hg (by omega) σ h19' (off74_eq1 g) vb hb)
      (ld19 I bb.val t.val _ g.val 2 hg (by omega) σ h19' (off74_eq2 g) vc hc), ho]
    show R M20 σ ((Rect.unit (s := S8x128x384) (k0_off75 g) S1x128x384.size (k0_off75_inb g)).emb j) + _ = _
    rw [hs.2, e0, e1, e2, if_neg (by omega), if_pos (by omega)]
    unfold ocs
    rw [Finset.sum_range_succ]
    congr 1
    unfold oc
    exact Finset.sum_congr rfl fun x _ => congrArg (· * _) (ew (j 1) x)
  · rw [off75_eq]; exact cov20 g.val i (by by_contra h; exact (by assumption : ¬ (i 0).val ≠ g.val) h)

theorem run_t42 (I : Inp) (v12 : BitVec 1) (h1 : k0_cond1 v12 = 1#1) (bb : Fin k0_t32_loop.trips) (a26 : BitVec 32) (t : Fin k0_t41_loop.trips) (v23 : BitVec 32)
    (hv : v23.toNat ≤ t.val) (hw4 : k0_chk4 v12 t v23) (σ₀ : SS d) (hS : Staged I bb.val 5 σ₀) (h15 : F15 I bb.val σ₀) (h25 : F25 I σ₀)
    (k : Fin (k0_t42_loop t v23).trips) (a) (σ : SS d)
    (hs : Keep LC σ₀ σ ∧ H22 I bb.val t.val k.val σ ∧ H21 I bb.val t.val k.val σ ∧ H20 I bb.val t.val k.val σ) :
    pwp C n (B42 (F := Ideal) v12 h1 bb a26 0#32 1#32 t v23 hw4 k a) (fun _ s => Keep LC σ₀ s ∧ H22 I bb.val t.val (k.val + 1) s ∧ H21 I bb.val t.val (k.val + 1) s ∧ H20 I bb.val t.val (k.val + 1) s) σ := by
  have ht : t.val < 5 := t.2
  have hb : bb.val < 3 := bb.2
  have hk : k.val ≤ t.val := by have := k.2; have e := trips42 t v23 hv; omega
  have hSσ : Staged I bb.val 5 σ := hS.keep hs.1 (by decide +kernel) (by decide +kernel) (by decide +kernel) (by decide +kernel)
  have e8 : k0_t43_loop.trips = 8 := by decide +kernel
  unfold B42 k0_t42_body
  refine pwp_for_bind (fun g _ s => Keep [M17.view.ref] σ s ∧ ∀ i, D17 g 0 i → P17 I bb.val t.val (t.val - k.val) i (R M17 s i))
    ⟨.refl _ _, fun i hi => absurd hi (by unfold D17; omega)⟩ (fun g a s hs' => run_t43 I bb.val v12 h1 bb a26 t v23 hw4 k hk σ hSσ g a s hs') fun _ s1 h1' => ?_
  have k1 : Keep LC σ₀ s1 := hs.1.trans (h1'.1.mono (by decide +kernel))
  have hS1 : Staged I bb.val 5 s1 := hS.keep k1 (by decide +kernel) (by decide +kernel) (by decide +kernel) (by decide +kernel)
  have h17 : F17 I bb.val t.val (t.val - k.val) s1 := fun i i1 i2 => h1'.2 i ⟨i1, i2, Or.inl (by omega)⟩
  refine ld (Or.inl rfl) fun v58 h58 => ?_
  refine ld (Or.inl rfl) fun v68 h68 => ?_
  refine ld (Or.inl rfl) fun _ _ => ?_
  refine pwp_put (fun i v => v = bi I bb.val t.val (i 1).val (t.val - k.val) (i 0).val) (fun _ => False) (fun _ => True) (Or.inl rfl) (fun _ h => h.elim) (fun j => ?_) (fun i _ _ => mem_unit _ _ ?_) fun s2 k2 h16 => ?_
  · rw [pay113_eq _ _ _ hk, h58, h68, k1.rd M25 (by decide +kernel), h25, hS1.s _ (by simp [LoadRect.idx_apply, off69_eq _ _ _ hk, ix3]; omega)]
    simp [LoadRect.idx_apply, Rect.emb_apply, off69_eq _ _ _ hk, off68_eq, ix3, ix2, bi, vis]
    rw [show (bb.val * 5 + t.val) / 5 = bb.val by omega, Nat.mod_eq_of_lt ht]
  · have := (i 0).2; have := (i 1).2
    simp [Fin.forall_fin_succ, S128x128] at *; omega
  have k2' : Keep [M16.view.ref] s1 s2 := (Keep.refl _ _).step (by simp) k2
  have K2 : Keep LC σ₀ s2 := k1.trans (k2'.mono (by decide +kernel))
  refine pwp_for_bind (fun x _ s => Keep LL s2 s ∧ GG I bb.val t.val (t.val - k.val) (fun i => ∑ m ∈ Finset.range k.val, ch I bb.val t.val (i 1).val (i 0).val (i 2).val (t.val - m)) (x * 32) s)
    ⟨.refl _ _, fun i => ?_, fun i => ?_, fun i hi => ?_⟩ (fun x a s hs' => run_t44 I bb.val t.val (t.val - k.val) _ v12 h1 bb a26 t s2 ?_ ?_ ?_ x a s hs') fun _ s3 h3 => ?_
  · rw [k2'.rd M22 (by decide +kernel), h1'.1.rd M22 (by decide +kernel), hs.2.1 i]; simp
  · rw [k2'.rd M21 (by decide +kernel), h1'.1.rd M21 (by decide +kernel), hs.2.2.1 i]
    simp [lft, bc_sub _ _ _ _ _ _ _ hk]
  · have := (i 1).2
    have h1 : (i 1).val < 2 := (i 1).2
    unfold D19 at hi; simp at hi; omega
  · unfold F15; rw [K2.rd M15 (by decide +kernel)]; exact h15
  · exact fun i => h16 i trivial
  · unfold F17; rw [k2'.rd M17 (by decide +kernel)]; exact h17
  have K3 : Keep LC σ₀ s3 := K2.trans (h3.1.mono (by decide +kernel))
  have e128 : k0_t44_loop.trips * 32 = 128 := by decide +kernel
  have e8' : k0_t48_loop.trips = 8 := by decide +kernel
  rw [e128] at h3
  have K03 : Keep (LL ++ [M16.view.ref, M17.view.ref]) σ s3 := (h1'.1.mono (by decide +kernel)).trans ((k2'.mono (by decide +kernel)).trans (h3.1.mono (by decide +kernel)))
  refine pwp_for_bind (fun x _ s => Keep [M20.view.ref] s3 s ∧ ∀ i : S8x128x384.Idx, R M20 s i = ocs I bb.val t.val (i 0).val ((i 2).val / 128) ((i 2).val % 128) (i 1).val (if (i 0).val < x then k.val + 1 else k.val))
    ⟨.refl _ _, fun i => ?_⟩ (fun g a s hs' => run_t48 I v12 h1 bb a26 t v23 hw4 k hk s3 (hS.keep K3 (by decide +kernel) (by decide +kernel) (by decide +kernel) (by decide +kernel)) h3.2.2.2 g a s hs') fun _ s4 h4 => ?_
  · rw [if_neg (by omega), K03.rd M20 (by decide +kernel)]; exact hs.2.2.2 i
  refine pwp_pure ⟨K3.trans (h4.1.mono (by decide +kernel)), fun i => ?_, fun i => ?_, fun i => ?_⟩
  · rw [h4.1.rd M22 (by decide +kernel), h3.2.1 i, ch_eq, Finset.sum_range_succ]
  · rw [h4.1.rd M21 (by decide +kernel), h3.2.2.1 i, if_neg (by omega)]
    unfold lft
    rw [ch_eq, bc_sub _ _ _ _ _ _ _ hk, Finset.sum_range_succ]
  · have h0 : (i 0).val < 8 := (i 0).2
    rw [h4.2 i, if_pos (by omega)]

end Cert.KernelIdeal.Hand.PB

end
-- ==== Proof.LogBatch.lean ====
/-
  The second pass: a tile of queries, a batch, and what it leaves.
-/
module

public import proofs.«01_k».proof.Proof.LogTile

@[expose] public section

set_option maxRecDepth 16384

noncomputable section

namespace Cert.KernelIdeal.Hand.PB

open Idealize.ShloMosaic Idealize.ShloMosaic.TcCoe Idealize.SL.Sem Cert.Seq Cert.Val Cert.KernelIdeal.Gen

/-! ### A key that does not count adds nothing -/

/-- What the segment ids are assumed to be. -/
structure Good (I : Inp) : Prop where
  same : ∀ b p, b < 3 → p < 640 → I.segS b p = I.seg b p
  sorted : ∀ b p q, b < 3 → p ≤ q → q < 640 → (I.seg b p).toInt ≤ (I.seg b q).toInt

theorem ch_zero_of (I : Inp) (b t g r lane c : ℕ) (h : ∀ p, p < 128 → ¬ vis I b t lane c p) : ch I b t g r lane c = 0 :=
  Finset.sum_eq_zero fun p hp => tm_zero I b t g r lane c p (h p (Finset.mem_range.1 hp))

theorem vis_late (I : Inp) (b t lane c : ℕ) (hl : lane < 128) (h : t < c) : ∀ p, p < 128 → ¬ vis I b t lane c p :=
  fun p hp hv => by have := hv.2; omega

theorem vis_early (I : Inp) (hG : Good I) (b t lane c v : ℕ) (hb : b < 3) (ht : t < 5) (hl : lane < 128) (hv : v ≤ t) (hc : c < v)
    (hne : I.segS b (v * 128 - 1) ≠ I.segS b (t * 128)) : ∀ p, p < 128 → ¬ vis I b t lane c p := by
  intro p hp hvis
  rw [hG.same b _ hb (by omega), hG.same b _ hb (by omega)] at hne
  have h1 := hG.sorted b (c * 128 + p) (v * 128 - 1) hb (by omega) (by omega)
  have h2 := hG.sorted b (v * 128 - 1) (t * 128) hb (by omega) (by omega)
  have h3 := hG.sorted b (t * 128) (t * 128 + lane) hb (by omega) (by omega)
  rw [hvis.1] at h1
  exact hne (BitVec.eq_of_toInt_eq (by omega))

/-- The sum over all the chunks. -/
def tot (I : Inp) (b t g r lane : ℕ) : EReal := ∑ c ∈ Finset.range 5, ch I b t g r lane c

/-- The weighted sum over all the chunks. -/
def ot (I : Inp) (b t g r lane x : ℕ) : EReal := ∑ c ∈ Finset.range 5, oc I b t g r lane x c

/-- The chunks read are all that count. -/
theorem all_eq (I : Inp) (hG : Good I) (f : ℕ → EReal) (b t lane v : ℕ) (hf : ∀ c, (∀ p, p < 128 → ¬ vis I b t lane c p) → f c = 0) (hb : b < 3) (ht : t < 5) (hl : lane < 128) (hv : v ≤ t)
    (hne : v = 0 ∨ I.segS b (v * 128 - 1) ≠ I.segS b (t * 128)) :
    ∑ m ∈ Finset.range (t + 1 - v), f (t - m) = ∑ c ∈ Finset.range 5, f c := by
  have e1 : ∑ m ∈ Finset.range (t + 1 - v), f (t - m) = ∑ c ∈ Finset.Ico v (t + 1), f c := by
    rw [Finset.sum_Ico_eq_sum_range, ← Finset.sum_range_reflect]
    refine Finset.sum_congr rfl fun m hm => ?_
    have := Finset.mem_range.1 hm
    rw [show t - (t + 1 - v - 1 - m) = v + m by omega]
  rw [e1]
  refine Finset.sum_subset (fun c hc => ?_) fun c hc hn => ?_
  · have := Finset.mem_Ico.1 hc; exact Finset.mem_range.2 (by omega)
  · rw [Finset.mem_Ico] at hn
    by_cases h : t < c
    · exact hf c (vis_late I b t lane c hl h)
    · rcases hne with h0 | h0
      · omega
      · exact hf c (vis_early I hG b t lane c v hb ht hl hv (by omega) h0)

theorem tot_eq (I : Inp) (hG : Good I) (b t g r lane v : ℕ) (hb : b < 3) (ht : t < 5) (hl : lane < 128) (hv : v ≤ t)
    (hne : v = 0 ∨ I.segS b (v * 128 - 1) ≠ I.segS b (t * 128)) :
    ∑ m ∈ Finset.range (t + 1 - v), ch I b t g r lane (t - m) = tot I b t g r lane :=
  all_eq I hG (ch I b t g r lane) b t lane v (ch_zero_of I b t g r lane) hb ht hl hv hne

theorem ot_eq (I : Inp) (hG : Good I) (b t g r lane x v : ℕ) (hb : b < 3) (ht : t < 5) (hl : lane < 128) (hv : v ≤ t)
    (hne : v = 0 ∨ I.segS b (v * 128 - 1) ≠ I.segS b (t * 128)) :
    ocs I b t g r lane x (t + 1 - v) = ot I b t g r lane x :=
  all_eq I hG (oc I b t g r lane x) b t lane v (oc_zero_of I b t g r lane x) hb ht hl hv hne

variable {d : Dev nD} {C : Calls (sig := sig) (Elt Ideal) (Λ₀ Ideal) (d : Thread nD τ)} {n : ℕ}

/-! ### The weighted sum, written out -/

/-- The value of the output at a query, a head and a column. -/
def oV (I : Inp) (b q h x : ℕ) : EReal := ot I b (q / 128) (h / 3) (h % 3) (q % 128) x * I.vs b (h / 3)

/-- The output is right in the batches before, and in this one up to a tile and in the tile up to head `n`. -/
def D8 (b t n : ℕ) (i : S3x640x3072.Idx) : Prop :=
  (i 0).val < b ∨ ((i 0).val = b ∧ ((i 1).val < t * 128 ∨ ((i 1).val < (t + 1) * 128 ∧ (i 2).val / 128 < n)))
def F8 (I : Inp) (b t n : ℕ) (σ : SS d) : Prop :=
  ∀ i : S3x640x3072.Idx, D8 b t n i → R M8 σ i = oV I (i 0).val (i 1).val ((i 2).val / 128) ((i 2).val % 128)

theorem cov8 (b t h n : ℕ) (hn : h = n) (i : S3x640x3072.Idx) (h1 : D8 b t (n + 1) i) (h2 : ¬ D8 b t n i) :
    ∀ a, (![b, t * 128, h * 128] : Fin 3 → ℕ) a ≤ (i a).val ∧ (i a).val < (![b, t * 128, h * 128] : Fin 3 → ℕ) a + S1x128x128.size a := by
  have h0 := (i 0).2
  unfold D8 at h1 h2
  simp [Fin.forall_fin_succ, S1x128x128, S3x640x3072] at *; omega

theorem run_t57 (I : Inp) (v12 : BitVec 1) (h1 : k0_cond1 v12 = 1#1) (bb : Fin k0_t32_loop.trips) (a26 : BitVec 32) (t : Fin k0_t41_loop.trips)
    (g : Fin k0_t56_loop.trips) (σ₀ : SS d) (hI : Ins I σ₀) (h20 : ∀ i : S8x128x384.Idx, R M20 σ₀ i = ot I bb.val t.val (i 0).val ((i 2).val / 128) ((i 2).val % 128) (i 1).val)
    (k : Fin k0_t57_loop.trips) (a) (σ : SS d) (hs : Keep [M8.view.ref] σ₀ σ ∧ F8 I bb.val t.val (g.val * 3 + k.val) σ) :
    pwp C n (B57 (F := Ideal) v12 h1 bb a26 0#32 1#32 t g k a) (fun _ s => Keep [M8.view.ref] σ₀ s ∧ F8 I bb.val t.val (g.val * 3 + (k.val + 1)) s) σ := by
  have ht : t.val < 5 := t.2
  have hg : g.val < 8 := g.2
  have hk : k.val < 3 := k.2
  have hI' : Ins I σ := hI.keep hs.1 (by decide +kernel)
  unfold B57 k0_t57_body
  refine ld (Or.inl rfl) fun o ho => ?_
  refine sl (h1 := numel1_S1x1) (hp := rfl) (Or.inr rfl) fun w hw => ?_
  refine ld (Or.inl rfl) fun _ _ => ?_
  have ew : w = I.vs bb.val g.val := by
    rw [hw, hI'.h3]
    simp [Rect.point, Rect.emb_apply, off90_eq, Shape.Idx.first]
  refine pwp_put (fun i v => v = oV I (i 0).val (i 1).val ((i 2).val / 128) ((i 2).val % 128)) (D8 bb.val t.val (g.val * 3 + k.val)) (D8 bb.val t.val (g.val * 3 + (k.val + 1))) (Or.inl rfl) hs.2
    (fun j => ?_) (fun i d1 d2 => mem_unit _ _ ?_) fun s1 k1 hw1 => pwp_pure ⟨hs.1.step (by simp) k1, hw1⟩
  · have h0 : (j 0).val = 0 := by have : (j 0).val < 1 := (j 0).2; omega
    have hj1 : (j 1).val < 128 := (j 1).2
    have hj2 : (j 2).val < 128 := (j 2).2
    have e0 : (((Rect.unit (s := S3x640x3072) (k0_off91 bb t g k) S1x128x128.size (k0_off91_inb bb t g k)).emb j 0).val) = bb.val := by simp [Rect.emb_apply, off91_eq, h0]
    have e1 : (((Rect.unit (s := S3x640x3072) (k0_off91 bb t g k) S1x128x128.size (k0_off91_inb bb t g k)).emb j 1).val) = t.val * 128 + (j 1).val := by simp [Rect.emb_apply, off91_eq]
    have e2 : (((Rect.unit (s := S3x640x3072) (k0_off91 bb t g k) S1x128x128.size (k0_off91_inb bb t g k)).emb j 2).val) = (g.val * 3 + k.val) * 128 + (j 2).val := by simp [Rect.emb_apply, off91_eq]
    rw [pay123_eq, ho, hs.1.rd M20 (by decide +kernel), h20, ew, e0, e1, e2]
    simp only [LoadRect.idx_apply, off89_eq, ix3]
    unfold oV
    rw [show ((g.val * 3 + k.val) * 128 + (j 2).val) / 128 = g.val * 3 + k.val by omega, show ((g.val * 3 + k.val) * 128 + (j 2).val) % 128 = (j 2).val by omega,
      show (g.val * 3 + k.val) / 3 = g.val by omega, show (g.val * 3 + k.val) % 3 = k.val by omega,
      show (t.val * 128 + (j 1).val) / 128 = t.val by omega, show (t.val * 128 + (j 1).val) % 128 = (j 1).val by omega]
    simp
    rw [show (k.val * 128 + (j 1).val) / 128 = k.val by omega, show (j 1).val % 128 = (j 1).val by omega]
  · rw [off91_eq]; exact cov8 bb.val t.val (g.val * 3 + k.val) (g.val * 3 + k.val) rfl i d1 d2

theorem run_t56 (I : Inp) (v12 : BitVec 1) (h1 : k0_cond1 v12 = 1#1) (bb : Fin k0_t32_loop.trips) (a26 : BitVec 32) (t : Fin k0_t41_loop.trips)
    (σ₀ : SS d) (hI : Ins I σ₀) (h20 : ∀ i : S8x128x384.Idx, R M20 σ₀ i = ot I bb.val t.val (i 0).val ((i 2).val / 128) ((i 2).val % 128) (i 1).val)
    (k : Fin k0_t56_loop.trips) (a) (σ : SS d) (hs : Keep [M8.view.ref] σ₀ σ ∧ F8 I bb.val t.val (k.val * 3) σ) :
    pwp C n (B56 (F := Ideal) v12 h1 bb a26 0#32 1#32 t k a) (fun _ s => Keep [M8.view.ref] σ₀ s ∧ F8 I bb.val t.val ((k.val + 1) * 3) s) σ := by
  unfold B56 k0_t56_body
  refine pwp_for_bind (fun r _ s => Keep [M8.view.ref] σ₀ s ∧ F8 I bb.val t.val (k.val * 3 + r) s) hs (fun k' a s hs' => run_t57 I v12 h1 bb a26 t k σ₀ hI h20 k' a s hs') fun _ s hs' => pwp_pure ?_
  have e57 : k0_t57_loop.trips = 3 := by decide +kernel
  rw [show (k.val + 1) * 3 = k.val * 3 + k0_t57_loop.trips by omega]; exact hs'

theorem trips49 (a : Fin k0_t41_loop.trips) (v23 : BitVec 32) (h : v23.toNat ≤ a.val) : (k0_t49_loop a v23).trips = 0 := by
  have ha : a.val < 5 := a.2
  obtain ⟨n, rfl⟩ : ∃ n : Fin 5, v23 = BitVec.ofNat 32 n.val := ⟨⟨v23.toNat, by omega⟩, by simp⟩
  revert h; revert a n; decide +kernel

/-! ### A tile -/

/-- What a tile changes but the result. -/
def LT : List (Ref sig .tc) := M8.view.ref :: LC

theorem off63_eq (b : Fin k0_t32_loop.trips) (t : Fin k0_t41_loop.trips) : k0_off63 b t = ![b.val, t.val * 128] := by revert b t; decide +kernel
theorem off92_eq (r : Fin k0_t58_loop.trips) : k0_off92 r = ![r.val, 0, 0] := by revert r; decide +kernel
theorem off93_eq (r : Fin k0_t58_loop.trips) : k0_off93 r = ![r.val, 0] := by revert r; decide +kernel
theorem off94_eq (b : Fin k0_t32_loop.trips) (t : Fin k0_t41_loop.trips) : k0_off94 b t = ![b.val, 0, t.val * 128] := by revert b t; decide +kernel

theorem run_p8 (I : Inp) (hG : Good I) (v12 : BitVec 1) (h1 : k0_cond1 v12 = 1#1) (bb : Fin k0_t32_loop.trips) (a26 : BitVec 32) (t : Fin k0_t41_loop.trips)
    (σ₀ : SS d) (hI : Ins I σ₀) (hS : Staged I bb.val 5 σ₀) (h15 : F15 I bb.val σ₀) (h25 : F25 I σ₀) (h8 : F8 I bb.val t.val 0 σ₀) :
    pwp (callsV d I) 10 (P8 (F := Ideal) v12 h1 bb a26 0#32 1#32 t) (fun _ s => Keep LT σ₀ s ∧ F8 I bb.val t.val 24 s ∧
      ∀ i : S3x8x128.Idx, R M22 s i = tot I bb.val t.val (i 1).val (i 0).val (i 2).val) σ₀ := by
  have ht : t.val < 5 := t.2
  have hb : bb.val < 3 := bb.2
  unfold P8; rw [k0_part8_eq_skeleton]; unfold k0_part8_skel
  refine sl (h1 := numel1_S1x1) (hp := rfl) (Or.inr rfl) fun v22 h22 => ?_
  have e22 : v22 = I.segS bb.val (t.val * 128) := by
    rw [h22, hI.h0]
    simp [Rect.point, Rect.emb_apply, off63_eq, Shape.Idx.first]
  refine ⟨⟨⟨Or.inr rfl, iv_le' _⟩, hI.h0⟩, lt_of_le_of_lt (iv_le' _) (lt_of_lt_of_le t.2 (by decide)), fun v23 hr => ?_⟩
  obtain ⟨hv, hne⟩ : v23.toNat ≤ t.val ∧ (v23.toNat = 0 ∨ I.segS bb.val (v23.toNat * 128 - 1) ≠ v22) := hr
  refine ⟨chk4_of _ _ hv, ?_⟩
  refine ld (Or.inl rfl) fun _ _ => ?_
  refine pwp_put (fun i v => v = 0) (fun _ => False) (fun _ => True) (Or.inl rfl) (fun _ h => h.elim) (fun j => pay106_eq j) (fun i _ _ => mem_unit _ _ ?_) fun s1 k1 p1 => ?_
  · have := (i 0).2; have := (i 1).2; have := (i 2).2
    simp [Fin.forall_fin_succ, S3x8x128] at *; omega
  refine ld (Or.inl rfl) fun _ _ => ?_
  refine pwp_put (fun i v => v = 0) (fun _ => False) (fun _ => True) (Or.inl rfl) (fun _ h => h.elim) (fun j => pay107_eq j) (fun i _ _ => mem_unit _ _ ?_) fun s2 k2 h2 => ?_
  · have := (i 0).2; have := (i 1).2; have := (i 2).2
    simp [Fin.forall_fin_succ, S3x8x128] at *; omega
  refine ld (Or.inl rfl) fun _ _ => ?_
  refine pwp_put (fun i v => v = 0) (fun _ => False) (fun _ => True) (Or.inl rfl) (fun _ h => h.elim) (fun j => pay108_eq j) (fun i _ _ => mem_unit _ _ ?_) fun s3 k3 p3 => ?_
  · have := (i 0).2; have := (i 1).2; have := (i 2).2
    simp [Fin.forall_fin_succ, S8x128x384] at *; omega
  have K1 : Keep LC σ₀ s1 := (Keep.refl _ _).step (by show M21.view.ref ∈ (LC : List (Ref sig .tc)); decide +kernel) k1
  have K2 : Keep LC σ₀ s2 := K1.step (by show M22.view.ref ∈ (LC : List (Ref sig .tc)); decide +kernel) k2
  have K3 : Keep LC σ₀ s3 := K2.step (by show M20.view.ref ∈ (LC : List (Ref sig .tc)); decide +kernel) k3
  have K23 : Keep [M20.view.ref] s2 s3 := (Keep.refl _ _).step (by simp) k3
  have K13 : Keep [M22.view.ref, M20.view.ref] s1 s3 := ((Keep.refl _ _).step (by simp) k2).step (by simp) k3
  refine pwp_for_bind (fun k _ s => Keep LC σ₀ s ∧ H22 I bb.val t.val k s ∧ H21 I bb.val t.val k s ∧ H20 I bb.val t.val k s) ⟨K3, fun i => ?_, fun i => ?_, fun i => ?_⟩
    (fun k a s hs' => run_t42 I v12 h1 bb a26 t v23 hv _ σ₀ hS h15 h25 k a s hs') fun _ s4 h4 => ?_
  · rw [K23.rd M22 (by decide +kernel), h2 i trivial]; simp
  · rw [K13.rd M21 (by decide +kernel), p1 i trivial]; simp
  · rw [p3 i trivial]; simp [ocs]
  refine pwp_for_bind (fun k _ s => s = s4) rfl
    (fun k a s hs' => absurd k.2 (by have := trips49 t v23 hv; omega)) fun _ s5 h5 => ?_
  subst h5
  rw [e22] at hne
  rw [trips42 t v23 hv] at h4
  have h20 : ∀ i : S8x128x384.Idx, R M20 s5 i = ot I bb.val t.val (i 0).val ((i 2).val / 128) ((i 2).val % 128) (i 1).val := fun i => by
    rw [h4.2.2.2 i]
    exact ot_eq I hG _ _ _ _ _ _ _ hb ht (Nat.mod_lt _ (by norm_num)) hv hne
  refine pwp_for_bind (fun k _ s => Keep [M8.view.ref] s5 s ∧ F8 I bb.val t.val (k * 3) s) ⟨.refl _ _, ?_⟩ (fun k a s hs' => run_t56 I v12 h1 bb a26 t s5 (hI.keep h4.1 (by decide +kernel)) h20 k a s hs') fun _ s6 h6 => ?_
  · unfold F8; rw [h4.1.rd M8 (by decide +kernel)]; simpa [F8] using h8
  rw [show k0_t56_loop.trips * 3 = 24 from by decide +kernel] at h6
  refine pwp_pure ⟨(h4.1.mono (by decide +kernel)).trans (h6.1.mono (by decide +kernel)), h6.2, fun i => ?_⟩
  rw [h6.1.rd M22 (by decide +kernel), h4.2.1 i]
  exact tot_eq I hG _ _ _ _ _ _ hb ht (i 2).2 hv hne

/-- The value of the result at a query. -/
def lrV (I : Inp) (b h q : ℕ) : EReal := tot I b (q / 128) (h / 3) (h % 3) (q % 128) * cNL

theorem run_t58 (X : ℕ → ℕ → ℕ → EReal) (σ₀ : SS d) (h22 : ∀ i : S3x8x128.Idx, R M22 σ₀ i = X (i 1).val (i 0).val (i 2).val)
    (r : Fin k0_t58_loop.trips) (a) (σ : SS d)
    (hs : Keep [M24.view.ref] σ₀ σ ∧ ∀ i : S24x128.Idx, (i 0).val % 3 < r.val → R M24 σ i = X ((i 0).val / 3) ((i 0).val % 3) (i 1).val * cNL) :
    pwp C n (B58 (F := Ideal) r a) (fun _ s => Keep [M24.view.ref] σ₀ s ∧ ∀ i : S24x128.Idx, (i 0).val % 3 < r.val + 1 → R M24 s i = X ((i 0).val / 3) ((i 0).val % 3) (i 1).val * cNL) σ := by
  have hr : r.val < 3 := r.2
  unfold B58 k0_t58_body
  refine ld (Or.inl rfl) fun v54 h54 => ?_
  refine ld (Or.inl rfl) fun _ _ => ?_
  refine pwp_put (fun i v => v = X ((i 0).val / 3) ((i 0).val % 3) (i 1).val * cNL) (fun i => (i 0).val % 3 < r.val) (fun i => (i 0).val % 3 < r.val + 1)
    (Or.inl rfl) hs.2 (fun j => ?_) (fun i hi hn => (LoadRect.mem_set _).2 ?_) fun s1 k1 h1 => pwp_pure ⟨hs.1.step (by simp) k1, h1⟩
  · rw [pay20_eq, h54, hs.1.rd M22 (by decide +kernel), h22]
    show _ = X ((k0_off93 r 0 + 3 * (j 0).val) / 3) ((k0_off93 r 0 + 3 * (j 0).val) % 3) (k0_off93 r 1 + 1 * (j 1).val) * cNL
    simp [LoadRect.idx_apply, off92_eq, off93_eq, ix3]
    have e1 : (r.val + 3 * (j 0).val) / 3 = (j 0).val := by omega
    have e2 : (r.val + 3 * (j 0).val) % 3 = r.val := by omega
    rw [e1, Nat.mod_eq_of_lt hr]
  · have h0 : (i 0).val < 24 := (i 0).2
    have h1 : (i 1).val < 128 := (i 1).2
    refine Fin.forall_fin_succ.2 ⟨⟨(i 0).val / 3, ?_, ?_⟩, Fin.forall_fin_succ.2 ⟨⟨(i 1).val, ?_, ?_⟩, fun a => a.elim0⟩⟩
    · show (i 0).val / 3 < 8; omega
    · show (i 0).val = k0_off93 r 0 + 3 * ((i 0).val / 3)
      rw [off93_eq]; simp; omega
    · exact h1
    · show (i 1).val = k0_off93 r 1 + 1 * (i 1).val
      rw [off93_eq]; simp

/-- What the second pass changes in a batch. -/
def L32 : List (Ref sig .tc) := [M8.view.ref, M9.view.ref, M10.view.ref, M11.view.ref, M12.view.ref, M14.view.ref, M15.view.ref, M16.view.ref, M17.view.ref,
  M18.view.ref, M19.view.ref, M20.view.ref, M21.view.ref, M22.view.ref, M23.view.ref, M24.view.ref]
def L41 : List (Ref sig .tc) := M9.view.ref :: M24.view.ref :: LT

/-- The result is right in the batches before, and in this one up to a tile. -/
def D9 (b t : ℕ) (i : S3x24x640.Idx) : Prop := (i 0).val < b ∨ ((i 0).val = b ∧ (i 2).val < t * 128)
def F9 (I : Inp) (b t : ℕ) (σ : SS d) : Prop := ∀ i : S3x24x640.Idx, D9 b t i → R M9 σ i = lrV I (i 0).val (i 1).val (i 2).val

theorem D8.next {b t : ℕ} {i : S3x640x3072.Idx} (h : D8 b (t + 1) 0 i) : D8 b t 24 i := by
  have h2 : (i 2).val < 3072 := (i 2).2
  unfold D8 at *; omega

theorem run_t41 (I : Inp) (hG : Good I) (v12 : BitVec 1) (h1 : k0_cond1 v12 = 1#1) (bb : Fin k0_t32_loop.trips) (a26 : BitVec 32)
    (σ₀ : SS d) (hI : Ins I σ₀) (hS : Staged I bb.val 5 σ₀) (h15 : F15 I bb.val σ₀) (h25 : F25 I σ₀) (t : Fin k0_t41_loop.trips) (a) (σ : SS d)
    (hs : Keep L41 σ₀ σ ∧ F9 I bb.val t.val σ ∧ F8 I bb.val t.val 0 σ) :
    pwp (callsV d I) 10 (B41 (F := Ideal) v12 h1 bb a26 t a) (fun _ s => Keep L41 σ₀ s ∧ F9 I bb.val (t.val + 1) s ∧ F8 I bb.val (t.val + 1) 0 s) σ := by
  have ht : t.val < 5 := t.2
  have hb : bb.val < 3 := bb.2
  unfold B41 k0_t41_body
  refine pwp_seq (run_p8 I hG v12 h1 bb a26 t σ (hI.keep hs.1 (by decide +kernel)) (hS.keep hs.1 (by decide +kernel) (by decide +kernel) (by decide +kernel) (by decide +kernel))
    (by unfold F15; rw [hs.1.rd M15 (by decide +kernel)]; exact h15) (by unfold F25; rw [hs.1.rd M25 (by decide +kernel)]; exact h25) hs.2.2) ?_
  rintro ⟨_, _⟩ s1 ⟨k1, h8, h22⟩
  refine pwp_for_bind (fun r _ s => Keep [M24.view.ref] s1 s ∧ ∀ i : S24x128.Idx, (i 0).val % 3 < r → R M24 s i = tot I bb.val t.val ((i 0).val / 3) ((i 0).val % 3) (i 1).val * cNL)
    ⟨.refl _ _, fun i hi => absurd hi (by omega)⟩ (fun r a s hs' => run_t58 (tot I bb.val t.val) s1 h22 r a s hs') fun _ s2 h2 => ?_
  have K2 : Keep L41 σ s2 := (k1.mono (by decide +kernel)).trans (h2.1.mono (by decide +kernel))
  have K2' : Keep (M24.view.ref :: LT) σ s2 := (k1.mono (by decide +kernel)).trans (h2.1.mono (by decide +kernel))
  refine ld (Or.inl rfl) fun v47 h47 => ?_
  refine ld (Or.inl rfl) fun _ _ => ?_
  refine pwp_put (fun i v => v = lrV I (i 0).val (i 1).val (i 2).val) (D9 bb.val t.val) (D9 bb.val (t.val + 1)) (Or.inl rfl) (fun i hi => ?_) (fun j => ?_) (fun i hi hn => mem_unit _ _ ?_)
    fun s3 k3 h3 => pwp_pure ⟨(hs.1.trans K2).step (by decide +kernel) k3, h3, fun i hi => ?_⟩
  · rw [K2'.rd M9 (by decide +kernel)]; exact hs.2.1 i hi
  · have hj : (j 2).val < 128 := (j 2).2
    rw [pay21_eq, h47, h2.2 _ (by rw [show k0_t58_loop.trips = 3 from by decide +kernel]; omega)]
    simp [LoadRect.idx_apply, Rect.emb_apply, off94_eq, ix2, lrV]
    have e0 : (j 0).val = 0 := by have : (j 0).val < 1 := (j 0).2; omega
    rw [show (t.val * 128 + (j 2).val) / 128 = t.val by omega, Nat.mod_eq_of_lt hj, e0, Nat.add_zero]
  · have h0 : (i 0).val < 3 := (i 0).2
    have h1 : (i 1).val < 24 := (i 1).2
    unfold D9 at hi hn
    rw [off94_eq]
    simp [Fin.forall_fin_succ, S3x24x640, S1x24x128] at *; omega
  · have K13 : Keep [M24.view.ref, M9.view.ref] s1 s3 := (h2.1.mono (by decide +kernel)).step (by simp) k3
    rw [K13.rd M8 (by decide +kernel)]
    exact h8 i (D8.next hi)

/-! ### A batch -/

theorem run_t32 (I : Inp) (hG : Good I) (v12 : BitVec 1) (h1 : k0_cond1 v12 = 1#1) (σ₀ : SS d) (hI : Ins I σ₀) (h25 : F25 I σ₀)
    (b : Fin k0_t32_loop.trips) (a) (σ : SS d) (hs : Keep L32 σ₀ σ ∧ F9 I b.val 0 σ ∧ F8 I b.val 0 0 σ) :
    pwp (callsV d I) 10 (B32 (F := Ideal) v12 h1 b a) (fun _ s => Keep L32 σ₀ s ∧ F9 I (b.val + 1) 0 s ∧ F8 I (b.val + 1) 0 0 s) σ := by
  have hI' : Ins I σ := hI.keep hs.1 (by decide +kernel)
  have h25' : F25 I σ := by unfold F25; rw [hs.1.rd M25 (by decide +kernel)]; exact h25
  unfold B32 k0_t32_body
  refine pwp_for_bind (fun k _ s => Keep [M15.view.ref] σ s ∧ ∀ i : S3x8x128.Idx, (i 0).val < k → P15 I b i (R M15 s i))
    ⟨.refl _ _, fun i hi => absurd hi (by omega)⟩ (fun k a s hs' => run_t33 I b σ hI' k a s hs') fun _ s1 c1 => ?_
  have hI1 : Ins I s1 := hI'.keep c1.1 (by decide +kernel)
  have h251 : F25 I s1 := by unfold F25; rw [c1.1.rd M25 (by decide +kernel)]; exact h25'
  refine pwp_for_bind (fun t _ s => Keep LS s1 s ∧ Staged I b t s) ⟨.refl _ _, ?_⟩ (fun t a s hs' => run_t35 I b s1 hI1 h251 t a s hs') fun _ s2 c2 => ?_
  · constructor <;> exact fun i hi => absurd hi (by omega)
  have h152 : F15 I b.val s2 := by
    unfold F15; rw [c2.1.rd M15 (by decide +kernel)]; exact fun i => c1.2 i (i 0).2
  have hI2 : Ins I s2 := hI1.keep c2.1 (by decide +kernel)
  have h252 : F25 I s2 := by unfold F25; rw [c2.1.rd M25 (by decide +kernel)]; exact h251
  have hS2 : Staged I b.val 5 s2 := c2.2
  have K2 : Keep [M15.view.ref, M10.view.ref, M11.view.ref, M12.view.ref, M14.view.ref] σ s2 := (c1.1.mono (by decide +kernel)).trans (c2.1.mono (by decide +kernel))
  refine pwp_for_bind (fun t _ s => Keep L41 s2 s ∧ F9 I b.val t s ∧ F8 I b.val t 0 s) ⟨.refl _ _, ?_, ?_⟩ (fun t a s hs' => run_t41 I hG v12 h1 b _ s2 hI2 hS2 h152 h252 t a s hs') fun _ s3 c3 => ?_
  · unfold F9; rw [K2.rd M9 (by decide +kernel)]; exact hs.2.1
  · unfold F8; rw [K2.rd M8 (by decide +kernel)]; exact hs.2.2
  have e5 : k0_t41_loop.trips = 5 := by decide +kernel
  rw [e5] at c3
  refine pwp_pure ⟨hs.1.trans ((K2.mono (by decide +kernel)).trans (c3.1.mono (by decide +kernel))), fun i hi => c3.2.1 i ?_, fun i hi => c3.2.2 i ?_⟩
  · have h2 : (i 2).val < 640 := (i 2).2
    unfold D9 at hi ⊢; omega
  · have h2 : (i 1).val < 640 := (i 1).2
    unfold D8 at hi ⊢; omega

end Cert.KernelIdeal.Hand.PB

end
-- ==== Proof.LogMath.lean ====
/-
  The mathematics of the two forms of the sum of the logarithms: a softplus is the logarithm of one plus a power of two,
  and the logarithm of a running product is the sum of the logarithms of its factors.
-/
module

public import proofs.«01_k».proof.Proof.LogBatch

@[expose] public section

set_option maxRecDepth 16384

noncomputable section

namespace Cert.KernelIdeal.Hand.PB

open Idealize.ShloMosaic Idealize.ShloMosaic.TcCoe Idealize.SL.Sem Cert.Seq Cert.Val Cert.KernelIdeal.Gen

/-- The running product of one plus the terms. -/
def pr (e : ℕ → EReal) : ℕ → EReal
  | 0 => 1
  | n + 1 => pr e n + e n * pr e n

/-- The running sum of the terms times the product before. -/
def su (e : ℕ → EReal) : ℕ → EReal
  | 0 => 0
  | n + 1 => su e n + e n * pr e n

theorem pr_state (s : ℕ → EReal) (n : ℕ) (h : pr (fun m => FloatOps.exp2 (F := Ideal) (φ := .f32) (s m)) n ≠ ⊤) :
    ∃ p : ℝ, 1 ≤ p ∧ pr (fun m => FloatOps.exp2 (F := Ideal) (φ := .f32) (s m)) n = (p : EReal) ∧
      su (fun m => FloatOps.exp2 (F := Ideal) (φ := .f32) (s m)) n = ((p - 1 : ℝ) : EReal) ∧
      ∑ m ∈ Finset.range n, soft (s m) = ((Real.log p / Real.log 2 : ℝ) : EReal) := by
  induction n with
  | zero => exact ⟨1, le_refl _, rfl, by simp [su], by simp⟩
  | succ n ih =>
    have hge : ∀ k, (1 : EReal) ≤ pr (fun m => FloatOps.exp2 (F := Ideal) (φ := .f32) (s m)) k := by
      intro k
      induction k with
      | zero => exact le_refl _
      | succ k ihk =>
        show (1 : EReal) ≤ _ + _ * _
        exact le_trans ihk (le_add_of_nonneg_right (mul_nonneg (exp2_nonneg _) (le_trans zero_le_one ihk)))
    have hn : pr (fun m => FloatOps.exp2 (F := Ideal) (φ := .f32) (s m)) n ≠ ⊤ := by
      intro ht
      apply h
      show pr _ n + _ * pr _ n = ⊤
      rw [ht]
      refine EReal.top_add_of_ne_bot fun hb => ?_
      have : (0 : EReal) ≤ FloatOps.exp2 (F := Ideal) (φ := .f32) (s n) * ⊤ := mul_nonneg (exp2_nonneg _) le_top
      rw [hb] at this
      exact absurd this (by simp)
    obtain ⟨p, hp, e1, e2, e3⟩ := ih hn
    have he : FloatOps.exp2 (F := Ideal) (φ := .f32) (s n) ≠ ⊤ := by
      intro ht
      apply h
      show pr _ n + FloatOps.exp2 (F := Ideal) (φ := .f32) (s n) * pr _ n = ⊤
      rw [ht, e1, EReal.top_mul_coe_of_pos (by linarith)]
      exact EReal.coe_add_top _
    have heb : FloatOps.exp2 (F := Ideal) (φ := .f32) (s n) ≠ ⊥ := fun hb => by
      have := exp2_nonneg (s n); rw [hb] at this; exact absurd this (by simp)
    obtain ⟨w, hw⟩ : ∃ w : ℝ, FloatOps.exp2 (F := Ideal) (φ := .f32) (s n) = (w : EReal) := ⟨_, (EReal.coe_toReal he heb).symm⟩
    obtain ⟨w0, hs⟩ := soft_coe (s n) w hw
    refine ⟨p * (1 + w), by nlinarith, ?_, ?_, ?_⟩
    · show pr _ n + FloatOps.exp2 (F := Ideal) (φ := .f32) (s n) * pr _ n = _
      rw [e1, hw, ← EReal.coe_mul, ← EReal.coe_add]; congr 1; ring
    · show su _ n + FloatOps.exp2 (F := Ideal) (φ := .f32) (s n) * pr _ n = _
      rw [e1, e2, hw, ← EReal.coe_mul, ← EReal.coe_add]; congr 1; ring
    · rw [Finset.sum_range_succ, e3, hs, ← EReal.coe_add, Real.log_mul (by positivity) (by positivity)]; congr 1; ring

/-- The logarithm of a running product that stays finite is the sum of the softplus terms. -/
theorem l21p_su (s : ℕ → EReal) (n : ℕ) (h : pr (fun m => FloatOps.exp2 (F := Ideal) (φ := .f32) (s m)) n ≠ ⊤) :
    l21p (su (fun m => FloatOps.exp2 (F := Ideal) (φ := .f32) (s m)) n) = ∑ m ∈ Finset.range n, soft (s m) := by
  obtain ⟨p, hp, e1, e2, e3⟩ := pr_state s n h
  rw [e2, l21p_coe _ (by linarith), e3]
  congr 3; ring

/-- Four blocks of 32 make a chunk of 128. -/
theorem sum_blocks (f : ℕ → EReal) : ∑ x ∈ Finset.range 4, ∑ m ∈ Finset.range 32, f ((3 - x) * 32 + m) = ∑ p ∈ Finset.range 128, f p := by
  have h := Finset.sum_range_reflect (fun x => ∑ m ∈ Finset.range 32, f (x * 32 + m)) 4
  rw [show (128 : ℕ) = 32 + 32 + 32 + 32 from rfl, Finset.sum_range_add, Finset.sum_range_add, Finset.sum_range_add]
  refine h.trans ?_
  simp only [Finset.sum_range_succ _ 3, Finset.sum_range_succ _ 2, Finset.sum_range_succ _ 1, Finset.sum_range_one]
  norm_num

/-! ### The weights, from the running product -/

theorem pr_ge (s : ℕ → EReal) (k : ℕ) : (1 : EReal) ≤ pr (fun m => FloatOps.exp2 (F := Ideal) (φ := .f32) (s m)) k := by
  induction k with
  | zero => exact le_refl _
  | succ k ihk =>
    show (1 : EReal) ≤ _ + _ * _
    exact le_trans ihk (le_add_of_nonneg_right (mul_nonneg (exp2_nonneg _) (le_trans zero_le_one ihk)))

theorem pr_mono (s : ℕ → EReal) (m n : ℕ) (h : m ≤ n) :
    pr (fun m => FloatOps.exp2 (F := Ideal) (φ := .f32) (s m)) m ≤ pr (fun m => FloatOps.exp2 (F := Ideal) (φ := .f32) (s m)) n := by
  induction n, h using Nat.le_induction with
  | base => exact le_refl _
  | succ n _ ih => exact ih.trans (le_add_of_nonneg_right (mul_nonneg (exp2_nonneg _) (le_trans zero_le_one (pr_ge s n))))

theorem exp2_real (q : ℝ) : FloatOps.exp2 (F := Ideal) (φ := .f32) (q : EReal) = (((2 : ℝ) ^ q : ℝ) : EReal) := rfl
theorem exp2_bot : FloatOps.exp2 (F := Ideal) (φ := .f32) (⊥ : EReal) = 0 := rfl

/-- A power of a real less a sum that may be infinite is a product of powers. -/
theorem exp2_add_neg (a : ℝ) (X : EReal) (hX : 0 ≤ X) :
    FloatOps.exp2 (F := Ideal) (φ := .f32) ((a : EReal) + -X) = (((2 : ℝ) ^ a : ℝ) : EReal) * FloatOps.exp2 (F := Ideal) (φ := .f32) (-X) := by
  induction X using EReal.rec with
  | bot => exact absurd hX (by simp)
  | top => rw [EReal.neg_top, EReal.add_bot, exp2_bot, mul_zero]
  | coe r =>
    rw [← EReal.coe_neg, ← EReal.coe_add, exp2_real, exp2_real, ← EReal.coe_mul, Real.rpow_add (by norm_num)]

theorem neg_add_nonneg {x y : EReal} (hx : 0 ≤ x) (hy : 0 ≤ y) : -(x + y) = -y + -x := by
  rw [add_comm x y]; exact (neg_sub_of_nonneg hy hx).symm

/-- Dividing by the running product takes its logarithm off. -/
theorem left_next (s : ℕ → EReal) (n : ℕ) (X : EReal) (hX : 0 ≤ X) (h : pr (fun m => FloatOps.exp2 (F := Ideal) (φ := .f32) (s m)) n ≠ ⊤) :
    FloatOps.exp2 (F := Ideal) (φ := .f32) (-X) * Ideal.div 1 (pr (fun m => FloatOps.exp2 (F := Ideal) (φ := .f32) (s m)) n)
      = FloatOps.exp2 (F := Ideal) (φ := .f32) (-(X + ∑ m ∈ Finset.range n, soft (s m))) := by
  obtain ⟨p, hp, e1, _, e3⟩ := pr_state s n h
  have hl : Real.log 2 ≠ 0 := (Real.log_pos (by norm_num)).ne'
  have hp0 : 0 < p := by linarith
  rw [e1, neg_add_nonneg hX (Finset.sum_nonneg fun m _ => soft_nonneg _), e3, ← EReal.coe_neg, exp2_add_neg _ _ hX, Ideal.div_coe (by linarith), one_mul, mul_comm]
  congr 2
  rw [Real.rpow_neg (by norm_num), Real.rpow_def_of_pos (by norm_num), mul_div_cancel₀ _ hl, Real.exp_log hp0, one_div]

/-- A term times the product before it over the whole product is the weight. -/
theorem weight_eq (s : ℕ → EReal) (m n : ℕ) (hm : m < n) (X : EReal) (hX : 0 ≤ X) (h : pr (fun m => FloatOps.exp2 (F := Ideal) (φ := .f32) (s m)) n ≠ ⊤) :
    (FloatOps.exp2 (F := Ideal) (φ := .f32) (s m) * pr (fun m => FloatOps.exp2 (F := Ideal) (φ := .f32) (s m)) m)
        * (FloatOps.exp2 (F := Ideal) (φ := .f32) (-X) * Ideal.div 1 (pr (fun m => FloatOps.exp2 (F := Ideal) (φ := .f32) (s m)) n))
      = FloatOps.exp2 (F := Ideal) (φ := .f32) (s m - soft (s m) + -(X + ∑ k ∈ Finset.Ico (m + 1) n, soft (s k))) := by
  have h1 : pr (fun m => FloatOps.exp2 (F := Ideal) (φ := .f32) (s m)) (m + 1) ≠ ⊤ := fun e => h (top_le_iff.1 (e ▸ pr_mono s (m + 1) n hm))
  have h0 : pr (fun m => FloatOps.exp2 (F := Ideal) (φ := .f32) (s m)) m ≠ ⊤ := fun e => h (top_le_iff.1 (e ▸ pr_mono s m n hm.le))
  obtain ⟨pn, hpn, en, _, sn⟩ := pr_state s n h
  obtain ⟨p1, hp1, e1, _, s1⟩ := pr_state s (m + 1) h1
  obtain ⟨p0, hp0, e0, _, s0⟩ := pr_state s m h0
  have hl : Real.log 2 ≠ 0 := (Real.log_pos (by norm_num)).ne'
  have hT0 : (0 : EReal) ≤ ∑ k ∈ Finset.Ico (m + 1) n, soft (s k) := Finset.sum_nonneg fun k _ => soft_nonneg _
  have hs : ∑ k ∈ Finset.range n, soft (s k) = ∑ k ∈ Finset.range (m + 1), soft (s k) + ∑ k ∈ Finset.Ico (m + 1) n, soft (s k) :=
    (Finset.sum_range_add_sum_Ico _ hm).symm
  rw [sn, s1] at hs
  generalize ∑ k ∈ Finset.Ico (m + 1) n, soft (s k) = T at hs hT0 ⊢
  obtain ⟨T, rfl⟩ : ∃ t : ℝ, T = (t : EReal) := by
    induction T using EReal.rec with
    | bot => exact absurd hT0 (by simp)
    | top => rw [EReal.coe_add_top] at hs; exact absurd hs (EReal.coe_ne_top _)
    | coe t => exact ⟨t, rfl⟩
  rw [← EReal.coe_add] at hs
  have hs' := EReal.coe_injective hs
  generalize hq : s m = q at *
  induction q using EReal.rec with
  | bot =>
    rw [exp2_bot, zero_mul, zero_mul, soft_bot, sub_zero, EReal.bot_add, exp2_bot]
  | top =>
    exfalso
    apply h1
    show pr _ m + FloatOps.exp2 (F := Ideal) (φ := .f32) (s m) * pr _ m = ⊤
    rw [hq, e0, show FloatOps.exp2 (F := Ideal) (φ := .f32) (⊤ : EReal) = ⊤ from rfl, EReal.top_mul_coe_of_pos (by linarith)]
    exact EReal.coe_add_top _
  | coe q =>
    obtain ⟨_, ew⟩ := soft_coe (q : EReal) _ (exp2_real q)
    rw [Finset.sum_range_succ, s0, hq, ew, ← EReal.coe_add] at s1
    have s1' := EReal.coe_injective s1
    rw [ew, neg_add_nonneg hX hT0, ← add_assoc, ← EReal.coe_neg, ← EReal.coe_sub, ← EReal.coe_add, exp2_add_neg _ _ hX, exp2_real, e0, en, Ideal.div_coe (by linarith), one_mul,
      ← EReal.coe_mul, mul_comm (FloatOps.exp2 (F := Ideal) (φ := .f32) (-X)), ← mul_assoc, ← EReal.coe_mul]
    congr 2
    have hpn0 : 0 < pn := by linarith
    have hp00 : 0 < p0 := by linarith
    rw [show q - Real.log (1 + 2 ^ q) / Real.log 2 + -T = q + (Real.log p0 - Real.log pn) / Real.log 2 by
      have : Real.log p0 / Real.log 2 + Real.log (1 + 2 ^ q) / Real.log 2 + T = Real.log pn / Real.log 2 := by rw [s1', hs']
      rw [sub_div]; linarith, Real.rpow_add (by norm_num), Real.rpow_def_of_pos (by norm_num : (0:ℝ) < 2) ((Real.log p0 - Real.log pn) / Real.log 2),
      mul_div_cancel₀ _ hl, Real.exp_sub, Real.exp_log hp00, Real.exp_log hpn0]
    ring

theorem sum_tail (f : ℕ → EReal) (k : ℕ) (hk : k ≤ 32) : ∑ w ∈ Finset.range k, f (31 - w) = ∑ m ∈ Finset.Ico (32 - k) 32, f m := by
  rw [Finset.sum_Ico_eq_sum_range, ← Finset.sum_range_reflect, show 32 - (32 - k) = k by omega]
  refine Finset.sum_congr rfl fun w hw => ?_
  have := Finset.mem_range.1 hw
  rw [show 32 - k + w = 31 - (k - 1 - w) by omega]

/-- Part of a block of keys added to the sum of the terms after. -/
theorem lft_part (I : Inp) (b t g r lane c x k : ℕ) (hx : x < 4) (hk : k ≤ 32) :
    lft I b t g r lane c (x * 32 + k) = lft I b t g r lane c (x * 32) + ∑ m ∈ Finset.Ico (32 - k) 32, soft (sc I b t g r lane c ((3 - x) * 32 + m)) := by
  unfold lft
  rw [Finset.sum_range_add, ← add_assoc, ← sum_tail (fun m => soft (sc I b t g r lane c ((3 - x) * 32 + m))) k hk]
  congr 1
  refine Finset.sum_congr rfl fun w hw => ?_
  have := Finset.mem_range.1 hw
  show soft (sc I b t g r lane c _) = _
  rw [show 127 - (x * 32 + w) = (3 - x) * 32 + (31 - w) by omega]

/-- The weight of key `m` of block `x`. -/
theorem av_block (I : Inp) (b t g r lane c x m : ℕ) (hx : x < 4) (hm : m < 32)
    (h : pr (fun m => FloatOps.exp2 (F := Ideal) (φ := .f32) (sc I b t g r lane c ((3 - x) * 32 + m))) 32 ≠ ⊤) :
    (FloatOps.exp2 (F := Ideal) (φ := .f32) (sc I b t g r lane c ((3 - x) * 32 + m)) * pr (fun m => FloatOps.exp2 (F := Ideal) (φ := .f32) (sc I b t g r lane c ((3 - x) * 32 + m))) m)
        * (FloatOps.exp2 (F := Ideal) (φ := .f32) (-lft I b t g r lane c (x * 32)) * Ideal.div 1 (pr (fun m => FloatOps.exp2 (F := Ideal) (φ := .f32) (sc I b t g r lane c ((3 - x) * 32 + m))) 32))
      = av I b t g r lane c ((3 - x) * 32 + m) := by
  rw [weight_eq _ m 32 hm _ (lft_nonneg _ _ _ _ _ _ _ _) h]
  unfold av
  rw [show 127 - ((3 - x) * 32 + m) = x * 32 + (31 - m) by omega, lft_part _ _ _ _ _ _ _ _ _ hx (by omega), show 32 - (31 - m) = m + 1 by omega]
  rfl

theorem left_block (I : Inp) (b t g r lane c x : ℕ) (hx : x < 4)
    (h : pr (fun m => FloatOps.exp2 (F := Ideal) (φ := .f32) (sc I b t g r lane c ((3 - x) * 32 + m))) 32 ≠ ⊤) :
    FloatOps.exp2 (F := Ideal) (φ := .f32) (-lft I b t g r lane c (x * 32)) * Ideal.div 1 (pr (fun m => FloatOps.exp2 (F := Ideal) (φ := .f32) (sc I b t g r lane c ((3 - x) * 32 + m))) 32)
      = FloatOps.exp2 (F := Ideal) (φ := .f32) (-lft I b t g r lane c ((x + 1) * 32)) := by
  rw [left_next _ 32 _ (lft_nonneg _ _ _ _ _ _ _ _) h, show (x + 1) * 32 = x * 32 + 32 by ring, lft_part _ _ _ _ _ _ _ _ _ hx (le_refl _), Finset.range_eq_Ico]

end Cert.KernelIdeal.Hand.PB

end
-- ==== Proof.SumMath.lean ====
/-
  The mathematics of the two results: the softplus of base two and the reference's, the sums by chunks and the sums over
  the keys.
-/
module

public import proofs.«01_k».proof.Proof.LogMath
public import Idealize.ShloMosaic.Lib.Pipeline.ValueKit

@[expose] public section

set_option maxRecDepth 16384

noncomputable section

namespace Cert.Alg

open Idealize.ShloMosaic Idealize.ShloMosaic.TcCoe Idealize.SL.Sem
open Cert.KernelIdeal.Hand.PB

theorem cNL_eq : cNL = ((-(Real.log 2) : ℝ) : EReal) := by rfl

/-- The reference's softplus. -/
def sp (x : EReal) : EReal := max x 0 + Ideal.log (1 + Ideal.exp (-(max x (-x))))

theorem soft_sp (x : EReal) : soft (x * cL) * cNL = -sp x := by
  have hl : (0 : ℝ) < Real.log 2 := Real.log_pos (by norm_num)
  induction x using EReal.rec with
  | bot =>
    rw [cL_eq, EReal.bot_mul_coe_of_pos (by positivity), soft_bot, zero_mul]
    unfold sp
    rw [show -(max (⊥ : EReal) (-⊥)) = ⊥ from by simp, show Ideal.exp ⊥ = 0 from rfl, add_zero, show Ideal.log 1 = 0 from by
      rw [show (1 : EReal) = ((1 : ℝ) : EReal) from rfl, Ideal.log_coe]; simp]
    simp
  | top =>
    rw [cL_eq, EReal.top_mul_coe_of_pos (by positivity)]
    have h : soft ⊤ = ⊤ := by
      unfold soft
      rw [show FloatOps.absf (F := Ideal) (φ := .f32) (⊤ : EReal) = (⊤ : EReal) from by
        show max (⊤ : EReal) (-⊤) = ⊤
        simp, show ((0 : EReal) - ⊤) = ⊥ from by simp, show FloatOps.exp2 (F := Ideal) (φ := .f32) (⊥ : EReal) = ((0 : ℝ) : EReal) from rfl, l21p_coe _ (le_refl _)]
      simp
    rw [h, cNL_eq, EReal.top_mul_coe_of_neg (by linarith)]
    unfold sp
    rw [show -(max (⊤ : EReal) (-⊤)) = ⊥ from by simp, show Ideal.exp ⊥ = 0 from rfl, add_zero, show Ideal.log 1 = 0 from by
      rw [show (1 : EReal) = ((1 : ℝ) : EReal) from rfl, Ideal.log_coe]; simp]
    simp
  | coe r =>
    have e : FloatOps.exp2 (F := Ideal) (φ := .f32) ((r : EReal) * cL) = ((Real.exp r : ℝ) : EReal) := by
      rw [cL_eq, ← EReal.coe_mul]
      show Ideal.exp2 _ = _
      rw [Ideal.exp2_coe]
      congr 1
      show (2 : ℝ) ^ (r * (Real.log 2)⁻¹) = _
      rw [Real.rpow_def_of_pos (by norm_num)]
      congr 1; field_simp
    rw [(soft_coe _ _ e).2, cNL_eq, ← EReal.coe_mul]
    unfold sp
    rw [← EReal.coe_neg, max_coe, show (0 : EReal) = ((0 : ℝ) : EReal) from rfl, max_coe, ← EReal.coe_neg, Ideal.exp_coe,
      show (1 : EReal) = ((1 : ℝ) : EReal) from rfl, ← EReal.coe_add, Ideal.log_coe, if_neg (not_le.2 (by positivity)), ← EReal.coe_add, ← EReal.coe_neg]
    congr 1
    have h1 : Real.log (1 + Real.exp r) = max r 0 + Real.log (1 + Real.exp (-max r (-r))) := by
      rcases le_total 0 r with hr | hr
      · rw [max_eq_left hr, max_eq_left (by linarith : -r ≤ r)]
        have : (1 : ℝ) + Real.exp r = Real.exp r * (1 + Real.exp (-r)) := by
          rw [mul_add, mul_one, ← Real.exp_add]; simp; ring
        rw [this, Real.log_mul (by positivity) (by positivity), Real.log_exp]
      · rw [max_eq_right hr, max_eq_right (by linarith : r ≤ -r)]; simp
    rw [← h1]; field_simp

theorem sum_mul (n : ℕ) (f : ℕ → EReal) (c : EReal) (hf : ∀ k, 0 ≤ f k) :
    (∑ k ∈ Finset.range n, f k) * c = ∑ k ∈ Finset.range n, f k * c := by
  induction n with
  | zero => simp
  | succ n ih =>
    rw [Finset.sum_range_succ, Finset.sum_range_succ, EReal.right_distrib_of_nonneg (Finset.sum_nonneg fun k _ => hf k) (hf n), ih]

/-- The score of key `k` at query `q`. -/
def xv (I : Inp) (b g r q k : ℕ) : EReal := (∑ x : Fin 128, I.k b k g x.val * I.q b q (g * 3 + r) x.val) * (I.qs b (g * 3 + r) * I.ks b g * Ideal.ofBits .f32 0x3DB504F3#32)

open Classical in
theorem tm_mul (I : Inp) (b g r q c p : ℕ) : tm I b (q / 128) g r (q % 128) c p * cNL
    = if c * 128 + p < q ∧ I.seg b (c * 128 + p) = I.seg b q then -sp (xv I b g r q (c * 128 + p)) else 0 := by
  have hq : q / 128 * 128 + q % 128 = q := by omega
  split_ifs with h
  · have hv : vis I b (q / 128) (q % 128) c p := by unfold vis; rw [hq]; exact ⟨h.2, h.1⟩
    unfold tm sc bi
    rw [if_pos hv, add_zero, ← soft_sp]
    unfold zd Fv xv cD
    rw [hq, ← mul_assoc _ _ cL]
  · have hv : ¬ vis I b (q / 128) (q % 128) c p := by unfold vis; rw [hq]; exact fun hv => h ⟨hv.2, hv.1⟩
    rw [tm_zero _ _ _ _ _ _ _ _ hv, zero_mul]

open Classical in
theorem lrV_eq (I : Inp) (b g r q : ℕ) (hr : r < 3) : lrV I b (g * 3 + r) q
    = ∑ k : Fin 640, if k.val < q ∧ I.seg b k.val = I.seg b q then -sp (xv I b g r q k.val) else 0 := by
  unfold lrV tot ch
  rw [show (g * 3 + r) / 3 = g by omega, show (g * 3 + r) % 3 = r by omega]
  have h0 : ∀ c p, 0 ≤ tm I b (q / 128) g r (q % 128) c p := fun c p => soft_nonneg _
  rw [sum_mul _ _ _ (fun c => Finset.sum_nonneg fun p _ => h0 c p)]
  rw [Finset.sum_congr rfl (fun c _ => sum_mul 128 _ cNL (h0 c))]
  simp only [tm_mul]
  rw [Fin.sum_univ_eq_sum_range (fun k => if k < q ∧ I.seg b k = I.seg b q then -sp (xv I b g r q k) else 0) 640]
  exact Finset.sum_range_range_mul_add 5 128 (fun k => if k < q ∧ I.seg b k = I.seg b q then -sp (xv I b g r q k) else 0)

/-- The chunks after `c` up to `t`, and a part of `c`. -/
theorem chunk_sum (f : ℕ → EReal) (A : EReal) (t c : ℕ) (ht : t < 5) (hc : c ≤ t) (hz : ∀ d, t < d → f d = 0) :
    ∑ d ∈ Finset.range 5, (if d < c then 0 else if d = c then A else f d) = ∑ m ∈ Finset.range (t - c), f (t - m) + A := by
  have h1 := hz 1; have h2 := hz 2; have h3 := hz 3; have h4 := hz 4
  clear hz
  interval_cases t <;> interval_cases c <;> simp_all [Finset.sum_range_succ] <;> ac_rfl

theorem part_sum (f : ℕ → EReal) (p : ℕ) (hp : p < 128) :
    ∑ w ∈ Finset.range 128, (if p < w then f w else 0) = ∑ w ∈ Finset.range (127 - p), f (127 - w) := by
  rw [← Finset.sum_range_reflect, ← Finset.sum_subset (Finset.range_mono (show 127 - p ≤ 128 by omega))]
  · refine Finset.sum_congr rfl fun w hw => ?_
    have := Finset.mem_range.1 hw
    rw [show 128 - 1 - w = 127 - w by omega, if_pos (by omega)]
  · intro w h1 h2
    have := Finset.mem_range.1 h1
    rw [Finset.mem_range] at h2
    rw [if_neg (by omega)]

/-- What the later keys add to the sum, as a sum over all keys. -/
theorem lft_eq (I : Inp) (b t g r lane c p : ℕ) (ht : t < 5) (hl : lane < 128) (hc : c ≤ t) (hp : p < 128) :
    lft I b t g r lane c (127 - p) = ∑ a ∈ Finset.range 640, if c * 128 + p < a then tm I b t g r lane (a / 128) (a % 128) else 0 := by
  refine Eq.trans ?_ (Finset.sum_range_range_mul_add 5 128 (fun a => if c * 128 + p < a then tm I b t g r lane (a / 128) (a % 128) else 0))
  unfold lft bc
  rw [← chunk_sum (ch I b t g r lane) _ t c ht hc (fun d hd => ch_zero_of _ _ _ _ _ _ _ (vis_late _ _ _ _ _ hl hd))]
  refine Finset.sum_congr rfl fun d _ => ?_
  have e : ∀ w ∈ Finset.range 128, (if c * 128 + p < d * 128 + w then tm I b t g r lane ((d * 128 + w) / 128) ((d * 128 + w) % 128) else 0)
      = if c * 128 + p < d * 128 + w then tm I b t g r lane d w else 0 := by
    intro w hw
    have := Finset.mem_range.1 hw
    rw [show (d * 128 + w) / 128 = d by omega, show (d * 128 + w) % 128 = w by omega]
  rw [Finset.sum_congr rfl e]
  split_ifs with h1 h2
  · refine (Finset.sum_eq_zero fun w hw => ?_).symm
    have := Finset.mem_range.1 hw
    rw [if_neg (by omega)]
  · subst h2
    rw [← part_sum _ p hp]
    exact Finset.sum_congr rfl fun w _ => if_congr (by omega) rfl rfl
  · unfold ch
    refine Finset.sum_congr rfl fun w hw => ?_
    rw [if_pos (by omega)]

theorem exp2_mul (w : EReal) : FloatOps.exp2 (F := Ideal) (φ := .f32) w = Ideal.exp (((Real.log 2 : ℝ) : EReal) * w) := by
  have hl : (0 : ℝ) < Real.log 2 := Real.log_pos (by norm_num)
  show Ideal.exp2 w = _
  induction w using EReal.rec with
  | bot => rw [EReal.coe_mul_bot_of_pos hl]; rfl
  | top => rw [EReal.coe_mul_top_of_pos hl]; rfl
  | coe r =>
    rw [← EReal.coe_mul, Ideal.exp2_coe, Ideal.exp_coe]
    congr 1
    show (2 : ℝ) ^ r = _
    rw [Real.rpow_def_of_pos (by norm_num)]

/-- A weight of base two is the reference's. -/
theorem weight_ref (x L : EReal) (hL : 0 ≤ L) :
    FloatOps.exp2 (F := Ideal) (φ := .f32) (x * cL - soft (x * cL) + -L) = Ideal.exp (x + -sp x + L * cNL) := by
  have hl : (0 : ℝ) < Real.log 2 := Real.log_pos (by norm_num)
  have hd := fun y z => EReal.left_distrib_of_nonneg_of_ne_top (x := ((Real.log 2 : ℝ) : EReal)) (EReal.coe_nonneg.2 hl.le) (EReal.coe_ne_top _) y z
  have hn : ∀ y : EReal, ((Real.log 2 : ℝ) : EReal) * -y = y * cNL := fun y => by
    rw [cNL_eq, EReal.coe_neg, mul_neg, mul_neg, mul_comm]
  rw [exp2_mul, sub_eq_add_neg, hd, hd, hn, hn, soft_sp]
  congr 3
  rw [mul_comm, mul_assoc, cL_eq, ← EReal.coe_mul, inv_mul_cancel₀ hl.ne', EReal.coe_one, mul_one]

open Classical in
/-- The weight of a key at a query. -/
def wt (I : Inp) (b g r q k : ℕ) : EReal :=
  if k < q ∧ I.seg b k = I.seg b q then
    Ideal.exp (xv I b g r q k + -sp (xv I b g r q k)
      + ∑ a : Fin 640, (if a.val < q ∧ I.seg b a.val = I.seg b q then -sp (xv I b g r q a.val) else 0) * (if k < a.val then 1 else 0))
  else 0

theorem av_eq (I : Inp) (b g r q c p : ℕ) (hq : q < 640) (hp : p < 128) :
    av I b (q / 128) g r (q % 128) c p = wt I b g r q (c * 128 + p) := by
  classical
  have hq' : q / 128 * 128 + q % 128 = q := by omega
  unfold wt
  split_ifs with h
  · have hv : vis I b (q / 128) (q % 128) c p := by unfold vis; rw [hq']; exact ⟨h.2, h.1⟩
    have hs : sc I b (q / 128) g r (q % 128) c p = xv I b g r q (c * 128 + p) * cL := by
      unfold sc bi
      rw [if_pos hv, add_zero]
      unfold zd Fv xv cD
      rw [hq', ← mul_assoc _ _ cL]
    have hc : c ≤ q / 128 := by have := h.1; omega
    unfold av tm
    rw [hs, weight_ref _ _ (lft_nonneg _ _ _ _ _ _ _ _)]
    congr 2
    rw [lft_eq I b _ g r _ c p (by omega) (by omega) hc hp, sum_mul _ _ _ (fun k => by split_ifs; exacts [soft_nonneg _, le_refl _]),
      Fin.sum_univ_eq_sum_range (fun a => (if a < q ∧ I.seg b a = I.seg b q then -sp (xv I b g r q a) else 0) * (if c * 128 + p < a then 1 else 0)) 640]
    refine Finset.sum_congr rfl fun a _ => ?_
    by_cases ha : c * 128 + p < a
    · rw [if_pos ha, if_pos ha, mul_one, tm_mul, show a / 128 * 128 + a % 128 = a by omega]
    · rw [if_neg ha, if_neg ha, mul_zero, zero_mul]
  · exact av_zero _ _ _ _ _ _ _ _ fun hv => h (by unfold vis at hv; rw [hq'] at hv; exact ⟨hv.2, hv.1⟩)

theorem oV_eq (I : Inp) (b g r q x : ℕ) (hr : r < 3) (hq : q < 640) : oV I b q (g * 3 + r) x
    = (∑ k : Fin 640, I.v b k.val g x * wt I b g r q k.val) * I.vs b g := by
  unfold oV ot oc
  rw [show (g * 3 + r) / 3 = g by omega, show (g * 3 + r) % 3 = r by omega]
  congr 1
  rw [Fin.sum_univ_eq_sum_range (fun k => I.v b k g x * wt I b g r q k) 640]
  refine Eq.trans ?_ (Finset.sum_range_range_mul_add 5 128 (fun k => I.v b k g x * wt I b g r q k))
  refine Finset.sum_congr rfl fun c _ => ?_
  rw [← Fin.sum_univ_eq_sum_range (fun p => I.v b (c * 128 + p) g x * wt I b g r q (c * 128 + p)) 128]
  exact Finset.sum_congr rfl fun p _ => by rw [av_eq I b g r q c p.val hq p.2]

end Cert.Alg

end
-- ==== Proof.FastStage.lean ====
/-
  The first pass over a batch: the staging, the products and the bias, by the same steps as the second pass.
-/
module

public import proofs.«01_k».proof.Proof.LogBatch

@[expose] public section

set_option maxRecDepth 16384

noncomputable section

namespace Cert.KernelIdeal.Hand.PA

open Idealize.ShloMosaic Idealize.ShloMosaic.TcCoe Idealize.SL.Sem Cert.Seq Cert.Val Cert.KernelIdeal.Gen Cert.KernelIdeal.Hand.PB

theorem off3_eq (a : Fin k0_t3_loop.trips) (b : Fin k0_t4_loop.trips) (c : Fin k0_t5_loop.trips) :
    k0_off3 a b c = ![a.val, c.val * 3 + b.val] := by revert a b c; decide +kernel
theorem off4_eq (a : Fin k0_t3_loop.trips) (c : Fin k0_t5_loop.trips) :
    k0_off4 a c = ![a.val, c.val] := by revert a c; decide +kernel
theorem off5_eq (b : Fin k0_t4_loop.trips) : k0_off5 b = ![b.val, 0, 0] := by revert b; decide +kernel

theorem pay4_eq (k : Fin k0_t5_loop.trips) (acc : FVec Ideal S8x128 .f32) (v w : EReal) (j : S8x128.Idx) :
    k0_pay4 (F := Ideal) k acc v w j = if (j 0).val = k.val then v * w * cD * cL else acc j := by
  pointwise [k0_pay4]
  rw [iv_ofNat]
  have : (BitVec.ofNat 32 (j 0).val = BitVec.ofNat 32 k.val) ↔ (j 0).val = k.val := by
    have h1 : (j 0).val < 8 := (j 0).2
    have h2 : k.val < 8 := k.2
    constructor
    · intro h
      have := congrArg BitVec.toNat h
      simp at this; omega
    · intro h; rw [h]
  by_cases h : (j 0).val = k.val
  · rw [if_pos h, h]; simp [IntOp.cmpi, Scalar.select]; rfl
  · rw [if_neg h]; simp [IntOp.cmpi, Scalar.select, beq_eq_false_iff_ne.2 (fun e => h (this.1 e))]

theorem pay5_eq (v : FVec Ideal S8x128 .f32) (j : S1x8x128.Idx) : k0_pay5 (F := Ideal) v j = v (ix2 (j 1) (j 2)) := by
  pointwise [k0_pay5]

theorem pay6_eq (v : Vec Ideal S1x128x1x128 .fp8e4m3) (j : S1x1x128x128.Idx) :
    k0_pay6 (F := Ideal) v j = v (ix4 0 (j 3) 0 (j 2)) := by
  pointwise [k0_pay6]

theorem pay7_eq (v : Vec Ideal S1x128x1x128 .fp8e4m3) (j : S1x1x128x128.Idx) :
    k0_pay7 (F := Ideal) v j = v (ix4 0 (j 3) 0 (j 2)) := by
  pointwise [k0_pay7]

theorem pay8_eq (v : Vec Ideal S1x32x1x128 .fp8e4m3) (j : S1x1x32x128.Idx) :
    k0_pay8 (F := Ideal) v j = v (ix4 0 ⟨(j 2).val % 4 * 8 + (j 2).val / 4, sl_lt _ (j 2).2⟩ 0 (j 3)) := by
  pointwise [k0_pay8]

theorem pay9_eq (v : Vec Ideal S1x128 .i32) (j : S1x128x128.Idx) :
    k0_pay9 (F := Ideal) v j = v (ix2 0 (j 1)) := by
  pointwise [k0_pay9]

variable {d : Dev nD} {C : Calls (sig := sig) (Elt Ideal) (Λ₀ Ideal) (d : Thread nD τ)} {n : ℕ}

theorem run_t5 (I : Inp) (b : Fin k0_t3_loop.trips) (r : Fin k0_t4_loop.trips) (k : Fin k0_t5_loop.trips) (a : FVec Ideal S8x128 .f32) (σ : SS d)
    (hI : Ins I σ) (h : ∀ i : S8x128.Idx, (i 0).val < k.val → a i = Fv I b (i 0).val r) :
    pwp C n (B5 (F := Ideal) b r k a) (fun (a' : FVec Ideal S8x128 .f32) s => s = σ ∧ ∀ i : S8x128.Idx, (i 0).val < k.val + 1 → a' i = Fv I b (i 0).val r) σ := by
  unfold B5 k0_t5_body
  refine sl (Or.inr rfl) fun v hv => ?_
  refine sl (Or.inr rfl) fun w hw => ?_
  refine pwp_pure ⟨rfl, fun i hi => ?_⟩
  rw [pay4_eq]
  split
  · next e =>
    rw [hv, hw, hI.h1, hI.h2, Fv]
    simp [Rect.point, Rect.emb_apply, off3_eq, off4_eq, e, Shape.Idx.first]
  · exact h i (by omega)

theorem run_t4 (I : Inp) (b : Fin k0_t3_loop.trips) (σ₀ : SS d) (hI : Ins I σ₀) (k : Fin k0_t4_loop.trips) (a) (σ : SS d)
    (hs : Keep [M15.view.ref] σ₀ σ ∧ ∀ i : S3x8x128.Idx, (i 0).val < k.val → P15 I b i (R M15 σ i)) :
    pwp C n (B4 (F := Ideal) b k a) (fun _ s => Keep [M15.view.ref] σ₀ s ∧
      ∀ i : S3x8x128.Idx, (i 0).val < k.val + 1 → P15 I b i (R M15 s i)) σ := by
  unfold B4 k0_t4_body
  have hI' : Ins I σ := hI.keep hs.1 (by decide +kernel)
  refine pwp_for_bind (fun g (a : FVec Ideal S8x128 .f32) s => s = σ ∧ ∀ i : S8x128.Idx, (i 0).val < g → a i = Fv I b (i 0).val k) ⟨rfl, fun _ h => absurd h (Nat.not_lt_zero _)⟩
    (fun g a s hs' => ?_) fun a s hs' => ?_
  · obtain ⟨rfl, hs'⟩ := hs'; exact run_t5 I b k g a s hI' hs'
  obtain ⟨rfl, ha⟩ := hs'
  refine ld (Or.inl rfl) fun v hv => ?_
  refine pwp_put (P15 I b) (fun i => (i 0).val < k.val) (fun i => (i 0).val < k.val + 1) (Or.inl rfl) hs.2 (fun j => ?_) (fun i h1 h2 => mem_unit _ _ ?_) fun s' hk' hw => ?_
  · have h0 : (j 0).val = 0 := by have : (j 0).val < 1 := (j 0).2; omega
    unfold P15
    rw [pay5_eq, ha _ (show _ < 8 from (j 1).2)]
    simp [Rect.emb_apply, off5_eq, h0]
  · have h1' := (i 1).2; have h2' := (i 2).2
    rw [off5_eq]; simp [Fin.forall_fin_succ, S1x8x128, S3x8x128] at *; omega
  · exact pwp_pure ⟨hs.1.step (by simp) hk', hw⟩

theorem off6_eq (a : Fin k0_t3_loop.trips) (t : Fin k0_t6_loop.trips) (g : Fin k0_t7_loop.trips) (r : Fin k0_t8_loop.trips) :
    k0_off6 a t g r = ![a.val, t.val * 128, g.val * 3 + r.val, 0] := by revert a t g r; decide +kernel
theorem off7_eq (t : Fin k0_t6_loop.trips) (g : Fin k0_t7_loop.trips) (r : Fin k0_t8_loop.trips) :
    k0_off7 t g r = ![t.val, g.val, 0, r.val * 128] := by revert t g r; decide +kernel
theorem off8_eq (a : Fin k0_t3_loop.trips) (t : Fin k0_t6_loop.trips) (g : Fin k0_t9_loop.trips) :
    k0_off8 a t g = ![a.val, t.val * 128, g.val, 0] := by revert a t g; decide +kernel
theorem off9_eq (t : Fin k0_t6_loop.trips) (g : Fin k0_t9_loop.trips) :
    k0_off9 t g = ![t.val, g.val, 0, 0] := by revert t g; decide +kernel
theorem off10_eq (a : Fin k0_t3_loop.trips) (t : Fin k0_t6_loop.trips) (g : Fin k0_t10_loop.trips) (r : Fin k0_t11_loop.trips) :
    k0_off10 a t g r = ![a.val, t.val * 128 + r.val * 32, g.val, 0] := by revert a t g r; decide +kernel
theorem off11_eq (t : Fin k0_t6_loop.trips) (g : Fin k0_t10_loop.trips) (r : Fin k0_t11_loop.trips) :
    k0_off11 t g r = ![t.val, g.val, r.val * 32, 0] := by revert t g r; decide +kernel
theorem off12_eq (a : Fin k0_t3_loop.trips) (t : Fin k0_t6_loop.trips) : k0_off12 a t = ![a.val * 5 + t.val, 0] := by revert a t; decide +kernel
theorem off13_eq (t : Fin k0_t6_loop.trips) : k0_off13 t = ![t.val, 0, 0] := by revert t; decide +kernel

/-- The indices of a buffer of five tiles that tile `t` fills up to group `g`, and there up to `x` in steps of `u` along `a`. -/
theorem run_t8 (I : Inp) (b : Fin k0_t3_loop.trips) (t : Fin k0_t6_loop.trips) (g : Fin k0_t7_loop.trips) (σ₀ : SS d) (hI : Ins I σ₀) (k : Fin k0_t8_loop.trips) (a) (σ : SS d)
    (hs : Keep [M10.view.ref] σ₀ σ ∧ ∀ i : S5x8x128x384.Idx, ((i 0).val < t.val ∨ (i 0).val = t.val ∧ ((i 1).val < g.val ∨ (i 1).val = g.val ∧ (i 3).val < k.val * 128)) → P10 I b i (R M10 σ i)) :
    pwp C n (B8 (F := Ideal) b t g k a) (fun _ s => Keep [M10.view.ref] σ₀ s ∧
      ∀ i : S5x8x128x384.Idx, ((i 0).val < t.val ∨ (i 0).val = t.val ∧ ((i 1).val < g.val ∨ (i 1).val = g.val ∧ (i 3).val < (k.val + 1) * 128)) → P10 I b i (R M10 s i)) σ := by
  unfold B8 k0_t8_body
  have hI' : Ins I σ := hI.keep hs.1 (by decide +kernel)
  refine ld (Or.inl rfl) fun v hv => ?_
  refine ld (Or.inl rfl) fun _ _ => ?_
  refine pwp_put (P10 I b) _ (fun i => (i 0).val < t.val ∨ (i 0).val = t.val ∧ ((i 1).val < g.val ∨ (i 1).val = g.val ∧ (i 3).val < (k.val + 1) * 128)) (Or.inl rfl) hs.2 (fun j => ?_) (fun i h1 h2 => mem_unit _ _ ?_) fun s' hk' hw => ?_
  · have h0 : (j 0).val = 0 := by have : (j 0).val < 1 := (j 0).2; omega
    have h1 : (j 1).val = 0 := by have : (j 1).val < 1 := (j 1).2; omega
    have h3 : (j 3).val < 128 := (j 3).2
    unfold P10
    rw [pay6_eq, hv, hI'.h4]
    simp [LoadRect.idx_apply, Rect.emb_apply, off6_eq, off7_eq, h0, h1]
    rw [show (k.val * 128 + (j 3).val) / 128 = k.val by omega, Nat.mod_eq_of_lt h3]
  · have := (i 2).2
    rw [off7_eq]; simp [Fin.forall_fin_succ, S1x1x128x128, S5x8x128x384] at *; omega
  · exact pwp_pure ⟨hs.1.step (by simp) hk', hw⟩

theorem run_t11 (I : Inp) (b : Fin k0_t3_loop.trips) (t : Fin k0_t6_loop.trips) (g : Fin k0_t10_loop.trips) (σ₀ : SS d) (hI : Ins I σ₀) (k : Fin k0_t11_loop.trips) (a) (σ : SS d)
    (hs : Keep [M11.view.ref] σ₀ σ ∧ ∀ i : S5x8x128x128.Idx, ((i 0).val < t.val ∨ (i 0).val = t.val ∧ ((i 1).val < g.val ∨ (i 1).val = g.val ∧ (i 2).val < k.val * 32)) → P11 I b i (R M11 σ i)) :
    pwp C n (B11 (F := Ideal) b t g k a) (fun _ s => Keep [M11.view.ref] σ₀ s ∧
      ∀ i : S5x8x128x128.Idx, ((i 0).val < t.val ∨ (i 0).val = t.val ∧ ((i 1).val < g.val ∨ (i 1).val = g.val ∧ (i 2).val < (k.val + 1) * 32)) → P11 I b i (R M11 s i)) σ := by
  unfold B11 k0_t11_body
  have hI' : Ins I σ := hI.keep hs.1 (by decide +kernel)
  refine ld (Or.inl rfl) fun v hv => ?_
  refine ld (Or.inl rfl) fun _ _ => ?_
  refine pwp_put (P11 I b) _ (fun i => (i 0).val < t.val ∨ (i 0).val = t.val ∧ ((i 1).val < g.val ∨ (i 1).val = g.val ∧ (i 2).val < (k.val + 1) * 32)) (Or.inl rfl) hs.2 (fun j => ?_) (fun i h1 h2 => mem_unit _ _ ?_) fun s' hk' hw => ?_
  · have h0 : (j 0).val = 0 := by have : (j 0).val < 1 := (j 0).2; omega
    have h1 : (j 1).val = 0 := by have : (j 1).val < 1 := (j 1).2; omega
    have h2 : (j 2).val < 32 := (j 2).2
    unfold P11
    rw [pay8_eq, hv, hI'.h5]
    simp [LoadRect.idx_apply, Rect.emb_apply, off10_eq, off11_eq, h0, h1, perm]
    congr 1; omega
  · have := (i 3).2
    rw [off11_eq]; simp [Fin.forall_fin_succ, S1x1x32x128, S5x8x128x128] at *; omega
  · exact pwp_pure ⟨hs.1.step (by simp) hk', hw⟩

theorem run_t7 (I : Inp) (b : Fin k0_t3_loop.trips) (t : Fin k0_t6_loop.trips) (σ₀ : SS d) (hI : Ins I σ₀) (g : Fin k0_t7_loop.trips) (a) (σ : SS d)
    (hs : Keep [M10.view.ref] σ₀ σ ∧ ∀ i : S5x8x128x384.Idx, ((i 0).val < t.val ∨ (i 0).val = t.val ∧ (i 1).val < g.val) → P10 I b i (R M10 σ i)) :
    pwp C n (B7 (F := Ideal) b t g a) (fun _ s => Keep [M10.view.ref] σ₀ s ∧
      ∀ i : S5x8x128x384.Idx, ((i 0).val < t.val ∨ (i 0).val = t.val ∧ (i 1).val < g.val + 1) → P10 I b i (R M10 s i)) σ := by
  unfold B7 k0_t7_body
  refine pwp_for_bind (fun k _ s => Keep [M10.view.ref] σ₀ s ∧ ∀ i : S5x8x128x384.Idx, ((i 0).val < t.val ∨ (i 0).val = t.val ∧ ((i 1).val < g.val ∨ (i 1).val = g.val ∧ (i 3).val < k * 128)) → P10 I b i (R M10 s i))
    ⟨hs.1, fun i hi => hs.2 i (by omega)⟩ (fun k a s hs' => run_t8 I b t g σ₀ hI k a s hs') fun a s hs' => ?_
  exact pwp_pure ⟨hs'.1, fun i hi => hs'.2 i (by have : (i 3).val < 384 := (i 3).2; have : k0_t8_loop.trips = 3 := by decide +kernel
                                                 omega)⟩

theorem run_t10 (I : Inp) (b : Fin k0_t3_loop.trips) (t : Fin k0_t6_loop.trips) (σ₀ : SS d) (hI : Ins I σ₀) (g : Fin k0_t10_loop.trips) (a) (σ : SS d)
    (hs : Keep [M11.view.ref] σ₀ σ ∧ ∀ i : S5x8x128x128.Idx, ((i 0).val < t.val ∨ (i 0).val = t.val ∧ (i 1).val < g.val) → P11 I b i (R M11 σ i)) :
    pwp C n (B10 (F := Ideal) b t g a) (fun _ s => Keep [M11.view.ref] σ₀ s ∧
      ∀ i : S5x8x128x128.Idx, ((i 0).val < t.val ∨ (i 0).val = t.val ∧ (i 1).val < g.val + 1) → P11 I b i (R M11 s i)) σ := by
  unfold B10 k0_t10_body
  refine pwp_for_bind (fun k _ s => Keep [M11.view.ref] σ₀ s ∧ ∀ i : S5x8x128x128.Idx, ((i 0).val < t.val ∨ (i 0).val = t.val ∧ ((i 1).val < g.val ∨ (i 1).val = g.val ∧ (i 2).val < k * 32)) → P11 I b i (R M11 s i))
    ⟨hs.1, fun i hi => hs.2 i (by omega)⟩ (fun k a s hs' => run_t11 I b t g σ₀ hI k a s hs') fun a s hs' => ?_
  exact pwp_pure ⟨hs'.1, fun i hi => hs'.2 i (by have : (i 2).val < 128 := (i 2).2; have : k0_t11_loop.trips = 4 := by decide +kernel
                                                 omega)⟩

theorem run_t9 (I : Inp) (b : Fin k0_t3_loop.trips) (t : Fin k0_t6_loop.trips) (σ₀ : SS d) (hI : Ins I σ₀) (g : Fin k0_t9_loop.trips) (a) (σ : SS d)
    (hs : Keep [M12.view.ref] σ₀ σ ∧ ∀ i : S5x8x128x128.Idx, ((i 0).val < t.val ∨ (i 0).val = t.val ∧ (i 1).val < g.val) → P12 I b i (R M12 σ i)) :
    pwp C n (B9 (F := Ideal) b t g a) (fun _ s => Keep [M12.view.ref] σ₀ s ∧
      ∀ i : S5x8x128x128.Idx, ((i 0).val < t.val ∨ (i 0).val = t.val ∧ (i 1).val < g.val + 1) → P12 I b i (R M12 s i)) σ := by
  unfold B9 k0_t9_body
  have hI' : Ins I σ := hI.keep hs.1 (by decide +kernel)
  refine ld (Or.inl rfl) fun v hv => ?_
  refine ld (Or.inl rfl) fun _ _ => ?_
  refine pwp_put (P12 I b) _ (fun i => (i 0).val < t.val ∨ (i 0).val = t.val ∧ (i 1).val < g.val + 1) (Or.inl rfl) hs.2 (fun j => ?_) (fun i h1 h2 => mem_unit _ _ ?_) fun s' hk' hw => ?_
  · have h0 : (j 0).val = 0 := by have : (j 0).val < 1 := (j 0).2; omega
    have h1 : (j 1).val = 0 := by have : (j 1).val < 1 := (j 1).2; omega
    unfold P12
    rw [pay7_eq, hv, hI'.h6]
    simp [LoadRect.idx_apply, Rect.emb_apply, off8_eq, off9_eq, h0, h1]
  · have := (i 2).2; have := (i 3).2
    rw [off9_eq]; simp [Fin.forall_fin_succ, S1x1x128x128, S5x8x128x128] at *; omega
  · exact pwp_pure ⟨hs.1.step (by simp) hk', hw⟩

theorem run_t6 (I : Inp) (b : Fin k0_t3_loop.trips) (σ₀ : SS d) (hI : Ins I σ₀) (h25 : F25 I σ₀) (t : Fin k0_t6_loop.trips) (a) (σ : SS d)
    (hs : Keep LS σ₀ σ ∧ Staged I b t σ) :
    pwp C n (B6 (F := Ideal) b t a) (fun _ s => Keep LS σ₀ s ∧ Staged I b (t.val + 1) s) σ := by
  unfold B6 k0_t6_body
  have hI' : Ins I σ := hI.keep hs.1 (by decide +kernel)
  have e1 : k0_t7_loop.trips = 8 := by decide +kernel
  have e2 : k0_t10_loop.trips = 8 := by decide +kernel
  refine pwp_for_bind (fun g _ s => Keep [M10.view.ref] σ s ∧ ∀ i : S5x8x128x384.Idx, ((i 0).val < t.val ∨ (i 0).val = t.val ∧ (i 1).val < g) → P10 I b i (R M10 s i))
    ⟨.refl _ _, fun i hi => hs.2.q i (by omega)⟩ (fun g a s hs' => run_t7 I b t σ hI' g a s hs') fun _ s1 h1 => ?_
  have k1 : Keep LS σ₀ s1 := hs.1.trans (h1.1.mono (by decide +kernel))
  refine pwp_for_bind (fun g _ s => Keep [M12.view.ref] s1 s ∧ ∀ i : S5x8x128x128.Idx, ((i 0).val < t.val ∨ (i 0).val = t.val ∧ (i 1).val < g) → P12 I b i (R M12 s i))
    ⟨.refl _ _, fun i hi => by rw [h1.1.rd M12 (by decide +kernel)]; exact hs.2.v i (by omega)⟩ (fun g a s hs' => run_t9 I b t s1 (hI.keep k1 (by decide +kernel)) g a s hs') fun _ s2 h2' => ?_
  have h2 := h2'.1
  have e3 : k0_t9_loop.trips = 8 := by decide +kernel
  have k2 : Keep LS σ₀ s2 := k1.trans (h2.mono (by decide +kernel))
  have hS2 : Staged I b t s2 := ⟨fun i hi => by rw [h2.rd M10 (by decide +kernel)]; exact h1.2 i (Or.inl hi),
    by rw [h2.rd M11 (by decide +kernel), h1.1.rd M11 (by decide +kernel)]; exact hs.2.k,
    by rw [h2.rd M14 (by decide +kernel), h1.1.rd M14 (by decide +kernel)]; exact hs.2.s, fun i hi => h2'.2 i (Or.inl hi)⟩
  refine pwp_for_bind (fun g _ s => Keep [M11.view.ref] s2 s ∧ ∀ i : S5x8x128x128.Idx, ((i 0).val < t.val ∨ (i 0).val = t.val ∧ (i 1).val < g) → P11 I b i (R M11 s i))
    ⟨.refl _ _, fun i hi => hS2.k i (by omega)⟩ (fun g a s hs' => run_t10 I b t s2 (hI.keep k2 (by decide +kernel)) g a s hs') fun _ s3 h3 => ?_
  have k3 : Keep LS σ₀ s3 := k2.trans (h3.1.mono (by decide +kernel))
  refine ld (Or.inl rfl) fun v hv => ?_
  refine ld (Or.inl rfl) fun _ _ => ?_
  refine pwp_put (P14 I b) (fun i => (i 0).val < t.val) (fun i => (i 0).val < t.val + 1) (Or.inl rfl) ?_ (fun j => ?_) (fun i h1 h2 => mem_unit _ _ ?_) fun s' hk' hw => ?_
  · rw [h3.1.rd M14 (by decide +kernel)]; exact hS2.s
  · have h0 : (j 0).val = 0 := by have : (j 0).val < 1 := (j 0).2; omega
    have hb : b.val < 3 := b.2
    have ht : t.val < 5 := t.2
    unfold P14
    rw [pay9_eq, hv, k3.rd M25 (by decide +kernel), h25]
    simp [LoadRect.idx_apply, Rect.emb_apply, off12_eq, off13_eq, h0]
    rw [show (b.val * 5 + t.val) / 5 = b.val by omega, Nat.mod_eq_of_lt ht]
  · have := (i 1).2; have := (i 2).2
    rw [off13_eq]; simp [Fin.forall_fin_succ, S1x128x128, S5x128x128] at *; omega
  · have k4 : Keep [M14.view.ref] s3 s' := (Keep.refl _ _).step (by simp) hk'
    refine pwp_pure ⟨k3.trans (k4.mono (by decide +kernel)), fun i hi => ?_, fun i hi => ?_, hw, fun i hi => ?_⟩
    · rw [k4.rd M10 (by decide +kernel), h3.1.rd M10 (by decide +kernel), h2.rd M10 (by decide +kernel)]
      exact h1.2 i (by have : (i 1).val < 8 := (i 1).2; omega)
    · rw [k4.rd M11 (by decide +kernel)]
      exact h3.2 i (by have : (i 1).val < 8 := (i 1).2; omega)
    · rw [k4.rd M12 (by decide +kernel), h3.1.rd M12 (by decide +kernel)]
      exact h2'.2 i (by have : (i 1).val < 8 := (i 1).2; omega)

theorem pay26_eq (v : Vec Ideal S1x1x128x128 .fp8e4m3) (w : Vec Ideal S1x1x128x384 .fp8e4m3) (j : S128x128.Idx) :
    k0_pay26 (F := Ideal) v w j = ∑ x : Fin 128, v (ix4 0 0 (j 0) x) * w (ix4 0 0 x ⟨0 * 128 + (j 1).val, by have : (j 1).val < 128 := (j 1).2; omega⟩) := by
  pointwise [k0_pay26, k0_pay25]
theorem pay27_eq (v : Vec Ideal S1x1x128x128 .fp8e4m3) (w : Vec Ideal S1x1x128x384 .fp8e4m3) (j : S128x128.Idx) :
    k0_pay27 (F := Ideal) v w j = ∑ x : Fin 128, v (ix4 0 0 (j 0) x) * w (ix4 0 0 x ⟨1 * 128 + (j 1).val, by have : (j 1).val < 128 := (j 1).2; omega⟩) := by
  pointwise [k0_pay27, k0_pay25]
theorem pay28_eq (v : Vec Ideal S1x1x128x128 .fp8e4m3) (w : Vec Ideal S1x1x128x384 .fp8e4m3) (j : S128x128.Idx) :
    k0_pay28 (F := Ideal) v w j = ∑ x : Fin 128, v (ix4 0 0 (j 0) x) * w (ix4 0 0 x ⟨2 * 128 + (j 1).val, by have : (j 1).val < 128 := (j 1).2; omega⟩) := by
  pointwise [k0_pay28, k0_pay25]

theorem pay29_eq (a : Fin k0_t12_loop.trips) (v23 : BitVec 32) (k : Fin (k0_t13_loop a v23).trips) (hk : k.val ≤ a.val) (v : Vec Ideal S1x128 .i32) (w : Vec Ideal S1x128x128 .i32) (j : S128x128.Idx) :
    k0_pay29 (F := Ideal) 0#32 1#32 a v23 k v w j =
      if w (ix3 0 (j 0) (j 1)) = v (ix2 0 (j 1)) ∧ (a.val - k.val) * 128 + (j 0).val < a.val * 128 + (j 1).val then 0 else cNI := by
  have ha : a.val < 5 := a.2
  pointwise [k0_pay29]
  rw [sub_iv ⟨a.val, ha⟩ ⟨k.val, by omega⟩ hk, iv_ofNat,
    slt_pos ⟨a.val, ha⟩ ⟨a.val - k.val, by omega⟩ (j 0) (j 1)]
  rw [show IntOp.cmpi CmpIPredicate.eq (w (ix3 0 (j 0) (j 1))) (v (ix2 0 (j 1))) = BitVec.ofBool (w (ix3 0 (j 0) (j 1)) == v (ix2 0 (j 1))) from rfl, andi_ofBool]
  by_cases h1 : w (ix3 0 (j 0) (j 1)) = v (ix2 0 (j 1)) <;>
    by_cases h2 : (a.val - k.val) * 128 + (j 0).val < a.val * 128 + (j 1).val
  · rw [if_pos ⟨h1, h2⟩]; simp [h1, h2, Scalar.select]
  · rw [if_neg (fun h => h2 h.2)]; simp [h2, Scalar.select]; rfl
  · rw [if_neg (fun h => h1 h.1)]; simp [beq_eq_false_iff_ne.2 h1, Scalar.select]; rfl
  · rw [if_neg (fun h => h1 h.1)]; simp [beq_eq_false_iff_ne.2 h1, Scalar.select]; rfl

theorem pay23_eq (j : S3x8x128.Idx) : k0_pay23 (F := Ideal) j = 0 := by
  pointwise [k0_pay23]
theorem pay10_eq (v : Vec Ideal S1x8x128 .f32) (j : S8x128.Idx) : k0_pay10 (F := Ideal) v j = v (ix3 0 (j 0) (j 1)) * cNL := by
  pointwise [k0_pay10]
  rfl
theorem pay11_eq (v : Vec Ideal S24x128 .f32) (j : S1x24x128.Idx) : k0_pay11 (F := Ideal) v j = v (ix2 (j 1) (j 2)) := by
  pointwise [k0_pay11]

theorem trips13 (a : Fin k0_t12_loop.trips) (v23 : BitVec 32) (h : v23.toNat ≤ a.val) : (k0_t13_loop a v23).trips = a.val + 1 - v23.toNat := by
  obtain ⟨n, hn, e⟩ := fin_of_le a h
  clear h; subst e
  revert hn; revert n; revert a
  decide +kernel

theorem off16_eq (a : Fin k0_t12_loop.trips) (v23 : BitVec 32) (k : Fin (k0_t13_loop a v23).trips) (hk : k.val ≤ a.val) (g : Fin k0_t14_loop.trips) :
    k0_off16 a v23 k g = ![a.val - k.val, g.val, 0, 0] := by
  have key : ∀ (a : Fin k0_t12_loop.trips) (k : Fin 5) (g : Fin k0_t14_loop.trips), k.val ≤ a.val →
      (![(Scalar.indexCast (Scalar.subi (Scf.iv 0#32 1#32 a) (Scf.iv 0#32 1#32 k)) : Index).toNat, (Scalar.indexCast (Scf.iv 0#32 1#32 g) : Index).toNat, 0, 0] : Fin 4 → ℕ) = ![a.val - k.val, g.val, 0, 0] := by
    decide +kernel
  have ha : a.val < 5 := a.2
  exact key a ⟨k.val, by omega⟩ g hk
theorem off20_eq (a : Fin k0_t12_loop.trips) (v23 : BitVec 32) (k : Fin (k0_t13_loop a v23).trips) (hk : k.val ≤ a.val) :
    k0_off20 a v23 k = ![a.val - k.val, 0, 0] := by
  have key : ∀ (a : Fin k0_t12_loop.trips) (k : Fin 5), k.val ≤ a.val →
      (![(Scalar.indexCast (Scalar.subi (Scf.iv 0#32 1#32 a) (Scf.iv 0#32 1#32 k)) : Index).toNat, 0, 0] : Fin 3 → ℕ) = ![a.val - k.val, 0, 0] := by
    decide +kernel
  have ha : a.val < 5 := a.2
  exact key a ⟨k.val, by omega⟩ hk
theorem off17_eq (a : Fin k0_t12_loop.trips) (g : Fin k0_t14_loop.trips) : k0_off17 a g = ![a.val, g.val, 0, 0] := by revert a g; decide +kernel
theorem off18_eq0 (g : Fin k0_t14_loop.trips) : k0_off18 g 0#32 = ![(0 + g.val) * 129, 0] := by revert g; decide +kernel
theorem off18_eq1 (g : Fin k0_t14_loop.trips) : k0_off18 g 8#32 = ![(8 + g.val) * 129, 0] := by revert g; decide +kernel
theorem off18_eq2 (g : Fin k0_t14_loop.trips) : k0_off18 g 16#32 = ![(16 + g.val) * 129, 0] := by revert g; decide +kernel
theorem off19_eq (b : Fin k0_t3_loop.trips) (a : Fin k0_t12_loop.trips) : k0_off19 b a = ![b.val * 5 + a.val, 0] := by revert b a; decide +kernel

theorem run_t14 (I : Inp) (b : ℕ) (bb : Fin k0_t3_loop.trips) (a26 : BitVec 32) (t : Fin k0_t12_loop.trips) (v23 : BitVec 32)
    (hw4 : k0_chk2 t v23) (k : Fin (k0_t13_loop t v23).trips) (hk : k.val ≤ t.val) (σ₀ : SS d) (hS : Staged I b 5 σ₀) (g : Fin k0_t14_loop.trips) (a) (σ : SS d)
    (hs : Keep [M17.view.ref] σ₀ σ ∧ ∀ i, D17 g.val 0 i → P17 I b t.val (t.val - k.val) i (R M17 σ i)) :
    pwp C n (B14 (F := Ideal) bb a26 0#32 1#32 t v23 hw4 k g a) (fun _ s => Keep [M17.view.ref] σ₀ s ∧
      ∀ i, D17 (g.val + 1) 0 i → P17 I b t.val (t.val - k.val) i (R M17 s i)) σ := by
  unfold B14 k0_t14_body
  have hS' : Staged I b 5 σ := hS.keep hs.1 (by decide +kernel) (by decide +kernel) (by decide +kernel) (by decide +kernel)
  have ht : t.val < 5 := t.2
  have hg : g.val < 8 := g.2
  refine ld (Or.inl rfl) fun v hv => ?_
  refine ld (Or.inl rfl) fun w hw => ?_
  have hv' : ∀ p x : Fin 128, v (ix4 0 0 p x) = I.k b ((t.val - k.val) * 128 + perm p.val) g.val x.val := by
    intro p x
    rw [hv, hS'.k _ (by simp [LoadRect.idx_apply, off16_eq _ _ _ hk]; omega)]
    simp [LoadRect.idx_apply, off16_eq _ _ _ hk, ix4]
  have hw' : ∀ (x : Fin 128) (y : Fin 384), w (ix4 0 0 x y) = I.q b (t.val * 128 + y.val % 128) (g.val * 3 + y.val / 128) x.val := by
    intro x y
    rw [hw, hS'.q _ (by simp [LoadRect.idx_apply, off17_eq, ix4]; exact ht)]
    simp [LoadRect.idx_apply, off17_eq, ix4]
  refine ld (Or.inl rfl) fun _ _ => ?_
  refine put17 I b t.val (t.val - k.val) g.val 0 hg (by omega) (off18_eq0 g) (fun j => (pay26_eq v w j).trans (sum17 I b _ _ _ 0 v w hv' hw' (j 0) _ (j 1).2 _)) hs.1 hs.2 fun s1 k1 d1 => ?_
  refine ld (Or.inl rfl) fun _ _ => ?_
  refine put17 I b t.val (t.val - k.val) g.val 1 hg (by omega) (off18_eq1 g) (fun j => (pay27_eq v w j).trans (sum17 I b _ _ _ 1 v w hv' hw' (j 0) _ (j 1).2 _)) k1 d1 fun s2 k2 d2 => ?_
  refine ld (Or.inl rfl) fun _ _ => ?_
  refine put17 I b t.val (t.val - k.val) g.val 2 hg (by omega) (off18_eq2 g) (fun j => (pay28_eq v w j).trans (sum17 I b _ _ _ 2 v w hv' hw' (j 0) _ (j 1).2 _)) k2 d2 fun s3 k3 d3 => ?_
  refine pwp_pure ⟨k3, fun i hi => d3 i ?_⟩
  unfold D17 at *; omega

theorem trips21 (a : Fin k0_t12_loop.trips) (v23 : BitVec 32) (h : v23.toNat ≤ a.val) : (k0_t21_loop a v23).trips = 0 := by
  have ha : a.val < 5 := a.2
  obtain ⟨n, rfl⟩ : ∃ n : Fin 5, v23 = BitVec.ofNat 32 n.val := ⟨⟨v23.toNat, by omega⟩, by simp⟩
  revert h; revert a n; decide +kernel

theorem off14_eq (b : Fin k0_t3_loop.trips) (t : Fin k0_t12_loop.trips) : k0_off14 b t = ![b.val, t.val * 128] := by revert b t; decide +kernel
theorem off49_eq (r : Fin k0_t31_loop.trips) : k0_off49 r = ![r.val, 0, 0] := by revert r; decide +kernel
theorem off50_eq (r : Fin k0_t31_loop.trips) : k0_off50 r = ![r.val, 0] := by revert r; decide +kernel
theorem off51_eq (b : Fin k0_t3_loop.trips) (t : Fin k0_t12_loop.trips) : k0_off51 b t = ![b.val, 0, t.val * 128] := by revert b t; decide +kernel

end Cert.KernelIdeal.Hand.PA

end
-- ==== Proof.FastRun.lean ====
/-
  The first pass over a tile: the running products of a block, their overflow marks, and the sums where no mark is set.
-/
module

public import proofs.«01_k».proof.Proof.LogMath
public import proofs.«01_k».proof.Proof.FastStage

@[expose] public section

set_option maxRecDepth 16384

noncomputable section

namespace Cert.KernelIdeal.Hand.PA

open Idealize.ShloMosaic Idealize.ShloMosaic.TcCoe Idealize.SL.Sem Cert.Seq Cert.Val Cert.KernelIdeal.Gen Cert.KernelIdeal.Hand.PB

/-! ### The payloads -/

theorem pay36_eq (v83 : Vec Ideal S1x8x128 .f32) (a : FVec Ideal S8x128 .f32) (v145 : Vec Ideal S8x128 .f32) (v152 : Vec Ideal S1x128 .f32) (j : S8x128.Idx) :
    k0_pay36 (F := Ideal) v83 a v145 v152 j = a j + FloatOps.exp2 (F := Ideal) (φ := .f32) (v145 j * v83 (ix3 0 (j 0) (j 1)) + v152 (ix2 0 (j 1))) * a j := by
  pointwise [k0_pay36, k0_pay34]
theorem pay37_eq (v83 : Vec Ideal S1x8x128 .f32) (a a' : FVec Ideal S8x128 .f32) (v145 : Vec Ideal S8x128 .f32) (v152 : Vec Ideal S1x128 .f32) (j : S8x128.Idx) :
    k0_pay37 (F := Ideal) v83 a a' v145 v152 j = a' j + FloatOps.exp2 (F := Ideal) (φ := .f32) (v145 j * v83 (ix3 0 (j 0) (j 1)) + v152 (ix2 0 (j 1))) * a j := by
  pointwise [k0_pay37, k0_pay34]
theorem one_eq : Ideal.ofBits .f32 0x3F800000#32 = 1 := by
  rw [show (1 : EReal) = ((1 : ℝ) : EReal) by norm_cast]
  simp [Ideal.ofBits, Ideal.ieee, -EReal.coe_mul]; norm_num
theorem big_ne : Ideal.ofBits .f32 0x6F800000#32 ≠ ⊤ := by
  simp [Ideal.ofBits, Ideal.ieee, -EReal.coe_mul]
theorem pay32_eq (j : S8x128.Idx) : k0_pay32 (F := Ideal) j = 1 := by
  show Ideal.ofBits .f32 0x3F800000#32 = 1
  exact one_eq
theorem pay33_eq (j : S8x128.Idx) : k0_pay33 (F := Ideal) j = 0 := by
  pointwise [k0_pay33]
theorem pay31_eq (v : Vec Ideal S1x8x128 .f32) (j : S8x128.Idx) : k0_pay31 (F := Ideal) v j = v (ix3 0 (j 0) (j 1)) := by
  pointwise [k0_pay31]
theorem pay39_eq (a b : FVec Ideal S8x128 .f32) (j : S8x128.Idx) : k0_pay39 (F := Ideal) a b j = a j + l21p (b j) := by
  pointwise [k0_pay39]
  rfl
theorem pay40_eq (a : Vec Ideal S8x128 .f32) (b : FVec Ideal S8x128 .f32) (j : S8x128.Idx) :
    (k0_pay40 (F := Ideal) a b j = a j ∧ b j ≠ ⊤) ∨ k0_pay40 (F := Ideal) a b j = 1 := by
  have e : k0_pay40 (F := Ideal) a b j = Scalar.select (Ideal.cmp .ole (b j) (Ideal.ofBits .f32 0x6F800000#32)) (a j) (Ideal.ofBits .f32 0x3F800000#32) := rfl
  rw [e]
  by_cases h : b j ≤ Ideal.ofBits .f32 0x6F800000#32
  · exact Or.inl ⟨by simp [Ideal.cmp, h, Scalar.select], fun ht => big_ne (top_le_iff.1 (ht ▸ h))⟩
  · exact Or.inr (by rw [one_eq]; simp [Ideal.cmp, h, Scalar.select])
theorem pay43_eq (v : FVec Ideal S8x128 .f32) (j : S1x8x128.Idx) : k0_pay43 (F := Ideal) v j = v (ix2 (j 1) (j 2)) := by
  pointwise [k0_pay43]
theorem pay44_eq (v : Vec Ideal S8x128 .f32) (j : S8x128.Idx) : k0_pay44 (F := Ideal) v j = v j := by
  pointwise [k0_pay44]
theorem pay1_eq (j : S8x128.Idx) : k0_pay1 (F := Ideal) j = 0 := by
  pointwise [k0_pay1]

theorem off21_eq (r : Fin k0_t15_loop.trips) : k0_off21 r = ![r.val, 0, 0] := by revert r; decide +kernel
theorem off22_eq (r : Fin k0_t15_loop.trips) (x : Fin k0_t16_loop.trips) (y : Fin k0_t17_loop.trips) (z : Fin k0_t18_loop.trips) :
    k0_off22 r x y z = ![r.val * 1032 + (3 - x.val) * 32 + z.val * 4 + y.val, 0] := by revert r x y z; decide +kernel
theorem off23_eq (x : Fin k0_t16_loop.trips) (y : Fin k0_t17_loop.trips) (z : Fin k0_t18_loop.trips) :
    k0_off23 x y z = ![(3 - x.val) * 32 + y.val * 8 + z.val, 0] := by revert x y z; decide +kernel

variable {d : Dev nD} {C : Calls (sig := sig) (Elt Ideal) (Λ₀ Ideal) (d : Thread nD τ)} {n : ℕ}

/-! ### A block of keys -/

/-- The powers of a block's keys. -/
def eb (I : Inp) (b t g r lane c x : ℕ) (m : ℕ) : EReal := FloatOps.exp2 (F := Ideal) (φ := .f32) (sc I b t g r lane c ((3 - x) * 32 + m))

section Block
variable (I : Inp) (b t c : ℕ) (bb : Fin k0_t3_loop.trips) (a26 : BitVec 32) (tt : Fin k0_t12_loop.trips) (σ₀ : SS d)
  (h15 : F15 I b σ₀) (h16 : F16 I b t c σ₀) (h17 : F17 I b t c σ₀) (r : Fin k0_t15_loop.trips)
  (v83 : Vec Ideal S1x8x128 .f32) (h83 : ∀ j, v83 j = R M15 σ₀ ((Rect.unit (s := S3x8x128) (k0_off21 r) S1x8x128.size (k0_off21_inb r)).toLoadRect.idx j))
include h15 h16 h17 h83

/-- The product and the sum after `m` keys of block `x`. -/
def J18 (I : Inp) (b t c r x m : ℕ) (a : FVec Ideal S8x128 .f32 × FVec Ideal S8x128 .f32) : Prop :=
  ∀ j : S8x128.Idx, a.1 j = pr (eb I b t (j 0).val r (j 1).val c x) m ∧ a.2 j = su (eb I b t (j 0).val r (j 1).val c x) m

/-- The terms of block `x` times the products before them, for the first `m` keys. -/
def C18 (I : Inp) (b t c r x m : ℕ) (σ : SS d) : Prop :=
  ∀ i : S3x128x8x128.Idx, (i 0).val = r ∧ (3 - x) * 32 ≤ (i 1).val ∧ (i 1).val < (3 - x) * 32 + m →
    R M18 σ i = eb I b t (i 2).val r (i 3).val c x ((i 1).val - (3 - x) * 32) * pr (eb I b t (i 2).val r (i 3).val c x) ((i 1).val - (3 - x) * 32)

theorem run_t18 (x : Fin k0_t16_loop.trips) (y : Fin k0_t17_loop.trips) (z : Fin k0_t18_loop.trips) (a) (σ : SS d)
    (hs : Keep [M18.view.ref] σ₀ σ ∧ J18 I b t c r x (y.val * 8 + z.val) a ∧ C18 I b t c r x (y.val * 8 + z.val) σ) :
    pwp C n (B18 (F := Ideal) bb a26 0#32 1#32 tt r v83 x y z a) (fun a s => Keep [M18.view.ref] σ₀ s ∧ J18 I b t c r x (y.val * 8 + (z.val + 1)) a ∧ C18 I b t c r x (y.val * 8 + (z.val + 1)) s) σ := by
  obtain ⟨a1, a2⟩ := a
  have hx : x.val < 4 := x.2
  have hy : y.val < 4 := y.2
  have hz : z.val < 8 := z.2
  have hr : r.val < 3 := r.2
  have e15 : F15 I b σ := by unfold F15; rw [hs.1.rd M15 (by decide +kernel)]; exact h15
  have e16 : F16 I b t c σ := by unfold F16; rw [hs.1.rd M16 (by decide +kernel)]; exact h16
  have e17 : F17 I b t c σ := by unfold F17; rw [hs.1.rd M17 (by decide +kernel)]; exact h17
  have e83 : ∀ j, v83 j = R M15 σ ((Rect.unit (s := S3x8x128) (k0_off21 r) S1x8x128.size (k0_off21_inb r)).toLoadRect.idx j) := by
    rw [hs.1.rd M15 (by decide +kernel)]; exact h83
  unfold B18 k0_t18_body
  dsimp only
  refine ld (Or.inl rfl) fun v145 h145 => ?_
  refine ld (Or.inl rfl) fun v152 h152 => ?_
  refine ld (Or.inl rfl) fun _ _ => ?_
  have key := fun j : S8x128.Idx => sc_eq I b t c σ e15 e16 e17 x.val (3 - y.val) (3 - z.val / 2) r.val (z.val % 2) hx (by omega) (by omega) hr (by omega)
    (off17 := k0_off22 r x y z) (off16 := k0_off23 x y z) (off15 := k0_off21 r) (inb17 := k0_off22_inb r x y z) (inb16 := k0_off23_inb x y z) (inb15 := k0_off21_inb r)
    (by rw [off22_eq]; congr 1; omega) (by rw [off23_eq]; congr 1; omega) (off21_eq r) v83 v145 v152 e83 h145 h152 j
  rw [show 127 - (x.val * 32 + (3 - y.val) * 8 + (3 - z.val / 2) * 2 + (1 - z.val % 2)) = (3 - x.val) * 32 + (y.val * 8 + z.val) by omega] at key
  refine pwp_put (fun i v => v = eb I b t (i 2).val r (i 3).val c x ((i 1).val - (3 - x.val) * 32) * pr (eb I b t (i 2).val r (i 3).val c x) ((i 1).val - (3 - x.val) * 32))
    (fun i => (i 0).val = r.val ∧ (3 - x.val) * 32 ≤ (i 1).val ∧ (i 1).val < (3 - x.val) * 32 + (y.val * 8 + z.val))
    (fun i => (i 0).val = r.val ∧ (3 - x.val) * 32 ≤ (i 1).val ∧ (i 1).val < (3 - x.val) * 32 + (y.val * 8 + (z.val + 1))) (Or.inl rfl) hs.2.2 (fun j => ?_) (fun i d1 d2 => mem_unit _ _ ?_)
    fun s1 k1 w1 => pwp_pure ⟨hs.1.step (by simp) k1, fun j => ?_, w1⟩
  · have hj0 : (j 0).val = 0 := by have : (j 0).val < 1 := (j 0).2; omega
    have hj1 : (j 1).val = 0 := by have : (j 1).val < 1 := (j 1).2; omega
    have q1 : ((Rect.unit (s := S3x128x8x128) (k0_off24 r x y z) S1x1x8x128.size (k0_off24_inb r x y z)).emb j 1).val = (3 - x.val) * 32 + (y.val * 8 + z.val) := by simp [Rect.emb_apply, off24_eq, hj1]; omega
    have q2 : ((Rect.unit (s := S3x128x8x128) (k0_off24 r x y z) S1x1x8x128.size (k0_off24_inb r x y z)).emb j 2).val = (j 2).val := by simp [Rect.emb_apply, off24_eq]
    have q3 : ((Rect.unit (s := S3x128x8x128) (k0_off24 r x y z) S1x1x8x128.size (k0_off24_inb r x y z)).emb j 3).val = (j 3).val := by simp [Rect.emb_apply, off24_eq]
    rw [q1, q2, q3, Nat.add_sub_cancel_left, pay35_eq]
    have z1 := key (ix2 (j 2) (j 3))
    have z2 := (hs.2.1 (ix2 (j 2) (j 3))).1
    dsimp only at z2
    rw [z2]
    refine congrArg (fun e => FloatOps.exp2 (F := Ideal) (φ := .f32) e * _) z1
  · have h2 : (i 2).val < 8 := (i 2).2
    have h3 : (i 3).val < 128 := (i 3).2
    rw [off24_eq]
    simp [Fin.forall_fin_succ, S3x128x8x128, S1x1x8x128] at *; omega
  have hj := hs.2.1 j
  dsimp only at hj
  rw [show y.val * 8 + (z.val + 1) = (y.val * 8 + z.val) + 1 by ring]
  refine ⟨?_, ?_⟩
  · show k0_pay36 (F := Ideal) v83 a1 v145 v152 j = _
    rw [pay36_eq, key j, hj.1]; rfl
  · show k0_pay37 (F := Ideal) v83 a1 a2 v145 v152 j = _
    rw [pay37_eq, key j, hj.1, hj.2]; rfl

theorem run_t17 (x : Fin k0_t16_loop.trips) (y : Fin k0_t17_loop.trips) (a) (σ : SS d)
    (hs : Keep [M18.view.ref] σ₀ σ ∧ J18 I b t c r x (y.val * 8) a ∧ C18 I b t c r x (y.val * 8) σ) :
    pwp C n (B17 (F := Ideal) bb a26 0#32 1#32 tt r v83 x y a) (fun a s => Keep [M18.view.ref] σ₀ s ∧ J18 I b t c r x ((y.val + 1) * 8) a ∧ C18 I b t c r x ((y.val + 1) * 8) s) σ := by
  obtain ⟨a1, a2⟩ := a
  unfold B17 k0_t17_body
  dsimp only
  refine pwp_for_bind (fun z a s => Keep [M18.view.ref] σ₀ s ∧ J18 I b t c r x (y.val * 8 + z) a ∧ C18 I b t c r x (y.val * 8 + z) s) hs
    (fun z a s hs' => run_t18 I b t c bb a26 tt σ₀ h15 h16 h17 r v83 h83 x y z a s hs') ?_
  rintro ⟨p, q⟩ s hs'
  refine pwp_pure ⟨hs'.1, ?_⟩
  have e : k0_t18_loop.trips = 8 := by decide +kernel
  rw [show (y.val + 1) * 8 = y.val * 8 + k0_t18_loop.trips by omega]; exact hs'.2

/-- A vector is zero at group `g` and query `l`. -/
def zr (a : S8x128.Idx → EReal) (g l : ℕ) : Prop := ∀ i : S8x128.Idx, (i 0).val = g → (i 1).val = l → a i = 0

omit h15 h16 h17 h83 in
theorem zr.at {a : S8x128.Idx → EReal} (j : S8x128.Idx) (h : a j = 0) : zr a (j 0).val (j 1).val := fun i h1 h2 => by
  rw [eq_ix2 i, show i 0 = j 0 from Fin.ext h1, show i 1 = j 1 from Fin.ext h2, ← eq_ix2 j]; exact h

/-- Where weights are written: the repeats below `r`, and of `r` the blocks below `x` and `k` pairs of block `x`. -/
def E19 (r x k : ℕ) (i : S1568x2x128.Idx) : Prop :=
  (i 0).val / 65 < 24 ∧ (i 0).val % 65 < 64 ∧ ((i 0).val / 65 / 8 < r ∨ ((i 0).val / 65 / 8 = r ∧
    (64 - 16 * x ≤ (i 0).val % 65 ∨ ((3 - x) * 16 ≤ (i 0).val % 65 ∧ (i 0).val % 65 < (3 - x) * 16 + k))))

/-- The weights written are right at the columns of `Q`. -/
def V19 (I : Inp) (b t c : ℕ) (Q : ℕ → ℕ → Prop) (r x k : ℕ) (σ : SS d) : Prop :=
  ∀ i : S1568x2x128.Idx, E19 r x k i → Q ((i 0).val / 65 % 8) (i 2).val → P19 I b t c i (R M19 σ i)

omit h15 h16 h17 h83 in
theorem run_t19 (x : Fin k0_t16_loop.trips) (Q : ℕ → ℕ → Prop) (p q : FVec Ideal S8x128 .f32)
    (hQ : ∀ j : S8x128.Idx, Q (j 0).val (j 1).val → p j = FloatOps.exp2 (F := Ideal) (φ := .f32) (-lft I b t (j 0).val r.val (j 1).val c (x.val * 32)) ∧
      q j = pr (eb I b t (j 0).val r (j 1).val c x) 32 ∧ q j ≠ ⊤)
    (h18 : C18 I b t c r x 32 σ₀) (k : Fin k0_t19_loop.trips) (a) (σ : SS d) (hs : Keep [M19.view.ref] σ₀ σ ∧ V19 I b t c Q r.val x.val k.val σ) :
    pwp C n (B19 (F := Ideal) bb a26 0#32 1#32 tt r x p q k a) (fun _ s => Keep [M19.view.ref] σ₀ s ∧ V19 I b t c Q r.val x.val (k.val + 1) s) σ := by
  have hx : x.val < 4 := x.2
  have hr : r.val < 3 := r.2
  have hk : k.val < 16 := k.2
  have e18 : C18 I b t c r x 32 σ := by unfold C18; rw [hs.1.rd M18 (by decide +kernel)]; exact h18
  unfold B19 k0_t19_body
  refine ld (Or.inl rfl) fun va ha => ?_
  refine ld (Or.inl rfl) fun vb hb => ?_
  refine ld (Or.inl rfl) fun _ _ => ?_
  have la : ∀ (g : Fin 8) (l : Fin 128), va (ix4 0 0 g l) = eb I b t g.val r l.val c x (2 * k.val) * pr (eb I b t g.val r l.val c x) (2 * k.val) := fun g l => by
    have w1 : ((Rect.unit (s := S3x128x8x128) (k0_off25 r x k) S1x1x8x128.size (k0_off25_inb r x k)).toLoadRect.idx (ix4 0 0 g l) 1).val = (3 - x.val) * 32 + 2 * k.val := by simp [LoadRect.idx_apply, off25_eq, ix4]
    rw [ha, e18 _ (by rw [w1]; refine ⟨by simp [LoadRect.idx_apply, off25_eq, ix4], by omega, by omega⟩), w1, Nat.add_sub_cancel_left]
    simp [LoadRect.idx_apply, off25_eq, ix4]
  have lb : ∀ (g : Fin 8) (l : Fin 128), vb (ix4 0 0 g l) = eb I b t g.val r l.val c x (2 * k.val + 1) * pr (eb I b t g.val r l.val c x) (2 * k.val + 1) := fun g l => by
    have w1 : ((Rect.unit (s := S3x128x8x128) (k0_off26 r x k) S1x1x8x128.size (k0_off26_inb r x k)).toLoadRect.idx (ix4 0 0 g l) 1).val = (3 - x.val) * 32 + (2 * k.val + 1) := by simp [LoadRect.idx_apply, off26_eq, ix4, add_assoc]
    rw [hb, e18 _ (by rw [w1]; refine ⟨by simp [LoadRect.idx_apply, off26_eq, ix4], by omega, by omega⟩), w1, Nat.add_sub_cancel_left]
    simp [LoadRect.idx_apply, off26_eq, ix4]
  refine pwp_put (fun i v => Q ((i 0).val / 65 % 8) (i 2).val → P19 I b t c i v) (E19 r.val x.val k.val) (E19 r.val x.val (k.val + 1))
      (Or.inl rfl) hs.2 (fun j => ?_) (fun i h1 h2 => (LoadRect.mem_set _).2 ?_) fun s1 k1 d19 => pwp_pure ⟨hs.1.step (by simp) k1, d19⟩
  · have hj0 : (j 0).val < 8 := (j 0).2
    have hj1 : (j 1).val < 2 := (j 1).2
    show Q ((k0_off27 r x k 0 + 65 * (j 0).val) / 65 % 8) (k0_off27 r x k 2 + 1 * (j 2).val) → _ = av I b t ((k0_off27 r x k 0 + 65 * (j 0).val) / 65 % 8) ((k0_off27 r x k 0 + 65 * (j 0).val) / 65 / 8) (k0_off27 r x k 2 + 1 * (j 2).val) c
        (2 * ((k0_off27 r x k 0 + 65 * (j 0).val) % 65) + (k0_off27 r x k 1 + 1 * (j 1).val))
    have f0 : k0_off27 r x k 0 = r.val * 520 + (3 - x.val) * 16 + k.val := by rw [off27_eq]; rfl
    have f1 : k0_off27 r x k 1 = 0 := by rw [off27_eq]; rfl
    have f2 : k0_off27 r x k 2 = 0 := by rw [off27_eq]; rfl
    rw [f0, f1, f2]
    have q1 : (r.val * 520 + (3 - x.val) * 16 + k.val + 65 * (j 0).val) / 65 = r.val * 8 + (j 0).val := by omega
    have q2 : (r.val * 520 + (3 - x.val) * 16 + k.val + 65 * (j 0).val) % 65 = (3 - x.val) * 16 + k.val := by omega
    rw [q1, q2, show (r.val * 8 + (j 0).val) % 8 = (j 0).val by omega, show (r.val * 8 + (j 0).val) / 8 = r.val by omega, Nat.zero_add, Nat.one_mul, Nat.zero_add, Nat.one_mul]
    intro hq
    obtain ⟨z1, z2, z3⟩ := hQ (ix2 (j 0) (j 2)) hq
    rw [z2] at z3
    rw [pay41_eq, pay38_eq, one_eq, z1, z2]
    by_cases hz0 : (j 1).val = 0
    · rw [if_pos hz0, hz0, la (j 0) (j 2), show 2 * ((3 - x.val) * 16 + k.val) + 0 = (3 - x.val) * 32 + 2 * k.val by omega]
      exact av_block I b t _ _ _ c x.val _ hx (by omega) z3
    · rw [if_neg hz0, show (j 1).val = 1 by omega, lb (j 0) (j 2), show 2 * ((3 - x.val) * 16 + k.val) + 1 = (3 - x.val) * 32 + (2 * k.val + 1) by omega]
      exact av_block I b t _ _ _ c x.val _ hx (by omega) z3
  · have hi1 : (i 1).val < 2 := (i 1).2
    have hi2 : (i 2).val < 128 := (i 2).2
    obtain ⟨d1, d2, d3⟩ := h1
    have d4 : (i 0).val / 65 / 8 = r.val ∧ (i 0).val % 65 = (3 - x.val) * 16 + k.val := by
      unfold E19 at h2; omega
    have f0 : k0_off27 r x k 0 = r.val * 520 + (3 - x.val) * 16 + k.val := by rw [off27_eq]; rfl
    have f1 : k0_off27 r x k 1 = 0 := by rw [off27_eq]; rfl
    have f2 : k0_off27 r x k 2 = 0 := by rw [off27_eq]; rfl
    refine Fin.forall_fin_succ.2 ⟨⟨(i 0).val / 65 % 8, ?_, ?_⟩, Fin.forall_fin_succ.2 ⟨⟨(i 1).val, hi1, ?_⟩, Fin.forall_fin_succ.2 ⟨⟨(i 2).val, hi2, ?_⟩, fun a => a.elim0⟩⟩⟩
    · show (i 0).val / 65 % 8 < 8; omega
    · show (i 0).val = k0_off27 r x k 0 + 65 * ((i 0).val / 65 % 8)
      rw [f0]; omega
    · show (i 1).val = k0_off27 r x k 1 + 1 * (i 1).val
      rw [f1]; omega
    · show (i 2).val = k0_off27 r x k 2 + 1 * (i 2).val
      rw [f2]; omega

/-- The sum over a block. -/
def bs (I : Inp) (b t g r lane c x : ℕ) : EReal := ∑ m ∈ Finset.range 32, tm I b t g r lane c ((3 - x) * 32 + m)

/-- After `x` blocks: a mark is zero or one; where it is zero it was so before, and the sum is right. -/
def J16 (I : Inp) (b t c r x : ℕ) (l0 m0 : FVec Ideal S8x128 .f32) (a : FVec Ideal S8x128 .f32 × FVec Ideal S8x128 .f32 × Vec Ideal S8x128 .f32) : Prop :=
  ∀ j : S8x128.Idx, (a.2.2 j = 0 ∨ a.2.2 j = 1) ∧
    (a.2.2 j = 0 → m0 j = 0 ∧ a.1 j = FloatOps.exp2 (F := Ideal) (φ := .f32) (-lft I b t (j 0).val r (j 1).val c (x * 32)) ∧ a.2.1 j = l0 j + ∑ y ∈ Finset.range x, bs I b t (j 0).val r (j 1).val c y)

theorem run_t16 (l0 m0 : FVec Ideal S8x128 .f32) (x : Fin k0_t16_loop.trips) (a) (σ : SS d)
    (hs : Keep [M18.view.ref, M19.view.ref] σ₀ σ ∧ J16 I b t c r x.val l0 m0 a ∧ V19 I b t c (zr a.2.2) r.val x.val 0 σ) :
    pwp C n (B16 (F := Ideal) bb a26 0#32 1#32 tt r v83 x a) (fun a s => Keep [M18.view.ref, M19.view.ref] σ₀ s ∧ J16 I b t c r (x.val + 1) l0 m0 a ∧ V19 I b t c (zr a.2.2) r.val (x.val + 1) 0 s) σ := by
  have hx : x.val < 4 := x.2
  obtain ⟨a1, a2, a3⟩ := a
  have e15 : F15 I b σ := by unfold F15; rw [hs.1.rd M15 (by decide +kernel)]; exact h15
  have e16 : F16 I b t c σ := by unfold F16; rw [hs.1.rd M16 (by decide +kernel)]; exact h16
  have e17 : F17 I b t c σ := by unfold F17; rw [hs.1.rd M17 (by decide +kernel)]; exact h17
  have e83 : ∀ j, v83 j = R M15 σ ((Rect.unit (s := S3x8x128) (k0_off21 r) S1x8x128.size (k0_off21_inb r)).toLoadRect.idx j) := by
    rw [hs.1.rd M15 (by decide +kernel)]; exact h83
  unfold B16 k0_t16_body
  dsimp only
  refine pwp_for_bind (fun y a s => Keep [M18.view.ref] σ s ∧ J18 I b t c r x (y * 8) a ∧ C18 I b t c r x (y * 8) s) ⟨.refl _ _, fun j => ⟨pay32_eq j, pay33_eq j⟩, fun i hi => absurd hi (by omega)⟩
    (fun y a s hs' => run_t17 I b t c bb a26 tt σ e15 e16 e17 r v83 e83 x y a s hs') ?_
  rintro ⟨p, q⟩ s1 ⟨k1, hJ, hC⟩
  dsimp only
  have e4 : k0_t17_loop.trips * 8 = 32 := by decide +kernel
  rw [e4] at hJ hC
  have hQ : ∀ j : S8x128.Idx, zr (k0_pay40 (F := Ideal) a3 p) (j 0).val (j 1).val → a3 j = 0 ∧ p j ≠ ⊤ := fun j h => by
    have h0 := h j rfl rfl
    rcases pay40_eq a3 p j with ⟨h1, h2⟩ | h1
    · exact ⟨by rw [← h1]; exact h0, h2⟩
    · rw [h1] at h0; exact absurd h0 one_ne_zero
  refine pwp_for_bind (fun k _ s => Keep [M19.view.ref] s1 s ∧ V19 I b t c (zr (k0_pay40 (F := Ideal) a3 p)) r.val x.val k s) ⟨.refl _ _, fun i hi hq => ?_⟩
    (fun k a s hs' => run_t19 I b t c bb a26 tt s1 r x (zr (k0_pay40 (F := Ideal) a3 p)) a1 p (fun j hq => ⟨((hs.2.1 j).2 (hQ j hq).1).2.1, (hJ j).1, (hQ j hq).2⟩) hC k a s hs') fun _ s2 k2 => ?_
  · rw [k1.rd M19 (by decide +kernel)]
    refine hs.2.2 i hi fun i' h1 h2 => (hQ i' ?_).1
    rw [h1, h2]; exact hq
  refine pwp_pure ⟨hs.1.trans ((k1.mono (by decide +kernel)).trans (k2.1.mono (by decide +kernel))), fun j => ?_, fun i hi => k2.2 i ?_⟩
  · have hj := hJ j
    have hh := hs.2.1 j
    dsimp only at hj hh ⊢
    rcases pay40_eq a3 p j with ⟨h1, h2⟩ | h1
    · rw [h1]
      refine ⟨hh.1, fun h0 => ⟨(hh.2 h0).1, ?_, ?_⟩⟩
      · rw [pay38_eq, one_eq, (hh.2 h0).2.1, hj.1]
        rw [hj.1] at h2
        exact left_block I b t _ _ _ c x.val hx h2
      · rw [pay39_eq, (hh.2 h0).2.2, hj.2, Finset.sum_range_succ, ← add_assoc]
        rw [hj.1] at h2
        congr 1
        exact l21p_su (fun m => sc I b t (j 0).val r (j 1).val c ((3 - x.val) * 32 + m)) 32 h2
    · rw [h1]
      exact ⟨Or.inr rfl, fun h0 => absurd h0 one_ne_zero⟩
  · have e16 : k0_t19_loop.trips = 16 := by decide +kernel
    rw [e16]
    unfold E19 at hi ⊢; omega

end Block

/-! ### The three repeats of a chunk -/

/-- No overflow is marked at group `g` and query `l`. -/
def ok (σ : SS d) (g l : ℕ) : Prop := ∀ i : S8x128.Idx, (i 0).val = g → (i 1).val = l → R M23 σ i = 0

/-- The marks are zero or one, and none is taken back. -/
def Mk (σ₀ σ : SS d) : Prop := (∀ i : S8x128.Idx, R M23 σ i = 0 ∨ R M23 σ i = 1) ∧ ∀ g l, ok σ g l → ok σ₀ g l

theorem Mk.trans {σ s s' : SS d} (h : Mk σ s) (h' : Mk s s') : Mk σ s' := ⟨h'.1, fun g l o => h.2 g l (h'.2 g l o)⟩
theorem Mk.keep {σ₀ σ s : SS d} {L : List (Ref sig .tc)} (h : Mk σ₀ σ) (hk : Keep L σ s) (hL : M23.view.ref ∉ L) : Mk σ₀ s := by
  unfold Mk ok at h ⊢; rw [hk.rd M23 hL]; exact h
theorem ok.keep {σ s : SS d} {L : List (Ref sig .tc)} (hk : Keep L σ s) (hL : M23.view.ref ∉ L) (g l : ℕ) : ok s g l ↔ ok σ g l := by
  unfold ok; rw [hk.rd M23 hL]

def LF : List (Ref sig .tc) := [M18.view.ref, M19.view.ref, M21.view.ref, M22.view.ref, M23.view.ref]

/-- The sums with the chunk in for the repeats below `r`, where nothing is marked. -/
def G15 (I : Inp) (b t c : ℕ) (base : S3x8x128.Idx → EReal) (r : ℕ) (σ : SS d) : Prop :=
  ∀ i : S3x8x128.Idx, ok σ (i 1).val (i 2).val → R M22 σ i = base i + if (i 0).val < r then ch I b t (i 1).val (i 0).val (i 2).val c else 0

/-- The factors left, with the chunk in for the repeats below `r`, where nothing is marked. -/
def G21 (I : Inp) (b t c r : ℕ) (σ : SS d) : Prop :=
  ∀ i : S3x8x128.Idx, ok σ (i 1).val (i 2).val → R M21 σ i = FloatOps.exp2 (F := Ideal) (φ := .f32) (-lft I b t (i 1).val (i 0).val (i 2).val c (if (i 0).val < r then 128 else 0))

theorem run_t15 (I : Inp) (b t c : ℕ) (base : S3x8x128.Idx → EReal) (bb : Fin k0_t3_loop.trips) (a26 : BitVec 32) (tt : Fin k0_t12_loop.trips) (σ₀ : SS d)
    (h15 : F15 I b σ₀) (h16 : F16 I b t c σ₀) (h17 : F17 I b t c σ₀) (r : Fin k0_t15_loop.trips) (a) (σ : SS d)
    (hs : Keep LF σ₀ σ ∧ Mk σ₀ σ ∧ G15 I b t c base r.val σ ∧ G21 I b t c r.val σ ∧ V19 I b t c (ok σ) r.val 0 0 σ) :
    pwp C n (B15 (F := Ideal) bb a26 0#32 1#32 tt r a) (fun _ s => Keep LF σ₀ s ∧ Mk σ₀ s ∧ G15 I b t c base (r.val + 1) s ∧ G21 I b t c (r.val + 1) s ∧ V19 I b t c (ok s) (r.val + 1) 0 0 s) σ := by
  have hr : r.val < 3 := r.2
  have e15 : F15 I b σ := by unfold F15; rw [hs.1.rd M15 (by decide +kernel)]; exact h15
  have e16 : F16 I b t c σ := by unfold F16; rw [hs.1.rd M16 (by decide +kernel)]; exact h16
  have e17 : F17 I b t c σ := by unfold F17; rw [hs.1.rd M17 (by decide +kernel)]; exact h17
  unfold B15 k0_t15_body
  refine ld (Or.inl rfl) fun v83 h83 => ?_
  refine ld (Or.inl rfl) fun v86 h86 => ?_
  refine ld (Or.inl rfl) fun v89 h89 => ?_
  refine ld (Or.inl rfl) fun v91 h91 => ?_
  have h91' : ∀ j : S8x128.Idx, v91 j = R M23 σ j := fun j => by
    rw [h91]; congr 1; funext a; apply Fin.ext; revert a
    refine Fin.forall_fin_succ.2 ⟨?_, Fin.forall_fin_succ.2 ⟨?_, fun a => a.elim0⟩⟩ <;> simp [LoadRect.idx_apply]
  refine pwp_for_bind (fun x a s => Keep [M18.view.ref, M19.view.ref] σ s ∧ J16 I b t c r x (k0_pay31 (F := Ideal) v89) v91 a ∧ V19 I b t c (zr a.2.2) r.val x 0 s) ⟨.refl _ _, fun j => ?_, ?_⟩
    (fun x a s hs' => run_t16 I b t c bb a26 tt σ e15 e16 e17 r v83 h83 _ _ x a s hs') ?_
  · dsimp only
    refine ⟨by rw [h91']; exact hs.2.1.1 j, fun h0 => ⟨h0, ?_, by simp⟩⟩
    have w0 : ((Rect.unit (s := S3x8x128) (k0_off21 r) S1x8x128.size (k0_off21_inb r)).toLoadRect.idx (ix3 0 (j 0) (j 1)) 0).val = r.val := by simp [LoadRect.idx_apply, off21_eq, ix3]
    have w1 : ((Rect.unit (s := S3x8x128) (k0_off21 r) S1x8x128.size (k0_off21_inb r)).toLoadRect.idx (ix3 0 (j 0) (j 1)) 1).val = (j 0).val := by simp [LoadRect.idx_apply, off21_eq, ix3]
    have w2 : ((Rect.unit (s := S3x8x128) (k0_off21 r) S1x8x128.size (k0_off21_inb r)).toLoadRect.idx (ix3 0 (j 0) (j 1)) 2).val = (j 1).val := by simp [LoadRect.idx_apply, off21_eq, ix3]
    have ho : ok σ (j 0).val (j 1).val := by
      rw [h91'] at h0; exact zr.at (a := R M23 σ) j h0
    rw [pay30_eq, h86, hs.2.2.2.1 _ (by rw [w1, w2]; exact ho), w0, w1, w2, if_neg (by omega), Nat.zero_mul]
  · dsimp only
    have e91 : v91 = R M23 σ := funext h91'
    rw [e91]; exact hs.2.2.2.2
  rintro ⟨p, q, m⟩ s1 ⟨k1, hJ, hV⟩
  dsimp only at hJ hV ⊢
  have e4 : k0_t16_loop.trips = 4 := by decide +kernel
  rw [e4] at hJ hV
  refine ld (Or.inl rfl) fun _ _ => ?_
  have hm : ∀ i : S3x8x128.Idx, m (ix2 (i 1) (i 2)) = 0 → ok σ (i 1).val (i 2).val := fun i h0 i' h1 h2 => by
    have := ((hJ (ix2 (i 1) (i 2))).2 h0).1
    rw [h91'] at this
    rw [← this]; congr 1
    rw [eq_ix2 i']; congr 1
    · exact Fin.ext h1
    · exact Fin.ext h2
  refine pwp_put (fun i v => m (ix2 (i 1) (i 2)) = 0 → v = FloatOps.exp2 (F := Ideal) (φ := .f32) (-lft I b t (i 1).val (i 0).val (i 2).val c (if (i 0).val < r.val + 1 then 128 else 0)))
    (fun i => (i 0).val ≠ r.val) (fun _ => True) (Or.inl rfl) (fun i hi h0 => ?_) (fun j h0 => ?_) (fun i _ h2 => mem_unit _ _ ?_) fun s2 k2 h21 => ?_
  · rw [k1.rd M21 (by decide +kernel), hs.2.2.2.1 i (hm i h0)]
    have : ((i 0).val < r.val) = ((i 0).val < r.val + 1) := by apply propext; omega
    simp only [this]
  · have hj0 : (j 0).val = 0 := by have : (j 0).val < 1 := (j 0).2; omega
    have e0 : (((Rect.unit (s := S3x8x128) (k0_off21 r) S1x8x128.size (k0_off21_inb r)).emb j 0).val) = r.val := by simp [Rect.emb_apply, off21_eq, hj0]
    have e1 : (((Rect.unit (s := S3x8x128) (k0_off21 r) S1x8x128.size (k0_off21_inb r)).emb j 1)) = j 1 := by apply Fin.ext; simp [Rect.emb_apply, off21_eq]
    have e2 : (((Rect.unit (s := S3x8x128) (k0_off21 r) S1x8x128.size (k0_off21_inb r)).emb j 2)) = j 2 := by apply Fin.ext; simp [Rect.emb_apply, off21_eq]
    rw [e1, e2] at h0
    have hq := ((hJ (ix2 (j 1) (j 2))).2 h0).2.1
    dsimp only at hq
    rw [pay42_eq, hq, e0, e1, e2, if_pos (by omega)]
    rfl
  · have h1' := (i 1).2; have h2' := (i 2).2
    rw [off21_eq]; simp [Fin.forall_fin_succ, S1x8x128, S3x8x128] at *; omega
  have K2 : Keep [M18.view.ref, M19.view.ref, M21.view.ref] σ s2 := (k1.mono (by decide +kernel)).step (by simp) k2
  refine ld (Or.inl rfl) fun _ _ => ?_
  refine pwp_put (fun i v => m (ix2 (i 1) (i 2)) = 0 → v = base i + if (i 0).val < r.val + 1 then ch I b t (i 1).val (i 0).val (i 2).val c else 0)
    (fun i => (i 0).val ≠ r.val) (fun _ => True) (Or.inl rfl) (fun i hi h0 => ?_) (fun j h0 => ?_) (fun i _ h2 => mem_unit _ _ ?_) fun s3 k3 h3 => ?_
  · rw [K2.rd M22 (by decide +kernel), hs.2.2.1 i (hm i h0)]
    have : ((i 0).val < r.val) = ((i 0).val < r.val + 1) := by apply propext; omega
    simp only [this]
  · have hj0 : (j 0).val = 0 := by have : (j 0).val < 1 := (j 0).2; omega
    have e0 : (((Rect.unit (s := S3x8x128) (k0_off21 r) S1x8x128.size (k0_off21_inb r)).emb j 0).val) = r.val := by simp [Rect.emb_apply, off21_eq, hj0]
    have e1 : (((Rect.unit (s := S3x8x128) (k0_off21 r) S1x8x128.size (k0_off21_inb r)).emb j 1)) = j 1 := by apply Fin.ext; simp [Rect.emb_apply, off21_eq]
    have e2 : (((Rect.unit (s := S3x8x128) (k0_off21 r) S1x8x128.size (k0_off21_inb r)).emb j 2)) = j 2 := by apply Fin.ext; simp [Rect.emb_apply, off21_eq]
    have e3 : (Rect.unit (s := S3x8x128) (k0_off21 r) S1x8x128.size (k0_off21_inb r)).toLoadRect.idx (ix3 0 (j 1) (j 2)) = (Rect.unit (s := S3x8x128) (k0_off21 r) S1x8x128.size (k0_off21_inb r)).emb j := by
      have hj : j = ix3 0 (j 1) (j 2) := by
        rw [eq_ix3 j]; congr 1; exact Fin.ext hj0
      exact congrArg _ hj.symm
    have hk := hm _ h0
    rw [e1, e2] at h0
    have hq := ((hJ (ix2 (j 1) (j 2))).2 h0).2.2
    dsimp only at hq
    rw [pay43_eq, hq, pay31_eq, h89]
    show R M22 σ ((Rect.unit (s := S3x8x128) (k0_off21 r) S1x8x128.size (k0_off21_inb r)).toLoadRect.idx (ix3 0 (j 1) (j 2))) + _ = _
    rw [e3, hs.2.2.1 _ hk, e0, e1, e2, if_neg (by omega), if_pos (by omega), add_zero]
    congr 1
    exact sum_blocks (fun p => tm I b t (j 1).val r.val (j 2).val c p)
  · have h1' := (i 1).2; have h2' := (i 2).2
    rw [off21_eq]; simp [Fin.forall_fin_succ, S1x8x128, S3x8x128] at *; omega
  refine ld (Or.inl rfl) fun _ _ => ?_
  refine pwp_put (fun i v => v = m i) (fun _ => False) (fun _ => True) (Or.inl rfl) (fun _ h => h.elim) (fun j => ?_) (fun i _ _ => mem_unit _ _ ?_) fun s4 k4 h4 => ?_
  · rw [pay44_eq]; congr 1; funext a; apply Fin.ext; revert a
    refine Fin.forall_fin_succ.2 ⟨?_, Fin.forall_fin_succ.2 ⟨?_, fun a => a.elim0⟩⟩ <;> simp [Rect.emb_apply]
  · have := (i 0).2; have := (i 1).2
    simp [Fin.forall_fin_succ, S8x128] at *; omega
  have K4 : Keep LF σ s4 := ((K2.mono (by decide +kernel)).step (by show M22.view.ref ∈ (LF : List (Ref sig .tc)); decide +kernel) k3).step (by show M23.view.ref ∈ (LF : List (Ref sig .tc)); decide +kernel) k4
  have K34 : Keep [M23.view.ref] s3 s4 := (Keep.refl _ _).step (by simp) k4
  have K24 : Keep [M22.view.ref, M23.view.ref] s2 s4 := ((Keep.refl _ _).step (by simp) k3).step (by simp) k4
  have K14 : Keep [M21.view.ref, M22.view.ref, M23.view.ref] s1 s4 := (((Keep.refl _ _).step (by simp) k2).step (by simp) k3).step (by simp) k4
  refine pwp_pure ⟨hs.1.trans K4, hs.2.1.trans ⟨fun i => ?_, fun g l o i h1 h2 => ?_⟩, fun i o => ?_, fun i o => ?_, fun i hi o => ?_⟩
  · rw [h4 i trivial]; exact (hJ i).1
  · have := o i h1 h2
    rw [h4 i trivial] at this
    rw [← h91']; exact ((hJ i).2 this).1
  · have := o (ix2 (i 1) (i 2)) rfl rfl
    rw [h4 _ trivial] at this
    rw [K34.rd M22 (by decide +kernel)]; exact h3 i trivial this
  · have := o (ix2 (i 1) (i 2)) rfl rfl
    rw [h4 _ trivial] at this
    rw [K24.rd M21 (by decide +kernel)]; exact h21 i trivial this
  · rw [K14.rd M19 (by decide +kernel)]
    refine hV i ?_ fun i' h1 h2 => ?_
    · unfold E19 at hi ⊢; omega
    · have := o i' h1 h2
      rwa [h4 _ trivial] at this

end Cert.KernelIdeal.Hand.PA

end
-- ==== Proof.FastTile.lean ====
/-
  The first pass: a chunk, a tile and a batch. Where no overflow is marked the sums are right.
-/
module

public import proofs.«01_k».proof.Proof.FastRun

@[expose] public section

set_option maxRecDepth 16384

noncomputable section

namespace Cert.KernelIdeal.Hand.PA

open Idealize.ShloMosaic Idealize.ShloMosaic.TcCoe Idealize.SL.Sem Cert.Seq Cert.Val Cert.KernelIdeal.Gen Cert.KernelIdeal.Hand.PB

variable {d : Dev nD} {C : Calls (sig := sig) (Elt Ideal) (Λ₀ Ideal) (d : Thread nD τ)} {n : ℕ}

/-- The sums after `k` chunks, where nothing is marked. -/
def K22 (I : Inp) (b t k : ℕ) (σ : SS d) : Prop :=
  ∀ i : S3x8x128.Idx, ok σ (i 1).val (i 2).val → R M22 σ i = ∑ m ∈ Finset.range k, ch I b t (i 1).val (i 0).val (i 2).val (t - m)

theorem Mk.refl (σ : SS d) (h : ∀ i : S8x128.Idx, R M23 σ i = 0 ∨ R M23 σ i = 1) : Mk σ σ := ⟨h, fun _ _ h => h⟩

/-- The factors left after `k` chunks, where nothing is marked. -/
def K21 (I : Inp) (b t k : ℕ) (σ : SS d) : Prop :=
  ∀ i : S3x8x128.Idx, ok σ (i 1).val (i 2).val → R M21 σ i = FloatOps.exp2 (F := Ideal) (φ := .f32) (-∑ m ∈ Finset.range k, ch I b t (i 1).val (i 0).val (i 2).val (t - m))

/-- The weighted sums, of `k + 1` chunks for the groups below `g` and of `k` for the others, at the columns of `Q`. -/
def W20 (I : Inp) (b t k g : ℕ) (Q : ℕ → ℕ → Prop) (σ : SS d) : Prop :=
  ∀ i : S8x128x384.Idx, Q (i 0).val ((i 2).val % 128) →
    R M20 σ i = ocs I b t (i 0).val ((i 2).val / 128) ((i 2).val % 128) (i 1).val (if (i 0).val < g then k + 1 else k)

/-- The weights of a head, read at a column of `Q`. -/
theorem rd19 (I : Inp) (b t c g e : ℕ) (hg : g < 8) (he : e < 3) (Q : ℕ → ℕ → Prop) (σ : SS d) (h19 : V19 I b t c Q 3 0 0 σ) {off : Fin 3 → ℕ} {inb}
    (hoff : off = ![(e * 8 + g) * 65, 0, 0]) (v : Vec Ideal S64x2x128 .bf16)
    (hv : ∀ j, v j = R M19 σ ((Rect.unit (s := S1568x2x128) off S64x2x128.size inb).toLoadRect.idx j)) (p : Fin 64) (q : Fin 2) (l : Fin 128) (hq : Q g l.val) :
    v (ix3 p q l) = av I b t g e l.val c (2 * p.val + q.val) := by
  subst hoff
  have hp := p.2
  have e0 : ((Rect.unit (s := S1568x2x128) ![(e * 8 + g) * 65, 0, 0] S64x2x128.size inb).toLoadRect.idx (ix3 p q l) 0).val = (e * 8 + g) * 65 + p.val := by simp [LoadRect.idx_apply, ix3]
  have e1 : ((Rect.unit (s := S1568x2x128) ![(e * 8 + g) * 65, 0, 0] S64x2x128.size inb).toLoadRect.idx (ix3 p q l) 1).val = q.val := by simp [LoadRect.idx_apply, ix3]
  have e2 : ((Rect.unit (s := S1568x2x128) ![(e * 8 + g) * 65, 0, 0] S64x2x128.size inb).toLoadRect.idx (ix3 p q l) 2).val = l.val := by simp [LoadRect.idx_apply, ix3]
  have q1 : ((e * 8 + g) * 65 + p.val) / 65 = e * 8 + g := by omega
  have q2 : ((e * 8 + g) * 65 + p.val) % 65 = p.val := by omega
  have z := h19 ((Rect.unit (s := S1568x2x128) ![(e * 8 + g) * 65, 0, 0] S64x2x128.size inb).toLoadRect.idx (ix3 p q l))
    (by unfold E19; rw [e0, q1, q2]; refine ⟨by omega, hp, Or.inl (by omega)⟩) (by rw [e0, e2, q1, show (e * 8 + g) % 8 = g by omega]; exact hq)
  unfold P19 at z
  rw [e0, e1, e2, q1, q2, show (e * 8 + g) % 8 = g by omega, show (e * 8 + g) / 8 = e by omega] at z
  rw [hv, z]

theorem run_t20 (I : Inp) (bb : Fin k0_t3_loop.trips) (a26 : BitVec 32) (t : Fin k0_t12_loop.trips) (v23 : BitVec 32)
    (hw4 : k0_chk2 t v23) (k : Fin (k0_t13_loop t v23).trips) (hk : k.val ≤ t.val) (Q : ℕ → ℕ → Prop) (σ₀ : SS d) (hS : Staged I bb.val 5 σ₀)
    (h19 : V19 I bb.val t.val (t.val - k.val) Q 3 0 0 σ₀) (g : Fin k0_t20_loop.trips) (a) (σ : SS d) (hs : Keep [M20.view.ref] σ₀ σ ∧ W20 I bb.val t.val k.val g.val Q σ) :
    pwp C n (B20 (F := Ideal) bb a26 0#32 1#32 t v23 hw4 k g a) (fun _ s => Keep [M20.view.ref] σ₀ s ∧ W20 I bb.val t.val k.val (g.val + 1) Q s) σ := by
  have ht : t.val < 5 := t.2
  have hg : g.val < 8 := g.2
  have h19' : V19 I bb.val t.val (t.val - k.val) Q 3 0 0 σ := by unfold V19; rw [hs.1.rd M19 (by decide +kernel)]; exact h19
  have hS' : Staged I bb.val 5 σ := hS.keep hs.1 (by decide +kernel) (by decide +kernel) (by decide +kernel) (by decide +kernel)
  unfold B20 k0_t20_body
  refine ld (Or.inl rfl) fun va ha => ?_
  refine ld (Or.inl rfl) fun vb hb => ?_
  refine ld (Or.inl rfl) fun vc hc => ?_
  refine ld (Or.inl rfl) fun o ho => ?_
  refine ld (Or.inl rfl) fun w hw => ?_
  refine ld (Or.inl rfl) fun _ _ => ?_
  have ew : ∀ (y x : Fin 128), w (ix4 0 0 y x) = I.v bb.val ((t.val - k.val) * 128 + x.val) g.val y.val := by
    intro y x
    rw [hw, hS'.v _ (by simp [LoadRect.idx_apply, off30_eq _ _ _ hk]; omega)]
    simp [P12, LoadRect.idx_apply, off30_eq _ _ _ hk, ix4]
  refine pwp_put (fun i v => Q (i 0).val ((i 2).val % 128) → v = ocs I bb.val t.val (i 0).val ((i 2).val / 128) ((i 2).val % 128) (i 1).val (if (i 0).val < g.val + 1 then k.val + 1 else k.val))
    (fun i => (i 0).val ≠ g.val) (fun _ => True) (Or.inl rfl) (fun i hi hq => ?_) (fun j => ?_) (fun i _ h2 => mem_unit _ _ ?_) fun s1 k1 hw1 => pwp_pure ⟨hs.1.step (by simp) k1, fun i => hw1 i trivial⟩
  · rw [hs.2 i hq]
    have : ((i 0).val < g.val) = ((i 0).val < g.val + 1) := by apply propext; omega
    simp only [this]
  · have h0 : (j 0).val = 0 := by have : (j 0).val < 1 := (j 0).2; omega
    have e0 : (((Rect.unit (s := S8x128x384) (k0_off29 g) S1x128x384.size (k0_off29_inb g)).emb j 0).val) = g.val := by simp [Rect.emb_apply, off29_eq, h0]
    have e1 : (((Rect.unit (s := S8x128x384) (k0_off29 g) S1x128x384.size (k0_off29_inb g)).emb j 1).val) = (j 1).val := by simp [Rect.emb_apply, off29_eq]
    have e2 : (((Rect.unit (s := S8x128x384) (k0_off29 g) S1x128x384.size (k0_off29_inb g)).emb j 2).val) = (j 2).val := by simp [Rect.emb_apply, off29_eq]
    rw [e0, e1, e2]
    intro hq
    rw [pay45_col va vb vc o w (fun k' => av I bb.val t.val g.val ((j 2).val / 128) ((j 2).val % 128) (t.val - k.val) k') j
      (fun p q l h1 h2 => by rw [rd19 I bb.val t.val _ g.val 0 hg (by omega) Q σ h19' (off28_eq0 g) va ha p q l (h2 ▸ hq), h1, h2])
      (fun p q l h1 h2 => by rw [rd19 I bb.val t.val _ g.val 1 hg (by omega) Q σ h19' (off28_eq1 g) vb hb p q l (h2 ▸ hq), h1, h2])
      (fun p q l h1 h2 => by rw [rd19 I bb.val t.val _ g.val 2 hg (by omega) Q σ h19' (off28_eq2 g) vc hc p q l (h2 ▸ hq), h1, h2]), ho]
    show R M20 σ ((Rect.unit (s := S8x128x384) (k0_off29 g) S1x128x384.size (k0_off29_inb g)).emb j) + _ = _
    rw [hs.2 _ (by rw [e0, e2]; exact hq), e0, e1, e2, if_neg (by omega), if_pos (by omega)]
    unfold ocs
    rw [Finset.sum_range_succ]
    congr 1
    unfold oc
    exact Finset.sum_congr rfl fun x _ => congrArg (· * _) (ew (j 1) x)
  · rw [off29_eq]; exact cov20 g.val i (by by_contra h; exact (by assumption : ¬ (i 0).val ≠ g.val) h)

/-- The output is right where it is written, at the columns of `Q`. -/
def Q8 (I : Inp) (b t n : ℕ) (Q : ℕ → ℕ → Prop) (σ : SS d) : Prop :=
  ∀ i : S3x640x3072.Idx, D8 b t n i → Q ((i 2).val / 128 / 3) ((i 1).val % 128) → R M8 σ i = oV I (i 0).val (i 1).val ((i 2).val / 128) ((i 2).val % 128)

theorem run_t30 (I : Inp) (bb : Fin k0_t3_loop.trips) (a26 : BitVec 32) (t : Fin k0_t12_loop.trips)
    (g : Fin k0_t29_loop.trips) (Q : ℕ → ℕ → Prop) (σ₀ : SS d) (hI : Ins I σ₀)
    (h20 : ∀ i : S8x128x384.Idx, Q (i 0).val ((i 2).val % 128) → R M20 σ₀ i = ot I bb.val t.val (i 0).val ((i 2).val / 128) ((i 2).val % 128) (i 1).val)
    (k : Fin k0_t30_loop.trips) (a) (σ : SS d) (hs : Keep [M8.view.ref] σ₀ σ ∧ Q8 I bb.val t.val (g.val * 3 + k.val) Q σ) :
    pwp C n (B30 (F := Ideal) bb a26 0#32 1#32 t g k a) (fun _ s => Keep [M8.view.ref] σ₀ s ∧ Q8 I bb.val t.val (g.val * 3 + (k.val + 1)) Q s) σ := by
  have ht : t.val < 5 := t.2
  have hg : g.val < 8 := g.2
  have hk : k.val < 3 := k.2
  have hI' : Ins I σ := hI.keep hs.1 (by decide +kernel)
  unfold B30 k0_t30_body
  refine ld (Or.inl rfl) fun o ho => ?_
  refine sl (h1 := numel1_S1x1) (hp := rfl) (Or.inr rfl) fun w hw => ?_
  refine ld (Or.inl rfl) fun _ _ => ?_
  have ew : w = I.vs bb.val g.val := by
    rw [hw, hI'.h3]
    simp [Rect.point, Rect.emb_apply, off47_eq, Shape.Idx.first]
  refine pwp_put (fun i v => Q ((i 2).val / 128 / 3) ((i 1).val % 128) → v = oV I (i 0).val (i 1).val ((i 2).val / 128) ((i 2).val % 128)) (D8 bb.val t.val (g.val * 3 + k.val)) (D8 bb.val t.val (g.val * 3 + (k.val + 1))) (Or.inl rfl) hs.2
    (fun j => ?_) (fun i d1 d2 => mem_unit _ _ ?_) fun s1 k1 hw1 => pwp_pure ⟨hs.1.step (by simp) k1, hw1⟩
  · have h0 : (j 0).val = 0 := by have : (j 0).val < 1 := (j 0).2; omega
    have hj1 : (j 1).val < 128 := (j 1).2
    have hj2 : (j 2).val < 128 := (j 2).2
    have e0 : (((Rect.unit (s := S3x640x3072) (k0_off48 bb t g k) S1x128x128.size (k0_off48_inb bb t g k)).emb j 0).val) = bb.val := by simp [Rect.emb_apply, off48_eq, h0]
    have e1 : (((Rect.unit (s := S3x640x3072) (k0_off48 bb t g k) S1x128x128.size (k0_off48_inb bb t g k)).emb j 1).val) = t.val * 128 + (j 1).val := by simp [Rect.emb_apply, off48_eq]
    have e2 : (((Rect.unit (s := S3x640x3072) (k0_off48 bb t g k) S1x128x128.size (k0_off48_inb bb t g k)).emb j 2).val) = (g.val * 3 + k.val) * 128 + (j 2).val := by simp [Rect.emb_apply, off48_eq]
    rw [e0, e1, e2, show ((g.val * 3 + k.val) * 128 + (j 2).val) / 128 = g.val * 3 + k.val by omega, show ((g.val * 3 + k.val) * 128 + (j 2).val) % 128 = (j 2).val by omega]
    unfold oV
    rw [show (g.val * 3 + k.val) / 3 = g.val by omega, show (g.val * 3 + k.val) % 3 = k.val by omega,
      show (t.val * 128 + (j 1).val) / 128 = t.val by omega, show (t.val * 128 + (j 1).val) % 128 = (j 1).val by omega]
    intro hq
    have c1 : (k.val * 128 + (j 1).val) % 128 = (j 1).val := by omega
    rw [pay67_eq, ho, hs.1.rd M20 (by decide +kernel), h20 _ (by simp [LoadRect.idx_apply, off46_eq, ix3, c1, Nat.mod_eq_of_lt hj1]; exact hq), ew]
    simp [LoadRect.idx_apply, off46_eq, ix3]
    rw [show (k.val * 128 + (j 1).val) / 128 = k.val by omega, Nat.mod_eq_of_lt hj1]
  · rw [off48_eq]; exact cov8 bb.val t.val (g.val * 3 + k.val) (g.val * 3 + k.val) rfl i d1 d2

theorem run_t29 (I : Inp) (bb : Fin k0_t3_loop.trips) (a26 : BitVec 32) (t : Fin k0_t12_loop.trips) (Q : ℕ → ℕ → Prop)
    (σ₀ : SS d) (hI : Ins I σ₀)
    (h20 : ∀ i : S8x128x384.Idx, Q (i 0).val ((i 2).val % 128) → R M20 σ₀ i = ot I bb.val t.val (i 0).val ((i 2).val / 128) ((i 2).val % 128) (i 1).val)
    (k : Fin k0_t29_loop.trips) (a) (σ : SS d) (hs : Keep [M8.view.ref] σ₀ σ ∧ Q8 I bb.val t.val (k.val * 3) Q σ) :
    pwp C n (B29 (F := Ideal) bb a26 0#32 1#32 t k a) (fun _ s => Keep [M8.view.ref] σ₀ s ∧ Q8 I bb.val t.val ((k.val + 1) * 3) Q s) σ := by
  unfold B29 k0_t29_body
  refine pwp_for_bind (fun r _ s => Keep [M8.view.ref] σ₀ s ∧ Q8 I bb.val t.val (k.val * 3 + r) Q s) hs (fun k' a s hs' => run_t30 I bb a26 t k Q σ₀ hI h20 k' a s hs') fun _ s hs' => pwp_pure ?_
  have e : k0_t30_loop.trips = 3 := by decide +kernel
  rw [show (k.val + 1) * 3 = k.val * 3 + k0_t30_loop.trips by omega]; exact hs'

/-- The product, the sums and the weighted sums after `k` chunks, where nothing is marked. -/
def KK (I : Inp) (b t k : ℕ) (σ : SS d) : Prop :=
  K22 I b t k σ ∧ K21 I b t k σ ∧ W20 I b t k 0 (ok σ) σ

theorem run_t13 (I : Inp) (bb : Fin k0_t3_loop.trips) (a26 : BitVec 32) (t : Fin k0_t12_loop.trips) (v23 : BitVec 32)
    (hv : v23.toNat ≤ t.val) (hw4 : k0_chk2 t v23) (σ₀ : SS d) (hS : Staged I bb.val 5 σ₀) (h15 : F15 I bb.val σ₀) (h25 : F25 I σ₀)
    (k : Fin (k0_t13_loop t v23).trips) (a) (σ : SS d)
    (hs : Keep LC σ₀ σ ∧ Mk σ₀ σ ∧ KK I bb.val t.val k.val σ) :
    pwp C n (B13 (F := Ideal) bb a26 0#32 1#32 t v23 hw4 k a) (fun _ s => Keep LC σ₀ s ∧ Mk σ₀ s ∧ KK I bb.val t.val (k.val + 1) s) σ := by
  have ht : t.val < 5 := t.2
  have hb : bb.val < 3 := bb.2
  have hk : k.val ≤ t.val := by have := k.2; have e := trips13 t v23 hv; omega
  have hSσ : Staged I bb.val 5 σ := hS.keep hs.1 (by decide +kernel) (by decide +kernel) (by decide +kernel) (by decide +kernel)
  have e8 : k0_t14_loop.trips = 8 := by decide +kernel
  unfold B13 k0_t13_body
  refine pwp_for_bind (fun g _ s => Keep [M17.view.ref] σ s ∧ ∀ i, D17 g 0 i → P17 I bb.val t.val (t.val - k.val) i (R M17 s i))
    ⟨.refl _ _, fun i hi => absurd hi (by unfold D17; omega)⟩ (fun g a s hs' => run_t14 I bb.val bb a26 t v23 hw4 k hk σ hSσ g a s hs') fun _ s1 h1' => ?_
  have k1 : Keep LC σ₀ s1 := hs.1.trans (h1'.1.mono (by decide +kernel))
  have hS1 : Staged I bb.val 5 s1 := hS.keep k1 (by decide +kernel) (by decide +kernel) (by decide +kernel) (by decide +kernel)
  have h17 : F17 I bb.val t.val (t.val - k.val) s1 := fun i i1 i2 => h1'.2 i ⟨i1, i2, Or.inl (by omega)⟩
  refine ld (Or.inl rfl) fun v58 h58 => ?_
  refine ld (Or.inl rfl) fun v68 h68 => ?_
  refine ld (Or.inl rfl) fun _ _ => ?_
  refine pwp_put (fun i v => v = bi I bb.val t.val (i 1).val (t.val - k.val) (i 0).val) (fun _ => False) (fun _ => True) (Or.inl rfl) (fun _ h => h.elim) (fun j => ?_) (fun i _ _ => mem_unit _ _ ?_) fun s2 k2 h16 => ?_
  · rw [pay29_eq _ _ _ hk, h58, h68, k1.rd M25 (by decide +kernel), h25, hS1.s _ (by simp [LoadRect.idx_apply, off20_eq _ _ _ hk, ix3]; omega)]
    simp [LoadRect.idx_apply, Rect.emb_apply, off20_eq _ _ _ hk, off19_eq, ix3, ix2, bi, vis]
    rw [show (bb.val * 5 + t.val) / 5 = bb.val by omega, Nat.mod_eq_of_lt ht]
  · have := (i 0).2; have := (i 1).2
    simp [Fin.forall_fin_succ, S128x128] at *; omega
  have k2' : Keep [M16.view.ref] s1 s2 := (Keep.refl _ _).step (by simp) k2
  have K2 : Keep LC σ₀ s2 := k1.trans (k2'.mono (by decide +kernel))
  have Kσ2 : Keep [M17.view.ref, M16.view.ref] σ s2 := (h1'.1.mono (by decide +kernel)).trans (k2'.mono (by decide +kernel))
  have hM2 : Mk σ₀ s2 := hs.2.1.keep Kσ2 (by decide +kernel)
  refine pwp_for_bind (fun r _ s => Keep LF s2 s ∧ Mk s2 s ∧ G15 I bb.val t.val (t.val - k.val) (fun i => ∑ m ∈ Finset.range k.val, ch I bb.val t.val (i 1).val (i 0).val (i 2).val (t.val - m)) r s ∧ G21 I bb.val t.val (t.val - k.val) r s ∧ V19 I bb.val t.val (t.val - k.val) (ok s) r 0 0 s)
    ⟨.refl _ _, Mk.refl _ hM2.1, fun i hi => ?_, fun i hi => ?_, fun i hi => ?_⟩ (fun x a s hs' => run_t15 I bb.val t.val (t.val - k.val) _ bb a26 t s2 ?_ ?_ ?_ x a s hs') fun _ s3 h3 => ?_
  · rw [Kσ2.rd M22 (by decide +kernel), hs.2.2.1 i ((ok.keep Kσ2 (by decide +kernel) _ _).1 hi)]; simp
  · rw [Kσ2.rd M21 (by decide +kernel), hs.2.2.2.1 i ((ok.keep Kσ2 (by decide +kernel) _ _).1 hi)]
    simp [lft, bc_sub _ _ _ _ _ _ _ hk]
  · unfold E19 at hi; omega
  · unfold F15; rw [K2.rd M15 (by decide +kernel)]; exact h15
  · exact fun i => h16 i trivial
  · unfold F17; rw [k2'.rd M17 (by decide +kernel)]; exact h17
  have K3 : Keep LC σ₀ s3 := K2.trans (h3.1.mono (by decide +kernel))
  have hS3 : Staged I bb.val 5 s3 := hS.keep K3 (by decide +kernel) (by decide +kernel) (by decide +kernel) (by decide +kernel)
  have e3 : k0_t15_loop.trips = 3 := by decide +kernel
  have h30 := (congrArg (fun n => G15 I bb.val t.val (t.val - k.val) (fun i => ∑ m ∈ Finset.range k.val, ch I bb.val t.val (i 1).val (i 0).val (i 2).val (t.val - m)) n s3 ∧
    G21 I bb.val t.val (t.val - k.val) n s3 ∧ V19 I bb.val t.val (t.val - k.val) (ok s3) n 0 0 s3) e3).mp h3.2.2
  have hok : ∀ g l, ok s3 g l → ok σ g l := fun g l o => (ok.keep Kσ2 (by decide +kernel) _ _).1 (h3.2.1.2 g l o)
  have K23 : Keep (M17.view.ref :: M16.view.ref :: LF) σ s3 := (Kσ2.mono (by decide +kernel)).trans (h3.1.mono (by decide +kernel))
  refine pwp_for_bind (fun g _ s => Keep [M20.view.ref] s3 s ∧ W20 I bb.val t.val k.val g (ok s3) s) ⟨.refl _ _, fun i hq => ?_⟩
    (fun g a s hs' => run_t20 I bb a26 t v23 hw4 k hk (ok s3) s3 hS3 h30.2.2 g a s hs') fun _ s4 h4 => ?_
  · rw [K23.rd M20 (by decide +kernel)]; exact hs.2.2.2.2 i (hok _ _ hq)
  refine pwp_pure ⟨K3.trans (h4.1.mono (by decide +kernel)), (hM2.trans h3.2.1).keep h4.1 (by decide +kernel), fun i hi => ?_, fun i hi => ?_, fun i hi => ?_⟩
  · have h0 : (i 0).val < 3 := (i 0).2
    rw [h4.1.rd M22 (by decide +kernel), h30.1 i ((ok.keep h4.1 (by decide +kernel) _ _).1 hi), if_pos h0, Finset.sum_range_succ]
  · have h0 : (i 0).val < 3 := (i 0).2
    rw [h4.1.rd M21 (by decide +kernel), h30.2.1 i ((ok.keep h4.1 (by decide +kernel) _ _).1 hi), if_pos h0]
    unfold lft
    rw [ch_eq, bc_sub _ _ _ _ _ _ _ hk, Finset.sum_range_succ]
  · have h0 : (i 0).val < 8 := (i 0).2
    have h8 : k0_t20_loop.trips = 8 := by decide +kernel
    rw [h4.2 i ((ok.keep h4.1 (by decide +kernel) _ _).1 hi), if_pos (by omega), if_neg (by omega)]

theorem run_p1 (I : Inp) (hG : Good I) (bb : Fin k0_t3_loop.trips) (a26 : BitVec 32) (t : Fin k0_t12_loop.trips)
    (σ₀ : SS d) (hI : Ins I σ₀) (hS : Staged I bb.val 5 σ₀) (h15 : F15 I bb.val σ₀) (h25 : F25 I σ₀) (hM : Mk σ₀ σ₀) (h8 : Q8 I bb.val t.val 0 (ok σ₀) σ₀) :
    pwp (callsV d I) 10 (P1 (F := Ideal) bb a26 0#32 1#32 t) (fun _ s => Keep LT σ₀ s ∧ Mk σ₀ s ∧ Q8 I bb.val t.val 24 (ok s) s ∧
      ∀ i : S3x8x128.Idx, ok s (i 1).val (i 2).val → R M22 s i = tot I bb.val t.val (i 1).val (i 0).val (i 2).val) σ₀ := by
  have ht : t.val < 5 := t.2
  have hb : bb.val < 3 := bb.2
  unfold P1; rw [k0_part1_eq_skeleton]; unfold k0_part1_skel
  refine sl (h1 := numel1_S1x1) (hp := rfl) (Or.inr rfl) fun v22 h22 => ?_
  have e22 : v22 = I.segS bb.val (t.val * 128) := by
    rw [h22, hI.h0]
    simp [Rect.point, Rect.emb_apply, off14_eq, Shape.Idx.first]
  refine ⟨⟨⟨Or.inr rfl, iv_le' _⟩, hI.h0⟩, lt_of_le_of_lt (iv_le' _) (lt_of_lt_of_le t.2 (by decide)), fun v23 hr => ?_⟩
  obtain ⟨hv, hne⟩ : v23.toNat ≤ t.val ∧ (v23.toNat = 0 ∨ I.segS bb.val (v23.toNat * 128 - 1) ≠ v22) := hr
  refine ⟨chk2_of _ hv, ?_⟩
  refine ld (Or.inl rfl) fun _ _ => ?_
  refine pwp_put (fun i v => v = 1) (fun _ => False) (fun _ => True) (Or.inl rfl) (fun _ h => h.elim) (fun j => (pay22_eq j).trans one_eq) (fun i _ _ => mem_unit _ _ ?_) fun s1 k1 p1 => ?_
  · have := (i 0).2; have := (i 1).2; have := (i 2).2
    simp [Fin.forall_fin_succ, S3x8x128] at *; omega
  refine ld (Or.inl rfl) fun _ _ => ?_
  refine pwp_put (fun i v => v = 0) (fun _ => False) (fun _ => True) (Or.inl rfl) (fun _ h => h.elim) (fun j => pay23_eq j) (fun i _ _ => mem_unit _ _ ?_) fun s2 k2 h2 => ?_
  · have := (i 0).2; have := (i 1).2; have := (i 2).2
    simp [Fin.forall_fin_succ, S3x8x128] at *; omega
  refine ld (Or.inl rfl) fun _ _ => ?_
  refine pwp_put (fun i v => v = 0) (fun _ => False) (fun _ => True) (Or.inl rfl) (fun _ h => h.elim) (fun j => pay24_eq j) (fun i _ _ => mem_unit _ _ ?_) fun s3 k3 p3 => ?_
  · have := (i 0).2; have := (i 1).2; have := (i 2).2
    simp [Fin.forall_fin_succ, S8x128x384] at *; omega
  have K3' : Keep [M20.view.ref, M21.view.ref, M22.view.ref] σ₀ s3 := (((Keep.refl _ _).step (by simp) k1).step (by simp) k2).step (by simp) k3
  have K3 : Keep LC σ₀ s3 := K3'.mono (by decide +kernel)
  have K23 : Keep [M20.view.ref] s2 s3 := (Keep.refl _ _).step (by simp) k3
  have K13 : Keep [M22.view.ref, M20.view.ref] s1 s3 := ((Keep.refl _ _).step (by simp) k2).step (by simp) k3
  refine pwp_for_bind (fun k _ s => Keep LC σ₀ s ∧ Mk σ₀ s ∧ KK I bb.val t.val k s) ⟨K3, hM.keep K3' (by decide +kernel), fun i _ => ?_, fun i _ => ?_, fun i _ => ?_⟩
    (fun k a s hs' => run_t13 I bb a26 t v23 hv _ σ₀ hS h15 h25 k a s hs') fun _ s4 h4 => ?_
  · rw [K23.rd M22 (by decide +kernel), h2 i trivial]; simp
  · rw [K13.rd M21 (by decide +kernel), p1 i trivial, Finset.sum_range_zero, neg_zero]
    exact (show (1 : EReal) = ((((2 : ℝ) ^ (0 : ℝ) : ℝ)) : EReal) by simp).trans (exp2_real 0).symm
  · rw [p3 i trivial]; simp [ocs]
  refine pwp_for_bind (fun k _ s => s = s4) rfl
    (fun k a s hs' => absurd k.2 (by have := trips21 t v23 hv; omega)) fun _ s5 h5 => ?_
  subst h5
  rw [e22] at hne
  rw [trips13 t v23 hv] at h4
  have h20 : ∀ i : S8x128x384.Idx, ok s5 (i 0).val ((i 2).val % 128) → R M20 s5 i = ot I bb.val t.val (i 0).val ((i 2).val / 128) ((i 2).val % 128) (i 1).val := fun i hq => by
    rw [h4.2.2.2.2 i hq, if_neg (by omega)]
    exact ot_eq I hG _ _ _ _ _ _ _ hb ht (Nat.mod_lt _ (by norm_num)) hv hne
  refine pwp_for_bind (fun k _ s => Keep [M8.view.ref] s5 s ∧ Q8 I bb.val t.val (k * 3) (ok s5) s) ⟨.refl _ _, fun i hi hq => ?_⟩
    (fun k a s hs' => run_t29 I bb a26 t (ok s5) s5 (hI.keep h4.1 (by decide +kernel)) h20 k a s hs') fun _ s6 h6 => ?_
  · rw [h4.1.rd M8 (by decide +kernel)]; exact h8 i (by simpa using hi) (h4.2.1.2 _ _ hq)
  rw [show k0_t29_loop.trips * 3 = 24 from by decide +kernel] at h6
  refine pwp_pure ⟨(h4.1.mono (by decide +kernel)).trans (h6.1.mono (by decide +kernel)), h4.2.1.keep h6.1 (by decide +kernel), fun i hi hq => h6.2 i hi ((ok.keep h6.1 (by decide +kernel) _ _).1 hq), fun i hi => ?_⟩
  rw [h6.1.rd M22 (by decide +kernel), h4.2.2.1 i ((ok.keep h6.1 (by decide +kernel) _ _).1 hi)]
  exact tot_eq I hG _ _ _ _ _ _ hb ht (i 2).2 hv hne

theorem run_t31 (A : ℕ → ℕ → Prop) (X : ℕ → ℕ → ℕ → EReal) (σ₀ : SS d) (h22 : ∀ i : S3x8x128.Idx, A (i 1).val (i 2).val → R M22 σ₀ i = X (i 1).val (i 0).val (i 2).val)
    (r : Fin k0_t31_loop.trips) (a) (σ : SS d)
    (hs : Keep [M24.view.ref] σ₀ σ ∧ ∀ i : S24x128.Idx, (i 0).val % 3 < r.val → A ((i 0).val / 3) (i 1).val → R M24 σ i = X ((i 0).val / 3) ((i 0).val % 3) (i 1).val * cNL) :
    pwp C n (B31 (F := Ideal) r a) (fun _ s => Keep [M24.view.ref] σ₀ s ∧ ∀ i : S24x128.Idx, (i 0).val % 3 < r.val + 1 → A ((i 0).val / 3) (i 1).val → R M24 s i = X ((i 0).val / 3) ((i 0).val % 3) (i 1).val * cNL) σ := by
  have hr : r.val < 3 := r.2
  unfold B31 k0_t31_body
  refine ld (Or.inl rfl) fun v54 h54 => ?_
  refine ld (Or.inl rfl) fun _ _ => ?_
  refine pwp_put (fun i v => A ((i 0).val / 3) (i 1).val → v = X ((i 0).val / 3) ((i 0).val % 3) (i 1).val * cNL) (fun i => (i 0).val % 3 < r.val) (fun i => (i 0).val % 3 < r.val + 1)
    (Or.inl rfl) hs.2 (fun j => ?_) (fun i hi hn => (LoadRect.mem_set _).2 ?_) fun s1 k1 h1 => pwp_pure ⟨hs.1.step (by simp) k1, h1⟩
  · show A ((k0_off50 r 0 + 3 * (j 0).val) / 3) (k0_off50 r 1 + 1 * (j 1).val) → _ = X ((k0_off50 r 0 + 3 * (j 0).val) / 3) ((k0_off50 r 0 + 3 * (j 0).val) % 3) (k0_off50 r 1 + 1 * (j 1).val) * cNL
    have e0 : k0_off50 r 0 = r.val := by rw [off50_eq]; rfl
    have e0' : k0_off50 r 1 = 0 := by rw [off50_eq]; rfl
    have e1 : (r.val + 3 * (j 0).val) / 3 = (j 0).val := by omega
    have e2 : (r.val + 3 * (j 0).val) % 3 = r.val := by omega
    rw [e0, e0', e1, e2, Nat.zero_add, Nat.one_mul]
    intro hA
    rw [pay10_eq, h54, hs.1.rd M22 (by decide +kernel), h22 _ (by simp [LoadRect.idx_apply, off49_eq, ix3]; exact hA)]
    simp [LoadRect.idx_apply, off49_eq, ix3]
  · have h0 : (i 0).val < 24 := (i 0).2
    have h1 : (i 1).val < 128 := (i 1).2
    refine Fin.forall_fin_succ.2 ⟨⟨(i 0).val / 3, ?_, ?_⟩, Fin.forall_fin_succ.2 ⟨⟨(i 1).val, ?_, ?_⟩, fun a => a.elim0⟩⟩
    · show (i 0).val / 3 < 8; omega
    · show (i 0).val = k0_off50 r 0 + 3 * ((i 0).val / 3)
      rw [off50_eq]; simp; omega
    · exact h1
    · show (i 1).val = k0_off50 r 1 + 1 * (i 1).val
      rw [off50_eq]; simp

/-- The result is right where it is written and nothing is marked. -/
def E9 (I : Inp) (b t : ℕ) (σ : SS d) : Prop :=
  ∀ i : S3x24x640.Idx, D9 b t i → ok σ ((i 1).val / 3) ((i 2).val % 128) → R M9 σ i = lrV I (i 0).val (i 1).val (i 2).val

theorem run_t12 (I : Inp) (hG : Good I) (bb : Fin k0_t3_loop.trips) (a26 : BitVec 32)
    (σ₀ : SS d) (hI : Ins I σ₀) (hS : Staged I bb.val 5 σ₀) (h15 : F15 I bb.val σ₀) (h25 : F25 I σ₀) (t : Fin k0_t12_loop.trips) (a) (σ : SS d)
    (hs : Keep L41 σ₀ σ ∧ Mk σ₀ σ ∧ E9 I bb.val t.val σ ∧ Q8 I bb.val t.val 0 (ok σ) σ) :
    pwp (callsV d I) 10 (B12 (F := Ideal) bb a26 t a) (fun _ s => Keep L41 σ₀ s ∧ Mk σ₀ s ∧ E9 I bb.val (t.val + 1) s ∧ Q8 I bb.val (t.val + 1) 0 (ok s) s) σ := by
  have ht : t.val < 5 := t.2
  have hb : bb.val < 3 := bb.2
  unfold B12 k0_t12_body
  refine pwp_seq (run_p1 I hG bb a26 t σ (hI.keep hs.1 (by decide +kernel)) (hS.keep hs.1 (by decide +kernel) (by decide +kernel) (by decide +kernel) (by decide +kernel))
    (by unfold F15; rw [hs.1.rd M15 (by decide +kernel)]; exact h15) (by unfold F25; rw [hs.1.rd M25 (by decide +kernel)]; exact h25) (Mk.refl _ hs.2.1.1) hs.2.2.2) ?_
  rintro ⟨_, _⟩ s1 ⟨k1, hM1, h8, h22⟩
  refine pwp_for_bind (fun r _ s => Keep [M24.view.ref] s1 s ∧ ∀ i : S24x128.Idx, (i 0).val % 3 < r → ok s1 ((i 0).val / 3) (i 1).val → R M24 s i = tot I bb.val t.val ((i 0).val / 3) ((i 0).val % 3) (i 1).val * cNL)
    ⟨.refl _ _, fun i hi => absurd hi (by omega)⟩ (fun r a s hs' => run_t31 (ok s1) (tot I bb.val t.val) s1 h22 r a s hs') fun _ s2 h2 => ?_
  have K2 : Keep L41 σ s2 := (k1.mono (by decide +kernel)).trans (h2.1.mono (by decide +kernel))
  have K2' : Keep (M24.view.ref :: LT) σ s2 := (k1.mono (by decide +kernel)).trans (h2.1.mono (by decide +kernel))
  have hM2 : Mk σ s2 := hM1.keep h2.1 (by decide +kernel)
  refine ld (Or.inl rfl) fun v47 h47 => ?_
  refine ld (Or.inl rfl) fun _ _ => ?_
  refine pwp_put (fun i v => ok s2 ((i 1).val / 3) ((i 2).val % 128) → v = lrV I (i 0).val (i 1).val (i 2).val) (D9 bb.val t.val) (D9 bb.val (t.val + 1)) (Or.inl rfl) (fun i hi ho => ?_) (fun j => ?_) (fun i hi hn => mem_unit _ _ ?_)
    fun s3 k3 h3 => ?_
  · rw [K2'.rd M9 (by decide +kernel)]; exact hs.2.2.1 i hi (hM2.2 _ _ ho)
  · have hj : (j 2).val < 128 := (j 2).2
    have e0 : (j 0).val = 0 := by have : (j 0).val < 1 := (j 0).2; omega
    have e1 : (t.val * 128 + (j 2).val) / 128 = t.val := by omega
    have e2 : (t.val * 128 + (j 2).val) % 128 = (j 2).val := by omega
    intro ho
    simp only [Rect.emb_apply, off51_eq] at ho
    simp [e2] at ho
    rw [pay11_eq, h47, h2.2 _ (by rw [show k0_t31_loop.trips = 3 from by decide +kernel]; omega) (by simp [LoadRect.idx_apply, ix2]; exact (ok.keep h2.1 (by decide +kernel) _ _).1 ho)]
    simp [LoadRect.idx_apply, Rect.emb_apply, off51_eq, ix2, lrV]
    rw [e1, Nat.mod_eq_of_lt hj, e0, Nat.add_zero]
  · have h0 : (i 0).val < 3 := (i 0).2
    have h1 : (i 1).val < 24 := (i 1).2
    unfold D9 at hi hn
    rw [off51_eq]
    simp [Fin.forall_fin_succ, S3x24x640, S1x24x128] at *; omega
  have K23 : Keep [M9.view.ref] s2 s3 := (Keep.refl _ _).step (by simp) k3
  refine pwp_pure ⟨(hs.1.trans K2).step (by decide +kernel) k3, (hs.2.1.trans hM2).keep K23 (by decide +kernel), fun i hi ho => h3 i hi ((ok.keep K23 (by decide +kernel) _ _).1 ho), fun i hi ho => ?_⟩
  have K13 : Keep [M24.view.ref, M9.view.ref] s1 s3 := (h2.1.mono (by decide +kernel)).step (by simp) k3
  rw [K13.rd M8 (by decide +kernel)]
  exact h8 i (D8.next hi) ((ok.keep K13 (by decide +kernel) _ _).1 ho)

/-! ### A batch -/

theorem run_t3 (I : Inp) (hG : Good I) (σ₀ : SS d) (hI : Ins I σ₀) (h25 : F25 I σ₀)
    (b : Fin k0_t3_loop.trips) (a) (σ : SS d) (hs : Keep L32 σ₀ σ ∧ Mk σ₀ σ ∧ E9 I b.val 0 σ ∧ Q8 I b.val 0 0 (ok σ) σ) :
    pwp (callsV d I) 10 (B3 (F := Ideal) b a) (fun _ s => Keep L32 σ₀ s ∧ Mk σ₀ s ∧ E9 I (b.val + 1) 0 s ∧ Q8 I (b.val + 1) 0 0 (ok s) s) σ := by
  have hI' : Ins I σ := hI.keep hs.1 (by decide +kernel)
  have h25' : F25 I σ := by unfold F25; rw [hs.1.rd M25 (by decide +kernel)]; exact h25
  unfold B3 k0_t3_body
  refine pwp_for_bind (fun k _ s => Keep [M15.view.ref] σ s ∧ ∀ i : S3x8x128.Idx, (i 0).val < k → P15 I b i (R M15 s i))
    ⟨.refl _ _, fun i hi => absurd hi (by omega)⟩ (fun k a s hs' => run_t4 I b σ hI' k a s hs') fun _ s1 c1 => ?_
  have hI1 : Ins I s1 := hI'.keep c1.1 (by decide +kernel)
  have h251 : F25 I s1 := by unfold F25; rw [c1.1.rd M25 (by decide +kernel)]; exact h25'
  refine pwp_for_bind (fun t _ s => Keep LS s1 s ∧ Staged I b t s) ⟨.refl _ _, ?_⟩ (fun t a s hs' => run_t6 I b s1 hI1 h251 t a s hs') fun _ s2 c2 => ?_
  · constructor <;> exact fun i hi => absurd hi (by omega)
  have h152 : F15 I b.val s2 := by
    unfold F15; rw [c2.1.rd M15 (by decide +kernel)]; exact fun i => c1.2 i (i 0).2
  have hI2 : Ins I s2 := hI1.keep c2.1 (by decide +kernel)
  have h252 : F25 I s2 := by unfold F25; rw [c2.1.rd M25 (by decide +kernel)]; exact h251
  have hS2 : Staged I b.val 5 s2 := c2.2
  have K2 : Keep [M15.view.ref, M10.view.ref, M11.view.ref, M12.view.ref, M14.view.ref] σ s2 := (c1.1.mono (by decide +kernel)).trans (c2.1.mono (by decide +kernel))
  have hM2 : Mk σ₀ s2 := hs.2.1.keep K2 (by decide +kernel)
  refine pwp_for_bind (fun t _ s => Keep L41 s2 s ∧ Mk s2 s ∧ E9 I b.val t s ∧ Q8 I b.val t 0 (ok s) s) ⟨.refl _ _, Mk.refl _ hM2.1, ?_, fun i hi ho => ?_⟩ (fun t a s hs' => run_t12 I hG b _ s2 hI2 hS2 h152 h252 t a s hs') fun _ s3 c3 => ?_
  · unfold E9 ok; rw [K2.rd M9 (by decide +kernel), K2.rd M23 (by decide +kernel)]; exact hs.2.2.1
  · rw [K2.rd M8 (by decide +kernel)]; exact hs.2.2.2 i hi ((ok.keep K2 (by decide +kernel) _ _).1 ho)
  have e5 : k0_t12_loop.trips = 5 := by decide +kernel
  rw [e5] at c3
  refine pwp_pure ⟨hs.1.trans ((K2.mono (by decide +kernel)).trans (c3.1.mono (by decide +kernel))), hM2.trans c3.2.1, fun i hi => c3.2.2.1 i ?_, fun i hi => c3.2.2.2 i ?_⟩
  · have h2 : (i 2).val < 640 := (i 2).2
    unfold D9 at hi ⊢; omega
  · have h2 : (i 1).val < 640 := (i 1).2
    unfold D8 at hi ⊢; omega

end Cert.KernelIdeal.Hand.PA

end
-- ==== Proof.Body.lean ====
/-
  The whole body: the first pass, and the second where an overflow is marked.
-/
module

public import proofs.«01_k».proof.Proof.FastTile

@[expose] public section

set_option maxRecDepth 16384

noncomputable section

namespace Cert.KernelIdeal.Hand.PA

open Idealize.ShloMosaic Idealize.ShloMosaic.TcCoe Idealize.SL.Sem Cert.Seq Cert.Val Cert.KernelIdeal.Gen Cert.KernelIdeal.Hand.PB

variable {d : Dev nD} {C : Calls (sig := sig) (Elt Ideal) (Λ₀ Ideal) (d : Thread nD τ)} {n : ℕ}

theorem le_pay12 (v : Vec Ideal S8x128 .f32) (j : S8x128.Idx) : v j ≤ k0_pay12 (F := Ideal) v := by
  pointwise [k0_pay12]
  exact (Finset.le_fold_max _).2 (Or.inr ⟨(j 0, j 1), Finset.mem_univ _, by rw [← eq_ix2 j]⟩)

theorem cond_of (v : Vec Ideal S8x128 .f32) (j : S8x128.Idx) (h : v j = 1) :
    k0_cond1 (Scalar.cmpf (F := Ideal) (φ := .f32) .ogt (k0_pay12 (F := Ideal) v) (Scalar.ofBits .f32 0x00000000#32)) = 1#1 := by
  have h0 : (0 : EReal) < k0_pay12 (F := Ideal) v := lt_of_lt_of_le zero_lt_one (h ▸ le_pay12 v j)
  have e : Scalar.cmpf (F := Ideal) (φ := .f32) .ogt (k0_pay12 (F := Ideal) v) (Scalar.ofBits .f32 0x00000000#32) = 1#1 := by
    have : ∀ x : EReal, 0 < x → Scalar.cmpf (F := Ideal) (φ := .f32) .ogt x (Scalar.ofBits .f32 0x00000000#32) = 1#1 := fun x hx => by
      show Ideal.cmp .ogt x (Ideal.ofBits .f32 0x00000000#32) = 1#1
      rw [Ideal.ofBits_zero_f32]; simp [Ideal.cmp, hx]
    exact this _ h0
  rw [e]; decide +kernel

theorem pay2_eq (v : Vec Ideal S1x128 .i32) (j : S1x128.Idx) : k0_pay2 (F := Ideal) v j = v j := by
  pointwise [k0_pay2]

theorem off1_eq (b : Fin k0_t1_loop.trips) (t : Fin k0_t2_loop.trips) : k0_off1 b t = ![b.val, t.val * 128] := by revert b t; decide +kernel
theorem off2_eq (b : Fin k0_t1_loop.trips) (t : Fin k0_t2_loop.trips) : k0_off2 b t = ![b.val * 5 + t.val, 0] := by revert b t; decide +kernel

/-- The rows of the segment ids below `n` are copied. -/
def N25 (I : Inp) (n : ℕ) (σ : SS d) : Prop := ∀ i : S15x128.Idx, (i 0).val < n → R M25 σ i = I.seg ((i 0).val / 5) ((i 0).val % 5 * 128 + (i 1).val)

theorem run_t2 (I : Inp) (σ₀ : SS d) (hI : Ins I σ₀) (b : Fin k0_t1_loop.trips) (t : Fin k0_t2_loop.trips) (a) (σ : SS d)
    (hs : Keep [M25.view.ref] σ₀ σ ∧ N25 I (b.val * 5 + t.val) σ) :
    pwp C n (B2 (F := Ideal) b t a) (fun _ s => Keep [M25.view.ref] σ₀ s ∧ N25 I (b.val * 5 + (t.val + 1)) s) σ := by
  have hb : b.val < 3 := b.2
  have ht : t.val < 5 := t.2
  unfold B2 k0_t2_body
  refine ld (Or.inl rfl) fun v h => ?_
  refine ld (Or.inl rfl) fun _ _ => ?_
  refine pwp_put (fun i v => v = I.seg ((i 0).val / 5) ((i 0).val % 5 * 128 + (i 1).val)) (fun i => (i 0).val < b.val * 5 + t.val) (fun i => (i 0).val < b.val * 5 + (t.val + 1))
    (Or.inl rfl) hs.2 (fun j => ?_) (fun i hi hn => mem_unit _ _ ?_) fun s1 k1 h1 => pwp_pure ⟨hs.1.step (by simp) k1, h1⟩
  · have hj : (j 0).val = 0 := by have : (j 0).val < 1 := (j 0).2; omega
    rw [pay2_eq, h, hs.1.rd M7 (by decide +kernel), hI.h7]
    simp [LoadRect.idx_apply, Rect.emb_apply, off1_eq, off2_eq, hj]
    rw [show (b.val * 5 + t.val) / 5 = b.val by omega, Nat.mod_eq_of_lt ht]
  · have := (i 1).2
    rw [off2_eq]
    simp [Fin.forall_fin_succ, S15x128, S1x128] at *; omega

theorem run_t1 (I : Inp) (σ₀ : SS d) (hI : Ins I σ₀) (b : Fin k0_t1_loop.trips) (a) (σ : SS d)
    (hs : Keep [M25.view.ref] σ₀ σ ∧ N25 I (b.val * 5) σ) :
    pwp C n (B1 (F := Ideal) b a) (fun _ s => Keep [M25.view.ref] σ₀ s ∧ N25 I ((b.val + 1) * 5) s) σ := by
  unfold B1 k0_t1_body
  refine pwp_for_bind (fun t _ s => Keep [M25.view.ref] σ₀ s ∧ N25 I (b.val * 5 + t) s) hs (fun t a s hs' => run_t2 I σ₀ hI b t a s hs') fun _ s h => pwp_pure ⟨h.1, ?_⟩
  have e5 : k0_t2_loop.trips = 5 := by decide +kernel
  rw [show (b.val + 1) * 5 = b.val * 5 + k0_t2_loop.trips by omega]; exact h.2

/-- What the body changes. -/
def LB : List (Ref sig .tc) := M25.view.ref :: L32

/-- The body leaves both results at their values, at every query. -/
theorem run_body (I : Inp) (hG : Good I) (σ : SS d) (hI : Ins I σ) :
    pwp (callsV d I) 10 (Body (F := Ideal)) (fun _ s => Keep LB σ s ∧ (∀ i : S3x24x640.Idx, R M9 s i = lrV I (i 0).val (i 1).val (i 2).val) ∧
      ∀ i : S3x640x3072.Idx, R M8 s i = oV I (i 0).val (i 1).val ((i 2).val / 128) ((i 2).val % 128)) σ := by
  unfold Body; rw [cc0_stick_breaking_eq_skeleton]; unfold cc0_stick_breaking_skel
  refine ld (Or.inl rfl) fun _ _ => ?_
  refine pwp_put (fun i v => v = 0) (fun _ => False) (fun _ => True) (Or.inl rfl) (fun _ h => h.elim) (fun j => pay1_eq j) (fun i _ _ => mem_unit _ _ ?_) fun s1 k1 h1 => ?_
  · have := (i 0).2; have := (i 1).2
    simp [Fin.forall_fin_succ, S8x128] at *; omega
  have K1 : Keep [M23.view.ref] σ s1 := (Keep.refl _ _).step (by simp) k1
  have hI1 : Ins I s1 := hI.keep K1 (by decide +kernel)
  refine pwp_for_bind (fun b _ s => Keep [M25.view.ref] s1 s ∧ N25 I (b * 5) s) ⟨.refl _ _, fun i hi => absurd hi (by omega)⟩ (fun b a s hs' => run_t1 I s1 hI1 b a s hs') fun _ s2 h2 => ?_
  have hI2 : Ins I s2 := hI1.keep h2.1 (by decide +kernel)
  have h25 : F25 I s2 := fun i => h2.2 i (by have : (i 0).val < 15 := (i 0).2; rw [show k0_t1_loop.trips = 3 from by decide +kernel]; omega)
  have hM2 : Mk s2 s2 := Mk.refl _ (fun i => Or.inl (by rw [h2.1.rd M23 (by decide +kernel)]; exact h1 i trivial))
  refine pwp_for_bind (fun b _ s => Keep L32 s2 s ∧ Mk s2 s ∧ E9 I b 0 s ∧ Q8 I b 0 0 (ok s) s) ⟨.refl _ _, hM2, fun i hi => absurd hi (by unfold D9; omega), fun i hi => absurd hi (by unfold D8; omega)⟩ (fun b a s hs' => run_t3 I hG s2 hI2 h25 b a s hs') fun _ s3 h3 => ?_
  have hI3 : Ins I s3 := hI2.keep h3.1 (by decide +kernel)
  have h253 : F25 I s3 := by unfold F25; rw [h3.1.rd M25 (by decide +kernel)]; exact h25
  have K3 : Keep LB σ s3 := (K1.mono (by decide +kernel)).trans ((h2.1.mono (by decide +kernel)).trans (h3.1.mono (by decide +kernel)))
  have hD8 : ∀ i : S3x640x3072.Idx, D8 3 0 0 i := fun i => Or.inl (i 0).2
  have hD : ∀ i : S3x24x640.Idx, D9 3 0 i := fun i => Or.inl (i 0).2
  refine ld (Or.inl rfl) fun v7 h7 => ?_
  have h7' : ∀ j : S8x128.Idx, v7 j = R M23 s3 j := fun j => by
    rw [h7]; congr 1; funext a; apply Fin.ext; revert a
    refine Fin.forall_fin_succ.2 ⟨?_, Fin.forall_fin_succ.2 ⟨?_, fun a => a.elim0⟩⟩ <;> simp [LoadRect.idx_apply]
  dsimp only
  split
  · rename_i hc
    refine pwp_for_bind (fun b _ s => Keep L32 s3 s ∧ F9 I b 0 s ∧ F8 I b 0 0 s) ⟨.refl _ _, fun i hi => absurd hi (by unfold D9; omega), fun i hi => absurd hi (by unfold D8; omega)⟩ (fun b a s hs' => run_t32 I hG _ hc s3 hI3 h253 b a s hs') fun _ s4 h4 => ?_
    exact pwp_pure ⟨K3.trans (h4.1.mono (by decide +kernel)), fun i => h4.2.1 i (hD i), fun i => h4.2.2 i (hD8 i)⟩
  · rename_i hc
    refine pwp_seq (R := fun _ s => s = s3) (pwp_pure rfl) fun _ s h => ?_
    subst h
    have hok : ∀ g l, ok s g l := fun g l j _ _ => by
      rcases h3.2.1.1 j with h | h
      · exact h
      · exfalso
        exact hc (cond_of v7 j (by rw [h7', h]))
    exact pwp_pure ⟨K3, fun i => h3.2.2.1 i (hD i) (hok _ _), fun i => h3.2.2.2 i (hD8 i) (hok _ _)⟩

end Cert.KernelIdeal.Hand.PA

end
-- ==== Proof.LaunchValue.lean ====
/-
  The launch with the values: the two results end at the values the body leaves in them.
-/
module

public import proofs.«01_k».proof.Proof.LaunchKernelIdeal
public import proofs.«01_k».proof.Proof.Body
public import Idealize.ShloMosaic.Lib.Pipeline.ValueKit.Geometry

@[expose] public section

set_option maxRecDepth 16384

noncomputable section

namespace Cert.KernelIdeal.LV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Hand hiding frame
open Cert.KernelIdeal.Gen Cert.Seq Cert.Val Cert.KernelIdeal.Hand.PB Cert.KernelIdeal.Hand.PA

local notation "𝕄" => MT nD τ sig Unit (Elt Ideal) ℕ (UR sig nD τ) ℕ

/-- An array of two axes at two numbers. -/
def g2 {α : Type} {a b : ℕ} (z : α) (f : (⟨2, ![a, b]⟩ : Shape).Idx → α) (x y : ℕ) : α :=
  if h : x < a ∧ y < b then f (ix2 ⟨x, h.1⟩ ⟨y, h.2⟩) else z
/-- An array of four axes at four numbers. -/
def g4 {α : Type} {a b c d : ℕ} (z : α) (f : (⟨4, ![a, b, c, d]⟩ : Shape).Idx → α) (x y u v : ℕ) : α :=
  if h : x < a ∧ y < b ∧ u < c ∧ v < d then f (ix4 ⟨x, h.1⟩ ⟨y, h.2.1⟩ ⟨u, h.2.2.1⟩ ⟨v, h.2.2.2⟩) else z

theorem g2_eq {α : Type} {a b : ℕ} (z : α) (f : (⟨2, ![a, b]⟩ : Shape).Idx → α) (x : Fin a) (y : Fin b) : g2 z f x.val y.val = f (ix2 x y) := by
  unfold g2; rw [dif_pos ⟨x.2, y.2⟩]
theorem g4_eq {α : Type} {a b c d : ℕ} (z : α) (f : (⟨4, ![a, b, c, d]⟩ : Shape).Idx → α) (x : Fin a) (y : Fin b) (u : Fin c) (v : Fin d) :
    g4 z f x.val y.val u.val v.val = f (ix4 x y u v) := by
  unfold g4; rw [dif_pos ⟨x.2, y.2, u.2, v.2⟩]

variable (m : (ℓ : Loc nD τ sig) → Buf (Elt Ideal) ℓ) (ρ : Dev nD → PrngReg)

/-- The arguments, at numbers. -/
def inp (c : Dev nD) : Inp where
  segS := g2 (a := 3) (b := 640) (0 : BitVec 32) (m ((c : Thread nD τ).loc main_arg6))
  qs := g2 (a := 3) (b := 24) (0 : EReal) (m ((c : Thread nD τ).loc main_arg1))
  ks := g2 (a := 3) (b := 8) (0 : EReal) (m ((c : Thread nD τ).loc main_arg3))
  q := g4 (a := 3) (b := 640) (c := 24) (d := 128) (0 : EReal) (m ((c : Thread nD τ).loc main_arg0))
  k := g4 (a := 3) (b := 640) (c := 8) (d := 128) (0 : EReal) (m ((c : Thread nD τ).loc main_arg2))
  seg := g2 (a := 3) (b := 640) (0 : BitVec 32) (m ((c : Thread nD τ).loc main_arg6))
  vs := g2 (a := 3) (b := 8) (0 : EReal) (m ((c : Thread nD τ).loc main_arg5))
  v := g4 (a := 3) (b := 640) (c := 8) (d := 128) (0 : EReal) (m ((c : Thread nD τ).loc main_arg4))

/-- The first result. -/
def outBuf (c : Dev nD) : S3x640x3072.Idx → EReal := fun i => oV (inp m c) (i 0).val (i 1).val ((i 2).val / 128) ((i 2).val % 128)

/-- The second result. -/
def lrBuf (c : Dev nD) : S3x24x640.Idx → EReal := fun i => lrV (inp m c) (i 0).val (i 1).val (i 2).val

theorem iblk0 (c : Dev nD) (t : Fin (cfg0 (F := Ideal)).N) (i : S3x640.Idx) : iblk m c 0 t i = m ((c : Thread nD τ).loc main_arg6) i := by
  have e : (((cfg0 (F := Ideal)).win 0).blk t).view.emb i = i := funext fun a => Fin.ext (((cfg0 (F := Ideal)).win 0).rect_emb_val_of_index_zero t a rfl i)
  exact congrArg (m ((c : Thread nD τ).loc main_arg6)) e
theorem iblk1 (c : Dev nD) (t : Fin (cfg0 (F := Ideal)).N) (i : S3x24.Idx) : iblk m c 1 t i = m ((c : Thread nD τ).loc main_arg1) i := by
  have e : (((cfg0 (F := Ideal)).win 1).blk t).view.emb i = i := funext fun a => Fin.ext (((cfg0 (F := Ideal)).win 1).rect_emb_val_of_index_zero t a rfl i)
  exact congrArg (m ((c : Thread nD τ).loc main_arg1)) e
theorem iblk2 (c : Dev nD) (t : Fin (cfg0 (F := Ideal)).N) (i : S3x8.Idx) : iblk m c 2 t i = m ((c : Thread nD τ).loc main_arg3) i := by
  have e : (((cfg0 (F := Ideal)).win 2).blk t).view.emb i = i := funext fun a => Fin.ext (((cfg0 (F := Ideal)).win 2).rect_emb_val_of_index_zero t a rfl i)
  exact congrArg (m ((c : Thread nD τ).loc main_arg3)) e
theorem iblk4 (c : Dev nD) (t : Fin (cfg0 (F := Ideal)).N) (i : S3x640x24x128.Idx) : iblk m c 4 t i = m ((c : Thread nD τ).loc main_arg0) i := by
  have e : (((cfg0 (F := Ideal)).win 4).blk t).view.emb i = i := funext fun a => Fin.ext (((cfg0 (F := Ideal)).win 4).rect_emb_val_of_index_zero t a rfl i)
  exact congrArg (m ((c : Thread nD τ).loc main_arg0)) e
theorem iblk5 (c : Dev nD) (t : Fin (cfg0 (F := Ideal)).N) (i : S3x640x8x128.Idx) : iblk m c 5 t i = m ((c : Thread nD τ).loc main_arg2) i := by
  have e : (((cfg0 (F := Ideal)).win 5).blk t).view.emb i = i := funext fun a => Fin.ext (((cfg0 (F := Ideal)).win 5).rect_emb_val_of_index_zero t a rfl i)
  exact congrArg (m ((c : Thread nD τ).loc main_arg2)) e
theorem iblk7 (c : Dev nD) (t : Fin (cfg0 (F := Ideal)).N) (i : S3x640.Idx) : iblk m c 7 t i = m ((c : Thread nD τ).loc main_arg6) i := by
  have e : (((cfg0 (F := Ideal)).win 7).blk t).view.emb i = i := funext fun a => Fin.ext (((cfg0 (F := Ideal)).win 7).rect_emb_val_of_index_zero t a rfl i)
  exact congrArg (m ((c : Thread nD τ).loc main_arg6)) e
theorem iblk3 (c : Dev nD) (t : Fin (cfg0 (F := Ideal)).N) (i : S3x8.Idx) : iblk m c 3 t i = m ((c : Thread nD τ).loc main_arg5) i := by
  have e : (((cfg0 (F := Ideal)).win 3).blk t).view.emb i = i := funext fun a => Fin.ext (((cfg0 (F := Ideal)).win 3).rect_emb_val_of_index_zero t a rfl i)
  exact congrArg (m ((c : Thread nD τ).loc main_arg5)) e
theorem iblk6 (c : Dev nD) (t : Fin (cfg0 (F := Ideal)).N) (i : S3x640x8x128.Idx) : iblk m c 6 t i = m ((c : Thread nD τ).loc main_arg4) i := by
  have e : (((cfg0 (F := Ideal)).win 6).blk t).view.emb i = i := funext fun a => Fin.ext (((cfg0 (F := Ideal)).win 6).rect_emb_val_of_index_zero t a rfl i)
  exact congrArg (m ((c : Thread nD τ).loc main_arg4)) e
theorem ins_of (c : Dev nD) (t : Fin (cfg0 (F := Ideal)).N) (σ : SS c) (hin : ∀ b ∈ Lr, σ b = σ₀ m c t b) : Ins (inp m c) σ := by
  constructor <;> intro i
  · show σ cc0_stg0_0 i = _
    rw [hin _ (by decide +kernel), show σ₀ m c t cc0_stg0_0 = iblk m c 0 t from σin_0 _ _ _ _ _ _ _ _ _ _, iblk0]
    exact (congrArg _ (eq_ix2 i)).trans (g2_eq _ _ (i 0) (i 1)).symm
  · show σ cc0_stg1_0 i = _
    rw [hin _ (by decide +kernel), show σ₀ m c t cc0_stg1_0 = iblk m c 1 t from σin_1 _ _ _ _ _ _ _ _ _ _, iblk1]
    exact (congrArg _ (eq_ix2 i)).trans (g2_eq _ _ (i 0) (i 1)).symm
  · show σ cc0_stg2_0 i = _
    rw [hin _ (by decide +kernel), show σ₀ m c t cc0_stg2_0 = iblk m c 2 t from σin_2 _ _ _ _ _ _ _ _ _ _, iblk2]
    exact (congrArg _ (eq_ix2 i)).trans (g2_eq _ _ (i 0) (i 1)).symm
  · show σ cc0_stg4_0 i = _
    rw [hin _ (by decide +kernel), show σ₀ m c t cc0_stg4_0 = iblk m c 4 t from σin_4 _ _ _ _ _ _ _ _ _ _, iblk4]
    exact (congrArg _ (eq_ix4 i)).trans (g4_eq _ _ (i 0) (i 1) (i 2) (i 3)).symm
  · show σ cc0_stg5_0 i = _
    rw [hin _ (by decide +kernel), show σ₀ m c t cc0_stg5_0 = iblk m c 5 t from σin_5 _ _ _ _ _ _ _ _ _ _, iblk5]
    exact (congrArg _ (eq_ix4 i)).trans (g4_eq _ _ (i 0) (i 1) (i 2) (i 3)).symm
  · show σ cc0_stg7_0 i = _
    rw [hin _ (by decide +kernel), show σ₀ m c t cc0_stg7_0 = iblk m c 7 t from σin_7 _ _ _ _ _ _ _ _ _ _, iblk7]
    exact (congrArg _ (eq_ix2 i)).trans (g2_eq _ _ (i 0) (i 1)).symm
  · show σ cc0_stg3_0 i = _
    rw [hin _ (by decide +kernel), show σ₀ m c t cc0_stg3_0 = iblk m c 3 t from σin_3 _ _ _ _ _ _ _ _ _ _, iblk3]
    exact (congrArg _ (eq_ix2 i)).trans (g2_eq _ _ (i 0) (i 1)).symm
  · show σ cc0_stg6_0 i = _
    rw [hin _ (by decide +kernel), show σ₀ m c t cc0_stg6_0 = iblk m c 6 t from σin_6 _ _ _ _ _ _ _ _ _ _, iblk6]
    exact (congrArg _ (eq_ix4 i)).trans (g4_eq _ _ (i 0) (i 1) (i 2) (i 3)).symm

/-- The body keeps its inputs and leaves the two results at their values. -/
theorem body_value (hG : ∀ c, Good (inp m c)) (c : Dev nD) (t : Fin (cfg0 (F := Ideal)).N) (σ : SS c) (hin : ∀ b ∈ Lr, σ b = σ₀ m c t b) :
    pwp (callsV c (inp m c)) 10 (Body (F := Ideal)) (fun _ s => (∀ b ∈ Lr, s b = σ₀ m c t b) ∧ s cc0_stg9_0 = lrBuf m c ∧ s cc0_stg8_0 = outBuf m c) σ :=
  pwp_mono (fun _ s hs => ⟨fun b hb => (hs.1 b ((by decide +kernel : ∀ b ∈ Lr, b ∉ LB) b hb)).trans (hin b hb), funext fun i => hs.2.1 i, funext fun i => hs.2.2 i⟩)
    (run_body (inp m c) (hG c) σ (ins_of m c t σ hin))

/-- No window is left without its contents. -/
def forgets1 : Fin 10 → Bool := fun _ => false

/-- The proof data of the one pipeline on core `c`: the arrays as the region finds them (`V`); after the body at
    point `t` each input's buffer at its block and the two outputs at their values; the invariant the class's
    (Lib/Pipeline/Frame.lean `ΦA`: the scoped rest and the generator register); nothing owed; each input's share of its array
    (`Pipeline.shareOf`: the full share of an array several windows stage, dealt among them). -/
def datsV (_ : Fin 1) (c : Dev nD) : Dat τ (Elt Ideal) Unit ℕ (UR sig nD τ) ℕ (cfg0 (F := Ideal)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBuf m c
    | ⟨9, _⟩ => lrBuf m c
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin (cfg0 (F := Ideal)).W) : (datsV m 0 c).A w = V m c (Pipeline.arrRef spec0 w) := by
  dsimp only [datsV]

/-- What the body leaves, window by window (the proof data's `match` reduced by `dsimp`). -/
theorem after0_0 (c : Dev nD) (t : Fin (cfg0 (F := Ideal)).N) : (datsV m 0 c).after 0 t = iblk m c 0 t := by first | (dsimp only [datsV]; done) | rfl
theorem after0_1 (c : Dev nD) (t : Fin (cfg0 (F := Ideal)).N) : (datsV m 0 c).after 1 t = iblk m c 1 t := by first | (dsimp only [datsV]; done) | rfl
theorem after0_2 (c : Dev nD) (t : Fin (cfg0 (F := Ideal)).N) : (datsV m 0 c).after 2 t = iblk m c 2 t := by first | (dsimp only [datsV]; done) | rfl
theorem after0_3 (c : Dev nD) (t : Fin (cfg0 (F := Ideal)).N) : (datsV m 0 c).after 3 t = iblk m c 3 t := by first | (dsimp only [datsV]; done) | rfl
theorem after0_4 (c : Dev nD) (t : Fin (cfg0 (F := Ideal)).N) : (datsV m 0 c).after 4 t = iblk m c 4 t := by first | (dsimp only [datsV]; done) | rfl
theorem after0_5 (c : Dev nD) (t : Fin (cfg0 (F := Ideal)).N) : (datsV m 0 c).after 5 t = iblk m c 5 t := by first | (dsimp only [datsV]; done) | rfl
theorem after0_6 (c : Dev nD) (t : Fin (cfg0 (F := Ideal)).N) : (datsV m 0 c).after 6 t = iblk m c 6 t := by first | (dsimp only [datsV]; done) | rfl
theorem after0_7 (c : Dev nD) (t : Fin (cfg0 (F := Ideal)).N) : (datsV m 0 c).after 7 t = iblk m c 7 t := by first | (dsimp only [datsV]; done) | rfl
theorem after0_8 (c : Dev nD) (t : Fin (cfg0 (F := Ideal)).N) : (datsV m 0 c).after 8 t = outBuf m c := by first | (dsimp only [datsV]; done) | rfl
theorem after0_9 (c : Dev nD) (t : Fin (cfg0 (F := Ideal)).N) : (datsV m 0 c).after 9 t = lrBuf m c := by first | (dsimp only [datsV]; done) | rfl

/-- Each input's current staging buffer holds its block at every point, fetched there or not (`beforeK_W_of`). -/
theorem before0_0 (c : Dev nD) (t : Fin (cfg0 (F := Ideal)).N) (d) : (datsV m 0 c).before 0 t d = iblk m c 0 t :=
  before0_0_of m (datsV m 0 c) (A_eq m c 0) (after0_0 m c) t d
theorem before0_1 (c : Dev nD) (t : Fin (cfg0 (F := Ideal)).N) (d) : (datsV m 0 c).before 1 t d = iblk m c 1 t :=
  before0_1_of m (datsV m 0 c) (A_eq m c 1) (after0_1 m c) t d
theorem before0_2 (c : Dev nD) (t : Fin (cfg0 (F := Ideal)).N) (d) : (datsV m 0 c).before 2 t d = iblk m c 2 t :=
  before0_2_of m (datsV m 0 c) (A_eq m c 2) (after0_2 m c) t d
theorem before0_3 (c : Dev nD) (t : Fin (cfg0 (F := Ideal)).N) (d) : (datsV m 0 c).before 3 t d = iblk m c 3 t :=
  before0_3_of m (datsV m 0 c) (A_eq m c 3) (after0_3 m c) t d
theorem before0_4 (c : Dev nD) (t : Fin (cfg0 (F := Ideal)).N) (d) : (datsV m 0 c).before 4 t d = iblk m c 4 t :=
  before0_4_of m (datsV m 0 c) (A_eq m c 4) (after0_4 m c) t d
theorem before0_5 (c : Dev nD) (t : Fin (cfg0 (F := Ideal)).N) (d) : (datsV m 0 c).before 5 t d = iblk m c 5 t :=
  before0_5_of m (datsV m 0 c) (A_eq m c 5) (after0_5 m c) t d
theorem before0_6 (c : Dev nD) (t : Fin (cfg0 (F := Ideal)).N) (d) : (datsV m 0 c).before 6 t d = iblk m c 6 t :=
  before0_6_of m (datsV m 0 c) (A_eq m c 6) (after0_6 m c) t d
theorem before0_7 (c : Dev nD) (t : Fin (cfg0 (F := Ideal)).N) (d) : (datsV m 0 c).before 7 t d = iblk m c 7 t :=
  before0_7_of m (datsV m 0 c) (A_eq m c 7) (after0_7 m c) t d

/-! ## The body obligation, at a generic point -/

/-- What the body is called with at point `t` (Lib/Pipeline.lean `BodyObligation`'s precondition, the windows one by one), -/
def bodyPre (c : Dev nD) (t : Fin (cfg0 (F := Ideal)).N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d))
    ∗ (∃ d, owns (c : Thread nD τ) (ms0_5 t) fullShare ((datsV m 0 c).before 5 t d))
    ∗ (∃ d, owns (c : Thread nD τ) (ms0_6 t) fullShare ((datsV m 0 c).before 6 t d))
    ∗ (∃ d, owns (c : Thread nD τ) (ms0_7 t) fullShare ((datsV m 0 c).before 7 t d))
    ∗ (∃ d, owns (c : Thread nD τ) (ms0_8 t) fullShare ((datsV m 0 c).before 8 t d))
    ∗ (∃ d, owns (c : Thread nD τ) (ms0_9 t) fullShare ((datsV m 0 c).before 9 t d)))

/-- and what it returns. -/
def bodyPost (c : Dev nD) (t : Fin (cfg0 (F := Ideal)).N) : sProp 𝕄 :=
  iprop((datsV m 0 c).Φ t.succ ∗ (datsV m 0 c).owesAt () t.succ
    ∗ owns (c : Thread nD τ) (ms0_0 t) fullShare ((datsV m 0 c).after 0 t)
    ∗ owns (c : Thread nD τ) (ms0_1 t) fullShare ((datsV m 0 c).after 1 t)
    ∗ owns (c : Thread nD τ) (ms0_2 t) fullShare ((datsV m 0 c).after 2 t)
    ∗ owns (c : Thread nD τ) (ms0_3 t) fullShare ((datsV m 0 c).after 3 t)
    ∗ owns (c : Thread nD τ) (ms0_4 t) fullShare ((datsV m 0 c).after 4 t)
    ∗ owns (c : Thread nD τ) (ms0_5 t) fullShare ((datsV m 0 c).after 5 t)
    ∗ owns (c : Thread nD τ) (ms0_6 t) fullShare ((datsV m 0 c).after 6 t)
    ∗ owns (c : Thread nD τ) (ms0_7 t) fullShare ((datsV m 0 c).after 7 t)
    ∗ owns (c : Thread nD τ) (ms0_8 t) fullShare ((datsV m 0 c).after 8 t)
    ∗ owns (c : Thread nD τ) (ms0_9 t) fullShare ((datsV m 0 c).after 9 t))

set_option maxHeartbeats 2400000 in
/-- The body at any point. -/
theorem sound_bodyV (hG : ∀ c, Good (inp m c)) (c : Dev nD) (t : Fin (cfg0 (F := Ideal)).N) :
    bodyPre m c t ⊢ wp frame (wpE (defs₀ (F := Ideal)) Variants.nat c none) Set.univ (bodyAt0 t) (fun _ => bodyPost m c t) := by
  unfold bodyPre bodyPost bodyAt0
  simp only [before0_0, before0_1, before0_2, before0_3, before0_4, before0_5, before0_6, before0_7]
  rw [show (datsV m 0 c).Φ t.succ = (datsV m 0 c).Φ t.castSucc from rfl,
    show (datsV m 0 c).owesAt () t.succ = (datsV m 0 c).owesAt () t.castSucc from rfl,
    after0_0, after0_1, after0_2, after0_3, after0_4, after0_5, after0_6, after0_7, after0_8, after0_9]
  rw [show (datsV m 0 c).Φ t.castSucc = Pipeline.ΦA spec0 c from rfl, PhiA0_eq]
  iintro ⟨⟨⟨HS0, HS1, HS2, HS3, HS4, HS5, HS6, HS7, HS8, HS9, HS10, HS11, HS12, HS13, HS14, HS15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HX := (ownX_of c) $$ [HS0 HS1 HS2 HS3 HS4 HS5 HS6 HS7 HS8 HS9 HS10 HS11 HS12 HS13 HS14 HS15 H8 H9]
  · isplitl [HS0 HS1 HS2 HS3 HS4 HS5 HS6 HS7 HS8 HS9 HS10 HS11 HS12 HS13 HS14 HS15]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      iexact HS15
    isplitl [H8]; · iexists _; iexact H8
    iexists _; iexact H9
  ihave HL : (ownL (c := (c : Thread nD τ)) Lr (σ₀ m c t) : sProp 𝕄) $$ [H0 H1 H2 H3 H4 H5 H6 H7]
  · rw [ownIn]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iempintro
  ihave HW := (body_wp m c t (callsV c (inp m c)) (hdefsV (inp m c)) 10 (fun s => s cc0_stg9_0 = lrBuf m c ∧ s cc0_stg8_0 = outBuf m c) (body_value m hG c t)) $$ [HX HL]
  · isplitl [HX]
    · iexact HX
    · iexact HL
  iapply (wp_wand _ _ _) $$ HW
  iintro %_ ⟨%s, %hv, HW, HL⟩
  ihave ⟨HS, H8, H9⟩ := (ownX_to c s) $$ HW
  isplitl [HS Hg]
  · isplitl [HS]
    · iexact HS
    iexact Hg
  isplitl [Ho]; · iexact Ho
  ihave ⟨H0, H1, H2, H3, H4, H5, H6, H7, -⟩ := (ownIn_to m c t) $$ HL
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · rw [hv.2]; iexact H8
  rw [hv.1]; iexact H9

set_option maxHeartbeats 4000000 in
/-- The library's body obligation, at every point: the body's triple restated (Lib/Pipeline/FrameBody.lean `triple_restated`). -/
theorem body_obligation (hG : ∀ c, Good (inp m c)) (c : Dev nD) : BodyObligation (datsV m 0 c) (defs₀ (F := Ideal)) Variants.nat () Set.univ forgets1 := fun t => by
  rw [bigSep_W0, bigSep_W0, defs₀_row]
  exact triple_restated (sound_bodyV m hG c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hG : ∀ c, Good (inp m c)) : θ_run defs (onTc (τ := τ) (main (F := Ideal))) (s₀ m ρ) (fun r => (Pipeline.RDat.FramePost ((cfgs (F := Ideal)) 0) (fun c => (datsV m 0 c).toRForget forgets1) (V m)) r ∧ r.2.sem = fun _ => 0) :=
  Pipeline.θ_run_frame_forget_shared (Q' := _) (cfgs (F := Ideal)) (datsV m) (0 : Fin 1) launch₀0 defs₀ Variants.nat forgets1 m ρ main
    (hbody := fun c => (body_obligation m hG c).loose) (hq := fun _ _ _ => rfl)
    (howed := fun _ _ => rfl) (V := V m) (hmain := hmain m Variants.nat) (hA := A_eq m) (hΦ := fun _ _ => rfl)

/-- The run with the values: the two results end at their values and the arguments are unchanged. -/
theorem run_value (hG : ∀ c, Good (inp m c)) : θ_run defs (onTc (τ := τ) (main (F := Ideal))) ⟨m, fun _ => 0, ρ⟩ (fun r => ∀ c : Dev nD,
      r.2.mem ((c.tc : Thread nD τ).loc main_v0_0) = outBuf m c
      ∧ r.2.mem ((c.tc : Thread nD τ).loc main_v0_1) = lrBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have h1 := (θ_run defs _ _).mono (fun _ h => h.1) (run_main_quiescent m ρ hG)
  refine (θ_run defs _ _).mono (fun r h c => ⟨?_, ?_, h.2 c⟩) (θ_run_and h1 (frame_of m ρ (fun c => (datsV m 0 c).toRForget forgets1) (A_eq m) h1))
  · have h8 := (Dat.toRForget_arrAt_iff (datsV m 0 c) (fgt := forgets1) (w := 8) (by decide +kernel) _ _).1 ((h.1 c).1 8)
    exact h8.trans (Dat.arrAt_eq_of_after_last (datsV m 0 c) 8 ⟨0, by decide +kernel⟩ (by decide +kernel) (outBuf m c) (fun j => by rw [after0_8]; rfl))
  · have h9 := (Dat.toRForget_arrAt_iff (datsV m 0 c) (fgt := forgets1) (w := 9) (by decide +kernel) _ _).1 ((h.1 c).1 9)
    exact h9.trans (Dat.arrAt_eq_of_after_last (datsV m 0 c) 9 ⟨0, by decide +kernel⟩ (by decide +kernel) (lrBuf m c) (fun j => by rw [after0_9]; rfl))

end Cert.KernelIdeal.LV

end
-- ==== Proof.RefValue.lean ====
/-
  The reference, read at one query: sums over the keys.
-/
module

public import proofs.«01_k».proof.Proof.Gen.ReferenceIdeal.Run
public import Idealize.ShloMosaic.Lib.Pipeline.ValueKit

@[expose] public section

set_option maxRecDepth 16384

noncomputable section

namespace Cert.ReferenceIdeal.RV

open Idealize.ShloMosaic Idealize.ShloMosaic.TcCoe Idealize.ShloMosaic.Tactic Idealize.SL.Sem
open Idealize.ShloMosaic.Pipeline (Dat Cfg Window)
open Cert.ReferenceIdeal Cert.ReferenceIdeal.Gen

variable (m : (ℓ : Loc nD τ sig) → Buf (Elt Ideal) ℓ)

theorem out0_eq (x0 : Vec Ideal S3x640x24x128 .fp8e4m3) (x1 : Vec Ideal S3x640x8x128 .fp8e4m3) (x2 : Vec Ideal S3x640x8x128 .fp8e4m3) (j : S3x640x24x128.Idx) : out0_3 (F := Ideal) x0 x1 x2 j = x0 j := by
  frame_out
  rfl
theorem iblk0_eq (c : Dev nD) (t : Fin cfg0.N) (j : S3x640x24x128.Idx) : iblk m c 0 t j = m ((c.tc : Thread nD τ).loc main_arg0) j := by
  have e : ((cfg0.win 0).blk t).view.emb j = j := funext fun a => Fin.ext ((cfg0.win 0).rect_emb_val_of_index_zero t a rfl j)
  exact congrArg (m ((c.tc : Thread nD τ).loc main_arg0)) e
theorem whole0 : (cfg0.win 3).WholeAt ⟨0, by decide +kernel⟩ := by decide +kernel
theorem reg0 (c : Dev nD) : Value.reg_main_v0_0 m c = m ((c.tc : Thread nD τ).loc main_arg0) :=
  (Gen.dats m 0 c).arrAt_eq_of_after_last 3 ⟨0, by decide +kernel⟩ whole0 (m ((c.tc : Thread nD τ).loc main_arg0)) fun j => by
    rw [after0_3]
    refine (cast_eq _ _).trans ?_
    generalize hx : iblk m c 0 ⟨0, by decide +kernel⟩ = x0
    generalize hy : iblk m c 1 ⟨0, by decide +kernel⟩ = x1
    generalize hz : iblk m c 2 ⟨0, by decide +kernel⟩ = x2
    refine (out0_eq x0 x1 x2 j).trans ?_
    rw [← hx]
    refine (iblk0_eq m c _ j).trans ?_
    rfl
theorem out1_eq (x0 : Vec Ideal S3x640x24x128 .fp8e4m3) (x1 : Vec Ideal S3x640x8x128 .fp8e4m3) (x2 : Vec Ideal S3x640x8x128 .fp8e4m3) (j : S3x640x8x128.Idx) : out0_4 (F := Ideal) x0 x1 x2 j = x1 j := by
  frame_out
  rfl
theorem iblk1_eq (c : Dev nD) (t : Fin cfg0.N) (j : S3x640x8x128.Idx) : iblk m c 1 t j = m ((c.tc : Thread nD τ).loc main_arg2) j := by
  have e : ((cfg0.win 1).blk t).view.emb j = j := funext fun a => Fin.ext ((cfg0.win 1).rect_emb_val_of_index_zero t a rfl j)
  exact congrArg (m ((c.tc : Thread nD τ).loc main_arg2)) e
theorem whole1 : (cfg0.win 4).WholeAt ⟨0, by decide +kernel⟩ := by decide +kernel
theorem reg1 (c : Dev nD) : Value.reg_main_v0_1 m c = m ((c.tc : Thread nD τ).loc main_arg2) :=
  (Gen.dats m 0 c).arrAt_eq_of_after_last 4 ⟨0, by decide +kernel⟩ whole1 (m ((c.tc : Thread nD τ).loc main_arg2)) fun j => by
    rw [after0_4]
    refine (cast_eq _ _).trans ?_
    generalize hx : iblk m c 0 ⟨0, by decide +kernel⟩ = x0
    generalize hy : iblk m c 1 ⟨0, by decide +kernel⟩ = x1
    generalize hz : iblk m c 2 ⟨0, by decide +kernel⟩ = x2
    refine (out1_eq x0 x1 x2 j).trans ?_
    rw [← hy]
    refine (iblk1_eq m c _ j).trans ?_
    rfl
theorem out2_eq (x0 : Vec Ideal S3x640x24x128 .fp8e4m3) (x1 : Vec Ideal S3x640x8x128 .fp8e4m3) (x2 : Vec Ideal S3x640x8x128 .fp8e4m3) (j : S3x640x8x128.Idx) : out0_5 (F := Ideal) x0 x1 x2 j = x2 j := by
  frame_out
  rfl
theorem iblk2_eq (c : Dev nD) (t : Fin cfg0.N) (j : S3x640x8x128.Idx) : iblk m c 2 t j = m ((c.tc : Thread nD τ).loc main_arg4) j := by
  have e : ((cfg0.win 2).blk t).view.emb j = j := funext fun a => Fin.ext ((cfg0.win 2).rect_emb_val_of_index_zero t a rfl j)
  exact congrArg (m ((c.tc : Thread nD τ).loc main_arg4)) e
theorem whole2 : (cfg0.win 5).WholeAt ⟨0, by decide +kernel⟩ := by decide +kernel
theorem reg2 (c : Dev nD) : Value.reg_main_v0_2 m c = m ((c.tc : Thread nD τ).loc main_arg4) :=
  (Gen.dats m 0 c).arrAt_eq_of_after_last 5 ⟨0, by decide +kernel⟩ whole2 (m ((c.tc : Thread nD τ).loc main_arg4)) fun j => by
    rw [after0_5]
    refine (cast_eq _ _).trans ?_
    generalize hx : iblk m c 0 ⟨0, by decide +kernel⟩ = x0
    generalize hy : iblk m c 1 ⟨0, by decide +kernel⟩ = x1
    generalize hz : iblk m c 2 ⟨0, by decide +kernel⟩ = x2
    refine (out2_eq x0 x1 x2 j).trans ?_
    rw [← hz]
    refine (iblk2_eq m c _ j).trans ?_
    rfl

/-- Which keys count at which queries. -/
def visR (A6 : IVec S3x640 32) : IVec S3x640x640 1 := andi (broadcastInDim S3x640x640 ![0, 1, 2] bcast_S1x640x640_S3x640x640_0_1_2 (cmpi .slt (broadcastInDim S1x640x640 ![0, 1, 2] bcast_S1x1x640_S1x640x640_0_1_2 (broadcastInDim S1x1x640 ![2] bcast_S640_S1x1x640_2 (iotaInDim S640 32 0))) (broadcastInDim S1x640x640 ![0, 1, 2] bcast_S1x640x1_S1x640x640_0_1_2 (broadcastInDim S1x640x1 ![1] bcast_S640_S1x640x1_1 (iotaInDim S640 32 0))))) (cmpi .eq (broadcastInDim S3x640x640 ![0, 1, 2] bcast_S3x1x640_S3x640x640_0_1_2 (broadcastInDim S3x1x640 ![0, 2] bcast_S3x640_S3x1x640_0_2 A6)) (broadcastInDim S3x640x640 ![0, 1, 2] bcast_S3x640x1_S3x640x640_0_1_2 (broadcastInDim S3x640x1 ![0, 1] bcast_S3x640_S3x640x1_0_1 A6)))
/-- The factor of a query head. -/
def factR (A1 : FVec Ideal S3x24 .f32) (A3 : FVec Ideal S3x8 .f32) : FVec Ideal S3x8x3 .f32 := mulf (mulf (shapeCast _ A1 shapeCasts_S3x24_S3x8x3) (broadcastInDim S3x8x3 ![0, 1, 2] bcast_S3x8x1_S3x8x3_0_1_2 (broadcastInDim S3x8x1 ![0, 1] bcast_S3x8_S3x8x1_0_1 A3))) (broadcastInDim S3x8x3 ![] bcast_S_S3x8x3 (constant S_ .f32 0x3DB504F3#32))
/-- The products of the queries and the keys. -/
def dotR (K : FVec Ideal S3x640x8x128 .f32) (Q : FVec Ideal S3x640x24x128 .f32) : FVec Ideal S3x8x640x640x3 .f32 := Host.dotGeneral dot_S3x640x8x128_S3x640x8x3x128_S3x8x640x640x3_3_4_1_13_02_02 none K (shapeCast _ Q shapeCasts_S3x640x24x128_S3x640x8x3x128)
/-- The scores. -/
def xR (D : FVec Ideal S3x8x640x640x3 .f32) (f : FVec Ideal S3x8x3 .f32) : FVec Ideal S3x8x3x640x640 .f32 := mulf (transpose S3x8x3x640x640 [0, 1, 4, 3, 2] D transposes_S3x8x640x640x3_S3x8x3x640x640_0_1_4_3_2) (broadcastInDim S3x8x3x640x640 ![0, 1, 2, 3, 4] bcast_S3x8x3x1x1_S3x8x3x640x640_0_1_2_3_4 (broadcastInDim S3x8x3x1x1 ![0, 1, 2] bcast_S3x8x3_S3x8x3x1x1_0_1_2 f))
/-- What each key adds. -/
def termR (V : IVec S3x640x640 1) (X : FVec Ideal S3x8x3x640x640 .f32) : FVec Ideal S3x8x3x640x640 .f32 :=
  select (broadcastInDim S3x8x3x640x640 ![0, 1, 2, 3, 4] bcast_S3x1x1x640x640_S3x8x3x640x640_0_1_2_3_4 (broadcastInDim S3x1x1x640x640 ![0, 3, 4] bcast_S3x640x640_S3x1x1x640x640_0_3_4 V)) (Host.negf (addf (maximumf X (broadcastInDim S3x8x3x640x640 ![] bcast_S_S3x8x3x640x640 (constant S_ .f32 0x00000000#32))) (Host.log1p (Host.exp (Host.negf (Host.absf X)))))) (broadcastInDim S3x8x3x640x640 ![] bcast_S_S3x8x3x640x640 (constant S_ .f32 0x00000000#32))
/-- The logarithms of the chances not to stop. -/
def lbR (X : FVec Ideal S3x8x3x640x640 .f32) : FVec Ideal S3x8x3x640x640 .f32 := Host.negf (addf (maximumf X (broadcastInDim S3x8x3x640x640 ![] bcast_S_S3x8x3x640x640 (constant S_ .f32 0x00000000#32))) (Host.log1p (Host.exp (Host.negf (Host.absf X)))))
/-- One where the first key is the later one. -/
def laterR : FVec Ideal S640x640 .f32 := uitofp .f32 (cmpi .sgt (broadcastInDim S640x640 ![0, 1] bcast_S640x1_S640x640_0_1 (broadcastInDim S640x1 ![0] bcast_S640_S640x1_0 (iotaInDim S640 32 0))) (broadcastInDim S640x640 ![0, 1] bcast_S1x640_S640x640_0_1 (broadcastInDim S1x640 ![1] bcast_S640_S1x640_1 (iotaInDim S640 32 0))))
/-- The sums over the later keys. -/
def sufR (T : FVec Ideal S3x8x3x640x640 .f32) (L : FVec Ideal S640x640 .f32) : FVec Ideal S3x8x3x640x640 .f32 := Host.dotGeneral dot_S3x8x3x640x640_S640x640_S3x8x3x640x640_4_0_0123_1_n_n none T L
/-- The weights. -/
def wgtR (V : IVec S3x640x640 1) (X C : FVec Ideal S3x8x3x640x640 .f32) : FVec Ideal S3x8x3x640x640 .f32 :=
  select (broadcastInDim S3x8x3x640x640 ![0, 1, 2, 3, 4] bcast_S3x1x1x640x640_S3x8x3x640x640_0_1_2_3_4 (broadcastInDim S3x1x1x640x640 ![0, 3, 4] bcast_S3x640x640_S3x1x1x640x640_0_3_4 V)) (Host.exp (addf (addf X (lbR X)) C)) (broadcastInDim S3x8x3x640x640 ![] bcast_S_S3x8x3x640x640 (constant S_ .f32 0x00000000#32))
/-- The values in their weights. -/
def pvR (W : FVec Ideal S3x640x8x128 .bf16) (A : FVec Ideal S3x8x3x640x640 .f32) : FVec Ideal S3x8x128x3x640 .f32 := Host.dotGeneral dot_S3x640x8x128_S3x8x3x640x640_S3x8x128x3x640_1_4_3_23_02_01 none W (truncf .bf16 A bitsLt_bf16_f32)
/-- The first result. -/
def outR (P : FVec Ideal S3x8x128x3x640 .f32) (A5 : FVec Ideal S3x8 .f32) : FVec Ideal S3x640x3072 .bf16 := truncf .bf16 (shapeCast _ (mulf (transpose S3x640x8x3x128 [0, 4, 1, 3, 2] P transposes_S3x8x128x3x640_S3x640x8x3x128_0_4_1_3_2) (broadcastInDim S3x640x8x3x128 ![0, 1, 2, 3, 4] bcast_S3x1x8x1x1_S3x640x8x3x128_0_1_2_3_4 (broadcastInDim S3x1x8x1x1 ![0, 2] bcast_S3x8_S3x1x8x1x1_0_2 A5))) shapeCasts_S3x640x8x3x128_S3x640x3072) bitsLt_bf16_f32
/-- The sums over the keys. -/
def sumR (T : FVec Ideal S3x8x3x640x640 .f32) : FVec Ideal S3x24x640 .f32 := shapeCast _ (Host.reduceAdd T (constant S_ .f32 0x00000000#32) reducesTo_S3x8x3x640x640_S3x8x3x640_d4 h_S_) shapeCasts_S3x8x3x640_S3x24x640

theorem visR_eq (A6 : IVec S3x640 32) (b : Fin 3) (q k : Fin 640) : visR A6 (ix3 b q k) = BitVec.ofBool (decide (k.val < q.val ∧ A6 (ix2 b k) = A6 (ix2 b q))) := by
  unfold visR
  pointwise
  rw [Bool.decide_and]
  have h : IntOp.cmpi .slt (BitVec.ofNat 32 k.val) (BitVec.ofNat 32 q.val) = BitVec.ofBool (decide (k.val < q.val)) := by
    have e : ∀ x : Fin 640, (BitVec.ofNat 32 x.val).toInt = x.val := by
      intro x
      rw [BitVec.toInt_ofNat', Int.bmod_def]; omega
    show BitVec.ofBool (BitVec.slt _ _) = _
    rw [BitVec.slt_eq_decide, e, e]; simp
  rw [h]
  show BitVec.ofBool _ &&& BitVec.ofBool (A6 (ix2 b k) == A6 (ix2 b q)) = _
  rw [show (A6 (ix2 b k) == A6 (ix2 b q)) = decide (A6 (ix2 b k) = A6 (ix2 b q)) from rfl]
  cases decide (k.val < q.val) <;> cases decide (A6 (ix2 b k) = A6 (ix2 b q)) <;> rfl
theorem factR_eq (A1 : FVec Ideal S3x24 .f32) (A3 : FVec Ideal S3x8 .f32) (b : Fin 3) (g : Fin 8) (r : Fin 3) :
    factR A1 A3 (ix3 b g r) = (A1 (ix2 b ⟨g.val * 3 + r.val, by omega⟩) : EReal) * A3 (ix2 b g) * Ideal.ofBits .f32 0x3DB504F3#32 := by
  unfold factR
  pointwise
theorem dotR_eq (K : FVec Ideal S3x640x8x128 .f32) (Q : FVec Ideal S3x640x24x128 .f32) (b : Fin 3) (g : Fin 8) (k q : Fin 640) (r : Fin 3) :
    dotR K Q (ix5 b g k q r) = ∑ x : Fin 128, (K (ix4 b k g x) : EReal) * Q (ix4 b q ⟨g.val * 3 + r.val, by omega⟩ x) := by
  unfold dotR
  pointwise
theorem xR_eq (D : FVec Ideal S3x8x640x640x3 .f32) (f : FVec Ideal S3x8x3 .f32) (b : Fin 3) (g : Fin 8) (k q : Fin 640) (r : Fin 3) :
    xR D f (ix5 b g r q k) = (D (ix5 b g k q r) : EReal) * f (ix3 b g r) := by
  unfold xR
  pointwise
theorem termR_eq (V : IVec S3x640x640 1) (X : FVec Ideal S3x8x3x640x640 .f32) (b : Fin 3) (g : Fin 8) (k q : Fin 640) (r : Fin 3) :
    termR V X (ix5 b g r q k) = if V (ix3 b q k) = 1 then -(max (X (ix5 b g r q k) : EReal) 0 + Ideal.log (1 + Ideal.exp (-(max (X (ix5 b g r q k) : EReal) (-X (ix5 b g r q k)))))) else (0 : EReal) := by
  unfold termR
  pointwise
  rfl
theorem sumR_eq (T : FVec Ideal S3x8x3x640x640 .f32) (b : Fin 3) (g : Fin 8) (r : Fin 3) (q : Fin 640) :
    sumR T (ix3 b ⟨g.val * 3 + r.val, by omega⟩ q) = ∑ k : Fin 640, (T (ix5 b g r q k) : EReal) := by
  unfold sumR
  pointwise

theorem laterR_eq (a k : Fin 640) : (laterR (ix2 a k) : EReal) = if k.val < a.val then 1 else 0 := by
  unfold laterR
  pointwise
  have h : IntOp.cmpi .sgt (BitVec.ofNat 32 a.val) (BitVec.ofNat 32 k.val) = BitVec.ofBool (decide (k.val < a.val)) := by
    have e : ∀ x : Fin 640, (BitVec.ofNat 32 x.val).toInt = x.val := by
      intro x
      rw [BitVec.toInt_ofNat', Int.bmod_def]; omega
    show BitVec.ofBool (BitVec.slt _ _) = _
    rw [BitVec.slt_eq_decide, e, e]; simp
  rw [h]
  by_cases hk : k.val < a.val
  · rw [if_pos hk, decide_eq_true hk]
    show (((1 : ℕ) : ℝ) : EReal) = 1
    simp
  · rw [if_neg hk, decide_eq_false hk]
    show (((0 : ℕ) : ℝ) : EReal) = 0
    simp
theorem sufR_eq (T : FVec Ideal S3x8x3x640x640 .f32) (L : FVec Ideal S640x640 .f32) (b : Fin 3) (g : Fin 8) (k q : Fin 640) (r : Fin 3) :
    sufR T L (ix5 b g r q k) = ∑ a : Fin 640, (T (ix5 b g r q a) : EReal) * L (ix2 a k) := by
  unfold sufR
  pointwise
theorem lbR_eq (X : FVec Ideal S3x8x3x640x640 .f32) (b : Fin 3) (g : Fin 8) (k q : Fin 640) (r : Fin 3) :
    lbR X (ix5 b g r q k) = -(max (X (ix5 b g r q k) : EReal) 0 + Ideal.log (1 + Ideal.exp (-(max (X (ix5 b g r q k) : EReal) (-X (ix5 b g r q k)))))) := by
  unfold lbR
  pointwise
  rfl
theorem wgtR_eq (V : IVec S3x640x640 1) (X C : FVec Ideal S3x8x3x640x640 .f32) (b : Fin 3) (g : Fin 8) (k q : Fin 640) (r : Fin 3) :
    wgtR V X C (ix5 b g r q k) = if V (ix3 b q k) = 1 then Ideal.exp ((X (ix5 b g r q k) : EReal) + lbR X (ix5 b g r q k) + C (ix5 b g r q k)) else (0 : EReal) := by
  unfold wgtR
  generalize lbR X = Y
  pointwise
  rfl
theorem pvR_eq (W : FVec Ideal S3x640x8x128 .bf16) (A : FVec Ideal S3x8x3x640x640 .f32) (b : Fin 3) (g : Fin 8) (q : Fin 640) (r : Fin 3) (x : Fin 128) :
    pvR W A (ix5 b g x r q) = ∑ k : Fin 640, (W (ix4 b k g x) : EReal) * A (ix5 b g r q k) := by
  unfold pvR
  pointwise
theorem outR_eq (P : FVec Ideal S3x8x128x3x640 .f32) (A5 : FVec Ideal S3x8 .f32) (b : Fin 3) (g : Fin 8) (q : Fin 640) (r : Fin 3) (x : Fin 128) :
    outR P A5 (ix3 b q ⟨(g.val * 3 + r.val) * 128 + x.val, by omega⟩) = (P (ix5 b g x r q) : EReal) * A5 (ix2 b g) := by
  unfold outR
  pointwise

theorem fin_lr (c : Dev nD) : Pipeline.afterTail₀ cfgs (Gen.dats m) 0 (Gen.V0 m) [Gen.hostOps1] c main_v59
    = sumR (termR (visR (m ((c.tc : Thread nD τ).loc main_arg6))) (xR (dotR (m ((c.tc : Thread nD τ).loc main_arg2)) (m ((c.tc : Thread nD τ).loc main_arg0))) (factR (m ((c.tc : Thread nD τ).loc main_arg1)) (m ((c.tc : Thread nD τ).loc main_arg3))))) := by
  have e := Value.fin_main_v59 m c
  unfold Value.res_main_v37 Value.res_main_v35 Value.res_main_v27 Value.res_main_v12 Value.res_main_v13 at e
  rw [Value.exit_main_v0_0, Value.exit_main_v0_1, Value.exit_main_arg1, Value.exit_main_arg3, Value.exit_main_arg6, reg0, reg1] at e
  exact e

theorem fin_out (c : Dev nD) : Pipeline.afterTail₀ cfgs (Gen.dats m) 0 (Gen.V0 m) [Gen.hostOps1] c main_v57
    = outR (pvR (m ((c.tc : Thread nD τ).loc main_arg4)) (wgtR (visR (m ((c.tc : Thread nD τ).loc main_arg6))) (xR (dotR (m ((c.tc : Thread nD τ).loc main_arg2)) (m ((c.tc : Thread nD τ).loc main_arg0))) (factR (m ((c.tc : Thread nD τ).loc main_arg1)) (m ((c.tc : Thread nD τ).loc main_arg3))))
        (sufR (termR (visR (m ((c.tc : Thread nD τ).loc main_arg6))) (xR (dotR (m ((c.tc : Thread nD τ).loc main_arg2)) (m ((c.tc : Thread nD τ).loc main_arg0))) (factR (m ((c.tc : Thread nD τ).loc main_arg1)) (m ((c.tc : Thread nD τ).loc main_arg3))))) laterR))) (m ((c.tc : Thread nD τ).loc main_arg5)) := by
  have e := Value.fin_main_v57 m c
  unfold Value.res_main_v37 Value.res_main_v35 Value.res_main_v27 Value.res_main_v12 Value.res_main_v13 at e
  rw [Value.exit_main_v0_0, Value.exit_main_v0_1, Value.exit_main_v0_2, Value.exit_main_arg1, Value.exit_main_arg3, Value.exit_main_arg5, Value.exit_main_arg6, reg0, reg1, reg2] at e
  exact e

end Cert.ReferenceIdeal.RV

end
-- ==== Proof.Algebra.lean ====
/-
  The kernel's two results are the reference's, as extended reals.
-/
module

public import proofs.«01_k».proof.Proof.SumMath
public import proofs.«01_k».proof.Proof.LaunchValue
public import proofs.«01_k».proof.Proof.RefValue
public import proofs.«01_k».proof.Proof.Gen.Pre_packed

@[expose] public section

set_option maxRecDepth 16384

noncomputable section

namespace Cert.Alg

open Idealize.ShloMosaic Idealize.ShloMosaic.TcCoe Idealize.SL.Sem
open Cert.KernelIdeal.Hand.PB Cert.KernelIdeal.LV

section
variable (m : (ℓ : Loc Cert.KernelIdeal.nD Cert.KernelIdeal.τ Cert.KernelIdeal.sig) → Buf (Elt Ideal) ℓ)

/-- Sorted ids, from the neighbours'. -/
theorem good_of (c : Dev Cert.KernelIdeal.nD)
    (h : ∀ (b : Fin 3) (p : ℕ) (hp : p + 1 < 640), ((m ((c.tc : Thread Cert.KernelIdeal.nD Cert.KernelIdeal.τ).loc Cert.KernelIdeal.main_arg6) : (⟨2, ![3, 640]⟩ : Shape).Idx → BitVec 32) (ix2 b ⟨p, by omega⟩)).toInt
      ≤ ((m ((c.tc : Thread Cert.KernelIdeal.nD Cert.KernelIdeal.τ).loc Cert.KernelIdeal.main_arg6) : (⟨2, ![3, 640]⟩ : Shape).Idx → BitVec 32) (ix2 b ⟨p + 1, hp⟩)).toInt) : Good (inp m c) where
  same b p hb hp := rfl
  sorted b p q hb hpq hq := by
    induction q, hpq using Nat.le_induction with
    | base => exact le_refl _
    | succ q hpq ih =>
      refine (ih (by omega)).trans ?_
      have e := h ⟨b, hb⟩ q hq
      have e1 := g2_eq (a := 3) (b := 640) (0 : BitVec 32) (m ((c.tc : Thread Cert.KernelIdeal.nD Cert.KernelIdeal.τ).loc Cert.KernelIdeal.main_arg6)) ⟨b, hb⟩ ⟨q, by omega⟩
      have e2 := g2_eq (a := 3) (b := 640) (0 : BitVec 32) (m ((c.tc : Thread Cert.KernelIdeal.nD Cert.KernelIdeal.τ).loc Cert.KernelIdeal.main_arg6)) ⟨b, hb⟩ ⟨q + 1, hq⟩
      exact (congrArg BitVec.toInt e1).le.trans (e.trans (congrArg BitVec.toInt e2).ge)

/-- The reference's score. -/
theorem x_eq (c : Dev Cert.KernelIdeal.nD) (b : Fin 3) (g : Fin 8) (r : Fin 3) (q k : Fin 640) :
    ((Cert.ReferenceIdeal.RV.xR (Cert.ReferenceIdeal.RV.dotR (m ((c.tc : Thread Cert.KernelIdeal.nD Cert.KernelIdeal.τ).loc Cert.KernelIdeal.main_arg2)) (m ((c.tc : Thread Cert.KernelIdeal.nD Cert.KernelIdeal.τ).loc Cert.KernelIdeal.main_arg0))) (Cert.ReferenceIdeal.RV.factR (m ((c.tc : Thread Cert.KernelIdeal.nD Cert.KernelIdeal.τ).loc Cert.KernelIdeal.main_arg1)) (m ((c.tc : Thread Cert.KernelIdeal.nD Cert.KernelIdeal.τ).loc Cert.KernelIdeal.main_arg3)))) (ix5 b g r q k) : EReal) = xv (inp m c) b.val g.val r.val q.val k.val := by
  rw [Cert.ReferenceIdeal.RV.xR_eq, Cert.ReferenceIdeal.RV.dotR_eq, Cert.ReferenceIdeal.RV.factR_eq]
  have hk : ∀ x : Fin 128, (inp m c).k b.val k.val g.val x.val = (m ((c.tc : Thread Cert.KernelIdeal.nD Cert.KernelIdeal.τ).loc Cert.KernelIdeal.main_arg2)) (ix4 b k g x) := fun x => g4_eq (a := 3) (b := 640) (c := 8) (d := 128) _ _ b k g x
  have hq : ∀ x : Fin 128, (inp m c).q b.val q.val (g.val * 3 + r.val) x.val = (m ((c.tc : Thread Cert.KernelIdeal.nD Cert.KernelIdeal.τ).loc Cert.KernelIdeal.main_arg0)) (ix4 b q ⟨g.val * 3 + r.val, by omega⟩ x) := fun x => g4_eq (a := 3) (b := 640) (c := 24) (d := 128) _ _ b q ⟨g.val * 3 + r.val, by omega⟩ x
  have hqs : (inp m c).qs b.val (g.val * 3 + r.val) = (m ((c.tc : Thread Cert.KernelIdeal.nD Cert.KernelIdeal.τ).loc Cert.KernelIdeal.main_arg1)) (ix2 b ⟨g.val * 3 + r.val, by omega⟩) := g2_eq (a := 3) (b := 24) _ _ b ⟨g.val * 3 + r.val, by omega⟩
  have hks : (inp m c).ks b.val g.val = (m ((c.tc : Thread Cert.KernelIdeal.nD Cert.KernelIdeal.τ).loc Cert.KernelIdeal.main_arg3)) (ix2 b g) := g2_eq (a := 3) (b := 8) _ _ b g
  unfold xv
  simp only [hk, hq, hqs, hks]

/-- The reference's mask. -/
theorem vis_eq (c : Dev Cert.KernelIdeal.nD) (b : Fin 3) (q k : Fin 640) :
    (Cert.ReferenceIdeal.RV.visR (m ((c.tc : Thread Cert.KernelIdeal.nD Cert.KernelIdeal.τ).loc Cert.KernelIdeal.main_arg6))) (ix3 b q k) = 1 ↔ k.val < q.val ∧ (inp m c).seg b.val k.val = (inp m c).seg b.val q.val := by
  have hs : ∀ p : Fin 640, (inp m c).seg b.val p.val = (m ((c.tc : Thread Cert.KernelIdeal.nD Cert.KernelIdeal.τ).loc Cert.KernelIdeal.main_arg6)) (ix2 b p) := fun p => g2_eq (a := 3) (b := 640) _ _ b p
  have hd : ∀ (P : Prop) [Decidable P], (BitVec.ofBool (decide P) = 1) ↔ P := fun P _ => by by_cases hp : P <;> simp [hp]
  rw [Cert.ReferenceIdeal.RV.visR_eq, hs, hs]
  exact hd _

open Classical in
/-- What a key adds in the reference. -/
theorem term_eq (c : Dev Cert.KernelIdeal.nD) (b : Fin 3) (g : Fin 8) (r : Fin 3) (q k : Fin 640) :
    (Cert.ReferenceIdeal.RV.termR (Cert.ReferenceIdeal.RV.visR (m ((c.tc : Thread Cert.KernelIdeal.nD Cert.KernelIdeal.τ).loc Cert.KernelIdeal.main_arg6))) (Cert.ReferenceIdeal.RV.xR (Cert.ReferenceIdeal.RV.dotR (m ((c.tc : Thread Cert.KernelIdeal.nD Cert.KernelIdeal.τ).loc Cert.KernelIdeal.main_arg2)) (m ((c.tc : Thread Cert.KernelIdeal.nD Cert.KernelIdeal.τ).loc Cert.KernelIdeal.main_arg0))) (Cert.ReferenceIdeal.RV.factR (m ((c.tc : Thread Cert.KernelIdeal.nD Cert.KernelIdeal.τ).loc Cert.KernelIdeal.main_arg1)) (m ((c.tc : Thread Cert.KernelIdeal.nD Cert.KernelIdeal.τ).loc Cert.KernelIdeal.main_arg3)))) (ix5 b g r q k) : EReal)
      = if k.val < q.val ∧ (inp m c).seg b.val k.val = (inp m c).seg b.val q.val then -sp (xv (inp m c) b.val g.val r.val q.val k.val) else 0 := by
  rw [Cert.ReferenceIdeal.RV.termR_eq, x_eq]
  exact if_congr (vis_eq m c b q k) rfl rfl

/-- The reference's weight. -/
theorem wgt_eq (c : Dev Cert.KernelIdeal.nD) (b : Fin 3) (g : Fin 8) (r : Fin 3) (q k : Fin 640) :
    (Cert.ReferenceIdeal.RV.wgtR (Cert.ReferenceIdeal.RV.visR (m ((c.tc : Thread Cert.KernelIdeal.nD Cert.KernelIdeal.τ).loc Cert.KernelIdeal.main_arg6))) (Cert.ReferenceIdeal.RV.xR (Cert.ReferenceIdeal.RV.dotR (m ((c.tc : Thread Cert.KernelIdeal.nD Cert.KernelIdeal.τ).loc Cert.KernelIdeal.main_arg2)) (m ((c.tc : Thread Cert.KernelIdeal.nD Cert.KernelIdeal.τ).loc Cert.KernelIdeal.main_arg0))) (Cert.ReferenceIdeal.RV.factR (m ((c.tc : Thread Cert.KernelIdeal.nD Cert.KernelIdeal.τ).loc Cert.KernelIdeal.main_arg1)) (m ((c.tc : Thread Cert.KernelIdeal.nD Cert.KernelIdeal.τ).loc Cert.KernelIdeal.main_arg3)))) (Cert.ReferenceIdeal.RV.sufR (Cert.ReferenceIdeal.RV.termR (Cert.ReferenceIdeal.RV.visR (m ((c.tc : Thread Cert.KernelIdeal.nD Cert.KernelIdeal.τ).loc Cert.KernelIdeal.main_arg6))) (Cert.ReferenceIdeal.RV.xR (Cert.ReferenceIdeal.RV.dotR (m ((c.tc : Thread Cert.KernelIdeal.nD Cert.KernelIdeal.τ).loc Cert.KernelIdeal.main_arg2)) (m ((c.tc : Thread Cert.KernelIdeal.nD Cert.KernelIdeal.τ).loc Cert.KernelIdeal.main_arg0))) (Cert.ReferenceIdeal.RV.factR (m ((c.tc : Thread Cert.KernelIdeal.nD Cert.KernelIdeal.τ).loc Cert.KernelIdeal.main_arg1)) (m ((c.tc : Thread Cert.KernelIdeal.nD Cert.KernelIdeal.τ).loc Cert.KernelIdeal.main_arg3))))) Cert.ReferenceIdeal.RV.laterR) (ix5 b g r q k) : EReal)
      = wt (inp m c) b.val g.val r.val q.val k.val := by
  rw [Cert.ReferenceIdeal.RV.wgtR_eq, Cert.ReferenceIdeal.RV.sufR_eq, Cert.ReferenceIdeal.RV.lbR_eq, x_eq]
  unfold wt
  refine if_congr (vis_eq m c b q k) (congrArg Ideal.exp (congrArg₂ (· + ·) rfl ?_)) rfl
  exact Finset.sum_congr rfl fun a _ => by rw [term_eq, Cert.ReferenceIdeal.RV.laterR_eq]

variable (m' : (ℓ : Loc Cert.ReferenceIdeal.nD Cert.ReferenceIdeal.τ Cert.ReferenceIdeal.sig) → Buf (Elt Ideal) ℓ)

/-- The reference's second result is the kernel's. -/
theorem ref_lr (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Pipeline.afterTail₀ Cert.ReferenceIdeal.cfgs (Cert.ReferenceIdeal.Gen.dats m') 0 (Cert.ReferenceIdeal.Gen.V0 m') [Cert.ReferenceIdeal.Gen.hostOps1] c Cert.ReferenceIdeal.main_v59 = lrBuf m c := by
  rw [Cert.ReferenceIdeal.RV.fin_lr, h0, h1, h2, h3, h6]
  funext i
  obtain ⟨b, h, q, rfl⟩ : ∃ (b : Fin 3) (h : Fin 24) (q : Fin 640), i = ix3 b h q := ⟨i 0, i 1, i 2, eq_ix3 i⟩
  obtain ⟨g, r, rfl⟩ : ∃ (g : Fin 8) (r : Fin 3), h = ⟨g.val * 3 + r.val, by omega⟩ :=
    ⟨⟨h.val / 3, by omega⟩, ⟨h.val % 3, by omega⟩, Fin.ext (by show h.val = h.val / 3 * 3 + h.val % 3; omega)⟩
  refine (Cert.ReferenceIdeal.RV.sumR_eq _ b g r q).trans ?_
  refine Eq.trans ?_ (lrV_eq (inp m c) b.val g.val r.val q.val r.2).symm
  exact Finset.sum_congr rfl fun k _ => term_eq m c b g r q k

/-- The reference's first result is the kernel's. -/
theorem ref_out (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Pipeline.afterTail₀ Cert.ReferenceIdeal.cfgs (Cert.ReferenceIdeal.Gen.dats m') 0 (Cert.ReferenceIdeal.Gen.V0 m') [Cert.ReferenceIdeal.Gen.hostOps1] c Cert.ReferenceIdeal.main_v57 = outBuf m c := by
  rw [Cert.ReferenceIdeal.RV.fin_out, h0, h1, h2, h3, h4, h5, h6]
  funext i
  obtain ⟨b, q, n, rfl⟩ : ∃ (b : Fin 3) (q : Fin 640) (n : Fin 3072), i = ix3 b q n := ⟨i 0, i 1, i 2, eq_ix3 i⟩
  obtain ⟨g, r, x, rfl⟩ : ∃ (g : Fin 8) (r : Fin 3) (x : Fin 128), n = ⟨(g.val * 3 + r.val) * 128 + x.val, by omega⟩ :=
    ⟨⟨n.val / 128 / 3, by omega⟩, ⟨n.val / 128 % 3, by omega⟩, ⟨n.val % 128, by omega⟩,
      Fin.ext (by show n.val = (n.val / 128 / 3 * 3 + n.val / 128 % 3) * 128 + n.val % 128; omega)⟩
  have e : outBuf m c (ix3 b q ⟨(g.val * 3 + r.val) * 128 + x.val, by omega⟩) = oV (inp m c) b.val q.val (g.val * 3 + r.val) x.val := by
    show oV (inp m c) b.val q.val (((g.val * 3 + r.val) * 128 + x.val) / 128) (((g.val * 3 + r.val) * 128 + x.val) % 128) = _
    rw [show ((g.val * 3 + r.val) * 128 + x.val) / 128 = g.val * 3 + r.val by omega, show ((g.val * 3 + r.val) * 128 + x.val) % 128 = x.val by omega]
  refine (Cert.ReferenceIdeal.RV.outR_eq _ _ b g q r x).trans (Eq.trans ?_ e.symm)
  rw [oV_eq _ _ _ _ _ _ r.2 q.2, Cert.ReferenceIdeal.RV.pvR_eq]
  refine congrArg₂ (· * ·) (Finset.sum_congr rfl fun k _ => ?_) (g2_eq (a := 3) (b := 8) _ _ b g).symm
  exact congrArg₂ (· * ·) (g4_eq (a := 3) (b := 640) (c := 8) (d := 128) _ _ b k g x).symm (wgt_eq m c b g r q k)
end

end Cert.Alg

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.Pre_packed
public import proofs.«01_k».proof.Proof.LaunchKernel
public import proofs.«01_k».proof.Proof.LaunchKernelIdeal
public import proofs.«01_k».proof.Proof.Algebra
public import Idealize.ShloMosaic.Lib.Bf16PairInverse

@[expose] public section

set_option maxRecDepth 16384

namespace Cert.Proof

open Idealize.ShloMosaic

/-- The precondition read at two neighbours. -/
theorem packed_le (A0 A1 A2 A3 A4 A5) (A6 : IVec Cert.Pre_packed.S3x640 32)
    (h : Cert.Pre_packed.fn (F := Ideal) A0 A1 A2 A3 A4 A5 A6 = fun _ => 1#1) (b : Fin 3) (p : ℕ) (hp : p + 1 < 640) :
    (A6 (ix2 b ⟨p, by omega⟩)).toInt ≤ (A6 (ix2 b ⟨p + 1, hp⟩)).toInt := by
  have e := congrFun h (ix2 b ⟨p, by omega⟩)
  unfold Cert.Pre_packed.fn at e
  dsimp only at e
  pointwise at e
  have e1 : BitVec.ofBool (BitVec.sle (A6 (ix2 b ⟨p, by omega⟩)) (A6 (ix2 b ⟨1 + p, by omega⟩))) = 1#1 := e
  have e2 : BitVec.sle (A6 (ix2 b ⟨p, by omega⟩)) (A6 (ix2 b ⟨1 + p, by omega⟩)) = true := by
    revert e1; cases BitVec.sle (A6 (ix2 b ⟨p, by omega⟩)) (A6 (ix2 b ⟨1 + p, by omega⟩)) <;> simp
  rw [BitVec.sle_iff_toInt_le] at e2
  rw [show (⟨p + 1, hp⟩ : Fin 640) = ⟨1 + p, by omega⟩ from Fin.ext (Nat.add_comm _ _)]
  exact e2

theorem algebraic : Cert.algebraic_KernelIdeal_ReferenceIdeal_pre_packed := by
  intro m g m' g' hpre hag
  refine ⟨fun c => Cert.KernelIdeal.LV.outBuf m c, fun c => Cert.KernelIdeal.LV.lrBuf m c, ?_, ?_⟩
  · exact Cert.KernelIdeal.LV.run_value m g fun c => Cert.Alg.good_of m c (packed_le _ _ _ _ _ _ _ (hpre c))
  · refine (θ_run _ _ _).mono (fun r h c => ⟨?_, ?_, (h c).2.2⟩) (Cert.ReferenceIdeal.Value.run m' g')
    · refine (h c).1.trans ((Cert.ReferenceIdeal.Value.fin_main_v57 m' c).symm.trans ?_)
      obtain ⟨h0, h1, h2, h3, h4, h5, h6⟩ := hag c
      exact Cert.Alg.ref_out m m' c h0 h1 h2 h3 h4 h5 h6
    · refine (h c).2.1.trans ((Cert.ReferenceIdeal.Value.fin_main_v59 m' c).symm.trans ?_)
      obtain ⟨h0, h1, h2, h3, _, _, h6⟩ := hag c
      exact Cert.Alg.ref_lr m m' c h0 h1 h2 h3 h6

theorem claim : Cert.Claim :=
  ⟨Cert.Kernel.Gen.facts, Cert.KernelIdeal.Gen.facts, Cert.ReferenceIdeal.Gen.facts, Cert.Pre_packed.Gen.facts,
    fun m ρ _ => Cert.Kernel.Hand.frame m ρ,
    fun m ρ _ => Cert.KernelIdeal.Hand.frame m ρ,
    fun m ρ _ => Cert.KernelIdeal.Hand.frame m ρ,
    fun m ρ _ => Cert.ReferenceIdeal.Gen.frame m ρ,
    fun m ρ _ => Cert.ReferenceIdeal.Gen.frame m ρ,
    ⟨IdealRules.bf16_pair.bufferStatement _ _, IdealRules.named_const.statement _ _ _ _ _ rfl, IdealRules.named_const.statement _ _ _ _ _ rfl,
      IdealRules.bf16_pair.packStatement _, IdealRules.bf16_pair.statement _ _,
      IdealRules.bf16_pair.statement _ _, IdealRules.bf16_pair.statement _ _, IdealRules.named_const.statement _ _ _ _ _ rfl⟩,
    algebraic⟩

end Cert.Proof
